-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDgu (m : (ℓ : Loc Cert.KernelDgu.nD Cert.KernelDgu.τ Cert.KernelDgu.sig) → Buf (Elt Bits) ℓ) : Prop :=
  True

def Pre_KernelDguIdeal (m : (ℓ : Loc Cert.KernelDguIdeal.nD Cert.KernelDguIdeal.τ Cert.KernelDguIdeal.sig) → Buf (Elt Ideal) ℓ) : Prop :=
  True

def Pre_ReferenceDguIdeal (m : (ℓ : Loc Cert.ReferenceDguIdeal.nD Cert.ReferenceDguIdeal.τ Cert.ReferenceDguIdeal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelDw1 (m : (ℓ : Loc Cert.KernelDw1.nD Cert.KernelDw1.τ Cert.KernelDw1.sig) → Buf (Elt Bits) ℓ) : Prop :=
  True

def Pre_KernelDw1Ideal (m : (ℓ : Loc Cert.KernelDw1Ideal.nD Cert.KernelDw1Ideal.τ Cert.KernelDw1Ideal.sig) → Buf (Elt Ideal) ℓ) : Prop :=
  True

def Pre_ReferenceDw1Ideal (m : (ℓ : Loc Cert.ReferenceDw1Ideal.nD Cert.ReferenceDw1Ideal.τ Cert.ReferenceDw1Ideal.sig) → Buf (Elt Ideal) ℓ) : Prop :=
  True

def Pre_KernelDw2 (m : (ℓ : Loc Cert.KernelDw2.nD Cert.KernelDw2.τ Cert.KernelDw2.sig) → Buf (Elt Bits) ℓ) : Prop :=
  True

def Pre_KernelDw2Ideal (m : (ℓ : Loc Cert.KernelDw2Ideal.nD Cert.KernelDw2Ideal.τ Cert.KernelDw2Ideal.sig) → Buf (Elt Ideal) ℓ) : Prop :=
  True

def Pre_ReferenceDw2Ideal (m : (ℓ : Loc Cert.ReferenceDw2Ideal.nD Cert.ReferenceDw2Ideal.τ Cert.ReferenceDw2Ideal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDguRow (m : (ℓ : Loc Cert.KernelDguRow.nD Cert.KernelDguRow.τ Cert.KernelDguRow.sig) → Buf (Elt Bits) ℓ) : Prop :=
  True

def Pre_KernelDguRowIdeal (m : (ℓ : Loc Cert.KernelDguRowIdeal.nD Cert.KernelDguRowIdeal.τ Cert.KernelDguRowIdeal.sig) → Buf (Elt Ideal) ℓ) : Prop :=
  True

def Pre_ReferenceDguRowIdeal (m : (ℓ : Loc Cert.ReferenceDguRowIdeal.nD Cert.ReferenceDguRowIdeal.τ Cert.ReferenceDguRowIdeal.sig) → Buf (Elt Ideal) ℓ) : Prop :=
  True

def Pre_KernelDxRow (m : (ℓ : Loc Cert.KernelDxRow.nD Cert.KernelDxRow.τ Cert.KernelDxRow.sig) → Buf (Elt Bits) ℓ) : Prop :=
  True

def Pre_KernelDxRowIdeal (m : (ℓ : Loc Cert.KernelDxRowIdeal.nD Cert.KernelDxRowIdeal.τ Cert.KernelDxRowIdeal.sig) → Buf (Elt Ideal) ℓ) : Prop :=
  True

def Pre_ReferenceDxRowIdeal (m : (ℓ : Loc Cert.ReferenceDxRowIdeal.nD Cert.ReferenceDxRowIdeal.τ Cert.ReferenceDxRowIdeal.sig) → Buf (Elt Ideal) ℓ) : Prop :=
  True

def Pre_KernelDw1Row (m : (ℓ : Loc Cert.KernelDw1Row.nD Cert.KernelDw1Row.τ Cert.KernelDw1Row.sig) → Buf (Elt Bits) ℓ) : Prop :=
  True

def Pre_KernelDw1RowIdeal (m : (ℓ : Loc Cert.KernelDw1RowIdeal.nD Cert.KernelDw1RowIdeal.τ Cert.KernelDw1RowIdeal.sig) → Buf (Elt Ideal) ℓ) : Prop :=
  True

def Pre_ReferenceDw1RowIdeal (m : (ℓ : Loc Cert.ReferenceDw1RowIdeal.nD Cert.ReferenceDw1RowIdeal.τ Cert.ReferenceDw1RowIdeal.sig) → Buf (Elt Ideal) ℓ) : Prop :=
  True

def Pre_KernelDw2Row (m : (ℓ : Loc Cert.KernelDw2Row.nD Cert.KernelDw2Row.τ Cert.KernelDw2Row.sig) → Buf (Elt Bits) ℓ) : Prop :=
  True

def Pre_KernelDw2RowIdeal (m : (ℓ : Loc Cert.KernelDw2RowIdeal.nD Cert.KernelDw2RowIdeal.τ Cert.KernelDw2RowIdeal.sig) → Buf (Elt Ideal) ℓ) : Prop :=
  True

def Pre_ReferenceDw2RowIdeal (m : (ℓ : Loc Cert.ReferenceDw2RowIdeal.nD Cert.ReferenceDw2RowIdeal.τ Cert.ReferenceDw2RowIdeal.sig) → Buf (Elt Ideal) ℓ) : Prop :=
  True

def Pre_KernelProjA (m : (ℓ : Loc Cert.KernelProjA.nD Cert.KernelProjA.τ Cert.KernelProjA.sig) → Buf (Elt Bits) ℓ) : Prop :=
  True

def Pre_KernelProjAIdeal (m : (ℓ : Loc Cert.KernelProjAIdeal.nD Cert.KernelProjAIdeal.τ Cert.KernelProjAIdeal.sig) → Buf (Elt Ideal) ℓ) : Prop :=
  True

def Pre_ReferenceProjAIdeal (m : (ℓ : Loc Cert.ReferenceProjAIdeal.nD Cert.ReferenceProjAIdeal.τ Cert.ReferenceProjAIdeal.sig) → Buf (Elt Ideal) ℓ) : Prop :=
  True

def Pre_KernelProjB (m : (ℓ : Loc Cert.KernelProjB.nD Cert.KernelProjB.τ Cert.KernelProjB.sig) → Buf (Elt Bits) ℓ) : Prop :=
  True

def Pre_KernelProjBIdeal (m : (ℓ : Loc Cert.KernelProjBIdeal.nD Cert.KernelProjBIdeal.τ Cert.KernelProjBIdeal.sig) → Buf (Elt Ideal) ℓ) : Prop :=
  True

def Pre_ReferenceProjBIdeal (m : (ℓ : Loc Cert.ReferenceProjBIdeal.nD Cert.ReferenceProjBIdeal.τ Cert.ReferenceProjBIdeal.sig) → Buf (Elt Ideal) ℓ) : Prop :=
  True

def Pre_KernelProjG (m : (ℓ : Loc Cert.KernelProjG.nD Cert.KernelProjG.τ Cert.KernelProjG.sig) → Buf (Elt Bits) ℓ) : Prop :=
  True

def Pre_KernelProjGIdeal (m : (ℓ : Loc Cert.KernelProjGIdeal.nD Cert.KernelProjGIdeal.τ Cert.KernelProjGIdeal.sig) → Buf (Elt Ideal) ℓ) : Prop :=
  True

def Pre_ReferenceProjGIdeal (m : (ℓ : Loc Cert.ReferenceProjGIdeal.nD Cert.ReferenceProjGIdeal.τ Cert.ReferenceProjGIdeal.sig) → Buf (Elt Ideal) ℓ) : Prop :=
  True

def Pre_KernelDwA (m : (ℓ : Loc Cert.KernelDwA.nD Cert.KernelDwA.τ Cert.KernelDwA.sig) → Buf (Elt Bits) ℓ) : Prop :=
  True

def Pre_KernelDwAIdeal (m : (ℓ : Loc Cert.KernelDwAIdeal.nD Cert.KernelDwAIdeal.τ Cert.KernelDwAIdeal.sig) → Buf (Elt Ideal) ℓ) : Prop :=
  True

def Pre_ReferenceDwAIdeal (m : (ℓ : Loc Cert.ReferenceDwAIdeal.nD Cert.ReferenceDwAIdeal.τ Cert.ReferenceDwAIdeal.sig) → Buf (Elt Ideal) ℓ) : Prop :=
  True

def Pre_KernelDwB (m : (ℓ : Loc Cert.KernelDwB.nD Cert.KernelDwB.τ Cert.KernelDwB.sig) → Buf (Elt Bits) ℓ) : Prop :=
  True

def Pre_KernelDwBIdeal (m : (ℓ : Loc Cert.KernelDwBIdeal.nD Cert.KernelDwBIdeal.τ Cert.KernelDwBIdeal.sig) → Buf (Elt Ideal) ℓ) : Prop :=
  True

def Pre_ReferenceDwBIdeal (m : (ℓ : Loc Cert.ReferenceDwBIdeal.nD Cert.ReferenceDwBIdeal.τ Cert.ReferenceDwBIdeal.sig) → Buf (Elt Ideal) ℓ) : Prop :=
  True

def Pre_KernelDwG (m : (ℓ : Loc Cert.KernelDwG.nD Cert.KernelDwG.τ Cert.KernelDwG.sig) → Buf (Elt Bits) ℓ) : Prop :=
  True

def Pre_KernelDwGIdeal (m : (ℓ : Loc Cert.KernelDwGIdeal.nD Cert.KernelDwGIdeal.τ Cert.KernelDwGIdeal.sig) → Buf (Elt Ideal) ℓ) : Prop :=
  True

def Pre_ReferenceDwGIdeal (m : (ℓ : Loc Cert.ReferenceDwGIdeal.nD Cert.ReferenceDwGIdeal.τ Cert.ReferenceDwGIdeal.sig) → Buf (Elt Ideal) ℓ) : Prop :=
  True

def Pre_KernelDhA (m : (ℓ : Loc Cert.KernelDhA.nD Cert.KernelDhA.τ Cert.KernelDhA.sig) → Buf (Elt Bits) ℓ) : Prop :=
  True

def Pre_KernelDhAIdeal (m : (ℓ : Loc Cert.KernelDhAIdeal.nD Cert.KernelDhAIdeal.τ Cert.KernelDhAIdeal.sig) → Buf (Elt Ideal) ℓ) : Prop :=
  True

def Pre_ReferenceDhAIdeal (m : (ℓ : Loc Cert.ReferenceDhAIdeal.nD Cert.ReferenceDhAIdeal.τ Cert.ReferenceDhAIdeal.sig) → Buf (Elt Ideal) ℓ) : Prop :=
  True

def Pre_KernelDhB (m : (ℓ : Loc Cert.KernelDhB.nD Cert.KernelDhB.τ Cert.KernelDhB.sig) → Buf (Elt Bits) ℓ) : Prop :=
  True

def Pre_KernelDhBIdeal (m : (ℓ : Loc Cert.KernelDhBIdeal.nD Cert.KernelDhBIdeal.τ Cert.KernelDhBIdeal.sig) → Buf (Elt Ideal) ℓ) : Prop :=
  True

def Pre_ReferenceDhBIdeal (m : (ℓ : Loc Cert.ReferenceDhBIdeal.nD Cert.ReferenceDhBIdeal.τ Cert.ReferenceDhBIdeal.sig) → Buf (Elt Ideal) ℓ) : Prop :=
  True

def Pre_KernelDhC (m : (ℓ : Loc Cert.KernelDhC.nD Cert.KernelDhC.τ Cert.KernelDhC.sig) → Buf (Elt Bits) ℓ) : Prop :=
  True

def Pre_KernelDhCIdeal (m : (ℓ : Loc Cert.KernelDhCIdeal.nD Cert.KernelDhCIdeal.τ Cert.KernelDhCIdeal.sig) → Buf (Elt Ideal) ℓ) : Prop :=
  True

def Pre_ReferenceDhCIdeal (m : (ℓ : Loc Cert.ReferenceDhCIdeal.nD Cert.ReferenceDhCIdeal.τ Cert.ReferenceDhCIdeal.sig) → Buf (Elt Ideal) ℓ) : Prop :=
  True

def Pre_KernelDhG (m : (ℓ : Loc Cert.KernelDhG.nD Cert.KernelDhG.τ Cert.KernelDhG.sig) → Buf (Elt Bits) ℓ) : Prop :=
  True

def Pre_KernelDhGIdeal (m : (ℓ : Loc Cert.KernelDhGIdeal.nD Cert.KernelDhGIdeal.τ Cert.KernelDhGIdeal.sig) → Buf (Elt Ideal) ℓ) : Prop :=
  True

def Pre_ReferenceDhGIdeal (m : (ℓ : Loc Cert.ReferenceDhGIdeal.nD Cert.ReferenceDhGIdeal.τ Cert.ReferenceDhGIdeal.sig) → Buf (Elt Ideal) ℓ) : Prop :=
  True

def Pre_KernelMixOut (m : (ℓ : Loc Cert.KernelMixOut.nD Cert.KernelMixOut.τ Cert.KernelMixOut.sig) → Buf (Elt Bits) ℓ) : Prop :=
  True

def Pre_KernelMixOutIdeal (m : (ℓ : Loc Cert.KernelMixOutIdeal.nD Cert.KernelMixOutIdeal.τ Cert.KernelMixOutIdeal.sig) → Buf (Elt Ideal) ℓ) : Prop :=
  True

def Pre_ReferenceMixOutIdeal (m : (ℓ : Loc Cert.ReferenceMixOutIdeal.nD Cert.ReferenceMixOutIdeal.τ Cert.ReferenceMixOutIdeal.sig) → Buf (Elt Ideal) ℓ) : Prop :=
  True

def Pre_KernelDmerged (m : (ℓ : Loc Cert.KernelDmerged.nD Cert.KernelDmerged.τ Cert.KernelDmerged.sig) → Buf (Elt Bits) ℓ) : Prop :=
  True

def Pre_KernelDmergedIdeal (m : (ℓ : Loc Cert.KernelDmergedIdeal.nD Cert.KernelDmergedIdeal.τ Cert.KernelDmergedIdeal.sig) → Buf (Elt Ideal) ℓ) : Prop :=
  True

def Pre_ReferenceDmergedIdeal (m : (ℓ : Loc Cert.ReferenceDmergedIdeal.nD Cert.ReferenceDmergedIdeal.τ Cert.ReferenceDmergedIdeal.sig) → Buf (Elt Ideal) ℓ) : Prop :=
  True

def Pre_KernelDwOut (m : (ℓ : Loc Cert.KernelDwOut.nD Cert.KernelDwOut.τ Cert.KernelDwOut.sig) → Buf (Elt Bits) ℓ) : Prop :=
  True

def Pre_KernelDwOutIdeal (m : (ℓ : Loc Cert.KernelDwOutIdeal.nD Cert.KernelDwOutIdeal.τ Cert.KernelDwOutIdeal.sig) → Buf (Elt Ideal) ℓ) : Prop :=
  True

def Pre_ReferenceDwOutIdeal (m : (ℓ : Loc Cert.ReferenceDwOutIdeal.nD Cert.ReferenceDwOutIdeal.τ Cert.ReferenceDwOutIdeal.sig) → Buf (Elt Ideal) ℓ) : Prop :=
  True

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamUpB (m : (ℓ : Loc Cert.KernelAdamUpB.nD Cert.KernelAdamUpB.τ Cert.KernelAdamUpB.sig) → Buf (Elt Bits) ℓ) : Prop :=
  True

def Pre_KernelAdamUpBIdeal (m : (ℓ : Loc Cert.KernelAdamUpBIdeal.nD Cert.KernelAdamUpBIdeal.τ Cert.KernelAdamUpBIdeal.sig) → Buf (Elt Ideal) ℓ) : Prop :=
  True

def Pre_ReferenceAdamUpBIdeal (m : (ℓ : Loc Cert.ReferenceAdamUpBIdeal.nD Cert.ReferenceAdamUpBIdeal.τ Cert.ReferenceAdamUpBIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelAdamDownB (m : (ℓ : Loc Cert.KernelAdamDownB.nD Cert.KernelAdamDownB.τ Cert.KernelAdamDownB.sig) → Buf (Elt Bits) ℓ) : Prop :=
  True

def Pre_KernelAdamDownBIdeal (m : (ℓ : Loc Cert.KernelAdamDownBIdeal.nD Cert.KernelAdamDownBIdeal.τ Cert.KernelAdamDownBIdeal.sig) → Buf (Elt Ideal) ℓ) : Prop :=
  True

def Pre_ReferenceAdamDownBIdeal (m : (ℓ : Loc Cert.ReferenceAdamDownBIdeal.nD Cert.ReferenceAdamDownBIdeal.τ Cert.ReferenceAdamDownBIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamO (m : (ℓ : Loc Cert.KernelAdamO.nD Cert.KernelAdamO.τ Cert.KernelAdamO.sig) → Buf (Elt Bits) ℓ) : Prop :=
  True

def Pre_KernelAdamOIdeal (m : (ℓ : Loc Cert.KernelAdamOIdeal.nD Cert.KernelAdamOIdeal.τ Cert.KernelAdamOIdeal.sig) → Buf (Elt Ideal) ℓ) : Prop :=
  True

def Pre_ReferenceAdamOIdeal (m : (ℓ : Loc Cert.ReferenceAdamOIdeal.nD Cert.ReferenceAdamOIdeal.τ Cert.ReferenceAdamOIdeal.sig) → Buf (Elt Ideal) ℓ) : Prop :=
  True

def Pre_KernelAdamUq (m : (ℓ : Loc Cert.KernelAdamUq.nD Cert.KernelAdamUq.τ Cert.KernelAdamUq.sig) → Buf (Elt Bits) ℓ) : Prop :=
  True

def Pre_KernelAdamUqIdeal (m : (ℓ : Loc Cert.KernelAdamUqIdeal.nD Cert.KernelAdamUqIdeal.τ Cert.KernelAdamUqIdeal.sig) → Buf (Elt Ideal) ℓ) : Prop :=
  True

def Pre_ReferenceAdamUqIdeal (m : (ℓ : Loc Cert.ReferenceAdamUqIdeal.nD Cert.ReferenceAdamUqIdeal.τ Cert.ReferenceAdamUqIdeal.sig) → Buf (Elt Ideal) ℓ) : Prop :=
  True

def Pre_KernelAdamUkv (m : (ℓ : Loc Cert.KernelAdamUkv.nD Cert.KernelAdamUkv.τ Cert.KernelAdamUkv.sig) → Buf (Elt Bits) ℓ) : Prop :=
  True

def Pre_KernelAdamUkvIdeal (m : (ℓ : Loc Cert.KernelAdamUkvIdeal.nD Cert.KernelAdamUkvIdeal.τ Cert.KernelAdamUkvIdeal.sig) → Buf (Elt Ideal) ℓ) : Prop :=
  True

def Pre_ReferenceAdamUkvIdeal (m : (ℓ : Loc Cert.ReferenceAdamUkvIdeal.nD Cert.ReferenceAdamUkvIdeal.τ Cert.ReferenceAdamUkvIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelDnorm (m : (ℓ : Loc Cert.KernelDnorm.nD Cert.KernelDnorm.τ Cert.KernelDnorm.sig) → Buf (Elt Bits) ℓ) : Prop :=
  True

def Pre_KernelDnormIdeal (m : (ℓ : Loc Cert.KernelDnormIdeal.nD Cert.KernelDnormIdeal.τ Cert.KernelDnormIdeal.sig) → Buf (Elt Ideal) ℓ) : Prop :=
  True

def Pre_ReferenceDnormIdeal (m : (ℓ : Loc Cert.ReferenceDnormIdeal.nD Cert.ReferenceDnormIdeal.τ Cert.ReferenceDnormIdeal.sig) → Buf (Elt Ideal) ℓ) : Prop :=
  True

def Pre_KernelBranch (m : (ℓ : Loc Cert.KernelBranch.nD Cert.KernelBranch.τ Cert.KernelBranch.sig) → Buf (Elt Bits) ℓ) : Prop :=
  True

def Pre_KernelBranchIdeal (m : (ℓ : Loc Cert.KernelBranchIdeal.nD Cert.KernelBranchIdeal.τ Cert.KernelBranchIdeal.sig) → Buf (Elt Ideal) ℓ) : Prop :=
  True

def Pre_ReferenceBranchIdeal (m : (ℓ : Loc Cert.ReferenceBranchIdeal.nD Cert.ReferenceBranchIdeal.τ Cert.ReferenceBranchIdeal.sig) → Buf (Elt Ideal) ℓ) : Prop :=
  True

def Pre_KernelBranchBias (m : (ℓ : Loc Cert.KernelBranchBias.nD Cert.KernelBranchBias.τ Cert.KernelBranchBias.sig) → Buf (Elt Bits) ℓ) : Prop :=
  True

def Pre_KernelBranchBiasIdeal (m : (ℓ : Loc Cert.KernelBranchBiasIdeal.nD Cert.KernelBranchBiasIdeal.τ Cert.KernelBranchBiasIdeal.sig) → Buf (Elt Ideal) ℓ) : Prop :=
  True

def Pre_ReferenceBranchBiasIdeal (m : (ℓ : Loc Cert.ReferenceBranchBiasIdeal.nD Cert.ReferenceBranchBiasIdeal.τ Cert.ReferenceBranchBiasIdeal.sig) → Buf (Elt Ideal) ℓ) : Prop :=
  True

def Pre_KernelDbranchW (m : (ℓ : Loc Cert.KernelDbranchW.nD Cert.KernelDbranchW.τ Cert.KernelDbranchW.sig) → Buf (Elt Bits) ℓ) : Prop :=
  True

def Pre_KernelDbranchWIdeal (m : (ℓ : Loc Cert.KernelDbranchWIdeal.nD Cert.KernelDbranchWIdeal.τ Cert.KernelDbranchWIdeal.sig) → Buf (Elt Ideal) ℓ) : Prop :=
  True

def Pre_ReferenceDbranchWIdeal (m : (ℓ : Loc Cert.ReferenceDbranchWIdeal.nD Cert.ReferenceDbranchWIdeal.τ Cert.ReferenceDbranchWIdeal.sig) → Buf (Elt Ideal) ℓ) : Prop :=
  True

def Pre_KernelDbranch (m : (ℓ : Loc Cert.KernelDbranch.nD Cert.KernelDbranch.τ Cert.KernelDbranch.sig) → Buf (Elt Bits) ℓ) : Prop :=
  True

def Pre_KernelDbranchIdeal (m : (ℓ : Loc Cert.KernelDbranchIdeal.nD Cert.KernelDbranchIdeal.τ Cert.KernelDbranchIdeal.sig) → Buf (Elt Ideal) ℓ) : Prop :=
  True

def Pre_ReferenceDbranchIdeal (m : (ℓ : Loc Cert.ReferenceDbranchIdeal.nD Cert.ReferenceDbranchIdeal.τ Cert.ReferenceDbranchIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDgu [hKernelDgu : Cert.KernelDgu.Facts] : Prop :=
  ∀ (m : (ℓ : Loc Cert.KernelDgu.nD Cert.KernelDgu.τ Cert.KernelDgu.sig) → Buf (Elt Bits) ℓ) (g : Dev Cert.KernelDgu.nD → PrngReg), Pre_KernelDgu m →
    θ_run (Cert.KernelDgu.defs (F := Bits)) (onTc (τ := Cert.KernelDgu.τ) (Cert.KernelDgu.main (F := Bits))) ⟨m, fun _ => 0, g⟩ (fun r => (∀ c : Dev Cert.KernelDgu.nD,
      r.2.mem ((c.tc : Thread Cert.KernelDgu.nD Cert.KernelDgu.τ).loc Cert.KernelDgu.main_arg0) = m ((c.tc : Thread Cert.KernelDgu.nD Cert.KernelDgu.τ).loc Cert.KernelDgu.main_arg0)
      ∧ r.2.mem ((c.tc : Thread Cert.KernelDgu.nD Cert.KernelDgu.τ).loc Cert.KernelDgu.main_arg1) = m ((c.tc : Thread Cert.KernelDgu.nD Cert.KernelDgu.τ).loc Cert.KernelDgu.main_arg1)
      ∧ r.2.mem ((c.tc : Thread Cert.KernelDgu.nD Cert.KernelDgu.τ).loc Cert.KernelDgu.main_arg2) = m ((c.tc : Thread Cert.KernelDgu.nD Cert.KernelDgu.τ).loc Cert.KernelDgu.main_arg2))
      ∧ r.2.sem = fun _ => 0)

def quiescent_KernelDguIdeal [hKernelDguIdeal : Cert.KernelDguIdeal.Facts] : Prop :=
  ∀ (m : (ℓ : Loc Cert.KernelDguIdeal.nD Cert.KernelDguIdeal.τ Cert.KernelDguIdeal.sig) → Buf (Elt Ideal) ℓ) (g : Dev Cert.KernelDguIdeal.nD → PrngReg), Pre_KernelDguIdeal m →
    θ_run (Cert.KernelDguIdeal.defs (F := Ideal)) (onTc (τ := Cert.KernelDguIdeal.τ) (Cert.KernelDguIdeal.main (F := Ideal))) ⟨m, fun _ => 0, g⟩ (fun r => (∀ c : Dev Cert.KernelDguIdeal.nD,
      r.2.mem ((c.tc : Thread Cert.KernelDguIdeal.nD Cert.KernelDguIdeal.τ).loc Cert.KernelDguIdeal.main_arg0) = m ((c.tc : Thread Cert.KernelDguIdeal.nD Cert.KernelDguIdeal.τ).loc Cert.KernelDguIdeal.main_arg0)
      ∧ r.2.mem ((c.tc : Thread Cert.KernelDguIdeal.nD Cert.KernelDguIdeal.τ).loc Cert.KernelDguIdeal.main_arg1) = m ((c.tc : Thread Cert.KernelDguIdeal.nD Cert.KernelDguIdeal.τ).loc Cert.KernelDguIdeal.main_arg1)
      ∧ r.2.mem ((c.tc : Thread Cert.KernelDguIdeal.nD Cert.KernelDguIdeal.τ).loc Cert.KernelDguIdeal.main_arg2) = m ((c.tc : Thread Cert.KernelDguIdeal.nD Cert.KernelDguIdeal.τ).loc Cert.KernelDguIdeal.main_arg2))
      ∧ r.2.sem = fun _ => 0)

def quiescent_ReferenceDguIdeal [hReferenceDguIdeal : Cert.ReferenceDguIdeal.Facts] : Prop :=
  ∀ (m : (ℓ : Loc Cert.ReferenceDguIdeal.nD Cert.ReferenceDguIdeal.τ Cert.ReferenceDguIdeal.sig) → Buf (Elt Ideal) ℓ) (g : Dev Cert.ReferenceDguIdeal.nD → PrngReg), Pre_ReferenceDguIdeal m →
    θ_run (Cert.ReferenceDguIdeal.defs (F := Ideal)) (onTc (τ := Cert.ReferenceDguIdeal.τ) (Cert.ReferenceDguIdeal.main (F := Ideal))) ⟨m, fun _ => 0, g⟩ (fun r => (∀ c : Dev Cert.ReferenceDguIdeal.nD,
      r.2.mem ((c.tc : Thread Cert.ReferenceDguIdeal.nD Cert.ReferenceDguIdeal.τ).loc Cert.ReferenceDguIdeal.main_arg0) = m ((c.tc : Thread Cert.ReferenceDguIdeal.nD Cert.ReferenceDguIdeal.τ).loc Cert.ReferenceDguIdeal.main_arg0)
      ∧ r.2.mem ((c.tc : Thread Cert.ReferenceDguIdeal.nD Cert.ReferenceDguIdeal.τ).loc Cert.ReferenceDguIdeal.main_arg1) = m ((c.tc : Thread Cert.ReferenceDguIdeal.nD Cert.ReferenceDguIdeal.τ).loc Cert.ReferenceDguIdeal.main_arg1)
      ∧ r.2.mem ((c.tc : Thread Cert.ReferenceDguIdeal.nD Cert.ReferenceDguIdeal.τ).loc Cert.ReferenceDguIdeal.main_arg2) = m ((c.tc : Thread Cert.ReferenceDguIdeal.nD Cert.ReferenceDguIdeal.τ).loc Cert.ReferenceDguIdeal.main_arg2))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3)
      ∧ r.2.mem ((c.tc : Thread Cert.KernelDx.nD Cert.KernelDx.τ).loc Cert.KernelDx.main_arg4) = m ((c.tc : Thread Cert.KernelDx.nD Cert.KernelDx.τ).loc Cert.KernelDx.main_arg4))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4))
      ∧ r.2.sem = fun _ => 0)

def quiescent_KernelDw1 [hKernelDw1 : Cert.KernelDw1.Facts] : Prop :=
  ∀ (m : (ℓ : Loc Cert.KernelDw1.nD Cert.KernelDw1.τ Cert.KernelDw1.sig) → Buf (Elt Bits) ℓ) (g : Dev Cert.KernelDw1.nD → PrngReg), Pre_KernelDw1 m →
    θ_run (Cert.KernelDw1.defs (F := Bits)) (onTc (τ := Cert.KernelDw1.τ) (Cert.KernelDw1.main (F := Bits))) ⟨m, fun _ => 0, g⟩ (fun r => (∀ c : Dev Cert.KernelDw1.nD,
      r.2.mem ((c.tc : Thread Cert.KernelDw1.nD Cert.KernelDw1.τ).loc Cert.KernelDw1.main_arg0) = m ((c.tc : Thread Cert.KernelDw1.nD Cert.KernelDw1.τ).loc Cert.KernelDw1.main_arg0)
      ∧ r.2.mem ((c.tc : Thread Cert.KernelDw1.nD Cert.KernelDw1.τ).loc Cert.KernelDw1.main_arg1) = m ((c.tc : Thread Cert.KernelDw1.nD Cert.KernelDw1.τ).loc Cert.KernelDw1.main_arg1))
      ∧ r.2.sem = fun _ => 0)

def quiescent_KernelDw1Ideal [hKernelDw1Ideal : Cert.KernelDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg), Pre_KernelDw1Ideal m →
    θ_run (Cert.KernelDw1Ideal.defs (F := Ideal)) (onTc (τ := Cert.KernelDw1Ideal.τ) (Cert.KernelDw1Ideal.main (F := Ideal))) ⟨m, fun _ => 0, g⟩ (fun r => (∀ c : Dev Cert.KernelDw1Ideal.nD,
      r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
      ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1))
      ∧ r.2.sem = fun _ => 0)

def quiescent_ReferenceDw1Ideal [hReferenceDw1Ideal : Cert.ReferenceDw1Ideal.Facts] : Prop :=
  ∀ (m : (ℓ : Loc Cert.ReferenceDw1Ideal.nD Cert.ReferenceDw1Ideal.τ Cert.ReferenceDw1Ideal.sig) → Buf (Elt Ideal) ℓ) (g : Dev Cert.ReferenceDw1Ideal.nD → PrngReg), Pre_ReferenceDw1Ideal m →
    θ_run (Cert.ReferenceDw1Ideal.defs (F := Ideal)) (onTc (τ := Cert.ReferenceDw1Ideal.τ) (Cert.ReferenceDw1Ideal.main (F := Ideal))) ⟨m, fun _ => 0, g⟩ (fun r => (∀ c : Dev Cert.ReferenceDw1Ideal.nD,
      r.2.mem ((c.tc : Thread Cert.ReferenceDw1Ideal.nD Cert.ReferenceDw1Ideal.τ).loc Cert.ReferenceDw1Ideal.main_arg0) = m ((c.tc : Thread Cert.ReferenceDw1Ideal.nD Cert.ReferenceDw1Ideal.τ).loc Cert.ReferenceDw1Ideal.main_arg0)
      ∧ r.2.mem ((c.tc : Thread Cert.ReferenceDw1Ideal.nD Cert.ReferenceDw1Ideal.τ).loc Cert.ReferenceDw1Ideal.main_arg1) = m ((c.tc : Thread Cert.ReferenceDw1Ideal.nD Cert.ReferenceDw1Ideal.τ).loc Cert.ReferenceDw1Ideal.main_arg1))
      ∧ r.2.sem = fun _ => 0)

def quiescent_KernelDw2 [hKernelDw2 : Cert.KernelDw2.Facts] : Prop :=
  ∀ (m : (ℓ : Loc Cert.KernelDw2.nD Cert.KernelDw2.τ Cert.KernelDw2.sig) → Buf (Elt Bits) ℓ) (g : Dev Cert.KernelDw2.nD → PrngReg), Pre_KernelDw2 m →
    θ_run (Cert.KernelDw2.defs (F := Bits)) (onTc (τ := Cert.KernelDw2.τ) (Cert.KernelDw2.main (F := Bits))) ⟨m, fun _ => 0, g⟩ (fun r => (∀ c : Dev Cert.KernelDw2.nD,
      r.2.mem ((c.tc : Thread Cert.KernelDw2.nD Cert.KernelDw2.τ).loc Cert.KernelDw2.main_arg0) = m ((c.tc : Thread Cert.KernelDw2.nD Cert.KernelDw2.τ).loc Cert.KernelDw2.main_arg0)
      ∧ r.2.mem ((c.tc : Thread Cert.KernelDw2.nD Cert.KernelDw2.τ).loc Cert.KernelDw2.main_arg1) = m ((c.tc : Thread Cert.KernelDw2.nD Cert.KernelDw2.τ).loc Cert.KernelDw2.main_arg1))
      ∧ r.2.sem = fun _ => 0)

def quiescent_KernelDw2Ideal [hKernelDw2Ideal : Cert.KernelDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg), Pre_KernelDw2Ideal m →
    θ_run (Cert.KernelDw2Ideal.defs (F := Ideal)) (onTc (τ := Cert.KernelDw2Ideal.τ) (Cert.KernelDw2Ideal.main (F := Ideal))) ⟨m, fun _ => 0, g⟩ (fun r => (∀ c : Dev Cert.KernelDw2Ideal.nD,
      r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
      ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1))
      ∧ r.2.sem = fun _ => 0)

def quiescent_ReferenceDw2Ideal [hReferenceDw2Ideal : Cert.ReferenceDw2Ideal.Facts] : Prop :=
  ∀ (m : (ℓ : Loc Cert.ReferenceDw2Ideal.nD Cert.ReferenceDw2Ideal.τ Cert.ReferenceDw2Ideal.sig) → Buf (Elt Ideal) ℓ) (g : Dev Cert.ReferenceDw2Ideal.nD → PrngReg), Pre_ReferenceDw2Ideal m →
    θ_run (Cert.ReferenceDw2Ideal.defs (F := Ideal)) (onTc (τ := Cert.ReferenceDw2Ideal.τ) (Cert.ReferenceDw2Ideal.main (F := Ideal))) ⟨m, fun _ => 0, g⟩ (fun r => (∀ c : Dev Cert.ReferenceDw2Ideal.nD,
      r.2.mem ((c.tc : Thread Cert.ReferenceDw2Ideal.nD Cert.ReferenceDw2Ideal.τ).loc Cert.ReferenceDw2Ideal.main_arg0) = m ((c.tc : Thread Cert.ReferenceDw2Ideal.nD Cert.ReferenceDw2Ideal.τ).loc Cert.ReferenceDw2Ideal.main_arg0)
      ∧ r.2.mem ((c.tc : Thread Cert.ReferenceDw2Ideal.nD Cert.ReferenceDw2Ideal.τ).loc Cert.ReferenceDw2Ideal.main_arg1) = m ((c.tc : Thread Cert.ReferenceDw2Ideal.nD Cert.ReferenceDw2Ideal.τ).loc Cert.ReferenceDw2Ideal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelDguRow [hKernelDguRow : Cert.KernelDguRow.Facts] : Prop :=
  ∀ (m : (ℓ : Loc Cert.KernelDguRow.nD Cert.KernelDguRow.τ Cert.KernelDguRow.sig) → Buf (Elt Bits) ℓ) (g : Dev Cert.KernelDguRow.nD → PrngReg), Pre_KernelDguRow m →
    θ_run (Cert.KernelDguRow.defs (F := Bits)) (onTc (τ := Cert.KernelDguRow.τ) (Cert.KernelDguRow.main (F := Bits))) ⟨m, fun _ => 0, g⟩ (fun r => (∀ c : Dev Cert.KernelDguRow.nD,
      r.2.mem ((c.tc : Thread Cert.KernelDguRow.nD Cert.KernelDguRow.τ).loc Cert.KernelDguRow.main_arg0) = m ((c.tc : Thread Cert.KernelDguRow.nD Cert.KernelDguRow.τ).loc Cert.KernelDguRow.main_arg0)
      ∧ r.2.mem ((c.tc : Thread Cert.KernelDguRow.nD Cert.KernelDguRow.τ).loc Cert.KernelDguRow.main_arg1) = m ((c.tc : Thread Cert.KernelDguRow.nD Cert.KernelDguRow.τ).loc Cert.KernelDguRow.main_arg1)
      ∧ r.2.mem ((c.tc : Thread Cert.KernelDguRow.nD Cert.KernelDguRow.τ).loc Cert.KernelDguRow.main_arg2) = m ((c.tc : Thread Cert.KernelDguRow.nD Cert.KernelDguRow.τ).loc Cert.KernelDguRow.main_arg2)
      ∧ r.2.mem ((c.tc : Thread Cert.KernelDguRow.nD Cert.KernelDguRow.τ).loc Cert.KernelDguRow.main_arg3) = m ((c.tc : Thread Cert.KernelDguRow.nD Cert.KernelDguRow.τ).loc Cert.KernelDguRow.main_arg3))
      ∧ r.2.sem = fun _ => 0)

def quiescent_KernelDguRowIdeal [hKernelDguRowIdeal : Cert.KernelDguRowIdeal.Facts] : Prop :=
  ∀ (m : (ℓ : Loc Cert.KernelDguRowIdeal.nD Cert.KernelDguRowIdeal.τ Cert.KernelDguRowIdeal.sig) → Buf (Elt Ideal) ℓ) (g : Dev Cert.KernelDguRowIdeal.nD → PrngReg), Pre_KernelDguRowIdeal m →
    θ_run (Cert.KernelDguRowIdeal.defs (F := Ideal)) (onTc (τ := Cert.KernelDguRowIdeal.τ) (Cert.KernelDguRowIdeal.main (F := Ideal))) ⟨m, fun _ => 0, g⟩ (fun r => (∀ c : Dev Cert.KernelDguRowIdeal.nD,
      r.2.mem ((c.tc : Thread Cert.KernelDguRowIdeal.nD Cert.KernelDguRowIdeal.τ).loc Cert.KernelDguRowIdeal.main_arg0) = m ((c.tc : Thread Cert.KernelDguRowIdeal.nD Cert.KernelDguRowIdeal.τ).loc Cert.KernelDguRowIdeal.main_arg0)
      ∧ r.2.mem ((c.tc : Thread Cert.KernelDguRowIdeal.nD Cert.KernelDguRowIdeal.τ).loc Cert.KernelDguRowIdeal.main_arg1) = m ((c.tc : Thread Cert.KernelDguRowIdeal.nD Cert.KernelDguRowIdeal.τ).loc Cert.KernelDguRowIdeal.main_arg1)
      ∧ r.2.mem ((c.tc : Thread Cert.KernelDguRowIdeal.nD Cert.KernelDguRowIdeal.τ).loc Cert.KernelDguRowIdeal.main_arg2) = m ((c.tc : Thread Cert.KernelDguRowIdeal.nD Cert.KernelDguRowIdeal.τ).loc Cert.KernelDguRowIdeal.main_arg2)
      ∧ r.2.mem ((c.tc : Thread Cert.KernelDguRowIdeal.nD Cert.KernelDguRowIdeal.τ).loc Cert.KernelDguRowIdeal.main_arg3) = m ((c.tc : Thread Cert.KernelDguRowIdeal.nD Cert.KernelDguRowIdeal.τ).loc Cert.KernelDguRowIdeal.main_arg3))
      ∧ r.2.sem = fun _ => 0)

def quiescent_ReferenceDguRowIdeal [hReferenceDguRowIdeal : Cert.ReferenceDguRowIdeal.Facts] : Prop :=
  ∀ (m : (ℓ : Loc Cert.ReferenceDguRowIdeal.nD Cert.ReferenceDguRowIdeal.τ Cert.ReferenceDguRowIdeal.sig) → Buf (Elt Ideal) ℓ) (g : Dev Cert.ReferenceDguRowIdeal.nD → PrngReg), Pre_ReferenceDguRowIdeal m →
    θ_run (Cert.ReferenceDguRowIdeal.defs (F := Ideal)) (onTc (τ := Cert.ReferenceDguRowIdeal.τ) (Cert.ReferenceDguRowIdeal.main (F := Ideal))) ⟨m, fun _ => 0, g⟩ (fun r => (∀ c : Dev Cert.ReferenceDguRowIdeal.nD,
      r.2.mem ((c.tc : Thread Cert.ReferenceDguRowIdeal.nD Cert.ReferenceDguRowIdeal.τ).loc Cert.ReferenceDguRowIdeal.main_arg0) = m ((c.tc : Thread Cert.ReferenceDguRowIdeal.nD Cert.ReferenceDguRowIdeal.τ).loc Cert.ReferenceDguRowIdeal.main_arg0)
      ∧ r.2.mem ((c.tc : Thread Cert.ReferenceDguRowIdeal.nD Cert.ReferenceDguRowIdeal.τ).loc Cert.ReferenceDguRowIdeal.main_arg1) = m ((c.tc : Thread Cert.ReferenceDguRowIdeal.nD Cert.ReferenceDguRowIdeal.τ).loc Cert.ReferenceDguRowIdeal.main_arg1)
      ∧ r.2.mem ((c.tc : Thread Cert.ReferenceDguRowIdeal.nD Cert.ReferenceDguRowIdeal.τ).loc Cert.ReferenceDguRowIdeal.main_arg2) = m ((c.tc : Thread Cert.ReferenceDguRowIdeal.nD Cert.ReferenceDguRowIdeal.τ).loc Cert.ReferenceDguRowIdeal.main_arg2)
      ∧ r.2.mem ((c.tc : Thread Cert.ReferenceDguRowIdeal.nD Cert.ReferenceDguRowIdeal.τ).loc Cert.ReferenceDguRowIdeal.main_arg3) = m ((c.tc : Thread Cert.ReferenceDguRowIdeal.nD Cert.ReferenceDguRowIdeal.τ).loc Cert.ReferenceDguRowIdeal.main_arg3))
      ∧ r.2.sem = fun _ => 0)

def quiescent_KernelDxRow [hKernelDxRow : Cert.KernelDxRow.Facts] : Prop :=
  ∀ (m : (ℓ : Loc Cert.KernelDxRow.nD Cert.KernelDxRow.τ Cert.KernelDxRow.sig) → Buf (Elt Bits) ℓ) (g : Dev Cert.KernelDxRow.nD → PrngReg), Pre_KernelDxRow m →
    θ_run (Cert.KernelDxRow.defs (F := Bits)) (onTc (τ := Cert.KernelDxRow.τ) (Cert.KernelDxRow.main (F := Bits))) ⟨m, fun _ => 0, g⟩ (fun r => (∀ c : Dev Cert.KernelDxRow.nD,
      r.2.mem ((c.tc : Thread Cert.KernelDxRow.nD Cert.KernelDxRow.τ).loc Cert.KernelDxRow.main_arg0) = m ((c.tc : Thread Cert.KernelDxRow.nD Cert.KernelDxRow.τ).loc Cert.KernelDxRow.main_arg0)
      ∧ r.2.mem ((c.tc : Thread Cert.KernelDxRow.nD Cert.KernelDxRow.τ).loc Cert.KernelDxRow.main_arg1) = m ((c.tc : Thread Cert.KernelDxRow.nD Cert.KernelDxRow.τ).loc Cert.KernelDxRow.main_arg1)
      ∧ r.2.mem ((c.tc : Thread Cert.KernelDxRow.nD Cert.KernelDxRow.τ).loc Cert.KernelDxRow.main_arg2) = m ((c.tc : Thread Cert.KernelDxRow.nD Cert.KernelDxRow.τ).loc Cert.KernelDxRow.main_arg2)
      ∧ r.2.mem ((c.tc : Thread Cert.KernelDxRow.nD Cert.KernelDxRow.τ).loc Cert.KernelDxRow.main_arg3) = m ((c.tc : Thread Cert.KernelDxRow.nD Cert.KernelDxRow.τ).loc Cert.KernelDxRow.main_arg3)
      ∧ r.2.mem ((c.tc : Thread Cert.KernelDxRow.nD Cert.KernelDxRow.τ).loc Cert.KernelDxRow.main_arg4) = m ((c.tc : Thread Cert.KernelDxRow.nD Cert.KernelDxRow.τ).loc Cert.KernelDxRow.main_arg4)
      ∧ r.2.mem ((c.tc : Thread Cert.KernelDxRow.nD Cert.KernelDxRow.τ).loc Cert.KernelDxRow.main_arg5) = m ((c.tc : Thread Cert.KernelDxRow.nD Cert.KernelDxRow.τ).loc Cert.KernelDxRow.main_arg5))
      ∧ r.2.sem = fun _ => 0)

def quiescent_KernelDxRowIdeal [hKernelDxRowIdeal : Cert.KernelDxRowIdeal.Facts] : Prop :=
  ∀ (m : (ℓ : Loc Cert.KernelDxRowIdeal.nD Cert.KernelDxRowIdeal.τ Cert.KernelDxRowIdeal.sig) → Buf (Elt Ideal) ℓ) (g : Dev Cert.KernelDxRowIdeal.nD → PrngReg), Pre_KernelDxRowIdeal m →
    θ_run (Cert.KernelDxRowIdeal.defs (F := Ideal)) (onTc (τ := Cert.KernelDxRowIdeal.τ) (Cert.KernelDxRowIdeal.main (F := Ideal))) ⟨m, fun _ => 0, g⟩ (fun r => (∀ c : Dev Cert.KernelDxRowIdeal.nD,
      r.2.mem ((c.tc : Thread Cert.KernelDxRowIdeal.nD Cert.KernelDxRowIdeal.τ).loc Cert.KernelDxRowIdeal.main_arg0) = m ((c.tc : Thread Cert.KernelDxRowIdeal.nD Cert.KernelDxRowIdeal.τ).loc Cert.KernelDxRowIdeal.main_arg0)
      ∧ r.2.mem ((c.tc : Thread Cert.KernelDxRowIdeal.nD Cert.KernelDxRowIdeal.τ).loc Cert.KernelDxRowIdeal.main_arg1) = m ((c.tc : Thread Cert.KernelDxRowIdeal.nD Cert.KernelDxRowIdeal.τ).loc Cert.KernelDxRowIdeal.main_arg1)
      ∧ r.2.mem ((c.tc : Thread Cert.KernelDxRowIdeal.nD Cert.KernelDxRowIdeal.τ).loc Cert.KernelDxRowIdeal.main_arg2) = m ((c.tc : Thread Cert.KernelDxRowIdeal.nD Cert.KernelDxRowIdeal.τ).loc Cert.KernelDxRowIdeal.main_arg2)
      ∧ r.2.mem ((c.tc : Thread Cert.KernelDxRowIdeal.nD Cert.KernelDxRowIdeal.τ).loc Cert.KernelDxRowIdeal.main_arg3) = m ((c.tc : Thread Cert.KernelDxRowIdeal.nD Cert.KernelDxRowIdeal.τ).loc Cert.KernelDxRowIdeal.main_arg3)
      ∧ r.2.mem ((c.tc : Thread Cert.KernelDxRowIdeal.nD Cert.KernelDxRowIdeal.τ).loc Cert.KernelDxRowIdeal.main_arg4) = m ((c.tc : Thread Cert.KernelDxRowIdeal.nD Cert.KernelDxRowIdeal.τ).loc Cert.KernelDxRowIdeal.main_arg4)
      ∧ r.2.mem ((c.tc : Thread Cert.KernelDxRowIdeal.nD Cert.KernelDxRowIdeal.τ).loc Cert.KernelDxRowIdeal.main_arg5) = m ((c.tc : Thread Cert.KernelDxRowIdeal.nD Cert.KernelDxRowIdeal.τ).loc Cert.KernelDxRowIdeal.main_arg5))
      ∧ r.2.sem = fun _ => 0)

def quiescent_ReferenceDxRowIdeal [hReferenceDxRowIdeal : Cert.ReferenceDxRowIdeal.Facts] : Prop :=
  ∀ (m : (ℓ : Loc Cert.ReferenceDxRowIdeal.nD Cert.ReferenceDxRowIdeal.τ Cert.ReferenceDxRowIdeal.sig) → Buf (Elt Ideal) ℓ) (g : Dev Cert.ReferenceDxRowIdeal.nD → PrngReg), Pre_ReferenceDxRowIdeal m →
    θ_run (Cert.ReferenceDxRowIdeal.defs (F := Ideal)) (onTc (τ := Cert.ReferenceDxRowIdeal.τ) (Cert.ReferenceDxRowIdeal.main (F := Ideal))) ⟨m, fun _ => 0, g⟩ (fun r => (∀ c : Dev Cert.ReferenceDxRowIdeal.nD,
      r.2.mem ((c.tc : Thread Cert.ReferenceDxRowIdeal.nD Cert.ReferenceDxRowIdeal.τ).loc Cert.ReferenceDxRowIdeal.main_arg0) = m ((c.tc : Thread Cert.ReferenceDxRowIdeal.nD Cert.ReferenceDxRowIdeal.τ).loc Cert.ReferenceDxRowIdeal.main_arg0)
      ∧ r.2.mem ((c.tc : Thread Cert.ReferenceDxRowIdeal.nD Cert.ReferenceDxRowIdeal.τ).loc Cert.ReferenceDxRowIdeal.main_arg1) = m ((c.tc : Thread Cert.ReferenceDxRowIdeal.nD Cert.ReferenceDxRowIdeal.τ).loc Cert.ReferenceDxRowIdeal.main_arg1)
      ∧ r.2.mem ((c.tc : Thread Cert.ReferenceDxRowIdeal.nD Cert.ReferenceDxRowIdeal.τ).loc Cert.ReferenceDxRowIdeal.main_arg2) = m ((c.tc : Thread Cert.ReferenceDxRowIdeal.nD Cert.ReferenceDxRowIdeal.τ).loc Cert.ReferenceDxRowIdeal.main_arg2)
      ∧ r.2.mem ((c.tc : Thread Cert.ReferenceDxRowIdeal.nD Cert.ReferenceDxRowIdeal.τ).loc Cert.ReferenceDxRowIdeal.main_arg3) = m ((c.tc : Thread Cert.ReferenceDxRowIdeal.nD Cert.ReferenceDxRowIdeal.τ).loc Cert.ReferenceDxRowIdeal.main_arg3)
      ∧ r.2.mem ((c.tc : Thread Cert.ReferenceDxRowIdeal.nD Cert.ReferenceDxRowIdeal.τ).loc Cert.ReferenceDxRowIdeal.main_arg4) = m ((c.tc : Thread Cert.ReferenceDxRowIdeal.nD Cert.ReferenceDxRowIdeal.τ).loc Cert.ReferenceDxRowIdeal.main_arg4)
      ∧ r.2.mem ((c.tc : Thread Cert.ReferenceDxRowIdeal.nD Cert.ReferenceDxRowIdeal.τ).loc Cert.ReferenceDxRowIdeal.main_arg5) = m ((c.tc : Thread Cert.ReferenceDxRowIdeal.nD Cert.ReferenceDxRowIdeal.τ).loc Cert.ReferenceDxRowIdeal.main_arg5))
      ∧ r.2.sem = fun _ => 0)

def quiescent_KernelDw1Row [hKernelDw1Row : Cert.KernelDw1Row.Facts] : Prop :=
  ∀ (m : (ℓ : Loc Cert.KernelDw1Row.nD Cert.KernelDw1Row.τ Cert.KernelDw1Row.sig) → Buf (Elt Bits) ℓ) (g : Dev Cert.KernelDw1Row.nD → PrngReg), Pre_KernelDw1Row m →
    θ_run (Cert.KernelDw1Row.defs (F := Bits)) (onTc (τ := Cert.KernelDw1Row.τ) (Cert.KernelDw1Row.main (F := Bits))) ⟨m, fun _ => 0, g⟩ (fun r => (∀ c : Dev Cert.KernelDw1Row.nD,
      r.2.mem ((c.tc : Thread Cert.KernelDw1Row.nD Cert.KernelDw1Row.τ).loc Cert.KernelDw1Row.main_arg0) = m ((c.tc : Thread Cert.KernelDw1Row.nD Cert.KernelDw1Row.τ).loc Cert.KernelDw1Row.main_arg0)
      ∧ r.2.mem ((c.tc : Thread Cert.KernelDw1Row.nD Cert.KernelDw1Row.τ).loc Cert.KernelDw1Row.main_arg1) = m ((c.tc : Thread Cert.KernelDw1Row.nD Cert.KernelDw1Row.τ).loc Cert.KernelDw1Row.main_arg1)
      ∧ r.2.mem ((c.tc : Thread Cert.KernelDw1Row.nD Cert.KernelDw1Row.τ).loc Cert.KernelDw1Row.main_arg2) = m ((c.tc : Thread Cert.KernelDw1Row.nD Cert.KernelDw1Row.τ).loc Cert.KernelDw1Row.main_arg2))
      ∧ r.2.sem = fun _ => 0)

def quiescent_KernelDw1RowIdeal [hKernelDw1RowIdeal : Cert.KernelDw1RowIdeal.Facts] : Prop :=
  ∀ (m : (ℓ : Loc Cert.KernelDw1RowIdeal.nD Cert.KernelDw1RowIdeal.τ Cert.KernelDw1RowIdeal.sig) → Buf (Elt Ideal) ℓ) (g : Dev Cert.KernelDw1RowIdeal.nD → PrngReg), Pre_KernelDw1RowIdeal m →
    θ_run (Cert.KernelDw1RowIdeal.defs (F := Ideal)) (onTc (τ := Cert.KernelDw1RowIdeal.τ) (Cert.KernelDw1RowIdeal.main (F := Ideal))) ⟨m, fun _ => 0, g⟩ (fun r => (∀ c : Dev Cert.KernelDw1RowIdeal.nD,
      r.2.mem ((c.tc : Thread Cert.KernelDw1RowIdeal.nD Cert.KernelDw1RowIdeal.τ).loc Cert.KernelDw1RowIdeal.main_arg0) = m ((c.tc : Thread Cert.KernelDw1RowIdeal.nD Cert.KernelDw1RowIdeal.τ).loc Cert.KernelDw1RowIdeal.main_arg0)
      ∧ r.2.mem ((c.tc : Thread Cert.KernelDw1RowIdeal.nD Cert.KernelDw1RowIdeal.τ).loc Cert.KernelDw1RowIdeal.main_arg1) = m ((c.tc : Thread Cert.KernelDw1RowIdeal.nD Cert.KernelDw1RowIdeal.τ).loc Cert.KernelDw1RowIdeal.main_arg1)
      ∧ r.2.mem ((c.tc : Thread Cert.KernelDw1RowIdeal.nD Cert.KernelDw1RowIdeal.τ).loc Cert.KernelDw1RowIdeal.main_arg2) = m ((c.tc : Thread Cert.KernelDw1RowIdeal.nD Cert.KernelDw1RowIdeal.τ).loc Cert.KernelDw1RowIdeal.main_arg2))
      ∧ r.2.sem = fun _ => 0)

def quiescent_ReferenceDw1RowIdeal [hReferenceDw1RowIdeal : Cert.ReferenceDw1RowIdeal.Facts] : Prop :=
  ∀ (m : (ℓ : Loc Cert.ReferenceDw1RowIdeal.nD Cert.ReferenceDw1RowIdeal.τ Cert.ReferenceDw1RowIdeal.sig) → Buf (Elt Ideal) ℓ) (g : Dev Cert.ReferenceDw1RowIdeal.nD → PrngReg), Pre_ReferenceDw1RowIdeal m →
    θ_run (Cert.ReferenceDw1RowIdeal.defs (F := Ideal)) (onTc (τ := Cert.ReferenceDw1RowIdeal.τ) (Cert.ReferenceDw1RowIdeal.main (F := Ideal))) ⟨m, fun _ => 0, g⟩ (fun r => (∀ c : Dev Cert.ReferenceDw1RowIdeal.nD,
      r.2.mem ((c.tc : Thread Cert.ReferenceDw1RowIdeal.nD Cert.ReferenceDw1RowIdeal.τ).loc Cert.ReferenceDw1RowIdeal.main_arg0) = m ((c.tc : Thread Cert.ReferenceDw1RowIdeal.nD Cert.ReferenceDw1RowIdeal.τ).loc Cert.ReferenceDw1RowIdeal.main_arg0)
      ∧ r.2.mem ((c.tc : Thread Cert.ReferenceDw1RowIdeal.nD Cert.ReferenceDw1RowIdeal.τ).loc Cert.ReferenceDw1RowIdeal.main_arg1) = m ((c.tc : Thread Cert.ReferenceDw1RowIdeal.nD Cert.ReferenceDw1RowIdeal.τ).loc Cert.ReferenceDw1RowIdeal.main_arg1)
      ∧ r.2.mem ((c.tc : Thread Cert.ReferenceDw1RowIdeal.nD Cert.ReferenceDw1RowIdeal.τ).loc Cert.ReferenceDw1RowIdeal.main_arg2) = m ((c.tc : Thread Cert.ReferenceDw1RowIdeal.nD Cert.ReferenceDw1RowIdeal.τ).loc Cert.ReferenceDw1RowIdeal.main_arg2))
      ∧ r.2.sem = fun _ => 0)

def quiescent_KernelDw2Row [hKernelDw2Row : Cert.KernelDw2Row.Facts] : Prop :=
  ∀ (m : (ℓ : Loc Cert.KernelDw2Row.nD Cert.KernelDw2Row.τ Cert.KernelDw2Row.sig) → Buf (Elt Bits) ℓ) (g : Dev Cert.KernelDw2Row.nD → PrngReg), Pre_KernelDw2Row m →
    θ_run (Cert.KernelDw2Row.defs (F := Bits)) (onTc (τ := Cert.KernelDw2Row.τ) (Cert.KernelDw2Row.main (F := Bits))) ⟨m, fun _ => 0, g⟩ (fun r => (∀ c : Dev Cert.KernelDw2Row.nD,
      r.2.mem ((c.tc : Thread Cert.KernelDw2Row.nD Cert.KernelDw2Row.τ).loc Cert.KernelDw2Row.main_arg0) = m ((c.tc : Thread Cert.KernelDw2Row.nD Cert.KernelDw2Row.τ).loc Cert.KernelDw2Row.main_arg0)
      ∧ r.2.mem ((c.tc : Thread Cert.KernelDw2Row.nD Cert.KernelDw2Row.τ).loc Cert.KernelDw2Row.main_arg1) = m ((c.tc : Thread Cert.KernelDw2Row.nD Cert.KernelDw2Row.τ).loc Cert.KernelDw2Row.main_arg1)
      ∧ r.2.mem ((c.tc : Thread Cert.KernelDw2Row.nD Cert.KernelDw2Row.τ).loc Cert.KernelDw2Row.main_arg2) = m ((c.tc : Thread Cert.KernelDw2Row.nD Cert.KernelDw2Row.τ).loc Cert.KernelDw2Row.main_arg2))
      ∧ r.2.sem = fun _ => 0)

def quiescent_KernelDw2RowIdeal [hKernelDw2RowIdeal : Cert.KernelDw2RowIdeal.Facts] : Prop :=
  ∀ (m : (ℓ : Loc Cert.KernelDw2RowIdeal.nD Cert.KernelDw2RowIdeal.τ Cert.KernelDw2RowIdeal.sig) → Buf (Elt Ideal) ℓ) (g : Dev Cert.KernelDw2RowIdeal.nD → PrngReg), Pre_KernelDw2RowIdeal m →
    θ_run (Cert.KernelDw2RowIdeal.defs (F := Ideal)) (onTc (τ := Cert.KernelDw2RowIdeal.τ) (Cert.KernelDw2RowIdeal.main (F := Ideal))) ⟨m, fun _ => 0, g⟩ (fun r => (∀ c : Dev Cert.KernelDw2RowIdeal.nD,
      r.2.mem ((c.tc : Thread Cert.KernelDw2RowIdeal.nD Cert.KernelDw2RowIdeal.τ).loc Cert.KernelDw2RowIdeal.main_arg0) = m ((c.tc : Thread Cert.KernelDw2RowIdeal.nD Cert.KernelDw2RowIdeal.τ).loc Cert.KernelDw2RowIdeal.main_arg0)
      ∧ r.2.mem ((c.tc : Thread Cert.KernelDw2RowIdeal.nD Cert.KernelDw2RowIdeal.τ).loc Cert.KernelDw2RowIdeal.main_arg1) = m ((c.tc : Thread Cert.KernelDw2RowIdeal.nD Cert.KernelDw2RowIdeal.τ).loc Cert.KernelDw2RowIdeal.main_arg1)
      ∧ r.2.mem ((c.tc : Thread Cert.KernelDw2RowIdeal.nD Cert.KernelDw2RowIdeal.τ).loc Cert.KernelDw2RowIdeal.main_arg2) = m ((c.tc : Thread Cert.KernelDw2RowIdeal.nD Cert.KernelDw2RowIdeal.τ).loc Cert.KernelDw2RowIdeal.main_arg2))
      ∧ r.2.sem = fun _ => 0)

def quiescent_ReferenceDw2RowIdeal [hReferenceDw2RowIdeal : Cert.ReferenceDw2RowIdeal.Facts] : Prop :=
  ∀ (m : (ℓ : Loc Cert.ReferenceDw2RowIdeal.nD Cert.ReferenceDw2RowIdeal.τ Cert.ReferenceDw2RowIdeal.sig) → Buf (Elt Ideal) ℓ) (g : Dev Cert.ReferenceDw2RowIdeal.nD → PrngReg), Pre_ReferenceDw2RowIdeal m →
    θ_run (Cert.ReferenceDw2RowIdeal.defs (F := Ideal)) (onTc (τ := Cert.ReferenceDw2RowIdeal.τ) (Cert.ReferenceDw2RowIdeal.main (F := Ideal))) ⟨m, fun _ => 0, g⟩ (fun r => (∀ c : Dev Cert.ReferenceDw2RowIdeal.nD,
      r.2.mem ((c.tc : Thread Cert.ReferenceDw2RowIdeal.nD Cert.ReferenceDw2RowIdeal.τ).loc Cert.ReferenceDw2RowIdeal.main_arg0) = m ((c.tc : Thread Cert.ReferenceDw2RowIdeal.nD Cert.ReferenceDw2RowIdeal.τ).loc Cert.ReferenceDw2RowIdeal.main_arg0)
      ∧ r.2.mem ((c.tc : Thread Cert.ReferenceDw2RowIdeal.nD Cert.ReferenceDw2RowIdeal.τ).loc Cert.ReferenceDw2RowIdeal.main_arg1) = m ((c.tc : Thread Cert.ReferenceDw2RowIdeal.nD Cert.ReferenceDw2RowIdeal.τ).loc Cert.ReferenceDw2RowIdeal.main_arg1)
      ∧ r.2.mem ((c.tc : Thread Cert.ReferenceDw2RowIdeal.nD Cert.ReferenceDw2RowIdeal.τ).loc Cert.ReferenceDw2RowIdeal.main_arg2) = m ((c.tc : Thread Cert.ReferenceDw2RowIdeal.nD Cert.ReferenceDw2RowIdeal.τ).loc Cert.ReferenceDw2RowIdeal.main_arg2))
      ∧ r.2.sem = fun _ => 0)

def quiescent_KernelProjA [hKernelProjA : Cert.KernelProjA.Facts] : Prop :=
  ∀ (m : (ℓ : Loc Cert.KernelProjA.nD Cert.KernelProjA.τ Cert.KernelProjA.sig) → Buf (Elt Bits) ℓ) (g : Dev Cert.KernelProjA.nD → PrngReg), Pre_KernelProjA m →
    θ_run (Cert.KernelProjA.defs (F := Bits)) (onTc (τ := Cert.KernelProjA.τ) (Cert.KernelProjA.main (F := Bits))) ⟨m, fun _ => 0, g⟩ (fun r => (∀ c : Dev Cert.KernelProjA.nD,
      r.2.mem ((c.tc : Thread Cert.KernelProjA.nD Cert.KernelProjA.τ).loc Cert.KernelProjA.main_arg0) = m ((c.tc : Thread Cert.KernelProjA.nD Cert.KernelProjA.τ).loc Cert.KernelProjA.main_arg0)
      ∧ r.2.mem ((c.tc : Thread Cert.KernelProjA.nD Cert.KernelProjA.τ).loc Cert.KernelProjA.main_arg1) = m ((c.tc : Thread Cert.KernelProjA.nD Cert.KernelProjA.τ).loc Cert.KernelProjA.main_arg1)
      ∧ r.2.mem ((c.tc : Thread Cert.KernelProjA.nD Cert.KernelProjA.τ).loc Cert.KernelProjA.main_arg2) = m ((c.tc : Thread Cert.KernelProjA.nD Cert.KernelProjA.τ).loc Cert.KernelProjA.main_arg2))
      ∧ r.2.sem = fun _ => 0)

def quiescent_KernelProjAIdeal [hKernelProjAIdeal : Cert.KernelProjAIdeal.Facts] : Prop :=
  ∀ (m : (ℓ : Loc Cert.KernelProjAIdeal.nD Cert.KernelProjAIdeal.τ Cert.KernelProjAIdeal.sig) → Buf (Elt Ideal) ℓ) (g : Dev Cert.KernelProjAIdeal.nD → PrngReg), Pre_KernelProjAIdeal m →
    θ_run (Cert.KernelProjAIdeal.defs (F := Ideal)) (onTc (τ := Cert.KernelProjAIdeal.τ) (Cert.KernelProjAIdeal.main (F := Ideal))) ⟨m, fun _ => 0, g⟩ (fun r => (∀ c : Dev Cert.KernelProjAIdeal.nD,
      r.2.mem ((c.tc : Thread Cert.KernelProjAIdeal.nD Cert.KernelProjAIdeal.τ).loc Cert.KernelProjAIdeal.main_arg0) = m ((c.tc : Thread Cert.KernelProjAIdeal.nD Cert.KernelProjAIdeal.τ).loc Cert.KernelProjAIdeal.main_arg0)
      ∧ r.2.mem ((c.tc : Thread Cert.KernelProjAIdeal.nD Cert.KernelProjAIdeal.τ).loc Cert.KernelProjAIdeal.main_arg1) = m ((c.tc : Thread Cert.KernelProjAIdeal.nD Cert.KernelProjAIdeal.τ).loc Cert.KernelProjAIdeal.main_arg1)
      ∧ r.2.mem ((c.tc : Thread Cert.KernelProjAIdeal.nD Cert.KernelProjAIdeal.τ).loc Cert.KernelProjAIdeal.main_arg2) = m ((c.tc : Thread Cert.KernelProjAIdeal.nD Cert.KernelProjAIdeal.τ).loc Cert.KernelProjAIdeal.main_arg2))
      ∧ r.2.sem = fun _ => 0)

def quiescent_ReferenceProjAIdeal [hReferenceProjAIdeal : Cert.ReferenceProjAIdeal.Facts] : Prop :=
  ∀ (m : (ℓ : Loc Cert.ReferenceProjAIdeal.nD Cert.ReferenceProjAIdeal.τ Cert.ReferenceProjAIdeal.sig) → Buf (Elt Ideal) ℓ) (g : Dev Cert.ReferenceProjAIdeal.nD → PrngReg), Pre_ReferenceProjAIdeal m →
    θ_run (Cert.ReferenceProjAIdeal.defs (F := Ideal)) (onTc (τ := Cert.ReferenceProjAIdeal.τ) (Cert.ReferenceProjAIdeal.main (F := Ideal))) ⟨m, fun _ => 0, g⟩ (fun r => (∀ c : Dev Cert.ReferenceProjAIdeal.nD,
      r.2.mem ((c.tc : Thread Cert.ReferenceProjAIdeal.nD Cert.ReferenceProjAIdeal.τ).loc Cert.ReferenceProjAIdeal.main_arg0) = m ((c.tc : Thread Cert.ReferenceProjAIdeal.nD Cert.ReferenceProjAIdeal.τ).loc Cert.ReferenceProjAIdeal.main_arg0)
      ∧ r.2.mem ((c.tc : Thread Cert.ReferenceProjAIdeal.nD Cert.ReferenceProjAIdeal.τ).loc Cert.ReferenceProjAIdeal.main_arg1) = m ((c.tc : Thread Cert.ReferenceProjAIdeal.nD Cert.ReferenceProjAIdeal.τ).loc Cert.ReferenceProjAIdeal.main_arg1)
      ∧ r.2.mem ((c.tc : Thread Cert.ReferenceProjAIdeal.nD Cert.ReferenceProjAIdeal.τ).loc Cert.ReferenceProjAIdeal.main_arg2) = m ((c.tc : Thread Cert.ReferenceProjAIdeal.nD Cert.ReferenceProjAIdeal.τ).loc Cert.ReferenceProjAIdeal.main_arg2))
      ∧ r.2.sem = fun _ => 0)

def quiescent_KernelProjB [hKernelProjB : Cert.KernelProjB.Facts] : Prop :=
  ∀ (m : (ℓ : Loc Cert.KernelProjB.nD Cert.KernelProjB.τ Cert.KernelProjB.sig) → Buf (Elt Bits) ℓ) (g : Dev Cert.KernelProjB.nD → PrngReg), Pre_KernelProjB m →
    θ_run (Cert.KernelProjB.defs (F := Bits)) (onTc (τ := Cert.KernelProjB.τ) (Cert.KernelProjB.main (F := Bits))) ⟨m, fun _ => 0, g⟩ (fun r => (∀ c : Dev Cert.KernelProjB.nD,
      r.2.mem ((c.tc : Thread Cert.KernelProjB.nD Cert.KernelProjB.τ).loc Cert.KernelProjB.main_arg0) = m ((c.tc : Thread Cert.KernelProjB.nD Cert.KernelProjB.τ).loc Cert.KernelProjB.main_arg0)
      ∧ r.2.mem ((c.tc : Thread Cert.KernelProjB.nD Cert.KernelProjB.τ).loc Cert.KernelProjB.main_arg1) = m ((c.tc : Thread Cert.KernelProjB.nD Cert.KernelProjB.τ).loc Cert.KernelProjB.main_arg1)
      ∧ r.2.mem ((c.tc : Thread Cert.KernelProjB.nD Cert.KernelProjB.τ).loc Cert.KernelProjB.main_arg2) = m ((c.tc : Thread Cert.KernelProjB.nD Cert.KernelProjB.τ).loc Cert.KernelProjB.main_arg2))
      ∧ r.2.sem = fun _ => 0)

def quiescent_KernelProjBIdeal [hKernelProjBIdeal : Cert.KernelProjBIdeal.Facts] : Prop :=
  ∀ (m : (ℓ : Loc Cert.KernelProjBIdeal.nD Cert.KernelProjBIdeal.τ Cert.KernelProjBIdeal.sig) → Buf (Elt Ideal) ℓ) (g : Dev Cert.KernelProjBIdeal.nD → PrngReg), Pre_KernelProjBIdeal m →
    θ_run (Cert.KernelProjBIdeal.defs (F := Ideal)) (onTc (τ := Cert.KernelProjBIdeal.τ) (Cert.KernelProjBIdeal.main (F := Ideal))) ⟨m, fun _ => 0, g⟩ (fun r => (∀ c : Dev Cert.KernelProjBIdeal.nD,
      r.2.mem ((c.tc : Thread Cert.KernelProjBIdeal.nD Cert.KernelProjBIdeal.τ).loc Cert.KernelProjBIdeal.main_arg0) = m ((c.tc : Thread Cert.KernelProjBIdeal.nD Cert.KernelProjBIdeal.τ).loc Cert.KernelProjBIdeal.main_arg0)
      ∧ r.2.mem ((c.tc : Thread Cert.KernelProjBIdeal.nD Cert.KernelProjBIdeal.τ).loc Cert.KernelProjBIdeal.main_arg1) = m ((c.tc : Thread Cert.KernelProjBIdeal.nD Cert.KernelProjBIdeal.τ).loc Cert.KernelProjBIdeal.main_arg1)
      ∧ r.2.mem ((c.tc : Thread Cert.KernelProjBIdeal.nD Cert.KernelProjBIdeal.τ).loc Cert.KernelProjBIdeal.main_arg2) = m ((c.tc : Thread Cert.KernelProjBIdeal.nD Cert.KernelProjBIdeal.τ).loc Cert.KernelProjBIdeal.main_arg2))
      ∧ r.2.sem = fun _ => 0)

def quiescent_ReferenceProjBIdeal [hReferenceProjBIdeal : Cert.ReferenceProjBIdeal.Facts] : Prop :=
  ∀ (m : (ℓ : Loc Cert.ReferenceProjBIdeal.nD Cert.ReferenceProjBIdeal.τ Cert.ReferenceProjBIdeal.sig) → Buf (Elt Ideal) ℓ) (g : Dev Cert.ReferenceProjBIdeal.nD → PrngReg), Pre_ReferenceProjBIdeal m →
    θ_run (Cert.ReferenceProjBIdeal.defs (F := Ideal)) (onTc (τ := Cert.ReferenceProjBIdeal.τ) (Cert.ReferenceProjBIdeal.main (F := Ideal))) ⟨m, fun _ => 0, g⟩ (fun r => (∀ c : Dev Cert.ReferenceProjBIdeal.nD,
      r.2.mem ((c.tc : Thread Cert.ReferenceProjBIdeal.nD Cert.ReferenceProjBIdeal.τ).loc Cert.ReferenceProjBIdeal.main_arg0) = m ((c.tc : Thread Cert.ReferenceProjBIdeal.nD Cert.ReferenceProjBIdeal.τ).loc Cert.ReferenceProjBIdeal.main_arg0)
      ∧ r.2.mem ((c.tc : Thread Cert.ReferenceProjBIdeal.nD Cert.ReferenceProjBIdeal.τ).loc Cert.ReferenceProjBIdeal.main_arg1) = m ((c.tc : Thread Cert.ReferenceProjBIdeal.nD Cert.ReferenceProjBIdeal.τ).loc Cert.ReferenceProjBIdeal.main_arg1)
      ∧ r.2.mem ((c.tc : Thread Cert.ReferenceProjBIdeal.nD Cert.ReferenceProjBIdeal.τ).loc Cert.ReferenceProjBIdeal.main_arg2) = m ((c.tc : Thread Cert.ReferenceProjBIdeal.nD Cert.ReferenceProjBIdeal.τ).loc Cert.ReferenceProjBIdeal.main_arg2))
      ∧ r.2.sem = fun _ => 0)

def quiescent_KernelProjG [hKernelProjG : Cert.KernelProjG.Facts] : Prop :=
  ∀ (m : (ℓ : Loc Cert.KernelProjG.nD Cert.KernelProjG.τ Cert.KernelProjG.sig) → Buf (Elt Bits) ℓ) (g : Dev Cert.KernelProjG.nD → PrngReg), Pre_KernelProjG m →
    θ_run (Cert.KernelProjG.defs (F := Bits)) (onTc (τ := Cert.KernelProjG.τ) (Cert.KernelProjG.main (F := Bits))) ⟨m, fun _ => 0, g⟩ (fun r => (∀ c : Dev Cert.KernelProjG.nD,
      r.2.mem ((c.tc : Thread Cert.KernelProjG.nD Cert.KernelProjG.τ).loc Cert.KernelProjG.main_arg0) = m ((c.tc : Thread Cert.KernelProjG.nD Cert.KernelProjG.τ).loc Cert.KernelProjG.main_arg0)
      ∧ r.2.mem ((c.tc : Thread Cert.KernelProjG.nD Cert.KernelProjG.τ).loc Cert.KernelProjG.main_arg1) = m ((c.tc : Thread Cert.KernelProjG.nD Cert.KernelProjG.τ).loc Cert.KernelProjG.main_arg1)
      ∧ r.2.mem ((c.tc : Thread Cert.KernelProjG.nD Cert.KernelProjG.τ).loc Cert.KernelProjG.main_arg2) = m ((c.tc : Thread Cert.KernelProjG.nD Cert.KernelProjG.τ).loc Cert.KernelProjG.main_arg2))
      ∧ r.2.sem = fun _ => 0)

def quiescent_KernelProjGIdeal [hKernelProjGIdeal : Cert.KernelProjGIdeal.Facts] : Prop :=
  ∀ (m : (ℓ : Loc Cert.KernelProjGIdeal.nD Cert.KernelProjGIdeal.τ Cert.KernelProjGIdeal.sig) → Buf (Elt Ideal) ℓ) (g : Dev Cert.KernelProjGIdeal.nD → PrngReg), Pre_KernelProjGIdeal m →
    θ_run (Cert.KernelProjGIdeal.defs (F := Ideal)) (onTc (τ := Cert.KernelProjGIdeal.τ) (Cert.KernelProjGIdeal.main (F := Ideal))) ⟨m, fun _ => 0, g⟩ (fun r => (∀ c : Dev Cert.KernelProjGIdeal.nD,
      r.2.mem ((c.tc : Thread Cert.KernelProjGIdeal.nD Cert.KernelProjGIdeal.τ).loc Cert.KernelProjGIdeal.main_arg0) = m ((c.tc : Thread Cert.KernelProjGIdeal.nD Cert.KernelProjGIdeal.τ).loc Cert.KernelProjGIdeal.main_arg0)
      ∧ r.2.mem ((c.tc : Thread Cert.KernelProjGIdeal.nD Cert.KernelProjGIdeal.τ).loc Cert.KernelProjGIdeal.main_arg1) = m ((c.tc : Thread Cert.KernelProjGIdeal.nD Cert.KernelProjGIdeal.τ).loc Cert.KernelProjGIdeal.main_arg1)
      ∧ r.2.mem ((c.tc : Thread Cert.KernelProjGIdeal.nD Cert.KernelProjGIdeal.τ).loc Cert.KernelProjGIdeal.main_arg2) = m ((c.tc : Thread Cert.KernelProjGIdeal.nD Cert.KernelProjGIdeal.τ).loc Cert.KernelProjGIdeal.main_arg2))
      ∧ r.2.sem = fun _ => 0)

def quiescent_ReferenceProjGIdeal [hReferenceProjGIdeal : Cert.ReferenceProjGIdeal.Facts] : Prop :=
  ∀ (m : (ℓ : Loc Cert.ReferenceProjGIdeal.nD Cert.ReferenceProjGIdeal.τ Cert.ReferenceProjGIdeal.sig) → Buf (Elt Ideal) ℓ) (g : Dev Cert.ReferenceProjGIdeal.nD → PrngReg), Pre_ReferenceProjGIdeal m →
    θ_run (Cert.ReferenceProjGIdeal.defs (F := Ideal)) (onTc (τ := Cert.ReferenceProjGIdeal.τ) (Cert.ReferenceProjGIdeal.main (F := Ideal))) ⟨m, fun _ => 0, g⟩ (fun r => (∀ c : Dev Cert.ReferenceProjGIdeal.nD,
      r.2.mem ((c.tc : Thread Cert.ReferenceProjGIdeal.nD Cert.ReferenceProjGIdeal.τ).loc Cert.ReferenceProjGIdeal.main_arg0) = m ((c.tc : Thread Cert.ReferenceProjGIdeal.nD Cert.ReferenceProjGIdeal.τ).loc Cert.ReferenceProjGIdeal.main_arg0)
      ∧ r.2.mem ((c.tc : Thread Cert.ReferenceProjGIdeal.nD Cert.ReferenceProjGIdeal.τ).loc Cert.ReferenceProjGIdeal.main_arg1) = m ((c.tc : Thread Cert.ReferenceProjGIdeal.nD Cert.ReferenceProjGIdeal.τ).loc Cert.ReferenceProjGIdeal.main_arg1)
      ∧ r.2.mem ((c.tc : Thread Cert.ReferenceProjGIdeal.nD Cert.ReferenceProjGIdeal.τ).loc Cert.ReferenceProjGIdeal.main_arg2) = m ((c.tc : Thread Cert.ReferenceProjGIdeal.nD Cert.ReferenceProjGIdeal.τ).loc Cert.ReferenceProjGIdeal.main_arg2))
      ∧ r.2.sem = fun _ => 0)

def quiescent_KernelDwA [hKernelDwA : Cert.KernelDwA.Facts] : Prop :=
  ∀ (m : (ℓ : Loc Cert.KernelDwA.nD Cert.KernelDwA.τ Cert.KernelDwA.sig) → Buf (Elt Bits) ℓ) (g : Dev Cert.KernelDwA.nD → PrngReg), Pre_KernelDwA m →
    θ_run (Cert.KernelDwA.defs (F := Bits)) (onTc (τ := Cert.KernelDwA.τ) (Cert.KernelDwA.main (F := Bits))) ⟨m, fun _ => 0, g⟩ (fun r => (∀ c : Dev Cert.KernelDwA.nD,
      r.2.mem ((c.tc : Thread Cert.KernelDwA.nD Cert.KernelDwA.τ).loc Cert.KernelDwA.main_arg0) = m ((c.tc : Thread Cert.KernelDwA.nD Cert.KernelDwA.τ).loc Cert.KernelDwA.main_arg0)
      ∧ r.2.mem ((c.tc : Thread Cert.KernelDwA.nD Cert.KernelDwA.τ).loc Cert.KernelDwA.main_arg1) = m ((c.tc : Thread Cert.KernelDwA.nD Cert.KernelDwA.τ).loc Cert.KernelDwA.main_arg1))
      ∧ r.2.sem = fun _ => 0)

def quiescent_KernelDwAIdeal [hKernelDwAIdeal : Cert.KernelDwAIdeal.Facts] : Prop :=
  ∀ (m : (ℓ : Loc Cert.KernelDwAIdeal.nD Cert.KernelDwAIdeal.τ Cert.KernelDwAIdeal.sig) → Buf (Elt Ideal) ℓ) (g : Dev Cert.KernelDwAIdeal.nD → PrngReg), Pre_KernelDwAIdeal m →
    θ_run (Cert.KernelDwAIdeal.defs (F := Ideal)) (onTc (τ := Cert.KernelDwAIdeal.τ) (Cert.KernelDwAIdeal.main (F := Ideal))) ⟨m, fun _ => 0, g⟩ (fun r => (∀ c : Dev Cert.KernelDwAIdeal.nD,
      r.2.mem ((c.tc : Thread Cert.KernelDwAIdeal.nD Cert.KernelDwAIdeal.τ).loc Cert.KernelDwAIdeal.main_arg0) = m ((c.tc : Thread Cert.KernelDwAIdeal.nD Cert.KernelDwAIdeal.τ).loc Cert.KernelDwAIdeal.main_arg0)
      ∧ r.2.mem ((c.tc : Thread Cert.KernelDwAIdeal.nD Cert.KernelDwAIdeal.τ).loc Cert.KernelDwAIdeal.main_arg1) = m ((c.tc : Thread Cert.KernelDwAIdeal.nD Cert.KernelDwAIdeal.τ).loc Cert.KernelDwAIdeal.main_arg1))
      ∧ r.2.sem = fun _ => 0)

def quiescent_ReferenceDwAIdeal [hReferenceDwAIdeal : Cert.ReferenceDwAIdeal.Facts] : Prop :=
  ∀ (m : (ℓ : Loc Cert.ReferenceDwAIdeal.nD Cert.ReferenceDwAIdeal.τ Cert.ReferenceDwAIdeal.sig) → Buf (Elt Ideal) ℓ) (g : Dev Cert.ReferenceDwAIdeal.nD → PrngReg), Pre_ReferenceDwAIdeal m →
    θ_run (Cert.ReferenceDwAIdeal.defs (F := Ideal)) (onTc (τ := Cert.ReferenceDwAIdeal.τ) (Cert.ReferenceDwAIdeal.main (F := Ideal))) ⟨m, fun _ => 0, g⟩ (fun r => (∀ c : Dev Cert.ReferenceDwAIdeal.nD,
      r.2.mem ((c.tc : Thread Cert.ReferenceDwAIdeal.nD Cert.ReferenceDwAIdeal.τ).loc Cert.ReferenceDwAIdeal.main_arg0) = m ((c.tc : Thread Cert.ReferenceDwAIdeal.nD Cert.ReferenceDwAIdeal.τ).loc Cert.ReferenceDwAIdeal.main_arg0)
      ∧ r.2.mem ((c.tc : Thread Cert.ReferenceDwAIdeal.nD Cert.ReferenceDwAIdeal.τ).loc Cert.ReferenceDwAIdeal.main_arg1) = m ((c.tc : Thread Cert.ReferenceDwAIdeal.nD Cert.ReferenceDwAIdeal.τ).loc Cert.ReferenceDwAIdeal.main_arg1))
      ∧ r.2.sem = fun _ => 0)

def quiescent_KernelDwB [hKernelDwB : Cert.KernelDwB.Facts] : Prop :=
  ∀ (m : (ℓ : Loc Cert.KernelDwB.nD Cert.KernelDwB.τ Cert.KernelDwB.sig) → Buf (Elt Bits) ℓ) (g : Dev Cert.KernelDwB.nD → PrngReg), Pre_KernelDwB m →
    θ_run (Cert.KernelDwB.defs (F := Bits)) (onTc (τ := Cert.KernelDwB.τ) (Cert.KernelDwB.main (F := Bits))) ⟨m, fun _ => 0, g⟩ (fun r => (∀ c : Dev Cert.KernelDwB.nD,
      r.2.mem ((c.tc : Thread Cert.KernelDwB.nD Cert.KernelDwB.τ).loc Cert.KernelDwB.main_arg0) = m ((c.tc : Thread Cert.KernelDwB.nD Cert.KernelDwB.τ).loc Cert.KernelDwB.main_arg0)
      ∧ r.2.mem ((c.tc : Thread Cert.KernelDwB.nD Cert.KernelDwB.τ).loc Cert.KernelDwB.main_arg1) = m ((c.tc : Thread Cert.KernelDwB.nD Cert.KernelDwB.τ).loc Cert.KernelDwB.main_arg1))
      ∧ r.2.sem = fun _ => 0)

def quiescent_KernelDwBIdeal [hKernelDwBIdeal : Cert.KernelDwBIdeal.Facts] : Prop :=
  ∀ (m : (ℓ : Loc Cert.KernelDwBIdeal.nD Cert.KernelDwBIdeal.τ Cert.KernelDwBIdeal.sig) → Buf (Elt Ideal) ℓ) (g : Dev Cert.KernelDwBIdeal.nD → PrngReg), Pre_KernelDwBIdeal m →
    θ_run (Cert.KernelDwBIdeal.defs (F := Ideal)) (onTc (τ := Cert.KernelDwBIdeal.τ) (Cert.KernelDwBIdeal.main (F := Ideal))) ⟨m, fun _ => 0, g⟩ (fun r => (∀ c : Dev Cert.KernelDwBIdeal.nD,
      r.2.mem ((c.tc : Thread Cert.KernelDwBIdeal.nD Cert.KernelDwBIdeal.τ).loc Cert.KernelDwBIdeal.main_arg0) = m ((c.tc : Thread Cert.KernelDwBIdeal.nD Cert.KernelDwBIdeal.τ).loc Cert.KernelDwBIdeal.main_arg0)
      ∧ r.2.mem ((c.tc : Thread Cert.KernelDwBIdeal.nD Cert.KernelDwBIdeal.τ).loc Cert.KernelDwBIdeal.main_arg1) = m ((c.tc : Thread Cert.KernelDwBIdeal.nD Cert.KernelDwBIdeal.τ).loc Cert.KernelDwBIdeal.main_arg1))
      ∧ r.2.sem = fun _ => 0)

def quiescent_ReferenceDwBIdeal [hReferenceDwBIdeal : Cert.ReferenceDwBIdeal.Facts] : Prop :=
  ∀ (m : (ℓ : Loc Cert.ReferenceDwBIdeal.nD Cert.ReferenceDwBIdeal.τ Cert.ReferenceDwBIdeal.sig) → Buf (Elt Ideal) ℓ) (g : Dev Cert.ReferenceDwBIdeal.nD → PrngReg), Pre_ReferenceDwBIdeal m →
    θ_run (Cert.ReferenceDwBIdeal.defs (F := Ideal)) (onTc (τ := Cert.ReferenceDwBIdeal.τ) (Cert.ReferenceDwBIdeal.main (F := Ideal))) ⟨m, fun _ => 0, g⟩ (fun r => (∀ c : Dev Cert.ReferenceDwBIdeal.nD,
      r.2.mem ((c.tc : Thread Cert.ReferenceDwBIdeal.nD Cert.ReferenceDwBIdeal.τ).loc Cert.ReferenceDwBIdeal.main_arg0) = m ((c.tc : Thread Cert.ReferenceDwBIdeal.nD Cert.ReferenceDwBIdeal.τ).loc Cert.ReferenceDwBIdeal.main_arg0)
      ∧ r.2.mem ((c.tc : Thread Cert.ReferenceDwBIdeal.nD Cert.ReferenceDwBIdeal.τ).loc Cert.ReferenceDwBIdeal.main_arg1) = m ((c.tc : Thread Cert.ReferenceDwBIdeal.nD Cert.ReferenceDwBIdeal.τ).loc Cert.ReferenceDwBIdeal.main_arg1))
      ∧ r.2.sem = fun _ => 0)

def quiescent_KernelDwG [hKernelDwG : Cert.KernelDwG.Facts] : Prop :=
  ∀ (m : (ℓ : Loc Cert.KernelDwG.nD Cert.KernelDwG.τ Cert.KernelDwG.sig) → Buf (Elt Bits) ℓ) (g : Dev Cert.KernelDwG.nD → PrngReg), Pre_KernelDwG m →
    θ_run (Cert.KernelDwG.defs (F := Bits)) (onTc (τ := Cert.KernelDwG.τ) (Cert.KernelDwG.main (F := Bits))) ⟨m, fun _ => 0, g⟩ (fun r => (∀ c : Dev Cert.KernelDwG.nD,
      r.2.mem ((c.tc : Thread Cert.KernelDwG.nD Cert.KernelDwG.τ).loc Cert.KernelDwG.main_arg0) = m ((c.tc : Thread Cert.KernelDwG.nD Cert.KernelDwG.τ).loc Cert.KernelDwG.main_arg0)
      ∧ r.2.mem ((c.tc : Thread Cert.KernelDwG.nD Cert.KernelDwG.τ).loc Cert.KernelDwG.main_arg1) = m ((c.tc : Thread Cert.KernelDwG.nD Cert.KernelDwG.τ).loc Cert.KernelDwG.main_arg1))
      ∧ r.2.sem = fun _ => 0)

def quiescent_KernelDwGIdeal [hKernelDwGIdeal : Cert.KernelDwGIdeal.Facts] : Prop :=
  ∀ (m : (ℓ : Loc Cert.KernelDwGIdeal.nD Cert.KernelDwGIdeal.τ Cert.KernelDwGIdeal.sig) → Buf (Elt Ideal) ℓ) (g : Dev Cert.KernelDwGIdeal.nD → PrngReg), Pre_KernelDwGIdeal m →
    θ_run (Cert.KernelDwGIdeal.defs (F := Ideal)) (onTc (τ := Cert.KernelDwGIdeal.τ) (Cert.KernelDwGIdeal.main (F := Ideal))) ⟨m, fun _ => 0, g⟩ (fun r => (∀ c : Dev Cert.KernelDwGIdeal.nD,
      r.2.mem ((c.tc : Thread Cert.KernelDwGIdeal.nD Cert.KernelDwGIdeal.τ).loc Cert.KernelDwGIdeal.main_arg0) = m ((c.tc : Thread Cert.KernelDwGIdeal.nD Cert.KernelDwGIdeal.τ).loc Cert.KernelDwGIdeal.main_arg0)
      ∧ r.2.mem ((c.tc : Thread Cert.KernelDwGIdeal.nD Cert.KernelDwGIdeal.τ).loc Cert.KernelDwGIdeal.main_arg1) = m ((c.tc : Thread Cert.KernelDwGIdeal.nD Cert.KernelDwGIdeal.τ).loc Cert.KernelDwGIdeal.main_arg1))
      ∧ r.2.sem = fun _ => 0)

def quiescent_ReferenceDwGIdeal [hReferenceDwGIdeal : Cert.ReferenceDwGIdeal.Facts] : Prop :=
  ∀ (m : (ℓ : Loc Cert.ReferenceDwGIdeal.nD Cert.ReferenceDwGIdeal.τ Cert.ReferenceDwGIdeal.sig) → Buf (Elt Ideal) ℓ) (g : Dev Cert.ReferenceDwGIdeal.nD → PrngReg), Pre_ReferenceDwGIdeal m →
    θ_run (Cert.ReferenceDwGIdeal.defs (F := Ideal)) (onTc (τ := Cert.ReferenceDwGIdeal.τ) (Cert.ReferenceDwGIdeal.main (F := Ideal))) ⟨m, fun _ => 0, g⟩ (fun r => (∀ c : Dev Cert.ReferenceDwGIdeal.nD,
      r.2.mem ((c.tc : Thread Cert.ReferenceDwGIdeal.nD Cert.ReferenceDwGIdeal.τ).loc Cert.ReferenceDwGIdeal.main_arg0) = m ((c.tc : Thread Cert.ReferenceDwGIdeal.nD Cert.ReferenceDwGIdeal.τ).loc Cert.ReferenceDwGIdeal.main_arg0)
      ∧ r.2.mem ((c.tc : Thread Cert.ReferenceDwGIdeal.nD Cert.ReferenceDwGIdeal.τ).loc Cert.ReferenceDwGIdeal.main_arg1) = m ((c.tc : Thread Cert.ReferenceDwGIdeal.nD Cert.ReferenceDwGIdeal.τ).loc Cert.ReferenceDwGIdeal.main_arg1))
      ∧ r.2.sem = fun _ => 0)

def quiescent_KernelDhA [hKernelDhA : Cert.KernelDhA.Facts] : Prop :=
  ∀ (m : (ℓ : Loc Cert.KernelDhA.nD Cert.KernelDhA.τ Cert.KernelDhA.sig) → Buf (Elt Bits) ℓ) (g : Dev Cert.KernelDhA.nD → PrngReg), Pre_KernelDhA m →
    θ_run (Cert.KernelDhA.defs (F := Bits)) (onTc (τ := Cert.KernelDhA.τ) (Cert.KernelDhA.main (F := Bits))) ⟨m, fun _ => 0, g⟩ (fun r => (∀ c : Dev Cert.KernelDhA.nD,
      r.2.mem ((c.tc : Thread Cert.KernelDhA.nD Cert.KernelDhA.τ).loc Cert.KernelDhA.main_arg0) = m ((c.tc : Thread Cert.KernelDhA.nD Cert.KernelDhA.τ).loc Cert.KernelDhA.main_arg0)
      ∧ r.2.mem ((c.tc : Thread Cert.KernelDhA.nD Cert.KernelDhA.τ).loc Cert.KernelDhA.main_arg1) = m ((c.tc : Thread Cert.KernelDhA.nD Cert.KernelDhA.τ).loc Cert.KernelDhA.main_arg1))
      ∧ r.2.sem = fun _ => 0)

def quiescent_KernelDhAIdeal [hKernelDhAIdeal : Cert.KernelDhAIdeal.Facts] : Prop :=
  ∀ (m : (ℓ : Loc Cert.KernelDhAIdeal.nD Cert.KernelDhAIdeal.τ Cert.KernelDhAIdeal.sig) → Buf (Elt Ideal) ℓ) (g : Dev Cert.KernelDhAIdeal.nD → PrngReg), Pre_KernelDhAIdeal m →
    θ_run (Cert.KernelDhAIdeal.defs (F := Ideal)) (onTc (τ := Cert.KernelDhAIdeal.τ) (Cert.KernelDhAIdeal.main (F := Ideal))) ⟨m, fun _ => 0, g⟩ (fun r => (∀ c : Dev Cert.KernelDhAIdeal.nD,
      r.2.mem ((c.tc : Thread Cert.KernelDhAIdeal.nD Cert.KernelDhAIdeal.τ).loc Cert.KernelDhAIdeal.main_arg0) = m ((c.tc : Thread Cert.KernelDhAIdeal.nD Cert.KernelDhAIdeal.τ).loc Cert.KernelDhAIdeal.main_arg0)
      ∧ r.2.mem ((c.tc : Thread Cert.KernelDhAIdeal.nD Cert.KernelDhAIdeal.τ).loc Cert.KernelDhAIdeal.main_arg1) = m ((c.tc : Thread Cert.KernelDhAIdeal.nD Cert.KernelDhAIdeal.τ).loc Cert.KernelDhAIdeal.main_arg1))
      ∧ r.2.sem = fun _ => 0)

def quiescent_ReferenceDhAIdeal [hReferenceDhAIdeal : Cert.ReferenceDhAIdeal.Facts] : Prop :=
  ∀ (m : (ℓ : Loc Cert.ReferenceDhAIdeal.nD Cert.ReferenceDhAIdeal.τ Cert.ReferenceDhAIdeal.sig) → Buf (Elt Ideal) ℓ) (g : Dev Cert.ReferenceDhAIdeal.nD → PrngReg), Pre_ReferenceDhAIdeal m →
    θ_run (Cert.ReferenceDhAIdeal.defs (F := Ideal)) (onTc (τ := Cert.ReferenceDhAIdeal.τ) (Cert.ReferenceDhAIdeal.main (F := Ideal))) ⟨m, fun _ => 0, g⟩ (fun r => (∀ c : Dev Cert.ReferenceDhAIdeal.nD,
      r.2.mem ((c.tc : Thread Cert.ReferenceDhAIdeal.nD Cert.ReferenceDhAIdeal.τ).loc Cert.ReferenceDhAIdeal.main_arg0) = m ((c.tc : Thread Cert.ReferenceDhAIdeal.nD Cert.ReferenceDhAIdeal.τ).loc Cert.ReferenceDhAIdeal.main_arg0)
      ∧ r.2.mem ((c.tc : Thread Cert.ReferenceDhAIdeal.nD Cert.ReferenceDhAIdeal.τ).loc Cert.ReferenceDhAIdeal.main_arg1) = m ((c.tc : Thread Cert.ReferenceDhAIdeal.nD Cert.ReferenceDhAIdeal.τ).loc Cert.ReferenceDhAIdeal.main_arg1))
      ∧ r.2.sem = fun _ => 0)

def quiescent_KernelDhB [hKernelDhB : Cert.KernelDhB.Facts] : Prop :=
  ∀ (m : (ℓ : Loc Cert.KernelDhB.nD Cert.KernelDhB.τ Cert.KernelDhB.sig) → Buf (Elt Bits) ℓ) (g : Dev Cert.KernelDhB.nD → PrngReg), Pre_KernelDhB m →
    θ_run (Cert.KernelDhB.defs (F := Bits)) (onTc (τ := Cert.KernelDhB.τ) (Cert.KernelDhB.main (F := Bits))) ⟨m, fun _ => 0, g⟩ (fun r => (∀ c : Dev Cert.KernelDhB.nD,
      r.2.mem ((c.tc : Thread Cert.KernelDhB.nD Cert.KernelDhB.τ).loc Cert.KernelDhB.main_arg0) = m ((c.tc : Thread Cert.KernelDhB.nD Cert.KernelDhB.τ).loc Cert.KernelDhB.main_arg0)
      ∧ r.2.mem ((c.tc : Thread Cert.KernelDhB.nD Cert.KernelDhB.τ).loc Cert.KernelDhB.main_arg1) = m ((c.tc : Thread Cert.KernelDhB.nD Cert.KernelDhB.τ).loc Cert.KernelDhB.main_arg1)
      ∧ r.2.mem ((c.tc : Thread Cert.KernelDhB.nD Cert.KernelDhB.τ).loc Cert.KernelDhB.main_arg2) = m ((c.tc : Thread Cert.KernelDhB.nD Cert.KernelDhB.τ).loc Cert.KernelDhB.main_arg2))
      ∧ r.2.sem = fun _ => 0)

def quiescent_KernelDhBIdeal [hKernelDhBIdeal : Cert.KernelDhBIdeal.Facts] : Prop :=
  ∀ (m : (ℓ : Loc Cert.KernelDhBIdeal.nD Cert.KernelDhBIdeal.τ Cert.KernelDhBIdeal.sig) → Buf (Elt Ideal) ℓ) (g : Dev Cert.KernelDhBIdeal.nD → PrngReg), Pre_KernelDhBIdeal m →
    θ_run (Cert.KernelDhBIdeal.defs (F := Ideal)) (onTc (τ := Cert.KernelDhBIdeal.τ) (Cert.KernelDhBIdeal.main (F := Ideal))) ⟨m, fun _ => 0, g⟩ (fun r => (∀ c : Dev Cert.KernelDhBIdeal.nD,
      r.2.mem ((c.tc : Thread Cert.KernelDhBIdeal.nD Cert.KernelDhBIdeal.τ).loc Cert.KernelDhBIdeal.main_arg0) = m ((c.tc : Thread Cert.KernelDhBIdeal.nD Cert.KernelDhBIdeal.τ).loc Cert.KernelDhBIdeal.main_arg0)
      ∧ r.2.mem ((c.tc : Thread Cert.KernelDhBIdeal.nD Cert.KernelDhBIdeal.τ).loc Cert.KernelDhBIdeal.main_arg1) = m ((c.tc : Thread Cert.KernelDhBIdeal.nD Cert.KernelDhBIdeal.τ).loc Cert.KernelDhBIdeal.main_arg1)
      ∧ r.2.mem ((c.tc : Thread Cert.KernelDhBIdeal.nD Cert.KernelDhBIdeal.τ).loc Cert.KernelDhBIdeal.main_arg2) = m ((c.tc : Thread Cert.KernelDhBIdeal.nD Cert.KernelDhBIdeal.τ).loc Cert.KernelDhBIdeal.main_arg2))
      ∧ r.2.sem = fun _ => 0)

def quiescent_ReferenceDhBIdeal [hReferenceDhBIdeal : Cert.ReferenceDhBIdeal.Facts] : Prop :=
  ∀ (m : (ℓ : Loc Cert.ReferenceDhBIdeal.nD Cert.ReferenceDhBIdeal.τ Cert.ReferenceDhBIdeal.sig) → Buf (Elt Ideal) ℓ) (g : Dev Cert.ReferenceDhBIdeal.nD → PrngReg), Pre_ReferenceDhBIdeal m →
    θ_run (Cert.ReferenceDhBIdeal.defs (F := Ideal)) (onTc (τ := Cert.ReferenceDhBIdeal.τ) (Cert.ReferenceDhBIdeal.main (F := Ideal))) ⟨m, fun _ => 0, g⟩ (fun r => (∀ c : Dev Cert.ReferenceDhBIdeal.nD,
      r.2.mem ((c.tc : Thread Cert.ReferenceDhBIdeal.nD Cert.ReferenceDhBIdeal.τ).loc Cert.ReferenceDhBIdeal.main_arg0) = m ((c.tc : Thread Cert.ReferenceDhBIdeal.nD Cert.ReferenceDhBIdeal.τ).loc Cert.ReferenceDhBIdeal.main_arg0)
      ∧ r.2.mem ((c.tc : Thread Cert.ReferenceDhBIdeal.nD Cert.ReferenceDhBIdeal.τ).loc Cert.ReferenceDhBIdeal.main_arg1) = m ((c.tc : Thread Cert.ReferenceDhBIdeal.nD Cert.ReferenceDhBIdeal.τ).loc Cert.ReferenceDhBIdeal.main_arg1)
      ∧ r.2.mem ((c.tc : Thread Cert.ReferenceDhBIdeal.nD Cert.ReferenceDhBIdeal.τ).loc Cert.ReferenceDhBIdeal.main_arg2) = m ((c.tc : Thread Cert.ReferenceDhBIdeal.nD Cert.ReferenceDhBIdeal.τ).loc Cert.ReferenceDhBIdeal.main_arg2))
      ∧ r.2.sem = fun _ => 0)

def quiescent_KernelDhC [hKernelDhC : Cert.KernelDhC.Facts] : Prop :=
  ∀ (m : (ℓ : Loc Cert.KernelDhC.nD Cert.KernelDhC.τ Cert.KernelDhC.sig) → Buf (Elt Bits) ℓ) (g : Dev Cert.KernelDhC.nD → PrngReg), Pre_KernelDhC m →
    θ_run (Cert.KernelDhC.defs (F := Bits)) (onTc (τ := Cert.KernelDhC.τ) (Cert.KernelDhC.main (F := Bits))) ⟨m, fun _ => 0, g⟩ (fun r => (∀ c : Dev Cert.KernelDhC.nD,
      r.2.mem ((c.tc : Thread Cert.KernelDhC.nD Cert.KernelDhC.τ).loc Cert.KernelDhC.main_arg0) = m ((c.tc : Thread Cert.KernelDhC.nD Cert.KernelDhC.τ).loc Cert.KernelDhC.main_arg0)
      ∧ r.2.mem ((c.tc : Thread Cert.KernelDhC.nD Cert.KernelDhC.τ).loc Cert.KernelDhC.main_arg1) = m ((c.tc : Thread Cert.KernelDhC.nD Cert.KernelDhC.τ).loc Cert.KernelDhC.main_arg1)
      ∧ r.2.mem ((c.tc : Thread Cert.KernelDhC.nD Cert.KernelDhC.τ).loc Cert.KernelDhC.main_arg2) = m ((c.tc : Thread Cert.KernelDhC.nD Cert.KernelDhC.τ).loc Cert.KernelDhC.main_arg2))
      ∧ r.2.sem = fun _ => 0)

def quiescent_KernelDhCIdeal [hKernelDhCIdeal : Cert.KernelDhCIdeal.Facts] : Prop :=
  ∀ (m : (ℓ : Loc Cert.KernelDhCIdeal.nD Cert.KernelDhCIdeal.τ Cert.KernelDhCIdeal.sig) → Buf (Elt Ideal) ℓ) (g : Dev Cert.KernelDhCIdeal.nD → PrngReg), Pre_KernelDhCIdeal m →
    θ_run (Cert.KernelDhCIdeal.defs (F := Ideal)) (onTc (τ := Cert.KernelDhCIdeal.τ) (Cert.KernelDhCIdeal.main (F := Ideal))) ⟨m, fun _ => 0, g⟩ (fun r => (∀ c : Dev Cert.KernelDhCIdeal.nD,
      r.2.mem ((c.tc : Thread Cert.KernelDhCIdeal.nD Cert.KernelDhCIdeal.τ).loc Cert.KernelDhCIdeal.main_arg0) = m ((c.tc : Thread Cert.KernelDhCIdeal.nD Cert.KernelDhCIdeal.τ).loc Cert.KernelDhCIdeal.main_arg0)
      ∧ r.2.mem ((c.tc : Thread Cert.KernelDhCIdeal.nD Cert.KernelDhCIdeal.τ).loc Cert.KernelDhCIdeal.main_arg1) = m ((c.tc : Thread Cert.KernelDhCIdeal.nD Cert.KernelDhCIdeal.τ).loc Cert.KernelDhCIdeal.main_arg1)
      ∧ r.2.mem ((c.tc : Thread Cert.KernelDhCIdeal.nD Cert.KernelDhCIdeal.τ).loc Cert.KernelDhCIdeal.main_arg2) = m ((c.tc : Thread Cert.KernelDhCIdeal.nD Cert.KernelDhCIdeal.τ).loc Cert.KernelDhCIdeal.main_arg2))
      ∧ r.2.sem = fun _ => 0)

def quiescent_ReferenceDhCIdeal [hReferenceDhCIdeal : Cert.ReferenceDhCIdeal.Facts] : Prop :=
  ∀ (m : (ℓ : Loc Cert.ReferenceDhCIdeal.nD Cert.ReferenceDhCIdeal.τ Cert.ReferenceDhCIdeal.sig) → Buf (Elt Ideal) ℓ) (g : Dev Cert.ReferenceDhCIdeal.nD → PrngReg), Pre_ReferenceDhCIdeal m →
    θ_run (Cert.ReferenceDhCIdeal.defs (F := Ideal)) (onTc (τ := Cert.ReferenceDhCIdeal.τ) (Cert.ReferenceDhCIdeal.main (F := Ideal))) ⟨m, fun _ => 0, g⟩ (fun r => (∀ c : Dev Cert.ReferenceDhCIdeal.nD,
      r.2.mem ((c.tc : Thread Cert.ReferenceDhCIdeal.nD Cert.ReferenceDhCIdeal.τ).loc Cert.ReferenceDhCIdeal.main_arg0) = m ((c.tc : Thread Cert.ReferenceDhCIdeal.nD Cert.ReferenceDhCIdeal.τ).loc Cert.ReferenceDhCIdeal.main_arg0)
      ∧ r.2.mem ((c.tc : Thread Cert.ReferenceDhCIdeal.nD Cert.ReferenceDhCIdeal.τ).loc Cert.ReferenceDhCIdeal.main_arg1) = m ((c.tc : Thread Cert.ReferenceDhCIdeal.nD Cert.ReferenceDhCIdeal.τ).loc Cert.ReferenceDhCIdeal.main_arg1)
      ∧ r.2.mem ((c.tc : Thread Cert.ReferenceDhCIdeal.nD Cert.ReferenceDhCIdeal.τ).loc Cert.ReferenceDhCIdeal.main_arg2) = m ((c.tc : Thread Cert.ReferenceDhCIdeal.nD Cert.ReferenceDhCIdeal.τ).loc Cert.ReferenceDhCIdeal.main_arg2))
      ∧ r.2.sem = fun _ => 0)

def quiescent_KernelDhG [hKernelDhG : Cert.KernelDhG.Facts] : Prop :=
  ∀ (m : (ℓ : Loc Cert.KernelDhG.nD Cert.KernelDhG.τ Cert.KernelDhG.sig) → Buf (Elt Bits) ℓ) (g : Dev Cert.KernelDhG.nD → PrngReg), Pre_KernelDhG m →
    θ_run (Cert.KernelDhG.defs (F := Bits)) (onTc (τ := Cert.KernelDhG.τ) (Cert.KernelDhG.main (F := Bits))) ⟨m, fun _ => 0, g⟩ (fun r => (∀ c : Dev Cert.KernelDhG.nD,
      r.2.mem ((c.tc : Thread Cert.KernelDhG.nD Cert.KernelDhG.τ).loc Cert.KernelDhG.main_arg0) = m ((c.tc : Thread Cert.KernelDhG.nD Cert.KernelDhG.τ).loc Cert.KernelDhG.main_arg0)
      ∧ r.2.mem ((c.tc : Thread Cert.KernelDhG.nD Cert.KernelDhG.τ).loc Cert.KernelDhG.main_arg1) = m ((c.tc : Thread Cert.KernelDhG.nD Cert.KernelDhG.τ).loc Cert.KernelDhG.main_arg1)
      ∧ r.2.mem ((c.tc : Thread Cert.KernelDhG.nD Cert.KernelDhG.τ).loc Cert.KernelDhG.main_arg2) = m ((c.tc : Thread Cert.KernelDhG.nD Cert.KernelDhG.τ).loc Cert.KernelDhG.main_arg2))
      ∧ r.2.sem = fun _ => 0)

def quiescent_KernelDhGIdeal [hKernelDhGIdeal : Cert.KernelDhGIdeal.Facts] : Prop :=
  ∀ (m : (ℓ : Loc Cert.KernelDhGIdeal.nD Cert.KernelDhGIdeal.τ Cert.KernelDhGIdeal.sig) → Buf (Elt Ideal) ℓ) (g : Dev Cert.KernelDhGIdeal.nD → PrngReg), Pre_KernelDhGIdeal m →
    θ_run (Cert.KernelDhGIdeal.defs (F := Ideal)) (onTc (τ := Cert.KernelDhGIdeal.τ) (Cert.KernelDhGIdeal.main (F := Ideal))) ⟨m, fun _ => 0, g⟩ (fun r => (∀ c : Dev Cert.KernelDhGIdeal.nD,
      r.2.mem ((c.tc : Thread Cert.KernelDhGIdeal.nD Cert.KernelDhGIdeal.τ).loc Cert.KernelDhGIdeal.main_arg0) = m ((c.tc : Thread Cert.KernelDhGIdeal.nD Cert.KernelDhGIdeal.τ).loc Cert.KernelDhGIdeal.main_arg0)
      ∧ r.2.mem ((c.tc : Thread Cert.KernelDhGIdeal.nD Cert.KernelDhGIdeal.τ).loc Cert.KernelDhGIdeal.main_arg1) = m ((c.tc : Thread Cert.KernelDhGIdeal.nD Cert.KernelDhGIdeal.τ).loc Cert.KernelDhGIdeal.main_arg1)
      ∧ r.2.mem ((c.tc : Thread Cert.KernelDhGIdeal.nD Cert.KernelDhGIdeal.τ).loc Cert.KernelDhGIdeal.main_arg2) = m ((c.tc : Thread Cert.KernelDhGIdeal.nD Cert.KernelDhGIdeal.τ).loc Cert.KernelDhGIdeal.main_arg2))
      ∧ r.2.sem = fun _ => 0)

def quiescent_ReferenceDhGIdeal [hReferenceDhGIdeal : Cert.ReferenceDhGIdeal.Facts] : Prop :=
  ∀ (m : (ℓ : Loc Cert.ReferenceDhGIdeal.nD Cert.ReferenceDhGIdeal.τ Cert.ReferenceDhGIdeal.sig) → Buf (Elt Ideal) ℓ) (g : Dev Cert.ReferenceDhGIdeal.nD → PrngReg), Pre_ReferenceDhGIdeal m →
    θ_run (Cert.ReferenceDhGIdeal.defs (F := Ideal)) (onTc (τ := Cert.ReferenceDhGIdeal.τ) (Cert.ReferenceDhGIdeal.main (F := Ideal))) ⟨m, fun _ => 0, g⟩ (fun r => (∀ c : Dev Cert.ReferenceDhGIdeal.nD,
      r.2.mem ((c.tc : Thread Cert.ReferenceDhGIdeal.nD Cert.ReferenceDhGIdeal.τ).loc Cert.ReferenceDhGIdeal.main_arg0) = m ((c.tc : Thread Cert.ReferenceDhGIdeal.nD Cert.ReferenceDhGIdeal.τ).loc Cert.ReferenceDhGIdeal.main_arg0)
      ∧ r.2.mem ((c.tc : Thread Cert.ReferenceDhGIdeal.nD Cert.ReferenceDhGIdeal.τ).loc Cert.ReferenceDhGIdeal.main_arg1) = m ((c.tc : Thread Cert.ReferenceDhGIdeal.nD Cert.ReferenceDhGIdeal.τ).loc Cert.ReferenceDhGIdeal.main_arg1)
      ∧ r.2.mem ((c.tc : Thread Cert.ReferenceDhGIdeal.nD Cert.ReferenceDhGIdeal.τ).loc Cert.ReferenceDhGIdeal.main_arg2) = m ((c.tc : Thread Cert.ReferenceDhGIdeal.nD Cert.ReferenceDhGIdeal.τ).loc Cert.ReferenceDhGIdeal.main_arg2))
      ∧ r.2.sem = fun _ => 0)

def quiescent_KernelMixOut [hKernelMixOut : Cert.KernelMixOut.Facts] : Prop :=
  ∀ (m : (ℓ : Loc Cert.KernelMixOut.nD Cert.KernelMixOut.τ Cert.KernelMixOut.sig) → Buf (Elt Bits) ℓ) (g : Dev Cert.KernelMixOut.nD → PrngReg), Pre_KernelMixOut m →
    θ_run (Cert.KernelMixOut.defs (F := Bits)) (onTc (τ := Cert.KernelMixOut.τ) (Cert.KernelMixOut.main (F := Bits))) ⟨m, fun _ => 0, g⟩ (fun r => (∀ c : Dev Cert.KernelMixOut.nD,
      r.2.mem ((c.tc : Thread Cert.KernelMixOut.nD Cert.KernelMixOut.τ).loc Cert.KernelMixOut.main_arg0) = m ((c.tc : Thread Cert.KernelMixOut.nD Cert.KernelMixOut.τ).loc Cert.KernelMixOut.main_arg0)
      ∧ r.2.mem ((c.tc : Thread Cert.KernelMixOut.nD Cert.KernelMixOut.τ).loc Cert.KernelMixOut.main_arg1) = m ((c.tc : Thread Cert.KernelMixOut.nD Cert.KernelMixOut.τ).loc Cert.KernelMixOut.main_arg1)
      ∧ r.2.mem ((c.tc : Thread Cert.KernelMixOut.nD Cert.KernelMixOut.τ).loc Cert.KernelMixOut.main_arg2) = m ((c.tc : Thread Cert.KernelMixOut.nD Cert.KernelMixOut.τ).loc Cert.KernelMixOut.main_arg2))
      ∧ r.2.sem = fun _ => 0)

def quiescent_KernelMixOutIdeal [hKernelMixOutIdeal : Cert.KernelMixOutIdeal.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg), Pre_KernelMixOutIdeal m →
    θ_run (Cert.KernelMixOutIdeal.defs (F := Ideal)) (onTc (τ := Cert.KernelMixOutIdeal.τ) (Cert.KernelMixOutIdeal.main (F := Ideal))) ⟨m, fun _ => 0, g⟩ (fun r => (∀ c : Dev Cert.KernelMixOutIdeal.nD,
      r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
      ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
      ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2))
      ∧ r.2.sem = fun _ => 0)

def quiescent_ReferenceMixOutIdeal [hReferenceMixOutIdeal : Cert.ReferenceMixOutIdeal.Facts] : Prop :=
  ∀ (m : (ℓ : Loc Cert.ReferenceMixOutIdeal.nD Cert.ReferenceMixOutIdeal.τ Cert.ReferenceMixOutIdeal.sig) → Buf (Elt Ideal) ℓ) (g : Dev Cert.ReferenceMixOutIdeal.nD → PrngReg), Pre_ReferenceMixOutIdeal m →
    θ_run (Cert.ReferenceMixOutIdeal.defs (F := Ideal)) (onTc (τ := Cert.ReferenceMixOutIdeal.τ) (Cert.ReferenceMixOutIdeal.main (F := Ideal))) ⟨m, fun _ => 0, g⟩ (fun r => (∀ c : Dev Cert.ReferenceMixOutIdeal.nD,
      r.2.mem ((c.tc : Thread Cert.ReferenceMixOutIdeal.nD Cert.ReferenceMixOutIdeal.τ).loc Cert.ReferenceMixOutIdeal.main_arg0) = m ((c.tc : Thread Cert.ReferenceMixOutIdeal.nD Cert.ReferenceMixOutIdeal.τ).loc Cert.ReferenceMixOutIdeal.main_arg0)
      ∧ r.2.mem ((c.tc : Thread Cert.ReferenceMixOutIdeal.nD Cert.ReferenceMixOutIdeal.τ).loc Cert.ReferenceMixOutIdeal.main_arg1) = m ((c.tc : Thread Cert.ReferenceMixOutIdeal.nD Cert.ReferenceMixOutIdeal.τ).loc Cert.ReferenceMixOutIdeal.main_arg1)
      ∧ r.2.mem ((c.tc : Thread Cert.ReferenceMixOutIdeal.nD Cert.ReferenceMixOutIdeal.τ).loc Cert.ReferenceMixOutIdeal.main_arg2) = m ((c.tc : Thread Cert.ReferenceMixOutIdeal.nD Cert.ReferenceMixOutIdeal.τ).loc Cert.ReferenceMixOutIdeal.main_arg2))
      ∧ r.2.sem = fun _ => 0)

def quiescent_KernelDmerged [hKernelDmerged : Cert.KernelDmerged.Facts] : Prop :=
  ∀ (m : (ℓ : Loc Cert.KernelDmerged.nD Cert.KernelDmerged.τ Cert.KernelDmerged.sig) → Buf (Elt Bits) ℓ) (g : Dev Cert.KernelDmerged.nD → PrngReg), Pre_KernelDmerged m →
    θ_run (Cert.KernelDmerged.defs (F := Bits)) (onTc (τ := Cert.KernelDmerged.τ) (Cert.KernelDmerged.main (F := Bits))) ⟨m, fun _ => 0, g⟩ (fun r => (∀ c : Dev Cert.KernelDmerged.nD,
      r.2.mem ((c.tc : Thread Cert.KernelDmerged.nD Cert.KernelDmerged.τ).loc Cert.KernelDmerged.main_arg0) = m ((c.tc : Thread Cert.KernelDmerged.nD Cert.KernelDmerged.τ).loc Cert.KernelDmerged.main_arg0)
      ∧ r.2.mem ((c.tc : Thread Cert.KernelDmerged.nD Cert.KernelDmerged.τ).loc Cert.KernelDmerged.main_arg1) = m ((c.tc : Thread Cert.KernelDmerged.nD Cert.KernelDmerged.τ).loc Cert.KernelDmerged.main_arg1)
      ∧ r.2.mem ((c.tc : Thread Cert.KernelDmerged.nD Cert.KernelDmerged.τ).loc Cert.KernelDmerged.main_arg2) = m ((c.tc : Thread Cert.KernelDmerged.nD Cert.KernelDmerged.τ).loc Cert.KernelDmerged.main_arg2))
      ∧ r.2.sem = fun _ => 0)

def quiescent_KernelDmergedIdeal [hKernelDmergedIdeal : Cert.KernelDmergedIdeal.Facts] : Prop :=
  ∀ (m : (ℓ : Loc Cert.KernelDmergedIdeal.nD Cert.KernelDmergedIdeal.τ Cert.KernelDmergedIdeal.sig) → Buf (Elt Ideal) ℓ) (g : Dev Cert.KernelDmergedIdeal.nD → PrngReg), Pre_KernelDmergedIdeal m →
    θ_run (Cert.KernelDmergedIdeal.defs (F := Ideal)) (onTc (τ := Cert.KernelDmergedIdeal.τ) (Cert.KernelDmergedIdeal.main (F := Ideal))) ⟨m, fun _ => 0, g⟩ (fun r => (∀ c : Dev Cert.KernelDmergedIdeal.nD,
      r.2.mem ((c.tc : Thread Cert.KernelDmergedIdeal.nD Cert.KernelDmergedIdeal.τ).loc Cert.KernelDmergedIdeal.main_arg0) = m ((c.tc : Thread Cert.KernelDmergedIdeal.nD Cert.KernelDmergedIdeal.τ).loc Cert.KernelDmergedIdeal.main_arg0)
      ∧ r.2.mem ((c.tc : Thread Cert.KernelDmergedIdeal.nD Cert.KernelDmergedIdeal.τ).loc Cert.KernelDmergedIdeal.main_arg1) = m ((c.tc : Thread Cert.KernelDmergedIdeal.nD Cert.KernelDmergedIdeal.τ).loc Cert.KernelDmergedIdeal.main_arg1)
      ∧ r.2.mem ((c.tc : Thread Cert.KernelDmergedIdeal.nD Cert.KernelDmergedIdeal.τ).loc Cert.KernelDmergedIdeal.main_arg2) = m ((c.tc : Thread Cert.KernelDmergedIdeal.nD Cert.KernelDmergedIdeal.τ).loc Cert.KernelDmergedIdeal.main_arg2))
      ∧ r.2.sem = fun _ => 0)

def quiescent_ReferenceDmergedIdeal [hReferenceDmergedIdeal : Cert.ReferenceDmergedIdeal.Facts] : Prop :=
  ∀ (m : (ℓ : Loc Cert.ReferenceDmergedIdeal.nD Cert.ReferenceDmergedIdeal.τ Cert.ReferenceDmergedIdeal.sig) → Buf (Elt Ideal) ℓ) (g : Dev Cert.ReferenceDmergedIdeal.nD → PrngReg), Pre_ReferenceDmergedIdeal m →
    θ_run (Cert.ReferenceDmergedIdeal.defs (F := Ideal)) (onTc (τ := Cert.ReferenceDmergedIdeal.τ) (Cert.ReferenceDmergedIdeal.main (F := Ideal))) ⟨m, fun _ => 0, g⟩ (fun r => (∀ c : Dev Cert.ReferenceDmergedIdeal.nD,
      r.2.mem ((c.tc : Thread Cert.ReferenceDmergedIdeal.nD Cert.ReferenceDmergedIdeal.τ).loc Cert.ReferenceDmergedIdeal.main_arg0) = m ((c.tc : Thread Cert.ReferenceDmergedIdeal.nD Cert.ReferenceDmergedIdeal.τ).loc Cert.ReferenceDmergedIdeal.main_arg0)
      ∧ r.2.mem ((c.tc : Thread Cert.ReferenceDmergedIdeal.nD Cert.ReferenceDmergedIdeal.τ).loc Cert.ReferenceDmergedIdeal.main_arg1) = m ((c.tc : Thread Cert.ReferenceDmergedIdeal.nD Cert.ReferenceDmergedIdeal.τ).loc Cert.ReferenceDmergedIdeal.main_arg1)
      ∧ r.2.mem ((c.tc : Thread Cert.ReferenceDmergedIdeal.nD Cert.ReferenceDmergedIdeal.τ).loc Cert.ReferenceDmergedIdeal.main_arg2) = m ((c.tc : Thread Cert.ReferenceDmergedIdeal.nD Cert.ReferenceDmergedIdeal.τ).loc Cert.ReferenceDmergedIdeal.main_arg2))
      ∧ r.2.sem = fun _ => 0)

def quiescent_KernelDwOut [hKernelDwOut : Cert.KernelDwOut.Facts] : Prop :=
  ∀ (m : (ℓ : Loc Cert.KernelDwOut.nD Cert.KernelDwOut.τ Cert.KernelDwOut.sig) → Buf (Elt Bits) ℓ) (g : Dev Cert.KernelDwOut.nD → PrngReg), Pre_KernelDwOut m →
    θ_run (Cert.KernelDwOut.defs (F := Bits)) (onTc (τ := Cert.KernelDwOut.τ) (Cert.KernelDwOut.main (F := Bits))) ⟨m, fun _ => 0, g⟩ (fun r => (∀ c : Dev Cert.KernelDwOut.nD,
      r.2.mem ((c.tc : Thread Cert.KernelDwOut.nD Cert.KernelDwOut.τ).loc Cert.KernelDwOut.main_arg0) = m ((c.tc : Thread Cert.KernelDwOut.nD Cert.KernelDwOut.τ).loc Cert.KernelDwOut.main_arg0)
      ∧ r.2.mem ((c.tc : Thread Cert.KernelDwOut.nD Cert.KernelDwOut.τ).loc Cert.KernelDwOut.main_arg1) = m ((c.tc : Thread Cert.KernelDwOut.nD Cert.KernelDwOut.τ).loc Cert.KernelDwOut.main_arg1))
      ∧ r.2.sem = fun _ => 0)

def quiescent_KernelDwOutIdeal [hKernelDwOutIdeal : Cert.KernelDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg), Pre_KernelDwOutIdeal m →
    θ_run (Cert.KernelDwOutIdeal.defs (F := Ideal)) (onTc (τ := Cert.KernelDwOutIdeal.τ) (Cert.KernelDwOutIdeal.main (F := Ideal))) ⟨m, fun _ => 0, g⟩ (fun r => (∀ c : Dev Cert.KernelDwOutIdeal.nD,
      r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
      ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ r.2.sem = fun _ => 0)

def quiescent_ReferenceDwOutIdeal [hReferenceDwOutIdeal : Cert.ReferenceDwOutIdeal.Facts] : Prop :=
  ∀ (m : (ℓ : Loc Cert.ReferenceDwOutIdeal.nD Cert.ReferenceDwOutIdeal.τ Cert.ReferenceDwOutIdeal.sig) → Buf (Elt Ideal) ℓ) (g : Dev Cert.ReferenceDwOutIdeal.nD → PrngReg), Pre_ReferenceDwOutIdeal m →
    θ_run (Cert.ReferenceDwOutIdeal.defs (F := Ideal)) (onTc (τ := Cert.ReferenceDwOutIdeal.τ) (Cert.ReferenceDwOutIdeal.main (F := Ideal))) ⟨m, fun _ => 0, g⟩ (fun r => (∀ c : Dev Cert.ReferenceDwOutIdeal.nD,
      r.2.mem ((c.tc : Thread Cert.ReferenceDwOutIdeal.nD Cert.ReferenceDwOutIdeal.τ).loc Cert.ReferenceDwOutIdeal.main_arg0) = m ((c.tc : Thread Cert.ReferenceDwOutIdeal.nD Cert.ReferenceDwOutIdeal.τ).loc Cert.ReferenceDwOutIdeal.main_arg0)
      ∧ r.2.mem ((c.tc : Thread Cert.ReferenceDwOutIdeal.nD Cert.ReferenceDwOutIdeal.τ).loc Cert.ReferenceDwOutIdeal.main_arg1) = m ((c.tc : Thread Cert.ReferenceDwOutIdeal.nD Cert.ReferenceDwOutIdeal.τ).loc Cert.ReferenceDwOutIdeal.main_arg1))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3)
      ∧ r.2.mem ((c.tc : Thread Cert.KernelAdamUp.nD Cert.KernelAdamUp.τ).loc Cert.KernelAdamUp.main_arg4) = m ((c.tc : Thread Cert.KernelAdamUp.nD Cert.KernelAdamUp.τ).loc Cert.KernelAdamUp.main_arg4))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3)
      ∧ r.2.mem ((c.tc : Thread Cert.KernelAdamUpIdeal.nD Cert.KernelAdamUpIdeal.τ).loc Cert.KernelAdamUpIdeal.main_arg4) = m ((c.tc : Thread Cert.KernelAdamUpIdeal.nD Cert.KernelAdamUpIdeal.τ).loc Cert.KernelAdamUpIdeal.main_arg4))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3)
      ∧ r.2.mem ((c.tc : Thread Cert.ReferenceAdamUpIdeal.nD Cert.ReferenceAdamUpIdeal.τ).loc Cert.ReferenceAdamUpIdeal.main_arg4) = m ((c.tc : Thread Cert.ReferenceAdamUpIdeal.nD Cert.ReferenceAdamUpIdeal.τ).loc Cert.ReferenceAdamUpIdeal.main_arg4))
      ∧ r.2.sem = fun _ => 0)

def quiescent_KernelAdamUpB [hKernelAdamUpB : Cert.KernelAdamUpB.Facts] : Prop :=
  ∀ (m : (ℓ : Loc Cert.KernelAdamUpB.nD Cert.KernelAdamUpB.τ Cert.KernelAdamUpB.sig) → Buf (Elt Bits) ℓ) (g : Dev Cert.KernelAdamUpB.nD → PrngReg), Pre_KernelAdamUpB m →
    θ_run (Cert.KernelAdamUpB.defs (F := Bits)) (onTc (τ := Cert.KernelAdamUpB.τ) (Cert.KernelAdamUpB.main (F := Bits))) ⟨m, fun _ => 0, g⟩ (fun r => (∀ c : Dev Cert.KernelAdamUpB.nD,
      r.2.mem ((c.tc : Thread Cert.KernelAdamUpB.nD Cert.KernelAdamUpB.τ).loc Cert.KernelAdamUpB.main_arg0) = m ((c.tc : Thread Cert.KernelAdamUpB.nD Cert.KernelAdamUpB.τ).loc Cert.KernelAdamUpB.main_arg0)
      ∧ r.2.mem ((c.tc : Thread Cert.KernelAdamUpB.nD Cert.KernelAdamUpB.τ).loc Cert.KernelAdamUpB.main_arg1) = m ((c.tc : Thread Cert.KernelAdamUpB.nD Cert.KernelAdamUpB.τ).loc Cert.KernelAdamUpB.main_arg1)
      ∧ r.2.mem ((c.tc : Thread Cert.KernelAdamUpB.nD Cert.KernelAdamUpB.τ).loc Cert.KernelAdamUpB.main_arg2) = m ((c.tc : Thread Cert.KernelAdamUpB.nD Cert.KernelAdamUpB.τ).loc Cert.KernelAdamUpB.main_arg2)
      ∧ r.2.mem ((c.tc : Thread Cert.KernelAdamUpB.nD Cert.KernelAdamUpB.τ).loc Cert.KernelAdamUpB.main_arg3) = m ((c.tc : Thread Cert.KernelAdamUpB.nD Cert.KernelAdamUpB.τ).loc Cert.KernelAdamUpB.main_arg3)
      ∧ r.2.mem ((c.tc : Thread Cert.KernelAdamUpB.nD Cert.KernelAdamUpB.τ).loc Cert.KernelAdamUpB.main_arg4) = m ((c.tc : Thread Cert.KernelAdamUpB.nD Cert.KernelAdamUpB.τ).loc Cert.KernelAdamUpB.main_arg4)
      ∧ r.2.mem ((c.tc : Thread Cert.KernelAdamUpB.nD Cert.KernelAdamUpB.τ).loc Cert.KernelAdamUpB.main_arg5) = m ((c.tc : Thread Cert.KernelAdamUpB.nD Cert.KernelAdamUpB.τ).loc Cert.KernelAdamUpB.main_arg5))
      ∧ r.2.sem = fun _ => 0)

def quiescent_KernelAdamUpBIdeal [hKernelAdamUpBIdeal : Cert.KernelAdamUpBIdeal.Facts] : Prop :=
  ∀ (m : (ℓ : Loc Cert.KernelAdamUpBIdeal.nD Cert.KernelAdamUpBIdeal.τ Cert.KernelAdamUpBIdeal.sig) → Buf (Elt Ideal) ℓ) (g : Dev Cert.KernelAdamUpBIdeal.nD → PrngReg), Pre_KernelAdamUpBIdeal m →
    θ_run (Cert.KernelAdamUpBIdeal.defs (F := Ideal)) (onTc (τ := Cert.KernelAdamUpBIdeal.τ) (Cert.KernelAdamUpBIdeal.main (F := Ideal))) ⟨m, fun _ => 0, g⟩ (fun r => (∀ c : Dev Cert.KernelAdamUpBIdeal.nD,
      r.2.mem ((c.tc : Thread Cert.KernelAdamUpBIdeal.nD Cert.KernelAdamUpBIdeal.τ).loc Cert.KernelAdamUpBIdeal.main_arg0) = m ((c.tc : Thread Cert.KernelAdamUpBIdeal.nD Cert.KernelAdamUpBIdeal.τ).loc Cert.KernelAdamUpBIdeal.main_arg0)
      ∧ r.2.mem ((c.tc : Thread Cert.KernelAdamUpBIdeal.nD Cert.KernelAdamUpBIdeal.τ).loc Cert.KernelAdamUpBIdeal.main_arg1) = m ((c.tc : Thread Cert.KernelAdamUpBIdeal.nD Cert.KernelAdamUpBIdeal.τ).loc Cert.KernelAdamUpBIdeal.main_arg1)
      ∧ r.2.mem ((c.tc : Thread Cert.KernelAdamUpBIdeal.nD Cert.KernelAdamUpBIdeal.τ).loc Cert.KernelAdamUpBIdeal.main_arg2) = m ((c.tc : Thread Cert.KernelAdamUpBIdeal.nD Cert.KernelAdamUpBIdeal.τ).loc Cert.KernelAdamUpBIdeal.main_arg2)
      ∧ r.2.mem ((c.tc : Thread Cert.KernelAdamUpBIdeal.nD Cert.KernelAdamUpBIdeal.τ).loc Cert.KernelAdamUpBIdeal.main_arg3) = m ((c.tc : Thread Cert.KernelAdamUpBIdeal.nD Cert.KernelAdamUpBIdeal.τ).loc Cert.KernelAdamUpBIdeal.main_arg3)
      ∧ r.2.mem ((c.tc : Thread Cert.KernelAdamUpBIdeal.nD Cert.KernelAdamUpBIdeal.τ).loc Cert.KernelAdamUpBIdeal.main_arg4) = m ((c.tc : Thread Cert.KernelAdamUpBIdeal.nD Cert.KernelAdamUpBIdeal.τ).loc Cert.KernelAdamUpBIdeal.main_arg4)
      ∧ r.2.mem ((c.tc : Thread Cert.KernelAdamUpBIdeal.nD Cert.KernelAdamUpBIdeal.τ).loc Cert.KernelAdamUpBIdeal.main_arg5) = m ((c.tc : Thread Cert.KernelAdamUpBIdeal.nD Cert.KernelAdamUpBIdeal.τ).loc Cert.KernelAdamUpBIdeal.main_arg5))
      ∧ r.2.sem = fun _ => 0)

def quiescent_ReferenceAdamUpBIdeal [hReferenceAdamUpBIdeal : Cert.ReferenceAdamUpBIdeal.Facts] : Prop :=
  ∀ (m : (ℓ : Loc Cert.ReferenceAdamUpBIdeal.nD Cert.ReferenceAdamUpBIdeal.τ Cert.ReferenceAdamUpBIdeal.sig) → Buf (Elt Ideal) ℓ) (g : Dev Cert.ReferenceAdamUpBIdeal.nD → PrngReg), Pre_ReferenceAdamUpBIdeal m →
    θ_run (Cert.ReferenceAdamUpBIdeal.defs (F := Ideal)) (onTc (τ := Cert.ReferenceAdamUpBIdeal.τ) (Cert.ReferenceAdamUpBIdeal.main (F := Ideal))) ⟨m, fun _ => 0, g⟩ (fun r => (∀ c : Dev Cert.ReferenceAdamUpBIdeal.nD,
      r.2.mem ((c.tc : Thread Cert.ReferenceAdamUpBIdeal.nD Cert.ReferenceAdamUpBIdeal.τ).loc Cert.ReferenceAdamUpBIdeal.main_arg0) = m ((c.tc : Thread Cert.ReferenceAdamUpBIdeal.nD Cert.ReferenceAdamUpBIdeal.τ).loc Cert.ReferenceAdamUpBIdeal.main_arg0)
      ∧ r.2.mem ((c.tc : Thread Cert.ReferenceAdamUpBIdeal.nD Cert.ReferenceAdamUpBIdeal.τ).loc Cert.ReferenceAdamUpBIdeal.main_arg1) = m ((c.tc : Thread Cert.ReferenceAdamUpBIdeal.nD Cert.ReferenceAdamUpBIdeal.τ).loc Cert.ReferenceAdamUpBIdeal.main_arg1)
      ∧ r.2.mem ((c.tc : Thread Cert.ReferenceAdamUpBIdeal.nD Cert.ReferenceAdamUpBIdeal.τ).loc Cert.ReferenceAdamUpBIdeal.main_arg2) = m ((c.tc : Thread Cert.ReferenceAdamUpBIdeal.nD Cert.ReferenceAdamUpBIdeal.τ).loc Cert.ReferenceAdamUpBIdeal.main_arg2)
      ∧ r.2.mem ((c.tc : Thread Cert.ReferenceAdamUpBIdeal.nD Cert.ReferenceAdamUpBIdeal.τ).loc Cert.ReferenceAdamUpBIdeal.main_arg3) = m ((c.tc : Thread Cert.ReferenceAdamUpBIdeal.nD Cert.ReferenceAdamUpBIdeal.τ).loc Cert.ReferenceAdamUpBIdeal.main_arg3)
      ∧ r.2.mem ((c.tc : Thread Cert.ReferenceAdamUpBIdeal.nD Cert.ReferenceAdamUpBIdeal.τ).loc Cert.ReferenceAdamUpBIdeal.main_arg4) = m ((c.tc : Thread Cert.ReferenceAdamUpBIdeal.nD Cert.ReferenceAdamUpBIdeal.τ).loc Cert.ReferenceAdamUpBIdeal.main_arg4)
      ∧ r.2.mem ((c.tc : Thread Cert.ReferenceAdamUpBIdeal.nD Cert.ReferenceAdamUpBIdeal.τ).loc Cert.ReferenceAdamUpBIdeal.main_arg5) = m ((c.tc : Thread Cert.ReferenceAdamUpBIdeal.nD Cert.ReferenceAdamUpBIdeal.τ).loc Cert.ReferenceAdamUpBIdeal.main_arg5))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3)
      ∧ r.2.mem ((c.tc : Thread Cert.KernelAdamDown.nD Cert.KernelAdamDown.τ).loc Cert.KernelAdamDown.main_arg4) = m ((c.tc : Thread Cert.KernelAdamDown.nD Cert.KernelAdamDown.τ).loc Cert.KernelAdamDown.main_arg4))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
      ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3)
      ∧ r.2.mem ((c.tc : Thread Cert.ReferenceAdamDownIdeal.nD Cert.ReferenceAdamDownIdeal.τ).loc Cert.ReferenceAdamDownIdeal.main_arg4) = m ((c.tc : Thread Cert.ReferenceAdamDownIdeal.nD Cert.ReferenceAdamDownIdeal.τ).loc Cert.ReferenceAdamDownIdeal.main_arg4))
      ∧ r.2.sem = fun _ => 0)

def quiescent_KernelAdamDownB [hKernelAdamDownB : Cert.KernelAdamDownB.Facts] : Prop :=
  ∀ (m : (ℓ : Loc Cert.KernelAdamDownB.nD Cert.KernelAdamDownB.τ Cert.KernelAdamDownB.sig) → Buf (Elt Bits) ℓ) (g : Dev Cert.KernelAdamDownB.nD → PrngReg), Pre_KernelAdamDownB m →
    θ_run (Cert.KernelAdamDownB.defs (F := Bits)) (onTc (τ := Cert.KernelAdamDownB.τ) (Cert.KernelAdamDownB.main (F := Bits))) ⟨m, fun _ => 0, g⟩ (fun r => (∀ c : Dev Cert.KernelAdamDownB.nD,
      r.2.mem ((c.tc : Thread Cert.KernelAdamDownB.nD Cert.KernelAdamDownB.τ).loc Cert.KernelAdamDownB.main_arg0) = m ((c.tc : Thread Cert.KernelAdamDownB.nD Cert.KernelAdamDownB.τ).loc Cert.KernelAdamDownB.main_arg0)
      ∧ r.2.mem ((c.tc : Thread Cert.KernelAdamDownB.nD Cert.KernelAdamDownB.τ).loc Cert.KernelAdamDownB.main_arg1) = m ((c.tc : Thread Cert.KernelAdamDownB.nD Cert.KernelAdamDownB.τ).loc Cert.KernelAdamDownB.main_arg1)
      ∧ r.2.mem ((c.tc : Thread Cert.KernelAdamDownB.nD Cert.KernelAdamDownB.τ).loc Cert.KernelAdamDownB.main_arg2) = m ((c.tc : Thread Cert.KernelAdamDownB.nD Cert.KernelAdamDownB.τ).loc Cert.KernelAdamDownB.main_arg2)
      ∧ r.2.mem ((c.tc : Thread Cert.KernelAdamDownB.nD Cert.KernelAdamDownB.τ).loc Cert.KernelAdamDownB.main_arg3) = m ((c.tc : Thread Cert.KernelAdamDownB.nD Cert.KernelAdamDownB.τ).loc Cert.KernelAdamDownB.main_arg3)
      ∧ r.2.mem ((c.tc : Thread Cert.KernelAdamDownB.nD Cert.KernelAdamDownB.τ).loc Cert.KernelAdamDownB.main_arg4) = m ((c.tc : Thread Cert.KernelAdamDownB.nD Cert.KernelAdamDownB.τ).loc Cert.KernelAdamDownB.main_arg4)
      ∧ r.2.mem ((c.tc : Thread Cert.KernelAdamDownB.nD Cert.KernelAdamDownB.τ).loc Cert.KernelAdamDownB.main_arg5) = m ((c.tc : Thread Cert.KernelAdamDownB.nD Cert.KernelAdamDownB.τ).loc Cert.KernelAdamDownB.main_arg5))
      ∧ r.2.sem = fun _ => 0)

def quiescent_KernelAdamDownBIdeal [hKernelAdamDownBIdeal : Cert.KernelAdamDownBIdeal.Facts] : Prop :=
  ∀ (m : (ℓ : Loc Cert.KernelAdamDownBIdeal.nD Cert.KernelAdamDownBIdeal.τ Cert.KernelAdamDownBIdeal.sig) → Buf (Elt Ideal) ℓ) (g : Dev Cert.KernelAdamDownBIdeal.nD → PrngReg), Pre_KernelAdamDownBIdeal m →
    θ_run (Cert.KernelAdamDownBIdeal.defs (F := Ideal)) (onTc (τ := Cert.KernelAdamDownBIdeal.τ) (Cert.KernelAdamDownBIdeal.main (F := Ideal))) ⟨m, fun _ => 0, g⟩ (fun r => (∀ c : Dev Cert.KernelAdamDownBIdeal.nD,
      r.2.mem ((c.tc : Thread Cert.KernelAdamDownBIdeal.nD Cert.KernelAdamDownBIdeal.τ).loc Cert.KernelAdamDownBIdeal.main_arg0) = m ((c.tc : Thread Cert.KernelAdamDownBIdeal.nD Cert.KernelAdamDownBIdeal.τ).loc Cert.KernelAdamDownBIdeal.main_arg0)
      ∧ r.2.mem ((c.tc : Thread Cert.KernelAdamDownBIdeal.nD Cert.KernelAdamDownBIdeal.τ).loc Cert.KernelAdamDownBIdeal.main_arg1) = m ((c.tc : Thread Cert.KernelAdamDownBIdeal.nD Cert.KernelAdamDownBIdeal.τ).loc Cert.KernelAdamDownBIdeal.main_arg1)
      ∧ r.2.mem ((c.tc : Thread Cert.KernelAdamDownBIdeal.nD Cert.KernelAdamDownBIdeal.τ).loc Cert.KernelAdamDownBIdeal.main_arg2) = m ((c.tc : Thread Cert.KernelAdamDownBIdeal.nD Cert.KernelAdamDownBIdeal.τ).loc Cert.KernelAdamDownBIdeal.main_arg2)
      ∧ r.2.mem ((c.tc : Thread Cert.KernelAdamDownBIdeal.nD Cert.KernelAdamDownBIdeal.τ).loc Cert.KernelAdamDownBIdeal.main_arg3) = m ((c.tc : Thread Cert.KernelAdamDownBIdeal.nD Cert.KernelAdamDownBIdeal.τ).loc Cert.KernelAdamDownBIdeal.main_arg3)
      ∧ r.2.mem ((c.tc : Thread Cert.KernelAdamDownBIdeal.nD Cert.KernelAdamDownBIdeal.τ).loc Cert.KernelAdamDownBIdeal.main_arg4) = m ((c.tc : Thread Cert.KernelAdamDownBIdeal.nD Cert.KernelAdamDownBIdeal.τ).loc Cert.KernelAdamDownBIdeal.main_arg4)
      ∧ r.2.mem ((c.tc : Thread Cert.KernelAdamDownBIdeal.nD Cert.KernelAdamDownBIdeal.τ).loc Cert.KernelAdamDownBIdeal.main_arg5) = m ((c.tc : Thread Cert.KernelAdamDownBIdeal.nD Cert.KernelAdamDownBIdeal.τ).loc Cert.KernelAdamDownBIdeal.main_arg5))
      ∧ r.2.sem = fun _ => 0)

def quiescent_ReferenceAdamDownBIdeal [hReferenceAdamDownBIdeal : Cert.ReferenceAdamDownBIdeal.Facts] : Prop :=
  ∀ (m : (ℓ : Loc Cert.ReferenceAdamDownBIdeal.nD Cert.ReferenceAdamDownBIdeal.τ Cert.ReferenceAdamDownBIdeal.sig) → Buf (Elt Ideal) ℓ) (g : Dev Cert.ReferenceAdamDownBIdeal.nD → PrngReg), Pre_ReferenceAdamDownBIdeal m →
    θ_run (Cert.ReferenceAdamDownBIdeal.defs (F := Ideal)) (onTc (τ := Cert.ReferenceAdamDownBIdeal.τ) (Cert.ReferenceAdamDownBIdeal.main (F := Ideal))) ⟨m, fun _ => 0, g⟩ (fun r => (∀ c : Dev Cert.ReferenceAdamDownBIdeal.nD,
      r.2.mem ((c.tc : Thread Cert.ReferenceAdamDownBIdeal.nD Cert.ReferenceAdamDownBIdeal.τ).loc Cert.ReferenceAdamDownBIdeal.main_arg0) = m ((c.tc : Thread Cert.ReferenceAdamDownBIdeal.nD Cert.ReferenceAdamDownBIdeal.τ).loc Cert.ReferenceAdamDownBIdeal.main_arg0)
      ∧ r.2.mem ((c.tc : Thread Cert.ReferenceAdamDownBIdeal.nD Cert.ReferenceAdamDownBIdeal.τ).loc Cert.ReferenceAdamDownBIdeal.main_arg1) = m ((c.tc : Thread Cert.ReferenceAdamDownBIdeal.nD Cert.ReferenceAdamDownBIdeal.τ).loc Cert.ReferenceAdamDownBIdeal.main_arg1)
      ∧ r.2.mem ((c.tc : Thread Cert.ReferenceAdamDownBIdeal.nD Cert.ReferenceAdamDownBIdeal.τ).loc Cert.ReferenceAdamDownBIdeal.main_arg2) = m ((c.tc : Thread Cert.ReferenceAdamDownBIdeal.nD Cert.ReferenceAdamDownBIdeal.τ).loc Cert.ReferenceAdamDownBIdeal.main_arg2)
      ∧ r.2.mem ((c.tc : Thread Cert.ReferenceAdamDownBIdeal.nD Cert.ReferenceAdamDownBIdeal.τ).loc Cert.ReferenceAdamDownBIdeal.main_arg3) = m ((c.tc : Thread Cert.ReferenceAdamDownBIdeal.nD Cert.ReferenceAdamDownBIdeal.τ).loc Cert.ReferenceAdamDownBIdeal.main_arg3)
      ∧ r.2.mem ((c.tc : Thread Cert.ReferenceAdamDownBIdeal.nD Cert.ReferenceAdamDownBIdeal.τ).loc Cert.ReferenceAdamDownBIdeal.main_arg4) = m ((c.tc : Thread Cert.ReferenceAdamDownBIdeal.nD Cert.ReferenceAdamDownBIdeal.τ).loc Cert.ReferenceAdamDownBIdeal.main_arg4)
      ∧ r.2.mem ((c.tc : Thread Cert.ReferenceAdamDownBIdeal.nD Cert.ReferenceAdamDownBIdeal.τ).loc Cert.ReferenceAdamDownBIdeal.main_arg5) = m ((c.tc : Thread Cert.ReferenceAdamDownBIdeal.nD Cert.ReferenceAdamDownBIdeal.τ).loc Cert.ReferenceAdamDownBIdeal.main_arg5))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3)
      ∧ r.2.mem ((c.tc : Thread Cert.KernelAdamIn.nD Cert.KernelAdamIn.τ).loc Cert.KernelAdamIn.main_arg4) = m ((c.tc : Thread Cert.KernelAdamIn.nD Cert.KernelAdamIn.τ).loc Cert.KernelAdamIn.main_arg4)
      ∧ r.2.mem ((c.tc : Thread Cert.KernelAdamIn.nD Cert.KernelAdamIn.τ).loc Cert.KernelAdamIn.main_arg5) = m ((c.tc : Thread Cert.KernelAdamIn.nD Cert.KernelAdamIn.τ).loc Cert.KernelAdamIn.main_arg5))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
      ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4)
      ∧ r.2.mem ((c.tc : Thread Cert.KernelAdamInIdeal.nD Cert.KernelAdamInIdeal.τ).loc Cert.KernelAdamInIdeal.main_arg5) = m ((c.tc : Thread Cert.KernelAdamInIdeal.nD Cert.KernelAdamInIdeal.τ).loc Cert.KernelAdamInIdeal.main_arg5))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3)
      ∧ r.2.mem ((c.tc : Thread Cert.ReferenceAdamInIdeal.nD Cert.ReferenceAdamInIdeal.τ).loc Cert.ReferenceAdamInIdeal.main_arg4) = m ((c.tc : Thread Cert.ReferenceAdamInIdeal.nD Cert.ReferenceAdamInIdeal.τ).loc Cert.ReferenceAdamInIdeal.main_arg4)
      ∧ r.2.mem ((c.tc : Thread Cert.ReferenceAdamInIdeal.nD Cert.ReferenceAdamInIdeal.τ).loc Cert.ReferenceAdamInIdeal.main_arg5) = m ((c.tc : Thread Cert.ReferenceAdamInIdeal.nD Cert.ReferenceAdamInIdeal.τ).loc Cert.ReferenceAdamInIdeal.main_arg5))
      ∧ r.2.sem = fun _ => 0)

def quiescent_KernelAdamO [hKernelAdamO : Cert.KernelAdamO.Facts] : Prop :=
  ∀ (m : (ℓ : Loc Cert.KernelAdamO.nD Cert.KernelAdamO.τ Cert.KernelAdamO.sig) → Buf (Elt Bits) ℓ) (g : Dev Cert.KernelAdamO.nD → PrngReg), Pre_KernelAdamO m →
    θ_run (Cert.KernelAdamO.defs (F := Bits)) (onTc (τ := Cert.KernelAdamO.τ) (Cert.KernelAdamO.main (F := Bits))) ⟨m, fun _ => 0, g⟩ (fun r => (∀ c : Dev Cert.KernelAdamO.nD,
      r.2.mem ((c.tc : Thread Cert.KernelAdamO.nD Cert.KernelAdamO.τ).loc Cert.KernelAdamO.main_arg0) = m ((c.tc : Thread Cert.KernelAdamO.nD Cert.KernelAdamO.τ).loc Cert.KernelAdamO.main_arg0)
      ∧ r.2.mem ((c.tc : Thread Cert.KernelAdamO.nD Cert.KernelAdamO.τ).loc Cert.KernelAdamO.main_arg1) = m ((c.tc : Thread Cert.KernelAdamO.nD Cert.KernelAdamO.τ).loc Cert.KernelAdamO.main_arg1)
      ∧ r.2.mem ((c.tc : Thread Cert.KernelAdamO.nD Cert.KernelAdamO.τ).loc Cert.KernelAdamO.main_arg2) = m ((c.tc : Thread Cert.KernelAdamO.nD Cert.KernelAdamO.τ).loc Cert.KernelAdamO.main_arg2)
      ∧ r.2.mem ((c.tc : Thread Cert.KernelAdamO.nD Cert.KernelAdamO.τ).loc Cert.KernelAdamO.main_arg3) = m ((c.tc : Thread Cert.KernelAdamO.nD Cert.KernelAdamO.τ).loc Cert.KernelAdamO.main_arg3)
      ∧ r.2.mem ((c.tc : Thread Cert.KernelAdamO.nD Cert.KernelAdamO.τ).loc Cert.KernelAdamO.main_arg4) = m ((c.tc : Thread Cert.KernelAdamO.nD Cert.KernelAdamO.τ).loc Cert.KernelAdamO.main_arg4)
      ∧ r.2.mem ((c.tc : Thread Cert.KernelAdamO.nD Cert.KernelAdamO.τ).loc Cert.KernelAdamO.main_arg5) = m ((c.tc : Thread Cert.KernelAdamO.nD Cert.KernelAdamO.τ).loc Cert.KernelAdamO.main_arg5))
      ∧ r.2.sem = fun _ => 0)

def quiescent_KernelAdamOIdeal [hKernelAdamOIdeal : Cert.KernelAdamOIdeal.Facts] : Prop :=
  ∀ (m : (ℓ : Loc Cert.KernelAdamOIdeal.nD Cert.KernelAdamOIdeal.τ Cert.KernelAdamOIdeal.sig) → Buf (Elt Ideal) ℓ) (g : Dev Cert.KernelAdamOIdeal.nD → PrngReg), Pre_KernelAdamOIdeal m →
    θ_run (Cert.KernelAdamOIdeal.defs (F := Ideal)) (onTc (τ := Cert.KernelAdamOIdeal.τ) (Cert.KernelAdamOIdeal.main (F := Ideal))) ⟨m, fun _ => 0, g⟩ (fun r => (∀ c : Dev Cert.KernelAdamOIdeal.nD,
      r.2.mem ((c.tc : Thread Cert.KernelAdamOIdeal.nD Cert.KernelAdamOIdeal.τ).loc Cert.KernelAdamOIdeal.main_arg0) = m ((c.tc : Thread Cert.KernelAdamOIdeal.nD Cert.KernelAdamOIdeal.τ).loc Cert.KernelAdamOIdeal.main_arg0)
      ∧ r.2.mem ((c.tc : Thread Cert.KernelAdamOIdeal.nD Cert.KernelAdamOIdeal.τ).loc Cert.KernelAdamOIdeal.main_arg1) = m ((c.tc : Thread Cert.KernelAdamOIdeal.nD Cert.KernelAdamOIdeal.τ).loc Cert.KernelAdamOIdeal.main_arg1)
      ∧ r.2.mem ((c.tc : Thread Cert.KernelAdamOIdeal.nD Cert.KernelAdamOIdeal.τ).loc Cert.KernelAdamOIdeal.main_arg2) = m ((c.tc : Thread Cert.KernelAdamOIdeal.nD Cert.KernelAdamOIdeal.τ).loc Cert.KernelAdamOIdeal.main_arg2)
      ∧ r.2.mem ((c.tc : Thread Cert.KernelAdamOIdeal.nD Cert.KernelAdamOIdeal.τ).loc Cert.KernelAdamOIdeal.main_arg3) = m ((c.tc : Thread Cert.KernelAdamOIdeal.nD Cert.KernelAdamOIdeal.τ).loc Cert.KernelAdamOIdeal.main_arg3)
      ∧ r.2.mem ((c.tc : Thread Cert.KernelAdamOIdeal.nD Cert.KernelAdamOIdeal.τ).loc Cert.KernelAdamOIdeal.main_arg4) = m ((c.tc : Thread Cert.KernelAdamOIdeal.nD Cert.KernelAdamOIdeal.τ).loc Cert.KernelAdamOIdeal.main_arg4)
      ∧ r.2.mem ((c.tc : Thread Cert.KernelAdamOIdeal.nD Cert.KernelAdamOIdeal.τ).loc Cert.KernelAdamOIdeal.main_arg5) = m ((c.tc : Thread Cert.KernelAdamOIdeal.nD Cert.KernelAdamOIdeal.τ).loc Cert.KernelAdamOIdeal.main_arg5))
      ∧ r.2.sem = fun _ => 0)

def quiescent_ReferenceAdamOIdeal [hReferenceAdamOIdeal : Cert.ReferenceAdamOIdeal.Facts] : Prop :=
  ∀ (m : (ℓ : Loc Cert.ReferenceAdamOIdeal.nD Cert.ReferenceAdamOIdeal.τ Cert.ReferenceAdamOIdeal.sig) → Buf (Elt Ideal) ℓ) (g : Dev Cert.ReferenceAdamOIdeal.nD → PrngReg), Pre_ReferenceAdamOIdeal m →
    θ_run (Cert.ReferenceAdamOIdeal.defs (F := Ideal)) (onTc (τ := Cert.ReferenceAdamOIdeal.τ) (Cert.ReferenceAdamOIdeal.main (F := Ideal))) ⟨m, fun _ => 0, g⟩ (fun r => (∀ c : Dev Cert.ReferenceAdamOIdeal.nD,
      r.2.mem ((c.tc : Thread Cert.ReferenceAdamOIdeal.nD Cert.ReferenceAdamOIdeal.τ).loc Cert.ReferenceAdamOIdeal.main_arg0) = m ((c.tc : Thread Cert.ReferenceAdamOIdeal.nD Cert.ReferenceAdamOIdeal.τ).loc Cert.ReferenceAdamOIdeal.main_arg0)
      ∧ r.2.mem ((c.tc : Thread Cert.ReferenceAdamOIdeal.nD Cert.ReferenceAdamOIdeal.τ).loc Cert.ReferenceAdamOIdeal.main_arg1) = m ((c.tc : Thread Cert.ReferenceAdamOIdeal.nD Cert.ReferenceAdamOIdeal.τ).loc Cert.ReferenceAdamOIdeal.main_arg1)
      ∧ r.2.mem ((c.tc : Thread Cert.ReferenceAdamOIdeal.nD Cert.ReferenceAdamOIdeal.τ).loc Cert.ReferenceAdamOIdeal.main_arg2) = m ((c.tc : Thread Cert.ReferenceAdamOIdeal.nD Cert.ReferenceAdamOIdeal.τ).loc Cert.ReferenceAdamOIdeal.main_arg2)
      ∧ r.2.mem ((c.tc : Thread Cert.ReferenceAdamOIdeal.nD Cert.ReferenceAdamOIdeal.τ).loc Cert.ReferenceAdamOIdeal.main_arg3) = m ((c.tc : Thread Cert.ReferenceAdamOIdeal.nD Cert.ReferenceAdamOIdeal.τ).loc Cert.ReferenceAdamOIdeal.main_arg3)
      ∧ r.2.mem ((c.tc : Thread Cert.ReferenceAdamOIdeal.nD Cert.ReferenceAdamOIdeal.τ).loc Cert.ReferenceAdamOIdeal.main_arg4) = m ((c.tc : Thread Cert.ReferenceAdamOIdeal.nD Cert.ReferenceAdamOIdeal.τ).loc Cert.ReferenceAdamOIdeal.main_arg4)
      ∧ r.2.mem ((c.tc : Thread Cert.ReferenceAdamOIdeal.nD Cert.ReferenceAdamOIdeal.τ).loc Cert.ReferenceAdamOIdeal.main_arg5) = m ((c.tc : Thread Cert.ReferenceAdamOIdeal.nD Cert.ReferenceAdamOIdeal.τ).loc Cert.ReferenceAdamOIdeal.main_arg5))
      ∧ r.2.sem = fun _ => 0)

def quiescent_KernelAdamUq [hKernelAdamUq : Cert.KernelAdamUq.Facts] : Prop :=
  ∀ (m : (ℓ : Loc Cert.KernelAdamUq.nD Cert.KernelAdamUq.τ Cert.KernelAdamUq.sig) → Buf (Elt Bits) ℓ) (g : Dev Cert.KernelAdamUq.nD → PrngReg), Pre_KernelAdamUq m →
    θ_run (Cert.KernelAdamUq.defs (F := Bits)) (onTc (τ := Cert.KernelAdamUq.τ) (Cert.KernelAdamUq.main (F := Bits))) ⟨m, fun _ => 0, g⟩ (fun r => (∀ c : Dev Cert.KernelAdamUq.nD,
      r.2.mem ((c.tc : Thread Cert.KernelAdamUq.nD Cert.KernelAdamUq.τ).loc Cert.KernelAdamUq.main_arg0) = m ((c.tc : Thread Cert.KernelAdamUq.nD Cert.KernelAdamUq.τ).loc Cert.KernelAdamUq.main_arg0)
      ∧ r.2.mem ((c.tc : Thread Cert.KernelAdamUq.nD Cert.KernelAdamUq.τ).loc Cert.KernelAdamUq.main_arg1) = m ((c.tc : Thread Cert.KernelAdamUq.nD Cert.KernelAdamUq.τ).loc Cert.KernelAdamUq.main_arg1)
      ∧ r.2.mem ((c.tc : Thread Cert.KernelAdamUq.nD Cert.KernelAdamUq.τ).loc Cert.KernelAdamUq.main_arg2) = m ((c.tc : Thread Cert.KernelAdamUq.nD Cert.KernelAdamUq.τ).loc Cert.KernelAdamUq.main_arg2)
      ∧ r.2.mem ((c.tc : Thread Cert.KernelAdamUq.nD Cert.KernelAdamUq.τ).loc Cert.KernelAdamUq.main_arg3) = m ((c.tc : Thread Cert.KernelAdamUq.nD Cert.KernelAdamUq.τ).loc Cert.KernelAdamUq.main_arg3)
      ∧ r.2.mem ((c.tc : Thread Cert.KernelAdamUq.nD Cert.KernelAdamUq.τ).loc Cert.KernelAdamUq.main_arg4) = m ((c.tc : Thread Cert.KernelAdamUq.nD Cert.KernelAdamUq.τ).loc Cert.KernelAdamUq.main_arg4)
      ∧ r.2.mem ((c.tc : Thread Cert.KernelAdamUq.nD Cert.KernelAdamUq.τ).loc Cert.KernelAdamUq.main_arg5) = m ((c.tc : Thread Cert.KernelAdamUq.nD Cert.KernelAdamUq.τ).loc Cert.KernelAdamUq.main_arg5))
      ∧ r.2.sem = fun _ => 0)

def quiescent_KernelAdamUqIdeal [hKernelAdamUqIdeal : Cert.KernelAdamUqIdeal.Facts] : Prop :=
  ∀ (m : (ℓ : Loc Cert.KernelAdamUqIdeal.nD Cert.KernelAdamUqIdeal.τ Cert.KernelAdamUqIdeal.sig) → Buf (Elt Ideal) ℓ) (g : Dev Cert.KernelAdamUqIdeal.nD → PrngReg), Pre_KernelAdamUqIdeal m →
    θ_run (Cert.KernelAdamUqIdeal.defs (F := Ideal)) (onTc (τ := Cert.KernelAdamUqIdeal.τ) (Cert.KernelAdamUqIdeal.main (F := Ideal))) ⟨m, fun _ => 0, g⟩ (fun r => (∀ c : Dev Cert.KernelAdamUqIdeal.nD,
      r.2.mem ((c.tc : Thread Cert.KernelAdamUqIdeal.nD Cert.KernelAdamUqIdeal.τ).loc Cert.KernelAdamUqIdeal.main_arg0) = m ((c.tc : Thread Cert.KernelAdamUqIdeal.nD Cert.KernelAdamUqIdeal.τ).loc Cert.KernelAdamUqIdeal.main_arg0)
      ∧ r.2.mem ((c.tc : Thread Cert.KernelAdamUqIdeal.nD Cert.KernelAdamUqIdeal.τ).loc Cert.KernelAdamUqIdeal.main_arg1) = m ((c.tc : Thread Cert.KernelAdamUqIdeal.nD Cert.KernelAdamUqIdeal.τ).loc Cert.KernelAdamUqIdeal.main_arg1)
      ∧ r.2.mem ((c.tc : Thread Cert.KernelAdamUqIdeal.nD Cert.KernelAdamUqIdeal.τ).loc Cert.KernelAdamUqIdeal.main_arg2) = m ((c.tc : Thread Cert.KernelAdamUqIdeal.nD Cert.KernelAdamUqIdeal.τ).loc Cert.KernelAdamUqIdeal.main_arg2)
      ∧ r.2.mem ((c.tc : Thread Cert.KernelAdamUqIdeal.nD Cert.KernelAdamUqIdeal.τ).loc Cert.KernelAdamUqIdeal.main_arg3) = m ((c.tc : Thread Cert.KernelAdamUqIdeal.nD Cert.KernelAdamUqIdeal.τ).loc Cert.KernelAdamUqIdeal.main_arg3)
      ∧ r.2.mem ((c.tc : Thread Cert.KernelAdamUqIdeal.nD Cert.KernelAdamUqIdeal.τ).loc Cert.KernelAdamUqIdeal.main_arg4) = m ((c.tc : Thread Cert.KernelAdamUqIdeal.nD Cert.KernelAdamUqIdeal.τ).loc Cert.KernelAdamUqIdeal.main_arg4)
      ∧ r.2.mem ((c.tc : Thread Cert.KernelAdamUqIdeal.nD Cert.KernelAdamUqIdeal.τ).loc Cert.KernelAdamUqIdeal.main_arg5) = m ((c.tc : Thread Cert.KernelAdamUqIdeal.nD Cert.KernelAdamUqIdeal.τ).loc Cert.KernelAdamUqIdeal.main_arg5))
      ∧ r.2.sem = fun _ => 0)

def quiescent_ReferenceAdamUqIdeal [hReferenceAdamUqIdeal : Cert.ReferenceAdamUqIdeal.Facts] : Prop :=
  ∀ (m : (ℓ : Loc Cert.ReferenceAdamUqIdeal.nD Cert.ReferenceAdamUqIdeal.τ Cert.ReferenceAdamUqIdeal.sig) → Buf (Elt Ideal) ℓ) (g : Dev Cert.ReferenceAdamUqIdeal.nD → PrngReg), Pre_ReferenceAdamUqIdeal m →
    θ_run (Cert.ReferenceAdamUqIdeal.defs (F := Ideal)) (onTc (τ := Cert.ReferenceAdamUqIdeal.τ) (Cert.ReferenceAdamUqIdeal.main (F := Ideal))) ⟨m, fun _ => 0, g⟩ (fun r => (∀ c : Dev Cert.ReferenceAdamUqIdeal.nD,
      r.2.mem ((c.tc : Thread Cert.ReferenceAdamUqIdeal.nD Cert.ReferenceAdamUqIdeal.τ).loc Cert.ReferenceAdamUqIdeal.main_arg0) = m ((c.tc : Thread Cert.ReferenceAdamUqIdeal.nD Cert.ReferenceAdamUqIdeal.τ).loc Cert.ReferenceAdamUqIdeal.main_arg0)
      ∧ r.2.mem ((c.tc : Thread Cert.ReferenceAdamUqIdeal.nD Cert.ReferenceAdamUqIdeal.τ).loc Cert.ReferenceAdamUqIdeal.main_arg1) = m ((c.tc : Thread Cert.ReferenceAdamUqIdeal.nD Cert.ReferenceAdamUqIdeal.τ).loc Cert.ReferenceAdamUqIdeal.main_arg1)
      ∧ r.2.mem ((c.tc : Thread Cert.ReferenceAdamUqIdeal.nD Cert.ReferenceAdamUqIdeal.τ).loc Cert.ReferenceAdamUqIdeal.main_arg2) = m ((c.tc : Thread Cert.ReferenceAdamUqIdeal.nD Cert.ReferenceAdamUqIdeal.τ).loc Cert.ReferenceAdamUqIdeal.main_arg2)
      ∧ r.2.mem ((c.tc : Thread Cert.ReferenceAdamUqIdeal.nD Cert.ReferenceAdamUqIdeal.τ).loc Cert.ReferenceAdamUqIdeal.main_arg3) = m ((c.tc : Thread Cert.ReferenceAdamUqIdeal.nD Cert.ReferenceAdamUqIdeal.τ).loc Cert.ReferenceAdamUqIdeal.main_arg3)
      ∧ r.2.mem ((c.tc : Thread Cert.ReferenceAdamUqIdeal.nD Cert.ReferenceAdamUqIdeal.τ).loc Cert.ReferenceAdamUqIdeal.main_arg4) = m ((c.tc : Thread Cert.ReferenceAdamUqIdeal.nD Cert.ReferenceAdamUqIdeal.τ).loc Cert.ReferenceAdamUqIdeal.main_arg4)
      ∧ r.2.mem ((c.tc : Thread Cert.ReferenceAdamUqIdeal.nD Cert.ReferenceAdamUqIdeal.τ).loc Cert.ReferenceAdamUqIdeal.main_arg5) = m ((c.tc : Thread Cert.ReferenceAdamUqIdeal.nD Cert.ReferenceAdamUqIdeal.τ).loc Cert.ReferenceAdamUqIdeal.main_arg5))
      ∧ r.2.sem = fun _ => 0)

def quiescent_KernelAdamUkv [hKernelAdamUkv : Cert.KernelAdamUkv.Facts] : Prop :=
  ∀ (m : (ℓ : Loc Cert.KernelAdamUkv.nD Cert.KernelAdamUkv.τ Cert.KernelAdamUkv.sig) → Buf (Elt Bits) ℓ) (g : Dev Cert.KernelAdamUkv.nD → PrngReg), Pre_KernelAdamUkv m →
    θ_run (Cert.KernelAdamUkv.defs (F := Bits)) (onTc (τ := Cert.KernelAdamUkv.τ) (Cert.KernelAdamUkv.main (F := Bits))) ⟨m, fun _ => 0, g⟩ (fun r => (∀ c : Dev Cert.KernelAdamUkv.nD,
      r.2.mem ((c.tc : Thread Cert.KernelAdamUkv.nD Cert.KernelAdamUkv.τ).loc Cert.KernelAdamUkv.main_arg0) = m ((c.tc : Thread Cert.KernelAdamUkv.nD Cert.KernelAdamUkv.τ).loc Cert.KernelAdamUkv.main_arg0)
      ∧ r.2.mem ((c.tc : Thread Cert.KernelAdamUkv.nD Cert.KernelAdamUkv.τ).loc Cert.KernelAdamUkv.main_arg1) = m ((c.tc : Thread Cert.KernelAdamUkv.nD Cert.KernelAdamUkv.τ).loc Cert.KernelAdamUkv.main_arg1)
      ∧ r.2.mem ((c.tc : Thread Cert.KernelAdamUkv.nD Cert.KernelAdamUkv.τ).loc Cert.KernelAdamUkv.main_arg2) = m ((c.tc : Thread Cert.KernelAdamUkv.nD Cert.KernelAdamUkv.τ).loc Cert.KernelAdamUkv.main_arg2)
      ∧ r.2.mem ((c.tc : Thread Cert.KernelAdamUkv.nD Cert.KernelAdamUkv.τ).loc Cert.KernelAdamUkv.main_arg3) = m ((c.tc : Thread Cert.KernelAdamUkv.nD Cert.KernelAdamUkv.τ).loc Cert.KernelAdamUkv.main_arg3)
      ∧ r.2.mem ((c.tc : Thread Cert.KernelAdamUkv.nD Cert.KernelAdamUkv.τ).loc Cert.KernelAdamUkv.main_arg4) = m ((c.tc : Thread Cert.KernelAdamUkv.nD Cert.KernelAdamUkv.τ).loc Cert.KernelAdamUkv.main_arg4)
      ∧ r.2.mem ((c.tc : Thread Cert.KernelAdamUkv.nD Cert.KernelAdamUkv.τ).loc Cert.KernelAdamUkv.main_arg5) = m ((c.tc : Thread Cert.KernelAdamUkv.nD Cert.KernelAdamUkv.τ).loc Cert.KernelAdamUkv.main_arg5))
      ∧ r.2.sem = fun _ => 0)

def quiescent_KernelAdamUkvIdeal [hKernelAdamUkvIdeal : Cert.KernelAdamUkvIdeal.Facts] : Prop :=
  ∀ (m : (ℓ : Loc Cert.KernelAdamUkvIdeal.nD Cert.KernelAdamUkvIdeal.τ Cert.KernelAdamUkvIdeal.sig) → Buf (Elt Ideal) ℓ) (g : Dev Cert.KernelAdamUkvIdeal.nD → PrngReg), Pre_KernelAdamUkvIdeal m →
    θ_run (Cert.KernelAdamUkvIdeal.defs (F := Ideal)) (onTc (τ := Cert.KernelAdamUkvIdeal.τ) (Cert.KernelAdamUkvIdeal.main (F := Ideal))) ⟨m, fun _ => 0, g⟩ (fun r => (∀ c : Dev Cert.KernelAdamUkvIdeal.nD,
      r.2.mem ((c.tc : Thread Cert.KernelAdamUkvIdeal.nD Cert.KernelAdamUkvIdeal.τ).loc Cert.KernelAdamUkvIdeal.main_arg0) = m ((c.tc : Thread Cert.KernelAdamUkvIdeal.nD Cert.KernelAdamUkvIdeal.τ).loc Cert.KernelAdamUkvIdeal.main_arg0)
      ∧ r.2.mem ((c.tc : Thread Cert.KernelAdamUkvIdeal.nD Cert.KernelAdamUkvIdeal.τ).loc Cert.KernelAdamUkvIdeal.main_arg1) = m ((c.tc : Thread Cert.KernelAdamUkvIdeal.nD Cert.KernelAdamUkvIdeal.τ).loc Cert.KernelAdamUkvIdeal.main_arg1)
      ∧ r.2.mem ((c.tc : Thread Cert.KernelAdamUkvIdeal.nD Cert.KernelAdamUkvIdeal.τ).loc Cert.KernelAdamUkvIdeal.main_arg2) = m ((c.tc : Thread Cert.KernelAdamUkvIdeal.nD Cert.KernelAdamUkvIdeal.τ).loc Cert.KernelAdamUkvIdeal.main_arg2)
      ∧ r.2.mem ((c.tc : Thread Cert.KernelAdamUkvIdeal.nD Cert.KernelAdamUkvIdeal.τ).loc Cert.KernelAdamUkvIdeal.main_arg3) = m ((c.tc : Thread Cert.KernelAdamUkvIdeal.nD Cert.KernelAdamUkvIdeal.τ).loc Cert.KernelAdamUkvIdeal.main_arg3)
      ∧ r.2.mem ((c.tc : Thread Cert.KernelAdamUkvIdeal.nD Cert.KernelAdamUkvIdeal.τ).loc Cert.KernelAdamUkvIdeal.main_arg4) = m ((c.tc : Thread Cert.KernelAdamUkvIdeal.nD Cert.KernelAdamUkvIdeal.τ).loc Cert.KernelAdamUkvIdeal.main_arg4)
      ∧ r.2.mem ((c.tc : Thread Cert.KernelAdamUkvIdeal.nD Cert.KernelAdamUkvIdeal.τ).loc Cert.KernelAdamUkvIdeal.main_arg5) = m ((c.tc : Thread Cert.KernelAdamUkvIdeal.nD Cert.KernelAdamUkvIdeal.τ).loc Cert.KernelAdamUkvIdeal.main_arg5))
      ∧ r.2.sem = fun _ => 0)

def quiescent_ReferenceAdamUkvIdeal [hReferenceAdamUkvIdeal : Cert.ReferenceAdamUkvIdeal.Facts] : Prop :=
  ∀ (m : (ℓ : Loc Cert.ReferenceAdamUkvIdeal.nD Cert.ReferenceAdamUkvIdeal.τ Cert.ReferenceAdamUkvIdeal.sig) → Buf (Elt Ideal) ℓ) (g : Dev Cert.ReferenceAdamUkvIdeal.nD → PrngReg), Pre_ReferenceAdamUkvIdeal m →
    θ_run (Cert.ReferenceAdamUkvIdeal.defs (F := Ideal)) (onTc (τ := Cert.ReferenceAdamUkvIdeal.τ) (Cert.ReferenceAdamUkvIdeal.main (F := Ideal))) ⟨m, fun _ => 0, g⟩ (fun r => (∀ c : Dev Cert.ReferenceAdamUkvIdeal.nD,
      r.2.mem ((c.tc : Thread Cert.ReferenceAdamUkvIdeal.nD Cert.ReferenceAdamUkvIdeal.τ).loc Cert.ReferenceAdamUkvIdeal.main_arg0) = m ((c.tc : Thread Cert.ReferenceAdamUkvIdeal.nD Cert.ReferenceAdamUkvIdeal.τ).loc Cert.ReferenceAdamUkvIdeal.main_arg0)
      ∧ r.2.mem ((c.tc : Thread Cert.ReferenceAdamUkvIdeal.nD Cert.ReferenceAdamUkvIdeal.τ).loc Cert.ReferenceAdamUkvIdeal.main_arg1) = m ((c.tc : Thread Cert.ReferenceAdamUkvIdeal.nD Cert.ReferenceAdamUkvIdeal.τ).loc Cert.ReferenceAdamUkvIdeal.main_arg1)
      ∧ r.2.mem ((c.tc : Thread Cert.ReferenceAdamUkvIdeal.nD Cert.ReferenceAdamUkvIdeal.τ).loc Cert.ReferenceAdamUkvIdeal.main_arg2) = m ((c.tc : Thread Cert.ReferenceAdamUkvIdeal.nD Cert.ReferenceAdamUkvIdeal.τ).loc Cert.ReferenceAdamUkvIdeal.main_arg2)
      ∧ r.2.mem ((c.tc : Thread Cert.ReferenceAdamUkvIdeal.nD Cert.ReferenceAdamUkvIdeal.τ).loc Cert.ReferenceAdamUkvIdeal.main_arg3) = m ((c.tc : Thread Cert.ReferenceAdamUkvIdeal.nD Cert.ReferenceAdamUkvIdeal.τ).loc Cert.ReferenceAdamUkvIdeal.main_arg3)
      ∧ r.2.mem ((c.tc : Thread Cert.ReferenceAdamUkvIdeal.nD Cert.ReferenceAdamUkvIdeal.τ).loc Cert.ReferenceAdamUkvIdeal.main_arg4) = m ((c.tc : Thread Cert.ReferenceAdamUkvIdeal.nD Cert.ReferenceAdamUkvIdeal.τ).loc Cert.ReferenceAdamUkvIdeal.main_arg4)
      ∧ r.2.mem ((c.tc : Thread Cert.ReferenceAdamUkvIdeal.nD Cert.ReferenceAdamUkvIdeal.τ).loc Cert.ReferenceAdamUkvIdeal.main_arg5) = m ((c.tc : Thread Cert.ReferenceAdamUkvIdeal.nD Cert.ReferenceAdamUkvIdeal.τ).loc Cert.ReferenceAdamUkvIdeal.main_arg5))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3)
      ∧ r.2.mem ((c.tc : Thread Cert.KernelAdamOut.nD Cert.KernelAdamOut.τ).loc Cert.KernelAdamOut.main_arg4) = m ((c.tc : Thread Cert.KernelAdamOut.nD Cert.KernelAdamOut.τ).loc Cert.KernelAdamOut.main_arg4)
      ∧ r.2.mem ((c.tc : Thread Cert.KernelAdamOut.nD Cert.KernelAdamOut.τ).loc Cert.KernelAdamOut.main_arg5) = m ((c.tc : Thread Cert.KernelAdamOut.nD Cert.KernelAdamOut.τ).loc Cert.KernelAdamOut.main_arg5))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
      ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4)
      ∧ r.2.mem ((c.tc : Thread Cert.KernelAdamOutIdeal.nD Cert.KernelAdamOutIdeal.τ).loc Cert.KernelAdamOutIdeal.main_arg5) = m ((c.tc : Thread Cert.KernelAdamOutIdeal.nD Cert.KernelAdamOutIdeal.τ).loc Cert.KernelAdamOutIdeal.main_arg5))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3)
      ∧ r.2.mem ((c.tc : Thread Cert.ReferenceAdamOutIdeal.nD Cert.ReferenceAdamOutIdeal.τ).loc Cert.ReferenceAdamOutIdeal.main_arg4) = m ((c.tc : Thread Cert.ReferenceAdamOutIdeal.nD Cert.ReferenceAdamOutIdeal.τ).loc Cert.ReferenceAdamOutIdeal.main_arg4)
      ∧ r.2.mem ((c.tc : Thread Cert.ReferenceAdamOutIdeal.nD Cert.ReferenceAdamOutIdeal.τ).loc Cert.ReferenceAdamOutIdeal.main_arg5) = m ((c.tc : Thread Cert.ReferenceAdamOutIdeal.nD Cert.ReferenceAdamOutIdeal.τ).loc Cert.ReferenceAdamOutIdeal.main_arg5))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelDnorm [hKernelDnorm : Cert.KernelDnorm.Facts] : Prop :=
  ∀ (m : (ℓ : Loc Cert.KernelDnorm.nD Cert.KernelDnorm.τ Cert.KernelDnorm.sig) → Buf (Elt Bits) ℓ) (g : Dev Cert.KernelDnorm.nD → PrngReg), Pre_KernelDnorm m →
    θ_run (Cert.KernelDnorm.defs (F := Bits)) (onTc (τ := Cert.KernelDnorm.τ) (Cert.KernelDnorm.main (F := Bits))) ⟨m, fun _ => 0, g⟩ (fun r => (∀ c : Dev Cert.KernelDnorm.nD,
      r.2.mem ((c.tc : Thread Cert.KernelDnorm.nD Cert.KernelDnorm.τ).loc Cert.KernelDnorm.main_arg0) = m ((c.tc : Thread Cert.KernelDnorm.nD Cert.KernelDnorm.τ).loc Cert.KernelDnorm.main_arg0)
      ∧ r.2.mem ((c.tc : Thread Cert.KernelDnorm.nD Cert.KernelDnorm.τ).loc Cert.KernelDnorm.main_arg1) = m ((c.tc : Thread Cert.KernelDnorm.nD Cert.KernelDnorm.τ).loc Cert.KernelDnorm.main_arg1)
      ∧ r.2.mem ((c.tc : Thread Cert.KernelDnorm.nD Cert.KernelDnorm.τ).loc Cert.KernelDnorm.main_arg2) = m ((c.tc : Thread Cert.KernelDnorm.nD Cert.KernelDnorm.τ).loc Cert.KernelDnorm.main_arg2)
      ∧ r.2.mem ((c.tc : Thread Cert.KernelDnorm.nD Cert.KernelDnorm.τ).loc Cert.KernelDnorm.main_arg3) = m ((c.tc : Thread Cert.KernelDnorm.nD Cert.KernelDnorm.τ).loc Cert.KernelDnorm.main_arg3))
      ∧ r.2.sem = fun _ => 0)

def quiescent_KernelDnormIdeal [hKernelDnormIdeal : Cert.KernelDnormIdeal.Facts] : Prop :=
  ∀ (m : (ℓ : Loc Cert.KernelDnormIdeal.nD Cert.KernelDnormIdeal.τ Cert.KernelDnormIdeal.sig) → Buf (Elt Ideal) ℓ) (g : Dev Cert.KernelDnormIdeal.nD → PrngReg), Pre_KernelDnormIdeal m →
    θ_run (Cert.KernelDnormIdeal.defs (F := Ideal)) (onTc (τ := Cert.KernelDnormIdeal.τ) (Cert.KernelDnormIdeal.main (F := Ideal))) ⟨m, fun _ => 0, g⟩ (fun r => (∀ c : Dev Cert.KernelDnormIdeal.nD,
      r.2.mem ((c.tc : Thread Cert.KernelDnormIdeal.nD Cert.KernelDnormIdeal.τ).loc Cert.KernelDnormIdeal.main_arg0) = m ((c.tc : Thread Cert.KernelDnormIdeal.nD Cert.KernelDnormIdeal.τ).loc Cert.KernelDnormIdeal.main_arg0)
      ∧ r.2.mem ((c.tc : Thread Cert.KernelDnormIdeal.nD Cert.KernelDnormIdeal.τ).loc Cert.KernelDnormIdeal.main_arg1) = m ((c.tc : Thread Cert.KernelDnormIdeal.nD Cert.KernelDnormIdeal.τ).loc Cert.KernelDnormIdeal.main_arg1)
      ∧ r.2.mem ((c.tc : Thread Cert.KernelDnormIdeal.nD Cert.KernelDnormIdeal.τ).loc Cert.KernelDnormIdeal.main_arg2) = m ((c.tc : Thread Cert.KernelDnormIdeal.nD Cert.KernelDnormIdeal.τ).loc Cert.KernelDnormIdeal.main_arg2)
      ∧ r.2.mem ((c.tc : Thread Cert.KernelDnormIdeal.nD Cert.KernelDnormIdeal.τ).loc Cert.KernelDnormIdeal.main_arg3) = m ((c.tc : Thread Cert.KernelDnormIdeal.nD Cert.KernelDnormIdeal.τ).loc Cert.KernelDnormIdeal.main_arg3))
      ∧ r.2.sem = fun _ => 0)

def quiescent_ReferenceDnormIdeal [hReferenceDnormIdeal : Cert.ReferenceDnormIdeal.Facts] : Prop :=
  ∀ (m : (ℓ : Loc Cert.ReferenceDnormIdeal.nD Cert.ReferenceDnormIdeal.τ Cert.ReferenceDnormIdeal.sig) → Buf (Elt Ideal) ℓ) (g : Dev Cert.ReferenceDnormIdeal.nD → PrngReg), Pre_ReferenceDnormIdeal m →
    θ_run (Cert.ReferenceDnormIdeal.defs (F := Ideal)) (onTc (τ := Cert.ReferenceDnormIdeal.τ) (Cert.ReferenceDnormIdeal.main (F := Ideal))) ⟨m, fun _ => 0, g⟩ (fun r => (∀ c : Dev Cert.ReferenceDnormIdeal.nD,
      r.2.mem ((c.tc : Thread Cert.ReferenceDnormIdeal.nD Cert.ReferenceDnormIdeal.τ).loc Cert.ReferenceDnormIdeal.main_arg0) = m ((c.tc : Thread Cert.ReferenceDnormIdeal.nD Cert.ReferenceDnormIdeal.τ).loc Cert.ReferenceDnormIdeal.main_arg0)
      ∧ r.2.mem ((c.tc : Thread Cert.ReferenceDnormIdeal.nD Cert.ReferenceDnormIdeal.τ).loc Cert.ReferenceDnormIdeal.main_arg1) = m ((c.tc : Thread Cert.ReferenceDnormIdeal.nD Cert.ReferenceDnormIdeal.τ).loc Cert.ReferenceDnormIdeal.main_arg1)
      ∧ r.2.mem ((c.tc : Thread Cert.ReferenceDnormIdeal.nD Cert.ReferenceDnormIdeal.τ).loc Cert.ReferenceDnormIdeal.main_arg2) = m ((c.tc : Thread Cert.ReferenceDnormIdeal.nD Cert.ReferenceDnormIdeal.τ).loc Cert.ReferenceDnormIdeal.main_arg2)
      ∧ r.2.mem ((c.tc : Thread Cert.ReferenceDnormIdeal.nD Cert.ReferenceDnormIdeal.τ).loc Cert.ReferenceDnormIdeal.main_arg3) = m ((c.tc : Thread Cert.ReferenceDnormIdeal.nD Cert.ReferenceDnormIdeal.τ).loc Cert.ReferenceDnormIdeal.main_arg3))
      ∧ r.2.sem = fun _ => 0)

def quiescent_KernelBranch [hKernelBranch : Cert.KernelBranch.Facts] : Prop :=
  ∀ (m : (ℓ : Loc Cert.KernelBranch.nD Cert.KernelBranch.τ Cert.KernelBranch.sig) → Buf (Elt Bits) ℓ) (g : Dev Cert.KernelBranch.nD → PrngReg), Pre_KernelBranch m →
    θ_run (Cert.KernelBranch.defs (F := Bits)) (onTc (τ := Cert.KernelBranch.τ) (Cert.KernelBranch.main (F := Bits))) ⟨m, fun _ => 0, g⟩ (fun r => (∀ c : Dev Cert.KernelBranch.nD,
      r.2.mem ((c.tc : Thread Cert.KernelBranch.nD Cert.KernelBranch.τ).loc Cert.KernelBranch.main_arg0) = m ((c.tc : Thread Cert.KernelBranch.nD Cert.KernelBranch.τ).loc Cert.KernelBranch.main_arg0)
      ∧ r.2.mem ((c.tc : Thread Cert.KernelBranch.nD Cert.KernelBranch.τ).loc Cert.KernelBranch.main_arg1) = m ((c.tc : Thread Cert.KernelBranch.nD Cert.KernelBranch.τ).loc Cert.KernelBranch.main_arg1))
      ∧ r.2.sem = fun _ => 0)

def quiescent_KernelBranchIdeal [hKernelBranchIdeal : Cert.KernelBranchIdeal.Facts] : Prop :=
  ∀ (m : (ℓ : Loc Cert.KernelBranchIdeal.nD Cert.KernelBranchIdeal.τ Cert.KernelBranchIdeal.sig) → Buf (Elt Ideal) ℓ) (g : Dev Cert.KernelBranchIdeal.nD → PrngReg), Pre_KernelBranchIdeal m →
    θ_run (Cert.KernelBranchIdeal.defs (F := Ideal)) (onTc (τ := Cert.KernelBranchIdeal.τ) (Cert.KernelBranchIdeal.main (F := Ideal))) ⟨m, fun _ => 0, g⟩ (fun r => (∀ c : Dev Cert.KernelBranchIdeal.nD,
      r.2.mem ((c.tc : Thread Cert.KernelBranchIdeal.nD Cert.KernelBranchIdeal.τ).loc Cert.KernelBranchIdeal.main_arg0) = m ((c.tc : Thread Cert.KernelBranchIdeal.nD Cert.KernelBranchIdeal.τ).loc Cert.KernelBranchIdeal.main_arg0)
      ∧ r.2.mem ((c.tc : Thread Cert.KernelBranchIdeal.nD Cert.KernelBranchIdeal.τ).loc Cert.KernelBranchIdeal.main_arg1) = m ((c.tc : Thread Cert.KernelBranchIdeal.nD Cert.KernelBranchIdeal.τ).loc Cert.KernelBranchIdeal.main_arg1))
      ∧ r.2.sem = fun _ => 0)

def quiescent_ReferenceBranchIdeal [hReferenceBranchIdeal : Cert.ReferenceBranchIdeal.Facts] : Prop :=
  ∀ (m : (ℓ : Loc Cert.ReferenceBranchIdeal.nD Cert.ReferenceBranchIdeal.τ Cert.ReferenceBranchIdeal.sig) → Buf (Elt Ideal) ℓ) (g : Dev Cert.ReferenceBranchIdeal.nD → PrngReg), Pre_ReferenceBranchIdeal m →
    θ_run (Cert.ReferenceBranchIdeal.defs (F := Ideal)) (onTc (τ := Cert.ReferenceBranchIdeal.τ) (Cert.ReferenceBranchIdeal.main (F := Ideal))) ⟨m, fun _ => 0, g⟩ (fun r => (∀ c : Dev Cert.ReferenceBranchIdeal.nD,
      r.2.mem ((c.tc : Thread Cert.ReferenceBranchIdeal.nD Cert.ReferenceBranchIdeal.τ).loc Cert.ReferenceBranchIdeal.main_arg0) = m ((c.tc : Thread Cert.ReferenceBranchIdeal.nD Cert.ReferenceBranchIdeal.τ).loc Cert.ReferenceBranchIdeal.main_arg0)
      ∧ r.2.mem ((c.tc : Thread Cert.ReferenceBranchIdeal.nD Cert.ReferenceBranchIdeal.τ).loc Cert.ReferenceBranchIdeal.main_arg1) = m ((c.tc : Thread Cert.ReferenceBranchIdeal.nD Cert.ReferenceBranchIdeal.τ).loc Cert.ReferenceBranchIdeal.main_arg1))
      ∧ r.2.sem = fun _ => 0)

def quiescent_KernelBranchBias [hKernelBranchBias : Cert.KernelBranchBias.Facts] : Prop :=
  ∀ (m : (ℓ : Loc Cert.KernelBranchBias.nD Cert.KernelBranchBias.τ Cert.KernelBranchBias.sig) → Buf (Elt Bits) ℓ) (g : Dev Cert.KernelBranchBias.nD → PrngReg), Pre_KernelBranchBias m →
    θ_run (Cert.KernelBranchBias.defs (F := Bits)) (onTc (τ := Cert.KernelBranchBias.τ) (Cert.KernelBranchBias.main (F := Bits))) ⟨m, fun _ => 0, g⟩ (fun r => (∀ c : Dev Cert.KernelBranchBias.nD,
      r.2.mem ((c.tc : Thread Cert.KernelBranchBias.nD Cert.KernelBranchBias.τ).loc Cert.KernelBranchBias.main_arg0) = m ((c.tc : Thread Cert.KernelBranchBias.nD Cert.KernelBranchBias.τ).loc Cert.KernelBranchBias.main_arg0)
      ∧ r.2.mem ((c.tc : Thread Cert.KernelBranchBias.nD Cert.KernelBranchBias.τ).loc Cert.KernelBranchBias.main_arg1) = m ((c.tc : Thread Cert.KernelBranchBias.nD Cert.KernelBranchBias.τ).loc Cert.KernelBranchBias.main_arg1)
      ∧ r.2.mem ((c.tc : Thread Cert.KernelBranchBias.nD Cert.KernelBranchBias.τ).loc Cert.KernelBranchBias.main_arg2) = m ((c.tc : Thread Cert.KernelBranchBias.nD Cert.KernelBranchBias.τ).loc Cert.KernelBranchBias.main_arg2))
      ∧ r.2.sem = fun _ => 0)

def quiescent_KernelBranchBiasIdeal [hKernelBranchBiasIdeal : Cert.KernelBranchBiasIdeal.Facts] : Prop :=
  ∀ (m : (ℓ : Loc Cert.KernelBranchBiasIdeal.nD Cert.KernelBranchBiasIdeal.τ Cert.KernelBranchBiasIdeal.sig) → Buf (Elt Ideal) ℓ) (g : Dev Cert.KernelBranchBiasIdeal.nD → PrngReg), Pre_KernelBranchBiasIdeal m →
    θ_run (Cert.KernelBranchBiasIdeal.defs (F := Ideal)) (onTc (τ := Cert.KernelBranchBiasIdeal.τ) (Cert.KernelBranchBiasIdeal.main (F := Ideal))) ⟨m, fun _ => 0, g⟩ (fun r => (∀ c : Dev Cert.KernelBranchBiasIdeal.nD,
      r.2.mem ((c.tc : Thread Cert.KernelBranchBiasIdeal.nD Cert.KernelBranchBiasIdeal.τ).loc Cert.KernelBranchBiasIdeal.main_arg0) = m ((c.tc : Thread Cert.KernelBranchBiasIdeal.nD Cert.KernelBranchBiasIdeal.τ).loc Cert.KernelBranchBiasIdeal.main_arg0)
      ∧ r.2.mem ((c.tc : Thread Cert.KernelBranchBiasIdeal.nD Cert.KernelBranchBiasIdeal.τ).loc Cert.KernelBranchBiasIdeal.main_arg1) = m ((c.tc : Thread Cert.KernelBranchBiasIdeal.nD Cert.KernelBranchBiasIdeal.τ).loc Cert.KernelBranchBiasIdeal.main_arg1)
      ∧ r.2.mem ((c.tc : Thread Cert.KernelBranchBiasIdeal.nD Cert.KernelBranchBiasIdeal.τ).loc Cert.KernelBranchBiasIdeal.main_arg2) = m ((c.tc : Thread Cert.KernelBranchBiasIdeal.nD Cert.KernelBranchBiasIdeal.τ).loc Cert.KernelBranchBiasIdeal.main_arg2))
      ∧ r.2.sem = fun _ => 0)

def quiescent_ReferenceBranchBiasIdeal [hReferenceBranchBiasIdeal : Cert.ReferenceBranchBiasIdeal.Facts] : Prop :=
  ∀ (m : (ℓ : Loc Cert.ReferenceBranchBiasIdeal.nD Cert.ReferenceBranchBiasIdeal.τ Cert.ReferenceBranchBiasIdeal.sig) → Buf (Elt Ideal) ℓ) (g : Dev Cert.ReferenceBranchBiasIdeal.nD → PrngReg), Pre_ReferenceBranchBiasIdeal m →
    θ_run (Cert.ReferenceBranchBiasIdeal.defs (F := Ideal)) (onTc (τ := Cert.ReferenceBranchBiasIdeal.τ) (Cert.ReferenceBranchBiasIdeal.main (F := Ideal))) ⟨m, fun _ => 0, g⟩ (fun r => (∀ c : Dev Cert.ReferenceBranchBiasIdeal.nD,
      r.2.mem ((c.tc : Thread Cert.ReferenceBranchBiasIdeal.nD Cert.ReferenceBranchBiasIdeal.τ).loc Cert.ReferenceBranchBiasIdeal.main_arg0) = m ((c.tc : Thread Cert.ReferenceBranchBiasIdeal.nD Cert.ReferenceBranchBiasIdeal.τ).loc Cert.ReferenceBranchBiasIdeal.main_arg0)
      ∧ r.2.mem ((c.tc : Thread Cert.ReferenceBranchBiasIdeal.nD Cert.ReferenceBranchBiasIdeal.τ).loc Cert.ReferenceBranchBiasIdeal.main_arg1) = m ((c.tc : Thread Cert.ReferenceBranchBiasIdeal.nD Cert.ReferenceBranchBiasIdeal.τ).loc Cert.ReferenceBranchBiasIdeal.main_arg1)
      ∧ r.2.mem ((c.tc : Thread Cert.ReferenceBranchBiasIdeal.nD Cert.ReferenceBranchBiasIdeal.τ).loc Cert.ReferenceBranchBiasIdeal.main_arg2) = m ((c.tc : Thread Cert.ReferenceBranchBiasIdeal.nD Cert.ReferenceBranchBiasIdeal.τ).loc Cert.ReferenceBranchBiasIdeal.main_arg2))
      ∧ r.2.sem = fun _ => 0)

def quiescent_KernelDbranchW [hKernelDbranchW : Cert.KernelDbranchW.Facts] : Prop :=
  ∀ (m : (ℓ : Loc Cert.KernelDbranchW.nD Cert.KernelDbranchW.τ Cert.KernelDbranchW.sig) → Buf (Elt Bits) ℓ) (g : Dev Cert.KernelDbranchW.nD → PrngReg), Pre_KernelDbranchW m →
    θ_run (Cert.KernelDbranchW.defs (F := Bits)) (onTc (τ := Cert.KernelDbranchW.τ) (Cert.KernelDbranchW.main (F := Bits))) ⟨m, fun _ => 0, g⟩ (fun r => (∀ c : Dev Cert.KernelDbranchW.nD,
      r.2.mem ((c.tc : Thread Cert.KernelDbranchW.nD Cert.KernelDbranchW.τ).loc Cert.KernelDbranchW.main_arg0) = m ((c.tc : Thread Cert.KernelDbranchW.nD Cert.KernelDbranchW.τ).loc Cert.KernelDbranchW.main_arg0)
      ∧ r.2.mem ((c.tc : Thread Cert.KernelDbranchW.nD Cert.KernelDbranchW.τ).loc Cert.KernelDbranchW.main_arg1) = m ((c.tc : Thread Cert.KernelDbranchW.nD Cert.KernelDbranchW.τ).loc Cert.KernelDbranchW.main_arg1)
      ∧ r.2.mem ((c.tc : Thread Cert.KernelDbranchW.nD Cert.KernelDbranchW.τ).loc Cert.KernelDbranchW.main_arg2) = m ((c.tc : Thread Cert.KernelDbranchW.nD Cert.KernelDbranchW.τ).loc Cert.KernelDbranchW.main_arg2))
      ∧ r.2.sem = fun _ => 0)

def quiescent_KernelDbranchWIdeal [hKernelDbranchWIdeal : Cert.KernelDbranchWIdeal.Facts] : Prop :=
  ∀ (m : (ℓ : Loc Cert.KernelDbranchWIdeal.nD Cert.KernelDbranchWIdeal.τ Cert.KernelDbranchWIdeal.sig) → Buf (Elt Ideal) ℓ) (g : Dev Cert.KernelDbranchWIdeal.nD → PrngReg), Pre_KernelDbranchWIdeal m →
    θ_run (Cert.KernelDbranchWIdeal.defs (F := Ideal)) (onTc (τ := Cert.KernelDbranchWIdeal.τ) (Cert.KernelDbranchWIdeal.main (F := Ideal))) ⟨m, fun _ => 0, g⟩ (fun r => (∀ c : Dev Cert.KernelDbranchWIdeal.nD,
      r.2.mem ((c.tc : Thread Cert.KernelDbranchWIdeal.nD Cert.KernelDbranchWIdeal.τ).loc Cert.KernelDbranchWIdeal.main_arg0) = m ((c.tc : Thread Cert.KernelDbranchWIdeal.nD Cert.KernelDbranchWIdeal.τ).loc Cert.KernelDbranchWIdeal.main_arg0)
      ∧ r.2.mem ((c.tc : Thread Cert.KernelDbranchWIdeal.nD Cert.KernelDbranchWIdeal.τ).loc Cert.KernelDbranchWIdeal.main_arg1) = m ((c.tc : Thread Cert.KernelDbranchWIdeal.nD Cert.KernelDbranchWIdeal.τ).loc Cert.KernelDbranchWIdeal.main_arg1)
      ∧ r.2.mem ((c.tc : Thread Cert.KernelDbranchWIdeal.nD Cert.KernelDbranchWIdeal.τ).loc Cert.KernelDbranchWIdeal.main_arg2) = m ((c.tc : Thread Cert.KernelDbranchWIdeal.nD Cert.KernelDbranchWIdeal.τ).loc Cert.KernelDbranchWIdeal.main_arg2))
      ∧ r.2.sem = fun _ => 0)

def quiescent_ReferenceDbranchWIdeal [hReferenceDbranchWIdeal : Cert.ReferenceDbranchWIdeal.Facts] : Prop :=
  ∀ (m : (ℓ : Loc Cert.ReferenceDbranchWIdeal.nD Cert.ReferenceDbranchWIdeal.τ Cert.ReferenceDbranchWIdeal.sig) → Buf (Elt Ideal) ℓ) (g : Dev Cert.ReferenceDbranchWIdeal.nD → PrngReg), Pre_ReferenceDbranchWIdeal m →
    θ_run (Cert.ReferenceDbranchWIdeal.defs (F := Ideal)) (onTc (τ := Cert.ReferenceDbranchWIdeal.τ) (Cert.ReferenceDbranchWIdeal.main (F := Ideal))) ⟨m, fun _ => 0, g⟩ (fun r => (∀ c : Dev Cert.ReferenceDbranchWIdeal.nD,
      r.2.mem ((c.tc : Thread Cert.ReferenceDbranchWIdeal.nD Cert.ReferenceDbranchWIdeal.τ).loc Cert.ReferenceDbranchWIdeal.main_arg0) = m ((c.tc : Thread Cert.ReferenceDbranchWIdeal.nD Cert.ReferenceDbranchWIdeal.τ).loc Cert.ReferenceDbranchWIdeal.main_arg0)
      ∧ r.2.mem ((c.tc : Thread Cert.ReferenceDbranchWIdeal.nD Cert.ReferenceDbranchWIdeal.τ).loc Cert.ReferenceDbranchWIdeal.main_arg1) = m ((c.tc : Thread Cert.ReferenceDbranchWIdeal.nD Cert.ReferenceDbranchWIdeal.τ).loc Cert.ReferenceDbranchWIdeal.main_arg1)
      ∧ r.2.mem ((c.tc : Thread Cert.ReferenceDbranchWIdeal.nD Cert.ReferenceDbranchWIdeal.τ).loc Cert.ReferenceDbranchWIdeal.main_arg2) = m ((c.tc : Thread Cert.ReferenceDbranchWIdeal.nD Cert.ReferenceDbranchWIdeal.τ).loc Cert.ReferenceDbranchWIdeal.main_arg2))
      ∧ r.2.sem = fun _ => 0)

def quiescent_KernelDbranch [hKernelDbranch : Cert.KernelDbranch.Facts] : Prop :=
  ∀ (m : (ℓ : Loc Cert.KernelDbranch.nD Cert.KernelDbranch.τ Cert.KernelDbranch.sig) → Buf (Elt Bits) ℓ) (g : Dev Cert.KernelDbranch.nD → PrngReg), Pre_KernelDbranch m →
    θ_run (Cert.KernelDbranch.defs (F := Bits)) (onTc (τ := Cert.KernelDbranch.τ) (Cert.KernelDbranch.main (F := Bits))) ⟨m, fun _ => 0, g⟩ (fun r => (∀ c : Dev Cert.KernelDbranch.nD,
      r.2.mem ((c.tc : Thread Cert.KernelDbranch.nD Cert.KernelDbranch.τ).loc Cert.KernelDbranch.main_arg0) = m ((c.tc : Thread Cert.KernelDbranch.nD Cert.KernelDbranch.τ).loc Cert.KernelDbranch.main_arg0)
      ∧ r.2.mem ((c.tc : Thread Cert.KernelDbranch.nD Cert.KernelDbranch.τ).loc Cert.KernelDbranch.main_arg1) = m ((c.tc : Thread Cert.KernelDbranch.nD Cert.KernelDbranch.τ).loc Cert.KernelDbranch.main_arg1)
      ∧ r.2.mem ((c.tc : Thread Cert.KernelDbranch.nD Cert.KernelDbranch.τ).loc Cert.KernelDbranch.main_arg2) = m ((c.tc : Thread Cert.KernelDbranch.nD Cert.KernelDbranch.τ).loc Cert.KernelDbranch.main_arg2))
      ∧ r.2.sem = fun _ => 0)

def quiescent_KernelDbranchIdeal [hKernelDbranchIdeal : Cert.KernelDbranchIdeal.Facts] : Prop :=
  ∀ (m : (ℓ : Loc Cert.KernelDbranchIdeal.nD Cert.KernelDbranchIdeal.τ Cert.KernelDbranchIdeal.sig) → Buf (Elt Ideal) ℓ) (g : Dev Cert.KernelDbranchIdeal.nD → PrngReg), Pre_KernelDbranchIdeal m →
    θ_run (Cert.KernelDbranchIdeal.defs (F := Ideal)) (onTc (τ := Cert.KernelDbranchIdeal.τ) (Cert.KernelDbranchIdeal.main (F := Ideal))) ⟨m, fun _ => 0, g⟩ (fun r => (∀ c : Dev Cert.KernelDbranchIdeal.nD,
      r.2.mem ((c.tc : Thread Cert.KernelDbranchIdeal.nD Cert.KernelDbranchIdeal.τ).loc Cert.KernelDbranchIdeal.main_arg0) = m ((c.tc : Thread Cert.KernelDbranchIdeal.nD Cert.KernelDbranchIdeal.τ).loc Cert.KernelDbranchIdeal.main_arg0)
      ∧ r.2.mem ((c.tc : Thread Cert.KernelDbranchIdeal.nD Cert.KernelDbranchIdeal.τ).loc Cert.KernelDbranchIdeal.main_arg1) = m ((c.tc : Thread Cert.KernelDbranchIdeal.nD Cert.KernelDbranchIdeal.τ).loc Cert.KernelDbranchIdeal.main_arg1)
      ∧ r.2.mem ((c.tc : Thread Cert.KernelDbranchIdeal.nD Cert.KernelDbranchIdeal.τ).loc Cert.KernelDbranchIdeal.main_arg2) = m ((c.tc : Thread Cert.KernelDbranchIdeal.nD Cert.KernelDbranchIdeal.τ).loc Cert.KernelDbranchIdeal.main_arg2))
      ∧ r.2.sem = fun _ => 0)

def quiescent_ReferenceDbranchIdeal [hReferenceDbranchIdeal : Cert.ReferenceDbranchIdeal.Facts] : Prop :=
  ∀ (m : (ℓ : Loc Cert.ReferenceDbranchIdeal.nD Cert.ReferenceDbranchIdeal.τ Cert.ReferenceDbranchIdeal.sig) → Buf (Elt Ideal) ℓ) (g : Dev Cert.ReferenceDbranchIdeal.nD → PrngReg), Pre_ReferenceDbranchIdeal m →
    θ_run (Cert.ReferenceDbranchIdeal.defs (F := Ideal)) (onTc (τ := Cert.ReferenceDbranchIdeal.τ) (Cert.ReferenceDbranchIdeal.main (F := Ideal))) ⟨m, fun _ => 0, g⟩ (fun r => (∀ c : Dev Cert.ReferenceDbranchIdeal.nD,
      r.2.mem ((c.tc : Thread Cert.ReferenceDbranchIdeal.nD Cert.ReferenceDbranchIdeal.τ).loc Cert.ReferenceDbranchIdeal.main_arg0) = m ((c.tc : Thread Cert.ReferenceDbranchIdeal.nD Cert.ReferenceDbranchIdeal.τ).loc Cert.ReferenceDbranchIdeal.main_arg0)
      ∧ r.2.mem ((c.tc : Thread Cert.ReferenceDbranchIdeal.nD Cert.ReferenceDbranchIdeal.τ).loc Cert.ReferenceDbranchIdeal.main_arg1) = m ((c.tc : Thread Cert.ReferenceDbranchIdeal.nD Cert.ReferenceDbranchIdeal.τ).loc Cert.ReferenceDbranchIdeal.main_arg1)
      ∧ r.2.mem ((c.tc : Thread Cert.ReferenceDbranchIdeal.nD Cert.ReferenceDbranchIdeal.τ).loc Cert.ReferenceDbranchIdeal.main_arg2) = m ((c.tc : Thread Cert.ReferenceDbranchIdeal.nD Cert.ReferenceDbranchIdeal.τ).loc Cert.ReferenceDbranchIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDgu_KernelDguIdeal : Prop :=
  True

def algebraic_KernelDguIdeal_ReferenceDguIdeal [hKernelDguIdeal : Cert.KernelDguIdeal.Facts] [hReferenceDguIdeal : Cert.ReferenceDguIdeal.Facts] : Prop :=
  ∀ (m : (ℓ : Loc Cert.KernelDguIdeal.nD Cert.KernelDguIdeal.τ Cert.KernelDguIdeal.sig) → Buf (Elt Ideal) ℓ) (g : Dev Cert.KernelDguIdeal.nD → PrngReg)
    (m' : (ℓ : Loc Cert.ReferenceDguIdeal.nD Cert.ReferenceDguIdeal.τ Cert.ReferenceDguIdeal.sig) → Buf (Elt Ideal) ℓ) (g' : Dev Cert.ReferenceDguIdeal.nD → PrngReg), Pre_KernelDguIdeal m →
    (∀ c : Dev Cert.KernelDguIdeal.nD,
      m' ((c.tc : Thread Cert.ReferenceDguIdeal.nD Cert.ReferenceDguIdeal.τ).loc Cert.ReferenceDguIdeal.main_arg0) = m ((c.tc : Thread Cert.KernelDguIdeal.nD Cert.KernelDguIdeal.τ).loc Cert.KernelDguIdeal.main_arg0)
      ∧ m' ((c.tc : Thread Cert.ReferenceDguIdeal.nD Cert.ReferenceDguIdeal.τ).loc Cert.ReferenceDguIdeal.main_arg1) = m ((c.tc : Thread Cert.KernelDguIdeal.nD Cert.KernelDguIdeal.τ).loc Cert.KernelDguIdeal.main_arg1)
      ∧ m' ((c.tc : Thread Cert.ReferenceDguIdeal.nD Cert.ReferenceDguIdeal.τ).loc Cert.ReferenceDguIdeal.main_arg2) = m ((c.tc : Thread Cert.KernelDguIdeal.nD Cert.KernelDguIdeal.τ).loc Cert.KernelDguIdeal.main_arg2)) →
    ∃ (v0 : (c : Dev Cert.KernelDguIdeal.nD) → Buf (Elt Ideal) ((c.tc : Thread Cert.KernelDguIdeal.nD Cert.KernelDguIdeal.τ).loc Cert.KernelDguIdeal.main_v0)),
      θ_run (Cert.KernelDguIdeal.defs (F := Ideal)) (onTc (τ := Cert.KernelDguIdeal.τ) (Cert.KernelDguIdeal.main (F := Ideal))) ⟨m, fun _ => 0, g⟩ (fun r => ∀ c : Dev Cert.KernelDguIdeal.nD,
          r.2.mem ((c.tc : Thread Cert.KernelDguIdeal.nD Cert.KernelDguIdeal.τ).loc Cert.KernelDguIdeal.main_v0) = v0 c
          ∧ r.2.mem ((c.tc : Thread Cert.KernelDguIdeal.nD Cert.KernelDguIdeal.τ).loc Cert.KernelDguIdeal.main_arg0) = m ((c.tc : Thread Cert.KernelDguIdeal.nD Cert.KernelDguIdeal.τ).loc Cert.KernelDguIdeal.main_arg0)
          ∧ r.2.mem ((c.tc : Thread Cert.KernelDguIdeal.nD Cert.KernelDguIdeal.τ).loc Cert.KernelDguIdeal.main_arg1) = m ((c.tc : Thread Cert.KernelDguIdeal.nD Cert.KernelDguIdeal.τ).loc Cert.KernelDguIdeal.main_arg1)
          ∧ r.2.mem ((c.tc : Thread Cert.KernelDguIdeal.nD Cert.KernelDguIdeal.τ).loc Cert.KernelDguIdeal.main_arg2) = m ((c.tc : Thread Cert.KernelDguIdeal.nD Cert.KernelDguIdeal.τ).loc Cert.KernelDguIdeal.main_arg2))
      ∧ θ_run (Cert.ReferenceDguIdeal.defs (F := Ideal)) (onTc (τ := Cert.ReferenceDguIdeal.τ) (Cert.ReferenceDguIdeal.main (F := Ideal))) ⟨m', fun _ => 0, g'⟩ (fun r => ∀ c : Dev Cert.ReferenceDguIdeal.nD,
          r.2.mem ((c.tc : Thread Cert.ReferenceDguIdeal.nD Cert.ReferenceDguIdeal.τ).loc Cert.ReferenceDguIdeal.main_v21) = v0 c
          ∧ r.2.mem ((c.tc : Thread Cert.ReferenceDguIdeal.nD Cert.ReferenceDguIdeal.τ).loc Cert.ReferenceDguIdeal.main_arg0) = m' ((c.tc : Thread Cert.ReferenceDguIdeal.nD Cert.ReferenceDguIdeal.τ).loc Cert.ReferenceDguIdeal.main_arg0)
          ∧ r.2.mem ((c.tc : Thread Cert.ReferenceDguIdeal.nD Cert.ReferenceDguIdeal.τ).loc Cert.ReferenceDguIdeal.main_arg1) = m' ((c.tc : Thread Cert.ReferenceDguIdeal.nD Cert.ReferenceDguIdeal.τ).loc Cert.ReferenceDguIdeal.main_arg1)
          ∧ r.2.mem ((c.tc : Thread Cert.ReferenceDguIdeal.nD Cert.ReferenceDguIdeal.τ).loc Cert.ReferenceDguIdeal.main_arg2) = m' ((c.tc : Thread Cert.ReferenceDguIdeal.nD Cert.ReferenceDguIdeal.τ).loc Cert.ReferenceDguIdeal.main_arg2))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)
      ∧ m' ((c.tc : Thread Cert.ReferenceDxIdeal.nD Cert.ReferenceDxIdeal.τ).loc Cert.ReferenceDxIdeal.main_arg4) = m ((c.tc : Thread Cert.KernelDxIdeal.nD Cert.KernelDxIdeal.τ).loc Cert.KernelDxIdeal.main_arg4)) →
    ∃ (v0 : (c : Dev Cert.KernelDxIdeal.nD) → Buf (Elt Ideal) ((c.tc : Thread Cert.KernelDxIdeal.nD Cert.KernelDxIdeal.τ).loc Cert.KernelDxIdeal.main_v0_0)) (v1 : (c : Dev Cert.KernelDxIdeal.nD) → Buf (Elt Ideal) ((c.tc : Thread Cert.KernelDxIdeal.nD Cert.KernelDxIdeal.τ).loc Cert.KernelDxIdeal.main_v0_1)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v0_0) = v0 c
          ∧ r.2.mem ((c.tc : Thread Cert.KernelDxIdeal.nD Cert.KernelDxIdeal.τ).loc Cert.KernelDxIdeal.main_v0_1) = v1 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
          ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v45) = v0 c
          ∧ r.2.mem ((c.tc : Thread Cert.ReferenceDxIdeal.nD Cert.ReferenceDxIdeal.τ).loc Cert.ReferenceDxIdeal.main_v28) = v1 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3)
          ∧ r.2.mem ((c.tc : Thread Cert.ReferenceDxIdeal.nD Cert.ReferenceDxIdeal.τ).loc Cert.ReferenceDxIdeal.main_arg4) = m' ((c.tc : Thread Cert.ReferenceDxIdeal.nD Cert.ReferenceDxIdeal.τ).loc Cert.ReferenceDxIdeal.main_arg4))

def preserves_KernelDw1_KernelDw1Ideal : Prop :=
  True

def algebraic_KernelDw1Ideal_ReferenceDw1Ideal [hKernelDw1Ideal : Cert.KernelDw1Ideal.Facts] [hReferenceDw1Ideal : Cert.ReferenceDw1Ideal.Facts] : Prop :=
  ∀ (m : (ℓ : Loc Cert.KernelDw1Ideal.nD Cert.KernelDw1Ideal.τ Cert.KernelDw1Ideal.sig) → Buf (Elt Ideal) ℓ) (g : Dev Cert.KernelDw1Ideal.nD → PrngReg)
    (m' : (ℓ : Loc Cert.ReferenceDw1Ideal.nD Cert.ReferenceDw1Ideal.τ Cert.ReferenceDw1Ideal.sig) → Buf (Elt Ideal) ℓ) (g' : Dev Cert.ReferenceDw1Ideal.nD → PrngReg), Pre_KernelDw1Ideal m →
    (∀ c : Dev Cert.KernelDw1Ideal.nD,
      m' ((c.tc : Thread Cert.ReferenceDw1Ideal.nD Cert.ReferenceDw1Ideal.τ).loc Cert.ReferenceDw1Ideal.main_arg0) = m ((c.tc : Thread Cert.KernelDw1Ideal.nD Cert.KernelDw1Ideal.τ).loc Cert.KernelDw1Ideal.main_arg0)
      ∧ m' ((c.tc : Thread Cert.ReferenceDw1Ideal.nD Cert.ReferenceDw1Ideal.τ).loc Cert.ReferenceDw1Ideal.main_arg1) = m ((c.tc : Thread Cert.KernelDw1Ideal.nD Cert.KernelDw1Ideal.τ).loc Cert.KernelDw1Ideal.main_arg1)) →
    ∃ (v0 : (c : Dev Cert.KernelDw1Ideal.nD) → Buf (Elt Ideal) ((c.tc : Thread Cert.KernelDw1Ideal.nD Cert.KernelDw1Ideal.τ).loc Cert.KernelDw1Ideal.main_v0)),
      θ_run (Cert.KernelDw1Ideal.defs (F := Ideal)) (onTc (τ := Cert.KernelDw1Ideal.τ) (Cert.KernelDw1Ideal.main (F := Ideal))) ⟨m, fun _ => 0, g⟩ (fun r => ∀ c : Dev Cert.KernelDw1Ideal.nD,
          r.2.mem ((c.tc : Thread Cert.KernelDw1Ideal.nD Cert.KernelDw1Ideal.τ).loc Cert.KernelDw1Ideal.main_v0) = v0 c
          ∧ r.2.mem ((c.tc : Thread Cert.KernelDw1Ideal.nD Cert.KernelDw1Ideal.τ).loc Cert.KernelDw1Ideal.main_arg0) = m ((c.tc : Thread Cert.KernelDw1Ideal.nD Cert.KernelDw1Ideal.τ).loc Cert.KernelDw1Ideal.main_arg0)
          ∧ r.2.mem ((c.tc : Thread Cert.KernelDw1Ideal.nD Cert.KernelDw1Ideal.τ).loc Cert.KernelDw1Ideal.main_arg1) = m ((c.tc : Thread Cert.KernelDw1Ideal.nD Cert.KernelDw1Ideal.τ).loc Cert.KernelDw1Ideal.main_arg1))
      ∧ θ_run (Cert.ReferenceDw1Ideal.defs (F := Ideal)) (onTc (τ := Cert.ReferenceDw1Ideal.τ) (Cert.ReferenceDw1Ideal.main (F := Ideal))) ⟨m', fun _ => 0, g'⟩ (fun r => ∀ c : Dev Cert.ReferenceDw1Ideal.nD,
          r.2.mem ((c.tc : Thread Cert.ReferenceDw1Ideal.nD Cert.ReferenceDw1Ideal.τ).loc Cert.ReferenceDw1Ideal.main_v15) = v0 c
          ∧ r.2.mem ((c.tc : Thread Cert.ReferenceDw1Ideal.nD Cert.ReferenceDw1Ideal.τ).loc Cert.ReferenceDw1Ideal.main_arg0) = m' ((c.tc : Thread Cert.ReferenceDw1Ideal.nD Cert.ReferenceDw1Ideal.τ).loc Cert.ReferenceDw1Ideal.main_arg0)
          ∧ r.2.mem ((c.tc : Thread Cert.ReferenceDw1Ideal.nD Cert.ReferenceDw1Ideal.τ).loc Cert.ReferenceDw1Ideal.main_arg1) = m' ((c.tc : Thread Cert.ReferenceDw1Ideal.nD Cert.ReferenceDw1Ideal.τ).loc Cert.ReferenceDw1Ideal.main_arg1))

def preserves_KernelDw2_KernelDw2Ideal : Prop :=
  True

def algebraic_KernelDw2Ideal_ReferenceDw2Ideal [hKernelDw2Ideal : Cert.KernelDw2Ideal.Facts] [hReferenceDw2Ideal : Cert.ReferenceDw2Ideal.Facts] : Prop :=
  ∀ (m : (ℓ : Loc Cert.KernelDw2Ideal.nD Cert.KernelDw2Ideal.τ Cert.KernelDw2Ideal.sig) → Buf (Elt Ideal) ℓ) (g : Dev Cert.KernelDw2Ideal.nD → PrngReg)
    (m' : (ℓ : Loc Cert.ReferenceDw2Ideal.nD Cert.ReferenceDw2Ideal.τ Cert.ReferenceDw2Ideal.sig) → Buf (Elt Ideal) ℓ) (g' : Dev Cert.ReferenceDw2Ideal.nD → PrngReg), Pre_KernelDw2Ideal m →
    (∀ c : Dev Cert.KernelDw2Ideal.nD,
      m' ((c.tc : Thread Cert.ReferenceDw2Ideal.nD Cert.ReferenceDw2Ideal.τ).loc Cert.ReferenceDw2Ideal.main_arg0) = m ((c.tc : Thread Cert.KernelDw2Ideal.nD Cert.KernelDw2Ideal.τ).loc Cert.KernelDw2Ideal.main_arg0)
      ∧ m' ((c.tc : Thread Cert.ReferenceDw2Ideal.nD Cert.ReferenceDw2Ideal.τ).loc Cert.ReferenceDw2Ideal.main_arg1) = m ((c.tc : Thread Cert.KernelDw2Ideal.nD Cert.KernelDw2Ideal.τ).loc Cert.KernelDw2Ideal.main_arg1)) →
    ∃ (v0 : (c : Dev Cert.KernelDw2Ideal.nD) → Buf (Elt Ideal) ((c.tc : Thread Cert.KernelDw2Ideal.nD Cert.KernelDw2Ideal.τ).loc Cert.KernelDw2Ideal.main_v0)),
      θ_run (Cert.KernelDw2Ideal.defs (F := Ideal)) (onTc (τ := Cert.KernelDw2Ideal.τ) (Cert.KernelDw2Ideal.main (F := Ideal))) ⟨m, fun _ => 0, g⟩ (fun r => ∀ c : Dev Cert.KernelDw2Ideal.nD,
          r.2.mem ((c.tc : Thread Cert.KernelDw2Ideal.nD Cert.KernelDw2Ideal.τ).loc Cert.KernelDw2Ideal.main_v0) = v0 c
          ∧ r.2.mem ((c.tc : Thread Cert.KernelDw2Ideal.nD Cert.KernelDw2Ideal.τ).loc Cert.KernelDw2Ideal.main_arg0) = m ((c.tc : Thread Cert.KernelDw2Ideal.nD Cert.KernelDw2Ideal.τ).loc Cert.KernelDw2Ideal.main_arg0)
          ∧ r.2.mem ((c.tc : Thread Cert.KernelDw2Ideal.nD Cert.KernelDw2Ideal.τ).loc Cert.KernelDw2Ideal.main_arg1) = m ((c.tc : Thread Cert.KernelDw2Ideal.nD Cert.KernelDw2Ideal.τ).loc Cert.KernelDw2Ideal.main_arg1))
      ∧ θ_run (Cert.ReferenceDw2Ideal.defs (F := Ideal)) (onTc (τ := Cert.ReferenceDw2Ideal.τ) (Cert.ReferenceDw2Ideal.main (F := Ideal))) ⟨m', fun _ => 0, g'⟩ (fun r => ∀ c : Dev Cert.ReferenceDw2Ideal.nD,
          r.2.mem ((c.tc : Thread Cert.ReferenceDw2Ideal.nD Cert.ReferenceDw2Ideal.τ).loc Cert.ReferenceDw2Ideal.main_v9) = v0 c
          ∧ r.2.mem ((c.tc : Thread Cert.ReferenceDw2Ideal.nD Cert.ReferenceDw2Ideal.τ).loc Cert.ReferenceDw2Ideal.main_arg0) = m' ((c.tc : Thread Cert.ReferenceDw2Ideal.nD Cert.ReferenceDw2Ideal.τ).loc Cert.ReferenceDw2Ideal.main_arg0)
          ∧ r.2.mem ((c.tc : Thread Cert.ReferenceDw2Ideal.nD Cert.ReferenceDw2Ideal.τ).loc Cert.ReferenceDw2Ideal.main_arg1) = m' ((c.tc : Thread Cert.ReferenceDw2Ideal.nD Cert.ReferenceDw2Ideal.τ).loc Cert.ReferenceDw2Ideal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0_0)) (v1 : (c : Dev Cert.KernelUpIdeal.nD) → Buf (Elt Ideal) ((c.tc : Thread Cert.KernelUpIdeal.nD Cert.KernelUpIdeal.τ).loc Cert.KernelUpIdeal.main_v0_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0_0) = v0 c
          ∧ r.2.mem ((c.tc : Thread Cert.KernelUpIdeal.nD Cert.KernelUpIdeal.τ).loc Cert.KernelUpIdeal.main_v0_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v13) = v0 c
          ∧ r.2.mem ((c.tc : Thread Cert.ReferenceUpIdeal.nD Cert.ReferenceUpIdeal.τ).loc Cert.ReferenceUpIdeal.main_v16) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelDguRow_KernelDguRowIdeal : Prop :=
  True

def algebraic_KernelDguRowIdeal_ReferenceDguRowIdeal [hKernelDguRowIdeal : Cert.KernelDguRowIdeal.Facts] [hReferenceDguRowIdeal : Cert.ReferenceDguRowIdeal.Facts] : Prop :=
  ∀ (m : (ℓ : Loc Cert.KernelDguRowIdeal.nD Cert.KernelDguRowIdeal.τ Cert.KernelDguRowIdeal.sig) → Buf (Elt Ideal) ℓ) (g : Dev Cert.KernelDguRowIdeal.nD → PrngReg)
    (m' : (ℓ : Loc Cert.ReferenceDguRowIdeal.nD Cert.ReferenceDguRowIdeal.τ Cert.ReferenceDguRowIdeal.sig) → Buf (Elt Ideal) ℓ) (g' : Dev Cert.ReferenceDguRowIdeal.nD → PrngReg), Pre_KernelDguRowIdeal m →
    (∀ c : Dev Cert.KernelDguRowIdeal.nD,
      m' ((c.tc : Thread Cert.ReferenceDguRowIdeal.nD Cert.ReferenceDguRowIdeal.τ).loc Cert.ReferenceDguRowIdeal.main_arg0) = m ((c.tc : Thread Cert.KernelDguRowIdeal.nD Cert.KernelDguRowIdeal.τ).loc Cert.KernelDguRowIdeal.main_arg0)
      ∧ m' ((c.tc : Thread Cert.ReferenceDguRowIdeal.nD Cert.ReferenceDguRowIdeal.τ).loc Cert.ReferenceDguRowIdeal.main_arg1) = m ((c.tc : Thread Cert.KernelDguRowIdeal.nD Cert.KernelDguRowIdeal.τ).loc Cert.KernelDguRowIdeal.main_arg1)
      ∧ m' ((c.tc : Thread Cert.ReferenceDguRowIdeal.nD Cert.ReferenceDguRowIdeal.τ).loc Cert.ReferenceDguRowIdeal.main_arg2) = m ((c.tc : Thread Cert.KernelDguRowIdeal.nD Cert.KernelDguRowIdeal.τ).loc Cert.KernelDguRowIdeal.main_arg2)
      ∧ m' ((c.tc : Thread Cert.ReferenceDguRowIdeal.nD Cert.ReferenceDguRowIdeal.τ).loc Cert.ReferenceDguRowIdeal.main_arg3) = m ((c.tc : Thread Cert.KernelDguRowIdeal.nD Cert.KernelDguRowIdeal.τ).loc Cert.KernelDguRowIdeal.main_arg3)) →
    ∃ (v0 : (c : Dev Cert.KernelDguRowIdeal.nD) → Buf (Elt Ideal) ((c.tc : Thread Cert.KernelDguRowIdeal.nD Cert.KernelDguRowIdeal.τ).loc Cert.KernelDguRowIdeal.main_v0)),
      θ_run (Cert.KernelDguRowIdeal.defs (F := Ideal)) (onTc (τ := Cert.KernelDguRowIdeal.τ) (Cert.KernelDguRowIdeal.main (F := Ideal))) ⟨m, fun _ => 0, g⟩ (fun r => ∀ c : Dev Cert.KernelDguRowIdeal.nD,
          r.2.mem ((c.tc : Thread Cert.KernelDguRowIdeal.nD Cert.KernelDguRowIdeal.τ).loc Cert.KernelDguRowIdeal.main_v0) = v0 c
          ∧ r.2.mem ((c.tc : Thread Cert.KernelDguRowIdeal.nD Cert.KernelDguRowIdeal.τ).loc Cert.KernelDguRowIdeal.main_arg0) = m ((c.tc : Thread Cert.KernelDguRowIdeal.nD Cert.KernelDguRowIdeal.τ).loc Cert.KernelDguRowIdeal.main_arg0)
          ∧ r.2.mem ((c.tc : Thread Cert.KernelDguRowIdeal.nD Cert.KernelDguRowIdeal.τ).loc Cert.KernelDguRowIdeal.main_arg1) = m ((c.tc : Thread Cert.KernelDguRowIdeal.nD Cert.KernelDguRowIdeal.τ).loc Cert.KernelDguRowIdeal.main_arg1)
          ∧ r.2.mem ((c.tc : Thread Cert.KernelDguRowIdeal.nD Cert.KernelDguRowIdeal.τ).loc Cert.KernelDguRowIdeal.main_arg2) = m ((c.tc : Thread Cert.KernelDguRowIdeal.nD Cert.KernelDguRowIdeal.τ).loc Cert.KernelDguRowIdeal.main_arg2)
          ∧ r.2.mem ((c.tc : Thread Cert.KernelDguRowIdeal.nD Cert.KernelDguRowIdeal.τ).loc Cert.KernelDguRowIdeal.main_arg3) = m ((c.tc : Thread Cert.KernelDguRowIdeal.nD Cert.KernelDguRowIdeal.τ).loc Cert.KernelDguRowIdeal.main_arg3))
      ∧ θ_run (Cert.ReferenceDguRowIdeal.defs (F := Ideal)) (onTc (τ := Cert.ReferenceDguRowIdeal.τ) (Cert.ReferenceDguRowIdeal.main (F := Ideal))) ⟨m', fun _ => 0, g'⟩ (fun r => ∀ c : Dev Cert.ReferenceDguRowIdeal.nD,
          r.2.mem ((c.tc : Thread Cert.ReferenceDguRowIdeal.nD Cert.ReferenceDguRowIdeal.τ).loc Cert.ReferenceDguRowIdeal.main_v23) = v0 c
          ∧ r.2.mem ((c.tc : Thread Cert.ReferenceDguRowIdeal.nD Cert.ReferenceDguRowIdeal.τ).loc Cert.ReferenceDguRowIdeal.main_arg0) = m' ((c.tc : Thread Cert.ReferenceDguRowIdeal.nD Cert.ReferenceDguRowIdeal.τ).loc Cert.ReferenceDguRowIdeal.main_arg0)
          ∧ r.2.mem ((c.tc : Thread Cert.ReferenceDguRowIdeal.nD Cert.ReferenceDguRowIdeal.τ).loc Cert.ReferenceDguRowIdeal.main_arg1) = m' ((c.tc : Thread Cert.ReferenceDguRowIdeal.nD Cert.ReferenceDguRowIdeal.τ).loc Cert.ReferenceDguRowIdeal.main_arg1)
          ∧ r.2.mem ((c.tc : Thread Cert.ReferenceDguRowIdeal.nD Cert.ReferenceDguRowIdeal.τ).loc Cert.ReferenceDguRowIdeal.main_arg2) = m' ((c.tc : Thread Cert.ReferenceDguRowIdeal.nD Cert.ReferenceDguRowIdeal.τ).loc Cert.ReferenceDguRowIdeal.main_arg2)
          ∧ r.2.mem ((c.tc : Thread Cert.ReferenceDguRowIdeal.nD Cert.ReferenceDguRowIdeal.τ).loc Cert.ReferenceDguRowIdeal.main_arg3) = m' ((c.tc : Thread Cert.ReferenceDguRowIdeal.nD Cert.ReferenceDguRowIdeal.τ).loc Cert.ReferenceDguRowIdeal.main_arg3))

def preserves_KernelDxRow_KernelDxRowIdeal : Prop :=
  True

def algebraic_KernelDxRowIdeal_ReferenceDxRowIdeal [hKernelDxRowIdeal : Cert.KernelDxRowIdeal.Facts] [hReferenceDxRowIdeal : Cert.ReferenceDxRowIdeal.Facts] : Prop :=
  ∀ (m : (ℓ : Loc Cert.KernelDxRowIdeal.nD Cert.KernelDxRowIdeal.τ Cert.KernelDxRowIdeal.sig) → Buf (Elt Ideal) ℓ) (g : Dev Cert.KernelDxRowIdeal.nD → PrngReg)
    (m' : (ℓ : Loc Cert.ReferenceDxRowIdeal.nD Cert.ReferenceDxRowIdeal.τ Cert.ReferenceDxRowIdeal.sig) → Buf (Elt Ideal) ℓ) (g' : Dev Cert.ReferenceDxRowIdeal.nD → PrngReg), Pre_KernelDxRowIdeal m →
    (∀ c : Dev Cert.KernelDxRowIdeal.nD,
      m' ((c.tc : Thread Cert.ReferenceDxRowIdeal.nD Cert.ReferenceDxRowIdeal.τ).loc Cert.ReferenceDxRowIdeal.main_arg0) = m ((c.tc : Thread Cert.KernelDxRowIdeal.nD Cert.KernelDxRowIdeal.τ).loc Cert.KernelDxRowIdeal.main_arg0)
      ∧ m' ((c.tc : Thread Cert.ReferenceDxRowIdeal.nD Cert.ReferenceDxRowIdeal.τ).loc Cert.ReferenceDxRowIdeal.main_arg1) = m ((c.tc : Thread Cert.KernelDxRowIdeal.nD Cert.KernelDxRowIdeal.τ).loc Cert.KernelDxRowIdeal.main_arg1)
      ∧ m' ((c.tc : Thread Cert.ReferenceDxRowIdeal.nD Cert.ReferenceDxRowIdeal.τ).loc Cert.ReferenceDxRowIdeal.main_arg2) = m ((c.tc : Thread Cert.KernelDxRowIdeal.nD Cert.KernelDxRowIdeal.τ).loc Cert.KernelDxRowIdeal.main_arg2)
      ∧ m' ((c.tc : Thread Cert.ReferenceDxRowIdeal.nD Cert.ReferenceDxRowIdeal.τ).loc Cert.ReferenceDxRowIdeal.main_arg3) = m ((c.tc : Thread Cert.KernelDxRowIdeal.nD Cert.KernelDxRowIdeal.τ).loc Cert.KernelDxRowIdeal.main_arg3)
      ∧ m' ((c.tc : Thread Cert.ReferenceDxRowIdeal.nD Cert.ReferenceDxRowIdeal.τ).loc Cert.ReferenceDxRowIdeal.main_arg4) = m ((c.tc : Thread Cert.KernelDxRowIdeal.nD Cert.KernelDxRowIdeal.τ).loc Cert.KernelDxRowIdeal.main_arg4)
      ∧ m' ((c.tc : Thread Cert.ReferenceDxRowIdeal.nD Cert.ReferenceDxRowIdeal.τ).loc Cert.ReferenceDxRowIdeal.main_arg5) = m ((c.tc : Thread Cert.KernelDxRowIdeal.nD Cert.KernelDxRowIdeal.τ).loc Cert.KernelDxRowIdeal.main_arg5)) →
    ∃ (v0 : (c : Dev Cert.KernelDxRowIdeal.nD) → Buf (Elt Ideal) ((c.tc : Thread Cert.KernelDxRowIdeal.nD Cert.KernelDxRowIdeal.τ).loc Cert.KernelDxRowIdeal.main_v0_0)) (v1 : (c : Dev Cert.KernelDxRowIdeal.nD) → Buf (Elt Ideal) ((c.tc : Thread Cert.KernelDxRowIdeal.nD Cert.KernelDxRowIdeal.τ).loc Cert.KernelDxRowIdeal.main_v0_1)),
      θ_run (Cert.KernelDxRowIdeal.defs (F := Ideal)) (onTc (τ := Cert.KernelDxRowIdeal.τ) (Cert.KernelDxRowIdeal.main (F := Ideal))) ⟨m, fun _ => 0, g⟩ (fun r => ∀ c : Dev Cert.KernelDxRowIdeal.nD,
          r.2.mem ((c.tc : Thread Cert.KernelDxRowIdeal.nD Cert.KernelDxRowIdeal.τ).loc Cert.KernelDxRowIdeal.main_v0_0) = v0 c
          ∧ r.2.mem ((c.tc : Thread Cert.KernelDxRowIdeal.nD Cert.KernelDxRowIdeal.τ).loc Cert.KernelDxRowIdeal.main_v0_1) = v1 c
          ∧ r.2.mem ((c.tc : Thread Cert.KernelDxRowIdeal.nD Cert.KernelDxRowIdeal.τ).loc Cert.KernelDxRowIdeal.main_arg0) = m ((c.tc : Thread Cert.KernelDxRowIdeal.nD Cert.KernelDxRowIdeal.τ).loc Cert.KernelDxRowIdeal.main_arg0)
          ∧ r.2.mem ((c.tc : Thread Cert.KernelDxRowIdeal.nD Cert.KernelDxRowIdeal.τ).loc Cert.KernelDxRowIdeal.main_arg1) = m ((c.tc : Thread Cert.KernelDxRowIdeal.nD Cert.KernelDxRowIdeal.τ).loc Cert.KernelDxRowIdeal.main_arg1)
          ∧ r.2.mem ((c.tc : Thread Cert.KernelDxRowIdeal.nD Cert.KernelDxRowIdeal.τ).loc Cert.KernelDxRowIdeal.main_arg2) = m ((c.tc : Thread Cert.KernelDxRowIdeal.nD Cert.KernelDxRowIdeal.τ).loc Cert.KernelDxRowIdeal.main_arg2)
          ∧ r.2.mem ((c.tc : Thread Cert.KernelDxRowIdeal.nD Cert.KernelDxRowIdeal.τ).loc Cert.KernelDxRowIdeal.main_arg3) = m ((c.tc : Thread Cert.KernelDxRowIdeal.nD Cert.KernelDxRowIdeal.τ).loc Cert.KernelDxRowIdeal.main_arg3)
          ∧ r.2.mem ((c.tc : Thread Cert.KernelDxRowIdeal.nD Cert.KernelDxRowIdeal.τ).loc Cert.KernelDxRowIdeal.main_arg4) = m ((c.tc : Thread Cert.KernelDxRowIdeal.nD Cert.KernelDxRowIdeal.τ).loc Cert.KernelDxRowIdeal.main_arg4)
          ∧ r.2.mem ((c.tc : Thread Cert.KernelDxRowIdeal.nD Cert.KernelDxRowIdeal.τ).loc Cert.KernelDxRowIdeal.main_arg5) = m ((c.tc : Thread Cert.KernelDxRowIdeal.nD Cert.KernelDxRowIdeal.τ).loc Cert.KernelDxRowIdeal.main_arg5))
      ∧ θ_run (Cert.ReferenceDxRowIdeal.defs (F := Ideal)) (onTc (τ := Cert.ReferenceDxRowIdeal.τ) (Cert.ReferenceDxRowIdeal.main (F := Ideal))) ⟨m', fun _ => 0, g'⟩ (fun r => ∀ c : Dev Cert.ReferenceDxRowIdeal.nD,
          r.2.mem ((c.tc : Thread Cert.ReferenceDxRowIdeal.nD Cert.ReferenceDxRowIdeal.τ).loc Cert.ReferenceDxRowIdeal.main_v47) = v0 c
          ∧ r.2.mem ((c.tc : Thread Cert.ReferenceDxRowIdeal.nD Cert.ReferenceDxRowIdeal.τ).loc Cert.ReferenceDxRowIdeal.main_v30) = v1 c
          ∧ r.2.mem ((c.tc : Thread Cert.ReferenceDxRowIdeal.nD Cert.ReferenceDxRowIdeal.τ).loc Cert.ReferenceDxRowIdeal.main_arg0) = m' ((c.tc : Thread Cert.ReferenceDxRowIdeal.nD Cert.ReferenceDxRowIdeal.τ).loc Cert.ReferenceDxRowIdeal.main_arg0)
          ∧ r.2.mem ((c.tc : Thread Cert.ReferenceDxRowIdeal.nD Cert.ReferenceDxRowIdeal.τ).loc Cert.ReferenceDxRowIdeal.main_arg1) = m' ((c.tc : Thread Cert.ReferenceDxRowIdeal.nD Cert.ReferenceDxRowIdeal.τ).loc Cert.ReferenceDxRowIdeal.main_arg1)
          ∧ r.2.mem ((c.tc : Thread Cert.ReferenceDxRowIdeal.nD Cert.ReferenceDxRowIdeal.τ).loc Cert.ReferenceDxRowIdeal.main_arg2) = m' ((c.tc : Thread Cert.ReferenceDxRowIdeal.nD Cert.ReferenceDxRowIdeal.τ).loc Cert.ReferenceDxRowIdeal.main_arg2)
          ∧ r.2.mem ((c.tc : Thread Cert.ReferenceDxRowIdeal.nD Cert.ReferenceDxRowIdeal.τ).loc Cert.ReferenceDxRowIdeal.main_arg3) = m' ((c.tc : Thread Cert.ReferenceDxRowIdeal.nD Cert.ReferenceDxRowIdeal.τ).loc Cert.ReferenceDxRowIdeal.main_arg3)
          ∧ r.2.mem ((c.tc : Thread Cert.ReferenceDxRowIdeal.nD Cert.ReferenceDxRowIdeal.τ).loc Cert.ReferenceDxRowIdeal.main_arg4) = m' ((c.tc : Thread Cert.ReferenceDxRowIdeal.nD Cert.ReferenceDxRowIdeal.τ).loc Cert.ReferenceDxRowIdeal.main_arg4)
          ∧ r.2.mem ((c.tc : Thread Cert.ReferenceDxRowIdeal.nD Cert.ReferenceDxRowIdeal.τ).loc Cert.ReferenceDxRowIdeal.main_arg5) = m' ((c.tc : Thread Cert.ReferenceDxRowIdeal.nD Cert.ReferenceDxRowIdeal.τ).loc Cert.ReferenceDxRowIdeal.main_arg5))

def preserves_KernelDw1Row_KernelDw1RowIdeal : Prop :=
  True

def algebraic_KernelDw1RowIdeal_ReferenceDw1RowIdeal [hKernelDw1RowIdeal : Cert.KernelDw1RowIdeal.Facts] [hReferenceDw1RowIdeal : Cert.ReferenceDw1RowIdeal.Facts] : Prop :=
  ∀ (m : (ℓ : Loc Cert.KernelDw1RowIdeal.nD Cert.KernelDw1RowIdeal.τ Cert.KernelDw1RowIdeal.sig) → Buf (Elt Ideal) ℓ) (g : Dev Cert.KernelDw1RowIdeal.nD → PrngReg)
    (m' : (ℓ : Loc Cert.ReferenceDw1RowIdeal.nD Cert.ReferenceDw1RowIdeal.τ Cert.ReferenceDw1RowIdeal.sig) → Buf (Elt Ideal) ℓ) (g' : Dev Cert.ReferenceDw1RowIdeal.nD → PrngReg), Pre_KernelDw1RowIdeal m →
    (∀ c : Dev Cert.KernelDw1RowIdeal.nD,
      m' ((c.tc : Thread Cert.ReferenceDw1RowIdeal.nD Cert.ReferenceDw1RowIdeal.τ).loc Cert.ReferenceDw1RowIdeal.main_arg0) = m ((c.tc : Thread Cert.KernelDw1RowIdeal.nD Cert.KernelDw1RowIdeal.τ).loc Cert.KernelDw1RowIdeal.main_arg0)
      ∧ m' ((c.tc : Thread Cert.ReferenceDw1RowIdeal.nD Cert.ReferenceDw1RowIdeal.τ).loc Cert.ReferenceDw1RowIdeal.main_arg1) = m ((c.tc : Thread Cert.KernelDw1RowIdeal.nD Cert.KernelDw1RowIdeal.τ).loc Cert.KernelDw1RowIdeal.main_arg1)
      ∧ m' ((c.tc : Thread Cert.ReferenceDw1RowIdeal.nD Cert.ReferenceDw1RowIdeal.τ).loc Cert.ReferenceDw1RowIdeal.main_arg2) = m ((c.tc : Thread Cert.KernelDw1RowIdeal.nD Cert.KernelDw1RowIdeal.τ).loc Cert.KernelDw1RowIdeal.main_arg2)) →
    ∃ (v0 : (c : Dev Cert.KernelDw1RowIdeal.nD) → Buf (Elt Ideal) ((c.tc : Thread Cert.KernelDw1RowIdeal.nD Cert.KernelDw1RowIdeal.τ).loc Cert.KernelDw1RowIdeal.main_v0)),
      θ_run (Cert.KernelDw1RowIdeal.defs (F := Ideal)) (onTc (τ := Cert.KernelDw1RowIdeal.τ) (Cert.KernelDw1RowIdeal.main (F := Ideal))) ⟨m, fun _ => 0, g⟩ (fun r => ∀ c : Dev Cert.KernelDw1RowIdeal.nD,
          r.2.mem ((c.tc : Thread Cert.KernelDw1RowIdeal.nD Cert.KernelDw1RowIdeal.τ).loc Cert.KernelDw1RowIdeal.main_v0) = v0 c
          ∧ r.2.mem ((c.tc : Thread Cert.KernelDw1RowIdeal.nD Cert.KernelDw1RowIdeal.τ).loc Cert.KernelDw1RowIdeal.main_arg0) = m ((c.tc : Thread Cert.KernelDw1RowIdeal.nD Cert.KernelDw1RowIdeal.τ).loc Cert.KernelDw1RowIdeal.main_arg0)
          ∧ r.2.mem ((c.tc : Thread Cert.KernelDw1RowIdeal.nD Cert.KernelDw1RowIdeal.τ).loc Cert.KernelDw1RowIdeal.main_arg1) = m ((c.tc : Thread Cert.KernelDw1RowIdeal.nD Cert.KernelDw1RowIdeal.τ).loc Cert.KernelDw1RowIdeal.main_arg1)
          ∧ r.2.mem ((c.tc : Thread Cert.KernelDw1RowIdeal.nD Cert.KernelDw1RowIdeal.τ).loc Cert.KernelDw1RowIdeal.main_arg2) = m ((c.tc : Thread Cert.KernelDw1RowIdeal.nD Cert.KernelDw1RowIdeal.τ).loc Cert.KernelDw1RowIdeal.main_arg2))
      ∧ θ_run (Cert.ReferenceDw1RowIdeal.defs (F := Ideal)) (onTc (τ := Cert.ReferenceDw1RowIdeal.τ) (Cert.ReferenceDw1RowIdeal.main (F := Ideal))) ⟨m', fun _ => 0, g'⟩ (fun r => ∀ c : Dev Cert.ReferenceDw1RowIdeal.nD,
          r.2.mem ((c.tc : Thread Cert.ReferenceDw1RowIdeal.nD Cert.ReferenceDw1RowIdeal.τ).loc Cert.ReferenceDw1RowIdeal.main_v17) = v0 c
          ∧ r.2.mem ((c.tc : Thread Cert.ReferenceDw1RowIdeal.nD Cert.ReferenceDw1RowIdeal.τ).loc Cert.ReferenceDw1RowIdeal.main_arg0) = m' ((c.tc : Thread Cert.ReferenceDw1RowIdeal.nD Cert.ReferenceDw1RowIdeal.τ).loc Cert.ReferenceDw1RowIdeal.main_arg0)
          ∧ r.2.mem ((c.tc : Thread Cert.ReferenceDw1RowIdeal.nD Cert.ReferenceDw1RowIdeal.τ).loc Cert.ReferenceDw1RowIdeal.main_arg1) = m' ((c.tc : Thread Cert.ReferenceDw1RowIdeal.nD Cert.ReferenceDw1RowIdeal.τ).loc Cert.ReferenceDw1RowIdeal.main_arg1)
          ∧ r.2.mem ((c.tc : Thread Cert.ReferenceDw1RowIdeal.nD Cert.ReferenceDw1RowIdeal.τ).loc Cert.ReferenceDw1RowIdeal.main_arg2) = m' ((c.tc : Thread Cert.ReferenceDw1RowIdeal.nD Cert.ReferenceDw1RowIdeal.τ).loc Cert.ReferenceDw1RowIdeal.main_arg2))

def preserves_KernelDw2Row_KernelDw2RowIdeal : Prop :=
  True

def algebraic_KernelDw2RowIdeal_ReferenceDw2RowIdeal [hKernelDw2RowIdeal : Cert.KernelDw2RowIdeal.Facts] [hReferenceDw2RowIdeal : Cert.ReferenceDw2RowIdeal.Facts] : Prop :=
  ∀ (m : (ℓ : Loc Cert.KernelDw2RowIdeal.nD Cert.KernelDw2RowIdeal.τ Cert.KernelDw2RowIdeal.sig) → Buf (Elt Ideal) ℓ) (g : Dev Cert.KernelDw2RowIdeal.nD → PrngReg)
    (m' : (ℓ : Loc Cert.ReferenceDw2RowIdeal.nD Cert.ReferenceDw2RowIdeal.τ Cert.ReferenceDw2RowIdeal.sig) → Buf (Elt Ideal) ℓ) (g' : Dev Cert.ReferenceDw2RowIdeal.nD → PrngReg), Pre_KernelDw2RowIdeal m →
    (∀ c : Dev Cert.KernelDw2RowIdeal.nD,
      m' ((c.tc : Thread Cert.ReferenceDw2RowIdeal.nD Cert.ReferenceDw2RowIdeal.τ).loc Cert.ReferenceDw2RowIdeal.main_arg0) = m ((c.tc : Thread Cert.KernelDw2RowIdeal.nD Cert.KernelDw2RowIdeal.τ).loc Cert.KernelDw2RowIdeal.main_arg0)
      ∧ m' ((c.tc : Thread Cert.ReferenceDw2RowIdeal.nD Cert.ReferenceDw2RowIdeal.τ).loc Cert.ReferenceDw2RowIdeal.main_arg1) = m ((c.tc : Thread Cert.KernelDw2RowIdeal.nD Cert.KernelDw2RowIdeal.τ).loc Cert.KernelDw2RowIdeal.main_arg1)
      ∧ m' ((c.tc : Thread Cert.ReferenceDw2RowIdeal.nD Cert.ReferenceDw2RowIdeal.τ).loc Cert.ReferenceDw2RowIdeal.main_arg2) = m ((c.tc : Thread Cert.KernelDw2RowIdeal.nD Cert.KernelDw2RowIdeal.τ).loc Cert.KernelDw2RowIdeal.main_arg2)) →
    ∃ (v0 : (c : Dev Cert.KernelDw2RowIdeal.nD) → Buf (Elt Ideal) ((c.tc : Thread Cert.KernelDw2RowIdeal.nD Cert.KernelDw2RowIdeal.τ).loc Cert.KernelDw2RowIdeal.main_v0)),
      θ_run (Cert.KernelDw2RowIdeal.defs (F := Ideal)) (onTc (τ := Cert.KernelDw2RowIdeal.τ) (Cert.KernelDw2RowIdeal.main (F := Ideal))) ⟨m, fun _ => 0, g⟩ (fun r => ∀ c : Dev Cert.KernelDw2RowIdeal.nD,
          r.2.mem ((c.tc : Thread Cert.KernelDw2RowIdeal.nD Cert.KernelDw2RowIdeal.τ).loc Cert.KernelDw2RowIdeal.main_v0) = v0 c
          ∧ r.2.mem ((c.tc : Thread Cert.KernelDw2RowIdeal.nD Cert.KernelDw2RowIdeal.τ).loc Cert.KernelDw2RowIdeal.main_arg0) = m ((c.tc : Thread Cert.KernelDw2RowIdeal.nD Cert.KernelDw2RowIdeal.τ).loc Cert.KernelDw2RowIdeal.main_arg0)
          ∧ r.2.mem ((c.tc : Thread Cert.KernelDw2RowIdeal.nD Cert.KernelDw2RowIdeal.τ).loc Cert.KernelDw2RowIdeal.main_arg1) = m ((c.tc : Thread Cert.KernelDw2RowIdeal.nD Cert.KernelDw2RowIdeal.τ).loc Cert.KernelDw2RowIdeal.main_arg1)
          ∧ r.2.mem ((c.tc : Thread Cert.KernelDw2RowIdeal.nD Cert.KernelDw2RowIdeal.τ).loc Cert.KernelDw2RowIdeal.main_arg2) = m ((c.tc : Thread Cert.KernelDw2RowIdeal.nD Cert.KernelDw2RowIdeal.τ).loc Cert.KernelDw2RowIdeal.main_arg2))
      ∧ θ_run (Cert.ReferenceDw2RowIdeal.defs (F := Ideal)) (onTc (τ := Cert.ReferenceDw2RowIdeal.τ) (Cert.ReferenceDw2RowIdeal.main (F := Ideal))) ⟨m', fun _ => 0, g'⟩ (fun r => ∀ c : Dev Cert.ReferenceDw2RowIdeal.nD,
          r.2.mem ((c.tc : Thread Cert.ReferenceDw2RowIdeal.nD Cert.ReferenceDw2RowIdeal.τ).loc Cert.ReferenceDw2RowIdeal.main_v11) = v0 c
          ∧ r.2.mem ((c.tc : Thread Cert.ReferenceDw2RowIdeal.nD Cert.ReferenceDw2RowIdeal.τ).loc Cert.ReferenceDw2RowIdeal.main_arg0) = m' ((c.tc : Thread Cert.ReferenceDw2RowIdeal.nD Cert.ReferenceDw2RowIdeal.τ).loc Cert.ReferenceDw2RowIdeal.main_arg0)
          ∧ r.2.mem ((c.tc : Thread Cert.ReferenceDw2RowIdeal.nD Cert.ReferenceDw2RowIdeal.τ).loc Cert.ReferenceDw2RowIdeal.main_arg1) = m' ((c.tc : Thread Cert.ReferenceDw2RowIdeal.nD Cert.ReferenceDw2RowIdeal.τ).loc Cert.ReferenceDw2RowIdeal.main_arg1)
          ∧ r.2.mem ((c.tc : Thread Cert.ReferenceDw2RowIdeal.nD Cert.ReferenceDw2RowIdeal.τ).loc Cert.ReferenceDw2RowIdeal.main_arg2) = m' ((c.tc : Thread Cert.ReferenceDw2RowIdeal.nD Cert.ReferenceDw2RowIdeal.τ).loc Cert.ReferenceDw2RowIdeal.main_arg2))

def preserves_KernelProjA_KernelProjAIdeal : Prop :=
  True

def algebraic_KernelProjAIdeal_ReferenceProjAIdeal [hKernelProjAIdeal : Cert.KernelProjAIdeal.Facts] [hReferenceProjAIdeal : Cert.ReferenceProjAIdeal.Facts] : Prop :=
  ∀ (m : (ℓ : Loc Cert.KernelProjAIdeal.nD Cert.KernelProjAIdeal.τ Cert.KernelProjAIdeal.sig) → Buf (Elt Ideal) ℓ) (g : Dev Cert.KernelProjAIdeal.nD → PrngReg)
    (m' : (ℓ : Loc Cert.ReferenceProjAIdeal.nD Cert.ReferenceProjAIdeal.τ Cert.ReferenceProjAIdeal.sig) → Buf (Elt Ideal) ℓ) (g' : Dev Cert.ReferenceProjAIdeal.nD → PrngReg), Pre_KernelProjAIdeal m →
    (∀ c : Dev Cert.KernelProjAIdeal.nD,
      m' ((c.tc : Thread Cert.ReferenceProjAIdeal.nD Cert.ReferenceProjAIdeal.τ).loc Cert.ReferenceProjAIdeal.main_arg0) = m ((c.tc : Thread Cert.KernelProjAIdeal.nD Cert.KernelProjAIdeal.τ).loc Cert.KernelProjAIdeal.main_arg0)
      ∧ m' ((c.tc : Thread Cert.ReferenceProjAIdeal.nD Cert.ReferenceProjAIdeal.τ).loc Cert.ReferenceProjAIdeal.main_arg1) = m ((c.tc : Thread Cert.KernelProjAIdeal.nD Cert.KernelProjAIdeal.τ).loc Cert.KernelProjAIdeal.main_arg1)
      ∧ m' ((c.tc : Thread Cert.ReferenceProjAIdeal.nD Cert.ReferenceProjAIdeal.τ).loc Cert.ReferenceProjAIdeal.main_arg2) = m ((c.tc : Thread Cert.KernelProjAIdeal.nD Cert.KernelProjAIdeal.τ).loc Cert.KernelProjAIdeal.main_arg2)) →
    ∃ (v0 : (c : Dev Cert.KernelProjAIdeal.nD) → Buf (Elt Ideal) ((c.tc : Thread Cert.KernelProjAIdeal.nD Cert.KernelProjAIdeal.τ).loc Cert.KernelProjAIdeal.main_v0)),
      θ_run (Cert.KernelProjAIdeal.defs (F := Ideal)) (onTc (τ := Cert.KernelProjAIdeal.τ) (Cert.KernelProjAIdeal.main (F := Ideal))) ⟨m, fun _ => 0, g⟩ (fun r => ∀ c : Dev Cert.KernelProjAIdeal.nD,
          r.2.mem ((c.tc : Thread Cert.KernelProjAIdeal.nD Cert.KernelProjAIdeal.τ).loc Cert.KernelProjAIdeal.main_v0) = v0 c
          ∧ r.2.mem ((c.tc : Thread Cert.KernelProjAIdeal.nD Cert.KernelProjAIdeal.τ).loc Cert.KernelProjAIdeal.main_arg0) = m ((c.tc : Thread Cert.KernelProjAIdeal.nD Cert.KernelProjAIdeal.τ).loc Cert.KernelProjAIdeal.main_arg0)
          ∧ r.2.mem ((c.tc : Thread Cert.KernelProjAIdeal.nD Cert.KernelProjAIdeal.τ).loc Cert.KernelProjAIdeal.main_arg1) = m ((c.tc : Thread Cert.KernelProjAIdeal.nD Cert.KernelProjAIdeal.τ).loc Cert.KernelProjAIdeal.main_arg1)
          ∧ r.2.mem ((c.tc : Thread Cert.KernelProjAIdeal.nD Cert.KernelProjAIdeal.τ).loc Cert.KernelProjAIdeal.main_arg2) = m ((c.tc : Thread Cert.KernelProjAIdeal.nD Cert.KernelProjAIdeal.τ).loc Cert.KernelProjAIdeal.main_arg2))
      ∧ θ_run (Cert.ReferenceProjAIdeal.defs (F := Ideal)) (onTc (τ := Cert.ReferenceProjAIdeal.τ) (Cert.ReferenceProjAIdeal.main (F := Ideal))) ⟨m', fun _ => 0, g'⟩ (fun r => ∀ c : Dev Cert.ReferenceProjAIdeal.nD,
          r.2.mem ((c.tc : Thread Cert.ReferenceProjAIdeal.nD Cert.ReferenceProjAIdeal.τ).loc Cert.ReferenceProjAIdeal.main_v4) = v0 c
          ∧ r.2.mem ((c.tc : Thread Cert.ReferenceProjAIdeal.nD Cert.ReferenceProjAIdeal.τ).loc Cert.ReferenceProjAIdeal.main_arg0) = m' ((c.tc : Thread Cert.ReferenceProjAIdeal.nD Cert.ReferenceProjAIdeal.τ).loc Cert.ReferenceProjAIdeal.main_arg0)
          ∧ r.2.mem ((c.tc : Thread Cert.ReferenceProjAIdeal.nD Cert.ReferenceProjAIdeal.τ).loc Cert.ReferenceProjAIdeal.main_arg1) = m' ((c.tc : Thread Cert.ReferenceProjAIdeal.nD Cert.ReferenceProjAIdeal.τ).loc Cert.ReferenceProjAIdeal.main_arg1)
          ∧ r.2.mem ((c.tc : Thread Cert.ReferenceProjAIdeal.nD Cert.ReferenceProjAIdeal.τ).loc Cert.ReferenceProjAIdeal.main_arg2) = m' ((c.tc : Thread Cert.ReferenceProjAIdeal.nD Cert.ReferenceProjAIdeal.τ).loc Cert.ReferenceProjAIdeal.main_arg2))

def preserves_KernelProjB_KernelProjBIdeal : Prop :=
  True

def algebraic_KernelProjBIdeal_ReferenceProjBIdeal [hKernelProjBIdeal : Cert.KernelProjBIdeal.Facts] [hReferenceProjBIdeal : Cert.ReferenceProjBIdeal.Facts] : Prop :=
  ∀ (m : (ℓ : Loc Cert.KernelProjBIdeal.nD Cert.KernelProjBIdeal.τ Cert.KernelProjBIdeal.sig) → Buf (Elt Ideal) ℓ) (g : Dev Cert.KernelProjBIdeal.nD → PrngReg)
    (m' : (ℓ : Loc Cert.ReferenceProjBIdeal.nD Cert.ReferenceProjBIdeal.τ Cert.ReferenceProjBIdeal.sig) → Buf (Elt Ideal) ℓ) (g' : Dev Cert.ReferenceProjBIdeal.nD → PrngReg), Pre_KernelProjBIdeal m →
    (∀ c : Dev Cert.KernelProjBIdeal.nD,
      m' ((c.tc : Thread Cert.ReferenceProjBIdeal.nD Cert.ReferenceProjBIdeal.τ).loc Cert.ReferenceProjBIdeal.main_arg0) = m ((c.tc : Thread Cert.KernelProjBIdeal.nD Cert.KernelProjBIdeal.τ).loc Cert.KernelProjBIdeal.main_arg0)
      ∧ m' ((c.tc : Thread Cert.ReferenceProjBIdeal.nD Cert.ReferenceProjBIdeal.τ).loc Cert.ReferenceProjBIdeal.main_arg1) = m ((c.tc : Thread Cert.KernelProjBIdeal.nD Cert.KernelProjBIdeal.τ).loc Cert.KernelProjBIdeal.main_arg1)
      ∧ m' ((c.tc : Thread Cert.ReferenceProjBIdeal.nD Cert.ReferenceProjBIdeal.τ).loc Cert.ReferenceProjBIdeal.main_arg2) = m ((c.tc : Thread Cert.KernelProjBIdeal.nD Cert.KernelProjBIdeal.τ).loc Cert.KernelProjBIdeal.main_arg2)) →
    ∃ (v0 : (c : Dev Cert.KernelProjBIdeal.nD) → Buf (Elt Ideal) ((c.tc : Thread Cert.KernelProjBIdeal.nD Cert.KernelProjBIdeal.τ).loc Cert.KernelProjBIdeal.main_v0)),
      θ_run (Cert.KernelProjBIdeal.defs (F := Ideal)) (onTc (τ := Cert.KernelProjBIdeal.τ) (Cert.KernelProjBIdeal.main (F := Ideal))) ⟨m, fun _ => 0, g⟩ (fun r => ∀ c : Dev Cert.KernelProjBIdeal.nD,
          r.2.mem ((c.tc : Thread Cert.KernelProjBIdeal.nD Cert.KernelProjBIdeal.τ).loc Cert.KernelProjBIdeal.main_v0) = v0 c
          ∧ r.2.mem ((c.tc : Thread Cert.KernelProjBIdeal.nD Cert.KernelProjBIdeal.τ).loc Cert.KernelProjBIdeal.main_arg0) = m ((c.tc : Thread Cert.KernelProjBIdeal.nD Cert.KernelProjBIdeal.τ).loc Cert.KernelProjBIdeal.main_arg0)
          ∧ r.2.mem ((c.tc : Thread Cert.KernelProjBIdeal.nD Cert.KernelProjBIdeal.τ).loc Cert.KernelProjBIdeal.main_arg1) = m ((c.tc : Thread Cert.KernelProjBIdeal.nD Cert.KernelProjBIdeal.τ).loc Cert.KernelProjBIdeal.main_arg1)
          ∧ r.2.mem ((c.tc : Thread Cert.KernelProjBIdeal.nD Cert.KernelProjBIdeal.τ).loc Cert.KernelProjBIdeal.main_arg2) = m ((c.tc : Thread Cert.KernelProjBIdeal.nD Cert.KernelProjBIdeal.τ).loc Cert.KernelProjBIdeal.main_arg2))
      ∧ θ_run (Cert.ReferenceProjBIdeal.defs (F := Ideal)) (onTc (τ := Cert.ReferenceProjBIdeal.τ) (Cert.ReferenceProjBIdeal.main (F := Ideal))) ⟨m', fun _ => 0, g'⟩ (fun r => ∀ c : Dev Cert.ReferenceProjBIdeal.nD,
          r.2.mem ((c.tc : Thread Cert.ReferenceProjBIdeal.nD Cert.ReferenceProjBIdeal.τ).loc Cert.ReferenceProjBIdeal.main_v4) = v0 c
          ∧ r.2.mem ((c.tc : Thread Cert.ReferenceProjBIdeal.nD Cert.ReferenceProjBIdeal.τ).loc Cert.ReferenceProjBIdeal.main_arg0) = m' ((c.tc : Thread Cert.ReferenceProjBIdeal.nD Cert.ReferenceProjBIdeal.τ).loc Cert.ReferenceProjBIdeal.main_arg0)
          ∧ r.2.mem ((c.tc : Thread Cert.ReferenceProjBIdeal.nD Cert.ReferenceProjBIdeal.τ).loc Cert.ReferenceProjBIdeal.main_arg1) = m' ((c.tc : Thread Cert.ReferenceProjBIdeal.nD Cert.ReferenceProjBIdeal.τ).loc Cert.ReferenceProjBIdeal.main_arg1)
          ∧ r.2.mem ((c.tc : Thread Cert.ReferenceProjBIdeal.nD Cert.ReferenceProjBIdeal.τ).loc Cert.ReferenceProjBIdeal.main_arg2) = m' ((c.tc : Thread Cert.ReferenceProjBIdeal.nD Cert.ReferenceProjBIdeal.τ).loc Cert.ReferenceProjBIdeal.main_arg2))

def preserves_KernelProjG_KernelProjGIdeal : Prop :=
  True

def algebraic_KernelProjGIdeal_ReferenceProjGIdeal [hKernelProjGIdeal : Cert.KernelProjGIdeal.Facts] [hReferenceProjGIdeal : Cert.ReferenceProjGIdeal.Facts] : Prop :=
  ∀ (m : (ℓ : Loc Cert.KernelProjGIdeal.nD Cert.KernelProjGIdeal.τ Cert.KernelProjGIdeal.sig) → Buf (Elt Ideal) ℓ) (g : Dev Cert.KernelProjGIdeal.nD → PrngReg)
    (m' : (ℓ : Loc Cert.ReferenceProjGIdeal.nD Cert.ReferenceProjGIdeal.τ Cert.ReferenceProjGIdeal.sig) → Buf (Elt Ideal) ℓ) (g' : Dev Cert.ReferenceProjGIdeal.nD → PrngReg), Pre_KernelProjGIdeal m →
    (∀ c : Dev Cert.KernelProjGIdeal.nD,
      m' ((c.tc : Thread Cert.ReferenceProjGIdeal.nD Cert.ReferenceProjGIdeal.τ).loc Cert.ReferenceProjGIdeal.main_arg0) = m ((c.tc : Thread Cert.KernelProjGIdeal.nD Cert.KernelProjGIdeal.τ).loc Cert.KernelProjGIdeal.main_arg0)
      ∧ m' ((c.tc : Thread Cert.ReferenceProjGIdeal.nD Cert.ReferenceProjGIdeal.τ).loc Cert.ReferenceProjGIdeal.main_arg1) = m ((c.tc : Thread Cert.KernelProjGIdeal.nD Cert.KernelProjGIdeal.τ).loc Cert.KernelProjGIdeal.main_arg1)
      ∧ m' ((c.tc : Thread Cert.ReferenceProjGIdeal.nD Cert.ReferenceProjGIdeal.τ).loc Cert.ReferenceProjGIdeal.main_arg2) = m ((c.tc : Thread Cert.KernelProjGIdeal.nD Cert.KernelProjGIdeal.τ).loc Cert.KernelProjGIdeal.main_arg2)) →
    ∃ (v0 : (c : Dev Cert.KernelProjGIdeal.nD) → Buf (Elt Ideal) ((c.tc : Thread Cert.KernelProjGIdeal.nD Cert.KernelProjGIdeal.τ).loc Cert.KernelProjGIdeal.main_v0)),
      θ_run (Cert.KernelProjGIdeal.defs (F := Ideal)) (onTc (τ := Cert.KernelProjGIdeal.τ) (Cert.KernelProjGIdeal.main (F := Ideal))) ⟨m, fun _ => 0, g⟩ (fun r => ∀ c : Dev Cert.KernelProjGIdeal.nD,
          r.2.mem ((c.tc : Thread Cert.KernelProjGIdeal.nD Cert.KernelProjGIdeal.τ).loc Cert.KernelProjGIdeal.main_v0) = v0 c
          ∧ r.2.mem ((c.tc : Thread Cert.KernelProjGIdeal.nD Cert.KernelProjGIdeal.τ).loc Cert.KernelProjGIdeal.main_arg0) = m ((c.tc : Thread Cert.KernelProjGIdeal.nD Cert.KernelProjGIdeal.τ).loc Cert.KernelProjGIdeal.main_arg0)
          ∧ r.2.mem ((c.tc : Thread Cert.KernelProjGIdeal.nD Cert.KernelProjGIdeal.τ).loc Cert.KernelProjGIdeal.main_arg1) = m ((c.tc : Thread Cert.KernelProjGIdeal.nD Cert.KernelProjGIdeal.τ).loc Cert.KernelProjGIdeal.main_arg1)
          ∧ r.2.mem ((c.tc : Thread Cert.KernelProjGIdeal.nD Cert.KernelProjGIdeal.τ).loc Cert.KernelProjGIdeal.main_arg2) = m ((c.tc : Thread Cert.KernelProjGIdeal.nD Cert.KernelProjGIdeal.τ).loc Cert.KernelProjGIdeal.main_arg2))
      ∧ θ_run (Cert.ReferenceProjGIdeal.defs (F := Ideal)) (onTc (τ := Cert.ReferenceProjGIdeal.τ) (Cert.ReferenceProjGIdeal.main (F := Ideal))) ⟨m', fun _ => 0, g'⟩ (fun r => ∀ c : Dev Cert.ReferenceProjGIdeal.nD,
          r.2.mem ((c.tc : Thread Cert.ReferenceProjGIdeal.nD Cert.ReferenceProjGIdeal.τ).loc Cert.ReferenceProjGIdeal.main_v4) = v0 c
          ∧ r.2.mem ((c.tc : Thread Cert.ReferenceProjGIdeal.nD Cert.ReferenceProjGIdeal.τ).loc Cert.ReferenceProjGIdeal.main_arg0) = m' ((c.tc : Thread Cert.ReferenceProjGIdeal.nD Cert.ReferenceProjGIdeal.τ).loc Cert.ReferenceProjGIdeal.main_arg0)
          ∧ r.2.mem ((c.tc : Thread Cert.ReferenceProjGIdeal.nD Cert.ReferenceProjGIdeal.τ).loc Cert.ReferenceProjGIdeal.main_arg1) = m' ((c.tc : Thread Cert.ReferenceProjGIdeal.nD Cert.ReferenceProjGIdeal.τ).loc Cert.ReferenceProjGIdeal.main_arg1)
          ∧ r.2.mem ((c.tc : Thread Cert.ReferenceProjGIdeal.nD Cert.ReferenceProjGIdeal.τ).loc Cert.ReferenceProjGIdeal.main_arg2) = m' ((c.tc : Thread Cert.ReferenceProjGIdeal.nD Cert.ReferenceProjGIdeal.τ).loc Cert.ReferenceProjGIdeal.main_arg2))

def preserves_KernelDwA_KernelDwAIdeal : Prop :=
  True

def algebraic_KernelDwAIdeal_ReferenceDwAIdeal [hKernelDwAIdeal : Cert.KernelDwAIdeal.Facts] [hReferenceDwAIdeal : Cert.ReferenceDwAIdeal.Facts] : Prop :=
  ∀ (m : (ℓ : Loc Cert.KernelDwAIdeal.nD Cert.KernelDwAIdeal.τ Cert.KernelDwAIdeal.sig) → Buf (Elt Ideal) ℓ) (g : Dev Cert.KernelDwAIdeal.nD → PrngReg)
    (m' : (ℓ : Loc Cert.ReferenceDwAIdeal.nD Cert.ReferenceDwAIdeal.τ Cert.ReferenceDwAIdeal.sig) → Buf (Elt Ideal) ℓ) (g' : Dev Cert.ReferenceDwAIdeal.nD → PrngReg), Pre_KernelDwAIdeal m →
    (∀ c : Dev Cert.KernelDwAIdeal.nD,
      m' ((c.tc : Thread Cert.ReferenceDwAIdeal.nD Cert.ReferenceDwAIdeal.τ).loc Cert.ReferenceDwAIdeal.main_arg0) = m ((c.tc : Thread Cert.KernelDwAIdeal.nD Cert.KernelDwAIdeal.τ).loc Cert.KernelDwAIdeal.main_arg0)
      ∧ m' ((c.tc : Thread Cert.ReferenceDwAIdeal.nD Cert.ReferenceDwAIdeal.τ).loc Cert.ReferenceDwAIdeal.main_arg1) = m ((c.tc : Thread Cert.KernelDwAIdeal.nD Cert.KernelDwAIdeal.τ).loc Cert.KernelDwAIdeal.main_arg1)) →
    ∃ (v0 : (c : Dev Cert.KernelDwAIdeal.nD) → Buf (Elt Ideal) ((c.tc : Thread Cert.KernelDwAIdeal.nD Cert.KernelDwAIdeal.τ).loc Cert.KernelDwAIdeal.main_v0)),
      θ_run (Cert.KernelDwAIdeal.defs (F := Ideal)) (onTc (τ := Cert.KernelDwAIdeal.τ) (Cert.KernelDwAIdeal.main (F := Ideal))) ⟨m, fun _ => 0, g⟩ (fun r => ∀ c : Dev Cert.KernelDwAIdeal.nD,
          r.2.mem ((c.tc : Thread Cert.KernelDwAIdeal.nD Cert.KernelDwAIdeal.τ).loc Cert.KernelDwAIdeal.main_v0) = v0 c
          ∧ r.2.mem ((c.tc : Thread Cert.KernelDwAIdeal.nD Cert.KernelDwAIdeal.τ).loc Cert.KernelDwAIdeal.main_arg0) = m ((c.tc : Thread Cert.KernelDwAIdeal.nD Cert.KernelDwAIdeal.τ).loc Cert.KernelDwAIdeal.main_arg0)
          ∧ r.2.mem ((c.tc : Thread Cert.KernelDwAIdeal.nD Cert.KernelDwAIdeal.τ).loc Cert.KernelDwAIdeal.main_arg1) = m ((c.tc : Thread Cert.KernelDwAIdeal.nD Cert.KernelDwAIdeal.τ).loc Cert.KernelDwAIdeal.main_arg1))
      ∧ θ_run (Cert.ReferenceDwAIdeal.defs (F := Ideal)) (onTc (τ := Cert.ReferenceDwAIdeal.τ) (Cert.ReferenceDwAIdeal.main (F := Ideal))) ⟨m', fun _ => 0, g'⟩ (fun r => ∀ c : Dev Cert.ReferenceDwAIdeal.nD,
          r.2.mem ((c.tc : Thread Cert.ReferenceDwAIdeal.nD Cert.ReferenceDwAIdeal.τ).loc Cert.ReferenceDwAIdeal.main_v6) = v0 c
          ∧ r.2.mem ((c.tc : Thread Cert.ReferenceDwAIdeal.nD Cert.ReferenceDwAIdeal.τ).loc Cert.ReferenceDwAIdeal.main_arg0) = m' ((c.tc : Thread Cert.ReferenceDwAIdeal.nD Cert.ReferenceDwAIdeal.τ).loc Cert.ReferenceDwAIdeal.main_arg0)
          ∧ r.2.mem ((c.tc : Thread Cert.ReferenceDwAIdeal.nD Cert.ReferenceDwAIdeal.τ).loc Cert.ReferenceDwAIdeal.main_arg1) = m' ((c.tc : Thread Cert.ReferenceDwAIdeal.nD Cert.ReferenceDwAIdeal.τ).loc Cert.ReferenceDwAIdeal.main_arg1))

def preserves_KernelDwB_KernelDwBIdeal : Prop :=
  True

def algebraic_KernelDwBIdeal_ReferenceDwBIdeal [hKernelDwBIdeal : Cert.KernelDwBIdeal.Facts] [hReferenceDwBIdeal : Cert.ReferenceDwBIdeal.Facts] : Prop :=
  ∀ (m : (ℓ : Loc Cert.KernelDwBIdeal.nD Cert.KernelDwBIdeal.τ Cert.KernelDwBIdeal.sig) → Buf (Elt Ideal) ℓ) (g : Dev Cert.KernelDwBIdeal.nD → PrngReg)
    (m' : (ℓ : Loc Cert.ReferenceDwBIdeal.nD Cert.ReferenceDwBIdeal.τ Cert.ReferenceDwBIdeal.sig) → Buf (Elt Ideal) ℓ) (g' : Dev Cert.ReferenceDwBIdeal.nD → PrngReg), Pre_KernelDwBIdeal m →
    (∀ c : Dev Cert.KernelDwBIdeal.nD,
      m' ((c.tc : Thread Cert.ReferenceDwBIdeal.nD Cert.ReferenceDwBIdeal.τ).loc Cert.ReferenceDwBIdeal.main_arg0) = m ((c.tc : Thread Cert.KernelDwBIdeal.nD Cert.KernelDwBIdeal.τ).loc Cert.KernelDwBIdeal.main_arg0)
      ∧ m' ((c.tc : Thread Cert.ReferenceDwBIdeal.nD Cert.ReferenceDwBIdeal.τ).loc Cert.ReferenceDwBIdeal.main_arg1) = m ((c.tc : Thread Cert.KernelDwBIdeal.nD Cert.KernelDwBIdeal.τ).loc Cert.KernelDwBIdeal.main_arg1)) →
    ∃ (v0 : (c : Dev Cert.KernelDwBIdeal.nD) → Buf (Elt Ideal) ((c.tc : Thread Cert.KernelDwBIdeal.nD Cert.KernelDwBIdeal.τ).loc Cert.KernelDwBIdeal.main_v0)),
      θ_run (Cert.KernelDwBIdeal.defs (F := Ideal)) (onTc (τ := Cert.KernelDwBIdeal.τ) (Cert.KernelDwBIdeal.main (F := Ideal))) ⟨m, fun _ => 0, g⟩ (fun r => ∀ c : Dev Cert.KernelDwBIdeal.nD,
          r.2.mem ((c.tc : Thread Cert.KernelDwBIdeal.nD Cert.KernelDwBIdeal.τ).loc Cert.KernelDwBIdeal.main_v0) = v0 c
          ∧ r.2.mem ((c.tc : Thread Cert.KernelDwBIdeal.nD Cert.KernelDwBIdeal.τ).loc Cert.KernelDwBIdeal.main_arg0) = m ((c.tc : Thread Cert.KernelDwBIdeal.nD Cert.KernelDwBIdeal.τ).loc Cert.KernelDwBIdeal.main_arg0)
          ∧ r.2.mem ((c.tc : Thread Cert.KernelDwBIdeal.nD Cert.KernelDwBIdeal.τ).loc Cert.KernelDwBIdeal.main_arg1) = m ((c.tc : Thread Cert.KernelDwBIdeal.nD Cert.KernelDwBIdeal.τ).loc Cert.KernelDwBIdeal.main_arg1))
      ∧ θ_run (Cert.ReferenceDwBIdeal.defs (F := Ideal)) (onTc (τ := Cert.ReferenceDwBIdeal.τ) (Cert.ReferenceDwBIdeal.main (F := Ideal))) ⟨m', fun _ => 0, g'⟩ (fun r => ∀ c : Dev Cert.ReferenceDwBIdeal.nD,
          r.2.mem ((c.tc : Thread Cert.ReferenceDwBIdeal.nD Cert.ReferenceDwBIdeal.τ).loc Cert.ReferenceDwBIdeal.main_v6) = v0 c
          ∧ r.2.mem ((c.tc : Thread Cert.ReferenceDwBIdeal.nD Cert.ReferenceDwBIdeal.τ).loc Cert.ReferenceDwBIdeal.main_arg0) = m' ((c.tc : Thread Cert.ReferenceDwBIdeal.nD Cert.ReferenceDwBIdeal.τ).loc Cert.ReferenceDwBIdeal.main_arg0)
          ∧ r.2.mem ((c.tc : Thread Cert.ReferenceDwBIdeal.nD Cert.ReferenceDwBIdeal.τ).loc Cert.ReferenceDwBIdeal.main_arg1) = m' ((c.tc : Thread Cert.ReferenceDwBIdeal.nD Cert.ReferenceDwBIdeal.τ).loc Cert.ReferenceDwBIdeal.main_arg1))

def preserves_KernelDwG_KernelDwGIdeal : Prop :=
  True

def algebraic_KernelDwGIdeal_ReferenceDwGIdeal [hKernelDwGIdeal : Cert.KernelDwGIdeal.Facts] [hReferenceDwGIdeal : Cert.ReferenceDwGIdeal.Facts] : Prop :=
  ∀ (m : (ℓ : Loc Cert.KernelDwGIdeal.nD Cert.KernelDwGIdeal.τ Cert.KernelDwGIdeal.sig) → Buf (Elt Ideal) ℓ) (g : Dev Cert.KernelDwGIdeal.nD → PrngReg)
    (m' : (ℓ : Loc Cert.ReferenceDwGIdeal.nD Cert.ReferenceDwGIdeal.τ Cert.ReferenceDwGIdeal.sig) → Buf (Elt Ideal) ℓ) (g' : Dev Cert.ReferenceDwGIdeal.nD → PrngReg), Pre_KernelDwGIdeal m →
    (∀ c : Dev Cert.KernelDwGIdeal.nD,
      m' ((c.tc : Thread Cert.ReferenceDwGIdeal.nD Cert.ReferenceDwGIdeal.τ).loc Cert.ReferenceDwGIdeal.main_arg0) = m ((c.tc : Thread Cert.KernelDwGIdeal.nD Cert.KernelDwGIdeal.τ).loc Cert.KernelDwGIdeal.main_arg0)
      ∧ m' ((c.tc : Thread Cert.ReferenceDwGIdeal.nD Cert.ReferenceDwGIdeal.τ).loc Cert.ReferenceDwGIdeal.main_arg1) = m ((c.tc : Thread Cert.KernelDwGIdeal.nD Cert.KernelDwGIdeal.τ).loc Cert.KernelDwGIdeal.main_arg1)) →
    ∃ (v0 : (c : Dev Cert.KernelDwGIdeal.nD) → Buf (Elt Ideal) ((c.tc : Thread Cert.KernelDwGIdeal.nD Cert.KernelDwGIdeal.τ).loc Cert.KernelDwGIdeal.main_v0)),
      θ_run (Cert.KernelDwGIdeal.defs (F := Ideal)) (onTc (τ := Cert.KernelDwGIdeal.τ) (Cert.KernelDwGIdeal.main (F := Ideal))) ⟨m, fun _ => 0, g⟩ (fun r => ∀ c : Dev Cert.KernelDwGIdeal.nD,
          r.2.mem ((c.tc : Thread Cert.KernelDwGIdeal.nD Cert.KernelDwGIdeal.τ).loc Cert.KernelDwGIdeal.main_v0) = v0 c
          ∧ r.2.mem ((c.tc : Thread Cert.KernelDwGIdeal.nD Cert.KernelDwGIdeal.τ).loc Cert.KernelDwGIdeal.main_arg0) = m ((c.tc : Thread Cert.KernelDwGIdeal.nD Cert.KernelDwGIdeal.τ).loc Cert.KernelDwGIdeal.main_arg0)
          ∧ r.2.mem ((c.tc : Thread Cert.KernelDwGIdeal.nD Cert.KernelDwGIdeal.τ).loc Cert.KernelDwGIdeal.main_arg1) = m ((c.tc : Thread Cert.KernelDwGIdeal.nD Cert.KernelDwGIdeal.τ).loc Cert.KernelDwGIdeal.main_arg1))
      ∧ θ_run (Cert.ReferenceDwGIdeal.defs (F := Ideal)) (onTc (τ := Cert.ReferenceDwGIdeal.τ) (Cert.ReferenceDwGIdeal.main (F := Ideal))) ⟨m', fun _ => 0, g'⟩ (fun r => ∀ c : Dev Cert.ReferenceDwGIdeal.nD,
          r.2.mem ((c.tc : Thread Cert.ReferenceDwGIdeal.nD Cert.ReferenceDwGIdeal.τ).loc Cert.ReferenceDwGIdeal.main_v6) = v0 c
          ∧ r.2.mem ((c.tc : Thread Cert.ReferenceDwGIdeal.nD Cert.ReferenceDwGIdeal.τ).loc Cert.ReferenceDwGIdeal.main_arg0) = m' ((c.tc : Thread Cert.ReferenceDwGIdeal.nD Cert.ReferenceDwGIdeal.τ).loc Cert.ReferenceDwGIdeal.main_arg0)
          ∧ r.2.mem ((c.tc : Thread Cert.ReferenceDwGIdeal.nD Cert.ReferenceDwGIdeal.τ).loc Cert.ReferenceDwGIdeal.main_arg1) = m' ((c.tc : Thread Cert.ReferenceDwGIdeal.nD Cert.ReferenceDwGIdeal.τ).loc Cert.ReferenceDwGIdeal.main_arg1))

def preserves_KernelDhA_KernelDhAIdeal : Prop :=
  True

def algebraic_KernelDhAIdeal_ReferenceDhAIdeal [hKernelDhAIdeal : Cert.KernelDhAIdeal.Facts] [hReferenceDhAIdeal : Cert.ReferenceDhAIdeal.Facts] : Prop :=
  ∀ (m : (ℓ : Loc Cert.KernelDhAIdeal.nD Cert.KernelDhAIdeal.τ Cert.KernelDhAIdeal.sig) → Buf (Elt Ideal) ℓ) (g : Dev Cert.KernelDhAIdeal.nD → PrngReg)
    (m' : (ℓ : Loc Cert.ReferenceDhAIdeal.nD Cert.ReferenceDhAIdeal.τ Cert.ReferenceDhAIdeal.sig) → Buf (Elt Ideal) ℓ) (g' : Dev Cert.ReferenceDhAIdeal.nD → PrngReg), Pre_KernelDhAIdeal m →
    (∀ c : Dev Cert.KernelDhAIdeal.nD,
      m' ((c.tc : Thread Cert.ReferenceDhAIdeal.nD Cert.ReferenceDhAIdeal.τ).loc Cert.ReferenceDhAIdeal.main_arg0) = m ((c.tc : Thread Cert.KernelDhAIdeal.nD Cert.KernelDhAIdeal.τ).loc Cert.KernelDhAIdeal.main_arg0)
      ∧ m' ((c.tc : Thread Cert.ReferenceDhAIdeal.nD Cert.ReferenceDhAIdeal.τ).loc Cert.ReferenceDhAIdeal.main_arg1) = m ((c.tc : Thread Cert.KernelDhAIdeal.nD Cert.KernelDhAIdeal.τ).loc Cert.KernelDhAIdeal.main_arg1)) →
    ∃ (v0 : (c : Dev Cert.KernelDhAIdeal.nD) → Buf (Elt Ideal) ((c.tc : Thread Cert.KernelDhAIdeal.nD Cert.KernelDhAIdeal.τ).loc Cert.KernelDhAIdeal.main_v0)),
      θ_run (Cert.KernelDhAIdeal.defs (F := Ideal)) (onTc (τ := Cert.KernelDhAIdeal.τ) (Cert.KernelDhAIdeal.main (F := Ideal))) ⟨m, fun _ => 0, g⟩ (fun r => ∀ c : Dev Cert.KernelDhAIdeal.nD,
          r.2.mem ((c.tc : Thread Cert.KernelDhAIdeal.nD Cert.KernelDhAIdeal.τ).loc Cert.KernelDhAIdeal.main_v0) = v0 c
          ∧ r.2.mem ((c.tc : Thread Cert.KernelDhAIdeal.nD Cert.KernelDhAIdeal.τ).loc Cert.KernelDhAIdeal.main_arg0) = m ((c.tc : Thread Cert.KernelDhAIdeal.nD Cert.KernelDhAIdeal.τ).loc Cert.KernelDhAIdeal.main_arg0)
          ∧ r.2.mem ((c.tc : Thread Cert.KernelDhAIdeal.nD Cert.KernelDhAIdeal.τ).loc Cert.KernelDhAIdeal.main_arg1) = m ((c.tc : Thread Cert.KernelDhAIdeal.nD Cert.KernelDhAIdeal.τ).loc Cert.KernelDhAIdeal.main_arg1))
      ∧ θ_run (Cert.ReferenceDhAIdeal.defs (F := Ideal)) (onTc (τ := Cert.ReferenceDhAIdeal.τ) (Cert.ReferenceDhAIdeal.main (F := Ideal))) ⟨m', fun _ => 0, g'⟩ (fun r => ∀ c : Dev Cert.ReferenceDhAIdeal.nD,
          r.2.mem ((c.tc : Thread Cert.ReferenceDhAIdeal.nD Cert.ReferenceDhAIdeal.τ).loc Cert.ReferenceDhAIdeal.main_v4) = v0 c
          ∧ r.2.mem ((c.tc : Thread Cert.ReferenceDhAIdeal.nD Cert.ReferenceDhAIdeal.τ).loc Cert.ReferenceDhAIdeal.main_arg0) = m' ((c.tc : Thread Cert.ReferenceDhAIdeal.nD Cert.ReferenceDhAIdeal.τ).loc Cert.ReferenceDhAIdeal.main_arg0)
          ∧ r.2.mem ((c.tc : Thread Cert.ReferenceDhAIdeal.nD Cert.ReferenceDhAIdeal.τ).loc Cert.ReferenceDhAIdeal.main_arg1) = m' ((c.tc : Thread Cert.ReferenceDhAIdeal.nD Cert.ReferenceDhAIdeal.τ).loc Cert.ReferenceDhAIdeal.main_arg1))

def preserves_KernelDhB_KernelDhBIdeal : Prop :=
  True

def algebraic_KernelDhBIdeal_ReferenceDhBIdeal [hKernelDhBIdeal : Cert.KernelDhBIdeal.Facts] [hReferenceDhBIdeal : Cert.ReferenceDhBIdeal.Facts] : Prop :=
  ∀ (m : (ℓ : Loc Cert.KernelDhBIdeal.nD Cert.KernelDhBIdeal.τ Cert.KernelDhBIdeal.sig) → Buf (Elt Ideal) ℓ) (g : Dev Cert.KernelDhBIdeal.nD → PrngReg)
    (m' : (ℓ : Loc Cert.ReferenceDhBIdeal.nD Cert.ReferenceDhBIdeal.τ Cert.ReferenceDhBIdeal.sig) → Buf (Elt Ideal) ℓ) (g' : Dev Cert.ReferenceDhBIdeal.nD → PrngReg), Pre_KernelDhBIdeal m →
    (∀ c : Dev Cert.KernelDhBIdeal.nD,
      m' ((c.tc : Thread Cert.ReferenceDhBIdeal.nD Cert.ReferenceDhBIdeal.τ).loc Cert.ReferenceDhBIdeal.main_arg0) = m ((c.tc : Thread Cert.KernelDhBIdeal.nD Cert.KernelDhBIdeal.τ).loc Cert.KernelDhBIdeal.main_arg0)
      ∧ m' ((c.tc : Thread Cert.ReferenceDhBIdeal.nD Cert.ReferenceDhBIdeal.τ).loc Cert.ReferenceDhBIdeal.main_arg1) = m ((c.tc : Thread Cert.KernelDhBIdeal.nD Cert.KernelDhBIdeal.τ).loc Cert.KernelDhBIdeal.main_arg1)
      ∧ m' ((c.tc : Thread Cert.ReferenceDhBIdeal.nD Cert.ReferenceDhBIdeal.τ).loc Cert.ReferenceDhBIdeal.main_arg2) = m ((c.tc : Thread Cert.KernelDhBIdeal.nD Cert.KernelDhBIdeal.τ).loc Cert.KernelDhBIdeal.main_arg2)) →
    ∃ (v0 : (c : Dev Cert.KernelDhBIdeal.nD) → Buf (Elt Ideal) ((c.tc : Thread Cert.KernelDhBIdeal.nD Cert.KernelDhBIdeal.τ).loc Cert.KernelDhBIdeal.main_v0)),
      θ_run (Cert.KernelDhBIdeal.defs (F := Ideal)) (onTc (τ := Cert.KernelDhBIdeal.τ) (Cert.KernelDhBIdeal.main (F := Ideal))) ⟨m, fun _ => 0, g⟩ (fun r => ∀ c : Dev Cert.KernelDhBIdeal.nD,
          r.2.mem ((c.tc : Thread Cert.KernelDhBIdeal.nD Cert.KernelDhBIdeal.τ).loc Cert.KernelDhBIdeal.main_v0) = v0 c
          ∧ r.2.mem ((c.tc : Thread Cert.KernelDhBIdeal.nD Cert.KernelDhBIdeal.τ).loc Cert.KernelDhBIdeal.main_arg0) = m ((c.tc : Thread Cert.KernelDhBIdeal.nD Cert.KernelDhBIdeal.τ).loc Cert.KernelDhBIdeal.main_arg0)
          ∧ r.2.mem ((c.tc : Thread Cert.KernelDhBIdeal.nD Cert.KernelDhBIdeal.τ).loc Cert.KernelDhBIdeal.main_arg1) = m ((c.tc : Thread Cert.KernelDhBIdeal.nD Cert.KernelDhBIdeal.τ).loc Cert.KernelDhBIdeal.main_arg1)
          ∧ r.2.mem ((c.tc : Thread Cert.KernelDhBIdeal.nD Cert.KernelDhBIdeal.τ).loc Cert.KernelDhBIdeal.main_arg2) = m ((c.tc : Thread Cert.KernelDhBIdeal.nD Cert.KernelDhBIdeal.τ).loc Cert.KernelDhBIdeal.main_arg2))
      ∧ θ_run (Cert.ReferenceDhBIdeal.defs (F := Ideal)) (onTc (τ := Cert.ReferenceDhBIdeal.τ) (Cert.ReferenceDhBIdeal.main (F := Ideal))) ⟨m', fun _ => 0, g'⟩ (fun r => ∀ c : Dev Cert.ReferenceDhBIdeal.nD,
          r.2.mem ((c.tc : Thread Cert.ReferenceDhBIdeal.nD Cert.ReferenceDhBIdeal.τ).loc Cert.ReferenceDhBIdeal.main_v5) = v0 c
          ∧ r.2.mem ((c.tc : Thread Cert.ReferenceDhBIdeal.nD Cert.ReferenceDhBIdeal.τ).loc Cert.ReferenceDhBIdeal.main_arg0) = m' ((c.tc : Thread Cert.ReferenceDhBIdeal.nD Cert.ReferenceDhBIdeal.τ).loc Cert.ReferenceDhBIdeal.main_arg0)
          ∧ r.2.mem ((c.tc : Thread Cert.ReferenceDhBIdeal.nD Cert.ReferenceDhBIdeal.τ).loc Cert.ReferenceDhBIdeal.main_arg1) = m' ((c.tc : Thread Cert.ReferenceDhBIdeal.nD Cert.ReferenceDhBIdeal.τ).loc Cert.ReferenceDhBIdeal.main_arg1)
          ∧ r.2.mem ((c.tc : Thread Cert.ReferenceDhBIdeal.nD Cert.ReferenceDhBIdeal.τ).loc Cert.ReferenceDhBIdeal.main_arg2) = m' ((c.tc : Thread Cert.ReferenceDhBIdeal.nD Cert.ReferenceDhBIdeal.τ).loc Cert.ReferenceDhBIdeal.main_arg2))

def preserves_KernelDhC_KernelDhCIdeal : Prop :=
  True

def algebraic_KernelDhCIdeal_ReferenceDhCIdeal [hKernelDhCIdeal : Cert.KernelDhCIdeal.Facts] [hReferenceDhCIdeal : Cert.ReferenceDhCIdeal.Facts] : Prop :=
  ∀ (m : (ℓ : Loc Cert.KernelDhCIdeal.nD Cert.KernelDhCIdeal.τ Cert.KernelDhCIdeal.sig) → Buf (Elt Ideal) ℓ) (g : Dev Cert.KernelDhCIdeal.nD → PrngReg)
    (m' : (ℓ : Loc Cert.ReferenceDhCIdeal.nD Cert.ReferenceDhCIdeal.τ Cert.ReferenceDhCIdeal.sig) → Buf (Elt Ideal) ℓ) (g' : Dev Cert.ReferenceDhCIdeal.nD → PrngReg), Pre_KernelDhCIdeal m →
    (∀ c : Dev Cert.KernelDhCIdeal.nD,
      m' ((c.tc : Thread Cert.ReferenceDhCIdeal.nD Cert.ReferenceDhCIdeal.τ).loc Cert.ReferenceDhCIdeal.main_arg0) = m ((c.tc : Thread Cert.KernelDhCIdeal.nD Cert.KernelDhCIdeal.τ).loc Cert.KernelDhCIdeal.main_arg0)
      ∧ m' ((c.tc : Thread Cert.ReferenceDhCIdeal.nD Cert.ReferenceDhCIdeal.τ).loc Cert.ReferenceDhCIdeal.main_arg1) = m ((c.tc : Thread Cert.KernelDhCIdeal.nD Cert.KernelDhCIdeal.τ).loc Cert.KernelDhCIdeal.main_arg1)
      ∧ m' ((c.tc : Thread Cert.ReferenceDhCIdeal.nD Cert.ReferenceDhCIdeal.τ).loc Cert.ReferenceDhCIdeal.main_arg2) = m ((c.tc : Thread Cert.KernelDhCIdeal.nD Cert.KernelDhCIdeal.τ).loc Cert.KernelDhCIdeal.main_arg2)) →
    ∃ (v0 : (c : Dev Cert.KernelDhCIdeal.nD) → Buf (Elt Ideal) ((c.tc : Thread Cert.KernelDhCIdeal.nD Cert.KernelDhCIdeal.τ).loc Cert.KernelDhCIdeal.main_v0)),
      θ_run (Cert.KernelDhCIdeal.defs (F := Ideal)) (onTc (τ := Cert.KernelDhCIdeal.τ) (Cert.KernelDhCIdeal.main (F := Ideal))) ⟨m, fun _ => 0, g⟩ (fun r => ∀ c : Dev Cert.KernelDhCIdeal.nD,
          r.2.mem ((c.tc : Thread Cert.KernelDhCIdeal.nD Cert.KernelDhCIdeal.τ).loc Cert.KernelDhCIdeal.main_v0) = v0 c
          ∧ r.2.mem ((c.tc : Thread Cert.KernelDhCIdeal.nD Cert.KernelDhCIdeal.τ).loc Cert.KernelDhCIdeal.main_arg0) = m ((c.tc : Thread Cert.KernelDhCIdeal.nD Cert.KernelDhCIdeal.τ).loc Cert.KernelDhCIdeal.main_arg0)
          ∧ r.2.mem ((c.tc : Thread Cert.KernelDhCIdeal.nD Cert.KernelDhCIdeal.τ).loc Cert.KernelDhCIdeal.main_arg1) = m ((c.tc : Thread Cert.KernelDhCIdeal.nD Cert.KernelDhCIdeal.τ).loc Cert.KernelDhCIdeal.main_arg1)
          ∧ r.2.mem ((c.tc : Thread Cert.KernelDhCIdeal.nD Cert.KernelDhCIdeal.τ).loc Cert.KernelDhCIdeal.main_arg2) = m ((c.tc : Thread Cert.KernelDhCIdeal.nD Cert.KernelDhCIdeal.τ).loc Cert.KernelDhCIdeal.main_arg2))
      ∧ θ_run (Cert.ReferenceDhCIdeal.defs (F := Ideal)) (onTc (τ := Cert.ReferenceDhCIdeal.τ) (Cert.ReferenceDhCIdeal.main (F := Ideal))) ⟨m', fun _ => 0, g'⟩ (fun r => ∀ c : Dev Cert.ReferenceDhCIdeal.nD,
          r.2.mem ((c.tc : Thread Cert.ReferenceDhCIdeal.nD Cert.ReferenceDhCIdeal.τ).loc Cert.ReferenceDhCIdeal.main_v5) = v0 c
          ∧ r.2.mem ((c.tc : Thread Cert.ReferenceDhCIdeal.nD Cert.ReferenceDhCIdeal.τ).loc Cert.ReferenceDhCIdeal.main_arg0) = m' ((c.tc : Thread Cert.ReferenceDhCIdeal.nD Cert.ReferenceDhCIdeal.τ).loc Cert.ReferenceDhCIdeal.main_arg0)
          ∧ r.2.mem ((c.tc : Thread Cert.ReferenceDhCIdeal.nD Cert.ReferenceDhCIdeal.τ).loc Cert.ReferenceDhCIdeal.main_arg1) = m' ((c.tc : Thread Cert.ReferenceDhCIdeal.nD Cert.ReferenceDhCIdeal.τ).loc Cert.ReferenceDhCIdeal.main_arg1)
          ∧ r.2.mem ((c.tc : Thread Cert.ReferenceDhCIdeal.nD Cert.ReferenceDhCIdeal.τ).loc Cert.ReferenceDhCIdeal.main_arg2) = m' ((c.tc : Thread Cert.ReferenceDhCIdeal.nD Cert.ReferenceDhCIdeal.τ).loc Cert.ReferenceDhCIdeal.main_arg2))

def preserves_KernelDhG_KernelDhGIdeal : Prop :=
  True

def algebraic_KernelDhGIdeal_ReferenceDhGIdeal [hKernelDhGIdeal : Cert.KernelDhGIdeal.Facts] [hReferenceDhGIdeal : Cert.ReferenceDhGIdeal.Facts] : Prop :=
  ∀ (m : (ℓ : Loc Cert.KernelDhGIdeal.nD Cert.KernelDhGIdeal.τ Cert.KernelDhGIdeal.sig) → Buf (Elt Ideal) ℓ) (g : Dev Cert.KernelDhGIdeal.nD → PrngReg)
    (m' : (ℓ : Loc Cert.ReferenceDhGIdeal.nD Cert.ReferenceDhGIdeal.τ Cert.ReferenceDhGIdeal.sig) → Buf (Elt Ideal) ℓ) (g' : Dev Cert.ReferenceDhGIdeal.nD → PrngReg), Pre_KernelDhGIdeal m →
    (∀ c : Dev Cert.KernelDhGIdeal.nD,
      m' ((c.tc : Thread Cert.ReferenceDhGIdeal.nD Cert.ReferenceDhGIdeal.τ).loc Cert.ReferenceDhGIdeal.main_arg0) = m ((c.tc : Thread Cert.KernelDhGIdeal.nD Cert.KernelDhGIdeal.τ).loc Cert.KernelDhGIdeal.main_arg0)
      ∧ m' ((c.tc : Thread Cert.ReferenceDhGIdeal.nD Cert.ReferenceDhGIdeal.τ).loc Cert.ReferenceDhGIdeal.main_arg1) = m ((c.tc : Thread Cert.KernelDhGIdeal.nD Cert.KernelDhGIdeal.τ).loc Cert.KernelDhGIdeal.main_arg1)
      ∧ m' ((c.tc : Thread Cert.ReferenceDhGIdeal.nD Cert.ReferenceDhGIdeal.τ).loc Cert.ReferenceDhGIdeal.main_arg2) = m ((c.tc : Thread Cert.KernelDhGIdeal.nD Cert.KernelDhGIdeal.τ).loc Cert.KernelDhGIdeal.main_arg2)) →
    ∃ (v0 : (c : Dev Cert.KernelDhGIdeal.nD) → Buf (Elt Ideal) ((c.tc : Thread Cert.KernelDhGIdeal.nD Cert.KernelDhGIdeal.τ).loc Cert.KernelDhGIdeal.main_v0)),
      θ_run (Cert.KernelDhGIdeal.defs (F := Ideal)) (onTc (τ := Cert.KernelDhGIdeal.τ) (Cert.KernelDhGIdeal.main (F := Ideal))) ⟨m, fun _ => 0, g⟩ (fun r => ∀ c : Dev Cert.KernelDhGIdeal.nD,
          r.2.mem ((c.tc : Thread Cert.KernelDhGIdeal.nD Cert.KernelDhGIdeal.τ).loc Cert.KernelDhGIdeal.main_v0) = v0 c
          ∧ r.2.mem ((c.tc : Thread Cert.KernelDhGIdeal.nD Cert.KernelDhGIdeal.τ).loc Cert.KernelDhGIdeal.main_arg0) = m ((c.tc : Thread Cert.KernelDhGIdeal.nD Cert.KernelDhGIdeal.τ).loc Cert.KernelDhGIdeal.main_arg0)
          ∧ r.2.mem ((c.tc : Thread Cert.KernelDhGIdeal.nD Cert.KernelDhGIdeal.τ).loc Cert.KernelDhGIdeal.main_arg1) = m ((c.tc : Thread Cert.KernelDhGIdeal.nD Cert.KernelDhGIdeal.τ).loc Cert.KernelDhGIdeal.main_arg1)
          ∧ r.2.mem ((c.tc : Thread Cert.KernelDhGIdeal.nD Cert.KernelDhGIdeal.τ).loc Cert.KernelDhGIdeal.main_arg2) = m ((c.tc : Thread Cert.KernelDhGIdeal.nD Cert.KernelDhGIdeal.τ).loc Cert.KernelDhGIdeal.main_arg2))
      ∧ θ_run (Cert.ReferenceDhGIdeal.defs (F := Ideal)) (onTc (τ := Cert.ReferenceDhGIdeal.τ) (Cert.ReferenceDhGIdeal.main (F := Ideal))) ⟨m', fun _ => 0, g'⟩ (fun r => ∀ c : Dev Cert.ReferenceDhGIdeal.nD,
          r.2.mem ((c.tc : Thread Cert.ReferenceDhGIdeal.nD Cert.ReferenceDhGIdeal.τ).loc Cert.ReferenceDhGIdeal.main_v5) = v0 c
          ∧ r.2.mem ((c.tc : Thread Cert.ReferenceDhGIdeal.nD Cert.ReferenceDhGIdeal.τ).loc Cert.ReferenceDhGIdeal.main_arg0) = m' ((c.tc : Thread Cert.ReferenceDhGIdeal.nD Cert.ReferenceDhGIdeal.τ).loc Cert.ReferenceDhGIdeal.main_arg0)
          ∧ r.2.mem ((c.tc : Thread Cert.ReferenceDhGIdeal.nD Cert.ReferenceDhGIdeal.τ).loc Cert.ReferenceDhGIdeal.main_arg1) = m' ((c.tc : Thread Cert.ReferenceDhGIdeal.nD Cert.ReferenceDhGIdeal.τ).loc Cert.ReferenceDhGIdeal.main_arg1)
          ∧ r.2.mem ((c.tc : Thread Cert.ReferenceDhGIdeal.nD Cert.ReferenceDhGIdeal.τ).loc Cert.ReferenceDhGIdeal.main_arg2) = m' ((c.tc : Thread Cert.ReferenceDhGIdeal.nD Cert.ReferenceDhGIdeal.τ).loc Cert.ReferenceDhGIdeal.main_arg2))

def preserves_KernelMixOut_KernelMixOutIdeal : Prop :=
  True

def algebraic_KernelMixOutIdeal_ReferenceMixOutIdeal [hKernelMixOutIdeal : Cert.KernelMixOutIdeal.Facts] [hReferenceMixOutIdeal : Cert.ReferenceMixOutIdeal.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg)
    (m' : (ℓ : Loc Cert.ReferenceMixOutIdeal.nD Cert.ReferenceMixOutIdeal.τ Cert.ReferenceMixOutIdeal.sig) → Buf (Elt Ideal) ℓ) (g' : Dev Cert.ReferenceMixOutIdeal.nD → PrngReg), Pre_KernelMixOutIdeal m →
    (∀ c : Dev Cert.KernelMixOutIdeal.nD,
      m' ((c.tc : Thread Cert.ReferenceMixOutIdeal.nD Cert.ReferenceMixOutIdeal.τ).loc Cert.ReferenceMixOutIdeal.main_arg0) = m ((c.tc : Thread Cert.KernelMixOutIdeal.nD Cert.KernelMixOutIdeal.τ).loc Cert.KernelMixOutIdeal.main_arg0)
      ∧ m' ((c.tc : Thread Cert.ReferenceMixOutIdeal.nD Cert.ReferenceMixOutIdeal.τ).loc Cert.ReferenceMixOutIdeal.main_arg1) = m ((c.tc : Thread Cert.KernelMixOutIdeal.nD Cert.KernelMixOutIdeal.τ).loc Cert.KernelMixOutIdeal.main_arg1)
      ∧ m' ((c.tc : Thread Cert.ReferenceMixOutIdeal.nD Cert.ReferenceMixOutIdeal.τ).loc Cert.ReferenceMixOutIdeal.main_arg2) = m ((c.tc : Thread Cert.KernelMixOutIdeal.nD Cert.KernelMixOutIdeal.τ).loc Cert.KernelMixOutIdeal.main_arg2)) →
    ∃ (v0 : (c : Dev Cert.KernelMixOutIdeal.nD) → Buf (Elt Ideal) ((c.tc : Thread Cert.KernelMixOutIdeal.nD Cert.KernelMixOutIdeal.τ).loc Cert.KernelMixOutIdeal.main_v0)),
      θ_run (Cert.KernelMixOutIdeal.defs (F := Ideal)) (onTc (τ := Cert.KernelMixOutIdeal.τ) (Cert.KernelMixOutIdeal.main (F := Ideal))) ⟨m, fun _ => 0, g⟩ (fun r => ∀ c : Dev Cert.KernelMixOutIdeal.nD,
          r.2.mem ((c.tc : Thread Cert.KernelMixOutIdeal.nD Cert.KernelMixOutIdeal.τ).loc Cert.KernelMixOutIdeal.main_v0) = v0 c
          ∧ r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
          ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
          ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2))
      ∧ θ_run (Cert.ReferenceMixOutIdeal.defs (F := Ideal)) (onTc (τ := Cert.ReferenceMixOutIdeal.τ) (Cert.ReferenceMixOutIdeal.main (F := Ideal))) ⟨m', fun _ => 0, g'⟩ (fun r => ∀ c : Dev Cert.ReferenceMixOutIdeal.nD,
          r.2.mem ((c.tc : Thread Cert.ReferenceMixOutIdeal.nD Cert.ReferenceMixOutIdeal.τ).loc Cert.ReferenceMixOutIdeal.main_v3) = v0 c
          ∧ r.2.mem ((c.tc : Thread Cert.ReferenceMixOutIdeal.nD Cert.ReferenceMixOutIdeal.τ).loc Cert.ReferenceMixOutIdeal.main_arg0) = m' ((c.tc : Thread Cert.ReferenceMixOutIdeal.nD Cert.ReferenceMixOutIdeal.τ).loc Cert.ReferenceMixOutIdeal.main_arg0)
          ∧ r.2.mem ((c.tc : Thread Cert.ReferenceMixOutIdeal.nD Cert.ReferenceMixOutIdeal.τ).loc Cert.ReferenceMixOutIdeal.main_arg1) = m' ((c.tc : Thread Cert.ReferenceMixOutIdeal.nD Cert.ReferenceMixOutIdeal.τ).loc Cert.ReferenceMixOutIdeal.main_arg1)
          ∧ r.2.mem ((c.tc : Thread Cert.ReferenceMixOutIdeal.nD Cert.ReferenceMixOutIdeal.τ).loc Cert.ReferenceMixOutIdeal.main_arg2) = m' ((c.tc : Thread Cert.ReferenceMixOutIdeal.nD Cert.ReferenceMixOutIdeal.τ).loc Cert.ReferenceMixOutIdeal.main_arg2))

def preserves_KernelDmerged_KernelDmergedIdeal : Prop :=
  True

def algebraic_KernelDmergedIdeal_ReferenceDmergedIdeal [hKernelDmergedIdeal : Cert.KernelDmergedIdeal.Facts] [hReferenceDmergedIdeal : Cert.ReferenceDmergedIdeal.Facts] : Prop :=
  ∀ (m : (ℓ : Loc Cert.KernelDmergedIdeal.nD Cert.KernelDmergedIdeal.τ Cert.KernelDmergedIdeal.sig) → Buf (Elt Ideal) ℓ) (g : Dev Cert.KernelDmergedIdeal.nD → PrngReg)
    (m' : (ℓ : Loc Cert.ReferenceDmergedIdeal.nD Cert.ReferenceDmergedIdeal.τ Cert.ReferenceDmergedIdeal.sig) → Buf (Elt Ideal) ℓ) (g' : Dev Cert.ReferenceDmergedIdeal.nD → PrngReg), Pre_KernelDmergedIdeal m →
    (∀ c : Dev Cert.KernelDmergedIdeal.nD,
      m' ((c.tc : Thread Cert.ReferenceDmergedIdeal.nD Cert.ReferenceDmergedIdeal.τ).loc Cert.ReferenceDmergedIdeal.main_arg0) = m ((c.tc : Thread Cert.KernelDmergedIdeal.nD Cert.KernelDmergedIdeal.τ).loc Cert.KernelDmergedIdeal.main_arg0)
      ∧ m' ((c.tc : Thread Cert.ReferenceDmergedIdeal.nD Cert.ReferenceDmergedIdeal.τ).loc Cert.ReferenceDmergedIdeal.main_arg1) = m ((c.tc : Thread Cert.KernelDmergedIdeal.nD Cert.KernelDmergedIdeal.τ).loc Cert.KernelDmergedIdeal.main_arg1)
      ∧ m' ((c.tc : Thread Cert.ReferenceDmergedIdeal.nD Cert.ReferenceDmergedIdeal.τ).loc Cert.ReferenceDmergedIdeal.main_arg2) = m ((c.tc : Thread Cert.KernelDmergedIdeal.nD Cert.KernelDmergedIdeal.τ).loc Cert.KernelDmergedIdeal.main_arg2)) →
    ∃ (v0 : (c : Dev Cert.KernelDmergedIdeal.nD) → Buf (Elt Ideal) ((c.tc : Thread Cert.KernelDmergedIdeal.nD Cert.KernelDmergedIdeal.τ).loc Cert.KernelDmergedIdeal.main_v0)),
      θ_run (Cert.KernelDmergedIdeal.defs (F := Ideal)) (onTc (τ := Cert.KernelDmergedIdeal.τ) (Cert.KernelDmergedIdeal.main (F := Ideal))) ⟨m, fun _ => 0, g⟩ (fun r => ∀ c : Dev Cert.KernelDmergedIdeal.nD,
          r.2.mem ((c.tc : Thread Cert.KernelDmergedIdeal.nD Cert.KernelDmergedIdeal.τ).loc Cert.KernelDmergedIdeal.main_v0) = v0 c
          ∧ r.2.mem ((c.tc : Thread Cert.KernelDmergedIdeal.nD Cert.KernelDmergedIdeal.τ).loc Cert.KernelDmergedIdeal.main_arg0) = m ((c.tc : Thread Cert.KernelDmergedIdeal.nD Cert.KernelDmergedIdeal.τ).loc Cert.KernelDmergedIdeal.main_arg0)
          ∧ r.2.mem ((c.tc : Thread Cert.KernelDmergedIdeal.nD Cert.KernelDmergedIdeal.τ).loc Cert.KernelDmergedIdeal.main_arg1) = m ((c.tc : Thread Cert.KernelDmergedIdeal.nD Cert.KernelDmergedIdeal.τ).loc Cert.KernelDmergedIdeal.main_arg1)
          ∧ r.2.mem ((c.tc : Thread Cert.KernelDmergedIdeal.nD Cert.KernelDmergedIdeal.τ).loc Cert.KernelDmergedIdeal.main_arg2) = m ((c.tc : Thread Cert.KernelDmergedIdeal.nD Cert.KernelDmergedIdeal.τ).loc Cert.KernelDmergedIdeal.main_arg2))
      ∧ θ_run (Cert.ReferenceDmergedIdeal.defs (F := Ideal)) (onTc (τ := Cert.ReferenceDmergedIdeal.τ) (Cert.ReferenceDmergedIdeal.main (F := Ideal))) ⟨m', fun _ => 0, g'⟩ (fun r => ∀ c : Dev Cert.ReferenceDmergedIdeal.nD,
          r.2.mem ((c.tc : Thread Cert.ReferenceDmergedIdeal.nD Cert.ReferenceDmergedIdeal.τ).loc Cert.ReferenceDmergedIdeal.main_v5) = v0 c
          ∧ r.2.mem ((c.tc : Thread Cert.ReferenceDmergedIdeal.nD Cert.ReferenceDmergedIdeal.τ).loc Cert.ReferenceDmergedIdeal.main_arg0) = m' ((c.tc : Thread Cert.ReferenceDmergedIdeal.nD Cert.ReferenceDmergedIdeal.τ).loc Cert.ReferenceDmergedIdeal.main_arg0)
          ∧ r.2.mem ((c.tc : Thread Cert.ReferenceDmergedIdeal.nD Cert.ReferenceDmergedIdeal.τ).loc Cert.ReferenceDmergedIdeal.main_arg1) = m' ((c.tc : Thread Cert.ReferenceDmergedIdeal.nD Cert.ReferenceDmergedIdeal.τ).loc Cert.ReferenceDmergedIdeal.main_arg1)
          ∧ r.2.mem ((c.tc : Thread Cert.ReferenceDmergedIdeal.nD Cert.ReferenceDmergedIdeal.τ).loc Cert.ReferenceDmergedIdeal.main_arg2) = m' ((c.tc : Thread Cert.ReferenceDmergedIdeal.nD Cert.ReferenceDmergedIdeal.τ).loc Cert.ReferenceDmergedIdeal.main_arg2))

def preserves_KernelDwOut_KernelDwOutIdeal : Prop :=
  True

def algebraic_KernelDwOutIdeal_ReferenceDwOutIdeal [hKernelDwOutIdeal : Cert.KernelDwOutIdeal.Facts] [hReferenceDwOutIdeal : Cert.ReferenceDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg)
    (m' : (ℓ : Loc Cert.ReferenceDwOutIdeal.nD Cert.ReferenceDwOutIdeal.τ Cert.ReferenceDwOutIdeal.sig) → Buf (Elt Ideal) ℓ) (g' : Dev Cert.ReferenceDwOutIdeal.nD → PrngReg), Pre_KernelDwOutIdeal m →
    (∀ c : Dev Cert.KernelDwOutIdeal.nD,
      m' ((c.tc : Thread Cert.ReferenceDwOutIdeal.nD Cert.ReferenceDwOutIdeal.τ).loc Cert.ReferenceDwOutIdeal.main_arg0) = m ((c.tc : Thread Cert.KernelDwOutIdeal.nD Cert.KernelDwOutIdeal.τ).loc Cert.KernelDwOutIdeal.main_arg0)
      ∧ m' ((c.tc : Thread Cert.ReferenceDwOutIdeal.nD Cert.ReferenceDwOutIdeal.τ).loc Cert.ReferenceDwOutIdeal.main_arg1) = m ((c.tc : Thread Cert.KernelDwOutIdeal.nD Cert.KernelDwOutIdeal.τ).loc Cert.KernelDwOutIdeal.main_arg1)) →
    ∃ (v0 : (c : Dev Cert.KernelDwOutIdeal.nD) → Buf (Elt Ideal) ((c.tc : Thread Cert.KernelDwOutIdeal.nD Cert.KernelDwOutIdeal.τ).loc Cert.KernelDwOutIdeal.main_v0)),
      θ_run (Cert.KernelDwOutIdeal.defs (F := Ideal)) (onTc (τ := Cert.KernelDwOutIdeal.τ) (Cert.KernelDwOutIdeal.main (F := Ideal))) ⟨m, fun _ => 0, g⟩ (fun r => ∀ c : Dev Cert.KernelDwOutIdeal.nD,
          r.2.mem ((c.tc : Thread Cert.KernelDwOutIdeal.nD Cert.KernelDwOutIdeal.τ).loc Cert.KernelDwOutIdeal.main_v0) = v0 c
          ∧ r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
          ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ θ_run (Cert.ReferenceDwOutIdeal.defs (F := Ideal)) (onTc (τ := Cert.ReferenceDwOutIdeal.τ) (Cert.ReferenceDwOutIdeal.main (F := Ideal))) ⟨m', fun _ => 0, g'⟩ (fun r => ∀ c : Dev Cert.ReferenceDwOutIdeal.nD,
          r.2.mem ((c.tc : Thread Cert.ReferenceDwOutIdeal.nD Cert.ReferenceDwOutIdeal.τ).loc Cert.ReferenceDwOutIdeal.main_v5) = v0 c
          ∧ r.2.mem ((c.tc : Thread Cert.ReferenceDwOutIdeal.nD Cert.ReferenceDwOutIdeal.τ).loc Cert.ReferenceDwOutIdeal.main_arg0) = m' ((c.tc : Thread Cert.ReferenceDwOutIdeal.nD Cert.ReferenceDwOutIdeal.τ).loc Cert.ReferenceDwOutIdeal.main_arg0)
          ∧ r.2.mem ((c.tc : Thread Cert.ReferenceDwOutIdeal.nD Cert.ReferenceDwOutIdeal.τ).loc Cert.ReferenceDwOutIdeal.main_arg1) = m' ((c.tc : Thread Cert.ReferenceDwOutIdeal.nD Cert.ReferenceDwOutIdeal.τ).loc Cert.ReferenceDwOutIdeal.main_arg1))

def preserves_KernelAdamUp_KernelAdamUpIdeal : Prop :=
  True

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)
      ∧ m' ((c.tc : Thread Cert.ReferenceAdamUpIdeal.nD Cert.ReferenceAdamUpIdeal.τ).loc Cert.ReferenceAdamUpIdeal.main_arg4) = m ((c.tc : Thread Cert.KernelAdamUpIdeal.nD Cert.KernelAdamUpIdeal.τ).loc Cert.KernelAdamUpIdeal.main_arg4)) →
    ∃ (v0 : (c : Dev Cert.KernelAdamUpIdeal.nD) → Buf (Elt Ideal) ((c.tc : Thread Cert.KernelAdamUpIdeal.nD Cert.KernelAdamUpIdeal.τ).loc Cert.KernelAdamUpIdeal.main_v0_0)) (v1 : (c : Dev Cert.KernelAdamUpIdeal.nD) → Buf (Elt Ideal) ((c.tc : Thread Cert.KernelAdamUpIdeal.nD Cert.KernelAdamUpIdeal.τ).loc Cert.KernelAdamUpIdeal.main_v0_1)) (v2 : (c : Dev Cert.KernelAdamUpIdeal.nD) → Buf (Elt Ideal) ((c.tc : Thread Cert.KernelAdamUpIdeal.nD Cert.KernelAdamUpIdeal.τ).loc Cert.KernelAdamUpIdeal.main_v0_2)) (v3 : (c : Dev Cert.KernelAdamUpIdeal.nD) → Buf (Elt Ideal) ((c.tc : Thread Cert.KernelAdamUpIdeal.nD Cert.KernelAdamUpIdeal.τ).loc Cert.KernelAdamUpIdeal.main_v0_3)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v0_0) = v0 c
          ∧ r.2.mem ((c.tc : Thread Cert.KernelAdamUpIdeal.nD Cert.KernelAdamUpIdeal.τ).loc Cert.KernelAdamUpIdeal.main_v0_1) = v1 c
          ∧ r.2.mem ((c.tc : Thread Cert.KernelAdamUpIdeal.nD Cert.KernelAdamUpIdeal.τ).loc Cert.KernelAdamUpIdeal.main_v0_2) = v2 c
          ∧ r.2.mem ((c.tc : Thread Cert.KernelAdamUpIdeal.nD Cert.KernelAdamUpIdeal.τ).loc Cert.KernelAdamUpIdeal.main_v0_3) = v3 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3)
          ∧ r.2.mem ((c.tc : Thread Cert.KernelAdamUpIdeal.nD Cert.KernelAdamUpIdeal.τ).loc Cert.KernelAdamUpIdeal.main_arg4) = m ((c.tc : Thread Cert.KernelAdamUpIdeal.nD Cert.KernelAdamUpIdeal.τ).loc Cert.KernelAdamUpIdeal.main_arg4))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_v2) = v0 c
          ∧ r.2.mem ((c.tc : Thread Cert.ReferenceAdamUpIdeal.nD Cert.ReferenceAdamUpIdeal.τ).loc Cert.ReferenceAdamUpIdeal.main_v26) = v1 c
          ∧ r.2.mem ((c.tc : Thread Cert.ReferenceAdamUpIdeal.nD Cert.ReferenceAdamUpIdeal.τ).loc Cert.ReferenceAdamUpIdeal.main_v7) = v2 c
          ∧ r.2.mem ((c.tc : Thread Cert.ReferenceAdamUpIdeal.nD Cert.ReferenceAdamUpIdeal.τ).loc Cert.ReferenceAdamUpIdeal.main_v13) = v3 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3)
          ∧ r.2.mem ((c.tc : Thread Cert.ReferenceAdamUpIdeal.nD Cert.ReferenceAdamUpIdeal.τ).loc Cert.ReferenceAdamUpIdeal.main_arg4) = m' ((c.tc : Thread Cert.ReferenceAdamUpIdeal.nD Cert.ReferenceAdamUpIdeal.τ).loc Cert.ReferenceAdamUpIdeal.main_arg4))

def preserves_KernelAdamUpB_KernelAdamUpBIdeal : Prop :=
  True

def algebraic_KernelAdamUpBIdeal_ReferenceAdamUpBIdeal [hKernelAdamUpBIdeal : Cert.KernelAdamUpBIdeal.Facts] [hReferenceAdamUpBIdeal : Cert.ReferenceAdamUpBIdeal.Facts] : Prop :=
  ∀ (m : (ℓ : Loc Cert.KernelAdamUpBIdeal.nD Cert.KernelAdamUpBIdeal.τ Cert.KernelAdamUpBIdeal.sig) → Buf (Elt Ideal) ℓ) (g : Dev Cert.KernelAdamUpBIdeal.nD → PrngReg)
    (m' : (ℓ : Loc Cert.ReferenceAdamUpBIdeal.nD Cert.ReferenceAdamUpBIdeal.τ Cert.ReferenceAdamUpBIdeal.sig) → Buf (Elt Ideal) ℓ) (g' : Dev Cert.ReferenceAdamUpBIdeal.nD → PrngReg), Pre_KernelAdamUpBIdeal m →
    (∀ c : Dev Cert.KernelAdamUpBIdeal.nD,
      m' ((c.tc : Thread Cert.ReferenceAdamUpBIdeal.nD Cert.ReferenceAdamUpBIdeal.τ).loc Cert.ReferenceAdamUpBIdeal.main_arg0) = m ((c.tc : Thread Cert.KernelAdamUpBIdeal.nD Cert.KernelAdamUpBIdeal.τ).loc Cert.KernelAdamUpBIdeal.main_arg0)
      ∧ m' ((c.tc : Thread Cert.ReferenceAdamUpBIdeal.nD Cert.ReferenceAdamUpBIdeal.τ).loc Cert.ReferenceAdamUpBIdeal.main_arg1) = m ((c.tc : Thread Cert.KernelAdamUpBIdeal.nD Cert.KernelAdamUpBIdeal.τ).loc Cert.KernelAdamUpBIdeal.main_arg1)
      ∧ m' ((c.tc : Thread Cert.ReferenceAdamUpBIdeal.nD Cert.ReferenceAdamUpBIdeal.τ).loc Cert.ReferenceAdamUpBIdeal.main_arg2) = m ((c.tc : Thread Cert.KernelAdamUpBIdeal.nD Cert.KernelAdamUpBIdeal.τ).loc Cert.KernelAdamUpBIdeal.main_arg2)
      ∧ m' ((c.tc : Thread Cert.ReferenceAdamUpBIdeal.nD Cert.ReferenceAdamUpBIdeal.τ).loc Cert.ReferenceAdamUpBIdeal.main_arg3) = m ((c.tc : Thread Cert.KernelAdamUpBIdeal.nD Cert.KernelAdamUpBIdeal.τ).loc Cert.KernelAdamUpBIdeal.main_arg3)
      ∧ m' ((c.tc : Thread Cert.ReferenceAdamUpBIdeal.nD Cert.ReferenceAdamUpBIdeal.τ).loc Cert.ReferenceAdamUpBIdeal.main_arg4) = m ((c.tc : Thread Cert.KernelAdamUpBIdeal.nD Cert.KernelAdamUpBIdeal.τ).loc Cert.KernelAdamUpBIdeal.main_arg4)
      ∧ m' ((c.tc : Thread Cert.ReferenceAdamUpBIdeal.nD Cert.ReferenceAdamUpBIdeal.τ).loc Cert.ReferenceAdamUpBIdeal.main_arg5) = m ((c.tc : Thread Cert.KernelAdamUpBIdeal.nD Cert.KernelAdamUpBIdeal.τ).loc Cert.KernelAdamUpBIdeal.main_arg5)) →
    ∃ (v0 : (c : Dev Cert.KernelAdamUpBIdeal.nD) → Buf (Elt Ideal) ((c.tc : Thread Cert.KernelAdamUpBIdeal.nD Cert.KernelAdamUpBIdeal.τ).loc Cert.KernelAdamUpBIdeal.main_v0_0)) (v1 : (c : Dev Cert.KernelAdamUpBIdeal.nD) → Buf (Elt Ideal) ((c.tc : Thread Cert.KernelAdamUpBIdeal.nD Cert.KernelAdamUpBIdeal.τ).loc Cert.KernelAdamUpBIdeal.main_v0_1)) (v2 : (c : Dev Cert.KernelAdamUpBIdeal.nD) → Buf (Elt Ideal) ((c.tc : Thread Cert.KernelAdamUpBIdeal.nD Cert.KernelAdamUpBIdeal.τ).loc Cert.KernelAdamUpBIdeal.main_v0_2)) (v3 : (c : Dev Cert.KernelAdamUpBIdeal.nD) → Buf (Elt Ideal) ((c.tc : Thread Cert.KernelAdamUpBIdeal.nD Cert.KernelAdamUpBIdeal.τ).loc Cert.KernelAdamUpBIdeal.main_v0_3)),
      θ_run (Cert.KernelAdamUpBIdeal.defs (F := Ideal)) (onTc (τ := Cert.KernelAdamUpBIdeal.τ) (Cert.KernelAdamUpBIdeal.main (F := Ideal))) ⟨m, fun _ => 0, g⟩ (fun r => ∀ c : Dev Cert.KernelAdamUpBIdeal.nD,
          r.2.mem ((c.tc : Thread Cert.KernelAdamUpBIdeal.nD Cert.KernelAdamUpBIdeal.τ).loc Cert.KernelAdamUpBIdeal.main_v0_0) = v0 c
          ∧ r.2.mem ((c.tc : Thread Cert.KernelAdamUpBIdeal.nD Cert.KernelAdamUpBIdeal.τ).loc Cert.KernelAdamUpBIdeal.main_v0_1) = v1 c
          ∧ r.2.mem ((c.tc : Thread Cert.KernelAdamUpBIdeal.nD Cert.KernelAdamUpBIdeal.τ).loc Cert.KernelAdamUpBIdeal.main_v0_2) = v2 c
          ∧ r.2.mem ((c.tc : Thread Cert.KernelAdamUpBIdeal.nD Cert.KernelAdamUpBIdeal.τ).loc Cert.KernelAdamUpBIdeal.main_v0_3) = v3 c
          ∧ r.2.mem ((c.tc : Thread Cert.KernelAdamUpBIdeal.nD Cert.KernelAdamUpBIdeal.τ).loc Cert.KernelAdamUpBIdeal.main_arg0) = m ((c.tc : Thread Cert.KernelAdamUpBIdeal.nD Cert.KernelAdamUpBIdeal.τ).loc Cert.KernelAdamUpBIdeal.main_arg0)
          ∧ r.2.mem ((c.tc : Thread Cert.KernelAdamUpBIdeal.nD Cert.KernelAdamUpBIdeal.τ).loc Cert.KernelAdamUpBIdeal.main_arg1) = m ((c.tc : Thread Cert.KernelAdamUpBIdeal.nD Cert.KernelAdamUpBIdeal.τ).loc Cert.KernelAdamUpBIdeal.main_arg1)
          ∧ r.2.mem ((c.tc : Thread Cert.KernelAdamUpBIdeal.nD Cert.KernelAdamUpBIdeal.τ).loc Cert.KernelAdamUpBIdeal.main_arg2) = m ((c.tc : Thread Cert.KernelAdamUpBIdeal.nD Cert.KernelAdamUpBIdeal.τ).loc Cert.KernelAdamUpBIdeal.main_arg2)
          ∧ r.2.mem ((c.tc : Thread Cert.KernelAdamUpBIdeal.nD Cert.KernelAdamUpBIdeal.τ).loc Cert.KernelAdamUpBIdeal.main_arg3) = m ((c.tc : Thread Cert.KernelAdamUpBIdeal.nD Cert.KernelAdamUpBIdeal.τ).loc Cert.KernelAdamUpBIdeal.main_arg3)
          ∧ r.2.mem ((c.tc : Thread Cert.KernelAdamUpBIdeal.nD Cert.KernelAdamUpBIdeal.τ).loc Cert.KernelAdamUpBIdeal.main_arg4) = m ((c.tc : Thread Cert.KernelAdamUpBIdeal.nD Cert.KernelAdamUpBIdeal.τ).loc Cert.KernelAdamUpBIdeal.main_arg4)
          ∧ r.2.mem ((c.tc : Thread Cert.KernelAdamUpBIdeal.nD Cert.KernelAdamUpBIdeal.τ).loc Cert.KernelAdamUpBIdeal.main_arg5) = m ((c.tc : Thread Cert.KernelAdamUpBIdeal.nD Cert.KernelAdamUpBIdeal.τ).loc Cert.KernelAdamUpBIdeal.main_arg5))
      ∧ θ_run (Cert.ReferenceAdamUpBIdeal.defs (F := Ideal)) (onTc (τ := Cert.ReferenceAdamUpBIdeal.τ) (Cert.ReferenceAdamUpBIdeal.main (F := Ideal))) ⟨m', fun _ => 0, g'⟩ (fun r => ∀ c : Dev Cert.ReferenceAdamUpBIdeal.nD,
          r.2.mem ((c.tc : Thread Cert.ReferenceAdamUpBIdeal.nD Cert.ReferenceAdamUpBIdeal.τ).loc Cert.ReferenceAdamUpBIdeal.main_v2) = v0 c
          ∧ r.2.mem ((c.tc : Thread Cert.ReferenceAdamUpBIdeal.nD Cert.ReferenceAdamUpBIdeal.τ).loc Cert.ReferenceAdamUpBIdeal.main_v26) = v1 c
          ∧ r.2.mem ((c.tc : Thread Cert.ReferenceAdamUpBIdeal.nD Cert.ReferenceAdamUpBIdeal.τ).loc Cert.ReferenceAdamUpBIdeal.main_v7) = v2 c
          ∧ r.2.mem ((c.tc : Thread Cert.ReferenceAdamUpBIdeal.nD Cert.ReferenceAdamUpBIdeal.τ).loc Cert.ReferenceAdamUpBIdeal.main_v13) = v3 c
          ∧ r.2.mem ((c.tc : Thread Cert.ReferenceAdamUpBIdeal.nD Cert.ReferenceAdamUpBIdeal.τ).loc Cert.ReferenceAdamUpBIdeal.main_arg0) = m' ((c.tc : Thread Cert.ReferenceAdamUpBIdeal.nD Cert.ReferenceAdamUpBIdeal.τ).loc Cert.ReferenceAdamUpBIdeal.main_arg0)
          ∧ r.2.mem ((c.tc : Thread Cert.ReferenceAdamUpBIdeal.nD Cert.ReferenceAdamUpBIdeal.τ).loc Cert.ReferenceAdamUpBIdeal.main_arg1) = m' ((c.tc : Thread Cert.ReferenceAdamUpBIdeal.nD Cert.ReferenceAdamUpBIdeal.τ).loc Cert.ReferenceAdamUpBIdeal.main_arg1)
          ∧ r.2.mem ((c.tc : Thread Cert.ReferenceAdamUpBIdeal.nD Cert.ReferenceAdamUpBIdeal.τ).loc Cert.ReferenceAdamUpBIdeal.main_arg2) = m' ((c.tc : Thread Cert.ReferenceAdamUpBIdeal.nD Cert.ReferenceAdamUpBIdeal.τ).loc Cert.ReferenceAdamUpBIdeal.main_arg2)
          ∧ r.2.mem ((c.tc : Thread Cert.ReferenceAdamUpBIdeal.nD Cert.ReferenceAdamUpBIdeal.τ).loc Cert.ReferenceAdamUpBIdeal.main_arg3) = m' ((c.tc : Thread Cert.ReferenceAdamUpBIdeal.nD Cert.ReferenceAdamUpBIdeal.τ).loc Cert.ReferenceAdamUpBIdeal.main_arg3)
          ∧ r.2.mem ((c.tc : Thread Cert.ReferenceAdamUpBIdeal.nD Cert.ReferenceAdamUpBIdeal.τ).loc Cert.ReferenceAdamUpBIdeal.main_arg4) = m' ((c.tc : Thread Cert.ReferenceAdamUpBIdeal.nD Cert.ReferenceAdamUpBIdeal.τ).loc Cert.ReferenceAdamUpBIdeal.main_arg4)
          ∧ r.2.mem ((c.tc : Thread Cert.ReferenceAdamUpBIdeal.nD Cert.ReferenceAdamUpBIdeal.τ).loc Cert.ReferenceAdamUpBIdeal.main_arg5) = m' ((c.tc : Thread Cert.ReferenceAdamUpBIdeal.nD Cert.ReferenceAdamUpBIdeal.τ).loc Cert.ReferenceAdamUpBIdeal.main_arg5))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)
      ∧ m' ((c.tc : Thread Cert.ReferenceAdamDownIdeal.nD Cert.ReferenceAdamDownIdeal.τ).loc Cert.ReferenceAdamDownIdeal.main_arg4) = m ((c.tc : Thread Cert.KernelAdamDownIdeal.nD Cert.KernelAdamDownIdeal.τ).loc Cert.KernelAdamDownIdeal.main_arg4)) →
    ∃ (v0 : (c : Dev Cert.KernelAdamDownIdeal.nD) → Buf (Elt Ideal) ((c.tc : Thread Cert.KernelAdamDownIdeal.nD Cert.KernelAdamDownIdeal.τ).loc Cert.KernelAdamDownIdeal.main_v0_0)) (v1 : (c : Dev Cert.KernelAdamDownIdeal.nD) → Buf (Elt Ideal) ((c.tc : Thread Cert.KernelAdamDownIdeal.nD Cert.KernelAdamDownIdeal.τ).loc Cert.KernelAdamDownIdeal.main_v0_1)) (v2 : (c : Dev Cert.KernelAdamDownIdeal.nD) → Buf (Elt Ideal) ((c.tc : Thread Cert.KernelAdamDownIdeal.nD Cert.KernelAdamDownIdeal.τ).loc Cert.KernelAdamDownIdeal.main_v0_2)) (v3 : (c : Dev Cert.KernelAdamDownIdeal.nD) → Buf (Elt Ideal) ((c.tc : Thread Cert.KernelAdamDownIdeal.nD Cert.KernelAdamDownIdeal.τ).loc Cert.KernelAdamDownIdeal.main_v0_3)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v0_0) = v0 c
          ∧ r.2.mem ((c.tc : Thread Cert.KernelAdamDownIdeal.nD Cert.KernelAdamDownIdeal.τ).loc Cert.KernelAdamDownIdeal.main_v0_1) = v1 c
          ∧ r.2.mem ((c.tc : Thread Cert.KernelAdamDownIdeal.nD Cert.KernelAdamDownIdeal.τ).loc Cert.KernelAdamDownIdeal.main_v0_2) = v2 c
          ∧ r.2.mem ((c.tc : Thread Cert.KernelAdamDownIdeal.nD Cert.KernelAdamDownIdeal.τ).loc Cert.KernelAdamDownIdeal.main_v0_3) = v3 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
          ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v2) = v0 c
          ∧ r.2.mem ((c.tc : Thread Cert.ReferenceAdamDownIdeal.nD Cert.ReferenceAdamDownIdeal.τ).loc Cert.ReferenceAdamDownIdeal.main_v26) = v1 c
          ∧ r.2.mem ((c.tc : Thread Cert.ReferenceAdamDownIdeal.nD Cert.ReferenceAdamDownIdeal.τ).loc Cert.ReferenceAdamDownIdeal.main_v7) = v2 c
          ∧ r.2.mem ((c.tc : Thread Cert.ReferenceAdamDownIdeal.nD Cert.ReferenceAdamDownIdeal.τ).loc Cert.ReferenceAdamDownIdeal.main_v13) = v3 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3)
          ∧ r.2.mem ((c.tc : Thread Cert.ReferenceAdamDownIdeal.nD Cert.ReferenceAdamDownIdeal.τ).loc Cert.ReferenceAdamDownIdeal.main_arg4) = m' ((c.tc : Thread Cert.ReferenceAdamDownIdeal.nD Cert.ReferenceAdamDownIdeal.τ).loc Cert.ReferenceAdamDownIdeal.main_arg4))

def preserves_KernelAdamDownB_KernelAdamDownBIdeal : Prop :=
  True

def algebraic_KernelAdamDownBIdeal_ReferenceAdamDownBIdeal [hKernelAdamDownBIdeal : Cert.KernelAdamDownBIdeal.Facts] [hReferenceAdamDownBIdeal : Cert.ReferenceAdamDownBIdeal.Facts] : Prop :=
  ∀ (m : (ℓ : Loc Cert.KernelAdamDownBIdeal.nD Cert.KernelAdamDownBIdeal.τ Cert.KernelAdamDownBIdeal.sig) → Buf (Elt Ideal) ℓ) (g : Dev Cert.KernelAdamDownBIdeal.nD → PrngReg)
    (m' : (ℓ : Loc Cert.ReferenceAdamDownBIdeal.nD Cert.ReferenceAdamDownBIdeal.τ Cert.ReferenceAdamDownBIdeal.sig) → Buf (Elt Ideal) ℓ) (g' : Dev Cert.ReferenceAdamDownBIdeal.nD → PrngReg), Pre_KernelAdamDownBIdeal m →
    (∀ c : Dev Cert.KernelAdamDownBIdeal.nD,
      m' ((c.tc : Thread Cert.ReferenceAdamDownBIdeal.nD Cert.ReferenceAdamDownBIdeal.τ).loc Cert.ReferenceAdamDownBIdeal.main_arg0) = m ((c.tc : Thread Cert.KernelAdamDownBIdeal.nD Cert.KernelAdamDownBIdeal.τ).loc Cert.KernelAdamDownBIdeal.main_arg0)
      ∧ m' ((c.tc : Thread Cert.ReferenceAdamDownBIdeal.nD Cert.ReferenceAdamDownBIdeal.τ).loc Cert.ReferenceAdamDownBIdeal.main_arg1) = m ((c.tc : Thread Cert.KernelAdamDownBIdeal.nD Cert.KernelAdamDownBIdeal.τ).loc Cert.KernelAdamDownBIdeal.main_arg1)
      ∧ m' ((c.tc : Thread Cert.ReferenceAdamDownBIdeal.nD Cert.ReferenceAdamDownBIdeal.τ).loc Cert.ReferenceAdamDownBIdeal.main_arg2) = m ((c.tc : Thread Cert.KernelAdamDownBIdeal.nD Cert.KernelAdamDownBIdeal.τ).loc Cert.KernelAdamDownBIdeal.main_arg2)
      ∧ m' ((c.tc : Thread Cert.ReferenceAdamDownBIdeal.nD Cert.ReferenceAdamDownBIdeal.τ).loc Cert.ReferenceAdamDownBIdeal.main_arg3) = m ((c.tc : Thread Cert.KernelAdamDownBIdeal.nD Cert.KernelAdamDownBIdeal.τ).loc Cert.KernelAdamDownBIdeal.main_arg3)
      ∧ m' ((c.tc : Thread Cert.ReferenceAdamDownBIdeal.nD Cert.ReferenceAdamDownBIdeal.τ).loc Cert.ReferenceAdamDownBIdeal.main_arg4) = m ((c.tc : Thread Cert.KernelAdamDownBIdeal.nD Cert.KernelAdamDownBIdeal.τ).loc Cert.KernelAdamDownBIdeal.main_arg4)
      ∧ m' ((c.tc : Thread Cert.ReferenceAdamDownBIdeal.nD Cert.ReferenceAdamDownBIdeal.τ).loc Cert.ReferenceAdamDownBIdeal.main_arg5) = m ((c.tc : Thread Cert.KernelAdamDownBIdeal.nD Cert.KernelAdamDownBIdeal.τ).loc Cert.KernelAdamDownBIdeal.main_arg5)) →
    ∃ (v0 : (c : Dev Cert.KernelAdamDownBIdeal.nD) → Buf (Elt Ideal) ((c.tc : Thread Cert.KernelAdamDownBIdeal.nD Cert.KernelAdamDownBIdeal.τ).loc Cert.KernelAdamDownBIdeal.main_v0_0)) (v1 : (c : Dev Cert.KernelAdamDownBIdeal.nD) → Buf (Elt Ideal) ((c.tc : Thread Cert.KernelAdamDownBIdeal.nD Cert.KernelAdamDownBIdeal.τ).loc Cert.KernelAdamDownBIdeal.main_v0_1)) (v2 : (c : Dev Cert.KernelAdamDownBIdeal.nD) → Buf (Elt Ideal) ((c.tc : Thread Cert.KernelAdamDownBIdeal.nD Cert.KernelAdamDownBIdeal.τ).loc Cert.KernelAdamDownBIdeal.main_v0_2)) (v3 : (c : Dev Cert.KernelAdamDownBIdeal.nD) → Buf (Elt Ideal) ((c.tc : Thread Cert.KernelAdamDownBIdeal.nD Cert.KernelAdamDownBIdeal.τ).loc Cert.KernelAdamDownBIdeal.main_v0_3)),
      θ_run (Cert.KernelAdamDownBIdeal.defs (F := Ideal)) (onTc (τ := Cert.KernelAdamDownBIdeal.τ) (Cert.KernelAdamDownBIdeal.main (F := Ideal))) ⟨m, fun _ => 0, g⟩ (fun r => ∀ c : Dev Cert.KernelAdamDownBIdeal.nD,
          r.2.mem ((c.tc : Thread Cert.KernelAdamDownBIdeal.nD Cert.KernelAdamDownBIdeal.τ).loc Cert.KernelAdamDownBIdeal.main_v0_0) = v0 c
          ∧ r.2.mem ((c.tc : Thread Cert.KernelAdamDownBIdeal.nD Cert.KernelAdamDownBIdeal.τ).loc Cert.KernelAdamDownBIdeal.main_v0_1) = v1 c
          ∧ r.2.mem ((c.tc : Thread Cert.KernelAdamDownBIdeal.nD Cert.KernelAdamDownBIdeal.τ).loc Cert.KernelAdamDownBIdeal.main_v0_2) = v2 c
          ∧ r.2.mem ((c.tc : Thread Cert.KernelAdamDownBIdeal.nD Cert.KernelAdamDownBIdeal.τ).loc Cert.KernelAdamDownBIdeal.main_v0_3) = v3 c
          ∧ r.2.mem ((c.tc : Thread Cert.KernelAdamDownBIdeal.nD Cert.KernelAdamDownBIdeal.τ).loc Cert.KernelAdamDownBIdeal.main_arg0) = m ((c.tc : Thread Cert.KernelAdamDownBIdeal.nD Cert.KernelAdamDownBIdeal.τ).loc Cert.KernelAdamDownBIdeal.main_arg0)
          ∧ r.2.mem ((c.tc : Thread Cert.KernelAdamDownBIdeal.nD Cert.KernelAdamDownBIdeal.τ).loc Cert.KernelAdamDownBIdeal.main_arg1) = m ((c.tc : Thread Cert.KernelAdamDownBIdeal.nD Cert.KernelAdamDownBIdeal.τ).loc Cert.KernelAdamDownBIdeal.main_arg1)
          ∧ r.2.mem ((c.tc : Thread Cert.KernelAdamDownBIdeal.nD Cert.KernelAdamDownBIdeal.τ).loc Cert.KernelAdamDownBIdeal.main_arg2) = m ((c.tc : Thread Cert.KernelAdamDownBIdeal.nD Cert.KernelAdamDownBIdeal.τ).loc Cert.KernelAdamDownBIdeal.main_arg2)
          ∧ r.2.mem ((c.tc : Thread Cert.KernelAdamDownBIdeal.nD Cert.KernelAdamDownBIdeal.τ).loc Cert.KernelAdamDownBIdeal.main_arg3) = m ((c.tc : Thread Cert.KernelAdamDownBIdeal.nD Cert.KernelAdamDownBIdeal.τ).loc Cert.KernelAdamDownBIdeal.main_arg3)
          ∧ r.2.mem ((c.tc : Thread Cert.KernelAdamDownBIdeal.nD Cert.KernelAdamDownBIdeal.τ).loc Cert.KernelAdamDownBIdeal.main_arg4) = m ((c.tc : Thread Cert.KernelAdamDownBIdeal.nD Cert.KernelAdamDownBIdeal.τ).loc Cert.KernelAdamDownBIdeal.main_arg4)
          ∧ r.2.mem ((c.tc : Thread Cert.KernelAdamDownBIdeal.nD Cert.KernelAdamDownBIdeal.τ).loc Cert.KernelAdamDownBIdeal.main_arg5) = m ((c.tc : Thread Cert.KernelAdamDownBIdeal.nD Cert.KernelAdamDownBIdeal.τ).loc Cert.KernelAdamDownBIdeal.main_arg5))
      ∧ θ_run (Cert.ReferenceAdamDownBIdeal.defs (F := Ideal)) (onTc (τ := Cert.ReferenceAdamDownBIdeal.τ) (Cert.ReferenceAdamDownBIdeal.main (F := Ideal))) ⟨m', fun _ => 0, g'⟩ (fun r => ∀ c : Dev Cert.ReferenceAdamDownBIdeal.nD,
          r.2.mem ((c.tc : Thread Cert.ReferenceAdamDownBIdeal.nD Cert.ReferenceAdamDownBIdeal.τ).loc Cert.ReferenceAdamDownBIdeal.main_v2) = v0 c
          ∧ r.2.mem ((c.tc : Thread Cert.ReferenceAdamDownBIdeal.nD Cert.ReferenceAdamDownBIdeal.τ).loc Cert.ReferenceAdamDownBIdeal.main_v26) = v1 c
          ∧ r.2.mem ((c.tc : Thread Cert.ReferenceAdamDownBIdeal.nD Cert.ReferenceAdamDownBIdeal.τ).loc Cert.ReferenceAdamDownBIdeal.main_v7) = v2 c
          ∧ r.2.mem ((c.tc : Thread Cert.ReferenceAdamDownBIdeal.nD Cert.ReferenceAdamDownBIdeal.τ).loc Cert.ReferenceAdamDownBIdeal.main_v13) = v3 c
          ∧ r.2.mem ((c.tc : Thread Cert.ReferenceAdamDownBIdeal.nD Cert.ReferenceAdamDownBIdeal.τ).loc Cert.ReferenceAdamDownBIdeal.main_arg0) = m' ((c.tc : Thread Cert.ReferenceAdamDownBIdeal.nD Cert.ReferenceAdamDownBIdeal.τ).loc Cert.ReferenceAdamDownBIdeal.main_arg0)
          ∧ r.2.mem ((c.tc : Thread Cert.ReferenceAdamDownBIdeal.nD Cert.ReferenceAdamDownBIdeal.τ).loc Cert.ReferenceAdamDownBIdeal.main_arg1) = m' ((c.tc : Thread Cert.ReferenceAdamDownBIdeal.nD Cert.ReferenceAdamDownBIdeal.τ).loc Cert.ReferenceAdamDownBIdeal.main_arg1)
          ∧ r.2.mem ((c.tc : Thread Cert.ReferenceAdamDownBIdeal.nD Cert.ReferenceAdamDownBIdeal.τ).loc Cert.ReferenceAdamDownBIdeal.main_arg2) = m' ((c.tc : Thread Cert.ReferenceAdamDownBIdeal.nD Cert.ReferenceAdamDownBIdeal.τ).loc Cert.ReferenceAdamDownBIdeal.main_arg2)
          ∧ r.2.mem ((c.tc : Thread Cert.ReferenceAdamDownBIdeal.nD Cert.ReferenceAdamDownBIdeal.τ).loc Cert.ReferenceAdamDownBIdeal.main_arg3) = m' ((c.tc : Thread Cert.ReferenceAdamDownBIdeal.nD Cert.ReferenceAdamDownBIdeal.τ).loc Cert.ReferenceAdamDownBIdeal.main_arg3)
          ∧ r.2.mem ((c.tc : Thread Cert.ReferenceAdamDownBIdeal.nD Cert.ReferenceAdamDownBIdeal.τ).loc Cert.ReferenceAdamDownBIdeal.main_arg4) = m' ((c.tc : Thread Cert.ReferenceAdamDownBIdeal.nD Cert.ReferenceAdamDownBIdeal.τ).loc Cert.ReferenceAdamDownBIdeal.main_arg4)
          ∧ r.2.mem ((c.tc : Thread Cert.ReferenceAdamDownBIdeal.nD Cert.ReferenceAdamDownBIdeal.τ).loc Cert.ReferenceAdamDownBIdeal.main_arg5) = m' ((c.tc : Thread Cert.ReferenceAdamDownBIdeal.nD Cert.ReferenceAdamDownBIdeal.τ).loc Cert.ReferenceAdamDownBIdeal.main_arg5))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)
      ∧ m' ((c.tc : Thread Cert.ReferenceAdamInIdeal.nD Cert.ReferenceAdamInIdeal.τ).loc Cert.ReferenceAdamInIdeal.main_arg4) = m ((c.tc : Thread Cert.KernelAdamInIdeal.nD Cert.KernelAdamInIdeal.τ).loc Cert.KernelAdamInIdeal.main_arg4)
      ∧ m' ((c.tc : Thread Cert.ReferenceAdamInIdeal.nD Cert.ReferenceAdamInIdeal.τ).loc Cert.ReferenceAdamInIdeal.main_arg5) = m ((c.tc : Thread Cert.KernelAdamInIdeal.nD Cert.KernelAdamInIdeal.τ).loc Cert.KernelAdamInIdeal.main_arg5)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)) (v3 : (c : Dev Cert.KernelAdamInIdeal.nD) → Buf (Elt Ideal) ((c.tc : Thread Cert.KernelAdamInIdeal.nD Cert.KernelAdamInIdeal.τ).loc Cert.KernelAdamInIdeal.main_v0_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_v0_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
          ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4)
          ∧ r.2.mem ((c.tc : Thread Cert.KernelAdamInIdeal.nD Cert.KernelAdamInIdeal.τ).loc Cert.KernelAdamInIdeal.main_arg5) = m ((c.tc : Thread Cert.KernelAdamInIdeal.nD Cert.KernelAdamInIdeal.τ).loc Cert.KernelAdamInIdeal.main_arg5))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v2) = v0 c
          ∧ r.2.mem ((c.tc : Thread Cert.ReferenceAdamInIdeal.nD Cert.ReferenceAdamInIdeal.τ).loc Cert.ReferenceAdamInIdeal.main_v26) = v1 c
          ∧ r.2.mem ((c.tc : Thread Cert.ReferenceAdamInIdeal.nD Cert.ReferenceAdamInIdeal.τ).loc Cert.ReferenceAdamInIdeal.main_v7) = v2 c
          ∧ r.2.mem ((c.tc : Thread Cert.ReferenceAdamInIdeal.nD Cert.ReferenceAdamInIdeal.τ).loc Cert.ReferenceAdamInIdeal.main_v13) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3)
          ∧ r.2.mem ((c.tc : Thread Cert.ReferenceAdamInIdeal.nD Cert.ReferenceAdamInIdeal.τ).loc Cert.ReferenceAdamInIdeal.main_arg4) = m' ((c.tc : Thread Cert.ReferenceAdamInIdeal.nD Cert.ReferenceAdamInIdeal.τ).loc Cert.ReferenceAdamInIdeal.main_arg4)
          ∧ r.2.mem ((c.tc : Thread Cert.ReferenceAdamInIdeal.nD Cert.ReferenceAdamInIdeal.τ).loc Cert.ReferenceAdamInIdeal.main_arg5) = m' ((c.tc : Thread Cert.ReferenceAdamInIdeal.nD Cert.ReferenceAdamInIdeal.τ).loc Cert.ReferenceAdamInIdeal.main_arg5))

def preserves_KernelAdamO_KernelAdamOIdeal : Prop :=
  True

def algebraic_KernelAdamOIdeal_ReferenceAdamOIdeal [hKernelAdamOIdeal : Cert.KernelAdamOIdeal.Facts] [hReferenceAdamOIdeal : Cert.ReferenceAdamOIdeal.Facts] : Prop :=
  ∀ (m : (ℓ : Loc Cert.KernelAdamOIdeal.nD Cert.KernelAdamOIdeal.τ Cert.KernelAdamOIdeal.sig) → Buf (Elt Ideal) ℓ) (g : Dev Cert.KernelAdamOIdeal.nD → PrngReg)
    (m' : (ℓ : Loc Cert.ReferenceAdamOIdeal.nD Cert.ReferenceAdamOIdeal.τ Cert.ReferenceAdamOIdeal.sig) → Buf (Elt Ideal) ℓ) (g' : Dev Cert.ReferenceAdamOIdeal.nD → PrngReg), Pre_KernelAdamOIdeal m →
    (∀ c : Dev Cert.KernelAdamOIdeal.nD,
      m' ((c.tc : Thread Cert.ReferenceAdamOIdeal.nD Cert.ReferenceAdamOIdeal.τ).loc Cert.ReferenceAdamOIdeal.main_arg0) = m ((c.tc : Thread Cert.KernelAdamOIdeal.nD Cert.KernelAdamOIdeal.τ).loc Cert.KernelAdamOIdeal.main_arg0)
      ∧ m' ((c.tc : Thread Cert.ReferenceAdamOIdeal.nD Cert.ReferenceAdamOIdeal.τ).loc Cert.ReferenceAdamOIdeal.main_arg1) = m ((c.tc : Thread Cert.KernelAdamOIdeal.nD Cert.KernelAdamOIdeal.τ).loc Cert.KernelAdamOIdeal.main_arg1)
      ∧ m' ((c.tc : Thread Cert.ReferenceAdamOIdeal.nD Cert.ReferenceAdamOIdeal.τ).loc Cert.ReferenceAdamOIdeal.main_arg2) = m ((c.tc : Thread Cert.KernelAdamOIdeal.nD Cert.KernelAdamOIdeal.τ).loc Cert.KernelAdamOIdeal.main_arg2)
      ∧ m' ((c.tc : Thread Cert.ReferenceAdamOIdeal.nD Cert.ReferenceAdamOIdeal.τ).loc Cert.ReferenceAdamOIdeal.main_arg3) = m ((c.tc : Thread Cert.KernelAdamOIdeal.nD Cert.KernelAdamOIdeal.τ).loc Cert.KernelAdamOIdeal.main_arg3)
      ∧ m' ((c.tc : Thread Cert.ReferenceAdamOIdeal.nD Cert.ReferenceAdamOIdeal.τ).loc Cert.ReferenceAdamOIdeal.main_arg4) = m ((c.tc : Thread Cert.KernelAdamOIdeal.nD Cert.KernelAdamOIdeal.τ).loc Cert.KernelAdamOIdeal.main_arg4)
      ∧ m' ((c.tc : Thread Cert.ReferenceAdamOIdeal.nD Cert.ReferenceAdamOIdeal.τ).loc Cert.ReferenceAdamOIdeal.main_arg5) = m ((c.tc : Thread Cert.KernelAdamOIdeal.nD Cert.KernelAdamOIdeal.τ).loc Cert.KernelAdamOIdeal.main_arg5)) →
    ∃ (v0 : (c : Dev Cert.KernelAdamOIdeal.nD) → Buf (Elt Ideal) ((c.tc : Thread Cert.KernelAdamOIdeal.nD Cert.KernelAdamOIdeal.τ).loc Cert.KernelAdamOIdeal.main_v0_0)) (v1 : (c : Dev Cert.KernelAdamOIdeal.nD) → Buf (Elt Ideal) ((c.tc : Thread Cert.KernelAdamOIdeal.nD Cert.KernelAdamOIdeal.τ).loc Cert.KernelAdamOIdeal.main_v0_1)) (v2 : (c : Dev Cert.KernelAdamOIdeal.nD) → Buf (Elt Ideal) ((c.tc : Thread Cert.KernelAdamOIdeal.nD Cert.KernelAdamOIdeal.τ).loc Cert.KernelAdamOIdeal.main_v0_2)) (v3 : (c : Dev Cert.KernelAdamOIdeal.nD) → Buf (Elt Ideal) ((c.tc : Thread Cert.KernelAdamOIdeal.nD Cert.KernelAdamOIdeal.τ).loc Cert.KernelAdamOIdeal.main_v0_3)),
      θ_run (Cert.KernelAdamOIdeal.defs (F := Ideal)) (onTc (τ := Cert.KernelAdamOIdeal.τ) (Cert.KernelAdamOIdeal.main (F := Ideal))) ⟨m, fun _ => 0, g⟩ (fun r => ∀ c : Dev Cert.KernelAdamOIdeal.nD,
          r.2.mem ((c.tc : Thread Cert.KernelAdamOIdeal.nD Cert.KernelAdamOIdeal.τ).loc Cert.KernelAdamOIdeal.main_v0_0) = v0 c
          ∧ r.2.mem ((c.tc : Thread Cert.KernelAdamOIdeal.nD Cert.KernelAdamOIdeal.τ).loc Cert.KernelAdamOIdeal.main_v0_1) = v1 c
          ∧ r.2.mem ((c.tc : Thread Cert.KernelAdamOIdeal.nD Cert.KernelAdamOIdeal.τ).loc Cert.KernelAdamOIdeal.main_v0_2) = v2 c
          ∧ r.2.mem ((c.tc : Thread Cert.KernelAdamOIdeal.nD Cert.KernelAdamOIdeal.τ).loc Cert.KernelAdamOIdeal.main_v0_3) = v3 c
          ∧ r.2.mem ((c.tc : Thread Cert.KernelAdamOIdeal.nD Cert.KernelAdamOIdeal.τ).loc Cert.KernelAdamOIdeal.main_arg0) = m ((c.tc : Thread Cert.KernelAdamOIdeal.nD Cert.KernelAdamOIdeal.τ).loc Cert.KernelAdamOIdeal.main_arg0)
          ∧ r.2.mem ((c.tc : Thread Cert.KernelAdamOIdeal.nD Cert.KernelAdamOIdeal.τ).loc Cert.KernelAdamOIdeal.main_arg1) = m ((c.tc : Thread Cert.KernelAdamOIdeal.nD Cert.KernelAdamOIdeal.τ).loc Cert.KernelAdamOIdeal.main_arg1)
          ∧ r.2.mem ((c.tc : Thread Cert.KernelAdamOIdeal.nD Cert.KernelAdamOIdeal.τ).loc Cert.KernelAdamOIdeal.main_arg2) = m ((c.tc : Thread Cert.KernelAdamOIdeal.nD Cert.KernelAdamOIdeal.τ).loc Cert.KernelAdamOIdeal.main_arg2)
          ∧ r.2.mem ((c.tc : Thread Cert.KernelAdamOIdeal.nD Cert.KernelAdamOIdeal.τ).loc Cert.KernelAdamOIdeal.main_arg3) = m ((c.tc : Thread Cert.KernelAdamOIdeal.nD Cert.KernelAdamOIdeal.τ).loc Cert.KernelAdamOIdeal.main_arg3)
          ∧ r.2.mem ((c.tc : Thread Cert.KernelAdamOIdeal.nD Cert.KernelAdamOIdeal.τ).loc Cert.KernelAdamOIdeal.main_arg4) = m ((c.tc : Thread Cert.KernelAdamOIdeal.nD Cert.KernelAdamOIdeal.τ).loc Cert.KernelAdamOIdeal.main_arg4)
          ∧ r.2.mem ((c.tc : Thread Cert.KernelAdamOIdeal.nD Cert.KernelAdamOIdeal.τ).loc Cert.KernelAdamOIdeal.main_arg5) = m ((c.tc : Thread Cert.KernelAdamOIdeal.nD Cert.KernelAdamOIdeal.τ).loc Cert.KernelAdamOIdeal.main_arg5))
      ∧ θ_run (Cert.ReferenceAdamOIdeal.defs (F := Ideal)) (onTc (τ := Cert.ReferenceAdamOIdeal.τ) (Cert.ReferenceAdamOIdeal.main (F := Ideal))) ⟨m', fun _ => 0, g'⟩ (fun r => ∀ c : Dev Cert.ReferenceAdamOIdeal.nD,
          r.2.mem ((c.tc : Thread Cert.ReferenceAdamOIdeal.nD Cert.ReferenceAdamOIdeal.τ).loc Cert.ReferenceAdamOIdeal.main_v2) = v0 c
          ∧ r.2.mem ((c.tc : Thread Cert.ReferenceAdamOIdeal.nD Cert.ReferenceAdamOIdeal.τ).loc Cert.ReferenceAdamOIdeal.main_v26) = v1 c
          ∧ r.2.mem ((c.tc : Thread Cert.ReferenceAdamOIdeal.nD Cert.ReferenceAdamOIdeal.τ).loc Cert.ReferenceAdamOIdeal.main_v7) = v2 c
          ∧ r.2.mem ((c.tc : Thread Cert.ReferenceAdamOIdeal.nD Cert.ReferenceAdamOIdeal.τ).loc Cert.ReferenceAdamOIdeal.main_v13) = v3 c
          ∧ r.2.mem ((c.tc : Thread Cert.ReferenceAdamOIdeal.nD Cert.ReferenceAdamOIdeal.τ).loc Cert.ReferenceAdamOIdeal.main_arg0) = m' ((c.tc : Thread Cert.ReferenceAdamOIdeal.nD Cert.ReferenceAdamOIdeal.τ).loc Cert.ReferenceAdamOIdeal.main_arg0)
          ∧ r.2.mem ((c.tc : Thread Cert.ReferenceAdamOIdeal.nD Cert.ReferenceAdamOIdeal.τ).loc Cert.ReferenceAdamOIdeal.main_arg1) = m' ((c.tc : Thread Cert.ReferenceAdamOIdeal.nD Cert.ReferenceAdamOIdeal.τ).loc Cert.ReferenceAdamOIdeal.main_arg1)
          ∧ r.2.mem ((c.tc : Thread Cert.ReferenceAdamOIdeal.nD Cert.ReferenceAdamOIdeal.τ).loc Cert.ReferenceAdamOIdeal.main_arg2) = m' ((c.tc : Thread Cert.ReferenceAdamOIdeal.nD Cert.ReferenceAdamOIdeal.τ).loc Cert.ReferenceAdamOIdeal.main_arg2)
          ∧ r.2.mem ((c.tc : Thread Cert.ReferenceAdamOIdeal.nD Cert.ReferenceAdamOIdeal.τ).loc Cert.ReferenceAdamOIdeal.main_arg3) = m' ((c.tc : Thread Cert.ReferenceAdamOIdeal.nD Cert.ReferenceAdamOIdeal.τ).loc Cert.ReferenceAdamOIdeal.main_arg3)
          ∧ r.2.mem ((c.tc : Thread Cert.ReferenceAdamOIdeal.nD Cert.ReferenceAdamOIdeal.τ).loc Cert.ReferenceAdamOIdeal.main_arg4) = m' ((c.tc : Thread Cert.ReferenceAdamOIdeal.nD Cert.ReferenceAdamOIdeal.τ).loc Cert.ReferenceAdamOIdeal.main_arg4)
          ∧ r.2.mem ((c.tc : Thread Cert.ReferenceAdamOIdeal.nD Cert.ReferenceAdamOIdeal.τ).loc Cert.ReferenceAdamOIdeal.main_arg5) = m' ((c.tc : Thread Cert.ReferenceAdamOIdeal.nD Cert.ReferenceAdamOIdeal.τ).loc Cert.ReferenceAdamOIdeal.main_arg5))

def preserves_KernelAdamUq_KernelAdamUqIdeal : Prop :=
  True

def algebraic_KernelAdamUqIdeal_ReferenceAdamUqIdeal [hKernelAdamUqIdeal : Cert.KernelAdamUqIdeal.Facts] [hReferenceAdamUqIdeal : Cert.ReferenceAdamUqIdeal.Facts] : Prop :=
  ∀ (m : (ℓ : Loc Cert.KernelAdamUqIdeal.nD Cert.KernelAdamUqIdeal.τ Cert.KernelAdamUqIdeal.sig) → Buf (Elt Ideal) ℓ) (g : Dev Cert.KernelAdamUqIdeal.nD → PrngReg)
    (m' : (ℓ : Loc Cert.ReferenceAdamUqIdeal.nD Cert.ReferenceAdamUqIdeal.τ Cert.ReferenceAdamUqIdeal.sig) → Buf (Elt Ideal) ℓ) (g' : Dev Cert.ReferenceAdamUqIdeal.nD → PrngReg), Pre_KernelAdamUqIdeal m →
    (∀ c : Dev Cert.KernelAdamUqIdeal.nD,
      m' ((c.tc : Thread Cert.ReferenceAdamUqIdeal.nD Cert.ReferenceAdamUqIdeal.τ).loc Cert.ReferenceAdamUqIdeal.main_arg0) = m ((c.tc : Thread Cert.KernelAdamUqIdeal.nD Cert.KernelAdamUqIdeal.τ).loc Cert.KernelAdamUqIdeal.main_arg0)
      ∧ m' ((c.tc : Thread Cert.ReferenceAdamUqIdeal.nD Cert.ReferenceAdamUqIdeal.τ).loc Cert.ReferenceAdamUqIdeal.main_arg1) = m ((c.tc : Thread Cert.KernelAdamUqIdeal.nD Cert.KernelAdamUqIdeal.τ).loc Cert.KernelAdamUqIdeal.main_arg1)
      ∧ m' ((c.tc : Thread Cert.ReferenceAdamUqIdeal.nD Cert.ReferenceAdamUqIdeal.τ).loc Cert.ReferenceAdamUqIdeal.main_arg2) = m ((c.tc : Thread Cert.KernelAdamUqIdeal.nD Cert.KernelAdamUqIdeal.τ).loc Cert.KernelAdamUqIdeal.main_arg2)
      ∧ m' ((c.tc : Thread Cert.ReferenceAdamUqIdeal.nD Cert.ReferenceAdamUqIdeal.τ).loc Cert.ReferenceAdamUqIdeal.main_arg3) = m ((c.tc : Thread Cert.KernelAdamUqIdeal.nD Cert.KernelAdamUqIdeal.τ).loc Cert.KernelAdamUqIdeal.main_arg3)
      ∧ m' ((c.tc : Thread Cert.ReferenceAdamUqIdeal.nD Cert.ReferenceAdamUqIdeal.τ).loc Cert.ReferenceAdamUqIdeal.main_arg4) = m ((c.tc : Thread Cert.KernelAdamUqIdeal.nD Cert.KernelAdamUqIdeal.τ).loc Cert.KernelAdamUqIdeal.main_arg4)
      ∧ m' ((c.tc : Thread Cert.ReferenceAdamUqIdeal.nD Cert.ReferenceAdamUqIdeal.τ).loc Cert.ReferenceAdamUqIdeal.main_arg5) = m ((c.tc : Thread Cert.KernelAdamUqIdeal.nD Cert.KernelAdamUqIdeal.τ).loc Cert.KernelAdamUqIdeal.main_arg5)) →
    ∃ (v0 : (c : Dev Cert.KernelAdamUqIdeal.nD) → Buf (Elt Ideal) ((c.tc : Thread Cert.KernelAdamUqIdeal.nD Cert.KernelAdamUqIdeal.τ).loc Cert.KernelAdamUqIdeal.main_v0_0)) (v1 : (c : Dev Cert.KernelAdamUqIdeal.nD) → Buf (Elt Ideal) ((c.tc : Thread Cert.KernelAdamUqIdeal.nD Cert.KernelAdamUqIdeal.τ).loc Cert.KernelAdamUqIdeal.main_v0_1)) (v2 : (c : Dev Cert.KernelAdamUqIdeal.nD) → Buf (Elt Ideal) ((c.tc : Thread Cert.KernelAdamUqIdeal.nD Cert.KernelAdamUqIdeal.τ).loc Cert.KernelAdamUqIdeal.main_v0_2)) (v3 : (c : Dev Cert.KernelAdamUqIdeal.nD) → Buf (Elt Ideal) ((c.tc : Thread Cert.KernelAdamUqIdeal.nD Cert.KernelAdamUqIdeal.τ).loc Cert.KernelAdamUqIdeal.main_v0_3)),
      θ_run (Cert.KernelAdamUqIdeal.defs (F := Ideal)) (onTc (τ := Cert.KernelAdamUqIdeal.τ) (Cert.KernelAdamUqIdeal.main (F := Ideal))) ⟨m, fun _ => 0, g⟩ (fun r => ∀ c : Dev Cert.KernelAdamUqIdeal.nD,
          r.2.mem ((c.tc : Thread Cert.KernelAdamUqIdeal.nD Cert.KernelAdamUqIdeal.τ).loc Cert.KernelAdamUqIdeal.main_v0_0) = v0 c
          ∧ r.2.mem ((c.tc : Thread Cert.KernelAdamUqIdeal.nD Cert.KernelAdamUqIdeal.τ).loc Cert.KernelAdamUqIdeal.main_v0_1) = v1 c
          ∧ r.2.mem ((c.tc : Thread Cert.KernelAdamUqIdeal.nD Cert.KernelAdamUqIdeal.τ).loc Cert.KernelAdamUqIdeal.main_v0_2) = v2 c
          ∧ r.2.mem ((c.tc : Thread Cert.KernelAdamUqIdeal.nD Cert.KernelAdamUqIdeal.τ).loc Cert.KernelAdamUqIdeal.main_v0_3) = v3 c
          ∧ r.2.mem ((c.tc : Thread Cert.KernelAdamUqIdeal.nD Cert.KernelAdamUqIdeal.τ).loc Cert.KernelAdamUqIdeal.main_arg0) = m ((c.tc : Thread Cert.KernelAdamUqIdeal.nD Cert.KernelAdamUqIdeal.τ).loc Cert.KernelAdamUqIdeal.main_arg0)
          ∧ r.2.mem ((c.tc : Thread Cert.KernelAdamUqIdeal.nD Cert.KernelAdamUqIdeal.τ).loc Cert.KernelAdamUqIdeal.main_arg1) = m ((c.tc : Thread Cert.KernelAdamUqIdeal.nD Cert.KernelAdamUqIdeal.τ).loc Cert.KernelAdamUqIdeal.main_arg1)
          ∧ r.2.mem ((c.tc : Thread Cert.KernelAdamUqIdeal.nD Cert.KernelAdamUqIdeal.τ).loc Cert.KernelAdamUqIdeal.main_arg2) = m ((c.tc : Thread Cert.KernelAdamUqIdeal.nD Cert.KernelAdamUqIdeal.τ).loc Cert.KernelAdamUqIdeal.main_arg2)
          ∧ r.2.mem ((c.tc : Thread Cert.KernelAdamUqIdeal.nD Cert.KernelAdamUqIdeal.τ).loc Cert.KernelAdamUqIdeal.main_arg3) = m ((c.tc : Thread Cert.KernelAdamUqIdeal.nD Cert.KernelAdamUqIdeal.τ).loc Cert.KernelAdamUqIdeal.main_arg3)
          ∧ r.2.mem ((c.tc : Thread Cert.KernelAdamUqIdeal.nD Cert.KernelAdamUqIdeal.τ).loc Cert.KernelAdamUqIdeal.main_arg4) = m ((c.tc : Thread Cert.KernelAdamUqIdeal.nD Cert.KernelAdamUqIdeal.τ).loc Cert.KernelAdamUqIdeal.main_arg4)
          ∧ r.2.mem ((c.tc : Thread Cert.KernelAdamUqIdeal.nD Cert.KernelAdamUqIdeal.τ).loc Cert.KernelAdamUqIdeal.main_arg5) = m ((c.tc : Thread Cert.KernelAdamUqIdeal.nD Cert.KernelAdamUqIdeal.τ).loc Cert.KernelAdamUqIdeal.main_arg5))
      ∧ θ_run (Cert.ReferenceAdamUqIdeal.defs (F := Ideal)) (onTc (τ := Cert.ReferenceAdamUqIdeal.τ) (Cert.ReferenceAdamUqIdeal.main (F := Ideal))) ⟨m', fun _ => 0, g'⟩ (fun r => ∀ c : Dev Cert.ReferenceAdamUqIdeal.nD,
          r.2.mem ((c.tc : Thread Cert.ReferenceAdamUqIdeal.nD Cert.ReferenceAdamUqIdeal.τ).loc Cert.ReferenceAdamUqIdeal.main_v2) = v0 c
          ∧ r.2.mem ((c.tc : Thread Cert.ReferenceAdamUqIdeal.nD Cert.ReferenceAdamUqIdeal.τ).loc Cert.ReferenceAdamUqIdeal.main_v26) = v1 c
          ∧ r.2.mem ((c.tc : Thread Cert.ReferenceAdamUqIdeal.nD Cert.ReferenceAdamUqIdeal.τ).loc Cert.ReferenceAdamUqIdeal.main_v7) = v2 c
          ∧ r.2.mem ((c.tc : Thread Cert.ReferenceAdamUqIdeal.nD Cert.ReferenceAdamUqIdeal.τ).loc Cert.ReferenceAdamUqIdeal.main_v13) = v3 c
          ∧ r.2.mem ((c.tc : Thread Cert.ReferenceAdamUqIdeal.nD Cert.ReferenceAdamUqIdeal.τ).loc Cert.ReferenceAdamUqIdeal.main_arg0) = m' ((c.tc : Thread Cert.ReferenceAdamUqIdeal.nD Cert.ReferenceAdamUqIdeal.τ).loc Cert.ReferenceAdamUqIdeal.main_arg0)
          ∧ r.2.mem ((c.tc : Thread Cert.ReferenceAdamUqIdeal.nD Cert.ReferenceAdamUqIdeal.τ).loc Cert.ReferenceAdamUqIdeal.main_arg1) = m' ((c.tc : Thread Cert.ReferenceAdamUqIdeal.nD Cert.ReferenceAdamUqIdeal.τ).loc Cert.ReferenceAdamUqIdeal.main_arg1)
          ∧ r.2.mem ((c.tc : Thread Cert.ReferenceAdamUqIdeal.nD Cert.ReferenceAdamUqIdeal.τ).loc Cert.ReferenceAdamUqIdeal.main_arg2) = m' ((c.tc : Thread Cert.ReferenceAdamUqIdeal.nD Cert.ReferenceAdamUqIdeal.τ).loc Cert.ReferenceAdamUqIdeal.main_arg2)
          ∧ r.2.mem ((c.tc : Thread Cert.ReferenceAdamUqIdeal.nD Cert.ReferenceAdamUqIdeal.τ).loc Cert.ReferenceAdamUqIdeal.main_arg3) = m' ((c.tc : Thread Cert.ReferenceAdamUqIdeal.nD Cert.ReferenceAdamUqIdeal.τ).loc Cert.ReferenceAdamUqIdeal.main_arg3)
          ∧ r.2.mem ((c.tc : Thread Cert.ReferenceAdamUqIdeal.nD Cert.ReferenceAdamUqIdeal.τ).loc Cert.ReferenceAdamUqIdeal.main_arg4) = m' ((c.tc : Thread Cert.ReferenceAdamUqIdeal.nD Cert.ReferenceAdamUqIdeal.τ).loc Cert.ReferenceAdamUqIdeal.main_arg4)
          ∧ r.2.mem ((c.tc : Thread Cert.ReferenceAdamUqIdeal.nD Cert.ReferenceAdamUqIdeal.τ).loc Cert.ReferenceAdamUqIdeal.main_arg5) = m' ((c.tc : Thread Cert.ReferenceAdamUqIdeal.nD Cert.ReferenceAdamUqIdeal.τ).loc Cert.ReferenceAdamUqIdeal.main_arg5))

def preserves_KernelAdamUkv_KernelAdamUkvIdeal : Prop :=
  True

def algebraic_KernelAdamUkvIdeal_ReferenceAdamUkvIdeal [hKernelAdamUkvIdeal : Cert.KernelAdamUkvIdeal.Facts] [hReferenceAdamUkvIdeal : Cert.ReferenceAdamUkvIdeal.Facts] : Prop :=
  ∀ (m : (ℓ : Loc Cert.KernelAdamUkvIdeal.nD Cert.KernelAdamUkvIdeal.τ Cert.KernelAdamUkvIdeal.sig) → Buf (Elt Ideal) ℓ) (g : Dev Cert.KernelAdamUkvIdeal.nD → PrngReg)
    (m' : (ℓ : Loc Cert.ReferenceAdamUkvIdeal.nD Cert.ReferenceAdamUkvIdeal.τ Cert.ReferenceAdamUkvIdeal.sig) → Buf (Elt Ideal) ℓ) (g' : Dev Cert.ReferenceAdamUkvIdeal.nD → PrngReg), Pre_KernelAdamUkvIdeal m →
    (∀ c : Dev Cert.KernelAdamUkvIdeal.nD,
      m' ((c.tc : Thread Cert.ReferenceAdamUkvIdeal.nD Cert.ReferenceAdamUkvIdeal.τ).loc Cert.ReferenceAdamUkvIdeal.main_arg0) = m ((c.tc : Thread Cert.KernelAdamUkvIdeal.nD Cert.KernelAdamUkvIdeal.τ).loc Cert.KernelAdamUkvIdeal.main_arg0)
      ∧ m' ((c.tc : Thread Cert.ReferenceAdamUkvIdeal.nD Cert.ReferenceAdamUkvIdeal.τ).loc Cert.ReferenceAdamUkvIdeal.main_arg1) = m ((c.tc : Thread Cert.KernelAdamUkvIdeal.nD Cert.KernelAdamUkvIdeal.τ).loc Cert.KernelAdamUkvIdeal.main_arg1)
      ∧ m' ((c.tc : Thread Cert.ReferenceAdamUkvIdeal.nD Cert.ReferenceAdamUkvIdeal.τ).loc Cert.ReferenceAdamUkvIdeal.main_arg2) = m ((c.tc : Thread Cert.KernelAdamUkvIdeal.nD Cert.KernelAdamUkvIdeal.τ).loc Cert.KernelAdamUkvIdeal.main_arg2)
      ∧ m' ((c.tc : Thread Cert.ReferenceAdamUkvIdeal.nD Cert.ReferenceAdamUkvIdeal.τ).loc Cert.ReferenceAdamUkvIdeal.main_arg3) = m ((c.tc : Thread Cert.KernelAdamUkvIdeal.nD Cert.KernelAdamUkvIdeal.τ).loc Cert.KernelAdamUkvIdeal.main_arg3)
      ∧ m' ((c.tc : Thread Cert.ReferenceAdamUkvIdeal.nD Cert.ReferenceAdamUkvIdeal.τ).loc Cert.ReferenceAdamUkvIdeal.main_arg4) = m ((c.tc : Thread Cert.KernelAdamUkvIdeal.nD Cert.KernelAdamUkvIdeal.τ).loc Cert.KernelAdamUkvIdeal.main_arg4)
      ∧ m' ((c.tc : Thread Cert.ReferenceAdamUkvIdeal.nD Cert.ReferenceAdamUkvIdeal.τ).loc Cert.ReferenceAdamUkvIdeal.main_arg5) = m ((c.tc : Thread Cert.KernelAdamUkvIdeal.nD Cert.KernelAdamUkvIdeal.τ).loc Cert.KernelAdamUkvIdeal.main_arg5)) →
    ∃ (v0 : (c : Dev Cert.KernelAdamUkvIdeal.nD) → Buf (Elt Ideal) ((c.tc : Thread Cert.KernelAdamUkvIdeal.nD Cert.KernelAdamUkvIdeal.τ).loc Cert.KernelAdamUkvIdeal.main_v0_0)) (v1 : (c : Dev Cert.KernelAdamUkvIdeal.nD) → Buf (Elt Ideal) ((c.tc : Thread Cert.KernelAdamUkvIdeal.nD Cert.KernelAdamUkvIdeal.τ).loc Cert.KernelAdamUkvIdeal.main_v0_1)) (v2 : (c : Dev Cert.KernelAdamUkvIdeal.nD) → Buf (Elt Ideal) ((c.tc : Thread Cert.KernelAdamUkvIdeal.nD Cert.KernelAdamUkvIdeal.τ).loc Cert.KernelAdamUkvIdeal.main_v0_2)) (v3 : (c : Dev Cert.KernelAdamUkvIdeal.nD) → Buf (Elt Ideal) ((c.tc : Thread Cert.KernelAdamUkvIdeal.nD Cert.KernelAdamUkvIdeal.τ).loc Cert.KernelAdamUkvIdeal.main_v0_3)),
      θ_run (Cert.KernelAdamUkvIdeal.defs (F := Ideal)) (onTc (τ := Cert.KernelAdamUkvIdeal.τ) (Cert.KernelAdamUkvIdeal.main (F := Ideal))) ⟨m, fun _ => 0, g⟩ (fun r => ∀ c : Dev Cert.KernelAdamUkvIdeal.nD,
          r.2.mem ((c.tc : Thread Cert.KernelAdamUkvIdeal.nD Cert.KernelAdamUkvIdeal.τ).loc Cert.KernelAdamUkvIdeal.main_v0_0) = v0 c
          ∧ r.2.mem ((c.tc : Thread Cert.KernelAdamUkvIdeal.nD Cert.KernelAdamUkvIdeal.τ).loc Cert.KernelAdamUkvIdeal.main_v0_1) = v1 c
          ∧ r.2.mem ((c.tc : Thread Cert.KernelAdamUkvIdeal.nD Cert.KernelAdamUkvIdeal.τ).loc Cert.KernelAdamUkvIdeal.main_v0_2) = v2 c
          ∧ r.2.mem ((c.tc : Thread Cert.KernelAdamUkvIdeal.nD Cert.KernelAdamUkvIdeal.τ).loc Cert.KernelAdamUkvIdeal.main_v0_3) = v3 c
          ∧ r.2.mem ((c.tc : Thread Cert.KernelAdamUkvIdeal.nD Cert.KernelAdamUkvIdeal.τ).loc Cert.KernelAdamUkvIdeal.main_arg0) = m ((c.tc : Thread Cert.KernelAdamUkvIdeal.nD Cert.KernelAdamUkvIdeal.τ).loc Cert.KernelAdamUkvIdeal.main_arg0)
          ∧ r.2.mem ((c.tc : Thread Cert.KernelAdamUkvIdeal.nD Cert.KernelAdamUkvIdeal.τ).loc Cert.KernelAdamUkvIdeal.main_arg1) = m ((c.tc : Thread Cert.KernelAdamUkvIdeal.nD Cert.KernelAdamUkvIdeal.τ).loc Cert.KernelAdamUkvIdeal.main_arg1)
          ∧ r.2.mem ((c.tc : Thread Cert.KernelAdamUkvIdeal.nD Cert.KernelAdamUkvIdeal.τ).loc Cert.KernelAdamUkvIdeal.main_arg2) = m ((c.tc : Thread Cert.KernelAdamUkvIdeal.nD Cert.KernelAdamUkvIdeal.τ).loc Cert.KernelAdamUkvIdeal.main_arg2)
          ∧ r.2.mem ((c.tc : Thread Cert.KernelAdamUkvIdeal.nD Cert.KernelAdamUkvIdeal.τ).loc Cert.KernelAdamUkvIdeal.main_arg3) = m ((c.tc : Thread Cert.KernelAdamUkvIdeal.nD Cert.KernelAdamUkvIdeal.τ).loc Cert.KernelAdamUkvIdeal.main_arg3)
          ∧ r.2.mem ((c.tc : Thread Cert.KernelAdamUkvIdeal.nD Cert.KernelAdamUkvIdeal.τ).loc Cert.KernelAdamUkvIdeal.main_arg4) = m ((c.tc : Thread Cert.KernelAdamUkvIdeal.nD Cert.KernelAdamUkvIdeal.τ).loc Cert.KernelAdamUkvIdeal.main_arg4)
          ∧ r.2.mem ((c.tc : Thread Cert.KernelAdamUkvIdeal.nD Cert.KernelAdamUkvIdeal.τ).loc Cert.KernelAdamUkvIdeal.main_arg5) = m ((c.tc : Thread Cert.KernelAdamUkvIdeal.nD Cert.KernelAdamUkvIdeal.τ).loc Cert.KernelAdamUkvIdeal.main_arg5))
      ∧ θ_run (Cert.ReferenceAdamUkvIdeal.defs (F := Ideal)) (onTc (τ := Cert.ReferenceAdamUkvIdeal.τ) (Cert.ReferenceAdamUkvIdeal.main (F := Ideal))) ⟨m', fun _ => 0, g'⟩ (fun r => ∀ c : Dev Cert.ReferenceAdamUkvIdeal.nD,
          r.2.mem ((c.tc : Thread Cert.ReferenceAdamUkvIdeal.nD Cert.ReferenceAdamUkvIdeal.τ).loc Cert.ReferenceAdamUkvIdeal.main_v2) = v0 c
          ∧ r.2.mem ((c.tc : Thread Cert.ReferenceAdamUkvIdeal.nD Cert.ReferenceAdamUkvIdeal.τ).loc Cert.ReferenceAdamUkvIdeal.main_v26) = v1 c
          ∧ r.2.mem ((c.tc : Thread Cert.ReferenceAdamUkvIdeal.nD Cert.ReferenceAdamUkvIdeal.τ).loc Cert.ReferenceAdamUkvIdeal.main_v7) = v2 c
          ∧ r.2.mem ((c.tc : Thread Cert.ReferenceAdamUkvIdeal.nD Cert.ReferenceAdamUkvIdeal.τ).loc Cert.ReferenceAdamUkvIdeal.main_v13) = v3 c
          ∧ r.2.mem ((c.tc : Thread Cert.ReferenceAdamUkvIdeal.nD Cert.ReferenceAdamUkvIdeal.τ).loc Cert.ReferenceAdamUkvIdeal.main_arg0) = m' ((c.tc : Thread Cert.ReferenceAdamUkvIdeal.nD Cert.ReferenceAdamUkvIdeal.τ).loc Cert.ReferenceAdamUkvIdeal.main_arg0)
          ∧ r.2.mem ((c.tc : Thread Cert.ReferenceAdamUkvIdeal.nD Cert.ReferenceAdamUkvIdeal.τ).loc Cert.ReferenceAdamUkvIdeal.main_arg1) = m' ((c.tc : Thread Cert.ReferenceAdamUkvIdeal.nD Cert.ReferenceAdamUkvIdeal.τ).loc Cert.ReferenceAdamUkvIdeal.main_arg1)
          ∧ r.2.mem ((c.tc : Thread Cert.ReferenceAdamUkvIdeal.nD Cert.ReferenceAdamUkvIdeal.τ).loc Cert.ReferenceAdamUkvIdeal.main_arg2) = m' ((c.tc : Thread Cert.ReferenceAdamUkvIdeal.nD Cert.ReferenceAdamUkvIdeal.τ).loc Cert.ReferenceAdamUkvIdeal.main_arg2)
          ∧ r.2.mem ((c.tc : Thread Cert.ReferenceAdamUkvIdeal.nD Cert.ReferenceAdamUkvIdeal.τ).loc Cert.ReferenceAdamUkvIdeal.main_arg3) = m' ((c.tc : Thread Cert.ReferenceAdamUkvIdeal.nD Cert.ReferenceAdamUkvIdeal.τ).loc Cert.ReferenceAdamUkvIdeal.main_arg3)
          ∧ r.2.mem ((c.tc : Thread Cert.ReferenceAdamUkvIdeal.nD Cert.ReferenceAdamUkvIdeal.τ).loc Cert.ReferenceAdamUkvIdeal.main_arg4) = m' ((c.tc : Thread Cert.ReferenceAdamUkvIdeal.nD Cert.ReferenceAdamUkvIdeal.τ).loc Cert.ReferenceAdamUkvIdeal.main_arg4)
          ∧ r.2.mem ((c.tc : Thread Cert.ReferenceAdamUkvIdeal.nD Cert.ReferenceAdamUkvIdeal.τ).loc Cert.ReferenceAdamUkvIdeal.main_arg5) = m' ((c.tc : Thread Cert.ReferenceAdamUkvIdeal.nD Cert.ReferenceAdamUkvIdeal.τ).loc Cert.ReferenceAdamUkvIdeal.main_arg5))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)
      ∧ m' ((c.tc : Thread Cert.ReferenceAdamOutIdeal.nD Cert.ReferenceAdamOutIdeal.τ).loc Cert.ReferenceAdamOutIdeal.main_arg4) = m ((c.tc : Thread Cert.KernelAdamOutIdeal.nD Cert.KernelAdamOutIdeal.τ).loc Cert.KernelAdamOutIdeal.main_arg4)
      ∧ m' ((c.tc : Thread Cert.ReferenceAdamOutIdeal.nD Cert.ReferenceAdamOutIdeal.τ).loc Cert.ReferenceAdamOutIdeal.main_arg5) = m ((c.tc : Thread Cert.KernelAdamOutIdeal.nD Cert.KernelAdamOutIdeal.τ).loc Cert.KernelAdamOutIdeal.main_arg5)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)) (v3 : (c : Dev Cert.KernelAdamOutIdeal.nD) → Buf (Elt Ideal) ((c.tc : Thread Cert.KernelAdamOutIdeal.nD Cert.KernelAdamOutIdeal.τ).loc Cert.KernelAdamOutIdeal.main_v0_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_v0_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
          ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4)
          ∧ r.2.mem ((c.tc : Thread Cert.KernelAdamOutIdeal.nD Cert.KernelAdamOutIdeal.τ).loc Cert.KernelAdamOutIdeal.main_arg5) = m ((c.tc : Thread Cert.KernelAdamOutIdeal.nD Cert.KernelAdamOutIdeal.τ).loc Cert.KernelAdamOutIdeal.main_arg5))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v2) = v0 c
          ∧ r.2.mem ((c.tc : Thread Cert.ReferenceAdamOutIdeal.nD Cert.ReferenceAdamOutIdeal.τ).loc Cert.ReferenceAdamOutIdeal.main_v26) = v1 c
          ∧ r.2.mem ((c.tc : Thread Cert.ReferenceAdamOutIdeal.nD Cert.ReferenceAdamOutIdeal.τ).loc Cert.ReferenceAdamOutIdeal.main_v7) = v2 c
          ∧ r.2.mem ((c.tc : Thread Cert.ReferenceAdamOutIdeal.nD Cert.ReferenceAdamOutIdeal.τ).loc Cert.ReferenceAdamOutIdeal.main_v13) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3)
          ∧ r.2.mem ((c.tc : Thread Cert.ReferenceAdamOutIdeal.nD Cert.ReferenceAdamOutIdeal.τ).loc Cert.ReferenceAdamOutIdeal.main_arg4) = m' ((c.tc : Thread Cert.ReferenceAdamOutIdeal.nD Cert.ReferenceAdamOutIdeal.τ).loc Cert.ReferenceAdamOutIdeal.main_arg4)
          ∧ r.2.mem ((c.tc : Thread Cert.ReferenceAdamOutIdeal.nD Cert.ReferenceAdamOutIdeal.τ).loc Cert.ReferenceAdamOutIdeal.main_arg5) = m' ((c.tc : Thread Cert.ReferenceAdamOutIdeal.nD Cert.ReferenceAdamOutIdeal.τ).loc Cert.ReferenceAdamOutIdeal.main_arg5))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)) (v3 : (c : Dev Cert.KernelAdamSmallIdeal.nD) → Buf (Elt Ideal) ((c.tc : Thread Cert.KernelAdamSmallIdeal.nD Cert.KernelAdamSmallIdeal.τ).loc Cert.KernelAdamSmallIdeal.main_v0_3)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_v0_3) = v3 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v0) = v0 c
          ∧ r.2.mem ((c.tc : Thread Cert.ReferenceAdamSmallIdeal.nD Cert.ReferenceAdamSmallIdeal.τ).loc Cert.ReferenceAdamSmallIdeal.main_v24) = v1 c
          ∧ r.2.mem ((c.tc : Thread Cert.ReferenceAdamSmallIdeal.nD Cert.ReferenceAdamSmallIdeal.τ).loc Cert.ReferenceAdamSmallIdeal.main_v5) = v2 c
          ∧ r.2.mem ((c.tc : Thread Cert.ReferenceAdamSmallIdeal.nD Cert.ReferenceAdamSmallIdeal.τ).loc Cert.ReferenceAdamSmallIdeal.main_v11) = v3 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v0_2)) (v1 : (c : Dev Cert.KernelLossIdeal.nD) → Buf (Elt Ideal) ((c.tc : Thread Cert.KernelLossIdeal.nD Cert.KernelLossIdeal.τ).loc Cert.KernelLossIdeal.main_v0_0)) (v2 : (c : Dev Cert.KernelLossIdeal.nD) → Buf (Elt Ideal) ((c.tc : Thread Cert.KernelLossIdeal.nD Cert.KernelLossIdeal.τ).loc Cert.KernelLossIdeal.main_v0_1)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_2) = v0 c
          ∧ r.2.mem ((c.tc : Thread Cert.KernelLossIdeal.nD Cert.KernelLossIdeal.τ).loc Cert.KernelLossIdeal.main_v0_0) = v1 c
          ∧ r.2.mem ((c.tc : Thread Cert.KernelLossIdeal.nD Cert.KernelLossIdeal.τ).loc Cert.KernelLossIdeal.main_v0_1) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v49) = v0 c
          ∧ r.2.mem ((c.tc : Thread Cert.ReferenceLossIdeal.nD Cert.ReferenceLossIdeal.τ).loc Cert.ReferenceLossIdeal.main_v48) = v1 c
          ∧ r.2.mem ((c.tc : Thread Cert.ReferenceLossIdeal.nD Cert.ReferenceLossIdeal.τ).loc Cert.ReferenceLossIdeal.main_v32) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v0)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v0) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v12) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelDnorm_KernelDnormIdeal : Prop :=
  True

def algebraic_KernelDnormIdeal_ReferenceDnormIdeal [hKernelDnormIdeal : Cert.KernelDnormIdeal.Facts] [hReferenceDnormIdeal : Cert.ReferenceDnormIdeal.Facts] : Prop :=
  ∀ (m : (ℓ : Loc Cert.KernelDnormIdeal.nD Cert.KernelDnormIdeal.τ Cert.KernelDnormIdeal.sig) → Buf (Elt Ideal) ℓ) (g : Dev Cert.KernelDnormIdeal.nD → PrngReg)
    (m' : (ℓ : Loc Cert.ReferenceDnormIdeal.nD Cert.ReferenceDnormIdeal.τ Cert.ReferenceDnormIdeal.sig) → Buf (Elt Ideal) ℓ) (g' : Dev Cert.ReferenceDnormIdeal.nD → PrngReg), Pre_KernelDnormIdeal m →
    (∀ c : Dev Cert.KernelDnormIdeal.nD,
      m' ((c.tc : Thread Cert.ReferenceDnormIdeal.nD Cert.ReferenceDnormIdeal.τ).loc Cert.ReferenceDnormIdeal.main_arg0) = m ((c.tc : Thread Cert.KernelDnormIdeal.nD Cert.KernelDnormIdeal.τ).loc Cert.KernelDnormIdeal.main_arg0)
      ∧ m' ((c.tc : Thread Cert.ReferenceDnormIdeal.nD Cert.ReferenceDnormIdeal.τ).loc Cert.ReferenceDnormIdeal.main_arg1) = m ((c.tc : Thread Cert.KernelDnormIdeal.nD Cert.KernelDnormIdeal.τ).loc Cert.KernelDnormIdeal.main_arg1)
      ∧ m' ((c.tc : Thread Cert.ReferenceDnormIdeal.nD Cert.ReferenceDnormIdeal.τ).loc Cert.ReferenceDnormIdeal.main_arg2) = m ((c.tc : Thread Cert.KernelDnormIdeal.nD Cert.KernelDnormIdeal.τ).loc Cert.KernelDnormIdeal.main_arg2)
      ∧ m' ((c.tc : Thread Cert.ReferenceDnormIdeal.nD Cert.ReferenceDnormIdeal.τ).loc Cert.ReferenceDnormIdeal.main_arg3) = m ((c.tc : Thread Cert.KernelDnormIdeal.nD Cert.KernelDnormIdeal.τ).loc Cert.KernelDnormIdeal.main_arg3)) →
    ∃ (v0 : (c : Dev Cert.KernelDnormIdeal.nD) → Buf (Elt Ideal) ((c.tc : Thread Cert.KernelDnormIdeal.nD Cert.KernelDnormIdeal.τ).loc Cert.KernelDnormIdeal.main_v0_0)) (v1 : (c : Dev Cert.KernelDnormIdeal.nD) → Buf (Elt Ideal) ((c.tc : Thread Cert.KernelDnormIdeal.nD Cert.KernelDnormIdeal.τ).loc Cert.KernelDnormIdeal.main_v0_1)),
      θ_run (Cert.KernelDnormIdeal.defs (F := Ideal)) (onTc (τ := Cert.KernelDnormIdeal.τ) (Cert.KernelDnormIdeal.main (F := Ideal))) ⟨m, fun _ => 0, g⟩ (fun r => ∀ c : Dev Cert.KernelDnormIdeal.nD,
          r.2.mem ((c.tc : Thread Cert.KernelDnormIdeal.nD Cert.KernelDnormIdeal.τ).loc Cert.KernelDnormIdeal.main_v0_0) = v0 c
          ∧ r.2.mem ((c.tc : Thread Cert.KernelDnormIdeal.nD Cert.KernelDnormIdeal.τ).loc Cert.KernelDnormIdeal.main_v0_1) = v1 c
          ∧ r.2.mem ((c.tc : Thread Cert.KernelDnormIdeal.nD Cert.KernelDnormIdeal.τ).loc Cert.KernelDnormIdeal.main_arg0) = m ((c.tc : Thread Cert.KernelDnormIdeal.nD Cert.KernelDnormIdeal.τ).loc Cert.KernelDnormIdeal.main_arg0)
          ∧ r.2.mem ((c.tc : Thread Cert.KernelDnormIdeal.nD Cert.KernelDnormIdeal.τ).loc Cert.KernelDnormIdeal.main_arg1) = m ((c.tc : Thread Cert.KernelDnormIdeal.nD Cert.KernelDnormIdeal.τ).loc Cert.KernelDnormIdeal.main_arg1)
          ∧ r.2.mem ((c.tc : Thread Cert.KernelDnormIdeal.nD Cert.KernelDnormIdeal.τ).loc Cert.KernelDnormIdeal.main_arg2) = m ((c.tc : Thread Cert.KernelDnormIdeal.nD Cert.KernelDnormIdeal.τ).loc Cert.KernelDnormIdeal.main_arg2)
          ∧ r.2.mem ((c.tc : Thread Cert.KernelDnormIdeal.nD Cert.KernelDnormIdeal.τ).loc Cert.KernelDnormIdeal.main_arg3) = m ((c.tc : Thread Cert.KernelDnormIdeal.nD Cert.KernelDnormIdeal.τ).loc Cert.KernelDnormIdeal.main_arg3))
      ∧ θ_run (Cert.ReferenceDnormIdeal.defs (F := Ideal)) (onTc (τ := Cert.ReferenceDnormIdeal.τ) (Cert.ReferenceDnormIdeal.main (F := Ideal))) ⟨m', fun _ => 0, g'⟩ (fun r => ∀ c : Dev Cert.ReferenceDnormIdeal.nD,
          r.2.mem ((c.tc : Thread Cert.ReferenceDnormIdeal.nD Cert.ReferenceDnormIdeal.τ).loc Cert.ReferenceDnormIdeal.main_v34) = v0 c
          ∧ r.2.mem ((c.tc : Thread Cert.ReferenceDnormIdeal.nD Cert.ReferenceDnormIdeal.τ).loc Cert.ReferenceDnormIdeal.main_v17) = v1 c
          ∧ r.2.mem ((c.tc : Thread Cert.ReferenceDnormIdeal.nD Cert.ReferenceDnormIdeal.τ).loc Cert.ReferenceDnormIdeal.main_arg0) = m' ((c.tc : Thread Cert.ReferenceDnormIdeal.nD Cert.ReferenceDnormIdeal.τ).loc Cert.ReferenceDnormIdeal.main_arg0)
          ∧ r.2.mem ((c.tc : Thread Cert.ReferenceDnormIdeal.nD Cert.ReferenceDnormIdeal.τ).loc Cert.ReferenceDnormIdeal.main_arg1) = m' ((c.tc : Thread Cert.ReferenceDnormIdeal.nD Cert.ReferenceDnormIdeal.τ).loc Cert.ReferenceDnormIdeal.main_arg1)
          ∧ r.2.mem ((c.tc : Thread Cert.ReferenceDnormIdeal.nD Cert.ReferenceDnormIdeal.τ).loc Cert.ReferenceDnormIdeal.main_arg2) = m' ((c.tc : Thread Cert.ReferenceDnormIdeal.nD Cert.ReferenceDnormIdeal.τ).loc Cert.ReferenceDnormIdeal.main_arg2)
          ∧ r.2.mem ((c.tc : Thread Cert.ReferenceDnormIdeal.nD Cert.ReferenceDnormIdeal.τ).loc Cert.ReferenceDnormIdeal.main_arg3) = m' ((c.tc : Thread Cert.ReferenceDnormIdeal.nD Cert.ReferenceDnormIdeal.τ).loc Cert.ReferenceDnormIdeal.main_arg3))

def preserves_KernelBranch_KernelBranchIdeal : Prop :=
  True

def algebraic_KernelBranchIdeal_ReferenceBranchIdeal [hKernelBranchIdeal : Cert.KernelBranchIdeal.Facts] [hReferenceBranchIdeal : Cert.ReferenceBranchIdeal.Facts] : Prop :=
  ∀ (m : (ℓ : Loc Cert.KernelBranchIdeal.nD Cert.KernelBranchIdeal.τ Cert.KernelBranchIdeal.sig) → Buf (Elt Ideal) ℓ) (g : Dev Cert.KernelBranchIdeal.nD → PrngReg)
    (m' : (ℓ : Loc Cert.ReferenceBranchIdeal.nD Cert.ReferenceBranchIdeal.τ Cert.ReferenceBranchIdeal.sig) → Buf (Elt Ideal) ℓ) (g' : Dev Cert.ReferenceBranchIdeal.nD → PrngReg), Pre_KernelBranchIdeal m →
    (∀ c : Dev Cert.KernelBranchIdeal.nD,
      m' ((c.tc : Thread Cert.ReferenceBranchIdeal.nD Cert.ReferenceBranchIdeal.τ).loc Cert.ReferenceBranchIdeal.main_arg0) = m ((c.tc : Thread Cert.KernelBranchIdeal.nD Cert.KernelBranchIdeal.τ).loc Cert.KernelBranchIdeal.main_arg0)
      ∧ m' ((c.tc : Thread Cert.ReferenceBranchIdeal.nD Cert.ReferenceBranchIdeal.τ).loc Cert.ReferenceBranchIdeal.main_arg1) = m ((c.tc : Thread Cert.KernelBranchIdeal.nD Cert.KernelBranchIdeal.τ).loc Cert.KernelBranchIdeal.main_arg1)) →
    ∃ (v0 : (c : Dev Cert.KernelBranchIdeal.nD) → Buf (Elt Ideal) ((c.tc : Thread Cert.KernelBranchIdeal.nD Cert.KernelBranchIdeal.τ).loc Cert.KernelBranchIdeal.main_v0)),
      θ_run (Cert.KernelBranchIdeal.defs (F := Ideal)) (onTc (τ := Cert.KernelBranchIdeal.τ) (Cert.KernelBranchIdeal.main (F := Ideal))) ⟨m, fun _ => 0, g⟩ (fun r => ∀ c : Dev Cert.KernelBranchIdeal.nD,
          r.2.mem ((c.tc : Thread Cert.KernelBranchIdeal.nD Cert.KernelBranchIdeal.τ).loc Cert.KernelBranchIdeal.main_v0) = v0 c
          ∧ r.2.mem ((c.tc : Thread Cert.KernelBranchIdeal.nD Cert.KernelBranchIdeal.τ).loc Cert.KernelBranchIdeal.main_arg0) = m ((c.tc : Thread Cert.KernelBranchIdeal.nD Cert.KernelBranchIdeal.τ).loc Cert.KernelBranchIdeal.main_arg0)
          ∧ r.2.mem ((c.tc : Thread Cert.KernelBranchIdeal.nD Cert.KernelBranchIdeal.τ).loc Cert.KernelBranchIdeal.main_arg1) = m ((c.tc : Thread Cert.KernelBranchIdeal.nD Cert.KernelBranchIdeal.τ).loc Cert.KernelBranchIdeal.main_arg1))
      ∧ θ_run (Cert.ReferenceBranchIdeal.defs (F := Ideal)) (onTc (τ := Cert.ReferenceBranchIdeal.τ) (Cert.ReferenceBranchIdeal.main (F := Ideal))) ⟨m', fun _ => 0, g'⟩ (fun r => ∀ c : Dev Cert.ReferenceBranchIdeal.nD,
          r.2.mem ((c.tc : Thread Cert.ReferenceBranchIdeal.nD Cert.ReferenceBranchIdeal.τ).loc Cert.ReferenceBranchIdeal.main_v4) = v0 c
          ∧ r.2.mem ((c.tc : Thread Cert.ReferenceBranchIdeal.nD Cert.ReferenceBranchIdeal.τ).loc Cert.ReferenceBranchIdeal.main_arg0) = m' ((c.tc : Thread Cert.ReferenceBranchIdeal.nD Cert.ReferenceBranchIdeal.τ).loc Cert.ReferenceBranchIdeal.main_arg0)
          ∧ r.2.mem ((c.tc : Thread Cert.ReferenceBranchIdeal.nD Cert.ReferenceBranchIdeal.τ).loc Cert.ReferenceBranchIdeal.main_arg1) = m' ((c.tc : Thread Cert.ReferenceBranchIdeal.nD Cert.ReferenceBranchIdeal.τ).loc Cert.ReferenceBranchIdeal.main_arg1))

def preserves_KernelBranchBias_KernelBranchBiasIdeal : Prop :=
  True

def algebraic_KernelBranchBiasIdeal_ReferenceBranchBiasIdeal [hKernelBranchBiasIdeal : Cert.KernelBranchBiasIdeal.Facts] [hReferenceBranchBiasIdeal : Cert.ReferenceBranchBiasIdeal.Facts] : Prop :=
  ∀ (m : (ℓ : Loc Cert.KernelBranchBiasIdeal.nD Cert.KernelBranchBiasIdeal.τ Cert.KernelBranchBiasIdeal.sig) → Buf (Elt Ideal) ℓ) (g : Dev Cert.KernelBranchBiasIdeal.nD → PrngReg)
    (m' : (ℓ : Loc Cert.ReferenceBranchBiasIdeal.nD Cert.ReferenceBranchBiasIdeal.τ Cert.ReferenceBranchBiasIdeal.sig) → Buf (Elt Ideal) ℓ) (g' : Dev Cert.ReferenceBranchBiasIdeal.nD → PrngReg), Pre_KernelBranchBiasIdeal m →
    (∀ c : Dev Cert.KernelBranchBiasIdeal.nD,
      m' ((c.tc : Thread Cert.ReferenceBranchBiasIdeal.nD Cert.ReferenceBranchBiasIdeal.τ).loc Cert.ReferenceBranchBiasIdeal.main_arg0) = m ((c.tc : Thread Cert.KernelBranchBiasIdeal.nD Cert.KernelBranchBiasIdeal.τ).loc Cert.KernelBranchBiasIdeal.main_arg0)
      ∧ m' ((c.tc : Thread Cert.ReferenceBranchBiasIdeal.nD Cert.ReferenceBranchBiasIdeal.τ).loc Cert.ReferenceBranchBiasIdeal.main_arg1) = m ((c.tc : Thread Cert.KernelBranchBiasIdeal.nD Cert.KernelBranchBiasIdeal.τ).loc Cert.KernelBranchBiasIdeal.main_arg1)
      ∧ m' ((c.tc : Thread Cert.ReferenceBranchBiasIdeal.nD Cert.ReferenceBranchBiasIdeal.τ).loc Cert.ReferenceBranchBiasIdeal.main_arg2) = m ((c.tc : Thread Cert.KernelBranchBiasIdeal.nD Cert.KernelBranchBiasIdeal.τ).loc Cert.KernelBranchBiasIdeal.main_arg2)) →
    ∃ (v0 : (c : Dev Cert.KernelBranchBiasIdeal.nD) → Buf (Elt Ideal) ((c.tc : Thread Cert.KernelBranchBiasIdeal.nD Cert.KernelBranchBiasIdeal.τ).loc Cert.KernelBranchBiasIdeal.main_v0)),
      θ_run (Cert.KernelBranchBiasIdeal.defs (F := Ideal)) (onTc (τ := Cert.KernelBranchBiasIdeal.τ) (Cert.KernelBranchBiasIdeal.main (F := Ideal))) ⟨m, fun _ => 0, g⟩ (fun r => ∀ c : Dev Cert.KernelBranchBiasIdeal.nD,
          r.2.mem ((c.tc : Thread Cert.KernelBranchBiasIdeal.nD Cert.KernelBranchBiasIdeal.τ).loc Cert.KernelBranchBiasIdeal.main_v0) = v0 c
          ∧ r.2.mem ((c.tc : Thread Cert.KernelBranchBiasIdeal.nD Cert.KernelBranchBiasIdeal.τ).loc Cert.KernelBranchBiasIdeal.main_arg0) = m ((c.tc : Thread Cert.KernelBranchBiasIdeal.nD Cert.KernelBranchBiasIdeal.τ).loc Cert.KernelBranchBiasIdeal.main_arg0)
          ∧ r.2.mem ((c.tc : Thread Cert.KernelBranchBiasIdeal.nD Cert.KernelBranchBiasIdeal.τ).loc Cert.KernelBranchBiasIdeal.main_arg1) = m ((c.tc : Thread Cert.KernelBranchBiasIdeal.nD Cert.KernelBranchBiasIdeal.τ).loc Cert.KernelBranchBiasIdeal.main_arg1)
          ∧ r.2.mem ((c.tc : Thread Cert.KernelBranchBiasIdeal.nD Cert.KernelBranchBiasIdeal.τ).loc Cert.KernelBranchBiasIdeal.main_arg2) = m ((c.tc : Thread Cert.KernelBranchBiasIdeal.nD Cert.KernelBranchBiasIdeal.τ).loc Cert.KernelBranchBiasIdeal.main_arg2))
      ∧ θ_run (Cert.ReferenceBranchBiasIdeal.defs (F := Ideal)) (onTc (τ := Cert.ReferenceBranchBiasIdeal.τ) (Cert.ReferenceBranchBiasIdeal.main (F := Ideal))) ⟨m', fun _ => 0, g'⟩ (fun r => ∀ c : Dev Cert.ReferenceBranchBiasIdeal.nD,
          r.2.mem ((c.tc : Thread Cert.ReferenceBranchBiasIdeal.nD Cert.ReferenceBranchBiasIdeal.τ).loc Cert.ReferenceBranchBiasIdeal.main_v6) = v0 c
          ∧ r.2.mem ((c.tc : Thread Cert.ReferenceBranchBiasIdeal.nD Cert.ReferenceBranchBiasIdeal.τ).loc Cert.ReferenceBranchBiasIdeal.main_arg0) = m' ((c.tc : Thread Cert.ReferenceBranchBiasIdeal.nD Cert.ReferenceBranchBiasIdeal.τ).loc Cert.ReferenceBranchBiasIdeal.main_arg0)
          ∧ r.2.mem ((c.tc : Thread Cert.ReferenceBranchBiasIdeal.nD Cert.ReferenceBranchBiasIdeal.τ).loc Cert.ReferenceBranchBiasIdeal.main_arg1) = m' ((c.tc : Thread Cert.ReferenceBranchBiasIdeal.nD Cert.ReferenceBranchBiasIdeal.τ).loc Cert.ReferenceBranchBiasIdeal.main_arg1)
          ∧ r.2.mem ((c.tc : Thread Cert.ReferenceBranchBiasIdeal.nD Cert.ReferenceBranchBiasIdeal.τ).loc Cert.ReferenceBranchBiasIdeal.main_arg2) = m' ((c.tc : Thread Cert.ReferenceBranchBiasIdeal.nD Cert.ReferenceBranchBiasIdeal.τ).loc Cert.ReferenceBranchBiasIdeal.main_arg2))

def preserves_KernelDbranchW_KernelDbranchWIdeal : Prop :=
  True

def algebraic_KernelDbranchWIdeal_ReferenceDbranchWIdeal [hKernelDbranchWIdeal : Cert.KernelDbranchWIdeal.Facts] [hReferenceDbranchWIdeal : Cert.ReferenceDbranchWIdeal.Facts] : Prop :=
  ∀ (m : (ℓ : Loc Cert.KernelDbranchWIdeal.nD Cert.KernelDbranchWIdeal.τ Cert.KernelDbranchWIdeal.sig) → Buf (Elt Ideal) ℓ) (g : Dev Cert.KernelDbranchWIdeal.nD → PrngReg)
    (m' : (ℓ : Loc Cert.ReferenceDbranchWIdeal.nD Cert.ReferenceDbranchWIdeal.τ Cert.ReferenceDbranchWIdeal.sig) → Buf (Elt Ideal) ℓ) (g' : Dev Cert.ReferenceDbranchWIdeal.nD → PrngReg), Pre_KernelDbranchWIdeal m →
    (∀ c : Dev Cert.KernelDbranchWIdeal.nD,
      m' ((c.tc : Thread Cert.ReferenceDbranchWIdeal.nD Cert.ReferenceDbranchWIdeal.τ).loc Cert.ReferenceDbranchWIdeal.main_arg0) = m ((c.tc : Thread Cert.KernelDbranchWIdeal.nD Cert.KernelDbranchWIdeal.τ).loc Cert.KernelDbranchWIdeal.main_arg0)
      ∧ m' ((c.tc : Thread Cert.ReferenceDbranchWIdeal.nD Cert.ReferenceDbranchWIdeal.τ).loc Cert.ReferenceDbranchWIdeal.main_arg1) = m ((c.tc : Thread Cert.KernelDbranchWIdeal.nD Cert.KernelDbranchWIdeal.τ).loc Cert.KernelDbranchWIdeal.main_arg1)
      ∧ m' ((c.tc : Thread Cert.ReferenceDbranchWIdeal.nD Cert.ReferenceDbranchWIdeal.τ).loc Cert.ReferenceDbranchWIdeal.main_arg2) = m ((c.tc : Thread Cert.KernelDbranchWIdeal.nD Cert.KernelDbranchWIdeal.τ).loc Cert.KernelDbranchWIdeal.main_arg2)) →
    ∃ (v0 : (c : Dev Cert.KernelDbranchWIdeal.nD) → Buf (Elt Ideal) ((c.tc : Thread Cert.KernelDbranchWIdeal.nD Cert.KernelDbranchWIdeal.τ).loc Cert.KernelDbranchWIdeal.main_v0)),
      θ_run (Cert.KernelDbranchWIdeal.defs (F := Ideal)) (onTc (τ := Cert.KernelDbranchWIdeal.τ) (Cert.KernelDbranchWIdeal.main (F := Ideal))) ⟨m, fun _ => 0, g⟩ (fun r => ∀ c : Dev Cert.KernelDbranchWIdeal.nD,
          r.2.mem ((c.tc : Thread Cert.KernelDbranchWIdeal.nD Cert.KernelDbranchWIdeal.τ).loc Cert.KernelDbranchWIdeal.main_v0) = v0 c
          ∧ r.2.mem ((c.tc : Thread Cert.KernelDbranchWIdeal.nD Cert.KernelDbranchWIdeal.τ).loc Cert.KernelDbranchWIdeal.main_arg0) = m ((c.tc : Thread Cert.KernelDbranchWIdeal.nD Cert.KernelDbranchWIdeal.τ).loc Cert.KernelDbranchWIdeal.main_arg0)
          ∧ r.2.mem ((c.tc : Thread Cert.KernelDbranchWIdeal.nD Cert.KernelDbranchWIdeal.τ).loc Cert.KernelDbranchWIdeal.main_arg1) = m ((c.tc : Thread Cert.KernelDbranchWIdeal.nD Cert.KernelDbranchWIdeal.τ).loc Cert.KernelDbranchWIdeal.main_arg1)
          ∧ r.2.mem ((c.tc : Thread Cert.KernelDbranchWIdeal.nD Cert.KernelDbranchWIdeal.τ).loc Cert.KernelDbranchWIdeal.main_arg2) = m ((c.tc : Thread Cert.KernelDbranchWIdeal.nD Cert.KernelDbranchWIdeal.τ).loc Cert.KernelDbranchWIdeal.main_arg2))
      ∧ θ_run (Cert.ReferenceDbranchWIdeal.defs (F := Ideal)) (onTc (τ := Cert.ReferenceDbranchWIdeal.τ) (Cert.ReferenceDbranchWIdeal.main (F := Ideal))) ⟨m', fun _ => 0, g'⟩ (fun r => ∀ c : Dev Cert.ReferenceDbranchWIdeal.nD,
          r.2.mem ((c.tc : Thread Cert.ReferenceDbranchWIdeal.nD Cert.ReferenceDbranchWIdeal.τ).loc Cert.ReferenceDbranchWIdeal.main_v12) = v0 c
          ∧ r.2.mem ((c.tc : Thread Cert.ReferenceDbranchWIdeal.nD Cert.ReferenceDbranchWIdeal.τ).loc Cert.ReferenceDbranchWIdeal.main_arg0) = m' ((c.tc : Thread Cert.ReferenceDbranchWIdeal.nD Cert.ReferenceDbranchWIdeal.τ).loc Cert.ReferenceDbranchWIdeal.main_arg0)
          ∧ r.2.mem ((c.tc : Thread Cert.ReferenceDbranchWIdeal.nD Cert.ReferenceDbranchWIdeal.τ).loc Cert.ReferenceDbranchWIdeal.main_arg1) = m' ((c.tc : Thread Cert.ReferenceDbranchWIdeal.nD Cert.ReferenceDbranchWIdeal.τ).loc Cert.ReferenceDbranchWIdeal.main_arg1)
          ∧ r.2.mem ((c.tc : Thread Cert.ReferenceDbranchWIdeal.nD Cert.ReferenceDbranchWIdeal.τ).loc Cert.ReferenceDbranchWIdeal.main_arg2) = m' ((c.tc : Thread Cert.ReferenceDbranchWIdeal.nD Cert.ReferenceDbranchWIdeal.τ).loc Cert.ReferenceDbranchWIdeal.main_arg2))

def preserves_KernelDbranch_KernelDbranchIdeal : Prop :=
  True

def algebraic_KernelDbranchIdeal_ReferenceDbranchIdeal [hKernelDbranchIdeal : Cert.KernelDbranchIdeal.Facts] [hReferenceDbranchIdeal : Cert.ReferenceDbranchIdeal.Facts] : Prop :=
  ∀ (m : (ℓ : Loc Cert.KernelDbranchIdeal.nD Cert.KernelDbranchIdeal.τ Cert.KernelDbranchIdeal.sig) → Buf (Elt Ideal) ℓ) (g : Dev Cert.KernelDbranchIdeal.nD → PrngReg)
    (m' : (ℓ : Loc Cert.ReferenceDbranchIdeal.nD Cert.ReferenceDbranchIdeal.τ Cert.ReferenceDbranchIdeal.sig) → Buf (Elt Ideal) ℓ) (g' : Dev Cert.ReferenceDbranchIdeal.nD → PrngReg), Pre_KernelDbranchIdeal m →
    (∀ c : Dev Cert.KernelDbranchIdeal.nD,
      m' ((c.tc : Thread Cert.ReferenceDbranchIdeal.nD Cert.ReferenceDbranchIdeal.τ).loc Cert.ReferenceDbranchIdeal.main_arg0) = m ((c.tc : Thread Cert.KernelDbranchIdeal.nD Cert.KernelDbranchIdeal.τ).loc Cert.KernelDbranchIdeal.main_arg0)
      ∧ m' ((c.tc : Thread Cert.ReferenceDbranchIdeal.nD Cert.ReferenceDbranchIdeal.τ).loc Cert.ReferenceDbranchIdeal.main_arg1) = m ((c.tc : Thread Cert.KernelDbranchIdeal.nD Cert.KernelDbranchIdeal.τ).loc Cert.KernelDbranchIdeal.main_arg1)
      ∧ m' ((c.tc : Thread Cert.ReferenceDbranchIdeal.nD Cert.ReferenceDbranchIdeal.τ).loc Cert.ReferenceDbranchIdeal.main_arg2) = m ((c.tc : Thread Cert.KernelDbranchIdeal.nD Cert.KernelDbranchIdeal.τ).loc Cert.KernelDbranchIdeal.main_arg2)) →
    ∃ (v0 : (c : Dev Cert.KernelDbranchIdeal.nD) → Buf (Elt Ideal) ((c.tc : Thread Cert.KernelDbranchIdeal.nD Cert.KernelDbranchIdeal.τ).loc Cert.KernelDbranchIdeal.main_v0)),
      θ_run (Cert.KernelDbranchIdeal.defs (F := Ideal)) (onTc (τ := Cert.KernelDbranchIdeal.τ) (Cert.KernelDbranchIdeal.main (F := Ideal))) ⟨m, fun _ => 0, g⟩ (fun r => ∀ c : Dev Cert.KernelDbranchIdeal.nD,
          r.2.mem ((c.tc : Thread Cert.KernelDbranchIdeal.nD Cert.KernelDbranchIdeal.τ).loc Cert.KernelDbranchIdeal.main_v0) = v0 c
          ∧ r.2.mem ((c.tc : Thread Cert.KernelDbranchIdeal.nD Cert.KernelDbranchIdeal.τ).loc Cert.KernelDbranchIdeal.main_arg0) = m ((c.tc : Thread Cert.KernelDbranchIdeal.nD Cert.KernelDbranchIdeal.τ).loc Cert.KernelDbranchIdeal.main_arg0)
          ∧ r.2.mem ((c.tc : Thread Cert.KernelDbranchIdeal.nD Cert.KernelDbranchIdeal.τ).loc Cert.KernelDbranchIdeal.main_arg1) = m ((c.tc : Thread Cert.KernelDbranchIdeal.nD Cert.KernelDbranchIdeal.τ).loc Cert.KernelDbranchIdeal.main_arg1)
          ∧ r.2.mem ((c.tc : Thread Cert.KernelDbranchIdeal.nD Cert.KernelDbranchIdeal.τ).loc Cert.KernelDbranchIdeal.main_arg2) = m ((c.tc : Thread Cert.KernelDbranchIdeal.nD Cert.KernelDbranchIdeal.τ).loc Cert.KernelDbranchIdeal.main_arg2))
      ∧ θ_run (Cert.ReferenceDbranchIdeal.defs (F := Ideal)) (onTc (τ := Cert.ReferenceDbranchIdeal.τ) (Cert.ReferenceDbranchIdeal.main (F := Ideal))) ⟨m', fun _ => 0, g'⟩ (fun r => ∀ c : Dev Cert.ReferenceDbranchIdeal.nD,
          r.2.mem ((c.tc : Thread Cert.ReferenceDbranchIdeal.nD Cert.ReferenceDbranchIdeal.τ).loc Cert.ReferenceDbranchIdeal.main_v8) = v0 c
          ∧ r.2.mem ((c.tc : Thread Cert.ReferenceDbranchIdeal.nD Cert.ReferenceDbranchIdeal.τ).loc Cert.ReferenceDbranchIdeal.main_arg0) = m' ((c.tc : Thread Cert.ReferenceDbranchIdeal.nD Cert.ReferenceDbranchIdeal.τ).loc Cert.ReferenceDbranchIdeal.main_arg0)
          ∧ r.2.mem ((c.tc : Thread Cert.ReferenceDbranchIdeal.nD Cert.ReferenceDbranchIdeal.τ).loc Cert.ReferenceDbranchIdeal.main_arg1) = m' ((c.tc : Thread Cert.ReferenceDbranchIdeal.nD Cert.ReferenceDbranchIdeal.τ).loc Cert.ReferenceDbranchIdeal.main_arg1)
          ∧ r.2.mem ((c.tc : Thread Cert.ReferenceDbranchIdeal.nD Cert.ReferenceDbranchIdeal.τ).loc Cert.ReferenceDbranchIdeal.main_arg2) = m' ((c.tc : Thread Cert.ReferenceDbranchIdeal.nD Cert.ReferenceDbranchIdeal.τ).loc Cert.ReferenceDbranchIdeal.main_arg2))

def Claim : Prop :=
  ∃ (hKernel : Cert.Kernel.Facts) (hKernelIdeal : Cert.KernelIdeal.Facts) (hReferenceIdeal : Cert.ReferenceIdeal.Facts) (hKernelDgu : Cert.KernelDgu.Facts) (hKernelDguIdeal : Cert.KernelDguIdeal.Facts) (hReferenceDguIdeal : Cert.ReferenceDguIdeal.Facts) (hKernelDx : Cert.KernelDx.Facts) (hKernelDxIdeal : Cert.KernelDxIdeal.Facts) (hReferenceDxIdeal : Cert.ReferenceDxIdeal.Facts) (hKernelDw1 : Cert.KernelDw1.Facts) (hKernelDw1Ideal : Cert.KernelDw1Ideal.Facts) (hReferenceDw1Ideal : Cert.ReferenceDw1Ideal.Facts) (hKernelDw2 : Cert.KernelDw2.Facts) (hKernelDw2Ideal : Cert.KernelDw2Ideal.Facts) (hReferenceDw2Ideal : Cert.ReferenceDw2Ideal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelDguRow : Cert.KernelDguRow.Facts) (hKernelDguRowIdeal : Cert.KernelDguRowIdeal.Facts) (hReferenceDguRowIdeal : Cert.ReferenceDguRowIdeal.Facts) (hKernelDxRow : Cert.KernelDxRow.Facts) (hKernelDxRowIdeal : Cert.KernelDxRowIdeal.Facts) (hReferenceDxRowIdeal : Cert.ReferenceDxRowIdeal.Facts) (hKernelDw1Row : Cert.KernelDw1Row.Facts) (hKernelDw1RowIdeal : Cert.KernelDw1RowIdeal.Facts) (hReferenceDw1RowIdeal : Cert.ReferenceDw1RowIdeal.Facts) (hKernelDw2Row : Cert.KernelDw2Row.Facts) (hKernelDw2RowIdeal : Cert.KernelDw2RowIdeal.Facts) (hReferenceDw2RowIdeal : Cert.ReferenceDw2RowIdeal.Facts) (hKernelProjA : Cert.KernelProjA.Facts) (hKernelProjAIdeal : Cert.KernelProjAIdeal.Facts) (hReferenceProjAIdeal : Cert.ReferenceProjAIdeal.Facts) (hKernelProjB : Cert.KernelProjB.Facts) (hKernelProjBIdeal : Cert.KernelProjBIdeal.Facts) (hReferenceProjBIdeal : Cert.ReferenceProjBIdeal.Facts) (hKernelProjG : Cert.KernelProjG.Facts) (hKernelProjGIdeal : Cert.KernelProjGIdeal.Facts) (hReferenceProjGIdeal : Cert.ReferenceProjGIdeal.Facts) (hKernelDwA : Cert.KernelDwA.Facts) (hKernelDwAIdeal : Cert.KernelDwAIdeal.Facts) (hReferenceDwAIdeal : Cert.ReferenceDwAIdeal.Facts) (hKernelDwB : Cert.KernelDwB.Facts) (hKernelDwBIdeal : Cert.KernelDwBIdeal.Facts) (hReferenceDwBIdeal : Cert.ReferenceDwBIdeal.Facts) (hKernelDwG : Cert.KernelDwG.Facts) (hKernelDwGIdeal : Cert.KernelDwGIdeal.Facts) (hReferenceDwGIdeal : Cert.ReferenceDwGIdeal.Facts) (hKernelDhA : Cert.KernelDhA.Facts) (hKernelDhAIdeal : Cert.KernelDhAIdeal.Facts) (hReferenceDhAIdeal : Cert.ReferenceDhAIdeal.Facts) (hKernelDhB : Cert.KernelDhB.Facts) (hKernelDhBIdeal : Cert.KernelDhBIdeal.Facts) (hReferenceDhBIdeal : Cert.ReferenceDhBIdeal.Facts) (hKernelDhC : Cert.KernelDhC.Facts) (hKernelDhCIdeal : Cert.KernelDhCIdeal.Facts) (hReferenceDhCIdeal : Cert.ReferenceDhCIdeal.Facts) (hKernelDhG : Cert.KernelDhG.Facts) (hKernelDhGIdeal : Cert.KernelDhGIdeal.Facts) (hReferenceDhGIdeal : Cert.ReferenceDhGIdeal.Facts) (hKernelMixOut : Cert.KernelMixOut.Facts) (hKernelMixOutIdeal : Cert.KernelMixOutIdeal.Facts) (hReferenceMixOutIdeal : Cert.ReferenceMixOutIdeal.Facts) (hKernelDmerged : Cert.KernelDmerged.Facts) (hKernelDmergedIdeal : Cert.KernelDmergedIdeal.Facts) (hReferenceDmergedIdeal : Cert.ReferenceDmergedIdeal.Facts) (hKernelDwOut : Cert.KernelDwOut.Facts) (hKernelDwOutIdeal : Cert.KernelDwOutIdeal.Facts) (hReferenceDwOutIdeal : Cert.ReferenceDwOutIdeal.Facts) (hKernelAdamUp : Cert.KernelAdamUp.Facts) (hKernelAdamUpIdeal : Cert.KernelAdamUpIdeal.Facts) (hReferenceAdamUpIdeal : Cert.ReferenceAdamUpIdeal.Facts) (hKernelAdamUpB : Cert.KernelAdamUpB.Facts) (hKernelAdamUpBIdeal : Cert.KernelAdamUpBIdeal.Facts) (hReferenceAdamUpBIdeal : Cert.ReferenceAdamUpBIdeal.Facts) (hKernelAdamDown : Cert.KernelAdamDown.Facts) (hKernelAdamDownIdeal : Cert.KernelAdamDownIdeal.Facts) (hReferenceAdamDownIdeal : Cert.ReferenceAdamDownIdeal.Facts) (hKernelAdamDownB : Cert.KernelAdamDownB.Facts) (hKernelAdamDownBIdeal : Cert.KernelAdamDownBIdeal.Facts) (hReferenceAdamDownBIdeal : Cert.ReferenceAdamDownBIdeal.Facts) (hKernelAdamIn : Cert.KernelAdamIn.Facts) (hKernelAdamInIdeal : Cert.KernelAdamInIdeal.Facts) (hReferenceAdamInIdeal : Cert.ReferenceAdamInIdeal.Facts) (hKernelAdamO : Cert.KernelAdamO.Facts) (hKernelAdamOIdeal : Cert.KernelAdamOIdeal.Facts) (hReferenceAdamOIdeal : Cert.ReferenceAdamOIdeal.Facts) (hKernelAdamUq : Cert.KernelAdamUq.Facts) (hKernelAdamUqIdeal : Cert.KernelAdamUqIdeal.Facts) (hReferenceAdamUqIdeal : Cert.ReferenceAdamUqIdeal.Facts) (hKernelAdamUkv : Cert.KernelAdamUkv.Facts) (hKernelAdamUkvIdeal : Cert.KernelAdamUkvIdeal.Facts) (hReferenceAdamUkvIdeal : Cert.ReferenceAdamUkvIdeal.Facts) (hKernelAdamOut : Cert.KernelAdamOut.Facts) (hKernelAdamOutIdeal : Cert.KernelAdamOutIdeal.Facts) (hReferenceAdamOutIdeal : Cert.ReferenceAdamOutIdeal.Facts) (hKernelAdamSmall : Cert.KernelAdamSmall.Facts) (hKernelAdamSmallIdeal : Cert.KernelAdamSmallIdeal.Facts) (hReferenceAdamSmallIdeal : Cert.ReferenceAdamSmallIdeal.Facts) (hKernelLoss : Cert.KernelLoss.Facts) (hKernelLossIdeal : Cert.KernelLossIdeal.Facts) (hReferenceLossIdeal : Cert.ReferenceLossIdeal.Facts) (hKernelNorm : Cert.KernelNorm.Facts) (hKernelNormIdeal : Cert.KernelNormIdeal.Facts) (hReferenceNormIdeal : Cert.ReferenceNormIdeal.Facts) (hKernelDnorm : Cert.KernelDnorm.Facts) (hKernelDnormIdeal : Cert.KernelDnormIdeal.Facts) (hReferenceDnormIdeal : Cert.ReferenceDnormIdeal.Facts) (hKernelBranch : Cert.KernelBranch.Facts) (hKernelBranchIdeal : Cert.KernelBranchIdeal.Facts) (hReferenceBranchIdeal : Cert.ReferenceBranchIdeal.Facts) (hKernelBranchBias : Cert.KernelBranchBias.Facts) (hKernelBranchBiasIdeal : Cert.KernelBranchBiasIdeal.Facts) (hReferenceBranchBiasIdeal : Cert.ReferenceBranchBiasIdeal.Facts) (hKernelDbranchW : Cert.KernelDbranchW.Facts) (hKernelDbranchWIdeal : Cert.KernelDbranchWIdeal.Facts) (hReferenceDbranchWIdeal : Cert.ReferenceDbranchWIdeal.Facts) (hKernelDbranch : Cert.KernelDbranch.Facts) (hKernelDbranchIdeal : Cert.KernelDbranchIdeal.Facts) (hReferenceDbranchIdeal : Cert.ReferenceDbranchIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelDgu (hKernelDgu := hKernelDgu)
    ∧ quiescent_KernelDguIdeal (hKernelDguIdeal := hKernelDguIdeal)
    ∧ quiescent_ReferenceDguIdeal (hReferenceDguIdeal := hReferenceDguIdeal)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelDw1 (hKernelDw1 := hKernelDw1)
    ∧ quiescent_KernelDw1Ideal (hKernelDw1Ideal := hKernelDw1Ideal)
    ∧ quiescent_ReferenceDw1Ideal (hReferenceDw1Ideal := hReferenceDw1Ideal)
    ∧ quiescent_KernelDw2 (hKernelDw2 := hKernelDw2)
    ∧ quiescent_KernelDw2Ideal (hKernelDw2Ideal := hKernelDw2Ideal)
    ∧ quiescent_ReferenceDw2Ideal (hReferenceDw2Ideal := hReferenceDw2Ideal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDguRow (hKernelDguRow := hKernelDguRow)
    ∧ quiescent_KernelDguRowIdeal (hKernelDguRowIdeal := hKernelDguRowIdeal)
    ∧ quiescent_ReferenceDguRowIdeal (hReferenceDguRowIdeal := hReferenceDguRowIdeal)
    ∧ quiescent_KernelDxRow (hKernelDxRow := hKernelDxRow)
    ∧ quiescent_KernelDxRowIdeal (hKernelDxRowIdeal := hKernelDxRowIdeal)
    ∧ quiescent_ReferenceDxRowIdeal (hReferenceDxRowIdeal := hReferenceDxRowIdeal)
    ∧ quiescent_KernelDw1Row (hKernelDw1Row := hKernelDw1Row)
    ∧ quiescent_KernelDw1RowIdeal (hKernelDw1RowIdeal := hKernelDw1RowIdeal)
    ∧ quiescent_ReferenceDw1RowIdeal (hReferenceDw1RowIdeal := hReferenceDw1RowIdeal)
    ∧ quiescent_KernelDw2Row (hKernelDw2Row := hKernelDw2Row)
    ∧ quiescent_KernelDw2RowIdeal (hKernelDw2RowIdeal := hKernelDw2RowIdeal)
    ∧ quiescent_ReferenceDw2RowIdeal (hReferenceDw2RowIdeal := hReferenceDw2RowIdeal)
    ∧ quiescent_KernelProjA (hKernelProjA := hKernelProjA)
    ∧ quiescent_KernelProjAIdeal (hKernelProjAIdeal := hKernelProjAIdeal)
    ∧ quiescent_ReferenceProjAIdeal (hReferenceProjAIdeal := hReferenceProjAIdeal)
    ∧ quiescent_KernelProjB (hKernelProjB := hKernelProjB)
    ∧ quiescent_KernelProjBIdeal (hKernelProjBIdeal := hKernelProjBIdeal)
    ∧ quiescent_ReferenceProjBIdeal (hReferenceProjBIdeal := hReferenceProjBIdeal)
    ∧ quiescent_KernelProjG (hKernelProjG := hKernelProjG)
    ∧ quiescent_KernelProjGIdeal (hKernelProjGIdeal := hKernelProjGIdeal)
    ∧ quiescent_ReferenceProjGIdeal (hReferenceProjGIdeal := hReferenceProjGIdeal)
    ∧ quiescent_KernelDwA (hKernelDwA := hKernelDwA)
    ∧ quiescent_KernelDwAIdeal (hKernelDwAIdeal := hKernelDwAIdeal)
    ∧ quiescent_ReferenceDwAIdeal (hReferenceDwAIdeal := hReferenceDwAIdeal)
    ∧ quiescent_KernelDwB (hKernelDwB := hKernelDwB)
    ∧ quiescent_KernelDwBIdeal (hKernelDwBIdeal := hKernelDwBIdeal)
    ∧ quiescent_ReferenceDwBIdeal (hReferenceDwBIdeal := hReferenceDwBIdeal)
    ∧ quiescent_KernelDwG (hKernelDwG := hKernelDwG)
    ∧ quiescent_KernelDwGIdeal (hKernelDwGIdeal := hKernelDwGIdeal)
    ∧ quiescent_ReferenceDwGIdeal (hReferenceDwGIdeal := hReferenceDwGIdeal)
    ∧ quiescent_KernelDhA (hKernelDhA := hKernelDhA)
    ∧ quiescent_KernelDhAIdeal (hKernelDhAIdeal := hKernelDhAIdeal)
    ∧ quiescent_ReferenceDhAIdeal (hReferenceDhAIdeal := hReferenceDhAIdeal)
    ∧ quiescent_KernelDhB (hKernelDhB := hKernelDhB)
    ∧ quiescent_KernelDhBIdeal (hKernelDhBIdeal := hKernelDhBIdeal)
    ∧ quiescent_ReferenceDhBIdeal (hReferenceDhBIdeal := hReferenceDhBIdeal)
    ∧ quiescent_KernelDhC (hKernelDhC := hKernelDhC)
    ∧ quiescent_KernelDhCIdeal (hKernelDhCIdeal := hKernelDhCIdeal)
    ∧ quiescent_ReferenceDhCIdeal (hReferenceDhCIdeal := hReferenceDhCIdeal)
    ∧ quiescent_KernelDhG (hKernelDhG := hKernelDhG)
    ∧ quiescent_KernelDhGIdeal (hKernelDhGIdeal := hKernelDhGIdeal)
    ∧ quiescent_ReferenceDhGIdeal (hReferenceDhGIdeal := hReferenceDhGIdeal)
    ∧ quiescent_KernelMixOut (hKernelMixOut := hKernelMixOut)
    ∧ quiescent_KernelMixOutIdeal (hKernelMixOutIdeal := hKernelMixOutIdeal)
    ∧ quiescent_ReferenceMixOutIdeal (hReferenceMixOutIdeal := hReferenceMixOutIdeal)
    ∧ quiescent_KernelDmerged (hKernelDmerged := hKernelDmerged)
    ∧ quiescent_KernelDmergedIdeal (hKernelDmergedIdeal := hKernelDmergedIdeal)
    ∧ quiescent_ReferenceDmergedIdeal (hReferenceDmergedIdeal := hReferenceDmergedIdeal)
    ∧ quiescent_KernelDwOut (hKernelDwOut := hKernelDwOut)
    ∧ quiescent_KernelDwOutIdeal (hKernelDwOutIdeal := hKernelDwOutIdeal)
    ∧ quiescent_ReferenceDwOutIdeal (hReferenceDwOutIdeal := hReferenceDwOutIdeal)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamUpB (hKernelAdamUpB := hKernelAdamUpB)
    ∧ quiescent_KernelAdamUpBIdeal (hKernelAdamUpBIdeal := hKernelAdamUpBIdeal)
    ∧ quiescent_ReferenceAdamUpBIdeal (hReferenceAdamUpBIdeal := hReferenceAdamUpBIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelAdamDownB (hKernelAdamDownB := hKernelAdamDownB)
    ∧ quiescent_KernelAdamDownBIdeal (hKernelAdamDownBIdeal := hKernelAdamDownBIdeal)
    ∧ quiescent_ReferenceAdamDownBIdeal (hReferenceAdamDownBIdeal := hReferenceAdamDownBIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamO (hKernelAdamO := hKernelAdamO)
    ∧ quiescent_KernelAdamOIdeal (hKernelAdamOIdeal := hKernelAdamOIdeal)
    ∧ quiescent_ReferenceAdamOIdeal (hReferenceAdamOIdeal := hReferenceAdamOIdeal)
    ∧ quiescent_KernelAdamUq (hKernelAdamUq := hKernelAdamUq)
    ∧ quiescent_KernelAdamUqIdeal (hKernelAdamUqIdeal := hKernelAdamUqIdeal)
    ∧ quiescent_ReferenceAdamUqIdeal (hReferenceAdamUqIdeal := hReferenceAdamUqIdeal)
    ∧ quiescent_KernelAdamUkv (hKernelAdamUkv := hKernelAdamUkv)
    ∧ quiescent_KernelAdamUkvIdeal (hKernelAdamUkvIdeal := hKernelAdamUkvIdeal)
    ∧ quiescent_ReferenceAdamUkvIdeal (hReferenceAdamUkvIdeal := hReferenceAdamUkvIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelDnorm (hKernelDnorm := hKernelDnorm)
    ∧ quiescent_KernelDnormIdeal (hKernelDnormIdeal := hKernelDnormIdeal)
    ∧ quiescent_ReferenceDnormIdeal (hReferenceDnormIdeal := hReferenceDnormIdeal)
    ∧ quiescent_KernelBranch (hKernelBranch := hKernelBranch)
    ∧ quiescent_KernelBranchIdeal (hKernelBranchIdeal := hKernelBranchIdeal)
    ∧ quiescent_ReferenceBranchIdeal (hReferenceBranchIdeal := hReferenceBranchIdeal)
    ∧ quiescent_KernelBranchBias (hKernelBranchBias := hKernelBranchBias)
    ∧ quiescent_KernelBranchBiasIdeal (hKernelBranchBiasIdeal := hKernelBranchBiasIdeal)
    ∧ quiescent_ReferenceBranchBiasIdeal (hReferenceBranchBiasIdeal := hReferenceBranchBiasIdeal)
    ∧ quiescent_KernelDbranchW (hKernelDbranchW := hKernelDbranchW)
    ∧ quiescent_KernelDbranchWIdeal (hKernelDbranchWIdeal := hKernelDbranchWIdeal)
    ∧ quiescent_ReferenceDbranchWIdeal (hReferenceDbranchWIdeal := hReferenceDbranchWIdeal)
    ∧ quiescent_KernelDbranch (hKernelDbranch := hKernelDbranch)
    ∧ quiescent_KernelDbranchIdeal (hKernelDbranchIdeal := hKernelDbranchIdeal)
    ∧ quiescent_ReferenceDbranchIdeal (hReferenceDbranchIdeal := hReferenceDbranchIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelDgu_KernelDguIdeal
    ∧ algebraic_KernelDguIdeal_ReferenceDguIdeal (hKernelDguIdeal := hKernelDguIdeal) (hReferenceDguIdeal := hReferenceDguIdeal)
    ∧ preserves_KernelDx_KernelDxIdeal
    ∧ algebraic_KernelDxIdeal_ReferenceDxIdeal (hKernelDxIdeal := hKernelDxIdeal) (hReferenceDxIdeal := hReferenceDxIdeal)
    ∧ preserves_KernelDw1_KernelDw1Ideal
    ∧ algebraic_KernelDw1Ideal_ReferenceDw1Ideal (hKernelDw1Ideal := hKernelDw1Ideal) (hReferenceDw1Ideal := hReferenceDw1Ideal)
    ∧ preserves_KernelDw2_KernelDw2Ideal
    ∧ algebraic_KernelDw2Ideal_ReferenceDw2Ideal (hKernelDw2Ideal := hKernelDw2Ideal) (hReferenceDw2Ideal := hReferenceDw2Ideal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelDguRow_KernelDguRowIdeal
    ∧ algebraic_KernelDguRowIdeal_ReferenceDguRowIdeal (hKernelDguRowIdeal := hKernelDguRowIdeal) (hReferenceDguRowIdeal := hReferenceDguRowIdeal)
    ∧ preserves_KernelDxRow_KernelDxRowIdeal
    ∧ algebraic_KernelDxRowIdeal_ReferenceDxRowIdeal (hKernelDxRowIdeal := hKernelDxRowIdeal) (hReferenceDxRowIdeal := hReferenceDxRowIdeal)
    ∧ preserves_KernelDw1Row_KernelDw1RowIdeal
    ∧ algebraic_KernelDw1RowIdeal_ReferenceDw1RowIdeal (hKernelDw1RowIdeal := hKernelDw1RowIdeal) (hReferenceDw1RowIdeal := hReferenceDw1RowIdeal)
    ∧ preserves_KernelDw2Row_KernelDw2RowIdeal
    ∧ algebraic_KernelDw2RowIdeal_ReferenceDw2RowIdeal (hKernelDw2RowIdeal := hKernelDw2RowIdeal) (hReferenceDw2RowIdeal := hReferenceDw2RowIdeal)
    ∧ preserves_KernelProjA_KernelProjAIdeal
    ∧ algebraic_KernelProjAIdeal_ReferenceProjAIdeal (hKernelProjAIdeal := hKernelProjAIdeal) (hReferenceProjAIdeal := hReferenceProjAIdeal)
    ∧ preserves_KernelProjB_KernelProjBIdeal
    ∧ algebraic_KernelProjBIdeal_ReferenceProjBIdeal (hKernelProjBIdeal := hKernelProjBIdeal) (hReferenceProjBIdeal := hReferenceProjBIdeal)
    ∧ preserves_KernelProjG_KernelProjGIdeal
    ∧ algebraic_KernelProjGIdeal_ReferenceProjGIdeal (hKernelProjGIdeal := hKernelProjGIdeal) (hReferenceProjGIdeal := hReferenceProjGIdeal)
    ∧ preserves_KernelDwA_KernelDwAIdeal
    ∧ algebraic_KernelDwAIdeal_ReferenceDwAIdeal (hKernelDwAIdeal := hKernelDwAIdeal) (hReferenceDwAIdeal := hReferenceDwAIdeal)
    ∧ preserves_KernelDwB_KernelDwBIdeal
    ∧ algebraic_KernelDwBIdeal_ReferenceDwBIdeal (hKernelDwBIdeal := hKernelDwBIdeal) (hReferenceDwBIdeal := hReferenceDwBIdeal)
    ∧ preserves_KernelDwG_KernelDwGIdeal
    ∧ algebraic_KernelDwGIdeal_ReferenceDwGIdeal (hKernelDwGIdeal := hKernelDwGIdeal) (hReferenceDwGIdeal := hReferenceDwGIdeal)
    ∧ preserves_KernelDhA_KernelDhAIdeal
    ∧ algebraic_KernelDhAIdeal_ReferenceDhAIdeal (hKernelDhAIdeal := hKernelDhAIdeal) (hReferenceDhAIdeal := hReferenceDhAIdeal)
    ∧ preserves_KernelDhB_KernelDhBIdeal
    ∧ algebraic_KernelDhBIdeal_ReferenceDhBIdeal (hKernelDhBIdeal := hKernelDhBIdeal) (hReferenceDhBIdeal := hReferenceDhBIdeal)
    ∧ preserves_KernelDhC_KernelDhCIdeal
    ∧ algebraic_KernelDhCIdeal_ReferenceDhCIdeal (hKernelDhCIdeal := hKernelDhCIdeal) (hReferenceDhCIdeal := hReferenceDhCIdeal)
    ∧ preserves_KernelDhG_KernelDhGIdeal
    ∧ algebraic_KernelDhGIdeal_ReferenceDhGIdeal (hKernelDhGIdeal := hKernelDhGIdeal) (hReferenceDhGIdeal := hReferenceDhGIdeal)
    ∧ preserves_KernelMixOut_KernelMixOutIdeal
    ∧ algebraic_KernelMixOutIdeal_ReferenceMixOutIdeal (hKernelMixOutIdeal := hKernelMixOutIdeal) (hReferenceMixOutIdeal := hReferenceMixOutIdeal)
    ∧ preserves_KernelDmerged_KernelDmergedIdeal
    ∧ algebraic_KernelDmergedIdeal_ReferenceDmergedIdeal (hKernelDmergedIdeal := hKernelDmergedIdeal) (hReferenceDmergedIdeal := hReferenceDmergedIdeal)
    ∧ preserves_KernelDwOut_KernelDwOutIdeal
    ∧ algebraic_KernelDwOutIdeal_ReferenceDwOutIdeal (hKernelDwOutIdeal := hKernelDwOutIdeal) (hReferenceDwOutIdeal := hReferenceDwOutIdeal)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamUpB_KernelAdamUpBIdeal
    ∧ algebraic_KernelAdamUpBIdeal_ReferenceAdamUpBIdeal (hKernelAdamUpBIdeal := hKernelAdamUpBIdeal) (hReferenceAdamUpBIdeal := hReferenceAdamUpBIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelAdamDownB_KernelAdamDownBIdeal
    ∧ algebraic_KernelAdamDownBIdeal_ReferenceAdamDownBIdeal (hKernelAdamDownBIdeal := hKernelAdamDownBIdeal) (hReferenceAdamDownBIdeal := hReferenceAdamDownBIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamO_KernelAdamOIdeal
    ∧ algebraic_KernelAdamOIdeal_ReferenceAdamOIdeal (hKernelAdamOIdeal := hKernelAdamOIdeal) (hReferenceAdamOIdeal := hReferenceAdamOIdeal)
    ∧ preserves_KernelAdamUq_KernelAdamUqIdeal
    ∧ algebraic_KernelAdamUqIdeal_ReferenceAdamUqIdeal (hKernelAdamUqIdeal := hKernelAdamUqIdeal) (hReferenceAdamUqIdeal := hReferenceAdamUqIdeal)
    ∧ preserves_KernelAdamUkv_KernelAdamUkvIdeal
    ∧ algebraic_KernelAdamUkvIdeal_ReferenceAdamUkvIdeal (hKernelAdamUkvIdeal := hKernelAdamUkvIdeal) (hReferenceAdamUkvIdeal := hReferenceAdamUkvIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelLoss_KernelLossIdeal
    ∧ algebraic_KernelLossIdeal_ReferenceLossIdeal (hKernelLossIdeal := hKernelLossIdeal) (hReferenceLossIdeal := hReferenceLossIdeal)
    ∧ preserves_KernelNorm_KernelNormIdeal
    ∧ algebraic_KernelNormIdeal_ReferenceNormIdeal (hKernelNormIdeal := hKernelNormIdeal) (hReferenceNormIdeal := hReferenceNormIdeal)
    ∧ preserves_KernelDnorm_KernelDnormIdeal
    ∧ algebraic_KernelDnormIdeal_ReferenceDnormIdeal (hKernelDnormIdeal := hKernelDnormIdeal) (hReferenceDnormIdeal := hReferenceDnormIdeal)
    ∧ preserves_KernelBranch_KernelBranchIdeal
    ∧ algebraic_KernelBranchIdeal_ReferenceBranchIdeal (hKernelBranchIdeal := hKernelBranchIdeal) (hReferenceBranchIdeal := hReferenceBranchIdeal)
    ∧ preserves_KernelBranchBias_KernelBranchBiasIdeal
    ∧ algebraic_KernelBranchBiasIdeal_ReferenceBranchBiasIdeal (hKernelBranchBiasIdeal := hKernelBranchBiasIdeal) (hReferenceBranchBiasIdeal := hReferenceBranchBiasIdeal)
    ∧ preserves_KernelDbranchW_KernelDbranchWIdeal
    ∧ algebraic_KernelDbranchWIdeal_ReferenceDbranchWIdeal (hKernelDbranchWIdeal := hKernelDbranchWIdeal) (hReferenceDbranchWIdeal := hReferenceDbranchWIdeal)
    ∧ preserves_KernelDbranch_KernelDbranchIdeal
    ∧ algebraic_KernelDbranchIdeal_ReferenceDbranchIdeal (hKernelDbranchIdeal := hKernelDbranchIdeal) (hReferenceDbranchIdeal := hReferenceDbranchIdeal)
-- ==== Pre_finite_scores.lean ====
abbrev S2048x1024 : Shape := ⟨2, ![2048, 1024]⟩
abbrev S2048x512 : Shape := ⟨2, ![2048, 512]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .bf16) (main_arg1 : FVec F S2048x1024 .bf16) (main_arg2 : FVec F S2048x512 .bf16) (main_arg3 : FVec F S2048x512 .bf16) : IVec S_ 1 :=
  let main_v0 : FVec F S2048x1024 .f32 := (extf .f32 · bitsLt_bf16_f32) main_arg0
  let main_v1 : FVec F S2048x1024 .f32 := (extf .f32 · bitsLt_bf16_f32) main_arg1
  let main_cst : FVec F S_ .f32 := constant S_ .f32 0xFF800000#32
  let main_v2 : FVec F S2048x1024 .f32 := broadcastInDim S2048x1024 ![] bcast_S_S2048x1024 main_cst
  let main_v3 : IVec S2048x1024 1 := cmpf .ogt main_v0 main_v2
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v0 main_v4
  let main_v6 : IVec S2048x1024 1 := andi main_v3 main_v5
  let main_c : IVec S_ 1 := constantI S_ 1 1#1
  let main_v7 : IVec S_ 1 := (fun x v => Host.reduce IntOp.andi x v reducesTo_S2048x1024_S_d0_1 h_S_) main_v6 main_c
  let main_cst_1 : FVec F S_ .f32 := constant S_ .f32 0xFF800000#32
  let main_v8 : FVec F S2048x1024 .f32 := broadcastInDim S2048x1024 ![] bcast_S_S2048x1024 main_cst_1
  let main_v9 : IVec S2048x1024 1 := cmpf .ogt main_v1 main_v8
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v1 main_v10
  let main_v12 : IVec S2048x1024 1 := andi main_v9 main_v11
  let main_c_3 : IVec S_ 1 := constantI S_ 1 1#1
  let main_v13 : IVec S_ 1 := (fun x v => Host.reduce IntOp.andi x v reducesTo_S2048x1024_S_d0_1 h_S_) main_v12 main_c_3
  let main_v14 : IVec S_ 1 := andi main_v7 main_v13
  main_v14
-- ==== Kernel.lean ====
abbrev S2048x1024 : Shape := ⟨2, ![2048, 1024]⟩
abbrev S2048x512 : Shape := ⟨2, ![2048, 512]⟩
abbrev S256x256 : Shape := ⟨2, ![256, 256]⟩
abbrev S2048x256 : Shape := ⟨2, ![2048, 256]⟩
abbrev S2048x128 : Shape := ⟨2, ![2048, 128]⟩
abbrev S256x128 : Shape := ⟨2, ![256, 128]⟩
abbrev S256 : Shape := ⟨1, ![256]⟩
abbrev S256x1 : Shape := ⟨2, ![256, 1]⟩
abbrev S1792x256 : Shape := ⟨2, ![1792, 256]⟩
abbrev S1792x128 : Shape := ⟨2, ![1792, 128]⟩
abbrev S256x512 : Shape := ⟨2, ![256, 512]⟩
abbrev S512x128 : Shape := ⟨2, ![512, 128]⟩
abbrev S512x256 : Shape := ⟨2, ![512, 256]⟩
abbrev S256x768 : Shape := ⟨2, ![256, 768]⟩
abbrev S768x128 : Shape := ⟨2, ![768, 128]⟩
abbrev S768x256 : Shape := ⟨2, ![768, 256]⟩
abbrev S256x1024 : Shape := ⟨2, ![256, 1024]⟩
abbrev S1024x128 : Shape := ⟨2, ![1024, 128]⟩
abbrev S1024x256 : Shape := ⟨2, ![1024, 256]⟩
abbrev S256x1280 : Shape := ⟨2, ![256, 1280]⟩
abbrev S1280x128 : Shape := ⟨2, ![1280, 128]⟩
abbrev S1280x256 : Shape := ⟨2, ![1280, 256]⟩
abbrev S256x1536 : Shape := ⟨2, ![256, 1536]⟩
abbrev S1536x128 : Shape := ⟨2, ![1536, 128]⟩
abbrev S1536x256 : Shape := ⟨2, ![1536, 256]⟩
abbrev S256x1792 : Shape := ⟨2, ![256, 1792]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x512, .bf16⟩
  | .hbm, ⟨3, _⟩ => ⟨S2048x512, .bf16⟩
  | .hbm, ⟨4, _⟩ => ⟨S2048x1024, .f32⟩
  | .hbm, ⟨5, _⟩ => ⟨S2048x1024, .f32⟩
  | .hbm, ⟨6, _⟩ => ⟨S2048x512, .f32⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x256, .f32⟩
  | .local _ .vmem, ⟨9, _⟩ => ⟨S256x256, .f32⟩
  | .local _ .vmem, ⟨10, _⟩ => ⟨S2048x256, .f32⟩
  | .local _ .vmem, ⟨11, _⟩ => ⟨S2048x256, .f32⟩
  | .local _ .vmem, ⟨12, _⟩ => ⟨S2048x128, .f32⟩
  | .local _ .vmem, ⟨13, _⟩ => ⟨S2048x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

def k0_cond8 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_7 : BitVec 32 := 0#32
  let v23 : BitVec 1 := Scalar.cmpi .ne v22 c0_i32_7
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2048x1024 : Shape := ⟨2, ![2048, 1024]⟩
abbrev S2048x512 : Shape := ⟨2, ![2048, 512]⟩
abbrev S2048x8x128 : Shape := ⟨3, ![2048, 8, 128]⟩
abbrev S2048x8x64 : Shape := ⟨3, ![2048, 8, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x64x2048 : Shape := ⟨3, ![8, 64, 2048]⟩
abbrev S8x2048x128 : Shape := ⟨3, ![8, 2048, 128]⟩

abbrev nBuf : Space → Nat
  | .hbm => 101
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x512, .bf16⟩
  | .hbm, ⟨3, _⟩ => ⟨S2048x512, .bf16⟩
  | .hbm, ⟨4, _⟩ => ⟨S2048x1024, .f32⟩
  | .hbm, ⟨5, _⟩ => ⟨S2048x1024, .f32⟩
  | .hbm, ⟨6, _⟩ => ⟨S2048x512, .f32⟩
  | .hbm, ⟨7, _⟩ => ⟨S2048x8x128, .f32⟩
  | .hbm, ⟨8, _⟩ => ⟨S2048x8x128, .f32⟩
  | .hbm, ⟨9, _⟩ => ⟨S2048x8x64, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S8x2048x2048, .i1⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .i1⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S_, .f32⟩
  | .hbm, ⟨36, _⟩ => ⟨S8x2048, .f32⟩
  | .hbm, ⟨37, _⟩ => ⟨S8x2048, .f32⟩
  | .hbm, ⟨38, _⟩ => ⟨S_, .f32⟩
  | .hbm, ⟨39, _⟩ => ⟨S8x2048, .f32⟩
  | .hbm, ⟨40, _⟩ => ⟨S8x2048, .i1⟩
  | .hbm, ⟨41, _⟩ => ⟨S_, .f32⟩
  | .hbm, ⟨42, _⟩ => ⟨S8x2048, .f32⟩
  | .hbm, ⟨43, _⟩ => ⟨S8x2048, .i1⟩
  | .hbm, ⟨44, _⟩ => ⟨S_, .f32⟩
  | .hbm, ⟨45, _⟩ => ⟨S8x2048, .f32⟩
  | .hbm, ⟨46, _⟩ => ⟨S_, .f32⟩
  | .hbm, ⟨47, _⟩ => ⟨S8x2048, .f32⟩
  | .hbm, ⟨48, _⟩ => ⟨S_, .f32⟩
  | .hbm, ⟨49, _⟩ => ⟨S8x2048, .f32⟩
  | .hbm, ⟨50, _⟩ => ⟨S8x2048, .f32⟩
  | .hbm, ⟨51, _⟩ => ⟨S8x2048, .f32⟩
  | .hbm, ⟨52, _⟩ => ⟨S8x2048x1, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S_, .f32⟩
  | .hbm, ⟨57, _⟩ => ⟨S8x2048, .f32⟩
  | .hbm, ⟨58, _⟩ => ⟨S8x2048x1, .f32⟩
  | .hbm, ⟨59, _⟩ => ⟨S8x2048x2048, .f32⟩
  | .hbm, ⟨60, _⟩ => ⟨S8x2048x2048, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S8x64x2048, .f32⟩
  | .hbm, ⟨66, _⟩ => ⟨S2048x8x64, .f32⟩
  | .hbm, ⟨67, _⟩ => ⟨S2048x512, .f32⟩
  | .hbm, ⟨68, _⟩ => ⟨S2048x512, .f32⟩
  | .hbm, ⟨69, _⟩ => ⟨S2048x8x64, .f32⟩
  | .hbm, ⟨70, _⟩ => ⟨S8x64x2048, .f32⟩
  | .hbm, ⟨71, _⟩ => ⟨S8x2048x2048, .f32⟩
  | .hbm, ⟨72, _⟩ => ⟨S8x64x2048, .f32⟩
  | .hbm, ⟨73, _⟩ => ⟨S2048x8x64, .f32⟩
  | .hbm, ⟨74, _⟩ => ⟨S8x2048x2048, .f32⟩
  | .hbm, ⟨75, _⟩ => ⟨S8x2048x2048, .f32⟩
  | .hbm, ⟨76, _⟩ => ⟨S8x2048x2048, .f32⟩
  | .hbm, ⟨77, _⟩ => ⟨S_, .f32⟩
  | .hbm, ⟨78, _⟩ => ⟨S8x2048, .f32⟩
  | .hbm, ⟨79, _⟩ => ⟨S8x2048x1, .f32⟩
  | .hbm, ⟨80, _⟩ => ⟨S8x2048x1, .f32⟩
  | .hbm, ⟨81, _⟩ => ⟨S8x2048x2048, .f32⟩
  | .hbm, ⟨82, _⟩ => ⟨S8x2048x2048, .f32⟩
  | .hbm, ⟨83, _⟩ => ⟨S_, .f32⟩
  | .hbm, ⟨84, _⟩ => ⟨S8x2048, .f32⟩
  | .hbm, ⟨85, _⟩ => ⟨S8x2048x2048, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x2048x2048, .f32⟩
  | .hbm, ⟨90, _⟩ => ⟨S8x2048x2048, .f32⟩
  | .hbm, ⟨91, _⟩ => ⟨S_, .f32⟩
  | .hbm, ⟨92, _⟩ => ⟨S8x2048x2048, .f32⟩
  | .hbm, ⟨93, _⟩ => ⟨S8x2048x2048, .f32⟩
  | .hbm, ⟨94, _⟩ => ⟨S8x2048x128, .f32⟩
  | .hbm, ⟨95, _⟩ => ⟨S2048x8x128, .f32⟩
  | .hbm, ⟨96, _⟩ => ⟨S8x2048x128, .f32⟩
  | .hbm, ⟨97, _⟩ => ⟨S2048x8x128, .f32⟩
  | .hbm, ⟨98, _⟩ => ⟨S2048x512, .f32⟩
  | .hbm, ⟨99, _⟩ => ⟨S2048x1024, .f32⟩
  | .hbm, ⟨100, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_v15_0 : Ref sig .tc := ⟨.hbm, 24, rfl⟩
abbrev main_call0_cst : Ref sig .tc := ⟨.hbm, 25, rfl⟩
abbrev main_v15_2 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== KernelDgu.lean ====
abbrev S2048x1024 : Shape := ⟨2, ![2048, 1024]⟩
abbrev S2816x1024 : Shape := ⟨2, ![2816, 1024]⟩
abbrev S2x2048x2816 : Shape := ⟨3, ![2, 2048, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2x2048x2816, .bf16⟩
  | .hbm, ⟨3, _⟩ => ⟨S2x2048x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDguIdeal.lean ====
abbrev S2048x1024 : Shape := ⟨2, ![2048, 1024]⟩
abbrev S2816x1024 : Shape := ⟨2, ![2816, 1024]⟩
abbrev S2x2048x2816 : Shape := ⟨3, ![2, 2048, 2816]⟩
abbrev S1x2048x2816 : Shape := ⟨3, ![1, 2048, 2816]⟩
abbrev S2048x2816 : Shape := ⟨2, ![2048, 2816]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2x2048x2816, .bf16⟩
  | .hbm, ⟨3, _⟩ => ⟨S1x2048x2816, .bf16⟩
  | .hbm, ⟨4, _⟩ => ⟨S2048x2816, .bf16⟩
  | .hbm, ⟨5, _⟩ => ⟨S2048x2816, .f32⟩
  | .hbm, ⟨6, _⟩ => ⟨S1x2048x2816, .bf16⟩
  | .hbm, ⟨7, _⟩ => ⟨S2048x2816, .bf16⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S_, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2816x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S1x2048x2816, .f32⟩
  | .hbm, ⟨39, _⟩ => ⟨S1x2048x2816, .f32⟩
  | .hbm, ⟨40, _⟩ => ⟨S2x2048x2816, .f32⟩
  | .hbm, ⟨41, _⟩ => ⟨S2x2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== KernelDx.lean ====
abbrev S2x2048x2816 : Shape := ⟨3, ![2, 2048, 2816]⟩
abbrev S4x1024x1408 : Shape := ⟨3, ![4, 1024, 1408]⟩
abbrev S2048x1024 : Shape := ⟨2, ![2048, 1024]⟩
abbrev S1x1024 : Shape := ⟨2, ![1, 1024]⟩
abbrev S1x512x1408 : Shape := ⟨3, ![1, 512, 1408]⟩
abbrev S1x1024x1408 : Shape := ⟨3, ![1, 1024, 1408]⟩
abbrev S512x1024 : Shape := ⟨2, ![512, 1024]⟩
abbrev S512x1408 : Shape := ⟨2, ![512, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S2x2048x2816, .bf16⟩
  | .hbm, ⟨1, _⟩ => ⟨S4x1024x1408, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32_27 : BitVec 32 := 0#32
  let v53 : BitVec 1 := Scalar.cmpi .eq arg0 c0_i32_27
  let v54 : BitVec 32 := Scalar.extui v53
  let c0_i32_28 : BitVec 32 := 0#32
  let v55 : BitVec 1 := Scalar.cmpi .ne v54 c0_i32_28
  v55

def k0_cond5 (i : grid0.Coords) : BitVec 1 :=
  let arg0 : BitVec 32 := BitVec.ofNat 32 (i 0).val
  let c0_i32_29 : BitVec 32 := 0#32
  let v56 : BitVec 1 := Scalar.cmpi .sgt arg0 c0_i32_29
  let v57 : BitVec 32 := Scalar.extui v56
  let c0_i32_30 : BitVec 32 := 0#32
  let v58 : BitVec 1 := Scalar.cmpi .ne v57 c0_i32_30
  v58

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceDxIdeal.lean ====
abbrev S2x2048x2816 : Shape := ⟨3, ![2, 2048, 2816]⟩
abbrev S4x1024x1408 : Shape := ⟨3, ![4, 1024, 1408]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x4x1408 : Shape := ⟨3, ![1024, 4, 1408]⟩
abbrev S1024x5632 : Shape := ⟨2, ![1024, 5632]⟩
abbrev S2048x5632 : Shape := ⟨2, ![2048, 5632]⟩
abbrev S1x2048x2816 : Shape := ⟨3, ![1, 2048, 2816]⟩
abbrev S2048x2816 : Shape := ⟨2, ![2048, 2816]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S4x1024x1408, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S4x1024x1408, .f32⟩
  | .hbm, ⟨25, _⟩ => ⟨S1024x4x1408, .f32⟩
  | .hbm, ⟨26, _⟩ => ⟨S1024x5632, .f32⟩
  | .hbm, ⟨27, _⟩ => ⟨S2048x5632, .f32⟩
  | .hbm, ⟨28, _⟩ => ⟨S1x2048x2816, .bf16⟩
  | .hbm, ⟨29, _⟩ => ⟨S2048x2816, .bf16⟩
  | .hbm, ⟨30, _⟩ => ⟨S1x2048x2816, .bf16⟩
  | .hbm, ⟨31, _⟩ => ⟨S2048x2816, .bf16⟩
  | .hbm, ⟨32, _⟩ => ⟨S2048x5632, .bf16⟩
  | .hbm, ⟨33, _⟩ => ⟨S2048x5632, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== KernelDw1.lean ====
abbrev S2048x1024 : Shape := ⟨2, ![2048, 1024]⟩
abbrev S2x2048x2816 : Shape := ⟨3, ![2, 2048, 2816]⟩
abbrev S4x1024x1408 : Shape := ⟨3, ![4, 1024, 1408]⟩
abbrev S2048x512 : Shape := ⟨2, ![2048, 512]⟩
abbrev S1x2048x1408 : Shape := ⟨3, ![1, 2048, 1408]⟩
abbrev S1x512x1408 : Shape := ⟨3, ![1, 512, 1408]⟩
abbrev S2048x1408 : Shape := ⟨2, ![2048, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2x2048x2816, .bf16⟩
  | .hbm, ⟨2, _⟩ => ⟨S4x1024x1408, .bf16⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x1408, .bf16⟩
  | .local _ .vmem, ⟨5, _⟩ => ⟨S1x512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDw1Ideal.lean ====
abbrev S2048x1024 : Shape := ⟨2, ![2048, 1024]⟩
abbrev S2x2048x2816 : Shape := ⟨3, ![2, 2048, 2816]⟩
abbrev S1x2048x2816 : Shape := ⟨3, ![1, 2048, 2816]⟩
abbrev S2048x2816 : Shape := ⟨2, ![2048, 2816]⟩
abbrev S2048x5632 : Shape := ⟨2, ![2048, 5632]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S5632x1024 : Shape := ⟨2, ![5632, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x2048x2816, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S2048x5632, .bf16⟩
  | .hbm, ⟨7, _⟩ => ⟨S2048x5632, .f32⟩
  | .hbm, ⟨8, _⟩ => ⟨S_, .f32⟩
  | .hbm, ⟨9, _⟩ => ⟨S4x1024x1408, .f32⟩
  | .hbm, ⟨10, _⟩ => ⟨S2048x1024, .f32⟩
  | .hbm, ⟨11, _⟩ => ⟨S1024x4x1408, .f32⟩
  | .hbm, ⟨12, _⟩ => ⟨S1024x5632, .f32⟩
  | .hbm, ⟨13, _⟩ => ⟨S2048x5632, .f32⟩
  | .hbm, ⟨14, _⟩ => ⟨S5632x1024, .f32⟩
  | .hbm, ⟨15, _⟩ => ⟨S1024x5632, .f32⟩
  | .hbm, ⟨16, _⟩ => ⟨S1024x4x1408, .f32⟩
  | .hbm, ⟨17, _⟩ => ⟨S4x1024x1408, .f32⟩
  | .hbm, ⟨18, _⟩ => ⟨S4x1024x1408, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== KernelDw2.lean ====
abbrev S2048x2816 : Shape := ⟨2, ![2048, 2816]⟩
abbrev S2048x1024 : Shape := ⟨2, ![2048, 1024]⟩
abbrev S2816x1024 : Shape := ⟨2, ![2816, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S256x1024, .bf16⟩
  | .local _ .vmem, ⟨4, _⟩ => ⟨S256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDw2Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== KernelUp.lean ====
abbrev S2048x1024 : Shape := ⟨2, ![2048, 1024]⟩
abbrev S4x1024x1408 : Shape := ⟨3, ![4, 1024, 1408]⟩
abbrev S2x2048x2816 : Shape := ⟨3, ![2, 2048, 2816]⟩
abbrev S2048x2816 : Shape := ⟨2, ![2048, 2816]⟩
abbrev S512x1024 : Shape := ⟨2, ![512, 1024]⟩
abbrev S1x1024x1408 : Shape := ⟨3, ![1, 1024, 1408]⟩
abbrev S2x512x1408 : Shape := ⟨3, ![2, 512, 1408]⟩
abbrev S512x1408 : Shape := ⟨2, ![512, 1408]⟩
abbrev S1024x1408 : Shape := ⟨2, ![1024, 1408]⟩
abbrev S1x512x1408 : Shape := ⟨3, ![1, 512, 1408]⟩

abbrev nBuf : Space → Nat
  | .hbm => 4
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S2x2048x2816, .bf16⟩
  | .hbm, ⟨3, _⟩ => ⟨S2048x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, c0_i32_12.toNat, v27.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceUpIdeal.lean ====
abbrev S2048x1024 : Shape := ⟨2, ![2048, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2048x5632 : Shape := ⟨2, ![2048, 5632]⟩
abbrev S2048x2816 : Shape := ⟨2, ![2048, 2816]⟩
abbrev S1x2048x2816 : Shape := ⟨3, ![1, 2048, 2816]⟩
abbrev S2x2048x2816 : Shape := ⟨3, ![2, 2048, 2816]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S2048x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S2048x5632, .f32⟩
  | .hbm, ⟨7, _⟩ => ⟨S2048x5632, .bf16⟩
  | .hbm, ⟨8, _⟩ => ⟨S2048x2816, .bf16⟩
  | .hbm, ⟨9, _⟩ => ⟨S2048x2816, .f32⟩
  | .hbm, ⟨10, _⟩ => ⟨S2048x2816, .bf16⟩
  | .hbm, ⟨11, _⟩ => ⟨S2048x2816, .f32⟩
  | .hbm, ⟨12, _⟩ => ⟨S1x2048x2816, .f32⟩
  | .hbm, ⟨13, _⟩ => ⟨S1x2048x2816, .f32⟩
  | .hbm, ⟨14, _⟩ => ⟨S2x2048x2816, .f32⟩
  | .hbm, ⟨15, _⟩ => ⟨S2x2048x2816, .bf16⟩
  | .hbm, ⟨16, _⟩ => ⟨S2048x2816, .f32⟩
  | .hbm, ⟨17, _⟩ => ⟨S2048x2816, .f32⟩
  | .hbm, ⟨18, _⟩ => ⟨S_, .f32⟩
  | .hbm, ⟨19, _⟩ => ⟨S2048x2816, .f32⟩
  | .hbm, ⟨20, _⟩ => ⟨S2048x2816, .f32⟩
  | .hbm, ⟨21, _⟩ => ⟨S_, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== KernelDown.lean ====
abbrev S2048x2816 : Shape := ⟨2, ![2048, 2816]⟩
abbrev S2816x1024 : Shape := ⟨2, ![2816, 1024]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelDguRow.lean ====
abbrev S2048x1024 : Shape := ⟨2, ![2048, 1024]⟩
abbrev S2816x1024 : Shape := ⟨2, ![2816, 1024]⟩
abbrev S2x2048x2816 : Shape := ⟨3, ![2, 2048, 2816]⟩
abbrev S1x2816 : Shape := ⟨2, ![1, 2816]⟩
abbrev S512x1024 : Shape := ⟨2, ![512, 1024]⟩
abbrev S1408x1024 : Shape := ⟨2, ![1408, 1024]⟩
abbrev S2x512x1408 : Shape := ⟨3, ![2, 512, 1408]⟩
abbrev S1x1408 : Shape := ⟨2, ![1, 1408]⟩
abbrev S512x1408 : Shape := ⟨2, ![512, 1408]⟩
abbrev S1x512x1408 : Shape := ⟨3, ![1, 512, 1408]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2x2048x2816, .bf16⟩
  | .hbm, ⟨3, _⟩ => ⟨S1x2816, .f32⟩
  | .hbm, ⟨4, _⟩ => ⟨S2x2048x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S1x1408, .f32⟩
  | .local _ .vmem, ⟨7, _⟩ => ⟨S1x1408, .f32⟩
  | .local _ .vmem, ⟨8, _⟩ => ⟨S2x512x1408, .bf16⟩
  | .local _ .vmem, ⟨9, _⟩ => ⟨S2x512x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceDguRowIdeal.lean ====
abbrev S2048x1024 : Shape := ⟨2, ![2048, 1024]⟩
abbrev S2816x1024 : Shape := ⟨2, ![2816, 1024]⟩
abbrev S2x2048x2816 : Shape := ⟨3, ![2, 2048, 2816]⟩
abbrev S1x2816 : Shape := ⟨2, ![1, 2816]⟩
abbrev S1x2048x2816 : Shape := ⟨3, ![1, 2048, 2816]⟩
abbrev S2048x2816 : Shape := ⟨2, ![2048, 2816]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2x2048x2816, .bf16⟩
  | .hbm, ⟨3, _⟩ => ⟨S1x2816, .f32⟩
  | .hbm, ⟨4, _⟩ => ⟨S1x2048x2816, .bf16⟩
  | .hbm, ⟨5, _⟩ => ⟨S2048x2816, .bf16⟩
  | .hbm, ⟨6, _⟩ => ⟨S2048x2816, .f32⟩
  | .hbm, ⟨7, _⟩ => ⟨S1x2048x2816, .bf16⟩
  | .hbm, ⟨8, _⟩ => ⟨S2048x2816, .bf16⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S_, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2816x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x2816, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S1x2048x2816, .f32⟩
  | .hbm, ⟨42, _⟩ => ⟨S1x2048x2816, .f32⟩
  | .hbm, ⟨43, _⟩ => ⟨S2x2048x2816, .f32⟩
  | .hbm, ⟨44, _⟩ => ⟨S2x2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== KernelDxRow.lean ====
abbrev S2x2048x2816 : Shape := ⟨3, ![2, 2048, 2816]⟩
abbrev S4x1024x1408 : Shape := ⟨3, ![4, 1024, 1408]⟩
abbrev S2048x1024 : Shape := ⟨2, ![2048, 1024]⟩
abbrev S1x1024 : Shape := ⟨2, ![1, 1024]⟩
abbrev S1x512x1408 : Shape := ⟨3, ![1, 512, 1408]⟩
abbrev S1x1024x1408 : Shape := ⟨3, ![1, 1024, 1408]⟩
abbrev S512x1024 : Shape := ⟨2, ![512, 1024]⟩
abbrev S512x1408 : Shape := ⟨2, ![512, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S2x2048x2816, .bf16⟩
  | .hbm, ⟨1, _⟩ => ⟨S4x1024x1408, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32_29 : BitVec 32 := 0#32
  let v56 : BitVec 1 := Scalar.cmpi .eq arg0 c0_i32_29
  let v57 : BitVec 32 := Scalar.extui v56
  let c0_i32_30 : BitVec 32 := 0#32
  let v58 : BitVec 1 := Scalar.cmpi .ne v57 c0_i32_30
  v58

def k0_cond5 (i : grid0.Coords) : BitVec 1 :=
  let arg0 : BitVec 32 := BitVec.ofNat 32 (i 0).val
  let c0_i32_31 : BitVec 32 := 0#32
  let v59 : BitVec 1 := Scalar.cmpi .sgt arg0 c0_i32_31
  let v60 : BitVec 32 := Scalar.extui v59
  let c0_i32_32 : BitVec 32 := 0#32
  let v61 : BitVec 1 := Scalar.cmpi .ne v60 c0_i32_32
  v61

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceDxRowIdeal.lean ====
abbrev S2x2048x2816 : Shape := ⟨3, ![2, 2048, 2816]⟩
abbrev S4x1024x1408 : Shape := ⟨3, ![4, 1024, 1408]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x4x1408 : Shape := ⟨3, ![1024, 4, 1408]⟩
abbrev S1024x5632 : Shape := ⟨2, ![1024, 5632]⟩
abbrev S2048x5632 : Shape := ⟨2, ![2048, 5632]⟩
abbrev S1x2048x2816 : Shape := ⟨3, ![1, 2048, 2816]⟩
abbrev S2048x2816 : Shape := ⟨2, ![2048, 2816]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S4x1024x1408, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S4x1024x1408, .f32⟩
  | .hbm, ⟨26, _⟩ => ⟨S1024x4x1408, .f32⟩
  | .hbm, ⟨27, _⟩ => ⟨S1024x5632, .f32⟩
  | .hbm, ⟨28, _⟩ => ⟨S2048x5632, .f32⟩
  | .hbm, ⟨29, _⟩ => ⟨S1x2048x2816, .bf16⟩
  | .hbm, ⟨30, _⟩ => ⟨S2048x2816, .bf16⟩
  | .hbm, ⟨31, _⟩ => ⟨S1x2048x2816, .bf16⟩
  | .hbm, ⟨32, _⟩ => ⟨S2048x2816, .bf16⟩
  | .hbm, ⟨33, _⟩ => ⟨S2048x5632, .bf16⟩
  | .hbm, ⟨34, _⟩ => ⟨S2048x5632, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048, .f32⟩
  | .hbm, ⟨47, _⟩ => ⟨S2048x1, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S_, .f32⟩
  | .hbm, ⟨56, _⟩ => ⟨S2048, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== KernelDw1Row.lean ====
abbrev S2048x1024 : Shape := ⟨2, ![2048, 1024]⟩
abbrev S2x2048x2816 : Shape := ⟨3, ![2, 2048, 2816]⟩
abbrev S1x5632 : Shape := ⟨2, ![1, 5632]⟩
abbrev S4x1024x1408 : Shape := ⟨3, ![4, 1024, 1408]⟩
abbrev S2048x512 : Shape := ⟨2, ![2048, 512]⟩
abbrev S1x2048x1408 : Shape := ⟨3, ![1, 2048, 1408]⟩
abbrev S1x1408 : Shape := ⟨2, ![1, 1408]⟩
abbrev S1x512x1408 : Shape := ⟨3, ![1, 512, 1408]⟩
abbrev S2048x1408 : Shape := ⟨2, ![2048, 1408]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2x2048x2816, .bf16⟩
  | .hbm, ⟨2, _⟩ => ⟨S1x5632, .f32⟩
  | .hbm, ⟨3, _⟩ => ⟨S4x1024x1408, .bf16⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1408, .f32⟩
  | .local _ .vmem, ⟨5, _⟩ => ⟨S1x1408, .f32⟩
  | .local _ .vmem, ⟨6, _⟩ => ⟨S1x512x1408, .bf16⟩
  | .local _ .vmem, ⟨7, _⟩ => ⟨S1x512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDw1RowIdeal.lean ====
abbrev S2048x1024 : Shape := ⟨2, ![2048, 1024]⟩
abbrev S2x2048x2816 : Shape := ⟨3, ![2, 2048, 2816]⟩
abbrev S1x5632 : Shape := ⟨2, ![1, 5632]⟩
abbrev S1x2048x2816 : Shape := ⟨3, ![1, 2048, 2816]⟩
abbrev S2048x2816 : Shape := ⟨2, ![2048, 2816]⟩
abbrev S2048x5632 : Shape := ⟨2, ![2048, 5632]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S5632x1024 : Shape := ⟨2, ![5632, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x2048x2816, .bf16⟩
  | .hbm, ⟨2, _⟩ => ⟨S1x5632, .f32⟩
  | .hbm, ⟨3, _⟩ => ⟨S1x2048x2816, .bf16⟩
  | .hbm, ⟨4, _⟩ => ⟨S2048x2816, .bf16⟩
  | .hbm, ⟨5, _⟩ => ⟨S1x2048x2816, .bf16⟩
  | .hbm, ⟨6, _⟩ => ⟨S2048x2816, .bf16⟩
  | .hbm, ⟨7, _⟩ => ⟨S2048x5632, .bf16⟩
  | .hbm, ⟨8, _⟩ => ⟨S2048x5632, .f32⟩
  | .hbm, ⟨9, _⟩ => ⟨S_, .f32⟩
  | .hbm, ⟨10, _⟩ => ⟨S4x1024x1408, .f32⟩
  | .hbm, ⟨11, _⟩ => ⟨S1024x4x1408, .f32⟩
  | .hbm, ⟨12, _⟩ => ⟨S1024x5632, .f32⟩
  | .hbm, ⟨13, _⟩ => ⟨S2048x1024, .f32⟩
  | .hbm, ⟨14, _⟩ => ⟨S2048x5632, .f32⟩
  | .hbm, ⟨15, _⟩ => ⟨S1024x5632, .f32⟩
  | .hbm, ⟨16, _⟩ => ⟨S5632x1024, .f32⟩
  | .hbm, ⟨17, _⟩ => ⟨S1024x5632, .f32⟩
  | .hbm, ⟨18, _⟩ => ⟨S1024x5632, .f32⟩
  | .hbm, ⟨19, _⟩ => ⟨S1024x4x1408, .f32⟩
  | .hbm, ⟨20, _⟩ => ⟨S4x1024x1408, .f32⟩
  | .hbm, ⟨21, _⟩ => ⟨S4x1024x1408, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== KernelDw2Row.lean ====
abbrev S2048x2816 : Shape := ⟨2, ![2048, 2816]⟩
abbrev S2048x1024 : Shape := ⟨2, ![2048, 1024]⟩
abbrev S1x1024 : Shape := ⟨2, ![1, 1024]⟩
abbrev S2816x1024 : Shape := ⟨2, ![2816, 1024]⟩
abbrev S2048x256 : Shape := ⟨2, ![2048, 256]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S1x1024, .f32⟩
  | .hbm, ⟨3, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDw2RowIdeal.lean ====
abbrev S2048x2816 : Shape := ⟨2, ![2048, 2816]⟩
abbrev S2048x1024 : Shape := ⟨2, ![2048, 1024]⟩
abbrev S1x1024 : Shape := ⟨2, ![1, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 18
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S1x1024, .f32⟩
  | .hbm, ⟨3, _⟩ => ⟨S_, .f32⟩
  | .hbm, ⟨4, _⟩ => ⟨S2816x1024, .f32⟩
  | .hbm, ⟨5, _⟩ => ⟨S2048x2816, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2816x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S1024x2816, .f32⟩
  | .hbm, ⟨15, _⟩ => ⟨S2816x1024, .f32⟩
  | .hbm, ⟨16, _⟩ => ⟨S2816x1024, .f32⟩
  | .hbm, ⟨17, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== KernelProjA.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1x1024, .f32⟩
  | .hbm, ⟨3, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelProjAIdeal.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1x1024, .f32⟩
  | .hbm, ⟨3, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceProjAIdeal.lean ====
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelProjB.lean ====
abbrev S2048x1024 : Shape := ⟨2, ![2048, 1024]⟩
abbrev S1024x768 : Shape := ⟨2, ![1024, 768]⟩
abbrev S1x768 : Shape := ⟨2, ![1, 768]⟩
abbrev S2048x768 : Shape := ⟨2, ![2048, 768]⟩
abbrev S512x1024 : Shape := ⟨2, ![512, 1024]⟩
abbrev S512x768 : Shape := ⟨2, ![512, 768]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x768, .bf16⟩
  | .hbm, ⟨2, _⟩ => ⟨S1x768, .f32⟩
  | .hbm, ⟨3, _⟩ => ⟨S2048x768, .f32⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1x768, .f32⟩
  | .local _ .vmem, ⟨4, _⟩ => ⟨S512x768, .f32⟩
  | .local _ .vmem, ⟨5, _⟩ => ⟨S512x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelProjBIdeal.lean ====
abbrev S2048x1024 : Shape := ⟨2, ![2048, 1024]⟩
abbrev S1024x768 : Shape := ⟨2, ![1024, 768]⟩
abbrev S1x768 : Shape := ⟨2, ![1, 768]⟩
abbrev S2048x768 : Shape := ⟨2, ![2048, 768]⟩
abbrev S512x1024 : Shape := ⟨2, ![512, 1024]⟩
abbrev S512x768 : Shape := ⟨2, ![512, 768]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x768, .bf16⟩
  | .hbm, ⟨2, _⟩ => ⟨S1x768, .f32⟩
  | .hbm, ⟨3, _⟩ => ⟨S2048x768, .f32⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1x768, .f32⟩
  | .local _ .vmem, ⟨4, _⟩ => ⟨S512x768, .f32⟩
  | .local _ .vmem, ⟨5, _⟩ => ⟨S512x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceProjBIdeal.lean ====
abbrev S2048x1024 : Shape := ⟨2, ![2048, 1024]⟩
abbrev S1024x768 : Shape := ⟨2, ![1024, 768]⟩
abbrev S1x768 : Shape := ⟨2, ![1, 768]⟩
abbrev S2048x768 : Shape := ⟨2, ![2048, 768]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x768, .bf16⟩
  | .hbm, ⟨2, _⟩ => ⟨S1x768, .f32⟩
  | .hbm, ⟨3, _⟩ => ⟨S2048x1024, .f32⟩
  | .hbm, ⟨4, _⟩ => ⟨S1024x768, .f32⟩
  | .hbm, ⟨5, _⟩ => ⟨S2048x768, .f32⟩
  | .hbm, ⟨6, _⟩ => ⟨S2048x768, .f32⟩
  | .hbm, ⟨7, _⟩ => ⟨S2048x768, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelProjG.lean ====
abbrev S2048x1024 : Shape := ⟨2, ![2048, 1024]⟩
abbrev S1024x3072 : Shape := ⟨2, ![1024, 3072]⟩
abbrev S1x3072 : Shape := ⟨2, ![1, 3072]⟩
abbrev S2048x3072 : Shape := ⟨2, ![2048, 3072]⟩
abbrev S512x1024 : Shape := ⟨2, ![512, 1024]⟩
abbrev S1024x1536 : Shape := ⟨2, ![1024, 1536]⟩
abbrev S1x1536 : Shape := ⟨2, ![1, 1536]⟩
abbrev S512x1536 : Shape := ⟨2, ![512, 1536]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .bf16⟩
  | .hbm, ⟨2, _⟩ => ⟨S1x3072, .f32⟩
  | .hbm, ⟨3, _⟩ => ⟨S2048x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1x1536, .f32⟩
  | .local _ .vmem, ⟨5, _⟩ => ⟨S1x1536, .f32⟩
  | .local _ .vmem, ⟨6, _⟩ => ⟨S512x1536, .f32⟩
  | .local _ .vmem, ⟨7, _⟩ => ⟨S512x1536, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceProjGIdeal.lean ====
abbrev S2048x1024 : Shape := ⟨2, ![2048, 1024]⟩
abbrev S1024x3072 : Shape := ⟨2, ![1024, 3072]⟩
abbrev S1x3072 : Shape := ⟨2, ![1, 3072]⟩
abbrev S2048x3072 : Shape := ⟨2, ![2048, 3072]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x3072, .bf16⟩
  | .hbm, ⟨2, _⟩ => ⟨S1x3072, .f32⟩
  | .hbm, ⟨3, _⟩ => ⟨S2048x1024, .f32⟩
  | .hbm, ⟨4, _⟩ => ⟨S1024x3072, .f32⟩
  | .hbm, ⟨5, _⟩ => ⟨S2048x3072, .f32⟩
  | .hbm, ⟨6, _⟩ => ⟨S2048x3072, .f32⟩
  | .hbm, ⟨7, _⟩ => ⟨S2048x3072, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDwA.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDwAIdeal.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwAIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwB.lean ====
abbrev S2048x1024 : Shape := ⟨2, ![2048, 1024]⟩
abbrev S2048x768 : Shape := ⟨2, ![2048, 768]⟩
abbrev S1024x768 : Shape := ⟨2, ![1024, 768]⟩
abbrev S2048x512 : Shape := ⟨2, ![2048, 512]⟩
abbrev S512x768 : Shape := ⟨2, ![512, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x768, .bf16⟩
  | .hbm, ⟨2, _⟩ => ⟨S1024x768, .bf16⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S512x768, .bf16⟩
  | .local _ .vmem, ⟨4, _⟩ => ⟨S512x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelDwBIdeal.lean ====
abbrev S2048x1024 : Shape := ⟨2, ![2048, 1024]⟩
abbrev S2048x768 : Shape := ⟨2, ![2048, 768]⟩
abbrev S1024x768 : Shape := ⟨2, ![1024, 768]⟩
abbrev S2048x512 : Shape := ⟨2, ![2048, 512]⟩
abbrev S512x768 : Shape := ⟨2, ![512, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x768, .bf16⟩
  | .hbm, ⟨2, _⟩ => ⟨S1024x768, .bf16⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S512x768, .bf16⟩
  | .local _ .vmem, ⟨4, _⟩ => ⟨S512x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwBIdeal.lean ====
abbrev S2048x1024 : Shape := ⟨2, ![2048, 1024]⟩
abbrev S2048x768 : Shape := ⟨2, ![2048, 768]⟩
abbrev S_ : Shape := ⟨0, ![]⟩
abbrev S1024x768 : Shape := ⟨2, ![1024, 768]⟩
abbrev S768x1024 : Shape := ⟨2, ![768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x768, .bf16⟩
  | .hbm, ⟨2, _⟩ => ⟨S_, .f32⟩
  | .hbm, ⟨3, _⟩ => ⟨S1024x768, .f32⟩
  | .hbm, ⟨4, _⟩ => ⟨S2048x1024, .f32⟩
  | .hbm, ⟨5, _⟩ => ⟨S2048x768, .f32⟩
  | .hbm, ⟨6, _⟩ => ⟨S2048x768, .f32⟩
  | .hbm, ⟨7, _⟩ => ⟨S768x1024, .f32⟩
  | .hbm, ⟨8, _⟩ => ⟨S1024x768, .f32⟩
  | .hbm, ⟨9, _⟩ => ⟨S1024x768, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwG.lean ====
abbrev S2048x1024 : Shape := ⟨2, ![2048, 1024]⟩
abbrev S2048x3072 : Shape := ⟨2, ![2048, 3072]⟩
abbrev S1024x3072 : Shape := ⟨2, ![1024, 3072]⟩
abbrev S2048x512 : Shape := ⟨2, ![2048, 512]⟩
abbrev S2048x1536 : Shape := ⟨2, ![2048, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S1024x3072, .bf16⟩
  | .local _ .vmem, ⟨0, _⟩ => ⟨S2048x512, .bf16⟩
  | .local _ .vmem, ⟨1, _⟩ => ⟨S2048x512, .bf16⟩
  | .local _ .vmem, ⟨2, _⟩ => ⟨S2048x1536, .bf16⟩
  | .local _ .vmem, ⟨3, _⟩ => ⟨S2048x1536, .bf16⟩
  | .local _ .vmem, ⟨4, _⟩ => ⟨S512x1536, .bf16⟩
  | .local _ .vmem, ⟨5, _⟩ => ⟨S512x1536, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwGIdeal.lean ====
abbrev S2048x1024 : Shape := ⟨2, ![2048, 1024]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3072, .bf16⟩
  | .hbm, ⟨2, _⟩ => ⟨S_, .f32⟩
  | .hbm, ⟨3, _⟩ => ⟨S1024x3072, .f32⟩
  | .hbm, ⟨4, _⟩ => ⟨S2048x1024, .f32⟩
  | .hbm, ⟨5, _⟩ => ⟨S2048x3072, .f32⟩
  | .hbm, ⟨6, _⟩ => ⟨S2048x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDhA.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhAIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDhB.lean ====
abbrev S2048x768 : Shape := ⟨2, ![2048, 768]⟩
abbrev S1024x768 : Shape := ⟨2, ![1024, 768]⟩
abbrev S2048x1024 : Shape := ⟨2, ![2048, 1024]⟩
abbrev S512x768 : Shape := ⟨2, ![512, 768]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x768, .bf16⟩
  | .hbm, ⟨1, _⟩ => ⟨S1024x768, .bf16⟩
  | .hbm, ⟨2, _⟩ => ⟨S2048x1024, .f32⟩
  | .hbm, ⟨3, _⟩ => ⟨S2048x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelDhBIdeal.lean ====
abbrev S2048x768 : Shape := ⟨2, ![2048, 768]⟩
abbrev S1024x768 : Shape := ⟨2, ![1024, 768]⟩
abbrev S2048x1024 : Shape := ⟨2, ![2048, 1024]⟩
abbrev S512x768 : Shape := ⟨2, ![512, 768]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x768, .bf16⟩
  | .hbm, ⟨1, _⟩ => ⟨S1024x768, .bf16⟩
  | .hbm, ⟨2, _⟩ => ⟨S2048x1024, .f32⟩
  | .hbm, ⟨3, _⟩ => ⟨S2048x1024, .f32⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDhBIdeal.lean ====
abbrev S2048x768 : Shape := ⟨2, ![2048, 768]⟩
abbrev S1024x768 : Shape := ⟨2, ![1024, 768]⟩
abbrev S2048x1024 : Shape := ⟨2, ![2048, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S1024x768, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x768, .f32⟩
  | .hbm, ⟨6, _⟩ => ⟨S2048x768, .f32⟩
  | .hbm, ⟨7, _⟩ => ⟨S2048x768, .f32⟩
  | .hbm, ⟨8, _⟩ => ⟨S2048x1024, .f32⟩
  | .hbm, ⟨9, _⟩ => ⟨S2048x1024, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelDhC.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelDhCIdeal.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDhCIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelDhG.lean ====
abbrev S2048x3072 : Shape := ⟨2, ![2048, 3072]⟩
abbrev S1024x3072 : Shape := ⟨2, ![1024, 3072]⟩
abbrev S2048x1024 : Shape := ⟨2, ![2048, 1024]⟩
abbrev S512x3072 : Shape := ⟨2, ![512, 3072]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S1024x3072, .bf16⟩
  | .hbm, ⟨2, _⟩ => ⟨S2048x1024, .f32⟩
  | .hbm, ⟨3, _⟩ => ⟨S2048x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDhGIdeal.lean ====
abbrev S2048x3072 : Shape := ⟨2, ![2048, 3072]⟩
abbrev S1024x3072 : Shape := ⟨2, ![1024, 3072]⟩
abbrev S2048x1024 : Shape := ⟨2, ![2048, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S1024x3072, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x3072, .f32⟩
  | .hbm, ⟨6, _⟩ => ⟨S2048x3072, .f32⟩
  | .hbm, ⟨7, _⟩ => ⟨S2048x3072, .f32⟩
  | .hbm, ⟨8, _⟩ => ⟨S2048x1024, .f32⟩
  | .hbm, ⟨9, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelMixOut.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceMixOutIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDmerged.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1x1024, .f32⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDmergedIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1x1024, .f32⟩
  | .hbm, ⟨3, _⟩ => ⟨S_, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelDwOut.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwOutIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelAdamUp.lean ====
abbrev S2x1024x1408 : Shape := ⟨3, ![2, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAdamUpIdeal.lean ====
abbrev S2x1024x1408 : Shape := ⟨3, ![2, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamUpIdeal.lean ====
abbrev S2x1024x1408 : Shape := ⟨3, ![2, 1024, 1408]⟩
abbrev S1024x1408 : Shape := ⟨2, ![1024, 1408]⟩
abbrev S1x1024x1408 : Shape := ⟨3, ![1, 1024, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S1024x1408, .f32⟩
  | .hbm, ⟨5, _⟩ => ⟨S1x1024x1408, .f32⟩
  | .hbm, ⟨6, _⟩ => ⟨S1x1024x1408, .f32⟩
  | .hbm, ⟨7, _⟩ => ⟨S2x1024x1408, .f32⟩
  | .hbm, ⟨8, _⟩ => ⟨S_, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2x1024x1408, .f32⟩
  | .hbm, ⟨38, _⟩ => ⟨S_, .f32⟩
  | .hbm, ⟨39, _⟩ => ⟨S2x1024x1408, .f32⟩
  | .hbm, ⟨40, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamUpB.lean ====
abbrev S2x1024x1408 : Shape := ⟨3, ![2, 1024, 1408]⟩
abbrev S1024x1408 : Shape := ⟨2, ![1024, 1408]⟩
abbrev S8x128 : Shape := ⟨2, ![8, 128]⟩
abbrev S1x256x1408 : Shape := ⟨3, ![1, 256, 1408]⟩
abbrev S256x1408 : Shape := ⟨2, ![256, 1408]⟩

abbrev nBuf : Space → Nat
  | .hbm => 10
  | .vmem => 19
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S1024x1408, .f32⟩
  | .hbm, ⟨5, _⟩ => ⟨S8x128, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S8x128, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelAdamUpBIdeal.lean ====
abbrev S2x1024x1408 : Shape := ⟨3, ![2, 1024, 1408]⟩
abbrev S1024x1408 : Shape := ⟨2, ![1024, 1408]⟩
abbrev S8x128 : Shape := ⟨2, ![8, 128]⟩
abbrev S1x256x1408 : Shape := ⟨3, ![1, 256, 1408]⟩
abbrev S256x1408 : Shape := ⟨2, ![256, 1408]⟩

abbrev nBuf : Space → Nat
  | .hbm => 10
  | .vmem => 19
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S1024x1408, .f32⟩
  | .hbm, ⟨5, _⟩ => ⟨S8x128, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S8x128, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceAdamUpBIdeal.lean ====
abbrev S2x1024x1408 : Shape := ⟨3, ![2, 1024, 1408]⟩
abbrev S1024x1408 : Shape := ⟨2, ![1024, 1408]⟩
abbrev S8x128 : Shape := ⟨2, ![8, 128]⟩
abbrev S1x1024x1408 : Shape := ⟨3, ![1, 1024, 1408]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S1024x1408, .f32⟩
  | .hbm, ⟨5, _⟩ => ⟨S8x128, .f32⟩
  | .hbm, ⟨6, _⟩ => ⟨S1x1024x1408, .f32⟩
  | .hbm, ⟨7, _⟩ => ⟨S1x1024x1408, .f32⟩
  | .hbm, ⟨8, _⟩ => ⟨S2x1024x1408, .f32⟩
  | .hbm, ⟨9, _⟩ => ⟨S_, .f32⟩
  | .hbm, ⟨10, _⟩ => ⟨S2x1024x1408, .f32⟩
  | .hbm, ⟨11, _⟩ => ⟨S2x1024x1408, .f32⟩
  | .hbm, ⟨12, _⟩ => ⟨S_, .f32⟩
  | .hbm, ⟨13, _⟩ => ⟨S2x1024x1408, .f32⟩
  | .hbm, ⟨14, _⟩ => ⟨S2x1024x1408, .f32⟩
  | .hbm, ⟨15, _⟩ => ⟨S2x1024x1408, .f32⟩
  | .hbm, ⟨16, _⟩ => ⟨S_, .f32⟩
  | .hbm, ⟨17, _⟩ => ⟨S2x1024x1408, .f32⟩
  | .hbm, ⟨18, _⟩ => ⟨S2x1024x1408, .f32⟩
  | .hbm, ⟨19, _⟩ => ⟨S2x1024x1408, .f32⟩
  | .hbm, ⟨20, _⟩ => ⟨S_, .f32⟩
  | .hbm, ⟨21, _⟩ => ⟨S2x1024x1408, .f32⟩
  | .hbm, ⟨22, _⟩ => ⟨S2x1024x1408, .f32⟩
  | .hbm, ⟨23, _⟩ => ⟨S2x1024x1408, .f32⟩
  | .hbm, ⟨24, _⟩ => ⟨S_, .f32⟩
  | .hbm, ⟨25, _⟩ => ⟨S2x1024x1408, .f32⟩
  | .hbm, ⟨26, _⟩ => ⟨S2x1024x1408, .f32⟩
  | .hbm, ⟨27, _⟩ => ⟨S_, .f32⟩
  | .hbm, ⟨28, _⟩ => ⟨S2x1024x1408, .f32⟩
  | .hbm, ⟨29, _⟩ => ⟨S2x1024x1408, .f32⟩
  | .hbm, ⟨30, _⟩ => ⟨S2x1024x1408, .f32⟩
  | .hbm, ⟨31, _⟩ => ⟨S_, .f32⟩
  | .hbm, ⟨32, _⟩ => ⟨S2x1024x1408, .f32⟩
  | .hbm, ⟨33, _⟩ => ⟨S2x1024x1408, .f32⟩
  | .hbm, ⟨34, _⟩ => ⟨S2x1024x1408, .f32⟩
  | .hbm, ⟨35, _⟩ => ⟨S_, .f32⟩
  | .hbm, ⟨36, _⟩ => ⟨S2x1024x1408, .f32⟩
  | .hbm, ⟨37, _⟩ => ⟨S2x1024x1408, .f32⟩
  | .hbm, ⟨38, _⟩ => ⟨S2x1024x1408, .f32⟩
  | .hbm, ⟨39, _⟩ => ⟨S_, .f32⟩
  | .hbm, ⟨40, _⟩ => ⟨S2x1024x1408, .f32⟩
  | .hbm, ⟨41, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== KernelAdamDown.lean ====
abbrev S2x704x1024 : Shape := ⟨3, ![2, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .f32⟩
  | .hbm, ⟨4, _⟩ => ⟨S704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAdamDownIdeal.lean ====
abbrev S2x704x1024 : Shape := ⟨3, ![2, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .f32⟩
  | .hbm, ⟨4, _⟩ => ⟨S704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamDownIdeal.lean ====
abbrev S2x704x1024 : Shape := ⟨3, ![2, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .f32⟩
  | .hbm, ⟨4, _⟩ => ⟨S704x1024, .f32⟩
  | .hbm, ⟨5, _⟩ => ⟨S1x704x1024, .f32⟩
  | .hbm, ⟨6, _⟩ => ⟨S1x704x1024, .f32⟩
  | .hbm, ⟨7, _⟩ => ⟨S2x704x1024, .f32⟩
  | .hbm, ⟨8, _⟩ => ⟨S_, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamDownB.lean ====
abbrev S2x704x1024 : Shape := ⟨3, ![2, 704, 1024]⟩
abbrev S704x1024 : Shape := ⟨2, ![704, 1024]⟩
abbrev S8x128 : Shape := ⟨2, ![8, 128]⟩
abbrev S1x176x1024 : Shape := ⟨3, ![1, 176, 1024]⟩
abbrev S176x1024 : Shape := ⟨2, ![176, 1024]⟩

abbrev nBuf : Space → Nat
  | .hbm => 10
  | .vmem => 19
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .f32⟩
  | .hbm, ⟨4, _⟩ => ⟨S704x1024, .f32⟩
  | .hbm, ⟨5, _⟩ => ⟨S8x128, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S8x128, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelAdamDownBIdeal.lean ====
abbrev S2x704x1024 : Shape := ⟨3, ![2, 704, 1024]⟩
abbrev S704x1024 : Shape := ⟨2, ![704, 1024]⟩
abbrev S8x128 : Shape := ⟨2, ![8, 128]⟩
abbrev S1x176x1024 : Shape := ⟨3, ![1, 176, 1024]⟩
abbrev S176x1024 : Shape := ⟨2, ![176, 1024]⟩

abbrev nBuf : Space → Nat
  | .hbm => 10
  | .vmem => 19
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .f32⟩
  | .hbm, ⟨4, _⟩ => ⟨S704x1024, .f32⟩
  | .hbm, ⟨5, _⟩ => ⟨S8x128, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S8x128, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceAdamDownBIdeal.lean ====
abbrev S2x704x1024 : Shape := ⟨3, ![2, 704, 1024]⟩
abbrev S704x1024 : Shape := ⟨2, ![704, 1024]⟩
abbrev S8x128 : Shape := ⟨2, ![8, 128]⟩
abbrev S1x704x1024 : Shape := ⟨3, ![1, 704, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .f32⟩
  | .hbm, ⟨4, _⟩ => ⟨S704x1024, .f32⟩
  | .hbm, ⟨5, _⟩ => ⟨S8x128, .f32⟩
  | .hbm, ⟨6, _⟩ => ⟨S1x704x1024, .f32⟩
  | .hbm, ⟨7, _⟩ => ⟨S1x704x1024, .f32⟩
  | .hbm, ⟨8, _⟩ => ⟨S2x704x1024, .f32⟩
  | .hbm, ⟨9, _⟩ => ⟨S_, .f32⟩
  | .hbm, ⟨10, _⟩ => ⟨S2x704x1024, .f32⟩
  | .hbm, ⟨11, _⟩ => ⟨S2x704x1024, .f32⟩
  | .hbm, ⟨12, _⟩ => ⟨S_, .f32⟩
  | .hbm, ⟨13, _⟩ => ⟨S2x704x1024, .f32⟩
  | .hbm, ⟨14, _⟩ => ⟨S2x704x1024, .f32⟩
  | .hbm, ⟨15, _⟩ => ⟨S2x704x1024, .f32⟩
  | .hbm, ⟨16, _⟩ => ⟨S_, .f32⟩
  | .hbm, ⟨17, _⟩ => ⟨S2x704x1024, .f32⟩
  | .hbm, ⟨18, _⟩ => ⟨S2x704x1024, .f32⟩
  | .hbm, ⟨19, _⟩ => ⟨S2x704x1024, .f32⟩
  | .hbm, ⟨20, _⟩ => ⟨S_, .f32⟩
  | .hbm, ⟨21, _⟩ => ⟨S2x704x1024, .f32⟩
  | .hbm, ⟨22, _⟩ => ⟨S2x704x1024, .f32⟩
  | .hbm, ⟨23, _⟩ => ⟨S2x704x1024, .f32⟩
  | .hbm, ⟨24, _⟩ => ⟨S_, .f32⟩
  | .hbm, ⟨25, _⟩ => ⟨S2x704x1024, .f32⟩
  | .hbm, ⟨26, _⟩ => ⟨S2x704x1024, .f32⟩
  | .hbm, ⟨27, _⟩ => ⟨S_, .f32⟩
  | .hbm, ⟨28, _⟩ => ⟨S2x704x1024, .f32⟩
  | .hbm, ⟨29, _⟩ => ⟨S2x704x1024, .f32⟩
  | .hbm, ⟨30, _⟩ => ⟨S2x704x1024, .f32⟩
  | .hbm, ⟨31, _⟩ => ⟨S_, .f32⟩
  | .hbm, ⟨32, _⟩ => ⟨S2x704x1024, .f32⟩
  | .hbm, ⟨33, _⟩ => ⟨S2x704x1024, .f32⟩
  | .hbm, ⟨34, _⟩ => ⟨S2x704x1024, .f32⟩
  | .hbm, ⟨35, _⟩ => ⟨S_, .f32⟩
  | .hbm, ⟨36, _⟩ => ⟨S2x704x1024, .f32⟩
  | .hbm, ⟨37, _⟩ => ⟨S2x704x1024, .f32⟩
  | .hbm, ⟨38, _⟩ => ⟨S2x704x1024, .f32⟩
  | .hbm, ⟨39, _⟩ => ⟨S_, .f32⟩
  | .hbm, ⟨40, _⟩ => ⟨S2x704x1024, .f32⟩
  | .hbm, ⟨41, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== KernelAdamIn.lean ====
abbrev S2x1448x1024 : Shape := ⟨3, ![2, 1448, 1024]⟩
abbrev S1448x1024 : Shape := ⟨2, ![1448, 1024]⟩
abbrev S8x128 : Shape := ⟨2, ![8, 128]⟩
abbrev S1x1448x256 : Shape := ⟨3, ![1, 1448, 256]⟩
abbrev S1448x256 : Shape := ⟨2, ![1448, 256]⟩

abbrev nBuf : Space → Nat
  | .hbm => 10
  | .vmem => 19
  | .smem => 0
  | _ => 0

abbrev bufTy : (tb : Table) → Fin (tcTables nBuf tb) → BufTy
  | .hbm, ⟨0, _⟩ => ⟨S2x1448x1024, .f32⟩
  | .hbm, ⟨1, _⟩ => ⟨S2x1448x1024, .f32⟩
  | .hbm, ⟨2, _⟩ => ⟨S2x1448x1024, .f32⟩
  | .hbm, ⟨3, _⟩ => ⟨S1448x1024, .f32⟩
  | .hbm, ⟨4, _⟩ => ⟨S1448x1024, .f32⟩
  | .hbm, ⟨5, _⟩ => ⟨S8x128, .f32⟩
  | .hbm, ⟨6, _⟩ => ⟨S2x1448x1024, .f32⟩
  | .hbm, ⟨7, _⟩ => ⟨S2x1448x1024, .f32⟩
  | .hbm, ⟨8, _⟩ => ⟨S2x1448x1024, .f32⟩
  | .hbm, ⟨9, _⟩ => ⟨S2x1448x1024, .f32⟩
  | .local _ .vmem, ⟨0, _⟩ => ⟨S1x1448x256, .f32⟩
  | .local _ .vmem, ⟨1, _⟩ => ⟨S1x1448x256, .f32⟩
  | .local _ .vmem, ⟨2, _⟩ => ⟨S1x1448x256, .f32⟩
  | .local _ .vmem, ⟨3, _⟩ => ⟨S1x1448x256, .f32⟩
  | .local _ .vmem, ⟨4, _⟩ => ⟨S1x1448x256, .f32⟩
  | .local _ .vmem, ⟨5, _⟩ => ⟨S1x1448x256, .f32⟩
  | .local _ .vmem, ⟨6, _⟩ => ⟨S1448x256, .f32⟩
  | .local _ .vmem, ⟨7, _⟩ => ⟨S1448x256, .f32⟩
  | .local _ .vmem, ⟨8, _⟩ => ⟨S1448x256, .f32⟩
  | .local _ .vmem, ⟨9, _⟩ => ⟨S1448x256, .f32⟩
  | .local _ .vmem, ⟨10, _⟩ => ⟨S8x128, .f32⟩
  | .local _ .vmem, ⟨11, _⟩ => ⟨S1x1448x256, .f32⟩
  | .local _ .vmem, ⟨12, _⟩ => ⟨S1x1448x256, .f32⟩
  | .local _ .vmem, ⟨13, _⟩ => ⟨S1x1448x256, .f32⟩
  | .local _ .vmem, ⟨14, _⟩ => ⟨S1x1448x256, .f32⟩
  | .local _ .vmem, ⟨15, _⟩ => ⟨S1x1448x256, .f32⟩
  | .local _ .vmem, ⟨16, _⟩ => ⟨S1x1448x256, .f32⟩
  | .local _ .vmem, ⟨17, _⟩ => ⟨S1x1448x256, .f32⟩
  | .local _ .vmem, ⟨18, _⟩ => ⟨S1x1448x256, .f32⟩
  | _, _ => ⟨S2x1448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1448x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1448x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1448x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1448x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1448x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1448x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1448x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1448x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1448x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelAdamInIdeal.lean ====
abbrev S2x1448x1024 : Shape := ⟨3, ![2, 1448, 1024]⟩
abbrev S1448x1024 : Shape := ⟨2, ![1448, 1024]⟩
abbrev S8x128 : Shape := ⟨2, ![8, 128]⟩
abbrev S1x1448x256 : Shape := ⟨3, ![1, 1448, 256]⟩
abbrev S1448x256 : Shape := ⟨2, ![1448, 256]⟩

abbrev nBuf : Space → Nat
  | .hbm => 10
  | .vmem => 19
  | .smem => 0
  | _ => 0

abbrev bufTy : (tb : Table) → Fin (tcTables nBuf tb) → BufTy
  | .hbm, ⟨0, _⟩ => ⟨S2x1448x1024, .f32⟩
  | .hbm, ⟨1, _⟩ => ⟨S2x1448x1024, .f32⟩
  | .hbm, ⟨2, _⟩ => ⟨S2x1448x1024, .f32⟩
  | .hbm, ⟨3, _⟩ => ⟨S1448x1024, .f32⟩
  | .hbm, ⟨4, _⟩ => ⟨S1448x1024, .f32⟩
  | .hbm, ⟨5, _⟩ => ⟨S8x128, .f32⟩
  | .hbm, ⟨6, _⟩ => ⟨S2x1448x1024, .f32⟩
  | .hbm, ⟨7, _⟩ => ⟨S2x1448x1024, .f32⟩
  | .hbm, ⟨8, _⟩ => ⟨S2x1448x1024, .f32⟩
  | .hbm, ⟨9, _⟩ => ⟨S2x1448x1024, .f32⟩
  | .local _ .vmem, ⟨0, _⟩ => ⟨S1x1448x256, .f32⟩
  | .local _ .vmem, ⟨1, _⟩ => ⟨S1x1448x256, .f32⟩
  | .local _ .vmem, ⟨2, _⟩ => ⟨S1x1448x256, .f32⟩
  | .local _ .vmem, ⟨3, _⟩ => ⟨S1x1448x256, .f32⟩
  | .local _ .vmem, ⟨4, _⟩ => ⟨S1x1448x256, .f32⟩
  | .local _ .vmem, ⟨5, _⟩ => ⟨S1x1448x256, .f32⟩
  | .local _ .vmem, ⟨6, _⟩ => ⟨S1448x256, .f32⟩
  | .local _ .vmem, ⟨7, _⟩ => ⟨S1448x256, .f32⟩
  | .local _ .vmem, ⟨8, _⟩ => ⟨S1448x256, .f32⟩
  | .local _ .vmem, ⟨9, _⟩ => ⟨S1448x256, .f32⟩
  | .local _ .vmem, ⟨10, _⟩ => ⟨S8x128, .f32⟩
  | .local _ .vmem, ⟨11, _⟩ => ⟨S1x1448x256, .f32⟩
  | .local _ .vmem, ⟨12, _⟩ => ⟨S1x1448x256, .f32⟩
  | .local _ .vmem, ⟨13, _⟩ => ⟨S1x1448x256, .f32⟩
  | .local _ .vmem, ⟨14, _⟩ => ⟨S1x1448x256, .f32⟩
  | .local _ .vmem, ⟨15, _⟩ => ⟨S1x1448x256, .f32⟩
  | .local _ .vmem, ⟨16, _⟩ => ⟨S1x1448x256, .f32⟩
  | .local _ .vmem, ⟨17, _⟩ => ⟨S1x1448x256, .f32⟩
  | .local _ .vmem, ⟨18, _⟩ => ⟨S1x1448x256, .f32⟩
  | _, _ => ⟨S2x1448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1448x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1448x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1448x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1448x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1448x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1448x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1448x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1448x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1448x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceAdamInIdeal.lean ====
abbrev S2x1448x1024 : Shape := ⟨3, ![2, 1448, 1024]⟩
abbrev S1448x1024 : Shape := ⟨2, ![1448, 1024]⟩
abbrev S8x128 : Shape := ⟨2, ![8, 128]⟩
abbrev S1x1448x1024 : Shape := ⟨3, ![1, 1448, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x1448x1024, .f32⟩
  | .hbm, ⟨1, _⟩ => ⟨S2x1448x1024, .f32⟩
  | .hbm, ⟨2, _⟩ => ⟨S2x1448x1024, .f32⟩
  | .hbm, ⟨3, _⟩ => ⟨S1448x1024, .f32⟩
  | .hbm, ⟨4, _⟩ => ⟨S1448x1024, .f32⟩
  | .hbm, ⟨5, _⟩ => ⟨S8x128, .f32⟩
  | .hbm, ⟨6, _⟩ => ⟨S1x1448x1024, .f32⟩
  | .hbm, ⟨7, _⟩ => ⟨S1x1448x1024, .f32⟩
  | .hbm, ⟨8, _⟩ => ⟨S2x1448x1024, .f32⟩
  | .hbm, ⟨9, _⟩ => ⟨S_, .f32⟩
  | .hbm, ⟨10, _⟩ => ⟨S2x1448x1024, .f32⟩
  | .hbm, ⟨11, _⟩ => ⟨S2x1448x1024, .f32⟩
  | .hbm, ⟨12, _⟩ => ⟨S_, .f32⟩
  | .hbm, ⟨13, _⟩ => ⟨S2x1448x1024, .f32⟩
  | .hbm, ⟨14, _⟩ => ⟨S2x1448x1024, .f32⟩
  | .hbm, ⟨15, _⟩ => ⟨S2x1448x1024, .f32⟩
  | .hbm, ⟨16, _⟩ => ⟨S_, .f32⟩
  | .hbm, ⟨17, _⟩ => ⟨S2x1448x1024, .f32⟩
  | .hbm, ⟨18, _⟩ => ⟨S2x1448x1024, .f32⟩
  | .hbm, ⟨19, _⟩ => ⟨S2x1448x1024, .f32⟩
  | .hbm, ⟨20, _⟩ => ⟨S_, .f32⟩
  | .hbm, ⟨21, _⟩ => ⟨S2x1448x1024, .f32⟩
  | .hbm, ⟨22, _⟩ => ⟨S2x1448x1024, .f32⟩
  | .hbm, ⟨23, _⟩ => ⟨S2x1448x1024, .f32⟩
  | .hbm, ⟨24, _⟩ => ⟨S_, .f32⟩
  | .hbm, ⟨25, _⟩ => ⟨S2x1448x1024, .f32⟩
  | .hbm, ⟨26, _⟩ => ⟨S2x1448x1024, .f32⟩
  | .hbm, ⟨27, _⟩ => ⟨S_, .f32⟩
  | .hbm, ⟨28, _⟩ => ⟨S2x1448x1024, .f32⟩
  | .hbm, ⟨29, _⟩ => ⟨S2x1448x1024, .f32⟩
  | .hbm, ⟨30, _⟩ => ⟨S2x1448x1024, .f32⟩
  | .hbm, ⟨31, _⟩ => ⟨S_, .f32⟩
  | .hbm, ⟨32, _⟩ => ⟨S2x1448x1024, .f32⟩
  | .hbm, ⟨33, _⟩ => ⟨S2x1448x1024, .f32⟩
  | .hbm, ⟨34, _⟩ => ⟨S2x1448x1024, .f32⟩
  | .hbm, ⟨35, _⟩ => ⟨S_, .f32⟩
  | .hbm, ⟨36, _⟩ => ⟨S2x1448x1024, .f32⟩
  | .hbm, ⟨37, _⟩ => ⟨S2x1448x1024, .f32⟩
  | .hbm, ⟨38, _⟩ => ⟨S2x1448x1024, .f32⟩
  | .hbm, ⟨39, _⟩ => ⟨S_, .f32⟩
  | .hbm, ⟨40, _⟩ => ⟨S2x1448x1024, .f32⟩
  | .hbm, ⟨41, _⟩ => ⟨S2x1448x1024, .f32⟩
  | _, _ => ⟨S2x1448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== KernelAdamO.lean ====
abbrev S2x512x256 : Shape := ⟨3, ![2, 512, 256]⟩
abbrev S512x256 : Shape := ⟨2, ![512, 256]⟩
abbrev S8x128 : Shape := ⟨2, ![8, 128]⟩
abbrev S1x256x256 : Shape := ⟨3, ![1, 256, 256]⟩
abbrev S256x256 : Shape := ⟨2, ![256, 256]⟩

abbrev nBuf : Space → Nat
  | .hbm => 10
  | .vmem => 19
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S512x256, .f32⟩
  | .hbm, ⟨4, _⟩ => ⟨S512x256, .f32⟩
  | .hbm, ⟨5, _⟩ => ⟨S8x128, .f32⟩
  | .hbm, ⟨6, _⟩ => ⟨S2x512x256, .f32⟩
  | .hbm, ⟨7, _⟩ => ⟨S2x512x256, .f32⟩
  | .hbm, ⟨8, _⟩ => ⟨S2x512x256, .f32⟩
  | .hbm, ⟨9, _⟩ => ⟨S2x512x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S8x128, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelAdamOIdeal.lean ====
abbrev S2x512x256 : Shape := ⟨3, ![2, 512, 256]⟩
abbrev S512x256 : Shape := ⟨2, ![512, 256]⟩
abbrev S8x128 : Shape := ⟨2, ![8, 128]⟩
abbrev S1x256x256 : Shape := ⟨3, ![1, 256, 256]⟩
abbrev S256x256 : Shape := ⟨2, ![256, 256]⟩

abbrev nBuf : Space → Nat
  | .hbm => 10
  | .vmem => 19
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S512x256, .f32⟩
  | .hbm, ⟨4, _⟩ => ⟨S512x256, .f32⟩
  | .hbm, ⟨5, _⟩ => ⟨S8x128, .f32⟩
  | .hbm, ⟨6, _⟩ => ⟨S2x512x256, .f32⟩
  | .hbm, ⟨7, _⟩ => ⟨S2x512x256, .f32⟩
  | .hbm, ⟨8, _⟩ => ⟨S2x512x256, .f32⟩
  | .hbm, ⟨9, _⟩ => ⟨S2x512x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S8x128, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceAdamOIdeal.lean ====
abbrev S2x512x256 : Shape := ⟨3, ![2, 512, 256]⟩
abbrev S512x256 : Shape := ⟨2, ![512, 256]⟩
abbrev S8x128 : Shape := ⟨2, ![8, 128]⟩
abbrev S1x512x256 : Shape := ⟨3, ![1, 512, 256]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S512x256, .f32⟩
  | .hbm, ⟨4, _⟩ => ⟨S512x256, .f32⟩
  | .hbm, ⟨5, _⟩ => ⟨S8x128, .f32⟩
  | .hbm, ⟨6, _⟩ => ⟨S1x512x256, .f32⟩
  | .hbm, ⟨7, _⟩ => ⟨S1x512x256, .f32⟩
  | .hbm, ⟨8, _⟩ => ⟨S2x512x256, .f32⟩
  | .hbm, ⟨9, _⟩ => ⟨S_, .f32⟩
  | .hbm, ⟨10, _⟩ => ⟨S2x512x256, .f32⟩
  | .hbm, ⟨11, _⟩ => ⟨S2x512x256, .f32⟩
  | .hbm, ⟨12, _⟩ => ⟨S_, .f32⟩
  | .hbm, ⟨13, _⟩ => ⟨S2x512x256, .f32⟩
  | .hbm, ⟨14, _⟩ => ⟨S2x512x256, .f32⟩
  | .hbm, ⟨15, _⟩ => ⟨S2x512x256, .f32⟩
  | .hbm, ⟨16, _⟩ => ⟨S_, .f32⟩
  | .hbm, ⟨17, _⟩ => ⟨S2x512x256, .f32⟩
  | .hbm, ⟨18, _⟩ => ⟨S2x512x256, .f32⟩
  | .hbm, ⟨19, _⟩ => ⟨S2x512x256, .f32⟩
  | .hbm, ⟨20, _⟩ => ⟨S_, .f32⟩
  | .hbm, ⟨21, _⟩ => ⟨S2x512x256, .f32⟩
  | .hbm, ⟨22, _⟩ => ⟨S2x512x256, .f32⟩
  | .hbm, ⟨23, _⟩ => ⟨S2x512x256, .f32⟩
  | .hbm, ⟨24, _⟩ => ⟨S_, .f32⟩
  | .hbm, ⟨25, _⟩ => ⟨S2x512x256, .f32⟩
  | .hbm, ⟨26, _⟩ => ⟨S2x512x256, .f32⟩
  | .hbm, ⟨27, _⟩ => ⟨S_, .f32⟩
  | .hbm, ⟨28, _⟩ => ⟨S2x512x256, .f32⟩
  | .hbm, ⟨29, _⟩ => ⟨S2x512x256, .f32⟩
  | .hbm, ⟨30, _⟩ => ⟨S2x512x256, .f32⟩
  | .hbm, ⟨31, _⟩ => ⟨S_, .f32⟩
  | .hbm, ⟨32, _⟩ => ⟨S2x512x256, .f32⟩
  | .hbm, ⟨33, _⟩ => ⟨S2x512x256, .f32⟩
  | .hbm, ⟨34, _⟩ => ⟨S2x512x256, .f32⟩
  | .hbm, ⟨35, _⟩ => ⟨S_, .f32⟩
  | .hbm, ⟨36, _⟩ => ⟨S2x512x256, .f32⟩
  | .hbm, ⟨37, _⟩ => ⟨S2x512x256, .f32⟩
  | .hbm, ⟨38, _⟩ => ⟨S2x512x256, .f32⟩
  | .hbm, ⟨39, _⟩ => ⟨S_, .f32⟩
  | .hbm, ⟨40, _⟩ => ⟨S2x512x256, .f32⟩
  | .hbm, ⟨41, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== KernelAdamUq.lean ====
abbrev S2x192x384 : Shape := ⟨3, ![2, 192, 384]⟩
abbrev S192x384 : Shape := ⟨2, ![192, 384]⟩
abbrev S8x128 : Shape := ⟨2, ![8, 128]⟩
abbrev S1x192x384 : Shape := ⟨3, ![1, 192, 384]⟩

abbrev nBuf : Space → Nat
  | .hbm => 10
  | .vmem => 17
  | .smem => 0
  | _ => 0

abbrev bufTy : (tb : Table) → Fin (tcTables nBuf tb) → BufTy
  | .hbm, ⟨0, _⟩ => ⟨S2x192x384, .f32⟩
  | .hbm, ⟨1, _⟩ => ⟨S2x192x384, .f32⟩
  | .hbm, ⟨2, _⟩ => ⟨S2x192x384, .f32⟩
  | .hbm, ⟨3, _⟩ => ⟨S192x384, .f32⟩
  | .hbm, ⟨4, _⟩ => ⟨S192x384, .f32⟩
  | .hbm, ⟨5, _⟩ => ⟨S8x128, .f32⟩
  | .hbm, ⟨6, _⟩ => ⟨S2x192x384, .f32⟩
  | .hbm, ⟨7, _⟩ => ⟨S2x192x384, .f32⟩
  | .hbm, ⟨8, _⟩ => ⟨S2x192x384, .f32⟩
  | .hbm, ⟨9, _⟩ => ⟨S2x192x384, .f32⟩
  | .local _ .vmem, ⟨0, _⟩ => ⟨S1x192x384, .f32⟩
  | .local _ .vmem, ⟨1, _⟩ => ⟨S1x192x384, .f32⟩
  | .local _ .vmem, ⟨2, _⟩ => ⟨S1x192x384, .f32⟩
  | .local _ .vmem, ⟨3, _⟩ => ⟨S1x192x384, .f32⟩
  | .local _ .vmem, ⟨4, _⟩ => ⟨S1x192x384, .f32⟩
  | .local _ .vmem, ⟨5, _⟩ => ⟨S1x192x384, .f32⟩
  | .local _ .vmem, ⟨6, _⟩ => ⟨S192x384, .f32⟩
  | .local _ .vmem, ⟨7, _⟩ => ⟨S192x384, .f32⟩
  | .local _ .vmem, ⟨8, _⟩ => ⟨S8x128, .f32⟩
  | .local _ .vmem, ⟨9, _⟩ => ⟨S1x192x384, .f32⟩
  | .local _ .vmem, ⟨10, _⟩ => ⟨S1x192x384, .f32⟩
  | .local _ .vmem, ⟨11, _⟩ => ⟨S1x192x384, .f32⟩
  | .local _ .vmem, ⟨12, _⟩ => ⟨S1x192x384, .f32⟩
  | .local _ .vmem, ⟨13, _⟩ => ⟨S1x192x384, .f32⟩
  | .local _ .vmem, ⟨14, _⟩ => ⟨S1x192x384, .f32⟩
  | .local _ .vmem, ⟨15, _⟩ => ⟨S1x192x384, .f32⟩
  | .local _ .vmem, ⟨16, _⟩ => ⟨S1x192x384, .f32⟩
  | _, _ => ⟨S2x192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x192x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S192x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S192x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x192x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x192x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x192x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelAdamUqIdeal.lean ====
abbrev S2x192x384 : Shape := ⟨3, ![2, 192, 384]⟩
abbrev S192x384 : Shape := ⟨2, ![192, 384]⟩
abbrev S8x128 : Shape := ⟨2, ![8, 128]⟩
abbrev S1x192x384 : Shape := ⟨3, ![1, 192, 384]⟩

abbrev nBuf : Space → Nat
  | .hbm => 10
  | .vmem => 17
  | .smem => 0
  | _ => 0

abbrev bufTy : (tb : Table) → Fin (tcTables nBuf tb) → BufTy
  | .hbm, ⟨0, _⟩ => ⟨S2x192x384, .f32⟩
  | .hbm, ⟨1, _⟩ => ⟨S2x192x384, .f32⟩
  | .hbm, ⟨2, _⟩ => ⟨S2x192x384, .f32⟩
  | .hbm, ⟨3, _⟩ => ⟨S192x384, .f32⟩
  | .hbm, ⟨4, _⟩ => ⟨S192x384, .f32⟩
  | .hbm, ⟨5, _⟩ => ⟨S8x128, .f32⟩
  | .hbm, ⟨6, _⟩ => ⟨S2x192x384, .f32⟩
  | .hbm, ⟨7, _⟩ => ⟨S2x192x384, .f32⟩
  | .hbm, ⟨8, _⟩ => ⟨S2x192x384, .f32⟩
  | .hbm, ⟨9, _⟩ => ⟨S2x192x384, .f32⟩
  | .local _ .vmem, ⟨0, _⟩ => ⟨S1x192x384, .f32⟩
  | .local _ .vmem, ⟨1, _⟩ => ⟨S1x192x384, .f32⟩
  | .local _ .vmem, ⟨2, _⟩ => ⟨S1x192x384, .f32⟩
  | .local _ .vmem, ⟨3, _⟩ => ⟨S1x192x384, .f32⟩
  | .local _ .vmem, ⟨4, _⟩ => ⟨S1x192x384, .f32⟩
  | .local _ .vmem, ⟨5, _⟩ => ⟨S1x192x384, .f32⟩
  | .local _ .vmem, ⟨6, _⟩ => ⟨S192x384, .f32⟩
  | .local _ .vmem, ⟨7, _⟩ => ⟨S192x384, .f32⟩
  | .local _ .vmem, ⟨8, _⟩ => ⟨S8x128, .f32⟩
  | .local _ .vmem, ⟨9, _⟩ => ⟨S1x192x384, .f32⟩
  | .local _ .vmem, ⟨10, _⟩ => ⟨S1x192x384, .f32⟩
  | .local _ .vmem, ⟨11, _⟩ => ⟨S1x192x384, .f32⟩
  | .local _ .vmem, ⟨12, _⟩ => ⟨S1x192x384, .f32⟩
  | .local _ .vmem, ⟨13, _⟩ => ⟨S1x192x384, .f32⟩
  | .local _ .vmem, ⟨14, _⟩ => ⟨S1x192x384, .f32⟩
  | .local _ .vmem, ⟨15, _⟩ => ⟨S1x192x384, .f32⟩
  | .local _ .vmem, ⟨16, _⟩ => ⟨S1x192x384, .f32⟩
  | _, _ => ⟨S2x192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x192x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S192x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S192x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x192x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x192x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x192x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceAdamUqIdeal.lean ====
abbrev S2x192x384 : Shape := ⟨3, ![2, 192, 384]⟩
abbrev S192x384 : Shape := ⟨2, ![192, 384]⟩
abbrev S8x128 : Shape := ⟨2, ![8, 128]⟩
abbrev S1x192x384 : Shape := ⟨3, ![1, 192, 384]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x192x384, .f32⟩
  | .hbm, ⟨1, _⟩ => ⟨S2x192x384, .f32⟩
  | .hbm, ⟨2, _⟩ => ⟨S2x192x384, .f32⟩
  | .hbm, ⟨3, _⟩ => ⟨S192x384, .f32⟩
  | .hbm, ⟨4, _⟩ => ⟨S192x384, .f32⟩
  | .hbm, ⟨5, _⟩ => ⟨S8x128, .f32⟩
  | .hbm, ⟨6, _⟩ => ⟨S1x192x384, .f32⟩
  | .hbm, ⟨7, _⟩ => ⟨S1x192x384, .f32⟩
  | .hbm, ⟨8, _⟩ => ⟨S2x192x384, .f32⟩
  | .hbm, ⟨9, _⟩ => ⟨S_, .f32⟩
  | .hbm, ⟨10, _⟩ => ⟨S2x192x384, .f32⟩
  | .hbm, ⟨11, _⟩ => ⟨S2x192x384, .f32⟩
  | .hbm, ⟨12, _⟩ => ⟨S_, .f32⟩
  | .hbm, ⟨13, _⟩ => ⟨S2x192x384, .f32⟩
  | .hbm, ⟨14, _⟩ => ⟨S2x192x384, .f32⟩
  | .hbm, ⟨15, _⟩ => ⟨S2x192x384, .f32⟩
  | .hbm, ⟨16, _⟩ => ⟨S_, .f32⟩
  | .hbm, ⟨17, _⟩ => ⟨S2x192x384, .f32⟩
  | .hbm, ⟨18, _⟩ => ⟨S2x192x384, .f32⟩
  | .hbm, ⟨19, _⟩ => ⟨S2x192x384, .f32⟩
  | .hbm, ⟨20, _⟩ => ⟨S_, .f32⟩
  | .hbm, ⟨21, _⟩ => ⟨S2x192x384, .f32⟩
  | .hbm, ⟨22, _⟩ => ⟨S2x192x384, .f32⟩
  | .hbm, ⟨23, _⟩ => ⟨S2x192x384, .f32⟩
  | .hbm, ⟨24, _⟩ => ⟨S_, .f32⟩
  | .hbm, ⟨25, _⟩ => ⟨S2x192x384, .f32⟩
  | .hbm, ⟨26, _⟩ => ⟨S2x192x384, .f32⟩
  | .hbm, ⟨27, _⟩ => ⟨S_, .f32⟩
  | .hbm, ⟨28, _⟩ => ⟨S2x192x384, .f32⟩
  | .hbm, ⟨29, _⟩ => ⟨S2x192x384, .f32⟩
  | .hbm, ⟨30, _⟩ => ⟨S2x192x384, .f32⟩
  | .hbm, ⟨31, _⟩ => ⟨S_, .f32⟩
  | .hbm, ⟨32, _⟩ => ⟨S2x192x384, .f32⟩
  | .hbm, ⟨33, _⟩ => ⟨S2x192x384, .f32⟩
  | .hbm, ⟨34, _⟩ => ⟨S2x192x384, .f32⟩
  | .hbm, ⟨35, _⟩ => ⟨S_, .f32⟩
  | .hbm, ⟨36, _⟩ => ⟨S2x192x384, .f32⟩
  | .hbm, ⟨37, _⟩ => ⟨S2x192x384, .f32⟩
  | .hbm, ⟨38, _⟩ => ⟨S2x192x384, .f32⟩
  | .hbm, ⟨39, _⟩ => ⟨S_, .f32⟩
  | .hbm, ⟨40, _⟩ => ⟨S2x192x384, .f32⟩
  | .hbm, ⟨41, _⟩ => ⟨S2x192x384, .f32⟩
  | _, _ => ⟨S2x192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== KernelAdamUkv.lean ====
abbrev S2x256x256 : Shape := ⟨3, ![2, 256, 256]⟩
abbrev S256x256 : Shape := ⟨2, ![256, 256]⟩
abbrev S8x128 : Shape := ⟨2, ![8, 128]⟩
abbrev S1x256x256 : Shape := ⟨3, ![1, 256, 256]⟩

abbrev nBuf : Space → Nat
  | .hbm => 10
  | .vmem => 17
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S256x256, .f32⟩
  | .hbm, ⟨4, _⟩ => ⟨S256x256, .f32⟩
  | .hbm, ⟨5, _⟩ => ⟨S8x128, .f32⟩
  | .hbm, ⟨6, _⟩ => ⟨S2x256x256, .f32⟩
  | .hbm, ⟨7, _⟩ => ⟨S2x256x256, .f32⟩
  | .hbm, ⟨8, _⟩ => ⟨S2x256x256, .f32⟩
  | .hbm, ⟨9, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | .local _ .vmem, ⟨7, _⟩ => ⟨S256x256, .f32⟩
  | .local _ .vmem, ⟨8, _⟩ => ⟨S8x128, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelAdamUkvIdeal.lean ====
abbrev S2x256x256 : Shape := ⟨3, ![2, 256, 256]⟩
abbrev S256x256 : Shape := ⟨2, ![256, 256]⟩
abbrev S8x128 : Shape := ⟨2, ![8, 128]⟩
abbrev S1x256x256 : Shape := ⟨3, ![1, 256, 256]⟩

abbrev nBuf : Space → Nat
  | .hbm => 10
  | .vmem => 17
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S256x256, .f32⟩
  | .hbm, ⟨4, _⟩ => ⟨S256x256, .f32⟩
  | .hbm, ⟨5, _⟩ => ⟨S8x128, .f32⟩
  | .hbm, ⟨6, _⟩ => ⟨S2x256x256, .f32⟩
  | .hbm, ⟨7, _⟩ => ⟨S2x256x256, .f32⟩
  | .hbm, ⟨8, _⟩ => ⟨S2x256x256, .f32⟩
  | .hbm, ⟨9, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | .local _ .vmem, ⟨7, _⟩ => ⟨S256x256, .f32⟩
  | .local _ .vmem, ⟨8, _⟩ => ⟨S8x128, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceAdamUkvIdeal.lean ====
abbrev S2x256x256 : Shape := ⟨3, ![2, 256, 256]⟩
abbrev S256x256 : Shape := ⟨2, ![256, 256]⟩
abbrev S8x128 : Shape := ⟨2, ![8, 128]⟩
abbrev S1x256x256 : Shape := ⟨3, ![1, 256, 256]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S256x256, .f32⟩
  | .hbm, ⟨4, _⟩ => ⟨S256x256, .f32⟩
  | .hbm, ⟨5, _⟩ => ⟨S8x128, .f32⟩
  | .hbm, ⟨6, _⟩ => ⟨S1x256x256, .f32⟩
  | .hbm, ⟨7, _⟩ => ⟨S1x256x256, .f32⟩
  | .hbm, ⟨8, _⟩ => ⟨S2x256x256, .f32⟩
  | .hbm, ⟨9, _⟩ => ⟨S_, .f32⟩
  | .hbm, ⟨10, _⟩ => ⟨S2x256x256, .f32⟩
  | .hbm, ⟨11, _⟩ => ⟨S2x256x256, .f32⟩
  | .hbm, ⟨12, _⟩ => ⟨S_, .f32⟩
  | .hbm, ⟨13, _⟩ => ⟨S2x256x256, .f32⟩
  | .hbm, ⟨14, _⟩ => ⟨S2x256x256, .f32⟩
  | .hbm, ⟨15, _⟩ => ⟨S2x256x256, .f32⟩
  | .hbm, ⟨16, _⟩ => ⟨S_, .f32⟩
  | .hbm, ⟨17, _⟩ => ⟨S2x256x256, .f32⟩
  | .hbm, ⟨18, _⟩ => ⟨S2x256x256, .f32⟩
  | .hbm, ⟨19, _⟩ => ⟨S2x256x256, .f32⟩
  | .hbm, ⟨20, _⟩ => ⟨S_, .f32⟩
  | .hbm, ⟨21, _⟩ => ⟨S2x256x256, .f32⟩
  | .hbm, ⟨22, _⟩ => ⟨S2x256x256, .f32⟩
  | .hbm, ⟨23, _⟩ => ⟨S2x256x256, .f32⟩
  | .hbm, ⟨24, _⟩ => ⟨S_, .f32⟩
  | .hbm, ⟨25, _⟩ => ⟨S2x256x256, .f32⟩
  | .hbm, ⟨26, _⟩ => ⟨S2x256x256, .f32⟩
  | .hbm, ⟨27, _⟩ => ⟨S_, .f32⟩
  | .hbm, ⟨28, _⟩ => ⟨S2x256x256, .f32⟩
  | .hbm, ⟨29, _⟩ => ⟨S2x256x256, .f32⟩
  | .hbm, ⟨30, _⟩ => ⟨S2x256x256, .f32⟩
  | .hbm, ⟨31, _⟩ => ⟨S_, .f32⟩
  | .hbm, ⟨32, _⟩ => ⟨S2x256x256, .f32⟩
  | .hbm, ⟨33, _⟩ => ⟨S2x256x256, .f32⟩
  | .hbm, ⟨34, _⟩ => ⟨S2x256x256, .f32⟩
  | .hbm, ⟨35, _⟩ => ⟨S_, .f32⟩
  | .hbm, ⟨36, _⟩ => ⟨S2x256x256, .f32⟩
  | .hbm, ⟨37, _⟩ => ⟨S2x256x256, .f32⟩
  | .hbm, ⟨38, _⟩ => ⟨S2x256x256, .f32⟩
  | .hbm, ⟨39, _⟩ => ⟨S_, .f32⟩
  | .hbm, ⟨40, _⟩ => ⟨S2x256x256, .f32⟩
  | .hbm, ⟨41, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== KernelAdamOut.lean ====
abbrev S2x256x1024 : Shape := ⟨3, ![2, 256, 1024]⟩
abbrev S256x1024 : Shape := ⟨2, ![256, 1024]⟩
abbrev S8x128 : Shape := ⟨2, ![8, 128]⟩
abbrev S1x256x1024 : Shape := ⟨3, ![1, 256, 1024]⟩

abbrev nBuf : Space → Nat
  | .hbm => 10
  | .vmem => 17
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S8x128, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S8x128, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceAdamOutIdeal.lean ====
abbrev S2x256x1024 : Shape := ⟨3, ![2, 256, 1024]⟩
abbrev S256x1024 : Shape := ⟨2, ![256, 1024]⟩
abbrev S8x128 : Shape := ⟨2, ![8, 128]⟩
abbrev S1x256x1024 : Shape := ⟨3, ![1, 256, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S8x128, .f32⟩
  | .hbm, ⟨6, _⟩ => ⟨S1x256x1024, .f32⟩
  | .hbm, ⟨7, _⟩ => ⟨S1x256x1024, .f32⟩
  | .hbm, ⟨8, _⟩ => ⟨S2x256x1024, .f32⟩
  | .hbm, ⟨9, _⟩ => ⟨S_, .f32⟩
  | .hbm, ⟨10, _⟩ => ⟨S2x256x1024, .f32⟩
  | .hbm, ⟨11, _⟩ => ⟨S2x256x1024, .f32⟩
  | .hbm, ⟨12, _⟩ => ⟨S_, .f32⟩
  | .hbm, ⟨13, _⟩ => ⟨S2x256x1024, .f32⟩
  | .hbm, ⟨14, _⟩ => ⟨S2x256x1024, .f32⟩
  | .hbm, ⟨15, _⟩ => ⟨S2x256x1024, .f32⟩
  | .hbm, ⟨16, _⟩ => ⟨S_, .f32⟩
  | .hbm, ⟨17, _⟩ => ⟨S2x256x1024, .f32⟩
  | .hbm, ⟨18, _⟩ => ⟨S2x256x1024, .f32⟩
  | .hbm, ⟨19, _⟩ => ⟨S2x256x1024, .f32⟩
  | .hbm, ⟨20, _⟩ => ⟨S_, .f32⟩
  | .hbm, ⟨21, _⟩ => ⟨S2x256x1024, .f32⟩
  | .hbm, ⟨22, _⟩ => ⟨S2x256x1024, .f32⟩
  | .hbm, ⟨23, _⟩ => ⟨S2x256x1024, .f32⟩
  | .hbm, ⟨24, _⟩ => ⟨S_, .f32⟩
  | .hbm, ⟨25, _⟩ => ⟨S2x256x1024, .f32⟩
  | .hbm, ⟨26, _⟩ => ⟨S2x256x1024, .f32⟩
  | .hbm, ⟨27, _⟩ => ⟨S_, .f32⟩
  | .hbm, ⟨28, _⟩ => ⟨S2x256x1024, .f32⟩
  | .hbm, ⟨29, _⟩ => ⟨S2x256x1024, .f32⟩
  | .hbm, ⟨30, _⟩ => ⟨S2x256x1024, .f32⟩
  | .hbm, ⟨31, _⟩ => ⟨S_, .f32⟩
  | .hbm, ⟨32, _⟩ => ⟨S2x256x1024, .f32⟩
  | .hbm, ⟨33, _⟩ => ⟨S2x256x1024, .f32⟩
  | .hbm, ⟨34, _⟩ => ⟨S2x256x1024, .f32⟩
  | .hbm, ⟨35, _⟩ => ⟨S_, .f32⟩
  | .hbm, ⟨36, _⟩ => ⟨S2x256x1024, .f32⟩
  | .hbm, ⟨37, _⟩ => ⟨S2x256x1024, .f32⟩
  | .hbm, ⟨38, _⟩ => ⟨S2x256x1024, .f32⟩
  | .hbm, ⟨39, _⟩ => ⟨S_, .f32⟩
  | .hbm, ⟨40, _⟩ => ⟨S2x256x1024, .f32⟩
  | .hbm, ⟨41, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== KernelAdamSmall.lean ====
abbrev S1x1536x128 : Shape := ⟨3, ![1, 1536, 128]⟩
abbrev S1536x128 : Shape := ⟨2, ![1536, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x1536x128, .f32⟩
  | .hbm, ⟨1, _⟩ => ⟨S1x1536x128, .f32⟩
  | .hbm, ⟨2, _⟩ => ⟨S1x1536x128, .f32⟩
  | .hbm, ⟨3, _⟩ => ⟨S1536x128, .f32⟩
  | .hbm, ⟨4, _⟩ => ⟨S1x1536x128, .f32⟩
  | .hbm, ⟨5, _⟩ => ⟨S1x1536x128, .f32⟩
  | .hbm, ⟨6, _⟩ => ⟨S1x1536x128, .f32⟩
  | .hbm, ⟨7, _⟩ => ⟨S1x1536x128, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S256x128, .f32⟩
  | .local _ .vmem, ⟨7, _⟩ => ⟨S256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S1x1536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 6], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamSmallIdeal.lean ====
abbrev S1x1536x128 : Shape := ⟨3, ![1, 1536, 128]⟩
abbrev S1536x128 : Shape := ⟨2, ![1536, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1536x128, .f32⟩
  | .hbm, ⟨1, _⟩ => ⟨S1x1536x128, .f32⟩
  | .hbm, ⟨2, _⟩ => ⟨S1x1536x128, .f32⟩
  | .hbm, ⟨3, _⟩ => ⟨S1536x128, .f32⟩
  | .hbm, ⟨4, _⟩ => ⟨S1x1536x128, .f32⟩
  | .hbm, ⟨5, _⟩ => ⟨S_, .f32⟩
  | .hbm, ⟨6, _⟩ => ⟨S1x1536x128, .f32⟩
  | .hbm, ⟨7, _⟩ => ⟨S1x1536x128, .f32⟩
  | .hbm, ⟨8, _⟩ => ⟨S_, .f32⟩
  | .hbm, ⟨9, _⟩ => ⟨S1x1536x128, .f32⟩
  | .hbm, ⟨10, _⟩ => ⟨S1x1536x128, .f32⟩
  | .hbm, ⟨11, _⟩ => ⟨S1x1536x128, .f32⟩
  | .hbm, ⟨12, _⟩ => ⟨S_, .f32⟩
  | .hbm, ⟨13, _⟩ => ⟨S1x1536x128, .f32⟩
  | .hbm, ⟨14, _⟩ => ⟨S1x1536x128, .f32⟩
  | .hbm, ⟨15, _⟩ => ⟨S1x1536x128, .f32⟩
  | .hbm, ⟨16, _⟩ => ⟨S_, .f32⟩
  | .hbm, ⟨17, _⟩ => ⟨S1x1536x128, .f32⟩
  | .hbm, ⟨18, _⟩ => ⟨S1x1536x128, .f32⟩
  | .hbm, ⟨19, _⟩ => ⟨S1x1536x128, .f32⟩
  | .hbm, ⟨20, _⟩ => ⟨S_, .f32⟩
  | .hbm, ⟨21, _⟩ => ⟨S1x1536x128, .f32⟩
  | .hbm, ⟨22, _⟩ => ⟨S1x1536x128, .f32⟩
  | .hbm, ⟨23, _⟩ => ⟨S_, .f32⟩
  | .hbm, ⟨24, _⟩ => ⟨S1x1536x128, .f32⟩
  | .hbm, ⟨25, _⟩ => ⟨S1x1536x128, .f32⟩
  | .hbm, ⟨26, _⟩ => ⟨S1x1536x128, .f32⟩
  | .hbm, ⟨27, _⟩ => ⟨S_, .f32⟩
  | .hbm, ⟨28, _⟩ => ⟨S1x1536x128, .f32⟩
  | .hbm, ⟨29, _⟩ => ⟨S1x1536x128, .f32⟩
  | .hbm, ⟨30, _⟩ => ⟨S1x1536x128, .f32⟩
  | .hbm, ⟨31, _⟩ => ⟨S_, .f32⟩
  | .hbm, ⟨32, _⟩ => ⟨S1x1536x128, .f32⟩
  | .hbm, ⟨33, _⟩ => ⟨S1x1536x128, .f32⟩
  | .hbm, ⟨34, _⟩ => ⟨S1x1536x128, .f32⟩
  | .hbm, ⟨35, _⟩ => ⟨S_, .f32⟩
  | .hbm, ⟨36, _⟩ => ⟨S1x1536x128, .f32⟩
  | .hbm, ⟨37, _⟩ => ⟨S1x1536x128, .f32⟩
  | _, _ => ⟨S1x1536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== KernelLoss.lean ====
abbrev S2048x1024 : Shape := ⟨2, ![2048, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S1x1024, .f32⟩
  | .hbm, ⟨5, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_19 : BitVec 32 := 0#32
  let v55 : BitVec 1 := Scalar.cmpi .ne v54 c0_i32_19
  v55

def k0_cond2 (i : grid0.Coords) : BitVec 1 :=
  let arg0 : BitVec 32 := BitVec.ofNat 32 (i 0).val
  let c0_i32_20 : BitVec 32 := 0#32
  let v56 : BitVec 1 := Scalar.cmpi .sgt arg0 c0_i32_20
  let v57 : BitVec 32 := Scalar.extui v56
  let c0_i32_21 : BitVec 32 := 0#32
  let v58 : BitVec 1 := Scalar.cmpi .ne v57 c0_i32_21
  v58

def k0_cond3 (i : grid0.Coords) : BitVec 1 :=
  let arg0 : BitVec 32 := BitVec.ofNat 32 (i 0).val
  let c0_i32_22 : BitVec 32 := 0#32
  let v59 : BitVec 1 := Scalar.cmpi .eq arg0 c0_i32_22
  let v60 : BitVec 32 := Scalar.extui v59
  let c0_i32_23 : BitVec 32 := 0#32
  let v61 : BitVec 1 := Scalar.cmpi .ne v60 c0_i32_23
  v61

def k0_cond4 (i : grid0.Coords) : BitVec 1 :=
  let arg0 : BitVec 32 := BitVec.ofNat 32 (i 0).val
  let c0_i32_24 : BitVec 32 := 0#32
  let v62 : BitVec 1 := Scalar.cmpi .sgt arg0 c0_i32_24
  let v63 : BitVec 32 := Scalar.extui v62
  let c0_i32_25 : BitVec 32 := 0#32
  let v64 : BitVec 1 := Scalar.cmpi .ne v63 c0_i32_25
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== KernelNorm.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelDnorm.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32_17 : BitVec 32 := 0#32
  let v42 : BitVec 1 := Scalar.cmpi .sgt arg0 c0_i32_17
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceDnormIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== KernelBranch.lean ====
abbrev S2048x512 : Shape := ⟨2, ![2048, 512]⟩
abbrev S4x512x256 : Shape := ⟨3, ![4, 512, 256]⟩
abbrev S2048x1024 : Shape := ⟨2, ![2048, 1024]⟩
abbrev S512x512 : Shape := ⟨2, ![512, 512]⟩
abbrev S1x512x256 : Shape := ⟨3, ![1, 512, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S4x512x256, .bf16⟩
  | .hbm, ⟨2, _⟩ => ⟨S2048x1024, .f32⟩
  | .local _ .vmem, ⟨0, _⟩ => ⟨S512x512, .bf16⟩
  | .local _ .vmem, ⟨1, _⟩ => ⟨S512x512, .bf16⟩
  | .local _ .vmem, ⟨2, _⟩ => ⟨S1x512x256, .bf16⟩
  | .local _ .vmem, ⟨3, _⟩ => ⟨S1x512x256, .bf16⟩
  | .local _ .vmem, ⟨4, _⟩ => ⟨S512x256, .f32⟩
  | .local _ .vmem, ⟨5, _⟩ => ⟨S512x256, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBranchIdeal.lean ====
abbrev S2048x512 : Shape := ⟨2, ![2048, 512]⟩
abbrev S4x512x256 : Shape := ⟨3, ![4, 512, 256]⟩
abbrev S512x4x256 : Shape := ⟨3, ![512, 4, 256]⟩
abbrev S512x1024 : Shape := ⟨2, ![512, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S4x512x256, .bf16⟩
  | .hbm, ⟨2, _⟩ => ⟨S2048x512, .f32⟩
  | .hbm, ⟨3, _⟩ => ⟨S4x512x256, .f32⟩
  | .hbm, ⟨4, _⟩ => ⟨S512x4x256, .f32⟩
  | .hbm, ⟨5, _⟩ => ⟨S512x1024, .f32⟩
  | .hbm, ⟨6, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelBranchBias.lean ====
abbrev S2048x512 : Shape := ⟨2, ![2048, 512]⟩
abbrev S4x512x256 : Shape := ⟨3, ![4, 512, 256]⟩
abbrev S1x1024 : Shape := ⟨2, ![1, 1024]⟩
abbrev S2048x1024 : Shape := ⟨2, ![2048, 1024]⟩
abbrev S512x512 : Shape := ⟨2, ![512, 512]⟩
abbrev S1x512x256 : Shape := ⟨3, ![1, 512, 256]⟩
abbrev S1x256 : Shape := ⟨2, ![1, 256]⟩
abbrev S512x256 : Shape := ⟨2, ![512, 256]⟩

abbrev nBuf : Space → Nat
  | .hbm => 4
  | .vmem => 8
  | .smem => 0
  | _ => 0

abbrev bufTy : (tb : Table) → Fin (tcTables nBuf tb) → BufTy
  | .hbm, ⟨0, _⟩ => ⟨S2048x512, .bf16⟩
  | .hbm, ⟨1, _⟩ => ⟨S4x512x256, .bf16⟩
  | .hbm, ⟨2, _⟩ => ⟨S1x1024, .f32⟩
  | .hbm, ⟨3, _⟩ => ⟨S2048x1024, .f32⟩
  | .local _ .vmem, ⟨0, _⟩ => ⟨S512x512, .bf16⟩
  | .local _ .vmem, ⟨1, _⟩ => ⟨S512x512, .bf16⟩
  | .local _ .vmem, ⟨2, _⟩ => ⟨S1x512x256, .bf16⟩
  | .local _ .vmem, ⟨3, _⟩ => ⟨S1x512x256, .bf16⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceBranchBiasIdeal.lean ====
abbrev S2048x512 : Shape := ⟨2, ![2048, 512]⟩
abbrev S4x512x256 : Shape := ⟨3, ![4, 512, 256]⟩
abbrev S1x1024 : Shape := ⟨2, ![1, 1024]⟩
abbrev S512x4x256 : Shape := ⟨3, ![512, 4, 256]⟩
abbrev S512x1024 : Shape := ⟨2, ![512, 1024]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S4x512x256, .bf16⟩
  | .hbm, ⟨2, _⟩ => ⟨S1x1024, .f32⟩
  | .hbm, ⟨3, _⟩ => ⟨S2048x512, .f32⟩
  | .hbm, ⟨4, _⟩ => ⟨S4x512x256, .f32⟩
  | .hbm, ⟨5, _⟩ => ⟨S512x4x256, .f32⟩
  | .hbm, ⟨6, _⟩ => ⟨S512x1024, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDbranchW.lean ====
abbrev S2048x512 : Shape := ⟨2, ![2048, 512]⟩
abbrev S2048x1024 : Shape := ⟨2, ![2048, 1024]⟩
abbrev S1x1024 : Shape := ⟨2, ![1, 1024]⟩
abbrev S4x512x256 : Shape := ⟨3, ![4, 512, 256]⟩
abbrev S2048x256 : Shape := ⟨2, ![2048, 256]⟩
abbrev S1x256 : Shape := ⟨2, ![1, 256]⟩
abbrev S1x512x256 : Shape := ⟨3, ![1, 512, 256]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S1x1024, .f32⟩
  | .hbm, ⟨3, _⟩ => ⟨S4x512x256, .bf16⟩
  | .local _ .vmem, ⟨0, _⟩ => ⟨S2048x512, .bf16⟩
  | .local _ .vmem, ⟨1, _⟩ => ⟨S2048x256, .bf16⟩
  | .local _ .vmem, ⟨2, _⟩ => ⟨S2048x256, .bf16⟩
  | .local _ .vmem, ⟨3, _⟩ => ⟨S1x256, .f32⟩
  | .local _ .vmem, ⟨4, _⟩ => ⟨S1x256, .f32⟩
  | .local _ .vmem, ⟨5, _⟩ => ⟨S1x512x256, .bf16⟩
  | .local _ .vmem, ⟨6, _⟩ => ⟨S1x512x256, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDbranchWIdeal.lean ====
abbrev S2048x512 : Shape := ⟨2, ![2048, 512]⟩
abbrev S2048x1024 : Shape := ⟨2, ![2048, 1024]⟩
abbrev S1x1024 : Shape := ⟨2, ![1, 1024]⟩
abbrev S_ : Shape := ⟨0, ![]⟩
abbrev S4x512x256 : Shape := ⟨3, ![4, 512, 256]⟩
abbrev S512x4x256 : Shape := ⟨3, ![512, 4, 256]⟩
abbrev S512x1024 : Shape := ⟨2, ![512, 1024]⟩
abbrev S1024x512 : Shape := ⟨2, ![1024, 512]⟩

abbrev nBuf : Space → Nat
  | .hbm => 17
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S1x1024, .f32⟩
  | .hbm, ⟨3, _⟩ => ⟨S_, .f32⟩
  | .hbm, ⟨4, _⟩ => ⟨S4x512x256, .f32⟩
  | .hbm, ⟨5, _⟩ => ⟨S512x4x256, .f32⟩
  | .hbm, ⟨6, _⟩ => ⟨S512x1024, .f32⟩
  | .hbm, ⟨7, _⟩ => ⟨S2048x512, .f32⟩
  | .hbm, ⟨8, _⟩ => ⟨S2048x1024, .f32⟩
  | .hbm, ⟨9, _⟩ => ⟨S2048x1024, .f32⟩
  | .hbm, ⟨10, _⟩ => ⟨S512x1024, .f32⟩
  | .hbm, ⟨11, _⟩ => ⟨S1024x512, .f32⟩
  | .hbm, ⟨12, _⟩ => ⟨S512x1024, .f32⟩
  | .hbm, ⟨13, _⟩ => ⟨S512x1024, .f32⟩
  | .hbm, ⟨14, _⟩ => ⟨S512x4x256, .f32⟩
  | .hbm, ⟨15, _⟩ => ⟨S4x512x256, .f32⟩
  | .hbm, ⟨16, _⟩ => ⟨S4x512x256, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== KernelDbranch.lean ====
abbrev S2048x1024 : Shape := ⟨2, ![2048, 1024]⟩
abbrev S4x512x256 : Shape := ⟨3, ![4, 512, 256]⟩
abbrev S1x512 : Shape := ⟨2, ![1, 512]⟩
abbrev S2048x512 : Shape := ⟨2, ![2048, 512]⟩
abbrev S512x256 : Shape := ⟨2, ![512, 256]⟩
abbrev S1x512x256 : Shape := ⟨3, ![1, 512, 256]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S4x512x256, .bf16⟩
  | .hbm, ⟨2, _⟩ => ⟨S1x512, .f32⟩
  | .hbm, ⟨3, _⟩ => ⟨S2048x512, .f32⟩
  | .local _ .vmem, ⟨0, _⟩ => ⟨S512x256, .bf16⟩
  | .local _ .vmem, ⟨1, _⟩ => ⟨S512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDbranchIdeal.lean ====
abbrev S2048x1024 : Shape := ⟨2, ![2048, 1024]⟩
abbrev S4x512x256 : Shape := ⟨3, ![4, 512, 256]⟩
abbrev S1x512 : Shape := ⟨2, ![1, 512]⟩
abbrev S_ : Shape := ⟨0, ![]⟩
abbrev S2048x512 : Shape := ⟨2, ![2048, 512]⟩
abbrev S512x4x256 : Shape := ⟨3, ![512, 4, 256]⟩
abbrev S512x1024 : Shape := ⟨2, ![512, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x512x256, .bf16⟩
  | .hbm, ⟨2, _⟩ => ⟨S1x512, .f32⟩
  | .hbm, ⟨3, _⟩ => ⟨S_, .f32⟩
  | .hbm, ⟨4, _⟩ => ⟨S2048x512, .f32⟩
  | .hbm, ⟨5, _⟩ => ⟨S4x512x256, .f32⟩
  | .hbm, ⟨6, _⟩ => ⟨S512x4x256, .f32⟩
  | .hbm, ⟨7, _⟩ => ⟨S512x1024, .f32⟩
  | .hbm, ⟨8, _⟩ => ⟨S2048x1024, .f32⟩
  | .hbm, ⟨9, _⟩ => ⟨S2048x1024, .f32⟩
  | .hbm, ⟨10, _⟩ => ⟨S2048x512, .f32⟩
  | .hbm, ⟨11, _⟩ => ⟨S2048x512, .f32⟩
  | .hbm, ⟨12, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Which.lean ====
/- Which block of queries a point of the grid takes. -/
module

public import proofs.«01_k».proof.Proof.Gen.KernelIdeal.Points
public import proofs.«01_k».proof.Proof.Gen.KernelIdeal.Launch
public import proofs.«01_k».proof.Proof.Gen.KernelIdeal.Skeleton
public import Idealize.ShloMosaic.Lib.WordCmp

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem pt_lt (t : Fin cfg0.N) : t.val < 32 := Nat.lt_of_lt_of_eq t.isLt N_0

/-- The keys of the block of queries of point `t`. -/
theorem keys_le (t : Fin cfg0.N) : 256 * (t.val % 8 + 1) ≤ 2048 := by omega

/-! ## Which block of queries a point takes -/

theorem cond_0 (t : Fin cfg0.N) : k0_cond1 (grid0.coords t) = 1#1 ↔ t.val % 8 = 0 := by
  have ht := pt_lt t
  have e1 : (grid0.coords t 1).val = t.val / 1 % 8 := Pipeline.Grid.coords_val t 1 (by decide) rfl
  simp only [k0_cond1, e1]
  word_cmp

theorem cond_1 (t : Fin cfg0.N) : k0_cond2 (grid0.coords t) = 1#1 ↔ t.val % 8 = 1 := by
  have ht := pt_lt t
  have e1 : (grid0.coords t 1).val = t.val / 1 % 8 := Pipeline.Grid.coords_val t 1 (by decide) rfl
  simp only [k0_cond2, e1]
  word_cmp

theorem cond_2 (t : Fin cfg0.N) : k0_cond3 (grid0.coords t) = 1#1 ↔ t.val % 8 = 2 := by
  have ht := pt_lt t
  have e1 : (grid0.coords t 1).val = t.val / 1 % 8 := Pipeline.Grid.coords_val t 1 (by decide) rfl
  simp only [k0_cond3, e1]
  word_cmp

theorem cond_3 (t : Fin cfg0.N) : k0_cond4 (grid0.coords t) = 1#1 ↔ t.val % 8 = 3 := by
  have ht := pt_lt t
  have e1 : (grid0.coords t 1).val = t.val / 1 % 8 := Pipeline.Grid.coords_val t 1 (by decide) rfl
  simp only [k0_cond4, e1]
  word_cmp

theorem cond_4 (t : Fin cfg0.N) : k0_cond5 (grid0.coords t) = 1#1 ↔ t.val % 8 = 4 := by
  have ht := pt_lt t
  have e1 : (grid0.coords t 1).val = t.val / 1 % 8 := Pipeline.Grid.coords_val t 1 (by decide) rfl
  simp only [k0_cond5, e1]
  word_cmp

theorem cond_5 (t : Fin cfg0.N) : k0_cond6 (grid0.coords t) = 1#1 ↔ t.val % 8 = 5 := by
  have ht := pt_lt t
  have e1 : (grid0.coords t 1).val = t.val / 1 % 8 := Pipeline.Grid.coords_val t 1 (by decide) rfl
  simp only [k0_cond6, e1]
  word_cmp

theorem cond_6 (t : Fin cfg0.N) : k0_cond7 (grid0.coords t) = 1#1 ↔ t.val % 8 = 6 := by
  have ht := pt_lt t
  have e1 : (grid0.coords t 1).val = t.val / 1 % 8 := Pipeline.Grid.coords_val t 1 (by decide) rfl
  simp only [k0_cond7, e1]
  word_cmp

theorem cond_7 (t : Fin cfg0.N) : k0_cond8 (grid0.coords t) = 1#1 ↔ t.val % 8 = 7 := by
  have ht := pt_lt t
  have e1 : (grid0.coords t 1).val = t.val / 1 % 8 := Pipeline.Grid.coords_val t 1 (by decide) rfl
  simp only [k0_cond8, e1]
  word_cmp

/-- Exactly one of the body's eight branches is taken. -/
theorem branches (t : Fin cfg0.N) : (k0_cond1 (grid0.coords t) = 1#1 ∧ ¬k0_cond2 (grid0.coords t) = 1#1 ∧ ¬k0_cond3 (grid0.coords t) = 1#1 ∧ ¬k0_cond4 (grid0.coords t) = 1#1 ∧ ¬k0_cond5 (grid0.coords t) = 1#1 ∧ ¬k0_cond6 (grid0.coords t) = 1#1 ∧ ¬k0_cond7 (grid0.coords t) = 1#1 ∧ ¬k0_cond8 (grid0.coords t) = 1#1) ∨ (¬k0_cond1 (grid0.coords t) = 1#1 ∧ k0_cond2 (grid0.coords t) = 1#1 ∧ ¬k0_cond3 (grid0.coords t) = 1#1 ∧ ¬k0_cond4 (grid0.coords t) = 1#1 ∧ ¬k0_cond5 (grid0.coords t) = 1#1 ∧ ¬k0_cond6 (grid0.coords t) = 1#1 ∧ ¬k0_cond7 (grid0.coords t) = 1#1 ∧ ¬k0_cond8 (grid0.coords t) = 1#1) ∨ (¬k0_cond1 (grid0.coords t) = 1#1 ∧ ¬k0_cond2 (grid0.coords t) = 1#1 ∧ k0_cond3 (grid0.coords t) = 1#1 ∧ ¬k0_cond4 (grid0.coords t) = 1#1 ∧ ¬k0_cond5 (grid0.coords t) = 1#1 ∧ ¬k0_cond6 (grid0.coords t) = 1#1 ∧ ¬k0_cond7 (grid0.coords t) = 1#1 ∧ ¬k0_cond8 (grid0.coords t) = 1#1) ∨ (¬k0_cond1 (grid0.coords t) = 1#1 ∧ ¬k0_cond2 (grid0.coords t) = 1#1 ∧ ¬k0_cond3 (grid0.coords t) = 1#1 ∧ k0_cond4 (grid0.coords t) = 1#1 ∧ ¬k0_cond5 (grid0.coords t) = 1#1 ∧ ¬k0_cond6 (grid0.coords t) = 1#1 ∧ ¬k0_cond7 (grid0.coords t) = 1#1 ∧ ¬k0_cond8 (grid0.coords t) = 1#1) ∨ (¬k0_cond1 (grid0.coords t) = 1#1 ∧ ¬k0_cond2 (grid0.coords t) = 1#1 ∧ ¬k0_cond3 (grid0.coords t) = 1#1 ∧ ¬k0_cond4 (grid0.coords t) = 1#1 ∧ k0_cond5 (grid0.coords t) = 1#1 ∧ ¬k0_cond6 (grid0.coords t) = 1#1 ∧ ¬k0_cond7 (grid0.coords t) = 1#1 ∧ ¬k0_cond8 (grid0.coords t) = 1#1) ∨ (¬k0_cond1 (grid0.coords t) = 1#1 ∧ ¬k0_cond2 (grid0.coords t) = 1#1 ∧ ¬k0_cond3 (grid0.coords t) = 1#1 ∧ ¬k0_cond4 (grid0.coords t) = 1#1 ∧ ¬k0_cond5 (grid0.coords t) = 1#1 ∧ k0_cond6 (grid0.coords t) = 1#1 ∧ ¬k0_cond7 (grid0.coords t) = 1#1 ∧ ¬k0_cond8 (grid0.coords t) = 1#1) ∨ (¬k0_cond1 (grid0.coords t) = 1#1 ∧ ¬k0_cond2 (grid0.coords t) = 1#1 ∧ ¬k0_cond3 (grid0.coords t) = 1#1 ∧ ¬k0_cond4 (grid0.coords t) = 1#1 ∧ ¬k0_cond5 (grid0.coords t) = 1#1 ∧ ¬k0_cond6 (grid0.coords t) = 1#1 ∧ k0_cond7 (grid0.coords t) = 1#1 ∧ ¬k0_cond8 (grid0.coords t) = 1#1) ∨ (¬k0_cond1 (grid0.coords t) = 1#1 ∧ ¬k0_cond2 (grid0.coords t) = 1#1 ∧ ¬k0_cond3 (grid0.coords t) = 1#1 ∧ ¬k0_cond4 (grid0.coords t) = 1#1 ∧ ¬k0_cond5 (grid0.coords t) = 1#1 ∧ ¬k0_cond6 (grid0.coords t) = 1#1 ∧ ¬k0_cond7 (grid0.coords t) = 1#1 ∧ k0_cond8 (grid0.coords t) = 1#1) := by
  simp only [cond_0, cond_1, cond_2, cond_3, cond_4, cond_5, cond_6, cond_7]
  omega

end Cert.Attn

end
-- ==== Proof.Safe.lean ====
/- The launch of the attention gradient over any float values: it ends, its arguments unchanged and its counters at zero. -/
module

public import proofs.«01_k».proof.Proof.Gen.KernelIdeal.Frame
public import proofs.«01_k».proof.Proof.Which
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body at any point, whatever its output buffers hold: it ends, and leaves its inputs as they were. -/
theorem safe_run (c : Dev nD) (t : Fin cfg0.N) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole)
    (x0 : Vec F S256x256 .bf16) (x1 : Vec F S2048x256 .bf16) (x2 : Vec F S2048x128 .bf16) (x3 : Vec F S256x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) Set.univ (cc0_attn_bwd (grid0.coords t) arg2 harg2 arg3 harg3 arg4 harg4 arg5 harg5 arg6 harg6 arg7 harg7 arg8 harg8) K := by
  simp only [cc0_attn_bwd_eq_skeleton]; unfold cc0_attn_bwd_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  rcases branches t with ⟨hc0, hc1, hc2, hc3, hc4, hc5, hc6, hc7⟩ | ⟨hc0, hc1, hc2, hc3, hc4, hc5, hc6, hc7⟩ | ⟨hc0, hc1, hc2, hc3, hc4, hc5, hc6, hc7⟩ | ⟨hc0, hc1, hc2, hc3, hc4, hc5, hc6, hc7⟩ | ⟨hc0, hc1, hc2, hc3, hc4, hc5, hc6, hc7⟩ | ⟨hc0, hc1, hc2, hc3, hc4, hc5, hc6, hc7⟩ | ⟨hc0, hc1, hc2, hc3, hc4, hc5, hc6, hc7⟩ | ⟨hc0, hc1, hc2, hc3, hc4, hc5, hc6, hc7⟩
  all_goals
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    iexists _, _; isplitr; swap; · iexact H6
    ipureintro; rfl

variable (m : (ℓ : Loc nD τ sig) → Buf (Elt F) ℓ) (ρ : Dev nD → PrngReg)

/-- The windows of which nothing is said: the three results. -/
def unsaid : Fin 7 → Bool := fun w => decide (4 ≤ w.val)

/-- The inputs' blocks; of the results nothing. -/
def safe (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Dat.unnamed (cfg := cfg0) ⟨4, h⟩ t
    | ⟨5, h⟩ => Dat.unnamed (cfg := cfg0) ⟨5, h⟩ t
    | ⟨6, h⟩ => Dat.unnamed (cfg := cfg0) ⟨6, h⟩ t
  Φ _ := Pipeline.ΦA spec0 c
  q _ := fullShare
  owed _ := 0

theorem safe_A (c : Dev nD) (w : Fin cfg0.W) : (safe m 0 c).A w = V m c (Pipeline.arrRef spec0 w) := by dsimp only [safe]

theorem safe_after_0 (c : Dev nD) (t : Fin cfg0.N) : (safe m 0 c).after 0 t = iblk m c 0 t := by dsimp only [safe]
theorem safe_before_0 (c : Dev nD) (t : Fin cfg0.N) (d) : (safe m 0 c).before 0 t d = iblk m c 0 t :=
  before0_0_of m (safe m 0 c) (safe_A m c 0) (safe_after_0 m c) t d
theorem safe_leaves_0 (c : Dev nD) (t : Fin cfg0.N) :
    (safe m 0 c).leavesExact 0 t = owns (c : Thread nD τ) (win0_0.stage (cfg0.slots t 0)) fullShare (iblk m c 0 t) := by
  unfold Dat.leavesExact
  rw [show cfg0.idle 0 (cfg0.grid.coords t) = false from rfl, safe_after_0]
theorem safe_after_1 (c : Dev nD) (t : Fin cfg0.N) : (safe m 0 c).after 1 t = iblk m c 1 t := by dsimp only [safe]
theorem safe_before_1 (c : Dev nD) (t : Fin cfg0.N) (d) : (safe m 0 c).before 1 t d = iblk m c 1 t :=
  before0_1_of m (safe m 0 c) (safe_A m c 1) (safe_after_1 m c) t d
theorem safe_leaves_1 (c : Dev nD) (t : Fin cfg0.N) :
    (safe m 0 c).leavesExact 1 t = owns (c : Thread nD τ) (win0_1.stage (cfg0.slots t 1)) fullShare (iblk m c 1 t) := by
  unfold Dat.leavesExact
  rw [show cfg0.idle 1 (cfg0.grid.coords t) = false from rfl, safe_after_1]
theorem safe_after_2 (c : Dev nD) (t : Fin cfg0.N) : (safe m 0 c).after 2 t = iblk m c 2 t := by dsimp only [safe]
theorem safe_before_2 (c : Dev nD) (t : Fin cfg0.N) (d) : (safe m 0 c).before 2 t d = iblk m c 2 t :=
  before0_2_of m (safe m 0 c) (safe_A m c 2) (safe_after_2 m c) t d
theorem safe_leaves_2 (c : Dev nD) (t : Fin cfg0.N) :
    (safe m 0 c).leavesExact 2 t = owns (c : Thread nD τ) (win0_2.stage (cfg0.slots t 2)) fullShare (iblk m c 2 t) := by
  unfold Dat.leavesExact
  rw [show cfg0.idle 2 (cfg0.grid.coords t) = false from rfl, safe_after_2]
theorem safe_after_3 (c : Dev nD) (t : Fin cfg0.N) : (safe m 0 c).after 3 t = iblk m c 3 t := by dsimp only [safe]
theorem safe_before_3 (c : Dev nD) (t : Fin cfg0.N) (d) : (safe m 0 c).before 3 t d = iblk m c 3 t :=
  before0_3_of m (safe m 0 c) (safe_A m c 3) (safe_after_3 m c) t d
theorem safe_leaves_3 (c : Dev nD) (t : Fin cfg0.N) :
    (safe m 0 c).leavesExact 3 t = owns (c : Thread nD τ) (win0_3.stage (cfg0.slots t 3)) fullShare (iblk m c 3 t) := by
  unfold Dat.leavesExact
  rw [show cfg0.idle 3 (cfg0.grid.coords t) = false from rfl, safe_after_3]

/-- What the body is called with at point `t`, and what it returns. -/
def safePre (c : Dev nD) (t : Fin cfg0.N) : sProp 𝕄 :=
  iprop((safe m 0 c).Φ t.castSucc ∗ (safe m 0 c).owesAt () t.castSucc
    ∗ (∃ d, owns (c : Thread nD τ) (win0_0.stage (cfg0.slots t 0)) fullShare ((safe m 0 c).before 0 t d))
    ∗ (∃ d, owns (c : Thread nD τ) (win0_1.stage (cfg0.slots t 1)) fullShare ((safe m 0 c).before 1 t d))
    ∗ (∃ d, owns (c : Thread nD τ) (win0_2.stage (cfg0.slots t 2)) fullShare ((safe m 0 c).before 2 t d))
    ∗ (∃ d, owns (c : Thread nD τ) (win0_3.stage (cfg0.slots t 3)) fullShare ((safe m 0 c).before 3 t d))
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d))

def safePost (c : Dev nD) (t : Fin cfg0.N) : sProp 𝕄 :=
  iprop((safe m 0 c).Φ t.succ ∗ (safe m 0 c).owesAt () t.succ
    ∗ (safe m 0 c).leavesExact 0 t
    ∗ (safe m 0 c).leavesExact 1 t
    ∗ (safe m 0 c).leavesExact 2 t
    ∗ (safe m 0 c).leavesExact 3 t
    ∗ (∃ d, owns (c : Thread nD τ) (win0_4.stage (cfg0.slots t 4)) fullShare d)
    ∗ (∃ d, owns (c : Thread nD τ) (win0_5.stage (cfg0.slots t 5)) fullShare d)
    ∗ (∃ d, owns (c : Thread nD τ) (win0_6.stage (cfg0.slots t 6)) fullShare d))

set_option maxHeartbeats 1600000 in
theorem safe_body (c : Dev nD) (t : Fin cfg0.N) :
    safePre m c t ⊢ wp frame (wpE (defs₀ (F := F)) Variants.none c none) Set.univ (bodyAt0 t) (fun _ => safePost m c t) := by
  unfold safePre safePost bodyAt0
  simp only [safe_before_0, safe_before_1, safe_before_2, safe_before_3]
  rw [show (safe m 0 c).Φ t.succ = (safe m 0 c).Φ t.castSucc from rfl,
    show (safe m 0 c).owesAt () t.succ = (safe m 0 c).owesAt () t.castSucc from rfl]
  rw [safe_leaves_0, safe_leaves_1, safe_leaves_2, safe_leaves_3]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (safe_run c t _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem safe_ok (c : Dev nD) : BodyObligation (safe (F := F) m 0 c) (defs₀ (F := F)) Variants.none () Set.univ unsaid := fun t => by
  rw [bigSep_W0, bigSep_W0, show defs₀ (F := F) .tc cfg0.body (cfg0.bodyArgs t (cfg0.slots t)) = bodyAt0 t by unfold defs₀; rw [Defs.onTc_tc]]
  exact triple_restated (safe_body m c t) rfl .rfl fun _ => .rfl

set_option backward.isDefEq.respectTransparency.types false in
theorem safe_launch : θ_run defs (onTc (τ := τ) (main (F := F))) (s₀ m ρ)
    (fun r => Pipeline.RDat.FramePost (cfgs 0) (fun c => (safe m 0 c).toRForget unsaid) (V m) r ∧ r.2.sem = fun _ => 0) :=
  Pipeline.θ_run_frame_forget (Q' := _) cfgs (safe m) (0 : Fin 1) launch0 defs₀ Variants.none unsaid m ρ main
    (hbody := fun c => (safe_ok m c).loose) (hshare := fun c => (safe m 0 c).share_full fun _ => rfl)
    (howed := fun _ _ => rfl) (V := V m) (hmain := hmain m Variants.none) (hA := safe_A m) (hΦ := fun _ _ => rfl)

/-- The arguments end unchanged and every counter at zero, over any float values. -/
theorem safe_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨Pipeline.RDat.FramePost.arr_in h.1 c 0 rfl, Pipeline.RDat.FramePost.arr_in h.1 c 1 rfl,
    Pipeline.RDat.FramePost.arr_in h.1 c 2 rfl, Pipeline.RDat.FramePost.arr_in h.1 c 3 rfl⟩, h.2⟩) (safe_launch m ρ)

end Cert.Attn

end
-- ==== Proof.Same.lean ====
module

public import proofs.«01_k».proof.Defs
public import proofs.«01_k».proof.Proof.Gen.Kernel
public import proofs.«01_k».proof.Proof.Safe

/-!
# The kernel over machine words

The two programs of the kernel are the same text, so their body tables are equal, and the frame proved for any kind of
float holds of the one over machine words.
-/

@[expose] public section

noncomputable section
namespace Cert.Proof
open Idealize.ShloMosaic Idealize.ShloMosaic.TcCoe Idealize.SL.Sem Cert.Attn

variable {F : FTy → Type} [FloatOps F]
set_option maxRecDepth 100000

/-- The kernel body is the same function in both programs. -/
theorem body_eq : (@Cert.Kernel.cc0_attn_bwd F _ Cert.Kernel.Gen.facts) = @Cert.KernelIdeal.cc0_attn_bwd F _ Cert.KernelIdeal.Gen.facts := rfl

/-- The tables of kernel bodies are equal. -/
theorem bodies_eq : (@Cert.Kernel.defs₀ F _ Cert.Kernel.Gen.facts) = @Cert.KernelIdeal.defs₀ F _ Cert.KernelIdeal.Gen.facts := by
  unfold Cert.Kernel.defs₀ Cert.KernelIdeal.defs₀
  refine congrArg Defs.onTc (funext fun l => funext fun a => ?_)
  match l, a with
  | 0, (t, s) => rfl

/-- The whole tables are equal. -/
theorem defs_eq : (@Cert.Kernel.defs F _ Cert.Kernel.Gen.facts) = @Cert.KernelIdeal.defs F _ Cert.KernelIdeal.Gen.facts :=
  congrArg (Idealize.ShloMosaic.Pipeline.defs (Cert.KernelIdeal.pcfgs (F := F))) bodies_eq

/-- The kernel over machine words runs, keeps its arguments and ends quiescent. -/
theorem kernel_frame : Cert.quiescent_Kernel (hKernel := Cert.Kernel.Gen.facts) := fun m g _ => by
  rw [defs_eq]
  exact safe_frame (F := Bits) m g
end Cert.Proof
end
-- ==== Proof.Spec.lean ====
/- The mathematics one block of queries contributes to the attention's gradients, as functions of curried blocks. -/
module

public import Idealize.ShloMosaic.Lib.Pointwise

@[expose] public section

noncomputable section

namespace Cert.Attn

open Idealize.ShloMosaic

/-- The scale of the scores: the single-precision number the program writes for 96 ^ (-1/2). -/
def scale : EReal := Ideal.ofBits FTy.f32 0x3DD105EC#32

/-- The largest score of a row, at least minus infinity. -/
def rmax {ι : Type} [Fintype ι] (s : ι → EReal) : EReal := Finset.univ.fold max ⊥ s

/-- The softmax of a row of scores. -/
def pr {ι : Type} [Fintype ι] (s : ι → EReal) (c : ι) : EReal :=
  Ideal.div (Ideal.exp (s c - rmax s)) (∑ c', Ideal.exp (s c' - rmax s))

/-- The gradient of a row of products q · k, from the row's scores and the gradient of its softmax. -/
def dsr {ι : Type} [Fintype ι] (s g : ι → EReal) (c : ι) : EReal :=
  pr s c * (g c - ∑ c', pr s c' * g c') * scale

/-- A two-axis array as a function of its two coordinates. -/
def cur {a b : ℕ} (x : (⟨2, ![a, b]⟩ : Shape).Idx → EReal) (r : Fin a) (c : Fin b) : EReal := x (ix2 r c)

/-- A function of two coordinates as a two-axis array. -/
def unc {a b : ℕ} (f : Fin a → Fin b → EReal) : (⟨2, ![a, b]⟩ : Shape).Idx → EReal := fun j => f (j 0) (j 1)

section Block

variable {K : ℕ}

/-- The scores of the block of 256 queries at `n`: minus infinity at the keys after the query. -/
def sc (n : ℕ) (q : Fin 256 → Fin 128 → EReal) (k : Fin K → Fin 128 → EReal) (r : Fin 256) (c : Fin K) : EReal :=
  if c.val ≤ 256 * n + r.val then (∑ d, q r d * k c d) * scale else ⊥

/-- The output gradient of one head of a pair: its 64 lanes, zero elsewhere. -/
def de (e : ℕ) (o : Fin 256 → Fin 128 → EReal) (r : Fin 256) (l : Fin 128) : EReal :=
  if 64 * e ≤ l.val ∧ l.val < 64 * (e + 1) then o r l else 0

/-- The gradient of the softmax. -/
def dp (o : Fin 256 → Fin 128 → EReal) (v : Fin K → Fin 128 → EReal) (r : Fin 256) (c : Fin K) : EReal :=
  ∑ l, o r l * v c l

/-- The gradient of the products q · k. -/
def ds (n : ℕ) (q : Fin 256 → Fin 128 → EReal) (k : Fin K → Fin 128 → EReal) (o : Fin 256 → Fin 128 → EReal)
    (v : Fin K → Fin 128 → EReal) (r : Fin 256) (c : Fin K) : EReal :=
  dsr (sc n q k r) (dp o v r) c

/-- Columns 128 e … 128 e + 127: head `e` of a pair. -/
def half {a : ℕ} (e : Fin 2) (x : Fin a → Fin 256 → EReal) (r : Fin a) (d : Fin 128) : EReal :=
  x r ⟨128 * e.val + d.val, by have := e.isLt; have := d.isLt; omega⟩

/-- The first `K` rows. -/
def top {b : ℕ} (hK : K ≤ 2048) (x : Fin 2048 → Fin b → EReal) (c : Fin K) (d : Fin b) : EReal := x (Fin.castLE hK c) d

variable (n : ℕ) (hK : K ≤ 2048) (x0 : Fin 256 → Fin 256 → EReal) (x1 : Fin 2048 → Fin 256 → EReal)
  (x2 : Fin 2048 → Fin 128 → EReal) (x3 : Fin 256 → Fin 128 → EReal)

/-- The gradient of head `e`'s products q · k over the first `K` keys. -/
def dsB (e : Fin 2) (r : Fin 256) (c : Fin K) : EReal :=
  ds n (half e x0) (half e (top hK x1)) (de e.val x3) (top hK x2) r c

/-- The block of the query gradient. -/
def dqB (r : Fin 256) (j : Fin 256) : EReal :=
  if h : j.val < 128 then ∑ c, dsB n hK x0 x1 x2 x3 0 r c * half 0 (top hK x1) c ⟨j.val, h⟩
  else ∑ c, dsB n hK x0 x1 x2 x3 1 r c * half 1 (top hK x1) c ⟨j.val - 128, by have := j.isLt; omega⟩

/-- The block's contribution to the key gradient. -/
def dkB (c : Fin K) (j : Fin 256) : EReal :=
  if h : j.val < 128 then ∑ r, dsB n hK x0 x1 x2 x3 0 r c * half 0 x0 r ⟨j.val, h⟩
  else ∑ r, dsB n hK x0 x1 x2 x3 1 r c * half 1 x0 r ⟨j.val - 128, by have := j.isLt; omega⟩

/-- The block's contribution to the value gradient. -/
def dvB (c : Fin K) (l : Fin 128) : EReal :=
  ∑ r, pr (sc n (half 0 x0) (half 0 (top hK x1)) r) c * de 0 x3 r l
    + ∑ r, pr (sc n (half 1 x0) (half 1 (top hK x1)) r) c * de 1 x3 r l

/-- A contribution over the first `K` keys, zero at the later ones. -/
def ext {b : ℕ} (f : Fin K → Fin b → EReal) (j : Fin 2048) (d : Fin b) : EReal :=
  if h : j.val < K then f ⟨j.val, h⟩ d else 0

end Block

/-- The block's contribution to the key gradient depends on the number of keys only through its value. -/
theorem dkB_congr {K K' : ℕ} {n n' : ℕ} (hK : K ≤ 2048) (hK' : K' ≤ 2048) (e : K = K') (en : n = n') (x0 x1 x2 x3) :
    ext (dkB n hK x0 x1 x2 x3) = ext (dkB n' hK' x0 x1 x2 x3) := by subst e en; rfl

theorem dvB_congr {K K' : ℕ} {n n' : ℕ} (hK : K ≤ 2048) (hK' : K' ≤ 2048) (e : K = K') (en : n = n') (x0 x1 x3) :
    ext (dvB n hK x0 x1 x3) = ext (dvB n' hK' x0 x1 x3) := by subst e en; rfl

theorem dqB_congr {K K' : ℕ} {n n' : ℕ} (hK : K ≤ 2048) (hK' : K' ≤ 2048) (e : K = K') (en : n = n') (x0 x1 x2 x3) :
    dqB n hK x0 x1 x2 x3 = dqB n' hK' x0 x1 x2 x3 := by subst e en; rfl

/-- The bits of minus infinity. -/
theorem ofBits_ninf : Ideal.ofBits FTy.f32 0xFF800000#32 = ⊥ := by
  simp [Ideal.ofBits, Ideal.ieee]

/-- The bits of plus infinity. -/
theorem ofBits_pinf : Ideal.ofBits FTy.f32 0x7F800000#32 = ⊤ := by
  simp [Ideal.ofBits, Ideal.ieee]

/-- The scale is a real number. -/
theorem scale_real : ∃ r : ℝ, scale = (r : EReal) := by
  unfold scale Ideal.ofBits Ideal.ieee
  simp only []
  rw [if_neg (by decide), if_neg (by decide)]
  exact ⟨_, rfl⟩

end Cert.Attn

end
-- ==== Proof.Pieces.lean ====
/- Loads and stores of rectangles of whole buffers, read at coordinates. -/
module

public import proofs.«01_k».proof.Proof.Gen.KernelIdeal.Frame
public import proofs.«01_k».proof.Proof.Gen.KernelIdeal.Skeleton
public import proofs.«01_k».proof.Proof.Spec
public import Idealize.ShloMosaic.Lib.Pipeline.Value
public import Idealize.ShloMosaic.Lib.WritesUnit
public import Idealize.ShloMosaic.Lib.Pointwise

@[expose] public section

noncomputable section

namespace Cert.Attn

open Idealize.ShloMosaic Idealize.ShloMosaic.TcCoe
open Cert.KernelIdeal Cert.KernelIdeal.Gen

/-- A load of a rectangle of a whole buffer, at an index: the element the rectangle places there. -/
theorem rd_apply {sp : Space} {s : Shape} {e : EltTy} {M : Memref sig .tc sp s e} (h : M.IsWhole) (x : s.Idx → Elt Ideal e)
    {off size : Fin s.rank → Nat} (inb) (i : (Rect.unit off size inb).shape.Idx) (y : s.Idx)
    (hy : ∀ a, off a + (i a).val = (y a).val) :
    View.readAt (Elt Ideal) M.view (Rect.unit off size inb).toLoadRect (h.unread x) i = x y := by
  rw [View.readAt_eq_ld, h.read_unread]
  refine congrArg x (funext fun a => Fin.ext ?_)
  rw [← hy a]
  show off a + 1 * (i a).val = _
  rw [Nat.one_mul]

variable {sp : Space}

/-- The two columns of head 0 and of head 1 of a pair, and the first rows. -/
theorem rd_half {a b : ℕ} {M : Memref sig .tc sp ⟨2, ![a, 256]⟩ .bf16} (h : M.IsWhole)
    (x : (⟨2, ![a, 256]⟩ : Shape).Idx → EReal) (e : Fin 2) (inb) (hb : b ≤ a) (r : Fin b) (d : Fin 128) :
    View.readAt (Elt Ideal) M.view (Rect.unit (s := ⟨2, ![a, 256]⟩) ![0, 128 * e.val] ![b, 128] inb).toLoadRect (h.unread x) (ix2 r d)
      = half e (cur x) (Fin.castLE hb r) d :=
  rd_apply h x inb _ _ (Fin.forall_fin_two.mpr ⟨Nat.zero_add _, rfl⟩)

theorem rd_top {a b c : ℕ} {M : Memref sig .tc sp ⟨2, ![a, c]⟩ .bf16} (h : M.IsWhole)
    (x : (⟨2, ![a, c]⟩ : Shape).Idx → EReal) (inb) (hb : b ≤ a) (r : Fin b) (d : Fin c) :
    View.readAt (Elt Ideal) M.view (Rect.unit (s := ⟨2, ![a, c]⟩) ![0, 0] ![b, c] inb).toLoadRect (h.unread x) (ix2 r d)
      = cur x (Fin.castLE hb r) d :=
  rd_apply h x inb _ _ (Fin.forall_fin_two.mpr ⟨Nat.zero_add _, Nat.zero_add _⟩)

theorem rd_top_f {a b c : ℕ} {M : Memref sig .tc sp ⟨2, ![a, c]⟩ .f32} (h : M.IsWhole)
    (x : (⟨2, ![a, c]⟩ : Shape).Idx → EReal) (inb) (hb : b ≤ a) (r : Fin b) (d : Fin c) :
    View.readAt (Elt Ideal) M.view (Rect.unit (s := ⟨2, ![a, c]⟩) ![0, 0] ![b, c] inb).toLoadRect (h.unread x) (ix2 r d)
      = cur x (Fin.castLE hb r) d :=
  rd_apply h x inb _ _ (Fin.forall_fin_two.mpr ⟨Nat.zero_add _, Nat.zero_add _⟩)

/-- The lane numbers, and the rows of zeros. -/
theorem iota_lane (r : Fin 256) (l : Fin 128) : iota .tc S256x128 32 [1] iota_S256x128_d1_w32 (ix2 r l) = BitVec.ofNat 32 l.val := by
  pointwise

theorem zero_rows_a (r : Fin 1792) (c : Fin 256) : k0_pay4 (F := Ideal) (ix2 r c) = 0 := by
  pointwise [k0_pay4]

theorem zero_rows_b (r : Fin 1792) (c : Fin 128) : k0_pay5 (F := Ideal) (ix2 r c) = 0 := by
  pointwise [k0_pay5]

/-- A store over a whole buffer reads back as its payload. -/
theorem wr_whole {a b : ℕ} {M : Memref sig .tc sp ⟨2, ![a, b]⟩ .f32} (f : M.view.ty.Contents (Elt Ideal)) (inb)
    (P : (⟨2, ![a, b]⟩ : Shape).Idx → EReal) (g : Fin a → Fin b → EReal) (hP : ∀ r c, P (ix2 r c) = g r c) :
    M.view.read (Elt Ideal) (M.view.writes (Elt Ideal) f [⟨Rect.unit (s := ⟨2, ![a, b]⟩) ![0, 0] ![a, b] inb, P⟩]) = unc g := by
  funext j
  obtain ⟨r, c, rfl⟩ : ∃ r c, j = ix2 r c := ⟨j 0, j 1, eq_ix2 j⟩
  exact (View.read_writes_cons_rows_of_mem (Val := Elt Ideal) (e := .f32) (d := ![a, b]) (off := ![0, 0]) (size := ![a, b]) M.view f (o := 0)
    inb P [] (ix2 r c) (ix2 r c) rfl (Nat.zero_add _).symm rfl).trans (hP r c)

/-- A store over the first rows, at one of them and at a later one. -/
theorem wr_in {K b : ℕ} {M : Memref sig .tc sp ⟨2, ![2048, b]⟩ .f32} (f : M.view.ty.Contents (Elt Ideal)) (inb)
    (P : (⟨2, ![K, b]⟩ : Shape).Idx → EReal) (r : Fin 2048) (c : Fin b) (h : r.val < K) :
    M.view.read (Elt Ideal) (M.view.writes (Elt Ideal) f [⟨Rect.unit (s := ⟨2, ![2048, b]⟩) ![0, 0] ![K, b] inb, P⟩]) (ix2 r c)
      = P (ix2 ⟨r.val, h⟩ c) :=
  View.read_writes_cons_rows_of_mem (Val := Elt Ideal) (e := .f32) (d := ![2048, b]) (off := ![0, 0]) (size := ![K, b]) M.view f (o := 0)
    inb P [] (ix2 r c) (ix2 ⟨r.val, h⟩ c) rfl (Nat.zero_add _).symm rfl

theorem wr_out {K b : ℕ} {M : Memref sig .tc sp ⟨2, ![2048, b]⟩ .f32} (f : M.view.ty.Contents (Elt Ideal)) (inb)
    (P : (⟨2, ![K, b]⟩ : Shape).Idx → EReal) (r : Fin 2048) (c : Fin b) (h : ¬r.val < K) :
    M.view.read (Elt Ideal) (M.view.writes (Elt Ideal) f [⟨Rect.unit (s := ⟨2, ![2048, b]⟩) ![0, 0] ![K, b] inb, P⟩]) (ix2 r c)
      = M.view.read (Elt Ideal) f (ix2 r c) :=
  View.read_writes_cons_rows_of_not_mem (Val := Elt Ideal) (e := .f32) (d := ![2048, b]) (off := ![0, 0]) (size := ![K, b]) M.view f (o := 0)
    (W := K) inb P [] (ix2 r c) rfl rfl (.inr (by rw [Nat.zero_add]; exact Nat.le_of_not_lt h))

/-- A store over the first rows adds a contribution to them and leaves the later rows. -/
theorem wr_add {K b : ℕ} {M : Memref sig .tc sp ⟨2, ![2048, b]⟩ .f32} (hM : M.IsWhole)
    (y : (⟨2, ![2048, b]⟩ : Shape).Idx → EReal) (inb) (hK : K ≤ 2048)
    (P : (⟨2, ![K, b]⟩ : Shape).Idx → EReal) (g : Fin K → Fin b → EReal)
    (hP : ∀ r c, P (ix2 r c) = cur y (Fin.castLE hK r) c + g r c) :
    M.view.read (Elt Ideal) (M.view.writes (Elt Ideal) (hM.unread y) [⟨Rect.unit (s := ⟨2, ![2048, b]⟩) ![0, 0] ![K, b] inb, P⟩])
      = unc fun j d => cur y j d + ext g j d := by
  funext j
  obtain ⟨r, c, rfl⟩ : ∃ r c, j = ix2 r c := ⟨j 0, j 1, eq_ix2 j⟩
  show _ = y (ix2 r c) + ext g r c
  by_cases h : r.val < K
  · rw [wr_in _ _ _ _ _ h, hP, ext, dif_pos h]
    rfl
  · rw [wr_out _ _ _ _ _ h, hM.read_unread, ext, dif_neg h, add_zero]

/-- A store over the first 256 rows and one of zeros over the others. -/
theorem wr_first {b : ℕ} {M : Memref sig .tc sp ⟨2, ![2048, b]⟩ .f32} (f : M.view.ty.Contents (Elt Ideal)) (inb inb')
    (P : (⟨2, ![256, b]⟩ : Shape).Idx → EReal) (Z : (⟨2, ![1792, b]⟩ : Shape).Idx → EReal) (g : Fin 256 → Fin b → EReal)
    (hP : ∀ r c, P (ix2 r c) = g r c) (hZ : ∀ r c, Z (ix2 r c) = 0) :
    M.view.read (Elt Ideal) (M.view.writes (Elt Ideal) f [⟨Rect.unit (s := ⟨2, ![2048, b]⟩) ![256, 0] ![1792, b] inb', Z⟩,
        ⟨Rect.unit (s := ⟨2, ![2048, b]⟩) ![0, 0] ![256, b] inb, P⟩])
      = unc (ext g) := by
  funext j
  obtain ⟨r, c, rfl⟩ : ∃ r c, j = ix2 r c := ⟨j 0, j 1, eq_ix2 j⟩
  show _ = ext g r c
  by_cases h : r.val < 256
  · have e := View.read_writes_cons_rows_of_not_mem (Val := Elt Ideal) (e := .f32) (d := ![2048, b]) (off := ![256, 0]) (size := ![1792, b]) M.view f
      (o := 256) (W := 1792) inb' Z [⟨Rect.unit (s := ⟨2, ![2048, b]⟩) ![0, 0] ![256, b] inb, P⟩] (ix2 r c) rfl rfl (.inl h)
    rw [e, wr_in _ _ _ _ _ h, hP, ext, dif_pos h]
  · have hr := r.isLt
    have e := View.read_writes_cons_rows_of_mem (Val := Elt Ideal) (e := .f32) (d := ![2048, b]) (off := ![256, 0]) (size := ![1792, b]) M.view f
      (o := 256) inb' Z [⟨Rect.unit (s := ⟨2, ![2048, b]⟩) ![0, 0] ![256, b] inb, P⟩] (ix2 r c) (ix2 ⟨r.val - 256, by omega⟩ c) rfl
      (show r.val = 256 + (r.val - 256) by omega) rfl
    rw [e, hZ, ext, dif_neg h]

end Cert.Attn

end
-- ==== Proof.PayA.lean ====
/- The arithmetic of the blocks of queries 0, 1, 2, 3, read at coordinates. -/
module

public import proofs.«01_k».proof.Proof.Gen.KernelIdeal.Skeleton
public import proofs.«01_k».proof.Proof.Spec
public import Idealize.ShloMosaic.Lib.Pointwise
public import Idealize.ShloMosaic.Lib.WordCmp
public import Idealize.ShloMosaic.Lib.Tactic.WordOmega

@[expose] public section

set_option maxRecDepth 16384

noncomputable section

namespace Cert.Attn

open Idealize.ShloMosaic Idealize.ShloMosaic.TcCoe
open Cert.KernelIdeal Cert.KernelIdeal.Gen

/-! ## Block 0 -/

theorem mask_0 (r : Fin 256) (c : Fin 256) (a b : EReal) :
    Scalar.select (k0_pay27 (ix2 r c)) a b = if c.val ≤ 0 + r.val then a else b := by
  have hr := r.isLt
  have hc := c.isLt
  pointwise [k0_pay27]
  refine if_congr ?_ rfl rfl
  word_omega

theorem p0_0 (q : Vec Ideal S256x128 .bf16) (k : Vec Ideal S256x128 .bf16) (r : Fin 256) (c : Fin 256) :
    k0_pay29 (F := Ideal) q k (ix2 r c) = pr (sc 0 (fun r d => q (ix2 r d)) (fun c d => k (ix2 c d)) r) c := by
  pointwise [k0_pay29]
  simp only [mask_0, ofBits_ninf]
  rfl

theorem p1_0 (q : Vec Ideal S256x128 .bf16) (k : Vec Ideal S256x128 .bf16) (r : Fin 256) (c : Fin 256) :
    k0_pay36 (F := Ideal) k0_pay27 q k (ix2 r c) = pr (sc 0 (fun r d => q (ix2 r d)) (fun c d => k (ix2 c d)) r) c := by
  pointwise [k0_pay36]
  simp only [mask_0, ofBits_ninf]
  rfl

theorem de0_0 (o : Vec Ideal S256x128 .bf16) (r : Fin 256) (l : Fin 128) :
    k0_pay30 (F := Ideal) o (ix2 r l) = de 0 (fun r l => o (ix2 r l)) r l := by
  have hl := l.isLt
  pointwise [k0_pay30]
  refine if_congr ?_ rfl rfl
  word_cmp

theorem de1_0 (io : IVec S256x128 32) (hio : ∀ r l, io (ix2 r l) = BitVec.ofNat 32 l.val) (o : Vec Ideal S256x128 .bf16) (r : Fin 256) (l : Fin 128) :
    k0_pay37 (F := Ideal) io o (ix2 r l) = de 1 (fun r l => o (ix2 r l)) r l := by
  have hl := l.isLt
  pointwise [k0_pay37]
  rw [hio]
  refine if_congr ?_ rfl rfl
  word_cmp

theorem ds0_0 (cst : Ideal .f32) (hcst : cst = scale) (q : Vec Ideal S256x128 .bf16) (k v : Vec Ideal S256x128 .bf16) (o : Vec Ideal S256x128 .bf16) (r : Fin 256) (c : Fin 256) :
    k0_pay32 (F := Ideal) (k0_pay31 (F := Ideal) v o q k) cst (ix2 r c) = ds 0 (fun r d => q (ix2 r d)) (fun c d => k (ix2 c d)) (de 0 (fun r l => o (ix2 r l))) (fun c l => v (ix2 c l)) r c := by
  pointwise [k0_pay32, k0_pay31]
  simp only [p0_0, de0_0, hcst]
  rfl

theorem ds1_0 (io : IVec S256x128 32) (hio : ∀ r l, io (ix2 r l) = BitVec.ofNat 32 l.val) (q1 : Vec Ideal S256x128 .bf16) (k1 v : Vec Ideal S256x128 .bf16) (o : Vec Ideal S256x128 .bf16) (r : Fin 256) (c : Fin 256) :
    k0_pay38 (F := Ideal) k0_pay27 io v o q1 k1 (ix2 r c) = ds 0 (fun r d => q1 (ix2 r d)) (fun c d => k1 (ix2 c d)) (de 1 (fun r l => o (ix2 r l))) (fun c l => v (ix2 c l)) r c := by
  pointwise [k0_pay38]
  simp only [p1_0, de1_0 _ hio]
  rfl

theorem dqh_0 (cst : Ideal .f32) (hcst : cst = scale) (q : Vec Ideal S256x128 .bf16) (k v : Vec Ideal S256x128 .bf16) (o : Vec Ideal S256x128 .bf16) (r : Fin 256) (d : Fin 128) :
    k0_pay33 (F := Ideal) k (k0_pay31 (F := Ideal) v o q k) cst (ix2 r d) = ∑ c, ds 0 (fun r d => q (ix2 r d)) (fun c d => k (ix2 c d)) (de 0 (fun r l => o (ix2 r l))) (fun c l => v (ix2 c l)) r c * k (ix2 c d) := by
  pointwise [k0_pay33]
  simp only [ds0_0 _ hcst]

theorem dkh_0 (cst : Ideal .f32) (hcst : cst = scale) (q : Vec Ideal S256x128 .bf16) (k v : Vec Ideal S256x128 .bf16) (o : Vec Ideal S256x128 .bf16) (c : Fin 256) (d : Fin 128) :
    k0_pay34 (F := Ideal) q (k0_pay31 (F := Ideal) v o q k) cst (ix2 c d) = ∑ r, ds 0 (fun r d => q (ix2 r d)) (fun c d => k (ix2 c d)) (de 0 (fun r l => o (ix2 r l))) (fun c l => v (ix2 c l)) r c * q (ix2 r d) := by
  pointwise [k0_pay34]
  simp only [ds0_0 _ hcst]

theorem dvh_0 (q : Vec Ideal S256x128 .bf16) (k : Vec Ideal S256x128 .bf16) (o : Vec Ideal S256x128 .bf16) (c : Fin 256) (l : Fin 128) :
    k0_pay35 (F := Ideal) k0_pay28 (k0_pay29 (F := Ideal) q k) (k0_pay30 (F := Ideal) o) (ix2 c l)
      = ∑ r, pr (sc 0 (fun r d => q (ix2 r d)) (fun c d => k (ix2 c d)) r) c * de 0 (fun r l => o (ix2 r l)) r l := by
  pointwise [k0_pay35, k0_pay28]
  simp only [p0_0, de0_0]

theorem dq_0 (cst : Ideal .f32) (hcst : cst = scale) (io : IVec S256x128 32) (hio : ∀ r l, io (ix2 r l) = BitVec.ofNat 32 l.val) (q q1 : Vec Ideal S256x128 .bf16) (k k1 v : Vec Ideal S256x128 .bf16) (o : Vec Ideal S256x128 .bf16) (r : Fin 256) (j : Fin 256) :
    k0_pay2 (F := Ideal) (k0_pay33 (F := Ideal) k (k0_pay31 (F := Ideal) v o q k) cst) k1 (k0_pay38 (F := Ideal) k0_pay27 io v o q1 k1) (constant S256x128 .f32 0x00000000#32) (ix2 r j)
      = if h : j.val < 128 then ∑ c, ds 0 (fun r d => q (ix2 r d)) (fun c d => k (ix2 c d)) (de 0 (fun r l => o (ix2 r l))) (fun c l => v (ix2 c l)) r c * k (ix2 c ⟨j.val, h⟩)
        else ∑ c, ds 0 (fun r d => q1 (ix2 r d)) (fun c d => k1 (ix2 c d)) (de 1 (fun r l => o (ix2 r l))) (fun c l => v (ix2 c l)) r c * k1 (ix2 c ⟨j.val - 128, by have := j.isLt; omega⟩) := by
  pointwise [k0_pay2]
  simp only [dqh_0 _ hcst, ds1_0 _ hio]

theorem dk_0 (cst : Ideal .f32) (hcst : cst = scale) (io : IVec S256x128 32) (hio : ∀ r l, io (ix2 r l) = BitVec.ofNat 32 l.val) (q q1 : Vec Ideal S256x128 .bf16) (k k1 v : Vec Ideal S256x128 .bf16) (o : Vec Ideal S256x128 .bf16) (c : Fin 256) (j : Fin 256) :
    k0_pay3 (F := Ideal) (k0_pay34 (F := Ideal) q (k0_pay31 (F := Ideal) v o q k) cst) q1 (k0_pay38 (F := Ideal) k0_pay27 io v o q1 k1) (ix2 c j)
      = (if h : j.val < 128 then ∑ r, ds 0 (fun r d => q (ix2 r d)) (fun c d => k (ix2 c d)) (de 0 (fun r l => o (ix2 r l))) (fun c l => v (ix2 c l)) r c * q (ix2 r ⟨j.val, h⟩)
        else ∑ r, ds 0 (fun r d => q1 (ix2 r d)) (fun c d => k1 (ix2 c d)) (de 1 (fun r l => o (ix2 r l))) (fun c l => v (ix2 c l)) r c * q1 (ix2 r ⟨j.val - 128, by have := j.isLt; omega⟩)) := by
  pointwise [k0_pay3]
  simp only [dkh_0 _ hcst, ds1_0 _ hio]

theorem dv_0 (io : IVec S256x128 32) (hio : ∀ r l, io (ix2 r l) = BitVec.ofNat 32 l.val) (q q1 : Vec Ideal S256x128 .bf16) (k k1 v : Vec Ideal S256x128 .bf16) (o : Vec Ideal S256x128 .bf16) (c : Fin 256) (j : Fin 128) :
    k0_pay1 (F := Ideal) (k0_pay35 (F := Ideal) k0_pay28 (k0_pay29 (F := Ideal) q k) (k0_pay30 (F := Ideal) o)) (k0_pay36 (F := Ideal) k0_pay27 q1 k1) (k0_pay37 (F := Ideal) io o) (ix2 c j)
      = (∑ r, pr (sc 0 (fun r d => q (ix2 r d)) (fun c d => k (ix2 c d)) r) c * de 0 (fun r l => o (ix2 r l)) r j
        + ∑ r, pr (sc 0 (fun r d => q1 (ix2 r d)) (fun c d => k1 (ix2 c d)) r) c * de 1 (fun r l => o (ix2 r l)) r j) := by
  pointwise [k0_pay1]
  simp only [dvh_0, p1_0, de1_0 _ hio]

theorem dqf_0 (cst : Ideal .f32) (hcst : cst = scale) (io : IVec S256x128 32) (hio : ∀ r l, io (ix2 r l) = BitVec.ofNat 32 l.val)
    (q q1 : Vec Ideal S256x128 .bf16) (k k1 v : Vec Ideal S256x128 .bf16) (o : Vec Ideal S256x128 .bf16) (hK : 256 ≤ 2048)
    (X0 : Fin 256 → Fin 256 → EReal) (X1 : Fin 2048 → Fin 256 → EReal) (X2 : Fin 2048 → Fin 128 → EReal) (X3 : Fin 256 → Fin 128 → EReal)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (r : Fin 256) (j : Fin 256) :
    k0_pay2 (F := Ideal) (k0_pay33 (F := Ideal) k (k0_pay31 (F := Ideal) v o q k) cst) k1 (k0_pay38 (F := Ideal) k0_pay27 io v o q1 k1) (constant S256x128 .f32 0x00000000#32) (ix2 r j) = dqB 0 hK X0 X1 X2 X3 r j := by
  rw [dq_0 cst hcst io hio]
  simp only [hq, hq1, hk, hk1, hv, ho]
  rfl

theorem dkf_0 (cst : Ideal .f32) (hcst : cst = scale) (io : IVec S256x128 32) (hio : ∀ r l, io (ix2 r l) = BitVec.ofNat 32 l.val)
    (q q1 : Vec Ideal S256x128 .bf16) (k k1 v : Vec Ideal S256x128 .bf16) (o : Vec Ideal S256x128 .bf16) (hK : 256 ≤ 2048)
    (X0 : Fin 256 → Fin 256 → EReal) (X1 : Fin 2048 → Fin 256 → EReal) (X2 : Fin 2048 → Fin 128 → EReal) (X3 : Fin 256 → Fin 128 → EReal)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 256) (j : Fin 256) :
    k0_pay3 (F := Ideal) (k0_pay34 (F := Ideal) q (k0_pay31 (F := Ideal) v o q k) cst) q1 (k0_pay38 (F := Ideal) k0_pay27 io v o q1 k1) (ix2 c j) = dkB 0 hK X0 X1 X2 X3 c j := by
  rw [dk_0 cst hcst io hio]
  simp only [hq, hq1, hk, hk1, hv, ho]
  rfl

theorem dvf_0 (io : IVec S256x128 32) (hio : ∀ r l, io (ix2 r l) = BitVec.ofNat 32 l.val)
    (q q1 : Vec Ideal S256x128 .bf16) (k k1 v : Vec Ideal S256x128 .bf16) (o : Vec Ideal S256x128 .bf16) (hK : 256 ≤ 2048)
    (X0 : Fin 256 → Fin 256 → EReal) (X1 : Fin 2048 → Fin 256 → EReal) (X2 : Fin 2048 → Fin 128 → EReal) (X3 : Fin 256 → Fin 128 → EReal)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 256) (j : Fin 128) :
    k0_pay1 (F := Ideal) (k0_pay35 (F := Ideal) k0_pay28 (k0_pay29 (F := Ideal) q k) (k0_pay30 (F := Ideal) o)) (k0_pay36 (F := Ideal) k0_pay27 q1 k1) (k0_pay37 (F := Ideal) io o) (ix2 c j) = dvB 0 hK X0 X1 X3 c j := by
  rw [dv_0 io hio q q1 k k1 v o]
  simp only [hq, hq1, hk, hk1, ho]
  rfl

/-! ## Block 1 -/

theorem mask_1 (r : Fin 256) (c : Fin 512) (a b : EReal) :
    Scalar.select (k0_pay39 (ix2 r c)) a b = if c.val ≤ 256 + r.val then a else b := by
  have hr := r.isLt
  have hc := c.isLt
  pointwise [k0_pay39]
  refine if_congr ?_ rfl rfl
  word_omega

theorem p0_1 (q : Vec Ideal S256x128 .bf16) (k : Vec Ideal S512x128 .bf16) (r : Fin 256) (c : Fin 512) :
    k0_pay41 (F := Ideal) q k (ix2 r c) = pr (sc 1 (fun r d => q (ix2 r d)) (fun c d => k (ix2 c d)) r) c := by
  pointwise [k0_pay41]
  simp only [mask_1, ofBits_ninf]
  rfl

theorem p1_1 (q : Vec Ideal S256x128 .bf16) (k : Vec Ideal S512x128 .bf16) (r : Fin 256) (c : Fin 512) :
    k0_pay48 (F := Ideal) k0_pay39 q k (ix2 r c) = pr (sc 1 (fun r d => q (ix2 r d)) (fun c d => k (ix2 c d)) r) c := by
  pointwise [k0_pay48]
  simp only [mask_1, ofBits_ninf]
  rfl

theorem de0_1 (o : Vec Ideal S256x128 .bf16) (r : Fin 256) (l : Fin 128) :
    k0_pay42 (F := Ideal) o (ix2 r l) = de 0 (fun r l => o (ix2 r l)) r l := by
  have hl := l.isLt
  pointwise [k0_pay42]
  refine if_congr ?_ rfl rfl
  word_cmp

theorem de1_1 (io : IVec S256x128 32) (hio : ∀ r l, io (ix2 r l) = BitVec.ofNat 32 l.val) (o : Vec Ideal S256x128 .bf16) (r : Fin 256) (l : Fin 128) :
    k0_pay49 (F := Ideal) io o (ix2 r l) = de 1 (fun r l => o (ix2 r l)) r l := by
  have hl := l.isLt
  pointwise [k0_pay49]
  rw [hio]
  refine if_congr ?_ rfl rfl
  word_cmp

theorem ds0_1 (cst : Ideal .f32) (hcst : cst = scale) (q : Vec Ideal S256x128 .bf16) (k v : Vec Ideal S512x128 .bf16) (o : Vec Ideal S256x128 .bf16) (r : Fin 256) (c : Fin 512) :
    k0_pay44 (F := Ideal) (k0_pay43 (F := Ideal) v o q k) cst (ix2 r c) = ds 1 (fun r d => q (ix2 r d)) (fun c d => k (ix2 c d)) (de 0 (fun r l => o (ix2 r l))) (fun c l => v (ix2 c l)) r c := by
  pointwise [k0_pay44, k0_pay43]
  simp only [p0_1, de0_1, hcst]
  rfl

theorem ds1_1 (io : IVec S256x128 32) (hio : ∀ r l, io (ix2 r l) = BitVec.ofNat 32 l.val) (q1 : Vec Ideal S256x128 .bf16) (k1 v : Vec Ideal S512x128 .bf16) (o : Vec Ideal S256x128 .bf16) (r : Fin 256) (c : Fin 512) :
    k0_pay50 (F := Ideal) k0_pay39 io v o q1 k1 (ix2 r c) = ds 1 (fun r d => q1 (ix2 r d)) (fun c d => k1 (ix2 c d)) (de 1 (fun r l => o (ix2 r l))) (fun c l => v (ix2 c l)) r c := by
  pointwise [k0_pay50]
  simp only [p1_1, de1_1 _ hio]
  rfl

theorem dqh_1 (cst : Ideal .f32) (hcst : cst = scale) (q : Vec Ideal S256x128 .bf16) (k v : Vec Ideal S512x128 .bf16) (o : Vec Ideal S256x128 .bf16) (r : Fin 256) (d : Fin 128) :
    k0_pay45 (F := Ideal) k (k0_pay43 (F := Ideal) v o q k) cst (ix2 r d) = ∑ c, ds 1 (fun r d => q (ix2 r d)) (fun c d => k (ix2 c d)) (de 0 (fun r l => o (ix2 r l))) (fun c l => v (ix2 c l)) r c * k (ix2 c d) := by
  pointwise [k0_pay45]
  simp only [ds0_1 _ hcst]

theorem dkh_1 (cst : Ideal .f32) (hcst : cst = scale) (q : Vec Ideal S256x128 .bf16) (k v : Vec Ideal S512x128 .bf16) (o : Vec Ideal S256x128 .bf16) (c : Fin 512) (d : Fin 128) :
    k0_pay46 (F := Ideal) q (k0_pay43 (F := Ideal) v o q k) cst (ix2 c d) = ∑ r, ds 1 (fun r d => q (ix2 r d)) (fun c d => k (ix2 c d)) (de 0 (fun r l => o (ix2 r l))) (fun c l => v (ix2 c l)) r c * q (ix2 r d) := by
  pointwise [k0_pay46]
  simp only [ds0_1 _ hcst]

theorem dvh_1 (q : Vec Ideal S256x128 .bf16) (k : Vec Ideal S512x128 .bf16) (o : Vec Ideal S256x128 .bf16) (c : Fin 512) (l : Fin 128) :
    k0_pay47 (F := Ideal) k0_pay40 (k0_pay41 (F := Ideal) q k) (k0_pay42 (F := Ideal) o) (ix2 c l)
      = ∑ r, pr (sc 1 (fun r d => q (ix2 r d)) (fun c d => k (ix2 c d)) r) c * de 0 (fun r l => o (ix2 r l)) r l := by
  pointwise [k0_pay47, k0_pay40]
  simp only [p0_1, de0_1]

theorem dq_1 (cst : Ideal .f32) (hcst : cst = scale) (io : IVec S256x128 32) (hio : ∀ r l, io (ix2 r l) = BitVec.ofNat 32 l.val) (q q1 : Vec Ideal S256x128 .bf16) (k k1 v : Vec Ideal S512x128 .bf16) (o : Vec Ideal S256x128 .bf16) (r : Fin 256) (j : Fin 256) :
    k0_pay6 (F := Ideal) (k0_pay45 (F := Ideal) k (k0_pay43 (F := Ideal) v o q k) cst) k1 (k0_pay50 (F := Ideal) k0_pay39 io v o q1 k1) (constant S256x128 .f32 0x00000000#32) (ix2 r j)
      = if h : j.val < 128 then ∑ c, ds 1 (fun r d => q (ix2 r d)) (fun c d => k (ix2 c d)) (de 0 (fun r l => o (ix2 r l))) (fun c l => v (ix2 c l)) r c * k (ix2 c ⟨j.val, h⟩)
        else ∑ c, ds 1 (fun r d => q1 (ix2 r d)) (fun c d => k1 (ix2 c d)) (de 1 (fun r l => o (ix2 r l))) (fun c l => v (ix2 c l)) r c * k1 (ix2 c ⟨j.val - 128, by have := j.isLt; omega⟩) := by
  pointwise [k0_pay6]
  simp only [dqh_1 _ hcst, ds1_1 _ hio]

theorem dk_1 (cst : Ideal .f32) (hcst : cst = scale) (io : IVec S256x128 32) (hio : ∀ r l, io (ix2 r l) = BitVec.ofNat 32 l.val) (q q1 : Vec Ideal S256x128 .bf16) (k k1 v : Vec Ideal S512x128 .bf16) (o : Vec Ideal S256x128 .bf16) (y : Vec Ideal S512x256 .f32) (c : Fin 512) (j : Fin 256) :
    k0_pay7 (F := Ideal) (k0_pay46 (F := Ideal) q (k0_pay43 (F := Ideal) v o q k) cst) q1 (k0_pay50 (F := Ideal) k0_pay39 io v o q1 k1) y (ix2 c j)
      = y (ix2 c j) + (if h : j.val < 128 then ∑ r, ds 1 (fun r d => q (ix2 r d)) (fun c d => k (ix2 c d)) (de 0 (fun r l => o (ix2 r l))) (fun c l => v (ix2 c l)) r c * q (ix2 r ⟨j.val, h⟩)
        else ∑ r, ds 1 (fun r d => q1 (ix2 r d)) (fun c d => k1 (ix2 c d)) (de 1 (fun r l => o (ix2 r l))) (fun c l => v (ix2 c l)) r c * q1 (ix2 r ⟨j.val - 128, by have := j.isLt; omega⟩)) := by
  pointwise [k0_pay7]
  simp only [dkh_1 _ hcst, ds1_1 _ hio]

theorem dv_1 (io : IVec S256x128 32) (hio : ∀ r l, io (ix2 r l) = BitVec.ofNat 32 l.val) (q q1 : Vec Ideal S256x128 .bf16) (k k1 v : Vec Ideal S512x128 .bf16) (o : Vec Ideal S256x128 .bf16) (y : Vec Ideal S512x128 .f32) (c : Fin 512) (j : Fin 128) :
    k0_pay8 (F := Ideal) (k0_pay47 (F := Ideal) k0_pay40 (k0_pay41 (F := Ideal) q k) (k0_pay42 (F := Ideal) o)) (k0_pay48 (F := Ideal) k0_pay39 q1 k1) (k0_pay49 (F := Ideal) io o) y (ix2 c j)
      = y (ix2 c j) + (∑ r, pr (sc 1 (fun r d => q (ix2 r d)) (fun c d => k (ix2 c d)) r) c * de 0 (fun r l => o (ix2 r l)) r j
        + ∑ r, pr (sc 1 (fun r d => q1 (ix2 r d)) (fun c d => k1 (ix2 c d)) r) c * de 1 (fun r l => o (ix2 r l)) r j) := by
  pointwise [k0_pay8]
  simp only [dvh_1, p1_1, de1_1 _ hio]

theorem dqf_1 (cst : Ideal .f32) (hcst : cst = scale) (io : IVec S256x128 32) (hio : ∀ r l, io (ix2 r l) = BitVec.ofNat 32 l.val)
    (q q1 : Vec Ideal S256x128 .bf16) (k k1 v : Vec Ideal S512x128 .bf16) (o : Vec Ideal S256x128 .bf16) (hK : 512 ≤ 2048)
    (X0 : Fin 256 → Fin 256 → EReal) (X1 : Fin 2048 → Fin 256 → EReal) (X2 : Fin 2048 → Fin 128 → EReal) (X3 : Fin 256 → Fin 128 → EReal)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (r : Fin 256) (j : Fin 256) :
    k0_pay6 (F := Ideal) (k0_pay45 (F := Ideal) k (k0_pay43 (F := Ideal) v o q k) cst) k1 (k0_pay50 (F := Ideal) k0_pay39 io v o q1 k1) (constant S256x128 .f32 0x00000000#32) (ix2 r j) = dqB 1 hK X0 X1 X2 X3 r j := by
  rw [dq_1 cst hcst io hio]
  simp only [hq, hq1, hk, hk1, hv, ho]
  rfl

theorem dkf_1 (cst : Ideal .f32) (hcst : cst = scale) (io : IVec S256x128 32) (hio : ∀ r l, io (ix2 r l) = BitVec.ofNat 32 l.val)
    (q q1 : Vec Ideal S256x128 .bf16) (k k1 v : Vec Ideal S512x128 .bf16) (o : Vec Ideal S256x128 .bf16) (hK : 512 ≤ 2048)
    (X0 : Fin 256 → Fin 256 → EReal) (X1 : Fin 2048 → Fin 256 → EReal) (X2 : Fin 2048 → Fin 128 → EReal) (X3 : Fin 256 → Fin 128 → EReal) (y : Vec Ideal S512x256 .f32) (Y : Fin 2048 → Fin 256 → EReal) (hy : ∀ c j, y (ix2 c j) = Y (Fin.castLE hK c) j)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 512) (j : Fin 256) :
    k0_pay7 (F := Ideal) (k0_pay46 (F := Ideal) q (k0_pay43 (F := Ideal) v o q k) cst) q1 (k0_pay50 (F := Ideal) k0_pay39 io v o q1 k1) y (ix2 c j) = Y (Fin.castLE hK c) j + dkB 1 hK X0 X1 X2 X3 c j := by
  rw [dk_1 cst hcst io hio]
  simp only [hq, hq1, hk, hk1, hv, ho, hy]
  rfl

theorem dvf_1 (io : IVec S256x128 32) (hio : ∀ r l, io (ix2 r l) = BitVec.ofNat 32 l.val)
    (q q1 : Vec Ideal S256x128 .bf16) (k k1 v : Vec Ideal S512x128 .bf16) (o : Vec Ideal S256x128 .bf16) (hK : 512 ≤ 2048)
    (X0 : Fin 256 → Fin 256 → EReal) (X1 : Fin 2048 → Fin 256 → EReal) (X2 : Fin 2048 → Fin 128 → EReal) (X3 : Fin 256 → Fin 128 → EReal) (y : Vec Ideal S512x128 .f32) (Y : Fin 2048 → Fin 128 → EReal) (hy : ∀ c j, y (ix2 c j) = Y (Fin.castLE hK c) j)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 512) (j : Fin 128) :
    k0_pay8 (F := Ideal) (k0_pay47 (F := Ideal) k0_pay40 (k0_pay41 (F := Ideal) q k) (k0_pay42 (F := Ideal) o)) (k0_pay48 (F := Ideal) k0_pay39 q1 k1) (k0_pay49 (F := Ideal) io o) y (ix2 c j) = Y (Fin.castLE hK c) j + dvB 1 hK X0 X1 X3 c j := by
  rw [dv_1 io hio q q1 k k1 v o y]
  simp only [hq, hq1, hk, hk1, ho, hy]
  rfl

/-! ## Block 2 -/

theorem mask_2 (r : Fin 256) (c : Fin 768) (a b : EReal) :
    Scalar.select (k0_pay51 (ix2 r c)) a b = if c.val ≤ 512 + r.val then a else b := by
  have hr := r.isLt
  have hc := c.isLt
  pointwise [k0_pay51]
  refine if_congr ?_ rfl rfl
  word_omega

theorem p0_2 (q : Vec Ideal S256x128 .bf16) (k : Vec Ideal S768x128 .bf16) (r : Fin 256) (c : Fin 768) :
    k0_pay53 (F := Ideal) q k (ix2 r c) = pr (sc 2 (fun r d => q (ix2 r d)) (fun c d => k (ix2 c d)) r) c := by
  pointwise [k0_pay53]
  simp only [mask_2, ofBits_ninf]
  rfl

theorem p1_2 (q : Vec Ideal S256x128 .bf16) (k : Vec Ideal S768x128 .bf16) (r : Fin 256) (c : Fin 768) :
    k0_pay60 (F := Ideal) k0_pay51 q k (ix2 r c) = pr (sc 2 (fun r d => q (ix2 r d)) (fun c d => k (ix2 c d)) r) c := by
  pointwise [k0_pay60]
  simp only [mask_2, ofBits_ninf]
  rfl

theorem de0_2 (o : Vec Ideal S256x128 .bf16) (r : Fin 256) (l : Fin 128) :
    k0_pay54 (F := Ideal) o (ix2 r l) = de 0 (fun r l => o (ix2 r l)) r l := by
  have hl := l.isLt
  pointwise [k0_pay54]
  refine if_congr ?_ rfl rfl
  word_cmp

theorem de1_2 (io : IVec S256x128 32) (hio : ∀ r l, io (ix2 r l) = BitVec.ofNat 32 l.val) (o : Vec Ideal S256x128 .bf16) (r : Fin 256) (l : Fin 128) :
    k0_pay61 (F := Ideal) io o (ix2 r l) = de 1 (fun r l => o (ix2 r l)) r l := by
  have hl := l.isLt
  pointwise [k0_pay61]
  rw [hio]
  refine if_congr ?_ rfl rfl
  word_cmp

theorem ds0_2 (cst : Ideal .f32) (hcst : cst = scale) (q : Vec Ideal S256x128 .bf16) (k v : Vec Ideal S768x128 .bf16) (o : Vec Ideal S256x128 .bf16) (r : Fin 256) (c : Fin 768) :
    k0_pay56 (F := Ideal) (k0_pay55 (F := Ideal) v o q k) cst (ix2 r c) = ds 2 (fun r d => q (ix2 r d)) (fun c d => k (ix2 c d)) (de 0 (fun r l => o (ix2 r l))) (fun c l => v (ix2 c l)) r c := by
  pointwise [k0_pay56, k0_pay55]
  simp only [p0_2, de0_2, hcst]
  rfl

theorem ds1_2 (io : IVec S256x128 32) (hio : ∀ r l, io (ix2 r l) = BitVec.ofNat 32 l.val) (q1 : Vec Ideal S256x128 .bf16) (k1 v : Vec Ideal S768x128 .bf16) (o : Vec Ideal S256x128 .bf16) (r : Fin 256) (c : Fin 768) :
    k0_pay62 (F := Ideal) k0_pay51 io v o q1 k1 (ix2 r c) = ds 2 (fun r d => q1 (ix2 r d)) (fun c d => k1 (ix2 c d)) (de 1 (fun r l => o (ix2 r l))) (fun c l => v (ix2 c l)) r c := by
  pointwise [k0_pay62]
  simp only [p1_2, de1_2 _ hio]
  rfl

theorem dqh_2 (cst : Ideal .f32) (hcst : cst = scale) (q : Vec Ideal S256x128 .bf16) (k v : Vec Ideal S768x128 .bf16) (o : Vec Ideal S256x128 .bf16) (r : Fin 256) (d : Fin 128) :
    k0_pay57 (F := Ideal) k (k0_pay55 (F := Ideal) v o q k) cst (ix2 r d) = ∑ c, ds 2 (fun r d => q (ix2 r d)) (fun c d => k (ix2 c d)) (de 0 (fun r l => o (ix2 r l))) (fun c l => v (ix2 c l)) r c * k (ix2 c d) := by
  pointwise [k0_pay57]
  simp only [ds0_2 _ hcst]

theorem dkh_2 (cst : Ideal .f32) (hcst : cst = scale) (q : Vec Ideal S256x128 .bf16) (k v : Vec Ideal S768x128 .bf16) (o : Vec Ideal S256x128 .bf16) (c : Fin 768) (d : Fin 128) :
    k0_pay58 (F := Ideal) q (k0_pay55 (F := Ideal) v o q k) cst (ix2 c d) = ∑ r, ds 2 (fun r d => q (ix2 r d)) (fun c d => k (ix2 c d)) (de 0 (fun r l => o (ix2 r l))) (fun c l => v (ix2 c l)) r c * q (ix2 r d) := by
  pointwise [k0_pay58]
  simp only [ds0_2 _ hcst]

theorem dvh_2 (q : Vec Ideal S256x128 .bf16) (k : Vec Ideal S768x128 .bf16) (o : Vec Ideal S256x128 .bf16) (c : Fin 768) (l : Fin 128) :
    k0_pay59 (F := Ideal) k0_pay52 (k0_pay53 (F := Ideal) q k) (k0_pay54 (F := Ideal) o) (ix2 c l)
      = ∑ r, pr (sc 2 (fun r d => q (ix2 r d)) (fun c d => k (ix2 c d)) r) c * de 0 (fun r l => o (ix2 r l)) r l := by
  pointwise [k0_pay59, k0_pay52]
  simp only [p0_2, de0_2]

theorem dq_2 (cst : Ideal .f32) (hcst : cst = scale) (io : IVec S256x128 32) (hio : ∀ r l, io (ix2 r l) = BitVec.ofNat 32 l.val) (q q1 : Vec Ideal S256x128 .bf16) (k k1 v : Vec Ideal S768x128 .bf16) (o : Vec Ideal S256x128 .bf16) (r : Fin 256) (j : Fin 256) :
    k0_pay9 (F := Ideal) (k0_pay57 (F := Ideal) k (k0_pay55 (F := Ideal) v o q k) cst) k1 (k0_pay62 (F := Ideal) k0_pay51 io v o q1 k1) (constant S256x128 .f32 0x00000000#32) (ix2 r j)
      = if h : j.val < 128 then ∑ c, ds 2 (fun r d => q (ix2 r d)) (fun c d => k (ix2 c d)) (de 0 (fun r l => o (ix2 r l))) (fun c l => v (ix2 c l)) r c * k (ix2 c ⟨j.val, h⟩)
        else ∑ c, ds 2 (fun r d => q1 (ix2 r d)) (fun c d => k1 (ix2 c d)) (de 1 (fun r l => o (ix2 r l))) (fun c l => v (ix2 c l)) r c * k1 (ix2 c ⟨j.val - 128, by have := j.isLt; omega⟩) := by
  pointwise [k0_pay9]
  simp only [dqh_2 _ hcst, ds1_2 _ hio]

theorem dk_2 (cst : Ideal .f32) (hcst : cst = scale) (io : IVec S256x128 32) (hio : ∀ r l, io (ix2 r l) = BitVec.ofNat 32 l.val) (q q1 : Vec Ideal S256x128 .bf16) (k k1 v : Vec Ideal S768x128 .bf16) (o : Vec Ideal S256x128 .bf16) (y : Vec Ideal S768x256 .f32) (c : Fin 768) (j : Fin 256) :
    k0_pay10 (F := Ideal) (k0_pay58 (F := Ideal) q (k0_pay55 (F := Ideal) v o q k) cst) q1 (k0_pay62 (F := Ideal) k0_pay51 io v o q1 k1) y (ix2 c j)
      = y (ix2 c j) + (if h : j.val < 128 then ∑ r, ds 2 (fun r d => q (ix2 r d)) (fun c d => k (ix2 c d)) (de 0 (fun r l => o (ix2 r l))) (fun c l => v (ix2 c l)) r c * q (ix2 r ⟨j.val, h⟩)
        else ∑ r, ds 2 (fun r d => q1 (ix2 r d)) (fun c d => k1 (ix2 c d)) (de 1 (fun r l => o (ix2 r l))) (fun c l => v (ix2 c l)) r c * q1 (ix2 r ⟨j.val - 128, by have := j.isLt; omega⟩)) := by
  pointwise [k0_pay10]
  simp only [dkh_2 _ hcst, ds1_2 _ hio]

theorem dv_2 (io : IVec S256x128 32) (hio : ∀ r l, io (ix2 r l) = BitVec.ofNat 32 l.val) (q q1 : Vec Ideal S256x128 .bf16) (k k1 v : Vec Ideal S768x128 .bf16) (o : Vec Ideal S256x128 .bf16) (y : Vec Ideal S768x128 .f32) (c : Fin 768) (j : Fin 128) :
    k0_pay11 (F := Ideal) (k0_pay59 (F := Ideal) k0_pay52 (k0_pay53 (F := Ideal) q k) (k0_pay54 (F := Ideal) o)) (k0_pay60 (F := Ideal) k0_pay51 q1 k1) (k0_pay61 (F := Ideal) io o) y (ix2 c j)
      = y (ix2 c j) + (∑ r, pr (sc 2 (fun r d => q (ix2 r d)) (fun c d => k (ix2 c d)) r) c * de 0 (fun r l => o (ix2 r l)) r j
        + ∑ r, pr (sc 2 (fun r d => q1 (ix2 r d)) (fun c d => k1 (ix2 c d)) r) c * de 1 (fun r l => o (ix2 r l)) r j) := by
  pointwise [k0_pay11]
  simp only [dvh_2, p1_2, de1_2 _ hio]

theorem dqf_2 (cst : Ideal .f32) (hcst : cst = scale) (io : IVec S256x128 32) (hio : ∀ r l, io (ix2 r l) = BitVec.ofNat 32 l.val)
    (q q1 : Vec Ideal S256x128 .bf16) (k k1 v : Vec Ideal S768x128 .bf16) (o : Vec Ideal S256x128 .bf16) (hK : 768 ≤ 2048)
    (X0 : Fin 256 → Fin 256 → EReal) (X1 : Fin 2048 → Fin 256 → EReal) (X2 : Fin 2048 → Fin 128 → EReal) (X3 : Fin 256 → Fin 128 → EReal)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (r : Fin 256) (j : Fin 256) :
    k0_pay9 (F := Ideal) (k0_pay57 (F := Ideal) k (k0_pay55 (F := Ideal) v o q k) cst) k1 (k0_pay62 (F := Ideal) k0_pay51 io v o q1 k1) (constant S256x128 .f32 0x00000000#32) (ix2 r j) = dqB 2 hK X0 X1 X2 X3 r j := by
  rw [dq_2 cst hcst io hio]
  simp only [hq, hq1, hk, hk1, hv, ho]
  rfl

theorem dkf_2 (cst : Ideal .f32) (hcst : cst = scale) (io : IVec S256x128 32) (hio : ∀ r l, io (ix2 r l) = BitVec.ofNat 32 l.val)
    (q q1 : Vec Ideal S256x128 .bf16) (k k1 v : Vec Ideal S768x128 .bf16) (o : Vec Ideal S256x128 .bf16) (hK : 768 ≤ 2048)
    (X0 : Fin 256 → Fin 256 → EReal) (X1 : Fin 2048 → Fin 256 → EReal) (X2 : Fin 2048 → Fin 128 → EReal) (X3 : Fin 256 → Fin 128 → EReal) (y : Vec Ideal S768x256 .f32) (Y : Fin 2048 → Fin 256 → EReal) (hy : ∀ c j, y (ix2 c j) = Y (Fin.castLE hK c) j)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 768) (j : Fin 256) :
    k0_pay10 (F := Ideal) (k0_pay58 (F := Ideal) q (k0_pay55 (F := Ideal) v o q k) cst) q1 (k0_pay62 (F := Ideal) k0_pay51 io v o q1 k1) y (ix2 c j) = Y (Fin.castLE hK c) j + dkB 2 hK X0 X1 X2 X3 c j := by
  rw [dk_2 cst hcst io hio]
  simp only [hq, hq1, hk, hk1, hv, ho, hy]
  rfl

theorem dvf_2 (io : IVec S256x128 32) (hio : ∀ r l, io (ix2 r l) = BitVec.ofNat 32 l.val)
    (q q1 : Vec Ideal S256x128 .bf16) (k k1 v : Vec Ideal S768x128 .bf16) (o : Vec Ideal S256x128 .bf16) (hK : 768 ≤ 2048)
    (X0 : Fin 256 → Fin 256 → EReal) (X1 : Fin 2048 → Fin 256 → EReal) (X2 : Fin 2048 → Fin 128 → EReal) (X3 : Fin 256 → Fin 128 → EReal) (y : Vec Ideal S768x128 .f32) (Y : Fin 2048 → Fin 128 → EReal) (hy : ∀ c j, y (ix2 c j) = Y (Fin.castLE hK c) j)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 768) (j : Fin 128) :
    k0_pay11 (F := Ideal) (k0_pay59 (F := Ideal) k0_pay52 (k0_pay53 (F := Ideal) q k) (k0_pay54 (F := Ideal) o)) (k0_pay60 (F := Ideal) k0_pay51 q1 k1) (k0_pay61 (F := Ideal) io o) y (ix2 c j) = Y (Fin.castLE hK c) j + dvB 2 hK X0 X1 X3 c j := by
  rw [dv_2 io hio q q1 k k1 v o y]
  simp only [hq, hq1, hk, hk1, ho, hy]
  rfl

/-! ## Block 3 -/

theorem mask_3 (r : Fin 256) (c : Fin 1024) (a b : EReal) :
    Scalar.select (k0_pay63 (ix2 r c)) a b = if c.val ≤ 768 + r.val then a else b := by
  have hr := r.isLt
  have hc := c.isLt
  pointwise [k0_pay63]
  refine if_congr ?_ rfl rfl
  word_omega

theorem p0_3 (q : Vec Ideal S256x128 .bf16) (k : Vec Ideal S1024x128 .bf16) (r : Fin 256) (c : Fin 1024) :
    k0_pay65 (F := Ideal) q k (ix2 r c) = pr (sc 3 (fun r d => q (ix2 r d)) (fun c d => k (ix2 c d)) r) c := by
  pointwise [k0_pay65]
  simp only [mask_3, ofBits_ninf]
  rfl

theorem p1_3 (q : Vec Ideal S256x128 .bf16) (k : Vec Ideal S1024x128 .bf16) (r : Fin 256) (c : Fin 1024) :
    k0_pay72 (F := Ideal) k0_pay63 q k (ix2 r c) = pr (sc 3 (fun r d => q (ix2 r d)) (fun c d => k (ix2 c d)) r) c := by
  pointwise [k0_pay72]
  simp only [mask_3, ofBits_ninf]
  rfl

theorem de0_3 (o : Vec Ideal S256x128 .bf16) (r : Fin 256) (l : Fin 128) :
    k0_pay66 (F := Ideal) o (ix2 r l) = de 0 (fun r l => o (ix2 r l)) r l := by
  have hl := l.isLt
  pointwise [k0_pay66]
  refine if_congr ?_ rfl rfl
  word_cmp

theorem de1_3 (io : IVec S256x128 32) (hio : ∀ r l, io (ix2 r l) = BitVec.ofNat 32 l.val) (o : Vec Ideal S256x128 .bf16) (r : Fin 256) (l : Fin 128) :
    k0_pay73 (F := Ideal) io o (ix2 r l) = de 1 (fun r l => o (ix2 r l)) r l := by
  have hl := l.isLt
  pointwise [k0_pay73]
  rw [hio]
  refine if_congr ?_ rfl rfl
  word_cmp

theorem ds0_3 (cst : Ideal .f32) (hcst : cst = scale) (q : Vec Ideal S256x128 .bf16) (k v : Vec Ideal S1024x128 .bf16) (o : Vec Ideal S256x128 .bf16) (r : Fin 256) (c : Fin 1024) :
    k0_pay68 (F := Ideal) (k0_pay67 (F := Ideal) v o q k) cst (ix2 r c) = ds 3 (fun r d => q (ix2 r d)) (fun c d => k (ix2 c d)) (de 0 (fun r l => o (ix2 r l))) (fun c l => v (ix2 c l)) r c := by
  pointwise [k0_pay68, k0_pay67]
  simp only [p0_3, de0_3, hcst]
  rfl

theorem ds1_3 (io : IVec S256x128 32) (hio : ∀ r l, io (ix2 r l) = BitVec.ofNat 32 l.val) (q1 : Vec Ideal S256x128 .bf16) (k1 v : Vec Ideal S1024x128 .bf16) (o : Vec Ideal S256x128 .bf16) (r : Fin 256) (c : Fin 1024) :
    k0_pay74 (F := Ideal) k0_pay63 io v o q1 k1 (ix2 r c) = ds 3 (fun r d => q1 (ix2 r d)) (fun c d => k1 (ix2 c d)) (de 1 (fun r l => o (ix2 r l))) (fun c l => v (ix2 c l)) r c := by
  pointwise [k0_pay74]
  simp only [p1_3, de1_3 _ hio]
  rfl

theorem dqh_3 (cst : Ideal .f32) (hcst : cst = scale) (q : Vec Ideal S256x128 .bf16) (k v : Vec Ideal S1024x128 .bf16) (o : Vec Ideal S256x128 .bf16) (r : Fin 256) (d : Fin 128) :
    k0_pay69 (F := Ideal) k (k0_pay67 (F := Ideal) v o q k) cst (ix2 r d) = ∑ c, ds 3 (fun r d => q (ix2 r d)) (fun c d => k (ix2 c d)) (de 0 (fun r l => o (ix2 r l))) (fun c l => v (ix2 c l)) r c * k (ix2 c d) := by
  pointwise [k0_pay69]
  simp only [ds0_3 _ hcst]

theorem dkh_3 (cst : Ideal .f32) (hcst : cst = scale) (q : Vec Ideal S256x128 .bf16) (k v : Vec Ideal S1024x128 .bf16) (o : Vec Ideal S256x128 .bf16) (c : Fin 1024) (d : Fin 128) :
    k0_pay70 (F := Ideal) q (k0_pay67 (F := Ideal) v o q k) cst (ix2 c d) = ∑ r, ds 3 (fun r d => q (ix2 r d)) (fun c d => k (ix2 c d)) (de 0 (fun r l => o (ix2 r l))) (fun c l => v (ix2 c l)) r c * q (ix2 r d) := by
  pointwise [k0_pay70]
  simp only [ds0_3 _ hcst]

theorem dvh_3 (q : Vec Ideal S256x128 .bf16) (k : Vec Ideal S1024x128 .bf16) (o : Vec Ideal S256x128 .bf16) (c : Fin 1024) (l : Fin 128) :
    k0_pay71 (F := Ideal) k0_pay64 (k0_pay65 (F := Ideal) q k) (k0_pay66 (F := Ideal) o) (ix2 c l)
      = ∑ r, pr (sc 3 (fun r d => q (ix2 r d)) (fun c d => k (ix2 c d)) r) c * de 0 (fun r l => o (ix2 r l)) r l := by
  pointwise [k0_pay71, k0_pay64]
  simp only [p0_3, de0_3]

theorem dq_3 (cst : Ideal .f32) (hcst : cst = scale) (io : IVec S256x128 32) (hio : ∀ r l, io (ix2 r l) = BitVec.ofNat 32 l.val) (q q1 : Vec Ideal S256x128 .bf16) (k k1 v : Vec Ideal S1024x128 .bf16) (o : Vec Ideal S256x128 .bf16) (r : Fin 256) (j : Fin 256) :
    k0_pay12 (F := Ideal) (k0_pay69 (F := Ideal) k (k0_pay67 (F := Ideal) v o q k) cst) k1 (k0_pay74 (F := Ideal) k0_pay63 io v o q1 k1) (constant S256x128 .f32 0x00000000#32) (ix2 r j)
      = if h : j.val < 128 then ∑ c, ds 3 (fun r d => q (ix2 r d)) (fun c d => k (ix2 c d)) (de 0 (fun r l => o (ix2 r l))) (fun c l => v (ix2 c l)) r c * k (ix2 c ⟨j.val, h⟩)
        else ∑ c, ds 3 (fun r d => q1 (ix2 r d)) (fun c d => k1 (ix2 c d)) (de 1 (fun r l => o (ix2 r l))) (fun c l => v (ix2 c l)) r c * k1 (ix2 c ⟨j.val - 128, by have := j.isLt; omega⟩) := by
  pointwise [k0_pay12]
  simp only [dqh_3 _ hcst, ds1_3 _ hio]

theorem dk_3 (cst : Ideal .f32) (hcst : cst = scale) (io : IVec S256x128 32) (hio : ∀ r l, io (ix2 r l) = BitVec.ofNat 32 l.val) (q q1 : Vec Ideal S256x128 .bf16) (k k1 v : Vec Ideal S1024x128 .bf16) (o : Vec Ideal S256x128 .bf16) (y : Vec Ideal S1024x256 .f32) (c : Fin 1024) (j : Fin 256) :
    k0_pay13 (F := Ideal) (k0_pay70 (F := Ideal) q (k0_pay67 (F := Ideal) v o q k) cst) q1 (k0_pay74 (F := Ideal) k0_pay63 io v o q1 k1) y (ix2 c j)
      = y (ix2 c j) + (if h : j.val < 128 then ∑ r, ds 3 (fun r d => q (ix2 r d)) (fun c d => k (ix2 c d)) (de 0 (fun r l => o (ix2 r l))) (fun c l => v (ix2 c l)) r c * q (ix2 r ⟨j.val, h⟩)
        else ∑ r, ds 3 (fun r d => q1 (ix2 r d)) (fun c d => k1 (ix2 c d)) (de 1 (fun r l => o (ix2 r l))) (fun c l => v (ix2 c l)) r c * q1 (ix2 r ⟨j.val - 128, by have := j.isLt; omega⟩)) := by
  pointwise [k0_pay13]
  simp only [dkh_3 _ hcst, ds1_3 _ hio]

theorem dv_3 (io : IVec S256x128 32) (hio : ∀ r l, io (ix2 r l) = BitVec.ofNat 32 l.val) (q q1 : Vec Ideal S256x128 .bf16) (k k1 v : Vec Ideal S1024x128 .bf16) (o : Vec Ideal S256x128 .bf16) (y : Vec Ideal S1024x128 .f32) (c : Fin 1024) (j : Fin 128) :
    k0_pay14 (F := Ideal) (k0_pay71 (F := Ideal) k0_pay64 (k0_pay65 (F := Ideal) q k) (k0_pay66 (F := Ideal) o)) (k0_pay72 (F := Ideal) k0_pay63 q1 k1) (k0_pay73 (F := Ideal) io o) y (ix2 c j)
      = y (ix2 c j) + (∑ r, pr (sc 3 (fun r d => q (ix2 r d)) (fun c d => k (ix2 c d)) r) c * de 0 (fun r l => o (ix2 r l)) r j
        + ∑ r, pr (sc 3 (fun r d => q1 (ix2 r d)) (fun c d => k1 (ix2 c d)) r) c * de 1 (fun r l => o (ix2 r l)) r j) := by
  pointwise [k0_pay14]
  simp only [dvh_3, p1_3, de1_3 _ hio]

theorem dqf_3 (cst : Ideal .f32) (hcst : cst = scale) (io : IVec S256x128 32) (hio : ∀ r l, io (ix2 r l) = BitVec.ofNat 32 l.val)
    (q q1 : Vec Ideal S256x128 .bf16) (k k1 v : Vec Ideal S1024x128 .bf16) (o : Vec Ideal S256x128 .bf16) (hK : 1024 ≤ 2048)
    (X0 : Fin 256 → Fin 256 → EReal) (X1 : Fin 2048 → Fin 256 → EReal) (X2 : Fin 2048 → Fin 128 → EReal) (X3 : Fin 256 → Fin 128 → EReal)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (r : Fin 256) (j : Fin 256) :
    k0_pay12 (F := Ideal) (k0_pay69 (F := Ideal) k (k0_pay67 (F := Ideal) v o q k) cst) k1 (k0_pay74 (F := Ideal) k0_pay63 io v o q1 k1) (constant S256x128 .f32 0x00000000#32) (ix2 r j) = dqB 3 hK X0 X1 X2 X3 r j := by
  rw [dq_3 cst hcst io hio]
  simp only [hq, hq1, hk, hk1, hv, ho]
  rfl

theorem dkf_3 (cst : Ideal .f32) (hcst : cst = scale) (io : IVec S256x128 32) (hio : ∀ r l, io (ix2 r l) = BitVec.ofNat 32 l.val)
    (q q1 : Vec Ideal S256x128 .bf16) (k k1 v : Vec Ideal S1024x128 .bf16) (o : Vec Ideal S256x128 .bf16) (hK : 1024 ≤ 2048)
    (X0 : Fin 256 → Fin 256 → EReal) (X1 : Fin 2048 → Fin 256 → EReal) (X2 : Fin 2048 → Fin 128 → EReal) (X3 : Fin 256 → Fin 128 → EReal) (y : Vec Ideal S1024x256 .f32) (Y : Fin 2048 → Fin 256 → EReal) (hy : ∀ c j, y (ix2 c j) = Y (Fin.castLE hK c) j)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 1024) (j : Fin 256) :
    k0_pay13 (F := Ideal) (k0_pay70 (F := Ideal) q (k0_pay67 (F := Ideal) v o q k) cst) q1 (k0_pay74 (F := Ideal) k0_pay63 io v o q1 k1) y (ix2 c j) = Y (Fin.castLE hK c) j + dkB 3 hK X0 X1 X2 X3 c j := by
  rw [dk_3 cst hcst io hio]
  simp only [hq, hq1, hk, hk1, hv, ho, hy]
  rfl

theorem dvf_3 (io : IVec S256x128 32) (hio : ∀ r l, io (ix2 r l) = BitVec.ofNat 32 l.val)
    (q q1 : Vec Ideal S256x128 .bf16) (k k1 v : Vec Ideal S1024x128 .bf16) (o : Vec Ideal S256x128 .bf16) (hK : 1024 ≤ 2048)
    (X0 : Fin 256 → Fin 256 → EReal) (X1 : Fin 2048 → Fin 256 → EReal) (X2 : Fin 2048 → Fin 128 → EReal) (X3 : Fin 256 → Fin 128 → EReal) (y : Vec Ideal S1024x128 .f32) (Y : Fin 2048 → Fin 128 → EReal) (hy : ∀ c j, y (ix2 c j) = Y (Fin.castLE hK c) j)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 1024) (j : Fin 128) :
    k0_pay14 (F := Ideal) (k0_pay71 (F := Ideal) k0_pay64 (k0_pay65 (F := Ideal) q k) (k0_pay66 (F := Ideal) o)) (k0_pay72 (F := Ideal) k0_pay63 q1 k1) (k0_pay73 (F := Ideal) io o) y (ix2 c j) = Y (Fin.castLE hK c) j + dvB 3 hK X0 X1 X3 c j := by
  rw [dv_3 io hio q q1 k k1 v o y]
  simp only [hq, hq1, hk, hk1, ho, hy]
  rfl

end Cert.Attn

end
-- ==== Proof.Run0.lean ====
/- The body at the points whose block of queries is number 0: what it leaves in its output buffers. -/
module

public import proofs.«01_k».proof.Proof.Pieces
public import proofs.«01_k».proof.Proof.PayA

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem hK_0 : 256 ≤ 2048 := by decide

set_option maxHeartbeats 1000000 in
theorem run_0 (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole)
    (hc0 : k0_cond1 i = 1#1) (hc1 : ¬k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1) (hc7 : ¬k0_cond8 i = 1#1)
    (x0 : Vec Ideal S256x256 .bf16) (x1 : Vec Ideal S2048x256 .bf16) (x2 : Vec Ideal S2048x128 .bf16) (x3 : Vec Ideal S256x128 .bf16)
    (y4 : Vec Ideal S256x256 .f32) (y5 : Vec Ideal S2048x256 .f32) (y6 : Vec Ideal S2048x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (unc (dqB 0 hK_0 (cur x0) (cur x1) (cur x2) (cur x3))) ∗ owns (c : Thread nD τ) arg7 fullShare (unc (ext (dkB 0 hK_0 (cur x0) (cur x1) (cur x2) (cur x3)))) ∗ owns (c : Thread nD τ) arg8 fullShare (unc (ext (dvB 0 hK_0 (cur x0) (cur x1) (cur x3))))) -∗ K ⟨⟩))
          ⊢ wp frame (wpE (defs₀ (F := Ideal)) Variants.none c none) E (cc0_attn_bwd i arg2 harg2 arg3 harg3 arg4 harg4 arg5 harg5 arg6 harg6 arg7 harg7 arg8 harg8) K := by
    simp only [cc0_attn_bwd_eq_skeleton]; unfold cc0_attn_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact wr_whole _ _ _ _ (dqf_0 _ rfl _ iota_lane _ _ _ _ _ _ hK_0 (cur x0) (cur x1) (cur x2) (cur x3) (rd_half harg2 x0 0 _ (Nat.le_refl 256)) (rd_half harg2 x0 1 _ (Nat.le_refl 256)) (rd_half harg3 x1 0 _ hK_0) (rd_half harg3 x1 1 _ hK_0) (rd_top harg4 x2 _ hK_0) (rd_top harg5 x3 _ (Nat.le_refl 256)))
    isplitl [H5]
    · iexists _; isplitr; swap; · iexact H5
      ipureintro
      exact wr_first _ _ _ _ _ _ (dkf_0 _ rfl _ iota_lane _ _ _ _ _ _ hK_0 (cur x0) (cur x1) (cur x2) (cur x3) (rd_half harg2 x0 0 _ (Nat.le_refl 256)) (rd_half harg2 x0 1 _ (Nat.le_refl 256)) (rd_half harg3 x1 0 _ hK_0) (rd_half harg3 x1 1 _ hK_0) (rd_top harg4 x2 _ hK_0) (rd_top harg5 x3 _ (Nat.le_refl 256))) zero_rows_a
    iexists _; isplitr; swap; · iexact H6
    ipureintro
    exact wr_first _ _ _ _ _ _ (dvf_0 _ iota_lane _ _ _ _ (View.readAt (Elt Ideal) arg4.view (Rect.unit (s := S2048x128) ![0, 0] S256x128.size inb_S2048x128_S256x128_0_0).toLoadRect (harg4.unread x2)) _ hK_0 (cur x0) (cur x1) (cur x2) (cur x3) (rd_half harg2 x0 0 _ (Nat.le_refl 256)) (rd_half harg2 x0 1 _ (Nat.le_refl 256)) (rd_half harg3 x1 0 _ hK_0) (rd_half harg3 x1 1 _ hK_0) (rd_top harg4 x2 _ hK_0) (rd_top harg5 x3 _ (Nat.le_refl 256))) zero_rows_b

end Cert.Attn

end
-- ==== Proof.Run1.lean ====
/- The body at the points whose block of queries is number 1: what it leaves in its output buffers. -/
module

public import proofs.«01_k».proof.Proof.Pieces
public import proofs.«01_k».proof.Proof.PayA

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem hK_1 : 512 ≤ 2048 := by decide

set_option maxHeartbeats 1000000 in
theorem run_1 (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole)
    (hc0 : ¬k0_cond1 i = 1#1) (hc1 : k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1) (hc7 : ¬k0_cond8 i = 1#1)
    (x0 : Vec Ideal S256x256 .bf16) (x1 : Vec Ideal S2048x256 .bf16) (x2 : Vec Ideal S2048x128 .bf16) (x3 : Vec Ideal S256x128 .bf16)
    (y4 : Vec Ideal S256x256 .f32) (y5 : Vec Ideal S2048x256 .f32) (y6 : Vec Ideal S2048x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (unc (dqB 1 hK_1 (cur x0) (cur x1) (cur x2) (cur x3))) ∗ owns (c : Thread nD τ) arg7 fullShare (unc fun j d => cur y5 j d + ext (dkB 1 hK_1 (cur x0) (cur x1) (cur x2) (cur x3)) j d) ∗ owns (c : Thread nD τ) arg8 fullShare (unc fun j d => cur y6 j d + ext (dvB 1 hK_1 (cur x0) (cur x1) (cur x3)) j d)) -∗ K ⟨⟩))
          ⊢ wp frame (wpE (defs₀ (F := Ideal)) Variants.none c none) E (cc0_attn_bwd i arg2 harg2 arg3 harg3 arg4 harg4 arg5 harg5 arg6 harg6 arg7 harg7 arg8 harg8) K := by
    simp only [cc0_attn_bwd_eq_skeleton]; unfold cc0_attn_bwd_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact wr_whole _ _ _ _ (dqf_1 _ rfl _ iota_lane _ _ _ _ _ _ hK_1 (cur x0) (cur x1) (cur x2) (cur x3) (rd_half harg2 x0 0 _ (Nat.le_refl 256)) (rd_half harg2 x0 1 _ (Nat.le_refl 256)) (rd_half harg3 x1 0 _ hK_1) (rd_half harg3 x1 1 _ hK_1) (rd_top harg4 x2 _ hK_1) (rd_top harg5 x3 _ (Nat.le_refl 256)))
    isplitl [H5]
    · iexists _; isplitr; swap; · iexact H5
      ipureintro
      exact wr_add harg7 y5 _ hK_1 _ _ (dkf_1 _ rfl _ iota_lane _ _ _ _ _ _ hK_1 (cur x0) (cur x1) (cur x2) (cur x3) _ (cur y5) (rd_top_f harg7 y5 _ hK_1) (rd_half harg2 x0 0 _ (Nat.le_refl 256)) (rd_half harg2 x0 1 _ (Nat.le_refl 256)) (rd_half harg3 x1 0 _ hK_1) (rd_half harg3 x1 1 _ hK_1) (rd_top harg4 x2 _ hK_1) (rd_top harg5 x3 _ (Nat.le_refl 256)))
    iexists _; isplitr; swap; · iexact H6
    ipureintro
    exact wr_add harg8 y6 _ hK_1 _ _ (dvf_1 _ iota_lane _ _ _ _ (View.readAt (Elt Ideal) arg4.view (Rect.unit (s := S2048x128) ![0, 0] S512x128.size inb_S2048x128_S512x128_0_0).toLoadRect (harg4.unread x2)) _ hK_1 (cur x0) (cur x1) (cur x2) (cur x3) _ (cur y6) (rd_top_f harg8 y6 _ hK_1) (rd_half harg2 x0 0 _ (Nat.le_refl 256)) (rd_half harg2 x0 1 _ (Nat.le_refl 256)) (rd_half harg3 x1 0 _ hK_1) (rd_half harg3 x1 1 _ hK_1) (rd_top harg4 x2 _ hK_1) (rd_top harg5 x3 _ (Nat.le_refl 256)))

end Cert.Attn

end
-- ==== Proof.Run2.lean ====
/- The body at the points whose block of queries is number 2: what it leaves in its output buffers. -/
module

public import proofs.«01_k».proof.Proof.Pieces
public import proofs.«01_k».proof.Proof.PayA

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem hK_2 : 768 ≤ 2048 := by decide

set_option maxHeartbeats 1000000 in
theorem run_2 (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole)
    (hc0 : ¬k0_cond1 i = 1#1) (hc1 : ¬k0_cond2 i = 1#1) (hc2 : k0_cond3 i = 1#1) (hc3 : ¬k0_cond4 i = 1#1) (hc4 : ¬k0_cond5 i = 1#1) (hc5 : ¬k0_cond6 i = 1#1) (hc6 : ¬k0_cond7 i = 1#1) (hc7 : ¬k0_cond8 i = 1#1)
    (x0 : Vec Ideal S256x256 .bf16) (x1 : Vec Ideal S2048x256 .bf16) (x2 : Vec Ideal S2048x128 .bf16) (x3 : Vec Ideal S256x128 .bf16)
    (y4 : Vec Ideal S256x256 .f32) (y5 : Vec Ideal S2048x256 .f32) (y6 : Vec Ideal S2048x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (unc (dqB 2 hK_2 (cur x0) (cur x1) (cur x2) (cur x3))) ∗ owns (c : Thread nD τ) arg7 fullShare (unc fun j d => cur y5 j d + ext (dkB 2 hK_2 (cur x0) (cur x1) (cur x2) (cur x3)) j d) ∗ owns (c : Thread nD τ) arg8 fullShare (unc fun j d => cur y6 j d + ext (dvB 2 hK_2 (cur x0) (cur x1) (cur x3)) j d)) -∗ K ⟨⟩))
          ⊢ wp frame (wpE (defs₀ (F := Ideal)) Variants.none c none) E (cc0_attn_bwd i arg2 harg2 arg3 harg3 arg4 harg4 arg5 harg5 arg6 harg6 arg7 harg7 arg8 harg8) K := by
    simp only [cc0_attn_bwd_eq_skeleton]; unfold cc0_attn_bwd_skel
    simp only [k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact wr_whole _ _ _ _ (dqf_2 _ rfl _ iota_lane _ _ _ _ _ _ hK_2 (cur x0) (cur x1) (cur x2) (cur x3) (rd_half harg2 x0 0 _ (Nat.le_refl 256)) (rd_half harg2 x0 1 _ (Nat.le_refl 256)) (rd_half harg3 x1 0 _ hK_2) (rd_half harg3 x1 1 _ hK_2) (rd_top harg4 x2 _ hK_2) (rd_top harg5 x3 _ (Nat.le_refl 256)))
    isplitl [H5]
    · iexists _; isplitr; swap; · iexact H5
      ipureintro
      exact wr_add harg7 y5 _ hK_2 _ _ (dkf_2 _ rfl _ iota_lane _ _ _ _ _ _ hK_2 (cur x0) (cur x1) (cur x2) (cur x3) _ (cur y5) (rd_top_f harg7 y5 _ hK_2) (rd_half harg2 x0 0 _ (Nat.le_refl 256)) (rd_half harg2 x0 1 _ (Nat.le_refl 256)) (rd_half harg3 x1 0 _ hK_2) (rd_half harg3 x1 1 _ hK_2) (rd_top harg4 x2 _ hK_2) (rd_top harg5 x3 _ (Nat.le_refl 256)))
    iexists _; isplitr; swap; · iexact H6
    ipureintro
    exact wr_add harg8 y6 _ hK_2 _ _ (dvf_2 _ iota_lane _ _ _ _ (View.readAt (Elt Ideal) arg4.view (Rect.unit (s := S2048x128) ![0, 0] S768x128.size inb_S2048x128_S768x128_0_0).toLoadRect (harg4.unread x2)) _ hK_2 (cur x0) (cur x1) (cur x2) (cur x3) _ (cur y6) (rd_top_f harg8 y6 _ hK_2) (rd_half harg2 x0 0 _ (Nat.le_refl 256)) (rd_half harg2 x0 1 _ (Nat.le_refl 256)) (rd_half harg3 x1 0 _ hK_2) (rd_half harg3 x1 1 _ hK_2) (rd_top harg4 x2 _ hK_2) (rd_top harg5 x3 _ (Nat.le_refl 256)))

end Cert.Attn

end
-- ==== Proof.Run3.lean ====
/- The body at the points whose block of queries is number 3: what it leaves in its output buffers. -/
module

public import proofs.«01_k».proof.Proof.Pieces
public import proofs.«01_k».proof.Proof.PayA

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem hK_3 : 1024 ≤ 2048 := by decide

set_option maxHeartbeats 1000000 in
theorem run_3 (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole)
    (hc0 : ¬k0_cond1 i = 1#1) (hc1 : ¬k0_cond2 i = 1#1) (hc2 : ¬k0_cond3 i = 1#1) (hc3 : k0_cond4 i = 1#1) (hc4 : ¬k0_cond5 i = 1#1) (hc5 : ¬k0_cond6 i = 1#1) (hc6 : ¬k0_cond7 i = 1#1) (hc7 : ¬k0_cond8 i = 1#1)
    (x0 : Vec Ideal S256x256 .bf16) (x1 : Vec Ideal S2048x256 .bf16) (x2 : Vec Ideal S2048x128 .bf16) (x3 : Vec Ideal S256x128 .bf16)
    (y4 : Vec Ideal S256x256 .f32) (y5 : Vec Ideal S2048x256 .f32) (y6 : Vec Ideal S2048x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (unc (dqB 3 hK_3 (cur x0) (cur x1) (cur x2) (cur x3))) ∗ owns (c : Thread nD τ) arg7 fullShare (unc fun j d => cur y5 j d + ext (dkB 3 hK_3 (cur x0) (cur x1) (cur x2) (cur x3)) j d) ∗ owns (c : Thread nD τ) arg8 fullShare (unc fun j d => cur y6 j d + ext (dvB 3 hK_3 (cur x0) (cur x1) (cur x3)) j d)) -∗ K ⟨⟩))
          ⊢ wp frame (wpE (defs₀ (F := Ideal)) Variants.none c none) E (cc0_attn_bwd i arg2 harg2 arg3 harg3 arg4 harg4 arg5 harg5 arg6 harg6 arg7 harg7 arg8 harg8) K := by
    simp only [cc0_attn_bwd_eq_skeleton]; unfold cc0_attn_bwd_skel
    simp only [k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact wr_whole _ _ _ _ (dqf_3 _ rfl _ iota_lane _ _ _ _ _ _ hK_3 (cur x0) (cur x1) (cur x2) (cur x3) (rd_half harg2 x0 0 _ (Nat.le_refl 256)) (rd_half harg2 x0 1 _ (Nat.le_refl 256)) (rd_half harg3 x1 0 _ hK_3) (rd_half harg3 x1 1 _ hK_3) (rd_top harg4 x2 _ hK_3) (rd_top harg5 x3 _ (Nat.le_refl 256)))
    isplitl [H5]
    · iexists _; isplitr; swap; · iexact H5
      ipureintro
      exact wr_add harg7 y5 _ hK_3 _ _ (dkf_3 _ rfl _ iota_lane _ _ _ _ _ _ hK_3 (cur x0) (cur x1) (cur x2) (cur x3) _ (cur y5) (rd_top_f harg7 y5 _ hK_3) (rd_half harg2 x0 0 _ (Nat.le_refl 256)) (rd_half harg2 x0 1 _ (Nat.le_refl 256)) (rd_half harg3 x1 0 _ hK_3) (rd_half harg3 x1 1 _ hK_3) (rd_top harg4 x2 _ hK_3) (rd_top harg5 x3 _ (Nat.le_refl 256)))
    iexists _; isplitr; swap; · iexact H6
    ipureintro
    exact wr_add harg8 y6 _ hK_3 _ _ (dvf_3 _ iota_lane _ _ _ _ (View.readAt (Elt Ideal) arg4.view (Rect.unit (s := S2048x128) ![0, 0] S1024x128.size inb_S2048x128_S1024x128_0_0).toLoadRect (harg4.unread x2)) _ hK_3 (cur x0) (cur x1) (cur x2) (cur x3) _ (cur y6) (rd_top_f harg8 y6 _ hK_3) (rd_half harg2 x0 0 _ (Nat.le_refl 256)) (rd_half harg2 x0 1 _ (Nat.le_refl 256)) (rd_half harg3 x1 0 _ hK_3) (rd_half harg3 x1 1 _ hK_3) (rd_top harg4 x2 _ hK_3) (rd_top harg5 x3 _ (Nat.le_refl 256)))

end Cert.Attn

end
-- ==== Proof.PayB.lean ====
/- The arithmetic of the blocks of queries 4, 5, 6, 7, read at coordinates. -/
module

public import proofs.«01_k».proof.Proof.Gen.KernelIdeal.Skeleton
public import proofs.«01_k».proof.Proof.Spec
public import Idealize.ShloMosaic.Lib.Pointwise
public import Idealize.ShloMosaic.Lib.WordCmp
public import Idealize.ShloMosaic.Lib.Tactic.WordOmega

@[expose] public section

set_option maxRecDepth 16384

noncomputable section

namespace Cert.Attn

open Idealize.ShloMosaic Idealize.ShloMosaic.TcCoe
open Cert.KernelIdeal Cert.KernelIdeal.Gen

/-! ## Block 4 -/

theorem mask_4 (r : Fin 256) (c : Fin 1280) (a b : EReal) :
    Scalar.select (k0_pay75 (ix2 r c)) a b = if c.val ≤ 1024 + r.val then a else b := by
  have hr := r.isLt
  have hc := c.isLt
  pointwise [k0_pay75]
  refine if_congr ?_ rfl rfl
  word_omega

theorem p0_4 (q : Vec Ideal S256x128 .bf16) (k : Vec Ideal S1280x128 .bf16) (r : Fin 256) (c : Fin 1280) :
    k0_pay77 (F := Ideal) q k (ix2 r c) = pr (sc 4 (fun r d => q (ix2 r d)) (fun c d => k (ix2 c d)) r) c := by
  pointwise [k0_pay77]
  simp only [mask_4, ofBits_ninf]
  rfl

theorem p1_4 (q : Vec Ideal S256x128 .bf16) (k : Vec Ideal S1280x128 .bf16) (r : Fin 256) (c : Fin 1280) :
    k0_pay84 (F := Ideal) k0_pay75 q k (ix2 r c) = pr (sc 4 (fun r d => q (ix2 r d)) (fun c d => k (ix2 c d)) r) c := by
  pointwise [k0_pay84]
  simp only [mask_4, ofBits_ninf]
  rfl

theorem de0_4 (o : Vec Ideal S256x128 .bf16) (r : Fin 256) (l : Fin 128) :
    k0_pay78 (F := Ideal) o (ix2 r l) = de 0 (fun r l => o (ix2 r l)) r l := by
  have hl := l.isLt
  pointwise [k0_pay78]
  refine if_congr ?_ rfl rfl
  word_cmp

theorem de1_4 (io : IVec S256x128 32) (hio : ∀ r l, io (ix2 r l) = BitVec.ofNat 32 l.val) (o : Vec Ideal S256x128 .bf16) (r : Fin 256) (l : Fin 128) :
    k0_pay85 (F := Ideal) io o (ix2 r l) = de 1 (fun r l => o (ix2 r l)) r l := by
  have hl := l.isLt
  pointwise [k0_pay85]
  rw [hio]
  refine if_congr ?_ rfl rfl
  word_cmp

theorem ds0_4 (cst : Ideal .f32) (hcst : cst = scale) (q : Vec Ideal S256x128 .bf16) (k v : Vec Ideal S1280x128 .bf16) (o : Vec Ideal S256x128 .bf16) (r : Fin 256) (c : Fin 1280) :
    k0_pay80 (F := Ideal) (k0_pay79 (F := Ideal) v o q k) cst (ix2 r c) = ds 4 (fun r d => q (ix2 r d)) (fun c d => k (ix2 c d)) (de 0 (fun r l => o (ix2 r l))) (fun c l => v (ix2 c l)) r c := by
  pointwise [k0_pay80, k0_pay79]
  simp only [p0_4, de0_4, hcst]
  rfl

theorem ds1_4 (io : IVec S256x128 32) (hio : ∀ r l, io (ix2 r l) = BitVec.ofNat 32 l.val) (q1 : Vec Ideal S256x128 .bf16) (k1 v : Vec Ideal S1280x128 .bf16) (o : Vec Ideal S256x128 .bf16) (r : Fin 256) (c : Fin 1280) :
    k0_pay86 (F := Ideal) k0_pay75 io v o q1 k1 (ix2 r c) = ds 4 (fun r d => q1 (ix2 r d)) (fun c d => k1 (ix2 c d)) (de 1 (fun r l => o (ix2 r l))) (fun c l => v (ix2 c l)) r c := by
  pointwise [k0_pay86]
  simp only [p1_4, de1_4 _ hio]
  rfl

theorem dqh_4 (cst : Ideal .f32) (hcst : cst = scale) (q : Vec Ideal S256x128 .bf16) (k v : Vec Ideal S1280x128 .bf16) (o : Vec Ideal S256x128 .bf16) (r : Fin 256) (d : Fin 128) :
    k0_pay81 (F := Ideal) k (k0_pay79 (F := Ideal) v o q k) cst (ix2 r d) = ∑ c, ds 4 (fun r d => q (ix2 r d)) (fun c d => k (ix2 c d)) (de 0 (fun r l => o (ix2 r l))) (fun c l => v (ix2 c l)) r c * k (ix2 c d) := by
  pointwise [k0_pay81]
  simp only [ds0_4 _ hcst]

theorem dkh_4 (cst : Ideal .f32) (hcst : cst = scale) (q : Vec Ideal S256x128 .bf16) (k v : Vec Ideal S1280x128 .bf16) (o : Vec Ideal S256x128 .bf16) (c : Fin 1280) (d : Fin 128) :
    k0_pay82 (F := Ideal) q (k0_pay79 (F := Ideal) v o q k) cst (ix2 c d) = ∑ r, ds 4 (fun r d => q (ix2 r d)) (fun c d => k (ix2 c d)) (de 0 (fun r l => o (ix2 r l))) (fun c l => v (ix2 c l)) r c * q (ix2 r d) := by
  pointwise [k0_pay82]
  simp only [ds0_4 _ hcst]

theorem dvh_4 (q : Vec Ideal S256x128 .bf16) (k : Vec Ideal S1280x128 .bf16) (o : Vec Ideal S256x128 .bf16) (c : Fin 1280) (l : Fin 128) :
    k0_pay83 (F := Ideal) k0_pay76 (k0_pay77 (F := Ideal) q k) (k0_pay78 (F := Ideal) o) (ix2 c l)
      = ∑ r, pr (sc 4 (fun r d => q (ix2 r d)) (fun c d => k (ix2 c d)) r) c * de 0 (fun r l => o (ix2 r l)) r l := by
  pointwise [k0_pay83, k0_pay76]
  simp only [p0_4, de0_4]

theorem dq_4 (cst : Ideal .f32) (hcst : cst = scale) (io : IVec S256x128 32) (hio : ∀ r l, io (ix2 r l) = BitVec.ofNat 32 l.val) (q q1 : Vec Ideal S256x128 .bf16) (k k1 v : Vec Ideal S1280x128 .bf16) (o : Vec Ideal S256x128 .bf16) (r : Fin 256) (j : Fin 256) :
    k0_pay15 (F := Ideal) (k0_pay81 (F := Ideal) k (k0_pay79 (F := Ideal) v o q k) cst) k1 (k0_pay86 (F := Ideal) k0_pay75 io v o q1 k1) (constant S256x128 .f32 0x00000000#32) (ix2 r j)
      = if h : j.val < 128 then ∑ c, ds 4 (fun r d => q (ix2 r d)) (fun c d => k (ix2 c d)) (de 0 (fun r l => o (ix2 r l))) (fun c l => v (ix2 c l)) r c * k (ix2 c ⟨j.val, h⟩)
        else ∑ c, ds 4 (fun r d => q1 (ix2 r d)) (fun c d => k1 (ix2 c d)) (de 1 (fun r l => o (ix2 r l))) (fun c l => v (ix2 c l)) r c * k1 (ix2 c ⟨j.val - 128, by have := j.isLt; omega⟩) := by
  pointwise [k0_pay15]
  simp only [dqh_4 _ hcst, ds1_4 _ hio]

theorem dk_4 (cst : Ideal .f32) (hcst : cst = scale) (io : IVec S256x128 32) (hio : ∀ r l, io (ix2 r l) = BitVec.ofNat 32 l.val) (q q1 : Vec Ideal S256x128 .bf16) (k k1 v : Vec Ideal S1280x128 .bf16) (o : Vec Ideal S256x128 .bf16) (y : Vec Ideal S1280x256 .f32) (c : Fin 1280) (j : Fin 256) :
    k0_pay16 (F := Ideal) (k0_pay82 (F := Ideal) q (k0_pay79 (F := Ideal) v o q k) cst) q1 (k0_pay86 (F := Ideal) k0_pay75 io v o q1 k1) y (ix2 c j)
      = y (ix2 c j) + (if h : j.val < 128 then ∑ r, ds 4 (fun r d => q (ix2 r d)) (fun c d => k (ix2 c d)) (de 0 (fun r l => o (ix2 r l))) (fun c l => v (ix2 c l)) r c * q (ix2 r ⟨j.val, h⟩)
        else ∑ r, ds 4 (fun r d => q1 (ix2 r d)) (fun c d => k1 (ix2 c d)) (de 1 (fun r l => o (ix2 r l))) (fun c l => v (ix2 c l)) r c * q1 (ix2 r ⟨j.val - 128, by have := j.isLt; omega⟩)) := by
  pointwise [k0_pay16]
  simp only [dkh_4 _ hcst, ds1_4 _ hio]

theorem dv_4 (io : IVec S256x128 32) (hio : ∀ r l, io (ix2 r l) = BitVec.ofNat 32 l.val) (q q1 : Vec Ideal S256x128 .bf16) (k k1 v : Vec Ideal S1280x128 .bf16) (o : Vec Ideal S256x128 .bf16) (y : Vec Ideal S1280x128 .f32) (c : Fin 1280) (j : Fin 128) :
    k0_pay17 (F := Ideal) (k0_pay83 (F := Ideal) k0_pay76 (k0_pay77 (F := Ideal) q k) (k0_pay78 (F := Ideal) o)) (k0_pay84 (F := Ideal) k0_pay75 q1 k1) (k0_pay85 (F := Ideal) io o) y (ix2 c j)
      = y (ix2 c j) + (∑ r, pr (sc 4 (fun r d => q (ix2 r d)) (fun c d => k (ix2 c d)) r) c * de 0 (fun r l => o (ix2 r l)) r j
        + ∑ r, pr (sc 4 (fun r d => q1 (ix2 r d)) (fun c d => k1 (ix2 c d)) r) c * de 1 (fun r l => o (ix2 r l)) r j) := by
  pointwise [k0_pay17]
  simp only [dvh_4, p1_4, de1_4 _ hio]

theorem dqf_4 (cst : Ideal .f32) (hcst : cst = scale) (io : IVec S256x128 32) (hio : ∀ r l, io (ix2 r l) = BitVec.ofNat 32 l.val)
    (q q1 : Vec Ideal S256x128 .bf16) (k k1 v : Vec Ideal S1280x128 .bf16) (o : Vec Ideal S256x128 .bf16) (hK : 1280 ≤ 2048)
    (X0 : Fin 256 → Fin 256 → EReal) (X1 : Fin 2048 → Fin 256 → EReal) (X2 : Fin 2048 → Fin 128 → EReal) (X3 : Fin 256 → Fin 128 → EReal)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (r : Fin 256) (j : Fin 256) :
    k0_pay15 (F := Ideal) (k0_pay81 (F := Ideal) k (k0_pay79 (F := Ideal) v o q k) cst) k1 (k0_pay86 (F := Ideal) k0_pay75 io v o q1 k1) (constant S256x128 .f32 0x00000000#32) (ix2 r j) = dqB 4 hK X0 X1 X2 X3 r j := by
  rw [dq_4 cst hcst io hio]
  simp only [hq, hq1, hk, hk1, hv, ho]
  rfl

theorem dkf_4 (cst : Ideal .f32) (hcst : cst = scale) (io : IVec S256x128 32) (hio : ∀ r l, io (ix2 r l) = BitVec.ofNat 32 l.val)
    (q q1 : Vec Ideal S256x128 .bf16) (k k1 v : Vec Ideal S1280x128 .bf16) (o : Vec Ideal S256x128 .bf16) (hK : 1280 ≤ 2048)
    (X0 : Fin 256 → Fin 256 → EReal) (X1 : Fin 2048 → Fin 256 → EReal) (X2 : Fin 2048 → Fin 128 → EReal) (X3 : Fin 256 → Fin 128 → EReal) (y : Vec Ideal S1280x256 .f32) (Y : Fin 2048 → Fin 256 → EReal) (hy : ∀ c j, y (ix2 c j) = Y (Fin.castLE hK c) j)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 1280) (j : Fin 256) :
    k0_pay16 (F := Ideal) (k0_pay82 (F := Ideal) q (k0_pay79 (F := Ideal) v o q k) cst) q1 (k0_pay86 (F := Ideal) k0_pay75 io v o q1 k1) y (ix2 c j) = Y (Fin.castLE hK c) j + dkB 4 hK X0 X1 X2 X3 c j := by
  rw [dk_4 cst hcst io hio]
  simp only [hq, hq1, hk, hk1, hv, ho, hy]
  rfl

theorem dvf_4 (io : IVec S256x128 32) (hio : ∀ r l, io (ix2 r l) = BitVec.ofNat 32 l.val)
    (q q1 : Vec Ideal S256x128 .bf16) (k k1 v : Vec Ideal S1280x128 .bf16) (o : Vec Ideal S256x128 .bf16) (hK : 1280 ≤ 2048)
    (X0 : Fin 256 → Fin 256 → EReal) (X1 : Fin 2048 → Fin 256 → EReal) (X2 : Fin 2048 → Fin 128 → EReal) (X3 : Fin 256 → Fin 128 → EReal) (y : Vec Ideal S1280x128 .f32) (Y : Fin 2048 → Fin 128 → EReal) (hy : ∀ c j, y (ix2 c j) = Y (Fin.castLE hK c) j)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 1280) (j : Fin 128) :
    k0_pay17 (F := Ideal) (k0_pay83 (F := Ideal) k0_pay76 (k0_pay77 (F := Ideal) q k) (k0_pay78 (F := Ideal) o)) (k0_pay84 (F := Ideal) k0_pay75 q1 k1) (k0_pay85 (F := Ideal) io o) y (ix2 c j) = Y (Fin.castLE hK c) j + dvB 4 hK X0 X1 X3 c j := by
  rw [dv_4 io hio q q1 k k1 v o y]
  simp only [hq, hq1, hk, hk1, ho, hy]
  rfl

/-! ## Block 5 -/

theorem mask_5 (r : Fin 256) (c : Fin 1536) (a b : EReal) :
    Scalar.select (k0_pay87 (ix2 r c)) a b = if c.val ≤ 1280 + r.val then a else b := by
  have hr := r.isLt
  have hc := c.isLt
  pointwise [k0_pay87]
  refine if_congr ?_ rfl rfl
  word_omega

theorem p0_5 (q : Vec Ideal S256x128 .bf16) (k : Vec Ideal S1536x128 .bf16) (r : Fin 256) (c : Fin 1536) :
    k0_pay89 (F := Ideal) q k (ix2 r c) = pr (sc 5 (fun r d => q (ix2 r d)) (fun c d => k (ix2 c d)) r) c := by
  pointwise [k0_pay89]
  simp only [mask_5, ofBits_ninf]
  rfl

theorem p1_5 (q : Vec Ideal S256x128 .bf16) (k : Vec Ideal S1536x128 .bf16) (r : Fin 256) (c : Fin 1536) :
    k0_pay96 (F := Ideal) k0_pay87 q k (ix2 r c) = pr (sc 5 (fun r d => q (ix2 r d)) (fun c d => k (ix2 c d)) r) c := by
  pointwise [k0_pay96]
  simp only [mask_5, ofBits_ninf]
  rfl

theorem de0_5 (o : Vec Ideal S256x128 .bf16) (r : Fin 256) (l : Fin 128) :
    k0_pay90 (F := Ideal) o (ix2 r l) = de 0 (fun r l => o (ix2 r l)) r l := by
  have hl := l.isLt
  pointwise [k0_pay90]
  refine if_congr ?_ rfl rfl
  word_cmp

theorem de1_5 (io : IVec S256x128 32) (hio : ∀ r l, io (ix2 r l) = BitVec.ofNat 32 l.val) (o : Vec Ideal S256x128 .bf16) (r : Fin 256) (l : Fin 128) :
    k0_pay97 (F := Ideal) io o (ix2 r l) = de 1 (fun r l => o (ix2 r l)) r l := by
  have hl := l.isLt
  pointwise [k0_pay97]
  rw [hio]
  refine if_congr ?_ rfl rfl
  word_cmp

theorem ds0_5 (cst : Ideal .f32) (hcst : cst = scale) (q : Vec Ideal S256x128 .bf16) (k v : Vec Ideal S1536x128 .bf16) (o : Vec Ideal S256x128 .bf16) (r : Fin 256) (c : Fin 1536) :
    k0_pay92 (F := Ideal) (k0_pay91 (F := Ideal) v o q k) cst (ix2 r c) = ds 5 (fun r d => q (ix2 r d)) (fun c d => k (ix2 c d)) (de 0 (fun r l => o (ix2 r l))) (fun c l => v (ix2 c l)) r c := by
  pointwise [k0_pay92, k0_pay91]
  simp only [p0_5, de0_5, hcst]
  rfl

theorem ds1_5 (io : IVec S256x128 32) (hio : ∀ r l, io (ix2 r l) = BitVec.ofNat 32 l.val) (q1 : Vec Ideal S256x128 .bf16) (k1 v : Vec Ideal S1536x128 .bf16) (o : Vec Ideal S256x128 .bf16) (r : Fin 256) (c : Fin 1536) :
    k0_pay98 (F := Ideal) k0_pay87 io v o q1 k1 (ix2 r c) = ds 5 (fun r d => q1 (ix2 r d)) (fun c d => k1 (ix2 c d)) (de 1 (fun r l => o (ix2 r l))) (fun c l => v (ix2 c l)) r c := by
  pointwise [k0_pay98]
  simp only [p1_5, de1_5 _ hio]
  rfl

theorem dqh_5 (cst : Ideal .f32) (hcst : cst = scale) (q : Vec Ideal S256x128 .bf16) (k v : Vec Ideal S1536x128 .bf16) (o : Vec Ideal S256x128 .bf16) (r : Fin 256) (d : Fin 128) :
    k0_pay93 (F := Ideal) k (k0_pay91 (F := Ideal) v o q k) cst (ix2 r d) = ∑ c, ds 5 (fun r d => q (ix2 r d)) (fun c d => k (ix2 c d)) (de 0 (fun r l => o (ix2 r l))) (fun c l => v (ix2 c l)) r c * k (ix2 c d) := by
  pointwise [k0_pay93]
  simp only [ds0_5 _ hcst]

theorem dkh_5 (cst : Ideal .f32) (hcst : cst = scale) (q : Vec Ideal S256x128 .bf16) (k v : Vec Ideal S1536x128 .bf16) (o : Vec Ideal S256x128 .bf16) (c : Fin 1536) (d : Fin 128) :
    k0_pay94 (F := Ideal) q (k0_pay91 (F := Ideal) v o q k) cst (ix2 c d) = ∑ r, ds 5 (fun r d => q (ix2 r d)) (fun c d => k (ix2 c d)) (de 0 (fun r l => o (ix2 r l))) (fun c l => v (ix2 c l)) r c * q (ix2 r d) := by
  pointwise [k0_pay94]
  simp only [ds0_5 _ hcst]

theorem dvh_5 (q : Vec Ideal S256x128 .bf16) (k : Vec Ideal S1536x128 .bf16) (o : Vec Ideal S256x128 .bf16) (c : Fin 1536) (l : Fin 128) :
    k0_pay95 (F := Ideal) k0_pay88 (k0_pay89 (F := Ideal) q k) (k0_pay90 (F := Ideal) o) (ix2 c l)
      = ∑ r, pr (sc 5 (fun r d => q (ix2 r d)) (fun c d => k (ix2 c d)) r) c * de 0 (fun r l => o (ix2 r l)) r l := by
  pointwise [k0_pay95, k0_pay88]
  simp only [p0_5, de0_5]

theorem dq_5 (cst : Ideal .f32) (hcst : cst = scale) (io : IVec S256x128 32) (hio : ∀ r l, io (ix2 r l) = BitVec.ofNat 32 l.val) (q q1 : Vec Ideal S256x128 .bf16) (k k1 v : Vec Ideal S1536x128 .bf16) (o : Vec Ideal S256x128 .bf16) (r : Fin 256) (j : Fin 256) :
    k0_pay18 (F := Ideal) (k0_pay93 (F := Ideal) k (k0_pay91 (F := Ideal) v o q k) cst) k1 (k0_pay98 (F := Ideal) k0_pay87 io v o q1 k1) (constant S256x128 .f32 0x00000000#32) (ix2 r j)
      = if h : j.val < 128 then ∑ c, ds 5 (fun r d => q (ix2 r d)) (fun c d => k (ix2 c d)) (de 0 (fun r l => o (ix2 r l))) (fun c l => v (ix2 c l)) r c * k (ix2 c ⟨j.val, h⟩)
        else ∑ c, ds 5 (fun r d => q1 (ix2 r d)) (fun c d => k1 (ix2 c d)) (de 1 (fun r l => o (ix2 r l))) (fun c l => v (ix2 c l)) r c * k1 (ix2 c ⟨j.val - 128, by have := j.isLt; omega⟩) := by
  pointwise [k0_pay18]
  simp only [dqh_5 _ hcst, ds1_5 _ hio]

theorem dk_5 (cst : Ideal .f32) (hcst : cst = scale) (io : IVec S256x128 32) (hio : ∀ r l, io (ix2 r l) = BitVec.ofNat 32 l.val) (q q1 : Vec Ideal S256x128 .bf16) (k k1 v : Vec Ideal S1536x128 .bf16) (o : Vec Ideal S256x128 .bf16) (y : Vec Ideal S1536x256 .f32) (c : Fin 1536) (j : Fin 256) :
    k0_pay19 (F := Ideal) (k0_pay94 (F := Ideal) q (k0_pay91 (F := Ideal) v o q k) cst) q1 (k0_pay98 (F := Ideal) k0_pay87 io v o q1 k1) y (ix2 c j)
      = y (ix2 c j) + (if h : j.val < 128 then ∑ r, ds 5 (fun r d => q (ix2 r d)) (fun c d => k (ix2 c d)) (de 0 (fun r l => o (ix2 r l))) (fun c l => v (ix2 c l)) r c * q (ix2 r ⟨j.val, h⟩)
        else ∑ r, ds 5 (fun r d => q1 (ix2 r d)) (fun c d => k1 (ix2 c d)) (de 1 (fun r l => o (ix2 r l))) (fun c l => v (ix2 c l)) r c * q1 (ix2 r ⟨j.val - 128, by have := j.isLt; omega⟩)) := by
  pointwise [k0_pay19]
  simp only [dkh_5 _ hcst, ds1_5 _ hio]

theorem dv_5 (io : IVec S256x128 32) (hio : ∀ r l, io (ix2 r l) = BitVec.ofNat 32 l.val) (q q1 : Vec Ideal S256x128 .bf16) (k k1 v : Vec Ideal S1536x128 .bf16) (o : Vec Ideal S256x128 .bf16) (y : Vec Ideal S1536x128 .f32) (c : Fin 1536) (j : Fin 128) :
    k0_pay20 (F := Ideal) (k0_pay95 (F := Ideal) k0_pay88 (k0_pay89 (F := Ideal) q k) (k0_pay90 (F := Ideal) o)) (k0_pay96 (F := Ideal) k0_pay87 q1 k1) (k0_pay97 (F := Ideal) io o) y (ix2 c j)
      = y (ix2 c j) + (∑ r, pr (sc 5 (fun r d => q (ix2 r d)) (fun c d => k (ix2 c d)) r) c * de 0 (fun r l => o (ix2 r l)) r j
        + ∑ r, pr (sc 5 (fun r d => q1 (ix2 r d)) (fun c d => k1 (ix2 c d)) r) c * de 1 (fun r l => o (ix2 r l)) r j) := by
  pointwise [k0_pay20]
  simp only [dvh_5, p1_5, de1_5 _ hio]

theorem dqf_5 (cst : Ideal .f32) (hcst : cst = scale) (io : IVec S256x128 32) (hio : ∀ r l, io (ix2 r l) = BitVec.ofNat 32 l.val)
    (q q1 : Vec Ideal S256x128 .bf16) (k k1 v : Vec Ideal S1536x128 .bf16) (o : Vec Ideal S256x128 .bf16) (hK : 1536 ≤ 2048)
    (X0 : Fin 256 → Fin 256 → EReal) (X1 : Fin 2048 → Fin 256 → EReal) (X2 : Fin 2048 → Fin 128 → EReal) (X3 : Fin 256 → Fin 128 → EReal)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (r : Fin 256) (j : Fin 256) :
    k0_pay18 (F := Ideal) (k0_pay93 (F := Ideal) k (k0_pay91 (F := Ideal) v o q k) cst) k1 (k0_pay98 (F := Ideal) k0_pay87 io v o q1 k1) (constant S256x128 .f32 0x00000000#32) (ix2 r j) = dqB 5 hK X0 X1 X2 X3 r j := by
  rw [dq_5 cst hcst io hio]
  simp only [hq, hq1, hk, hk1, hv, ho]
  rfl

theorem dkf_5 (cst : Ideal .f32) (hcst : cst = scale) (io : IVec S256x128 32) (hio : ∀ r l, io (ix2 r l) = BitVec.ofNat 32 l.val)
    (q q1 : Vec Ideal S256x128 .bf16) (k k1 v : Vec Ideal S1536x128 .bf16) (o : Vec Ideal S256x128 .bf16) (hK : 1536 ≤ 2048)
    (X0 : Fin 256 → Fin 256 → EReal) (X1 : Fin 2048 → Fin 256 → EReal) (X2 : Fin 2048 → Fin 128 → EReal) (X3 : Fin 256 → Fin 128 → EReal) (y : Vec Ideal S1536x256 .f32) (Y : Fin 2048 → Fin 256 → EReal) (hy : ∀ c j, y (ix2 c j) = Y (Fin.castLE hK c) j)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 1536) (j : Fin 256) :
    k0_pay19 (F := Ideal) (k0_pay94 (F := Ideal) q (k0_pay91 (F := Ideal) v o q k) cst) q1 (k0_pay98 (F := Ideal) k0_pay87 io v o q1 k1) y (ix2 c j) = Y (Fin.castLE hK c) j + dkB 5 hK X0 X1 X2 X3 c j := by
  rw [dk_5 cst hcst io hio]
  simp only [hq, hq1, hk, hk1, hv, ho, hy]
  rfl

theorem dvf_5 (io : IVec S256x128 32) (hio : ∀ r l, io (ix2 r l) = BitVec.ofNat 32 l.val)
    (q q1 : Vec Ideal S256x128 .bf16) (k k1 v : Vec Ideal S1536x128 .bf16) (o : Vec Ideal S256x128 .bf16) (hK : 1536 ≤ 2048)
    (X0 : Fin 256 → Fin 256 → EReal) (X1 : Fin 2048 → Fin 256 → EReal) (X2 : Fin 2048 → Fin 128 → EReal) (X3 : Fin 256 → Fin 128 → EReal) (y : Vec Ideal S1536x128 .f32) (Y : Fin 2048 → Fin 128 → EReal) (hy : ∀ c j, y (ix2 c j) = Y (Fin.castLE hK c) j)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 1536) (j : Fin 128) :
    k0_pay20 (F := Ideal) (k0_pay95 (F := Ideal) k0_pay88 (k0_pay89 (F := Ideal) q k) (k0_pay90 (F := Ideal) o)) (k0_pay96 (F := Ideal) k0_pay87 q1 k1) (k0_pay97 (F := Ideal) io o) y (ix2 c j) = Y (Fin.castLE hK c) j + dvB 5 hK X0 X1 X3 c j := by
  rw [dv_5 io hio q q1 k k1 v o y]
  simp only [hq, hq1, hk, hk1, ho, hy]
  rfl

/-! ## Block 6 -/

theorem mask_6 (r : Fin 256) (c : Fin 1792) (a b : EReal) :
    Scalar.select (k0_pay99 (ix2 r c)) a b = if c.val ≤ 1536 + r.val then a else b := by
  have hr := r.isLt
  have hc := c.isLt
  pointwise [k0_pay99]
  refine if_congr ?_ rfl rfl
  word_omega

theorem p0_6 (q : Vec Ideal S256x128 .bf16) (k : Vec Ideal S1792x128 .bf16) (r : Fin 256) (c : Fin 1792) :
    k0_pay101 (F := Ideal) q k (ix2 r c) = pr (sc 6 (fun r d => q (ix2 r d)) (fun c d => k (ix2 c d)) r) c := by
  pointwise [k0_pay101]
  simp only [mask_6, ofBits_ninf]
  rfl

theorem p1_6 (q : Vec Ideal S256x128 .bf16) (k : Vec Ideal S1792x128 .bf16) (r : Fin 256) (c : Fin 1792) :
    k0_pay108 (F := Ideal) k0_pay99 q k (ix2 r c) = pr (sc 6 (fun r d => q (ix2 r d)) (fun c d => k (ix2 c d)) r) c := by
  pointwise [k0_pay108]
  simp only [mask_6, ofBits_ninf]
  rfl

theorem de0_6 (o : Vec Ideal S256x128 .bf16) (r : Fin 256) (l : Fin 128) :
    k0_pay102 (F := Ideal) o (ix2 r l) = de 0 (fun r l => o (ix2 r l)) r l := by
  have hl := l.isLt
  pointwise [k0_pay102]
  refine if_congr ?_ rfl rfl
  word_cmp

theorem de1_6 (io : IVec S256x128 32) (hio : ∀ r l, io (ix2 r l) = BitVec.ofNat 32 l.val) (o : Vec Ideal S256x128 .bf16) (r : Fin 256) (l : Fin 128) :
    k0_pay109 (F := Ideal) io o (ix2 r l) = de 1 (fun r l => o (ix2 r l)) r l := by
  have hl := l.isLt
  pointwise [k0_pay109]
  rw [hio]
  refine if_congr ?_ rfl rfl
  word_cmp

theorem ds0_6 (cst : Ideal .f32) (hcst : cst = scale) (q : Vec Ideal S256x128 .bf16) (k v : Vec Ideal S1792x128 .bf16) (o : Vec Ideal S256x128 .bf16) (r : Fin 256) (c : Fin 1792) :
    k0_pay104 (F := Ideal) (k0_pay103 (F := Ideal) v o q k) cst (ix2 r c) = ds 6 (fun r d => q (ix2 r d)) (fun c d => k (ix2 c d)) (de 0 (fun r l => o (ix2 r l))) (fun c l => v (ix2 c l)) r c := by
  pointwise [k0_pay104, k0_pay103]
  simp only [p0_6, de0_6, hcst]
  rfl

theorem ds1_6 (io : IVec S256x128 32) (hio : ∀ r l, io (ix2 r l) = BitVec.ofNat 32 l.val) (q1 : Vec Ideal S256x128 .bf16) (k1 v : Vec Ideal S1792x128 .bf16) (o : Vec Ideal S256x128 .bf16) (r : Fin 256) (c : Fin 1792) :
    k0_pay110 (F := Ideal) k0_pay99 io v o q1 k1 (ix2 r c) = ds 6 (fun r d => q1 (ix2 r d)) (fun c d => k1 (ix2 c d)) (de 1 (fun r l => o (ix2 r l))) (fun c l => v (ix2 c l)) r c := by
  pointwise [k0_pay110]
  simp only [p1_6, de1_6 _ hio]
  rfl

theorem dqh_6 (cst : Ideal .f32) (hcst : cst = scale) (q : Vec Ideal S256x128 .bf16) (k v : Vec Ideal S1792x128 .bf16) (o : Vec Ideal S256x128 .bf16) (r : Fin 256) (d : Fin 128) :
    k0_pay105 (F := Ideal) k (k0_pay103 (F := Ideal) v o q k) cst (ix2 r d) = ∑ c, ds 6 (fun r d => q (ix2 r d)) (fun c d => k (ix2 c d)) (de 0 (fun r l => o (ix2 r l))) (fun c l => v (ix2 c l)) r c * k (ix2 c d) := by
  pointwise [k0_pay105]
  simp only [ds0_6 _ hcst]

theorem dkh_6 (cst : Ideal .f32) (hcst : cst = scale) (q : Vec Ideal S256x128 .bf16) (k v : Vec Ideal S1792x128 .bf16) (o : Vec Ideal S256x128 .bf16) (c : Fin 1792) (d : Fin 128) :
    k0_pay106 (F := Ideal) q (k0_pay103 (F := Ideal) v o q k) cst (ix2 c d) = ∑ r, ds 6 (fun r d => q (ix2 r d)) (fun c d => k (ix2 c d)) (de 0 (fun r l => o (ix2 r l))) (fun c l => v (ix2 c l)) r c * q (ix2 r d) := by
  pointwise [k0_pay106]
  simp only [ds0_6 _ hcst]

theorem dvh_6 (q : Vec Ideal S256x128 .bf16) (k : Vec Ideal S1792x128 .bf16) (o : Vec Ideal S256x128 .bf16) (c : Fin 1792) (l : Fin 128) :
    k0_pay107 (F := Ideal) k0_pay100 (k0_pay101 (F := Ideal) q k) (k0_pay102 (F := Ideal) o) (ix2 c l)
      = ∑ r, pr (sc 6 (fun r d => q (ix2 r d)) (fun c d => k (ix2 c d)) r) c * de 0 (fun r l => o (ix2 r l)) r l := by
  pointwise [k0_pay107, k0_pay100]
  simp only [p0_6, de0_6]

theorem dq_6 (cst : Ideal .f32) (hcst : cst = scale) (io : IVec S256x128 32) (hio : ∀ r l, io (ix2 r l) = BitVec.ofNat 32 l.val) (q q1 : Vec Ideal S256x128 .bf16) (k k1 v : Vec Ideal S1792x128 .bf16) (o : Vec Ideal S256x128 .bf16) (r : Fin 256) (j : Fin 256) :
    k0_pay21 (F := Ideal) (k0_pay105 (F := Ideal) k (k0_pay103 (F := Ideal) v o q k) cst) k1 (k0_pay110 (F := Ideal) k0_pay99 io v o q1 k1) (constant S256x128 .f32 0x00000000#32) (ix2 r j)
      = if h : j.val < 128 then ∑ c, ds 6 (fun r d => q (ix2 r d)) (fun c d => k (ix2 c d)) (de 0 (fun r l => o (ix2 r l))) (fun c l => v (ix2 c l)) r c * k (ix2 c ⟨j.val, h⟩)
        else ∑ c, ds 6 (fun r d => q1 (ix2 r d)) (fun c d => k1 (ix2 c d)) (de 1 (fun r l => o (ix2 r l))) (fun c l => v (ix2 c l)) r c * k1 (ix2 c ⟨j.val - 128, by have := j.isLt; omega⟩) := by
  pointwise [k0_pay21]
  simp only [dqh_6 _ hcst, ds1_6 _ hio]

theorem dk_6 (cst : Ideal .f32) (hcst : cst = scale) (io : IVec S256x128 32) (hio : ∀ r l, io (ix2 r l) = BitVec.ofNat 32 l.val) (q q1 : Vec Ideal S256x128 .bf16) (k k1 v : Vec Ideal S1792x128 .bf16) (o : Vec Ideal S256x128 .bf16) (y : Vec Ideal S1792x256 .f32) (c : Fin 1792) (j : Fin 256) :
    k0_pay22 (F := Ideal) (k0_pay106 (F := Ideal) q (k0_pay103 (F := Ideal) v o q k) cst) q1 (k0_pay110 (F := Ideal) k0_pay99 io v o q1 k1) y (ix2 c j)
      = y (ix2 c j) + (if h : j.val < 128 then ∑ r, ds 6 (fun r d => q (ix2 r d)) (fun c d => k (ix2 c d)) (de 0 (fun r l => o (ix2 r l))) (fun c l => v (ix2 c l)) r c * q (ix2 r ⟨j.val, h⟩)
        else ∑ r, ds 6 (fun r d => q1 (ix2 r d)) (fun c d => k1 (ix2 c d)) (de 1 (fun r l => o (ix2 r l))) (fun c l => v (ix2 c l)) r c * q1 (ix2 r ⟨j.val - 128, by have := j.isLt; omega⟩)) := by
  pointwise [k0_pay22]
  simp only [dkh_6 _ hcst, ds1_6 _ hio]

theorem dv_6 (io : IVec S256x128 32) (hio : ∀ r l, io (ix2 r l) = BitVec.ofNat 32 l.val) (q q1 : Vec Ideal S256x128 .bf16) (k k1 v : Vec Ideal S1792x128 .bf16) (o : Vec Ideal S256x128 .bf16) (y : Vec Ideal S1792x128 .f32) (c : Fin 1792) (j : Fin 128) :
    k0_pay23 (F := Ideal) (k0_pay107 (F := Ideal) k0_pay100 (k0_pay101 (F := Ideal) q k) (k0_pay102 (F := Ideal) o)) (k0_pay108 (F := Ideal) k0_pay99 q1 k1) (k0_pay109 (F := Ideal) io o) y (ix2 c j)
      = y (ix2 c j) + (∑ r, pr (sc 6 (fun r d => q (ix2 r d)) (fun c d => k (ix2 c d)) r) c * de 0 (fun r l => o (ix2 r l)) r j
        + ∑ r, pr (sc 6 (fun r d => q1 (ix2 r d)) (fun c d => k1 (ix2 c d)) r) c * de 1 (fun r l => o (ix2 r l)) r j) := by
  pointwise [k0_pay23]
  simp only [dvh_6, p1_6, de1_6 _ hio]

theorem dqf_6 (cst : Ideal .f32) (hcst : cst = scale) (io : IVec S256x128 32) (hio : ∀ r l, io (ix2 r l) = BitVec.ofNat 32 l.val)
    (q q1 : Vec Ideal S256x128 .bf16) (k k1 v : Vec Ideal S1792x128 .bf16) (o : Vec Ideal S256x128 .bf16) (hK : 1792 ≤ 2048)
    (X0 : Fin 256 → Fin 256 → EReal) (X1 : Fin 2048 → Fin 256 → EReal) (X2 : Fin 2048 → Fin 128 → EReal) (X3 : Fin 256 → Fin 128 → EReal)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (r : Fin 256) (j : Fin 256) :
    k0_pay21 (F := Ideal) (k0_pay105 (F := Ideal) k (k0_pay103 (F := Ideal) v o q k) cst) k1 (k0_pay110 (F := Ideal) k0_pay99 io v o q1 k1) (constant S256x128 .f32 0x00000000#32) (ix2 r j) = dqB 6 hK X0 X1 X2 X3 r j := by
  rw [dq_6 cst hcst io hio]
  simp only [hq, hq1, hk, hk1, hv, ho]
  rfl

theorem dkf_6 (cst : Ideal .f32) (hcst : cst = scale) (io : IVec S256x128 32) (hio : ∀ r l, io (ix2 r l) = BitVec.ofNat 32 l.val)
    (q q1 : Vec Ideal S256x128 .bf16) (k k1 v : Vec Ideal S1792x128 .bf16) (o : Vec Ideal S256x128 .bf16) (hK : 1792 ≤ 2048)
    (X0 : Fin 256 → Fin 256 → EReal) (X1 : Fin 2048 → Fin 256 → EReal) (X2 : Fin 2048 → Fin 128 → EReal) (X3 : Fin 256 → Fin 128 → EReal) (y : Vec Ideal S1792x256 .f32) (Y : Fin 2048 → Fin 256 → EReal) (hy : ∀ c j, y (ix2 c j) = Y (Fin.castLE hK c) j)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 1792) (j : Fin 256) :
    k0_pay22 (F := Ideal) (k0_pay106 (F := Ideal) q (k0_pay103 (F := Ideal) v o q k) cst) q1 (k0_pay110 (F := Ideal) k0_pay99 io v o q1 k1) y (ix2 c j) = Y (Fin.castLE hK c) j + dkB 6 hK X0 X1 X2 X3 c j := by
  rw [dk_6 cst hcst io hio]
  simp only [hq, hq1, hk, hk1, hv, ho, hy]
  rfl

theorem dvf_6 (io : IVec S256x128 32) (hio : ∀ r l, io (ix2 r l) = BitVec.ofNat 32 l.val)
    (q q1 : Vec Ideal S256x128 .bf16) (k k1 v : Vec Ideal S1792x128 .bf16) (o : Vec Ideal S256x128 .bf16) (hK : 1792 ≤ 2048)
    (X0 : Fin 256 → Fin 256 → EReal) (X1 : Fin 2048 → Fin 256 → EReal) (X2 : Fin 2048 → Fin 128 → EReal) (X3 : Fin 256 → Fin 128 → EReal) (y : Vec Ideal S1792x128 .f32) (Y : Fin 2048 → Fin 128 → EReal) (hy : ∀ c j, y (ix2 c j) = Y (Fin.castLE hK c) j)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 1792) (j : Fin 128) :
    k0_pay23 (F := Ideal) (k0_pay107 (F := Ideal) k0_pay100 (k0_pay101 (F := Ideal) q k) (k0_pay102 (F := Ideal) o)) (k0_pay108 (F := Ideal) k0_pay99 q1 k1) (k0_pay109 (F := Ideal) io o) y (ix2 c j) = Y (Fin.castLE hK c) j + dvB 6 hK X0 X1 X3 c j := by
  rw [dv_6 io hio q q1 k k1 v o y]
  simp only [hq, hq1, hk, hk1, ho, hy]
  rfl

/-! ## Block 7 -/

theorem mask_7 (r : Fin 256) (c : Fin 2048) (a b : EReal) :
    Scalar.select (k0_pay111 (ix2 r c)) a b = if c.val ≤ 1792 + r.val then a else b := by
  have hr := r.isLt
  have hc := c.isLt
  pointwise [k0_pay111]
  refine if_congr ?_ rfl rfl
  word_omega

theorem p0_7 (q : Vec Ideal S256x128 .bf16) (k : Vec Ideal S2048x128 .bf16) (r : Fin 256) (c : Fin 2048) :
    k0_pay113 (F := Ideal) q k (ix2 r c) = pr (sc 7 (fun r d => q (ix2 r d)) (fun c d => k (ix2 c d)) r) c := by
  pointwise [k0_pay113]
  simp only [mask_7, ofBits_ninf]
  rfl

theorem p1_7 (q : Vec Ideal S256x128 .bf16) (k : Vec Ideal S2048x128 .bf16) (r : Fin 256) (c : Fin 2048) :
    k0_pay120 (F := Ideal) k0_pay111 q k (ix2 r c) = pr (sc 7 (fun r d => q (ix2 r d)) (fun c d => k (ix2 c d)) r) c := by
  pointwise [k0_pay120]
  simp only [mask_7, ofBits_ninf]
  rfl

theorem de0_7 (o : Vec Ideal S256x128 .bf16) (r : Fin 256) (l : Fin 128) :
    k0_pay114 (F := Ideal) o (ix2 r l) = de 0 (fun r l => o (ix2 r l)) r l := by
  have hl := l.isLt
  pointwise [k0_pay114]
  refine if_congr ?_ rfl rfl
  word_cmp

theorem de1_7 (io : IVec S256x128 32) (hio : ∀ r l, io (ix2 r l) = BitVec.ofNat 32 l.val) (o : Vec Ideal S256x128 .bf16) (r : Fin 256) (l : Fin 128) :
    k0_pay121 (F := Ideal) io o (ix2 r l) = de 1 (fun r l => o (ix2 r l)) r l := by
  have hl := l.isLt
  pointwise [k0_pay121]
  rw [hio]
  refine if_congr ?_ rfl rfl
  word_cmp

theorem ds0_7 (cst : Ideal .f32) (hcst : cst = scale) (q : Vec Ideal S256x128 .bf16) (k v : Vec Ideal S2048x128 .bf16) (o : Vec Ideal S256x128 .bf16) (r : Fin 256) (c : Fin 2048) :
    k0_pay116 (F := Ideal) (k0_pay115 (F := Ideal) v o q k) cst (ix2 r c) = ds 7 (fun r d => q (ix2 r d)) (fun c d => k (ix2 c d)) (de 0 (fun r l => o (ix2 r l))) (fun c l => v (ix2 c l)) r c := by
  pointwise [k0_pay116, k0_pay115]
  simp only [p0_7, de0_7, hcst]
  rfl

theorem ds1_7 (io : IVec S256x128 32) (hio : ∀ r l, io (ix2 r l) = BitVec.ofNat 32 l.val) (q1 : Vec Ideal S256x128 .bf16) (k1 v : Vec Ideal S2048x128 .bf16) (o : Vec Ideal S256x128 .bf16) (r : Fin 256) (c : Fin 2048) :
    k0_pay122 (F := Ideal) k0_pay111 io v o q1 k1 (ix2 r c) = ds 7 (fun r d => q1 (ix2 r d)) (fun c d => k1 (ix2 c d)) (de 1 (fun r l => o (ix2 r l))) (fun c l => v (ix2 c l)) r c := by
  pointwise [k0_pay122]
  simp only [p1_7, de1_7 _ hio]
  rfl

theorem dqh_7 (cst : Ideal .f32) (hcst : cst = scale) (q : Vec Ideal S256x128 .bf16) (k v : Vec Ideal S2048x128 .bf16) (o : Vec Ideal S256x128 .bf16) (r : Fin 256) (d : Fin 128) :
    k0_pay117 (F := Ideal) k (k0_pay115 (F := Ideal) v o q k) cst (ix2 r d) = ∑ c, ds 7 (fun r d => q (ix2 r d)) (fun c d => k (ix2 c d)) (de 0 (fun r l => o (ix2 r l))) (fun c l => v (ix2 c l)) r c * k (ix2 c d) := by
  pointwise [k0_pay117]
  simp only [ds0_7 _ hcst]

theorem dkh_7 (cst : Ideal .f32) (hcst : cst = scale) (q : Vec Ideal S256x128 .bf16) (k v : Vec Ideal S2048x128 .bf16) (o : Vec Ideal S256x128 .bf16) (c : Fin 2048) (d : Fin 128) :
    k0_pay118 (F := Ideal) q (k0_pay115 (F := Ideal) v o q k) cst (ix2 c d) = ∑ r, ds 7 (fun r d => q (ix2 r d)) (fun c d => k (ix2 c d)) (de 0 (fun r l => o (ix2 r l))) (fun c l => v (ix2 c l)) r c * q (ix2 r d) := by
  pointwise [k0_pay118]
  simp only [ds0_7 _ hcst]

theorem dvh_7 (q : Vec Ideal S256x128 .bf16) (k : Vec Ideal S2048x128 .bf16) (o : Vec Ideal S256x128 .bf16) (c : Fin 2048) (l : Fin 128) :
    k0_pay119 (F := Ideal) k0_pay112 (k0_pay113 (F := Ideal) q k) (k0_pay114 (F := Ideal) o) (ix2 c l)
      = ∑ r, pr (sc 7 (fun r d => q (ix2 r d)) (fun c d => k (ix2 c d)) r) c * de 0 (fun r l => o (ix2 r l)) r l := by
  pointwise [k0_pay119, k0_pay112]
  simp only [p0_7, de0_7]

theorem dq_7 (cst : Ideal .f32) (hcst : cst = scale) (io : IVec S256x128 32) (hio : ∀ r l, io (ix2 r l) = BitVec.ofNat 32 l.val) (q q1 : Vec Ideal S256x128 .bf16) (k k1 v : Vec Ideal S2048x128 .bf16) (o : Vec Ideal S256x128 .bf16) (r : Fin 256) (j : Fin 256) :
    k0_pay24 (F := Ideal) (k0_pay117 (F := Ideal) k (k0_pay115 (F := Ideal) v o q k) cst) k1 (k0_pay122 (F := Ideal) k0_pay111 io v o q1 k1) (constant S256x128 .f32 0x00000000#32) (ix2 r j)
      = if h : j.val < 128 then ∑ c, ds 7 (fun r d => q (ix2 r d)) (fun c d => k (ix2 c d)) (de 0 (fun r l => o (ix2 r l))) (fun c l => v (ix2 c l)) r c * k (ix2 c ⟨j.val, h⟩)
        else ∑ c, ds 7 (fun r d => q1 (ix2 r d)) (fun c d => k1 (ix2 c d)) (de 1 (fun r l => o (ix2 r l))) (fun c l => v (ix2 c l)) r c * k1 (ix2 c ⟨j.val - 128, by have := j.isLt; omega⟩) := by
  pointwise [k0_pay24]
  simp only [dqh_7 _ hcst, ds1_7 _ hio]

theorem dk_7 (cst : Ideal .f32) (hcst : cst = scale) (io : IVec S256x128 32) (hio : ∀ r l, io (ix2 r l) = BitVec.ofNat 32 l.val) (q q1 : Vec Ideal S256x128 .bf16) (k k1 v : Vec Ideal S2048x128 .bf16) (o : Vec Ideal S256x128 .bf16) (y : Vec Ideal S2048x256 .f32) (c : Fin 2048) (j : Fin 256) :
    k0_pay25 (F := Ideal) (k0_pay118 (F := Ideal) q (k0_pay115 (F := Ideal) v o q k) cst) q1 (k0_pay122 (F := Ideal) k0_pay111 io v o q1 k1) y (ix2 c j)
      = y (ix2 c j) + (if h : j.val < 128 then ∑ r, ds 7 (fun r d => q (ix2 r d)) (fun c d => k (ix2 c d)) (de 0 (fun r l => o (ix2 r l))) (fun c l => v (ix2 c l)) r c * q (ix2 r ⟨j.val, h⟩)
        else ∑ r, ds 7 (fun r d => q1 (ix2 r d)) (fun c d => k1 (ix2 c d)) (de 1 (fun r l => o (ix2 r l))) (fun c l => v (ix2 c l)) r c * q1 (ix2 r ⟨j.val - 128, by have := j.isLt; omega⟩)) := by
  pointwise [k0_pay25]
  simp only [dkh_7 _ hcst, ds1_7 _ hio]

theorem dv_7 (io : IVec S256x128 32) (hio : ∀ r l, io (ix2 r l) = BitVec.ofNat 32 l.val) (q q1 : Vec Ideal S256x128 .bf16) (k k1 v : Vec Ideal S2048x128 .bf16) (o : Vec Ideal S256x128 .bf16) (y : Vec Ideal S2048x128 .f32) (c : Fin 2048) (j : Fin 128) :
    k0_pay26 (F := Ideal) (k0_pay119 (F := Ideal) k0_pay112 (k0_pay113 (F := Ideal) q k) (k0_pay114 (F := Ideal) o)) (k0_pay120 (F := Ideal) k0_pay111 q1 k1) (k0_pay121 (F := Ideal) io o) y (ix2 c j)
      = y (ix2 c j) + (∑ r, pr (sc 7 (fun r d => q (ix2 r d)) (fun c d => k (ix2 c d)) r) c * de 0 (fun r l => o (ix2 r l)) r j
        + ∑ r, pr (sc 7 (fun r d => q1 (ix2 r d)) (fun c d => k1 (ix2 c d)) r) c * de 1 (fun r l => o (ix2 r l)) r j) := by
  pointwise [k0_pay26]
  simp only [dvh_7, p1_7, de1_7 _ hio]

theorem dqf_7 (cst : Ideal .f32) (hcst : cst = scale) (io : IVec S256x128 32) (hio : ∀ r l, io (ix2 r l) = BitVec.ofNat 32 l.val)
    (q q1 : Vec Ideal S256x128 .bf16) (k k1 v : Vec Ideal S2048x128 .bf16) (o : Vec Ideal S256x128 .bf16) (hK : 2048 ≤ 2048)
    (X0 : Fin 256 → Fin 256 → EReal) (X1 : Fin 2048 → Fin 256 → EReal) (X2 : Fin 2048 → Fin 128 → EReal) (X3 : Fin 256 → Fin 128 → EReal)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (r : Fin 256) (j : Fin 256) :
    k0_pay24 (F := Ideal) (k0_pay117 (F := Ideal) k (k0_pay115 (F := Ideal) v o q k) cst) k1 (k0_pay122 (F := Ideal) k0_pay111 io v o q1 k1) (constant S256x128 .f32 0x00000000#32) (ix2 r j) = dqB 7 hK X0 X1 X2 X3 r j := by
  rw [dq_7 cst hcst io hio]
  simp only [hq, hq1, hk, hk1, hv, ho]
  rfl

theorem dkf_7 (cst : Ideal .f32) (hcst : cst = scale) (io : IVec S256x128 32) (hio : ∀ r l, io (ix2 r l) = BitVec.ofNat 32 l.val)
    (q q1 : Vec Ideal S256x128 .bf16) (k k1 v : Vec Ideal S2048x128 .bf16) (o : Vec Ideal S256x128 .bf16) (hK : 2048 ≤ 2048)
    (X0 : Fin 256 → Fin 256 → EReal) (X1 : Fin 2048 → Fin 256 → EReal) (X2 : Fin 2048 → Fin 128 → EReal) (X3 : Fin 256 → Fin 128 → EReal) (y : Vec Ideal S2048x256 .f32) (Y : Fin 2048 → Fin 256 → EReal) (hy : ∀ c j, y (ix2 c j) = Y (Fin.castLE hK c) j)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 2048) (j : Fin 256) :
    k0_pay25 (F := Ideal) (k0_pay118 (F := Ideal) q (k0_pay115 (F := Ideal) v o q k) cst) q1 (k0_pay122 (F := Ideal) k0_pay111 io v o q1 k1) y (ix2 c j) = Y (Fin.castLE hK c) j + dkB 7 hK X0 X1 X2 X3 c j := by
  rw [dk_7 cst hcst io hio]
  simp only [hq, hq1, hk, hk1, hv, ho, hy]
  rfl

theorem dvf_7 (io : IVec S256x128 32) (hio : ∀ r l, io (ix2 r l) = BitVec.ofNat 32 l.val)
    (q q1 : Vec Ideal S256x128 .bf16) (k k1 v : Vec Ideal S2048x128 .bf16) (o : Vec Ideal S256x128 .bf16) (hK : 2048 ≤ 2048)
    (X0 : Fin 256 → Fin 256 → EReal) (X1 : Fin 2048 → Fin 256 → EReal) (X2 : Fin 2048 → Fin 128 → EReal) (X3 : Fin 256 → Fin 128 → EReal) (y : Vec Ideal S2048x128 .f32) (Y : Fin 2048 → Fin 128 → EReal) (hy : ∀ c j, y (ix2 c j) = Y (Fin.castLE hK c) j)
    (hq : ∀ r d, q (ix2 r d) = half 0 X0 r d) (hq1 : ∀ r d, q1 (ix2 r d) = half 1 X0 r d) (hk : ∀ c d, k (ix2 c d) = half 0 (top hK X1) c d)
    (hk1 : ∀ c d, k1 (ix2 c d) = half 1 (top hK X1) c d) (hv : ∀ c l, v (ix2 c l) = top hK X2 c l) (ho : ∀ r l, o (ix2 r l) = X3 r l) (c : Fin 2048) (j : Fin 128) :
    k0_pay26 (F := Ideal) (k0_pay119 (F := Ideal) k0_pay112 (k0_pay113 (F := Ideal) q k) (k0_pay114 (F := Ideal) o)) (k0_pay120 (F := Ideal) k0_pay111 q1 k1) (k0_pay121 (F := Ideal) io o) y (ix2 c j) = Y (Fin.castLE hK c) j + dvB 7 hK X0 X1 X3 c j := by
  rw [dv_7 io hio q q1 k k1 v o y]
  simp only [hq, hq1, hk, hk1, ho, hy]
  rfl

end Cert.Attn

end
-- ==== Proof.Run4.lean ====
/- The body at the points whose block of queries is number 4: what it leaves in its output buffers. -/
module

public import proofs.«01_k».proof.Proof.Pieces
public import proofs.«01_k».proof.Proof.PayB

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem hK_4 : 1280 ≤ 2048 := by decide

set_option maxHeartbeats 1000000 in
theorem run_4 (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole)
    (hc0 : ¬k0_cond1 i = 1#1) (hc1 : ¬k0_cond2 i = 1#1) (hc2 : ¬k0_cond3 i = 1#1) (hc3 : ¬k0_cond4 i = 1#1) (hc4 : k0_cond5 i = 1#1) (hc5 : ¬k0_cond6 i = 1#1) (hc6 : ¬k0_cond7 i = 1#1) (hc7 : ¬k0_cond8 i = 1#1)
    (x0 : Vec Ideal S256x256 .bf16) (x1 : Vec Ideal S2048x256 .bf16) (x2 : Vec Ideal S2048x128 .bf16) (x3 : Vec Ideal S256x128 .bf16)
    (y4 : Vec Ideal S256x256 .f32) (y5 : Vec Ideal S2048x256 .f32) (y6 : Vec Ideal S2048x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (unc (dqB 4 hK_4 (cur x0) (cur x1) (cur x2) (cur x3))) ∗ owns (c : Thread nD τ) arg7 fullShare (unc fun j d => cur y5 j d + ext (dkB 4 hK_4 (cur x0) (cur x1) (cur x2) (cur x3)) j d) ∗ owns (c : Thread nD τ) arg8 fullShare (unc fun j d => cur y6 j d + ext (dvB 4 hK_4 (cur x0) (cur x1) (cur x3)) j d)) -∗ K ⟨⟩))
          ⊢ wp frame (wpE (defs₀ (F := Ideal)) Variants.none c none) E (cc0_attn_bwd i arg2 harg2 arg3 harg3 arg4 harg4 arg5 harg5 arg6 harg6 arg7 harg7 arg8 harg8) K := by
    simp only [cc0_attn_bwd_eq_skeleton]; unfold cc0_attn_bwd_skel
    simp only [k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact wr_whole _ _ _ _ (dqf_4 _ rfl _ iota_lane _ _ _ _ _ _ hK_4 (cur x0) (cur x1) (cur x2) (cur x3) (rd_half harg2 x0 0 _ (Nat.le_refl 256)) (rd_half harg2 x0 1 _ (Nat.le_refl 256)) (rd_half harg3 x1 0 _ hK_4) (rd_half harg3 x1 1 _ hK_4) (rd_top harg4 x2 _ hK_4) (rd_top harg5 x3 _ (Nat.le_refl 256)))
    isplitl [H5]
    · iexists _; isplitr; swap; · iexact H5
      ipureintro
      exact wr_add harg7 y5 _ hK_4 _ _ (dkf_4 _ rfl _ iota_lane _ _ _ _ _ _ hK_4 (cur x0) (cur x1) (cur x2) (cur x3) _ (cur y5) (rd_top_f harg7 y5 _ hK_4) (rd_half harg2 x0 0 _ (Nat.le_refl 256)) (rd_half harg2 x0 1 _ (Nat.le_refl 256)) (rd_half harg3 x1 0 _ hK_4) (rd_half harg3 x1 1 _ hK_4) (rd_top harg4 x2 _ hK_4) (rd_top harg5 x3 _ (Nat.le_refl 256)))
    iexists _; isplitr; swap; · iexact H6
    ipureintro
    exact wr_add harg8 y6 _ hK_4 _ _ (dvf_4 _ iota_lane _ _ _ _ (View.readAt (Elt Ideal) arg4.view (Rect.unit (s := S2048x128) ![0, 0] S1280x128.size inb_S2048x128_S1280x128_0_0).toLoadRect (harg4.unread x2)) _ hK_4 (cur x0) (cur x1) (cur x2) (cur x3) _ (cur y6) (rd_top_f harg8 y6 _ hK_4) (rd_half harg2 x0 0 _ (Nat.le_refl 256)) (rd_half harg2 x0 1 _ (Nat.le_refl 256)) (rd_half harg3 x1 0 _ hK_4) (rd_half harg3 x1 1 _ hK_4) (rd_top harg4 x2 _ hK_4) (rd_top harg5 x3 _ (Nat.le_refl 256)))

end Cert.Attn

end
-- ==== Proof.Run5.lean ====
/- The body at the points whose block of queries is number 5: what it leaves in its output buffers. -/
module

public import proofs.«01_k».proof.Proof.Pieces
public import proofs.«01_k».proof.Proof.PayB

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem hK_5 : 1536 ≤ 2048 := by decide

set_option maxHeartbeats 1000000 in
theorem run_5 (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole)
    (hc0 : ¬k0_cond1 i = 1#1) (hc1 : ¬k0_cond2 i = 1#1) (hc2 : ¬k0_cond3 i = 1#1) (hc3 : ¬k0_cond4 i = 1#1) (hc4 : ¬k0_cond5 i = 1#1) (hc5 : k0_cond6 i = 1#1) (hc6 : ¬k0_cond7 i = 1#1) (hc7 : ¬k0_cond8 i = 1#1)
    (x0 : Vec Ideal S256x256 .bf16) (x1 : Vec Ideal S2048x256 .bf16) (x2 : Vec Ideal S2048x128 .bf16) (x3 : Vec Ideal S256x128 .bf16)
    (y4 : Vec Ideal S256x256 .f32) (y5 : Vec Ideal S2048x256 .f32) (y6 : Vec Ideal S2048x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (unc (dqB 5 hK_5 (cur x0) (cur x1) (cur x2) (cur x3))) ∗ owns (c : Thread nD τ) arg7 fullShare (unc fun j d => cur y5 j d + ext (dkB 5 hK_5 (cur x0) (cur x1) (cur x2) (cur x3)) j d) ∗ owns (c : Thread nD τ) arg8 fullShare (unc fun j d => cur y6 j d + ext (dvB 5 hK_5 (cur x0) (cur x1) (cur x3)) j d)) -∗ K ⟨⟩))
          ⊢ wp frame (wpE (defs₀ (F := Ideal)) Variants.none c none) E (cc0_attn_bwd i arg2 harg2 arg3 harg3 arg4 harg4 arg5 harg5 arg6 harg6 arg7 harg7 arg8 harg8) K := by
    simp only [cc0_attn_bwd_eq_skeleton]; unfold cc0_attn_bwd_skel
    simp only [k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact wr_whole _ _ _ _ (dqf_5 _ rfl _ iota_lane _ _ _ _ _ _ hK_5 (cur x0) (cur x1) (cur x2) (cur x3) (rd_half harg2 x0 0 _ (Nat.le_refl 256)) (rd_half harg2 x0 1 _ (Nat.le_refl 256)) (rd_half harg3 x1 0 _ hK_5) (rd_half harg3 x1 1 _ hK_5) (rd_top harg4 x2 _ hK_5) (rd_top harg5 x3 _ (Nat.le_refl 256)))
    isplitl [H5]
    · iexists _; isplitr; swap; · iexact H5
      ipureintro
      exact wr_add harg7 y5 _ hK_5 _ _ (dkf_5 _ rfl _ iota_lane _ _ _ _ _ _ hK_5 (cur x0) (cur x1) (cur x2) (cur x3) _ (cur y5) (rd_top_f harg7 y5 _ hK_5) (rd_half harg2 x0 0 _ (Nat.le_refl 256)) (rd_half harg2 x0 1 _ (Nat.le_refl 256)) (rd_half harg3 x1 0 _ hK_5) (rd_half harg3 x1 1 _ hK_5) (rd_top harg4 x2 _ hK_5) (rd_top harg5 x3 _ (Nat.le_refl 256)))
    iexists _; isplitr; swap; · iexact H6
    ipureintro
    exact wr_add harg8 y6 _ hK_5 _ _ (dvf_5 _ iota_lane _ _ _ _ (View.readAt (Elt Ideal) arg4.view (Rect.unit (s := S2048x128) ![0, 0] S1536x128.size inb_S2048x128_S1536x128_0_0).toLoadRect (harg4.unread x2)) _ hK_5 (cur x0) (cur x1) (cur x2) (cur x3) _ (cur y6) (rd_top_f harg8 y6 _ hK_5) (rd_half harg2 x0 0 _ (Nat.le_refl 256)) (rd_half harg2 x0 1 _ (Nat.le_refl 256)) (rd_half harg3 x1 0 _ hK_5) (rd_half harg3 x1 1 _ hK_5) (rd_top harg4 x2 _ hK_5) (rd_top harg5 x3 _ (Nat.le_refl 256)))

end Cert.Attn

end
-- ==== Proof.Run6.lean ====
/- The body at the points whose block of queries is number 6: what it leaves in its output buffers. -/
module

public import proofs.«01_k».proof.Proof.Pieces
public import proofs.«01_k».proof.Proof.PayB

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem hK_6 : 1792 ≤ 2048 := by decide

set_option maxHeartbeats 1000000 in
theorem run_6 (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole)
    (hc0 : ¬k0_cond1 i = 1#1) (hc1 : ¬k0_cond2 i = 1#1) (hc2 : ¬k0_cond3 i = 1#1) (hc3 : ¬k0_cond4 i = 1#1) (hc4 : ¬k0_cond5 i = 1#1) (hc5 : ¬k0_cond6 i = 1#1) (hc6 : k0_cond7 i = 1#1) (hc7 : ¬k0_cond8 i = 1#1)
    (x0 : Vec Ideal S256x256 .bf16) (x1 : Vec Ideal S2048x256 .bf16) (x2 : Vec Ideal S2048x128 .bf16) (x3 : Vec Ideal S256x128 .bf16)
    (y4 : Vec Ideal S256x256 .f32) (y5 : Vec Ideal S2048x256 .f32) (y6 : Vec Ideal S2048x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (unc (dqB 6 hK_6 (cur x0) (cur x1) (cur x2) (cur x3))) ∗ owns (c : Thread nD τ) arg7 fullShare (unc fun j d => cur y5 j d + ext (dkB 6 hK_6 (cur x0) (cur x1) (cur x2) (cur x3)) j d) ∗ owns (c : Thread nD τ) arg8 fullShare (unc fun j d => cur y6 j d + ext (dvB 6 hK_6 (cur x0) (cur x1) (cur x3)) j d)) -∗ K ⟨⟩))
          ⊢ wp frame (wpE (defs₀ (F := Ideal)) Variants.none c none) E (cc0_attn_bwd i arg2 harg2 arg3 harg3 arg4 harg4 arg5 harg5 arg6 harg6 arg7 harg7 arg8 harg8) K := by
    simp only [cc0_attn_bwd_eq_skeleton]; unfold cc0_attn_bwd_skel
    simp only [k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact wr_whole _ _ _ _ (dqf_6 _ rfl _ iota_lane _ _ _ _ _ _ hK_6 (cur x0) (cur x1) (cur x2) (cur x3) (rd_half harg2 x0 0 _ (Nat.le_refl 256)) (rd_half harg2 x0 1 _ (Nat.le_refl 256)) (rd_half harg3 x1 0 _ hK_6) (rd_half harg3 x1 1 _ hK_6) (rd_top harg4 x2 _ hK_6) (rd_top harg5 x3 _ (Nat.le_refl 256)))
    isplitl [H5]
    · iexists _; isplitr; swap; · iexact H5
      ipureintro
      exact wr_add harg7 y5 _ hK_6 _ _ (dkf_6 _ rfl _ iota_lane _ _ _ _ _ _ hK_6 (cur x0) (cur x1) (cur x2) (cur x3) _ (cur y5) (rd_top_f harg7 y5 _ hK_6) (rd_half harg2 x0 0 _ (Nat.le_refl 256)) (rd_half harg2 x0 1 _ (Nat.le_refl 256)) (rd_half harg3 x1 0 _ hK_6) (rd_half harg3 x1 1 _ hK_6) (rd_top harg4 x2 _ hK_6) (rd_top harg5 x3 _ (Nat.le_refl 256)))
    iexists _; isplitr; swap; · iexact H6
    ipureintro
    exact wr_add harg8 y6 _ hK_6 _ _ (dvf_6 _ iota_lane _ _ _ _ (View.readAt (Elt Ideal) arg4.view (Rect.unit (s := S2048x128) ![0, 0] S1792x128.size inb_S2048x128_S1792x128_0_0).toLoadRect (harg4.unread x2)) _ hK_6 (cur x0) (cur x1) (cur x2) (cur x3) _ (cur y6) (rd_top_f harg8 y6 _ hK_6) (rd_half harg2 x0 0 _ (Nat.le_refl 256)) (rd_half harg2 x0 1 _ (Nat.le_refl 256)) (rd_half harg3 x1 0 _ hK_6) (rd_half harg3 x1 1 _ hK_6) (rd_top harg4 x2 _ hK_6) (rd_top harg5 x3 _ (Nat.le_refl 256)))

end Cert.Attn

end
-- ==== Proof.Run7.lean ====
/- The body at the points whose block of queries is number 7: what it leaves in its output buffers. -/
module

public import proofs.«01_k».proof.Proof.Pieces
public import proofs.«01_k».proof.Proof.PayB

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem hK_7 : 2048 ≤ 2048 := by decide

set_option maxHeartbeats 1000000 in
theorem run_7 (c : Dev nD) (i : grid0.Coords) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole)
    (hc0 : ¬k0_cond1 i = 1#1) (hc1 : ¬k0_cond2 i = 1#1) (hc2 : ¬k0_cond3 i = 1#1) (hc3 : ¬k0_cond4 i = 1#1) (hc4 : ¬k0_cond5 i = 1#1) (hc5 : ¬k0_cond6 i = 1#1) (hc6 : ¬k0_cond7 i = 1#1) (hc7 : k0_cond8 i = 1#1)
    (x0 : Vec Ideal S256x256 .bf16) (x1 : Vec Ideal S2048x256 .bf16) (x2 : Vec Ideal S2048x128 .bf16) (x3 : Vec Ideal S256x128 .bf16)
    (y4 : Vec Ideal S256x256 .f32) (y5 : Vec Ideal S2048x256 .f32) (y6 : Vec Ideal S2048x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (unc (dqB 7 hK_7 (cur x0) (cur x1) (cur x2) (cur x3))) ∗ owns (c : Thread nD τ) arg7 fullShare (unc fun j d => cur y5 j d + ext (dkB 7 hK_7 (cur x0) (cur x1) (cur x2) (cur x3)) j d) ∗ owns (c : Thread nD τ) arg8 fullShare (unc fun j d => cur y6 j d + ext (dvB 7 hK_7 (cur x0) (cur x1) (cur x3)) j d)) -∗ K ⟨⟩))
          ⊢ wp frame (wpE (defs₀ (F := Ideal)) Variants.none c none) E (cc0_attn_bwd i arg2 harg2 arg3 harg3 arg4 harg4 arg5 harg5 arg6 harg6 arg7 harg7 arg8 harg8) K := by
    simp only [cc0_attn_bwd_eq_skeleton]; unfold cc0_attn_bwd_skel
    simp only [k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact wr_whole _ _ _ _ (dqf_7 _ rfl _ iota_lane _ _ _ _ _ _ hK_7 (cur x0) (cur x1) (cur x2) (cur x3) (rd_half harg2 x0 0 _ (Nat.le_refl 256)) (rd_half harg2 x0 1 _ (Nat.le_refl 256)) (rd_half harg3 x1 0 _ hK_7) (rd_half harg3 x1 1 _ hK_7) (rd_top harg4 x2 _ hK_7) (rd_top harg5 x3 _ (Nat.le_refl 256)))
    isplitl [H5]
    · iexists _; isplitr; swap; · iexact H5
      ipureintro
      exact wr_add harg7 y5 _ hK_7 _ _ (dkf_7 _ rfl _ iota_lane _ _ _ _ _ _ hK_7 (cur x0) (cur x1) (cur x2) (cur x3) _ (cur y5) (rd_top_f harg7 y5 _ hK_7) (rd_half harg2 x0 0 _ (Nat.le_refl 256)) (rd_half harg2 x0 1 _ (Nat.le_refl 256)) (rd_half harg3 x1 0 _ hK_7) (rd_half harg3 x1 1 _ hK_7) (rd_top harg4 x2 _ hK_7) (rd_top harg5 x3 _ (Nat.le_refl 256)))
    iexists _; isplitr; swap; · iexact H6
    ipureintro
    exact wr_add harg8 y6 _ hK_7 _ _ (dvf_7 _ iota_lane _ _ _ _ (View.readAt (Elt Ideal) arg4.view (Rect.unit (s := S2048x128) ![0, 0] S2048x128.size inb_S2048x128_S2048x128_0_0).toLoadRect (harg4.unread x2)) _ hK_7 (cur x0) (cur x1) (cur x2) (cur x3) _ (cur y6) (rd_top_f harg8 y6 _ hK_7) (rd_half harg2 x0 0 _ (Nat.le_refl 256)) (rd_half harg2 x0 1 _ (Nat.le_refl 256)) (rd_half harg3 x1 0 _ hK_7) (rd_half harg3 x1 1 _ hK_7) (rd_top harg4 x2 _ hK_7) (rd_top harg5 x3 _ (Nat.le_refl 256)))

end Cert.Attn

end
-- ==== Proof.Exact.lean ====
/- The launch of the attention gradient with the exact contents of every buffer at every point. -/
module

public import proofs.«01_k».proof.Proof.Which
public import proofs.«01_k».proof.Proof.Run0
public import proofs.«01_k».proof.Proof.Run1
public import proofs.«01_k».proof.Proof.Run2
public import proofs.«01_k».proof.Proof.Run3
public import proofs.«01_k».proof.Proof.Run4
public import proofs.«01_k».proof.Proof.Run5
public import proofs.«01_k».proof.Proof.Run6
public import proofs.«01_k».proof.Proof.Run7
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 800000 in
/-- The body at any point: the block of the query gradient, and the block's contributions added to the key and value
gradients of the pair of heads, which its first block of queries starts from zero. -/
theorem run_at (c : Dev nD) (t : Fin cfg0.N) (arg2 : Memref sig .tc .vmem S256x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x256 .f32) (harg6 : arg6.IsWhole) (arg7 : Memref sig .tc .vmem S2048x256 .f32) (harg7 : arg7.IsWhole) (arg8 : Memref sig .tc .vmem S2048x128 .f32) (harg8 : arg8.IsWhole)
    (x0 : Vec Ideal S256x256 .bf16) (x1 : Vec Ideal S2048x256 .bf16) (x2 : Vec Ideal S2048x128 .bf16) (x3 : Vec Ideal S256x128 .bf16)
    (y4 : Vec Ideal S256x256 .f32) (y5 : Vec Ideal S2048x256 .f32) (y6 : Vec Ideal S2048x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (unc (dqB (t.val % 8) (keys_le t) (cur x0) (cur x1) (cur x2) (cur x3))) ∗ owns (c : Thread nD τ) arg7 fullShare (unc fun j d => (if t.val % 8 = 0 then 0 else cur y5 j d) + ext (dkB (t.val % 8) (keys_le t) (cur x0) (cur x1) (cur x2) (cur x3)) j d) ∗ owns (c : Thread nD τ) arg8 fullShare (unc fun j d => (if t.val % 8 = 0 then 0 else cur y6 j d) + ext (dvB (t.val % 8) (keys_le t) (cur x0) (cur x1) (cur x3)) j d)) -∗ K ⟨⟩))
          ⊢ wp frame (wpE (defs₀ (F := Ideal)) Variants.none c none) E (cc0_attn_bwd (grid0.coords t) arg2 harg2 arg3 harg3 arg4 harg4 arg5 harg5 arg6 harg6 arg7 harg7 arg8 harg8) K := by
  have hc : t.val % 8 = 0 ∨ t.val % 8 = 1 ∨ t.val % 8 = 2 ∨ t.val % 8 = 3 ∨ t.val % 8 = 4 ∨ t.val % 8 = 5 ∨ t.val % 8 = 6 ∨ t.val % 8 = 7 := by omega
  rcases hc with h | h | h | h | h | h | h | h
  · rw [dqB_congr (keys_le t) hK_0 (by rw [h]) h (cur x0) (cur x1) (cur x2) (cur x3), dkB_congr (keys_le t) hK_0 (by rw [h]) h (cur x0) (cur x1) (cur x2) (cur x3),
      dvB_congr (keys_le t) hK_0 (by rw [h]) h (cur x0) (cur x1) (cur x3)]
    simp only [if_pos h, zero_add]
    exact run_0 c _ arg2 harg2 arg3 harg3 arg4 harg4 arg5 harg5 arg6 harg6 arg7 harg7 arg8 harg8 ((cond_0 t).mpr h) (fun e => absurd ((cond_1 t).mp e) (by omega)) (fun e => absurd ((cond_2 t).mp e) (by omega)) (fun e => absurd ((cond_3 t).mp e) (by omega)) (fun e => absurd ((cond_4 t).mp e) (by omega)) (fun e => absurd ((cond_5 t).mp e) (by omega)) (fun e => absurd ((cond_6 t).mp e) (by omega)) (fun e => absurd ((cond_7 t).mp e) (by omega)) x0 x1 x2 x3 y4 y5 y6 E K
  · rw [dqB_congr (keys_le t) hK_1 (by rw [h]) h (cur x0) (cur x1) (cur x2) (cur x3), dkB_congr (keys_le t) hK_1 (by rw [h]) h (cur x0) (cur x1) (cur x2) (cur x3),
      dvB_congr (keys_le t) hK_1 (by rw [h]) h (cur x0) (cur x1) (cur x3)]
    simp only [if_neg (show ¬t.val % 8 = 0 by omega)]
    exact run_1 c _ arg2 harg2 arg3 harg3 arg4 harg4 arg5 harg5 arg6 harg6 arg7 harg7 arg8 harg8 (fun e => absurd ((cond_0 t).mp e) (by omega)) ((cond_1 t).mpr h) (fun e => absurd ((cond_2 t).mp e) (by omega)) (fun e => absurd ((cond_3 t).mp e) (by omega)) (fun e => absurd ((cond_4 t).mp e) (by omega)) (fun e => absurd ((cond_5 t).mp e) (by omega)) (fun e => absurd ((cond_6 t).mp e) (by omega)) (fun e => absurd ((cond_7 t).mp e) (by omega)) x0 x1 x2 x3 y4 y5 y6 E K
  · rw [dqB_congr (keys_le t) hK_2 (by rw [h]) h (cur x0) (cur x1) (cur x2) (cur x3), dkB_congr (keys_le t) hK_2 (by rw [h]) h (cur x0) (cur x1) (cur x2) (cur x3),
      dvB_congr (keys_le t) hK_2 (by rw [h]) h (cur x0) (cur x1) (cur x3)]
    simp only [if_neg (show ¬t.val % 8 = 0 by omega)]
    exact run_2 c _ arg2 harg2 arg3 harg3 arg4 harg4 arg5 harg5 arg6 harg6 arg7 harg7 arg8 harg8 (fun e => absurd ((cond_0 t).mp e) (by omega)) (fun e => absurd ((cond_1 t).mp e) (by omega)) ((cond_2 t).mpr h) (fun e => absurd ((cond_3 t).mp e) (by omega)) (fun e => absurd ((cond_4 t).mp e) (by omega)) (fun e => absurd ((cond_5 t).mp e) (by omega)) (fun e => absurd ((cond_6 t).mp e) (by omega)) (fun e => absurd ((cond_7 t).mp e) (by omega)) x0 x1 x2 x3 y4 y5 y6 E K
  · rw [dqB_congr (keys_le t) hK_3 (by rw [h]) h (cur x0) (cur x1) (cur x2) (cur x3), dkB_congr (keys_le t) hK_3 (by rw [h]) h (cur x0) (cur x1) (cur x2) (cur x3),
      dvB_congr (keys_le t) hK_3 (by rw [h]) h (cur x0) (cur x1) (cur x3)]
    simp only [if_neg (show ¬t.val % 8 = 0 by omega)]
    exact run_3 c _ arg2 harg2 arg3 harg3 arg4 harg4 arg5 harg5 arg6 harg6 arg7 harg7 arg8 harg8 (fun e => absurd ((cond_0 t).mp e) (by omega)) (fun e => absurd ((cond_1 t).mp e) (by omega)) (fun e => absurd ((cond_2 t).mp e) (by omega)) ((cond_3 t).mpr h) (fun e => absurd ((cond_4 t).mp e) (by omega)) (fun e => absurd ((cond_5 t).mp e) (by omega)) (fun e => absurd ((cond_6 t).mp e) (by omega)) (fun e => absurd ((cond_7 t).mp e) (by omega)) x0 x1 x2 x3 y4 y5 y6 E K
  · rw [dqB_congr (keys_le t) hK_4 (by rw [h]) h (cur x0) (cur x1) (cur x2) (cur x3), dkB_congr (keys_le t) hK_4 (by rw [h]) h (cur x0) (cur x1) (cur x2) (cur x3),
      dvB_congr (keys_le t) hK_4 (by rw [h]) h (cur x0) (cur x1) (cur x3)]
    simp only [if_neg (show ¬t.val % 8 = 0 by omega)]
    exact run_4 c _ arg2 harg2 arg3 harg3 arg4 harg4 arg5 harg5 arg6 harg6 arg7 harg7 arg8 harg8 (fun e => absurd ((cond_0 t).mp e) (by omega)) (fun e => absurd ((cond_1 t).mp e) (by omega)) (fun e => absurd ((cond_2 t).mp e) (by omega)) (fun e => absurd ((cond_3 t).mp e) (by omega)) ((cond_4 t).mpr h) (fun e => absurd ((cond_5 t).mp e) (by omega)) (fun e => absurd ((cond_6 t).mp e) (by omega)) (fun e => absurd ((cond_7 t).mp e) (by omega)) x0 x1 x2 x3 y4 y5 y6 E K
  · rw [dqB_congr (keys_le t) hK_5 (by rw [h]) h (cur x0) (cur x1) (cur x2) (cur x3), dkB_congr (keys_le t) hK_5 (by rw [h]) h (cur x0) (cur x1) (cur x2) (cur x3),
      dvB_congr (keys_le t) hK_5 (by rw [h]) h (cur x0) (cur x1) (cur x3)]
    simp only [if_neg (show ¬t.val % 8 = 0 by omega)]
    exact run_5 c _ arg2 harg2 arg3 harg3 arg4 harg4 arg5 harg5 arg6 harg6 arg7 harg7 arg8 harg8 (fun e => absurd ((cond_0 t).mp e) (by omega)) (fun e => absurd ((cond_1 t).mp e) (by omega)) (fun e => absurd ((cond_2 t).mp e) (by omega)) (fun e => absurd ((cond_3 t).mp e) (by omega)) (fun e => absurd ((cond_4 t).mp e) (by omega)) ((cond_5 t).mpr h) (fun e => absurd ((cond_6 t).mp e) (by omega)) (fun e => absurd ((cond_7 t).mp e) (by omega)) x0 x1 x2 x3 y4 y5 y6 E K
  · rw [dqB_congr (keys_le t) hK_6 (by rw [h]) h (cur x0) (cur x1) (cur x2) (cur x3), dkB_congr (keys_le t) hK_6 (by rw [h]) h (cur x0) (cur x1) (cur x2) (cur x3),
      dvB_congr (keys_le t) hK_6 (by rw [h]) h (cur x0) (cur x1) (cur x3)]
    simp only [if_neg (show ¬t.val % 8 = 0 by omega)]
    exact run_6 c _ arg2 harg2 arg3 harg3 arg4 harg4 arg5 harg5 arg6 harg6 arg7 harg7 arg8 harg8 (fun e => absurd ((cond_0 t).mp e) (by omega)) (fun e => absurd ((cond_1 t).mp e) (by omega)) (fun e => absurd ((cond_2 t).mp e) (by omega)) (fun e => absurd ((cond_3 t).mp e) (by omega)) (fun e => absurd ((cond_4 t).mp e) (by omega)) (fun e => absurd ((cond_5 t).mp e) (by omega)) ((cond_6 t).mpr h) (fun e => absurd ((cond_7 t).mp e) (by omega)) x0 x1 x2 x3 y4 y5 y6 E K
  · rw [dqB_congr (keys_le t) hK_7 (by rw [h]) h (cur x0) (cur x1) (cur x2) (cur x3), dkB_congr (keys_le t) hK_7 (by rw [h]) h (cur x0) (cur x1) (cur x2) (cur x3),
      dvB_congr (keys_le t) hK_7 (by rw [h]) h (cur x0) (cur x1) (cur x3)]
    simp only [if_neg (show ¬t.val % 8 = 0 by omega)]
    exact run_7 c _ arg2 harg2 arg3 harg3 arg4 harg4 arg5 harg5 arg6 harg6 arg7 harg7 arg8 harg8 (fun e => absurd ((cond_0 t).mp e) (by omega)) (fun e => absurd ((cond_1 t).mp e) (by omega)) (fun e => absurd ((cond_2 t).mp e) (by omega)) (fun e => absurd ((cond_3 t).mp e) (by omega)) (fun e => absurd ((cond_4 t).mp e) (by omega)) (fun e => absurd ((cond_5 t).mp e) (by omega)) (fun e => absurd ((cond_6 t).mp e) (by omega)) ((cond_7 t).mpr h) x0 x1 x2 x3 y4 y5 y6 E K

/-! ## What the buffers hold -/

variable (m : (ℓ : Loc nD τ sig) → Buf (Elt Ideal) ℓ) (ρ : Dev nD → PrngReg)

/-- The blocks of q, k, v and of the output gradient at point `t`. -/
def bq (c : Dev nD) (t : Fin cfg0.N) : Vec Ideal S256x256 .bf16 := iblk m c 0 t
def bk (c : Dev nD) (t : Fin cfg0.N) : Vec Ideal S2048x256 .bf16 := iblk m c 1 t
def bv (c : Dev nD) (t : Fin cfg0.N) : Vec Ideal S2048x128 .bf16 := iblk m c 2 t
def bo (c : Dev nD) (t : Fin cfg0.N) : Vec Ideal S256x128 .bf16 := iblk m c 3 t

/-- Point `t`'s contributions to the key and value gradients. -/
def ck (c : Dev nD) (t : Fin cfg0.N) : Fin 2048 → Fin 256 → EReal :=
  ext (dkB (t.val % 8) (keys_le t) (cur (bq m c t)) (cur (bk m c t)) (cur (bv m c t)) (cur (bo m c t)))
def cv (c : Dev nD) (t : Fin cfg0.N) : Fin 2048 → Fin 128 → EReal :=
  ext (dvB (t.val % 8) (keys_le t) (cur (bq m c t)) (cur (bk m c t)) (cur (bo m c t)))

/-- The point of block `i` of the pair of heads of point `t`. -/
def mate (t : Fin cfg0.N) (i : Fin 8) : Fin cfg0.N :=
  ⟨8 * (t.val / 8) + i.val, Nat.lt_of_lt_of_eq (by have := pt_lt t; have := i.isLt; omega : 8 * (t.val / 8) + i.val < 32) N_0.symm⟩

/-- The contributions of the blocks up to point `t`'s. -/
def acc {b : ℕ} (f : Fin cfg0.N → Fin 2048 → Fin b → EReal) (t : Fin cfg0.N) (j : Fin 2048) (d : Fin b) : EReal :=
  ∑ i : Fin 8, if i.val ≤ t.val % 8 then f (mate t i) j d else 0

/-- A sum over the blocks up to `n` ends with block `n`. -/
theorem sum_upto (f : Fin 8 → EReal) (n : ℕ) (hn : n < 8) :
    (if n = 0 then 0 else ∑ i : Fin 8, if i.val ≤ n - 1 then f i else 0) + f ⟨n, hn⟩ = ∑ i : Fin 8, if i.val ≤ n then f i else 0 := by
  interval_cases n <;> simp [Fin.sum_univ_eight]

theorem mate_self (t : Fin cfg0.N) : mate t ⟨t.val % 8, Nat.mod_lt _ (by decide)⟩ = t :=
  Fin.ext (by show 8 * (t.val / 8) + t.val % 8 = t.val; omega)

theorem acc_step {b : ℕ} (f : Fin cfg0.N → Fin 2048 → Fin b → EReal) (t : Fin cfg0.N) (X : Fin 2048 → Fin b → EReal)
    (hX : t.val % 8 ≠ 0 → ∃ s : Fin cfg0.N, s.val = t.val - 1 ∧ X = acc f s) (j : Fin 2048) (d : Fin b) :
    (if t.val % 8 = 0 then 0 else X j d) + f t j d = acc f t j d := by
  refine Eq.trans ?_ (sum_upto (fun i => f (mate t i) j d) (t.val % 8) (Nat.mod_lt _ (by decide)))
  rw [mate_self]
  refine congrArg (· + f t j d) ?_
  by_cases h : t.val % 8 = 0
  · rw [if_pos h, if_pos h]
  · rw [if_neg h, if_neg h]
    obtain ⟨s, hs, hs'⟩ := hX h
    clear hX
    subst hs'
    have hm : ∀ i, mate s i = mate t i := fun i => Fin.ext (by show 8 * (s.val / 8) + i.val = 8 * (t.val / 8) + i.val; omega)
    unfold acc
    rw [show s.val % 8 = t.val % 8 - 1 by omega]
    simp only [hm]

/-- The contents of every array when the launch begins and of every buffer after every point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => unc (dqB (t.val % 8) (keys_le t) (cur (bq m c t)) (cur (bk m c t)) (cur (bv m c t)) (cur (bo m c t)))
    | ⟨5, _⟩ => unc (acc (ck m c) t)
    | ⟨6, _⟩ => unc (acc (cv m c) t)
  Φ _ := Pipeline.ΦA spec0 c
  q _ := fullShare
  owed _ := 0

theorem dats_A (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = unc (dqB (t.val % 8) (keys_le t) (cur (bq m c t)) (cur (bk m c t)) (cur (bv m c t)) (cur (bo m c t))) := by dsimp only [dats]
theorem after_5 (c : Dev nD) (t : Fin cfg0.N) : (dats m 0 c).after 5 t = unc (acc (ck m c) t) := by dsimp only [dats]
theorem after_6 (c : Dev nD) (t : Fin cfg0.N) : (dats m 0 c).after 6 t = unc (acc (cv m c) t) := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d

/-- No window is idle at any point. -/
theorem some_case (i : grid0.Coords) : (!(k0_cond1 i == 1#1) && !(k0_cond2 i == 1#1) && !(k0_cond3 i == 1#1) && !(k0_cond4 i == 1#1)
    && !(k0_cond5 i == 1#1) && !(k0_cond6 i == 1#1) && !(k0_cond7 i == 1#1) && !(k0_cond8 i == 1#1)) = false := by
  have h : (i 1).val < 8 := (i 1).isLt
  simp only [k0_cond1, k0_cond2, k0_cond3, k0_cond4, k0_cond5, k0_cond6, k0_cond7, k0_cond8]
  generalize (i 1).val = n at h
  interval_cases n <;> decide

theorem live_4 (i : grid0.Coords) : cfg0.idle 4 i = false := some_case i
theorem live_5 (i : grid0.Coords) : cfg0.idle 5 i = false := some_case i
theorem live_6 (i : grid0.Coords) : cfg0.idle 6 i = false := some_case i

/-- A running sum's buffer holds what the point before left, except at a pair's first block. -/
theorem before_5 (c : Dev nD) (t : Fin cfg0.N) (d) (h : t.val % 8 ≠ 0) :
    ∃ s : Fin cfg0.N, s.val = t.val - 1 ∧ cur ((dats m 0 c).before 5 t d) = acc (ck m c) s := by
  have ht := pt_lt t
  refine ⟨⟨t.val - 1, Nat.lt_of_le_of_lt (Nat.sub_le _ _) t.isLt⟩, rfl, ?_⟩
  have e := (dats m 0 c).before_out_kept 5 rfl t (by omega) (Bool.eq_false_iff.mpr fun hf => by
    have := (flush0_5 _).mp hf
    simp only at this
    omega) live_5 (fun _ _ => rfl) d
  rw [e, after_5]
  rfl

/-- A running sum's buffer holds what the point before left, except at a pair's first block. -/
theorem before_6 (c : Dev nD) (t : Fin cfg0.N) (d) (h : t.val % 8 ≠ 0) :
    ∃ s : Fin cfg0.N, s.val = t.val - 1 ∧ cur ((dats m 0 c).before 6 t d) = acc (cv m c) s := by
  have ht := pt_lt t
  refine ⟨⟨t.val - 1, Nat.lt_of_le_of_lt (Nat.sub_le _ _) t.isLt⟩, rfl, ?_⟩
  have e := (dats m 0 c).before_out_kept 6 rfl t (by omega) (Bool.eq_false_iff.mpr fun hf => by
    have := (flush0_6 _).mp hf
    simp only at this
    omega) live_6 (fun _ _ => rfl) d
  rw [e, after_6]
  rfl

/-! ## The body's obligation and the launch -/

abbrev buf_0 (t : Fin cfg0.N) : Memref sig .tc .vmem S256x256 .bf16 := win0_0.stage (cfg0.slots t 0)
abbrev buf_1 (t : Fin cfg0.N) : Memref sig .tc .vmem S2048x256 .bf16 := win0_1.stage (cfg0.slots t 1)
abbrev buf_2 (t : Fin cfg0.N) : Memref sig .tc .vmem S2048x128 .bf16 := win0_2.stage (cfg0.slots t 2)
abbrev buf_3 (t : Fin cfg0.N) : Memref sig .tc .vmem S256x128 .bf16 := win0_3.stage (cfg0.slots t 3)
abbrev buf_4 (t : Fin cfg0.N) : Memref sig .tc .vmem S256x256 .f32 := win0_4.stage (cfg0.slots t 4)
abbrev buf_5 (t : Fin cfg0.N) : Memref sig .tc .vmem S2048x256 .f32 := win0_5.stage (cfg0.slots t 5)
abbrev buf_6 (t : Fin cfg0.N) : Memref sig .tc .vmem S2048x128 .f32 := win0_6.stage (cfg0.slots t 6)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (buf_0 t) fullShare ((dats m 0 c).before 0 t d))
    ∗ (∃ d, owns (c : Thread nD τ) (buf_1 t) fullShare ((dats m 0 c).before 1 t d))
    ∗ (∃ d, owns (c : Thread nD τ) (buf_2 t) fullShare ((dats m 0 c).before 2 t d))
    ∗ (∃ d, owns (c : Thread nD τ) (buf_3 t) fullShare ((dats m 0 c).before 3 t d))
    ∗ (∃ d, owns (c : Thread nD τ) (buf_4 t) fullShare ((dats m 0 c).before 4 t d))
    ∗ (∃ d, owns (c : Thread nD τ) (buf_5 t) fullShare ((dats m 0 c).before 5 t d))
    ∗ (∃ d, owns (c : Thread nD τ) (buf_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin cfg0.N) : (dats m 0 c).leavesExact 0 t = owns (c : Thread nD τ) (buf_0 t) fullShare ((dats m 0 c).after 0 t) := by
  unfold Dat.leavesExact
  rw [show cfg0.idle 0 (cfg0.grid.coords t) = false from rfl]

theorem leaves_1 (c : Dev nD) (t : Fin cfg0.N) : (dats m 0 c).leavesExact 1 t = owns (c : Thread nD τ) (buf_1 t) fullShare ((dats m 0 c).after 1 t) := by
  unfold Dat.leavesExact
  rw [show cfg0.idle 1 (cfg0.grid.coords t) = false from rfl]

theorem leaves_2 (c : Dev nD) (t : Fin cfg0.N) : (dats m 0 c).leavesExact 2 t = owns (c : Thread nD τ) (buf_2 t) fullShare ((dats m 0 c).after 2 t) := by
  unfold Dat.leavesExact
  rw [show cfg0.idle 2 (cfg0.grid.coords t) = false from rfl]

theorem leaves_3 (c : Dev nD) (t : Fin cfg0.N) : (dats m 0 c).leavesExact 3 t = owns (c : Thread nD τ) (buf_3 t) fullShare ((dats m 0 c).after 3 t) := by
  unfold Dat.leavesExact
  rw [show cfg0.idle 3 (cfg0.grid.coords t) = false from rfl]

theorem leaves_4 (c : Dev nD) (t : Fin cfg0.N) : (dats m 0 c).leavesExact 4 t = owns (c : Thread nD τ) (buf_4 t) fullShare ((dats m 0 c).after 4 t) := by
  unfold Dat.leavesExact
  rw [show cfg0.idle 4 (cfg0.grid.coords t) = false from live_4 _]

theorem leaves_5 (c : Dev nD) (t : Fin cfg0.N) : (dats m 0 c).leavesExact 5 t = owns (c : Thread nD τ) (buf_5 t) fullShare ((dats m 0 c).after 5 t) := by
  unfold Dat.leavesExact
  rw [show cfg0.idle 5 (cfg0.grid.coords t) = false from live_5 _]

theorem leaves_6 (c : Dev nD) (t : Fin cfg0.N) : (dats m 0 c).leavesExact 6 t = owns (c : Thread nD τ) (buf_6 t) fullShare ((dats m 0 c).after 6 t) := by
  unfold Dat.leavesExact
  rw [show cfg0.idle 6 (cfg0.grid.coords t) = false from live_6 _]

set_option maxHeartbeats 1600000 in
theorem body_holds (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  rw [leaves_0, leaves_1, leaves_2, leaves_3, leaves_4, leaves_5, leaves_6, after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  have e5 : (unc fun j d => (if t.val % 8 = 0 then 0 else cur ((dats m 0 c).before 5 t d5) j d) + ck m c t j d) = unc (acc (ck m c) t) :=
    congrArg unc (funext fun j => funext fun d => acc_step _ t _ (before_5 m c t d5) j d)
  have e6 : (unc fun j d => (if t.val % 8 = 0 then 0 else cur ((dats m 0 c).before 6 t d6) j d) + cv m c t j d) = unc (acc (cv m c) t) :=
    congrArg unc (funext fun j => funext fun d => acc_step _ t _ (before_6 m c t d6) j d)
  rw [← e5, ← e6]
  iapply (run_at c t _ _ _ _ _ _ _ _ _ _ _ _ _ _ (bq m c t) (bk m c t) (bv m c t) (bo m c t) ((dats m 0 c).before 4 t d4) ((dats m 0 c).before 5 t d5) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_row (t : Fin cfg0.N) : defs₀ (F := Ideal) .tc cfg0.body (cfg0.bodyArgs t (cfg0.slots t)) = bodyAt0 t := by
  unfold defs₀; rw [Defs.onTc_tc]

theorem body_ok (c : Dev nD) : BodyObligation (dats m 0 c) (defs₀ (F := Ideal)) Variants.none () Set.univ := fun t => by
  rw [bigSep_W0, bigSep_W0, body_row]
  exact triple_restated (body_holds m c t) rfl .rfl fun _ => .rfl

set_option backward.isDefEq.respectTransparency.types false in
/-- The launch: every array ends as the blocks written back say, and every counter at zero. -/
theorem launch : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := dats_A m) (hΦ := fun _ _ => rfl)

end Cert.Attn

end
-- ==== Proof.Full.lean ====
/- The attention's gradients over the whole sequence, as functions of curried arrays, and the arithmetic of one row. -/
module

public import proofs.«01_k».proof.Proof.Spec
public import Idealize.ShloMosaic.Lib.Pipeline.ValueKit.Acc

@[expose] public section

noncomputable section

namespace Cert.Attn

open Idealize.ShloMosaic

/-! ## The whole sequence -/

/-- A head's columns of the queries or keys. -/
def hd (h : Fin 8) (x : Fin 2048 → Fin 1024 → EReal) (r : Fin 2048) (d : Fin 128) : EReal :=
  x r ⟨h.val * 128 + d.val, by have := h.isLt; have := d.isLt; omega⟩

/-- A head's columns of the values or outputs. -/
def hv (h : Fin 8) (x : Fin 2048 → Fin 512 → EReal) (r : Fin 2048) (d : Fin 64) : EReal :=
  x r ⟨h.val * 64 + d.val, by have := h.isLt; have := d.isLt; omega⟩

section Whole

variable (x0 x1 : Fin 2048 → Fin 1024 → EReal) (x2 x3 : Fin 2048 → Fin 512 → EReal)

/-- The masked scores of a head. -/
def fs (h : Fin 8) (q k : Fin 2048) : EReal :=
  if k.val ≤ q.val then (∑ d, hd h x0 q d * hd h x1 k d) * scale else ⊥

/-- The gradient of a head's softmax. -/
def fg (h : Fin 8) (q k : Fin 2048) : EReal := ∑ d, hv h x3 q d * hv h x2 k d

/-- The gradient of a head's products q · k. -/
def fds (h : Fin 8) (q k : Fin 2048) : EReal := dsr (fs x0 x1 h q) (fg x2 x3 h q) k

/-- The gradient of the queries. -/
def fdq (r : Fin 2048) (j : Fin 1024) : EReal :=
  ∑ k, fds x0 x1 x2 x3 ⟨j.val / 128, by have := j.isLt; omega⟩ r k
    * hd ⟨j.val / 128, by have := j.isLt; omega⟩ x1 k ⟨j.val % 128, Nat.mod_lt _ (by decide)⟩

/-- The gradient of the keys. -/
def fdk (r : Fin 2048) (j : Fin 1024) : EReal :=
  ∑ q, fds x0 x1 x2 x3 ⟨j.val / 128, by have := j.isLt; omega⟩ q r
    * hd ⟨j.val / 128, by have := j.isLt; omega⟩ x0 q ⟨j.val % 128, Nat.mod_lt _ (by decide)⟩

/-- The gradient of the values. -/
def fdv (r : Fin 2048) (j : Fin 512) : EReal :=
  ∑ q, hv ⟨j.val / 64, by have := j.isLt; omega⟩ x3 q ⟨j.val % 64, Nat.mod_lt _ (by decide)⟩
    * pr (fs x0 x1 ⟨j.val / 64, by have := j.isLt; omega⟩ q) r

end Whole

/-! ## One row -/

section Row

variable {ι : Type} [Fintype ι] (s : ι → EReal)

/-- The exponential of a score, shifted by the largest of the row. -/
def ue (c : ι) : EReal := Ideal.exp (s c - rmax s)

theorem rmax_eq_sup : rmax s = Finset.univ.sup s := rfl

variable {s}

theorem real_of {x : EReal} (h1 : x ≠ ⊤) (h2 : x ≠ ⊥) : ∃ r : ℝ, x = r := ⟨x.toReal, (EReal.coe_toReal h1 h2).symm⟩

/-- A row with a score that is not minus infinity, and none plus infinity, attains its largest, a real number. -/
theorem rmax_attained (ht : ∀ c, s c ≠ ⊤) (hb : ∃ c, s c ≠ ⊥) : ∃ i, ∃ M : ℝ, s i = M ∧ rmax s = M := by
  obtain ⟨c, hc⟩ := hb
  obtain ⟨i, -, hi⟩ := Finset.exists_mem_eq_sup Finset.univ ⟨c, Finset.mem_univ c⟩ s
  have hle : s c ≤ Finset.univ.sup s := Finset.le_sup (Finset.mem_univ c)
  obtain ⟨M, hM⟩ := real_of (ht i) fun hb => hc (by rw [hi, hb] at hle; exact le_bot_iff.mp hle)
  exact ⟨i, M, hM, by rw [rmax_eq_sup, hi, hM]⟩

theorem ue_real (ht : ∀ c, s c ≠ ⊤) (hb : ∃ c, s c ≠ ⊥) (c : ι) : ∃ r : ℝ, 0 ≤ r ∧ ue s c = r := by
  obtain ⟨i, M, -, hM⟩ := rmax_attained ht hb
  unfold ue
  rw [hM]
  by_cases h : s c = ⊥
  · exact ⟨0, le_refl _, by rw [h]; rfl⟩
  · obtain ⟨x, hx⟩ := real_of (ht c) h
    exact ⟨Real.exp (x - M), (Real.exp_pos _).le, by rw [hx]; rfl⟩

theorem ue_bot {c : ι} (ht : ∀ c, s c ≠ ⊤) (hb : ∃ c, s c ≠ ⊥) (h : s c = ⊥) : ue s c = 0 := by
  obtain ⟨i, M, -, hM⟩ := rmax_attained ht hb
  unfold ue
  rw [hM, h]
  rfl

theorem sum_coe (f : ι → ℝ) (t : Finset ι) : (∑ c ∈ t, (f c : EReal)) = ((∑ c ∈ t, f c : ℝ) : EReal) := by
  classical
  induction t using Finset.induction_on with
  | empty => rfl
  | insert a t ha ih => rw [Finset.sum_insert ha, Finset.sum_insert ha, ih, EReal.coe_add]

/-- The row's total is a positive real number. -/
theorem tot_real (ht : ∀ c, s c ≠ ⊤) (hb : ∃ c, s c ≠ ⊥) : ∃ T : ℝ, 0 < T ∧ (∑ c, ue s c) = T := by
  choose f hf0 hf using ue_real ht hb
  obtain ⟨i, M, hi, hM⟩ := rmax_attained ht hb
  have h1 : f i = 1 := by
    have e := hf i
    unfold ue at e
    rw [hM, hi] at e
    have e' : Ideal.exp ((M : EReal) - M) = ((Real.exp (M - M) : ℝ) : EReal) := rfl
    rw [e', sub_self, Real.exp_zero] at e
    exact (EReal.coe_injective e).symm
  refine ⟨∑ c, f c, Finset.sum_pos' (fun c _ => hf0 c) ⟨i, Finset.mem_univ i, by rw [h1]; exact one_pos⟩, ?_⟩
  simp only [hf]
  exact sum_coe f _

theorem div_real (x : EReal) {T : ℝ} (hT : 0 < T) : Ideal.div x (T : EReal) = x * ((T⁻¹ : ℝ) : EReal) := by
  unfold Ideal.div
  rw [if_neg (by exact_mod_cast hT.ne'), EReal.coe_inv]

theorem pr_eq_ue (c : ι) : pr s c = Ideal.div (ue s c) (∑ c', ue s c') := rfl

theorem pr_bot {c : ι} (ht : ∀ c, s c ≠ ⊤) (hb : ∃ c, s c ≠ ⊥) (h : s c = ⊥) : pr s c = 0 := by
  obtain ⟨T, hT, e⟩ := tot_real ht hb
  rw [pr_eq_ue, e, div_real _ hT, ue_bot ht hb h, zero_mul]

theorem dsr_bot (g : ι → EReal) {c : ι} (ht : ∀ c, s c ≠ ⊤) (hb : ∃ c, s c ≠ ⊥) (h : s c = ⊥) : dsr s g c = 0 := by
  unfold dsr
  rw [pr_bot ht hb h, zero_mul, zero_mul]

/-- A real factor that is not negative goes into a sum. -/
theorem coe_mul_sum {a : ℝ} (ha : 0 ≤ a) (f : ι → EReal) (t : Finset ι) : (a : EReal) * ∑ c ∈ t, f c = ∑ c ∈ t, (a : EReal) * f c := by
  classical
  induction t using Finset.induction_on with
  | empty => rw [Finset.sum_empty, Finset.sum_empty, mul_zero]
  | insert b t hb ih =>
    rw [Finset.sum_insert hb, Finset.sum_insert hb, ← ih]
    exact EReal.left_distrib_of_nonneg_of_ne_top (by exact_mod_cast ha) (EReal.coe_ne_top a) _ _

/-- The gradient through the quotient of the softmax, its two terms taken apart, is the softmax's gradient. -/
theorem dsr_quot (g : ι → EReal) (ht : ∀ c, s c ≠ ⊤) (hb : ∃ c, s c ≠ ⊥) (c : ι) :
    (Ideal.div (g c) (∑ y, ue s y) + -∑ x, g x * Ideal.div 1 ((∑ y, ue s y) * ∑ y, ue s y) * ue s x) * ue s c * scale = dsr s g c := by
  obtain ⟨T, hT, e⟩ := tot_real ht hb
  unfold dsr
  refine congrArg (· * scale) ?_
  simp only [pr_eq_ue]
  rw [e, ← EReal.coe_mul]
  simp only [div_real _ hT, div_real _ (mul_pos hT hT)]
  have h0 : 0 ≤ T⁻¹ := (inv_pos.mpr hT).le
  have e1 : (∑ x, g x * (1 * (((T * T)⁻¹ : ℝ) : EReal)) * ue s x) = ((T⁻¹ : ℝ) : EReal) * ∑ x, ue s x * ((T⁻¹ : ℝ) : EReal) * g x := by
    rw [coe_mul_sum h0]
    refine Finset.sum_congr rfl fun x _ => ?_
    rw [one_mul, mul_inv, EReal.coe_mul]
    simp only [mul_assoc, mul_left_comm, mul_comm]
  rw [e1, mul_assoc (ue s c), mul_comm _ (ue s c)]
  refine congrArg (ue s c * ·) ?_
  rw [mul_comm (g c), ← mul_neg, ← EReal.left_distrib_of_nonneg_of_ne_top (by exact_mod_cast h0) (EReal.coe_ne_top _), sub_eq_add_neg]

end Row

/-! ## The rows of the whole sequence -/

section Rows

variable {x0 x1 : Fin 2048 → Fin 1024 → EReal}

theorem fs_ne_top (hr : ∀ h q k, k.val ≤ q.val → ∃ x : ℝ, fs x0 x1 h q k = x) (h : Fin 8) (q k : Fin 2048) : fs x0 x1 h q k ≠ ⊤ := by
  by_cases hk : k.val ≤ q.val
  · obtain ⟨x, hx⟩ := hr h q k hk
    rw [hx]
    exact EReal.coe_ne_top x
  · unfold fs
    rw [if_neg hk]
    exact bot_ne_top

theorem fs_some (hr : ∀ h q k, k.val ≤ q.val → ∃ x : ℝ, fs x0 x1 h q k = x) (h : Fin 8) (q : Fin 2048) : ∃ k, fs x0 x1 h q k ≠ ⊥ := by
  obtain ⟨x, hx⟩ := hr h q q (le_refl _)
  exact ⟨q, by rw [hx]; exact EReal.coe_ne_bot x⟩

theorem fs_after {h : Fin 8} {q k : Fin 2048} (hk : ¬k.val ≤ q.val) : fs x0 x1 h q k = ⊥ := if_neg hk

theorem dsr_ref (h : Fin 8) (g : Fin 2048 → EReal) (hr : ∀ h q k, k.val ≤ q.val → ∃ x : ℝ, fs x0 x1 h q k = x) (q k : Fin 2048) :
    (if k.val ≤ q.val then
      (Ideal.div (g k) (∑ y, ue (fs x0 x1 h q) y) + -∑ x, g x * Ideal.div 1 ((∑ y, ue (fs x0 x1 h q) y) * ∑ y, ue (fs x0 x1 h q) y) * ue (fs x0 x1 h q) x)
        * ue (fs x0 x1 h q) k * scale else 0) = dsr (fs x0 x1 h q) g k := by
  by_cases hk : k.val ≤ q.val
  · rw [if_pos hk]
    exact dsr_quot g (fs_ne_top hr h q) (fs_some hr h q) k
  · rw [if_neg hk, dsr_bot g (fs_ne_top hr h q) (fs_some hr h q) (fs_after hk)]

end Rows

end Cert.Attn

end
-- ==== Proof.Restrict.lean ====
/- One block of queries of one pair of heads is its part of the whole sequence: the keys after the block contribute nothing. -/
module

public import proofs.«01_k».proof.Proof.Full

@[expose] public section

noncomputable section

namespace Cert.Attn

open Idealize.ShloMosaic

/-! ## Sums over a part -/

/-- A sum whose terms vanish from `K` on is the sum of the first `K`. -/
theorem sum_top {K N : ℕ} (hK : K ≤ N) (f : Fin N → EReal) (h0 : ∀ j : Fin N, K ≤ j.val → f j = 0) :
    ∑ c : Fin K, f (Fin.castLE hK c) = ∑ j, f j :=
  Fintype.sum_of_injective (Fin.castLE hK) (Fin.castLE_injective hK) _ _
    (fun j hj => h0 j (Nat.le_of_not_lt fun hlt => hj ⟨⟨j.val, hlt⟩, rfl⟩)) fun _ => rfl

/-- A sum over the 128 lanes of a pair whose terms vanish off one head is the sum of that head's 64. -/
theorem sum_lanes (e : Fin 2) (f : Fin 128 → EReal) (h0 : ∀ l : Fin 128, ¬(64 * e.val ≤ l.val ∧ l.val < 64 * (e.val + 1)) → f l = 0) :
    ∑ d : Fin 64, f ⟨64 * e.val + d.val, by have := e.isLt; have := d.isLt; omega⟩ = ∑ l, f l :=
  Fintype.sum_of_injective (fun d : Fin 64 => (⟨64 * e.val + d.val, by have := e.isLt; have := d.isLt; omega⟩ : Fin 128))
    (fun a b hab => Fin.ext (by have := congrArg Fin.val hab; simp only at this; omega)) _ _
    (fun l hl => h0 l fun hc => hl ⟨⟨l.val - 64 * e.val, by omega⟩, Fin.ext (by simp only; omega)⟩) fun _ => rfl

section Row

variable {K N : ℕ} (hK : K ≤ N) {s : Fin N → EReal} (h0 : ∀ j : Fin N, K ≤ j.val → s j = ⊥)

include h0 in
theorem rmax_top : rmax (fun c : Fin K => s (Fin.castLE hK c)) = rmax s := by
  rw [rmax_eq_sup, rmax_eq_sup]
  refine le_antisymm (Finset.sup_le fun c _ => Finset.le_sup (f := s) (Finset.mem_univ _)) (Finset.sup_le fun j _ => ?_)
  by_cases hj : j.val < K
  · exact Finset.le_sup (f := fun c : Fin K => s (Fin.castLE hK c)) (Finset.mem_univ (⟨j.val, hj⟩ : Fin K))
  · rw [h0 j (Nat.le_of_not_lt hj)]
    exact bot_le

include h0 in
theorem pr_top (ht : ∀ c, s c ≠ ⊤) (hb : ∃ c, s c ≠ ⊥) (c : Fin K) :
    pr (fun c : Fin K => s (Fin.castLE hK c)) c = pr s (Fin.castLE hK c) := by
  unfold pr
  rw [rmax_top hK h0, sum_top hK (fun j => Ideal.exp (s j - rmax s)) fun j hj => ue_bot ht hb (h0 j hj)]

include h0 in
theorem dsr_top (ht : ∀ c, s c ≠ ⊤) (hb : ∃ c, s c ≠ ⊥) (g : Fin N → EReal) (c : Fin K) :
    dsr (fun c : Fin K => s (Fin.castLE hK c)) (fun c => g (Fin.castLE hK c)) c = dsr s g (Fin.castLE hK c) := by
  unfold dsr
  simp only [pr_top hK h0 ht hb]
  rw [sum_top hK (fun j => pr s j * g j) fun j hj => by rw [pr_bot ht hb (h0 j hj), zero_mul]]

end Row

/-! ## One block -/

section Block

/-- Query `r` of block `n`. -/
abbrev rw' (n : Fin 8) (r : Fin 256) : Fin 2048 := ⟨n.val * 256 + r.val, by have := n.isLt; have := r.isLt; omega⟩

/-- Head `e` of pair `p`. -/
abbrev hh (p : Fin 4) (e : Fin 2) : Fin 8 := ⟨2 * p.val + e.val, by have := p.isLt; have := e.isLt; omega⟩

/-- Column `d` of pair `p` of the queries and keys. -/
abbrev cq (p : Fin 4) (d : Fin 256) : Fin 1024 := ⟨p.val * 256 + d.val, by have := p.isLt; have := d.isLt; omega⟩

/-- Column `d` of pair `p` of the values and outputs. -/
abbrev co (p : Fin 4) (d : Fin 128) : Fin 512 := ⟨p.val * 128 + d.val, by have := p.isLt; have := d.isLt; omega⟩

/-- The head and its column at a column of a pair. -/
theorem head_lo (p : Fin 4) (d : Fin 256) (h : d.val < 128) :
    (⟨(cq p d).val / 128, by have := (cq p d).isLt; omega⟩ : Fin 8) = hh p 0 ∧ (⟨(cq p d).val % 128, Nat.mod_lt _ (by decide)⟩ : Fin 128) = ⟨d.val, h⟩ :=
  ⟨Fin.ext (by simp only [Fin.val_zero]; omega), Fin.ext (by simp only; omega)⟩

theorem head_hi (p : Fin 4) (d : Fin 256) (h : ¬d.val < 128) :
    (⟨(cq p d).val / 128, by have := (cq p d).isLt; omega⟩ : Fin 8) = hh p 1 ∧ (⟨(cq p d).val % 128, Nat.mod_lt _ (by decide)⟩ : Fin 128) = ⟨d.val - 128, by have := d.isLt; omega⟩ :=
  ⟨Fin.ext (by have := d.isLt; simp only [Fin.val_one]; omega), Fin.ext (by have := d.isLt; simp only; omega)⟩

/-- The head of a lane of a pair. -/
theorem head_lane (p : Fin 4) (e : Fin 2) (l : Fin 128) (h : 64 * e.val ≤ l.val ∧ l.val < 64 * (e.val + 1)) :
    (⟨(co p l).val / 64, by have := (co p l).isLt; omega⟩ : Fin 8) = hh p e :=
  Fin.ext (by simp only; omega)

/-- The sum over one head's rows of the key gradient, block `n`. -/
def fdkPart (X0 X1 : Fin 2048 → Fin 1024 → EReal) (X2 X3 : Fin 2048 → Fin 512 → EReal) (j : Fin 2048) (d : Fin 1024) (r : Fin 2048) : EReal :=
  fds X0 X1 X2 X3 ⟨d.val / 128, by have := d.isLt; omega⟩ r j * hd ⟨d.val / 128, by have := d.isLt; omega⟩ X0 r ⟨d.val % 128, Nat.mod_lt _ (by decide)⟩

/-- The sum over one head's rows of the value gradient, block `n`. -/
def fdvPart (X0 X1 : Fin 2048 → Fin 1024 → EReal) (X3 : Fin 2048 → Fin 512 → EReal) (j : Fin 2048) (l : Fin 512) (r : Fin 2048) : EReal :=
  hv ⟨l.val / 64, by have := l.isLt; omega⟩ X3 r ⟨l.val % 64, Nat.mod_lt _ (by decide)⟩ * pr (fs X0 X1 ⟨l.val / 64, by have := l.isLt; omega⟩ r) j

variable (X0 X1 : Fin 2048 → Fin 1024 → EReal) (X2 X3 : Fin 2048 → Fin 512 → EReal) (n : Fin 8) (p : Fin 4)
  {K : ℕ} (hK : K ≤ 2048) (hn : K = 256 * (n.val + 1))

/-- The blocks of one point. -/
abbrev b0 : Fin 256 → Fin 256 → EReal := fun r d => X0 (rw' n r) (cq p d)
abbrev b1 : Fin 2048 → Fin 256 → EReal := fun r d => X1 r (cq p d)
abbrev b2 : Fin 2048 → Fin 128 → EReal := fun r d => X2 r (co p d)
abbrev b3 : Fin 256 → Fin 128 → EReal := fun r d => X3 (rw' n r) (co p d)

theorem half_b0 (e : Fin 2) (r : Fin 256) (d : Fin 128) : half e (b0 X0 n p) r d = hd (hh p e) X0 (rw' n r) d :=
  congrArg (X0 (rw' n r)) (Fin.ext (by simp only; omega))

theorem half_b1 (e : Fin 2) (c : Fin K) (d : Fin 128) : half e (top hK (b1 X1 p)) c d = hd (hh p e) X1 (Fin.castLE hK c) d :=
  congrArg (X1 (Fin.castLE hK c)) (Fin.ext (by simp only; omega))

theorem sc_block (e : Fin 2) (r : Fin 256) : sc n.val (half e (b0 X0 n p)) (half e (top hK (b1 X1 p))) r
    = fun c : Fin K => fs X0 X1 (hh p e) (rw' n r) (Fin.castLE hK c) := by
  funext c
  unfold sc fs
  simp only [half_b0, half_b1]
  refine if_congr ?_ rfl rfl
  show c.val ≤ 256 * n.val + r.val ↔ c.val ≤ n.val * 256 + r.val
  omega

theorem de_lane (e : Fin 2) (r : Fin 256) (d : Fin 64) :
    de e.val (b3 X3 n p) r ⟨64 * e.val + d.val, by have := e.isLt; have := d.isLt; omega⟩ = hv (hh p e) X3 (rw' n r) d := by
  unfold de
  rw [if_pos ⟨Nat.le_add_right _ _, by have := d.isLt; simp only; omega⟩]
  exact congrArg (X3 (rw' n r)) (Fin.ext (by simp only; omega))

theorem dp_block (e : Fin 2) (r : Fin 256) : dp (de e.val (b3 X3 n p)) (top hK (b2 X2 p)) r
    = fun c : Fin K => fg X2 X3 (hh p e) (rw' n r) (Fin.castLE hK c) := by
  funext c
  unfold dp fg
  rw [← sum_lanes e (fun l => de e.val (b3 X3 n p) r l * top hK (b2 X2 p) c l) fun l hl => by unfold de; rw [if_neg hl, zero_mul]]
  refine Finset.sum_congr rfl fun d _ => ?_
  rw [de_lane (K := K)]
  exact congrArg (hv (hh p e) X3 (rw' n r) d * ·) (congrArg (X2 (Fin.castLE hK c)) (Fin.ext (by simp only; omega)))

variable (hr : ∀ h q k, k.val ≤ q.val → ∃ x : ℝ, fs X0 X1 h q k = x)

include hn in
theorem fs_late (h : Fin 8) (r : Fin 256) (j : Fin 2048) (hj : K ≤ j.val) : fs X0 X1 h (rw' n r) j = ⊥ :=
  fs_after (by have := r.isLt; show ¬j.val ≤ n.val * 256 + r.val; omega)

include hn hr in
theorem dsB_block (e : Fin 2) (r : Fin 256) (c : Fin K) :
    dsB n.val hK (b0 X0 n p) (b1 X1 p) (b2 X2 p) (b3 X3 n p) e r c = fds X0 X1 X2 X3 (hh p e) (rw' n r) (Fin.castLE hK c) := by
  unfold dsB ds fds
  rw [sc_block, dp_block]
  exact dsr_top hK (fs_late X0 X1 n hn (hh p e) r) (fs_ne_top hr _ _) (fs_some hr _ _) _ c

include hn hr in
theorem pr_block (e : Fin 2) (r : Fin 256) (c : Fin K) :
    pr (sc n.val (half e (b0 X0 n p)) (half e (top hK (b1 X1 p))) r) c = pr (fs X0 X1 (hh p e) (rw' n r)) (Fin.castLE hK c) := by
  rw [sc_block]
  exact pr_top hK (fs_late X0 X1 n hn (hh p e) r) (fs_ne_top hr _ _) (fs_some hr _ _) c

include hn hr in
theorem fds_late (h : Fin 8) (r : Fin 256) (j : Fin 2048) (hj : K ≤ j.val) : fds X0 X1 X2 X3 h (rw' n r) j = 0 :=
  dsr_bot _ (fs_ne_top hr _ _) (fs_some hr _ _) (fs_late X0 X1 n hn h r j hj)

include hn hr in
/-- The block of the query gradient. -/
theorem dq_block (r d : Fin 256) :
    dqB n.val hK (b0 X0 n p) (b1 X1 p) (b2 X2 p) (b3 X3 n p) r d = fdq X0 X1 X2 X3 (rw' n r) (cq p d) := by
  unfold dqB fdq
  by_cases h : d.val < 128
  · rw [dif_pos h, (head_lo p d h).1, (head_lo p d h).2]
    simp only [dsB_block X0 X1 X2 X3 n p hK hn hr, half_b1]
    exact sum_top hK (fun k => fds X0 X1 X2 X3 (hh p 0) (rw' n r) k * hd (hh p 0) X1 k ⟨d.val, h⟩) fun j hj => by
      rw [fds_late X0 X1 X2 X3 n hn hr _ _ _ hj, zero_mul]
  · rw [dif_neg h, (head_hi p d h).1, (head_hi p d h).2]
    simp only [dsB_block X0 X1 X2 X3 n p hK hn hr, half_b1]
    exact sum_top hK (fun k => fds X0 X1 X2 X3 (hh p 1) (rw' n r) k * hd (hh p 1) X1 k ⟨d.val - 128, by have := d.isLt; omega⟩) fun j hj => by
      rw [fds_late X0 X1 X2 X3 n hn hr _ _ _ hj, zero_mul]

include hn hr in
/-- The block's contribution to the key gradient. -/
theorem dk_block (j : Fin 2048) (d : Fin 256) :
    ext (dkB n.val hK (b0 X0 n p) (b1 X1 p) (b2 X2 p) (b3 X3 n p)) j d = ∑ r : Fin 256, fdkPart X0 X1 X2 X3 j (cq p d) (rw' n r) := by
  unfold ext fdkPart
  by_cases hj : j.val < K
  · rw [dif_pos hj]
    unfold dkB
    by_cases h : d.val < 128
    · rw [dif_pos h, (head_lo p d h).1, (head_lo p d h).2]
      simp only [dsB_block X0 X1 X2 X3 n p hK hn hr, half_b0]
      rfl
    · rw [dif_neg h, (head_hi p d h).1, (head_hi p d h).2]
      simp only [dsB_block X0 X1 X2 X3 n p hK hn hr, half_b0]
      rfl
  · rw [dif_neg hj]
    refine (Finset.sum_eq_zero fun r _ => ?_).symm
    rw [fds_late X0 X1 X2 X3 n hn hr _ _ _ (Nat.le_of_not_lt hj), zero_mul]

include hn hr in
/-- The terms of one head at its own lanes, zero at the other head's. -/
theorem pv_lane (e : Fin 2) (c : Fin K) (l : Fin 128) (r : Fin 256) :
    pr (sc n.val (half e (b0 X0 n p)) (half e (top hK (b1 X1 p))) r) c * de e.val (b3 X3 n p) r l
      = if 64 * e.val ≤ l.val ∧ l.val < 64 * (e.val + 1) then fdvPart X0 X1 X3 (Fin.castLE hK c) (co p l) (rw' n r) else 0 := by
  unfold de
  by_cases h : 64 * e.val ≤ l.val ∧ l.val < 64 * (e.val + 1)
  · rw [if_pos h, if_pos h, pr_block X0 X1 n p hK hn hr]
    unfold fdvPart
    rw [head_lane p e l h, mul_comm]
    refine congrArg (· * _) (congrArg (X3 (rw' n r)) (Fin.ext ?_))
    have := congrArg Fin.val (head_lane p e l h)
    simp only at this ⊢
    omega
  · rw [if_neg h, if_neg h, mul_zero]

include hn hr in
/-- The block's contribution to the value gradient. -/
theorem dv_block (j : Fin 2048) (l : Fin 128) :
    ext (dvB n.val hK (b0 X0 n p) (b1 X1 p) (b3 X3 n p)) j l = ∑ r : Fin 256, fdvPart X0 X1 X3 j (co p l) (rw' n r) := by
  unfold ext
  by_cases hj : j.val < K
  · rw [dif_pos hj]
    unfold dvB
    refine (congrArg₂ (· + ·) (Finset.sum_congr rfl fun r _ => pv_lane X0 X1 X3 n p hK hn hr 0 ⟨j.val, hj⟩ l r)
      (Finset.sum_congr rfl fun r _ => pv_lane X0 X1 X3 n p hK hn hr 1 ⟨j.val, hj⟩ l r)).trans ?_
    have hl := l.isLt
    by_cases h : l.val < 64
    · simp only [if_pos (show 64 * (0 : Fin 2).val ≤ l.val ∧ l.val < 64 * ((0 : Fin 2).val + 1) by simp only [Fin.val_zero]; omega),
        if_neg (show ¬(64 * (1 : Fin 2).val ≤ l.val ∧ l.val < 64 * ((1 : Fin 2).val + 1)) by simp only [Fin.val_one]; omega),
        Finset.sum_const_zero, add_zero]
      rfl
    · simp only [if_neg (show ¬(64 * (0 : Fin 2).val ≤ l.val ∧ l.val < 64 * ((0 : Fin 2).val + 1)) by simp only [Fin.val_zero]; omega),
        if_pos (show 64 * (1 : Fin 2).val ≤ l.val ∧ l.val < 64 * ((1 : Fin 2).val + 1) by simp only [Fin.val_one]; omega),
        Finset.sum_const_zero, zero_add]
      rfl
  · rw [dif_neg hj]
    refine (Finset.sum_eq_zero fun r _ => ?_).symm
    unfold fdvPart
    rw [pr_bot (fs_ne_top hr _ _) (fs_some hr _ _) (fs_late X0 X1 n hn _ r j (Nat.le_of_not_lt hj)), mul_zero]

end Block

/-- A sum over the queries, block by block. -/
theorem sum_blocks (f : Fin 2048 → EReal) : ∑ n : Fin 8, ∑ r : Fin 256, f (rw' n r) = ∑ q, f q :=
  Fin.sum_mul_add_fin 8 256 f (by rfl)

end Cert.Attn

end
-- ==== Proof.Arr.lean ====
/- The three result arrays of the attention gradient after the launch, as functions of the argument arrays. -/
module

public import proofs.«01_k».proof.Proof.Exact
public import proofs.«01_k».proof.Proof.Restrict
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ) (c : Dev nD)

theorem index_0 : ∀ t : Fin cfg0.N, win0_0.index t = ![t.val % 8, t.val / 8] := by decide +kernel
theorem index_1 : ∀ t : Fin cfg0.N, win0_1.index t = ![0, t.val / 8] := by decide +kernel
theorem index_2 : ∀ t : Fin cfg0.N, win0_2.index t = ![0, t.val / 8] := by decide +kernel
theorem index_3 : ∀ t : Fin cfg0.N, win0_3.index t = ![t.val % 8, t.val / 8] := by decide +kernel
theorem index_4 : ∀ t : Fin cfg0.N, win0_4.index t = ![t.val % 8, t.val / 8] := by decide +kernel
theorem index_5 : ∀ t : Fin cfg0.N, win0_5.index t = ![0, t.val / 8] := by decide +kernel
theorem index_6 : ∀ t : Fin cfg0.N, win0_6.index t = ![0, t.val / 8] := by decide +kernel

/-- The argument arrays by coordinates. -/
def aq : Fin 2048 → Fin 1024 → EReal := cur (m ((c.tc : Thread nD τ).loc main_arg0))
def ak : Fin 2048 → Fin 1024 → EReal := cur (m ((c.tc : Thread nD τ).loc main_arg1))
def av : Fin 2048 → Fin 512 → EReal := cur (m ((c.tc : Thread nD τ).loc main_arg2))
def ao : Fin 2048 → Fin 512 → EReal := cur (m ((c.tc : Thread nD τ).loc main_arg3))

/-- The block of queries of a point. -/
def nb (t : Fin cfg0.N) : Fin 8 := ⟨t.val % 8, Nat.mod_lt _ (by decide)⟩

/-- The pair of heads of a point. -/
def hp (t : Fin cfg0.N) : Fin 4 := ⟨t.val / 8, by have := pt_lt t; omega⟩

theorem cur_bq (t : Fin cfg0.N) : cur (bq m c t) = b0 (aq m c) (nb t) (hp t) := by
  funext r d
  have e := index_0 t
  unfold cur bq
  blk_simp [iblk]
  refine congrArg (m ((c.tc : Thread nD τ).loc main_arg0)) ?_
  blk_ext [e, nb, hp]

theorem cur_bk (t : Fin cfg0.N) : cur (bk m c t) = b1 (ak m c) (hp t) := by
  funext r d
  have e := index_1 t
  unfold cur bk
  blk_simp [iblk]
  refine congrArg (m ((c.tc : Thread nD τ).loc main_arg1)) ?_
  blk_ext [e, hp]

theorem cur_bv (t : Fin cfg0.N) : cur (bv m c t) = b2 (av m c) (hp t) := by
  funext r d
  have e := index_2 t
  unfold cur bv
  blk_simp [iblk]
  refine congrArg (m ((c.tc : Thread nD τ).loc main_arg2)) ?_
  blk_ext [e, hp]

theorem cur_bo (t : Fin cfg0.N) : cur (bo m c t) = b3 (ao m c) (nb t) (hp t) := by
  funext r d
  have e := index_3 t
  unfold cur bo
  blk_simp [iblk]
  refine congrArg (m ((c.tc : Thread nD τ).loc main_arg3)) ?_
  blk_ext [e, nb, hp]

variable (hr : ∀ h q k, k.val ≤ q.val → ∃ x : ℝ, fs (aq m c) (ak m c) h q k = x)

include hr in
/-- The query gradient after the launch. -/
theorem arr_dq : (dats m 0 c).arrAt 4 cfg0.N = unc (fdq (aq m c) (ak m c) (av m c) (ao m c)) := by
  have e := index_4
  refine (dats m 0 c).arrAt_eq_of_covers 4 _ (by decide +kernel) fun t hf y => ?_
  blk_simp [iblk]
  rw [after_4, cur_bq, cur_bk, cur_bv, cur_bo]
  unfold unc
  refine (dq_block (aq m c) (ak m c) (av m c) (ao m c) (nb t) (hp t) (keys_le t) rfl hr (y 0) (y 1)).trans ?_
  refine congrArg₂ (fdq (aq m c) (ak m c) (av m c) (ao m c)) (Fin.ext ?_) (Fin.ext ?_)
  · blk_simp [e, nb, hp]
  · blk_simp [e, nb, hp]

/-- At the last block of a pair the running sum has every block. -/
theorem acc_last {b : ℕ} (f : Fin cfg0.N → Fin 2048 → Fin b → EReal) (t : Fin cfg0.N) (h : t.val % 8 = 7) (j : Fin 2048) (d : Fin b) :
    acc f t j d = ∑ i, f (mate t i) j d :=
  Finset.sum_congr rfl fun i _ => if_pos (by have := i.isLt; omega)

theorem nb_mate (t : Fin cfg0.N) (i : Fin 8) : nb (mate t i) = i :=
  Fin.ext (by show (8 * (t.val / 8) + i.val) % 8 = i.val; omega)

theorem hp_mate (t : Fin cfg0.N) (i : Fin 8) : hp (mate t i) = hp t :=
  Fin.ext (by show (8 * (t.val / 8) + i.val) / 8 = t.val / 8; omega)

include hr in
theorem ck_rows (t : Fin cfg0.N) (h7 : t.val % 8 = 7) (j : Fin 2048) (d : Fin 256) :
    acc (ck m c) t j d = ∑ q, fdkPart (aq m c) (ak m c) (av m c) (ao m c) j (cq (hp t) d) q := by
  refine (acc_last _ t h7 j d).trans ?_
  refine Eq.trans (Finset.sum_congr rfl fun i _ => ?_) (sum_blocks (fdkPart (aq m c) (ak m c) (av m c) (ao m c) j (cq (hp t) d)))
  unfold ck
  rw [cur_bq, cur_bk, cur_bv, cur_bo]
  refine (dk_block (aq m c) (ak m c) (av m c) (ao m c) (nb (mate t i)) (hp (mate t i)) (keys_le (mate t i)) rfl hr j d).trans ?_
  rw [nb_mate, hp_mate]

include hr in
/-- The key gradient after the launch. -/
theorem arr_dk : (dats m 0 c).arrAt 5 cfg0.N = unc (fdk (aq m c) (ak m c) (av m c) (ao m c)) := by
  have e := index_5
  refine (dats m 0 c).arrAt_eq_of_covers 5 _ (by decide +kernel) fun t hf y => ?_
  have h7 := (flush0_5 t).mp hf
  blk_simp [iblk]
  rw [after_5]
  unfold unc
  refine (ck_rows m c hr t h7 (y 0) (y 1)).trans ?_
  refine congrArg₂ (fdk (aq m c) (ak m c) (av m c) (ao m c)) (Fin.ext ?_) (Fin.ext ?_)
  · blk_simp [e, nb, hp]
  · blk_simp [e, nb, hp]

include hr in
theorem cv_rows (t : Fin cfg0.N) (h7 : t.val % 8 = 7) (j : Fin 2048) (d : Fin 128) :
    acc (cv m c) t j d = ∑ q, fdvPart (aq m c) (ak m c) (ao m c) j (co (hp t) d) q := by
  refine (acc_last _ t h7 j d).trans ?_
  refine Eq.trans (Finset.sum_congr rfl fun i _ => ?_) (sum_blocks (fdvPart (aq m c) (ak m c) (ao m c) j (co (hp t) d)))
  unfold cv
  rw [cur_bq, cur_bk, cur_bo]
  refine (dv_block (aq m c) (ak m c) (ao m c) (nb (mate t i)) (hp (mate t i)) (keys_le (mate t i)) rfl hr j d).trans ?_
  rw [nb_mate, hp_mate]

include hr in
/-- The value gradient after the launch. -/
theorem arr_dv : (dats m 0 c).arrAt 6 cfg0.N = unc (fdv (aq m c) (ak m c) (ao m c)) := by
  have e := index_6
  refine (dats m 0 c).arrAt_eq_of_covers 6 _ (by decide +kernel) fun t hf y => ?_
  have h7 := (flush0_6 t).mp hf
  blk_simp [iblk]
  rw [after_6]
  unfold unc
  refine (cv_rows m c hr t h7 (y 0) (y 1)).trans ?_
  refine congrArg₂ (fdv (aq m c) (ak m c) (ao m c)) (Fin.ext ?_) (Fin.ext ?_)
  · blk_simp [e, nb, hp]
  · blk_simp [e, nb, hp]

end Cert.Attn

end
-- ==== Proof.Ref.lean ====
/- The three results of the reference, named piece by piece and read at coordinates. -/
module

public import proofs.«01_k».proof.Proof.Gen.ReferenceIdeal.Run
public import proofs.«01_k».proof.Proof.Full
public import Idealize.ShloMosaic.Lib.Pointwise
public import Idealize.ShloMosaic.Lib.WordCmp
public import Idealize.ShloMosaic.Lib.Tactic.WordOmega

@[expose] public section

set_option maxRecDepth 16384

noncomputable section

namespace Cert.Attn.Ref

open Cert.Attn
open Idealize.ShloMosaic Idealize.ShloMosaic.TcCoe
open Cert.ReferenceIdeal Cert.ReferenceIdeal.Gen Cert.ReferenceIdeal.Value

variable (A0 A1 : FVec Ideal S2048x1024 .bf16) (A2 A3 : FVec Ideal S2048x512 .bf16)

/-- Query rows of the heads. -/
def heads (A : FVec Ideal S2048x1024 .bf16) : FVec Ideal S2048x8x128 .f32 :=
  shapeCast _ (extf .f32 A bitsLt_bf16_f32) shapeCasts_S2048x1024_S2048x8x128

/-- Value rows of the heads. -/
def vheads (A : FVec Ideal S2048x512 .bf16) : FVec Ideal S2048x8x64 .f32 :=
  shapeCast _ (extf .f32 A bitsLt_bf16_f32) shapeCasts_S2048x512_S2048x8x64

/-- The keys a query sees. -/
def mask : IVec S8x2048x2048 1 :=
  broadcastInDim S8x2048x2048 ![1, 2] bcast_S2048x2048_S8x2048x2048_1_2 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The masked scores. -/
def scores : FVec Ideal S8x2048x2048 .f32 :=
  select mask (mulf (Host.dotGeneral dot_S2048x8x128_S2048x8x128_S8x2048x2048_2_2_0_0_1_1 none (heads A0) (heads A1)) (broadcastInDim S8x2048x2048 ![] bcast_S_S8x2048x2048 (constant S_ .f32 0x3DD105EC#32))) (broadcastInDim S8x2048x2048 ![] bcast_S_S8x2048x2048 (id (constant S_ .f32 0xFF800000#32)))

/-- The largest entry of a row, at least `z`. -/
def rowmax (z : FVec Ideal S_ .f32) (s : FVec Ideal S8x2048x2048 .f32) : FVec Ideal S8x2048 .f32 :=
  Host.reduce FloatOps.maximumf s z reducesTo_S8x2048x2048_S8x2048_d2 h_S_

/-- The exponentials of the scores, shifted by the largest of the row. -/
def expo (z : FVec Ideal S_ .f32) (w : FVec Ideal S8x2048 .f32) (s : FVec Ideal S8x2048x2048 .f32) : FVec Ideal S8x2048x2048 .f32 :=
  Host.exp (subf s (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 z) w))))

/-- The exponentials of the scores, shifted by the largest of the row: of the queries and keys. -/
def uexp : FVec Ideal S8x2048x2048 .f32 :=
  expo (constant S_ .f32 0xFF800000#32) (rowmax (constant S_ .f32 0xFF800000#32) (scores A0 A1)) (scores A0 A1)

/-- Their sum along the row. -/
def total (u : FVec Ideal S8x2048x2048 .f32) : FVec Ideal S8x2048x1 .f32 :=
  broadcastInDim S8x2048x1 ![0, 1] bcast_S8x2048_S8x2048x1_0_1 (Host.reduceAdd u (constant S_ .f32 0x00000000#32) reducesTo_S8x2048x2048_S8x2048_d2 h_S_)

/-- The softmax. -/
def prob (u : FVec Ideal S8x2048x2048 .f32) : FVec Ideal S8x2048x2048 .f32 :=
  Host.divf u (broadcastInDim S8x2048x2048 ![0, 1, 2] bcast_S8x2048x1_S8x2048x2048_0_1_2 (total u))

/-- The output gradient by head. -/
def dout : FVec Ideal S8x64x2048 .f32 :=
  transpose S8x64x2048 [1, 2, 0] (vheads A3) transposes_S2048x8x64_S8x64x2048_1_2_0

/-- The gradient of the softmax. -/
def dprob : FVec Ideal S8x2048x2048 .f32 :=
  Host.dotGeneral dot_S8x64x2048_S2048x8x64_S8x2048x2048_1_2_2_0_0_1 none (dout A3) (vheads A2)

/-- The gradient of the row's total. -/
def dtotal (u g : FVec Ideal S8x2048x2048 .f32) : FVec Ideal S8x2048x1 .f32 :=
  Host.negf (shapeCast _ (Host.reduceAdd (mulf (mulf g (broadcastInDim S8x2048x2048 ![0, 1, 2] bcast_S8x2048x1_S8x2048x2048_0_1_2 (Host.divf (broadcastInDim S8x2048x1 ![] bcast_S_S8x2048x1 (constant S_ .f32 0x3F800000#32)) (mulf (total u) (total u))))) u) (constant S_ .f32 0x00000000#32) reducesTo_S8x2048x2048_S8x2048_d2 h_S_) shapeCasts_S8x2048_S8x2048x1)

/-- The gradient of the products q · k. -/
def dscore (u g : FVec Ideal S8x2048x2048 .f32) : FVec Ideal S8x2048x2048 .f32 :=
  mulf (select mask (mulf (addf (Host.divf g (broadcastInDim S8x2048x2048 ![0, 1, 2] bcast_S8x2048x1_S8x2048x2048_0_1_2 (total u))) (broadcastInDim S8x2048x2048 ![0, 1] bcast_S8x2048_S8x2048x2048_0_1 (Host.reduceAdd (dtotal u g) (constant S_ .f32 0x00000000#32) reducesTo_S8x2048x1_S8x2048_d2 h_S_))) u) (broadcastInDim S8x2048x2048 ![] bcast_S_S8x2048x2048 (constant S_ .f32 0x00000000#32))) (broadcastInDim S8x2048x2048 ![] bcast_S_S8x2048x2048 (constant S_ .f32 0x3DD105EC#32))

def dq : FVec Ideal S2048x1024 .f32 :=
  shapeCast _ (transpose S2048x8x128 [1, 0, 2] (Host.dotGeneral dot_S8x2048x2048_S2048x8x128_S8x2048x128_2_0_1_2_0_1 none (dscore (uexp A0 A1) (dprob A2 A3)) (heads A1)) transposes_S8x2048x128_S2048x8x128_1_0_2) shapeCasts_S2048x8x128_S2048x1024

def dk : FVec Ideal S2048x1024 .f32 :=
  shapeCast _ (transpose S2048x8x128 [1, 0, 2] (Host.dotGeneral dot_S8x2048x2048_S2048x8x128_S8x2048x128_1_0_2_2_0_1 none (dscore (uexp A0 A1) (dprob A2 A3)) (heads A0)) transposes_S8x2048x128_S2048x8x128_1_0_2) shapeCasts_S2048x8x128_S2048x1024

def dv : FVec Ideal S2048x512 .f32 :=
  shapeCast _ (transpose S2048x8x64 [2, 0, 1] (Host.dotGeneral dot_S8x64x2048_S8x2048x2048_S8x64x2048_2_1_1_2_0_0 none (dout A3) (prob (uexp A0 A1))) transposes_S8x64x2048_S2048x8x64_2_0_1) shapeCasts_S2048x8x64_S2048x512

variable (m : (ℓ : Loc nD τ sig) → Buf (Elt Ideal) ℓ) (c : Dev nD)

theorem res_dq : res_main_v74 (F := Ideal) m c = dq (m ((c.tc : Thread nD τ).loc main_arg0)) (m ((c.tc : Thread nD τ).loc main_arg1)) (m ((c.tc : Thread nD τ).loc main_arg2)) (m ((c.tc : Thread nD τ).loc main_arg3)) := rfl

theorem res_dk : res_main_v73 (F := Ideal) m c = dk (m ((c.tc : Thread nD τ).loc main_arg0)) (m ((c.tc : Thread nD τ).loc main_arg1)) (m ((c.tc : Thread nD τ).loc main_arg2)) (m ((c.tc : Thread nD τ).loc main_arg3)) := rfl

theorem res_dv : res_main_v72 (F := Ideal) m c = dv (m ((c.tc : Thread nD τ).loc main_arg0)) (m ((c.tc : Thread nD τ).loc main_arg1)) (m ((c.tc : Thread nD τ).loc main_arg3)) := rfl

/-! ## At coordinates -/

theorem heads_apply (A : FVec Ideal S2048x1024 .bf16) (r : Fin 2048) (h : Fin 8) (d : Fin 128) : heads A (ix3 r h d) = hd h (cur A) r d := by
  pointwise [heads]
  rfl

theorem vheads_apply (A : FVec Ideal S2048x512 .bf16) (r : Fin 2048) (h : Fin 8) (d : Fin 64) : vheads A (ix3 r h d) = hv h (cur A) r d := by
  pointwise [vheads]
  rfl

theorem dout_apply (h : Fin 8) (d : Fin 64) (r : Fin 2048) : dout A3 (ix3 h d r) = hv h (cur A3) r d := by
  pointwise [dout]
  exact vheads_apply A3 r h d

theorem mask_apply (h : Fin 8) (q k : Fin 2048) (a b : EReal) : Scalar.select (mask (ix3 h q k)) a b = if k.val ≤ q.val then a else b := by
  have hq := q.isLt
  have hk := k.isLt
  pointwise [mask]
  refine if_congr ?_ rfl rfl
  word_cmp

theorem scores_apply (h : Fin 8) (q k : Fin 2048) : scores A0 A1 (ix3 h q k) = fs (cur A0) (cur A1) h q k := by
  pointwise [scores]
  rw [mask_apply, show id (constant (F := Ideal) S_ FTy.f32 4286578688#32) ix0 = (⊥ : EReal) from ofBits_ninf]
  simp only [heads_apply]
  rfl

theorem rowmax_apply (z : FVec Ideal S_ .f32) (s : FVec Ideal S8x2048x2048 .f32) (h : Fin 8) (q : Fin 2048) :
    rowmax z s (ix2 h q) = Finset.univ.fold max (z ix0) fun k => s (ix3 h q k) := by
  pointwise [rowmax]
  rw [show Shape.Idx.first h_S_ = ix0 from Subsingleton.elim _ _]

theorem expo_apply (z : FVec Ideal S_ .f32) (w : FVec Ideal S8x2048 .f32) (s : FVec Ideal S8x2048x2048 .f32) (h : Fin 8) (q k : Fin 2048) :
    expo z w s (ix3 h q k) = Ideal.exp (s (ix3 h q k) - max (z ix0) (w (ix2 h q))) := by
  pointwise [expo]

theorem uexp_apply (h : Fin 8) (q k : Fin 2048) : uexp A0 A1 (ix3 h q k) = ue (fs (cur A0) (cur A1) h q) k := by
  unfold uexp
  rw [expo_apply, rowmax_apply, show constant (F := Ideal) S_ FTy.f32 4286578688#32 ix0 = (⊥ : EReal) from ofBits_ninf]
  simp only [scores_apply]
  rw [max_eq_right bot_le]
  rfl

theorem total_apply (u : FVec Ideal S8x2048x2048 .f32) (h : Fin 8) (q : Fin 2048) (k : Fin 1) : total u (ix3 h q k) = ∑ x, u (ix3 h q x) := by
  pointwise [total]

theorem prob_apply (u : FVec Ideal S8x2048x2048 .f32) (h : Fin 8) (q k : Fin 2048) : prob u (ix3 h q k) = Ideal.div (u (ix3 h q k)) (∑ x, u (ix3 h q x)) := by
  pointwise [prob]
  rw [total_apply]

theorem dprob_apply (h : Fin 8) (q k : Fin 2048) : dprob A2 A3 (ix3 h q k) = fg (cur A2) (cur A3) h q k := by
  pointwise [dprob]
  simp only [dout_apply, vheads_apply]
  rfl

theorem dtotal_apply (u g : FVec Ideal S8x2048x2048 .f32) (h : Fin 8) (q : Fin 2048) (k : Fin 1) :
    dtotal u g (ix3 h q k) = -∑ x, g (ix3 h q x) * Ideal.div 1 ((∑ y, u (ix3 h q y)) * ∑ y, u (ix3 h q y)) * u (ix3 h q x) := by
  pointwise [dtotal]
  simp only [total_apply]

theorem dscore_apply (u g : FVec Ideal S8x2048x2048 .f32) (h : Fin 8) (q k : Fin 2048) :
    dscore u g (ix3 h q k) = if k.val ≤ q.val then
      (Ideal.div (g (ix3 h q k)) (∑ y, u (ix3 h q y)) + -∑ x, g (ix3 h q x) * Ideal.div 1 ((∑ y, u (ix3 h q y)) * ∑ y, u (ix3 h q y)) * u (ix3 h q x))
        * u (ix3 h q k) * scale else 0 := by
  pointwise [dscore]
  rw [mask_apply]
  simp only [dtotal_apply, total_apply, Fin.sum_univ_one]
  rfl

/-- The gradient of the products q · k, where the scores are real. -/
theorem ds_apply (hr : ∀ h q k, k.val ≤ q.val → ∃ x : ℝ, fs (cur A0) (cur A1) h q k = x) (h : Fin 8) (q k : Fin 2048) :
    dscore (uexp A0 A1) (dprob A2 A3) (ix3 h q k) = fds (cur A0) (cur A1) (cur A2) (cur A3) h q k := by
  rw [dscore_apply]
  simp only [uexp_apply, dprob_apply]
  exact dsr_ref h _ hr q k

theorem dq_apply (hr : ∀ h q k, k.val ≤ q.val → ∃ x : ℝ, fs (cur A0) (cur A1) h q k = x) (r : Fin 2048) (j : Fin 1024) :
    dq A0 A1 A2 A3 (ix2 r j) = fdq (cur A0) (cur A1) (cur A2) (cur A3) r j := by
  pointwise [dq]
  simp only [ds_apply A0 A1 A2 A3 hr, heads_apply]
  rfl

theorem dk_apply (hr : ∀ h q k, k.val ≤ q.val → ∃ x : ℝ, fs (cur A0) (cur A1) h q k = x) (r : Fin 2048) (j : Fin 1024) :
    dk A0 A1 A2 A3 (ix2 r j) = fdk (cur A0) (cur A1) (cur A2) (cur A3) r j := by
  pointwise [dk]
  simp only [ds_apply A0 A1 A2 A3 hr, heads_apply]
  rfl

theorem dv_apply (r : Fin 2048) (j : Fin 512) :
    dv A0 A1 A3 (ix2 r j) = fdv (cur A0) (cur A1) (cur A3) r j := by
  pointwise [dv]
  simp only [dout_apply, prob_apply, uexp_apply]
  rfl

end Cert.Attn.Ref

end
-- ==== Proof.Pre.lean ====
/- What the precondition says: every query and key is a real number, so every score a query sees is. -/
module

public import proofs.«01_k».proof.Pre_finite_scores
public import proofs.«01_k».proof.Proof.Full
public import Idealize.ShloMosaic.Lib.ReduceAll

@[expose] public section

noncomputable section

namespace Cert.Attn

open Idealize.ShloMosaic

theorem pre_facts : Cert.Pre_finite_scores.Facts where
  bitsLt_bf16_f32 := by decide
  bcast_S_S2048x1024 := by decide
  reducesTo_S2048x1024_S_d0_1 := by decide
  h_S_ := by decide

/-- A comparison with minus infinity and one with plus infinity that both hold bound a real number. -/
theorem real_of_cmp {x : EReal}
    (h : IntOp.andi (FloatOps.cmpf (F := Ideal) (φ := .f32) .ogt x (Ideal.ofBits .f32 0xFF800000#32))
      (FloatOps.cmpf (F := Ideal) (φ := .f32) .olt x (Ideal.ofBits .f32 0x7F800000#32)) = 1#1) : ∃ r : ℝ, x = r := by
  obtain ⟨h1, h2⟩ := IntOp.andi_eq_one.1 h
  rw [Ideal.cmpf_def, ofBits_ninf] at h1
  rw [Ideal.cmpf_def, ofBits_pinf] at h2
  refine real_of ?_ ?_
  · rintro rfl
    simp [Ideal.cmp] at h2
  · rintro rfl
    simp [Ideal.cmp] at h1

open Cert.Pre_finite_scores in
theorem real_of_pre [Cert.Pre_finite_scores.Facts] (a b : FVec Ideal S2048x1024 .bf16) (v o : FVec Ideal S2048x512 .bf16)
    (h : fn (F := Ideal) a b v o = fun _ => 1#1) : (∀ i, ∃ r : ℝ, a i = (r : EReal)) ∧ ∀ i, ∃ r : ℝ, b i = (r : EReal) := by
  have hs : Subsingleton S_.Idx := ⟨fun x y => funext fun i => i.elim0⟩
  obtain ⟨h1, h2⟩ := IntOp.andi_eq_one.1 (congrFun h ix0)
  exact ⟨fun i => real_of_cmp (Host.reduce_andi_all _ _ _ _ ix0 h1 i), fun i => real_of_cmp (Host.reduce_andi_all _ _ _ _ ix0 h2 i)⟩

/-- The scores a query sees are real when the queries and keys are. -/
theorem fs_real {x0 x1 : Fin 2048 → Fin 1024 → EReal} (h0 : ∀ r j, ∃ x : ℝ, x0 r j = x) (h1 : ∀ r j, ∃ x : ℝ, x1 r j = x)
    (h : Fin 8) (q k : Fin 2048) (hk : k.val ≤ q.val) : ∃ x : ℝ, fs x0 x1 h q k = x := by
  choose f hf using h0
  choose g hg using h1
  obtain ⟨s, hs⟩ := scale_real
  unfold fs hd
  rw [if_pos hk, hs]
  simp only [hf, hg, ← EReal.coe_mul, sum_coe]
  exact ⟨_, rfl⟩

end Cert.Attn

end
-- ==== Proof.Common.lean ====
/- What the proofs of the SwiGLU's calls share. -/
module

public import proofs.«01_k».proof.Proof.Full
public import Idealize.ShloMosaic.Lib.Pipeline.ValueKit
public import Idealize.ShloMosaic.Lib.Pointwise
public import Idealize.ShloMosaic.Lib.Quiescent

@[expose] public section

noncomputable section

namespace Cert.Ffn

open Cert.Attn
open Idealize.ShloMosaic Idealize.ShloMosaic.TcCoe

theorem hz : (![0, 0] : Fin 2 → Nat) = fun _ => 0 := funext fun a => by fin_cases a <;> rfl
theorem hz3 : (![0, 0, 0] : Fin 3 → Nat) = fun _ => 0 := funext fun a => by fin_cases a <;> rfl

/-- An array of rank three by its coordinates, and back. -/
def cur3 {a b c : ℕ} (x : (⟨3, ![a, b, c]⟩ : Shape).Idx → EReal) (p : Fin a) (r : Fin b) (j : Fin c) : EReal := x (ix3 p r j)
def unc3 {a b c : ℕ} (f : Fin a → Fin b → Fin c → EReal) : (⟨3, ![a, b, c]⟩ : Shape).Idx → EReal := fun j => f (j 0) (j 1) (j 2)

/-- An array is its function of coordinates. -/
theorem eq_unc {a b : ℕ} (x : (⟨2, ![a, b]⟩ : Shape).Idx → EReal) (f : Fin a → Fin b → EReal) (h : ∀ r c, x (ix2 r c) = f r c) : x = unc f :=
  funext fun j => (congrArg x (ix2_eta j).symm).trans (h (j 0) (j 1))
theorem eq_unc3 {a b c : ℕ} (x : (⟨3, ![a, b, c]⟩ : Shape).Idx → EReal) (f : Fin a → Fin b → Fin c → EReal)
    (h : ∀ p r j, x (ix3 p r j) = f p r j) : x = unc3 f :=
  funext fun j => (congrArg x (ix3_eta j).symm).trans (h (j 0) (j 1) (j 2))

/-- One half, as the programs write it. -/
theorem half_real : Ideal.ofBits .f32 0x3F000000#32 = ((1 / 2 : ℝ) : EReal) := by
  simp [Ideal.ofBits, Ideal.ieee, -EReal.coe_mul]
  norm_num

/-- A half moves out of a sum. -/
theorem half_mul_sum {n : ℕ} (f : Fin n → EReal) :
    Ideal.ofBits .f32 0x3F000000#32 * ∑ k, f k = ∑ k, Ideal.ofBits .f32 0x3F000000#32 * f k := by
  rw [half_real]
  exact coe_mul_sum (by norm_num) f Finset.univ

/-- The matrix whose columns lie in four blocks, one a chip. -/
def cols (w : Fin 4 → Fin 1024 → Fin 1408 → EReal) (k : Fin 1024) (q : Fin 5632) : EReal :=
  w ⟨q.val / 1408, by have := q.isLt; omega⟩ k ⟨q.val % 1408, Nat.mod_lt _ (by decide)⟩

/-- The gradients of the gates and of the ups, side by side. -/
def flat (d : Fin 2 → Fin 2048 → Fin 2816 → EReal) (k : Fin 2048) (q : Fin 5632) : EReal :=
  d ⟨q.val / 2816, by have := q.isLt; omega⟩ k ⟨q.val % 2816, Nat.mod_lt _ (by decide)⟩

/-- Two stores, each of one of the two slices of a block, leave the block of the two. -/
theorem canon_pair {b c : ℕ} (inb0 : ∀ a, (![0, 0, 0] : Fin 3 → ℕ) a + (![1, b, c] : Fin 3 → ℕ) a ≤ (![2, b, c] : Fin 3 → ℕ) a)
    (inb1 : ∀ a, (![1, 0, 0] : Fin 3 → ℕ) a + (![1, b, c] : Fin 3 → ℕ) a ≤ (![2, b, c] : Fin 3 → ℕ) a)
    (p0 p1 : (⟨3, ![1, b, c]⟩ : Shape).Idx → EReal)
    (hc : ∀ y : (⟨3, ![2, b, c]⟩ : Shape).Idx, ∃ p ∈ ([⟨Rect.unit (s := ⟨3, ![2, b, c]⟩) ![1, 0, 0] ![1, b, c] inb1, p1⟩, ⟨Rect.unit (s := ⟨3, ![2, b, c]⟩) ![0, 0, 0] ![1, b, c] inb0, p0⟩] :
      List (View.Piece (Elt Ideal) (⟨3, ![2, b, c]⟩ : Shape) .bf16)), y ∈ p.1.set) :
    View.canon ([⟨Rect.unit (s := ⟨3, ![2, b, c]⟩) ![1, 0, 0] ![1, b, c] inb1, p1⟩, ⟨Rect.unit (s := ⟨3, ![2, b, c]⟩) ![0, 0, 0] ![1, b, c] inb0, p0⟩] :
      List (View.Piece (Elt Ideal) (⟨3, ![2, b, c]⟩ : Shape) .bf16)) =
    unc3 (fun s r j => if s.val = 0 then p0 (ix3 0 r j) else p1 (ix3 0 r j)) := by
  funext y
  refine View.canon_apply_of_pieces _ _ (fun p hp x => ?_) y (hc y)
  simp only [List.mem_cons, List.not_mem_nil, or_false] at hp
  rcases hp with rfl | rfl
  · have e : (Rect.unit (s := ⟨3, ![2, b, c]⟩) ![1, 0, 0] ![1, b, c] inb1).emb x = ix3 1 (x 1) (x 2) := by
      funext a
      refine Fin.ext ((Rect.idx_unit_val (s := ⟨3, ![2, b, c]⟩) ![1, 0, 0] ![1, b, c] inb1 x a).trans ?_)
      have h0 := (x 0).isLt
      fin_cases a <;> simp [ix3] <;> omega
    refine Eq.trans ?_ (congrArg _ e.symm)
    exact congrArg p1 ((ix3_eta x).symm.trans (congrArg (fun z => ix3 z (x 1) (x 2)) (Subsingleton.elim (α := Fin 1) _ _)))
  · have e : (Rect.unit (s := ⟨3, ![2, b, c]⟩) ![0, 0, 0] ![1, b, c] inb0).emb x = ix3 0 (x 1) (x 2) := by
      funext a
      refine Fin.ext ((Rect.idx_unit_val (s := ⟨3, ![2, b, c]⟩) ![0, 0, 0] ![1, b, c] inb0 x a).trans ?_)
      have h0 := (x 0).isLt
      fin_cases a <;> simp [ix3] <;> omega
    refine Eq.trans ?_ (congrArg _ e.symm)
    exact congrArg p0 ((ix3_eta x).symm.trans (congrArg (fun z => ix3 z (x 1) (x 2)) (Subsingleton.elim (α := Fin 1) _ _)))

end Cert.Ffn
end
-- ==== Proof.Dgu.lean ====
/- The gradients of the SwiGLU's gates and ups: the array after the launch and the reference, by element. -/
module

public import proofs.«01_k».proof.Proof.Gen.KernelDguIdeal.Value
public import proofs.«01_k».proof.Proof.Gen.KernelDgu
public import proofs.«01_k».proof.Proof.Gen.KernelDgu.Frame
public import proofs.«01_k».proof.Proof.Gen.ReferenceDguIdeal.Run
public import proofs.«01_k».proof.Proof.Common
public import proofs.«01_k».proof.Defs

@[expose] public section

set_option maxRecDepth 16384

noncomputable section

namespace Cert.Ffn.Dgu

open Cert.Attn
open Idealize.ShloMosaic Idealize.ShloMosaic.TcCoe Idealize.ShloMosaic.Tactic Idealize.SL.Sem

/-- The gradient of the SwiGLU's product: half of dy against w2. -/
def da (dy : Fin 2048 → Fin 1024 → EReal) (w : Fin 2816 → Fin 1024 → EReal) (i : Fin 2048) (j : Fin 2816) : EReal :=
  Ideal.ofBits .f32 0x3F000000#32 * ∑ k, dy i k * w j k

/-- The gradient of the gates from the product's, the gate and the up; and the gradient of the ups. -/
def dgate (a g u : EReal) : EReal := a * u * Ideal.logistic g + g * (a * u) * (Ideal.logistic g * (1 - Ideal.logistic g))
def dup (a g : EReal) : EReal := g * Ideal.logistic g * a

def val (dy : Fin 2048 → Fin 1024 → EReal) (w : Fin 2816 → Fin 1024 → EReal) (gu : Fin 2 → Fin 2048 → Fin 2816 → EReal) (s : Fin 2) (i : Fin 2048) (j : Fin 2816) : EReal :=
  if s.val = 0 then dgate (da dy w i j) (gu 0 i j) (gu 1 i j) else dup (da dy w i j) (gu 0 i j)

section kernel

open KernelDguIdeal KernelDguIdeal.Gen
open Idealize.ShloMosaic.Pipeline (Dat Cfg Window BodyObligation cellOf)

theorem pay4_apply (x0 : Vec Ideal S512x1024 .f32) (x1 : Vec Ideal S1408x1024 .bf16) (g u : Vec Ideal S1x512x1408 .bf16) (p : Fin 1) (r : Fin 512) (j : Fin 1408) :
    k0_pay4 x0 x1 g u (ix3 p r j) = dgate (Ideal.ofBits .f32 0x3F000000#32 * ∑ k : Fin 1024, x0 (ix2 r k) * x1 (ix2 j k)) (g (ix3 0 r j)) (u (ix3 0 r j)) := by
  pointwise [k0_pay4, k0_pay3, k0_pay2, k0_pay1]
  rfl

theorem pay5_apply (x0 : Vec Ideal S512x1024 .f32) (x1 : Vec Ideal S1408x1024 .bf16) (g : Vec Ideal S1x512x1408 .bf16) (p : Fin 1) (r : Fin 512) (j : Fin 1408) :
    k0_pay5 x0 x1 g (ix3 p r j) = dup (Ideal.ofBits .f32 0x3F000000#32 * ∑ k : Fin 1024, x0 (ix2 r k) * x1 (ix2 j k)) (g (ix3 0 r j)) := by
  pointwise [k0_pay5, k0_pay3, k0_pay2, k0_pay1]
  rfl

theorem ld0 (x2 : Vec Ideal S2x512x1408 .bf16) (r : Fin 512) (j : Fin 1408) : View.ld x2 r0_2 (ix3 0 r j) = x2 (ix3 0 r j) :=
  View.ld_unit_apply_of x2 ![0, 0, 0] S1x512x1408.size inb_S2x512x1408_S1x512x1408_0_0_0 (ix3 0 r j) (ix3 0 r j) fun a => by fin_cases a <;> simp [ix3]

theorem ld1 (x2 : Vec Ideal S2x512x1408 .bf16) (r : Fin 512) (j : Fin 1408) : View.ld x2 r0_3 (ix3 0 r j) = x2 (ix3 1 r j) :=
  View.ld_unit_apply_of x2 ![1, 0, 0] S1x512x1408.size inb_S2x512x1408_S1x512x1408_1_0_0 (ix3 0 r j) (ix3 1 r j) fun a => by fin_cases a <;> simp [ix3]

theorem out_eq (x0 : Vec Ideal S512x1024 .f32) (x1 : Vec Ideal S1408x1024 .bf16) (x2 : Vec Ideal S2x512x1408 .bf16) : out0_3 x0 x1 x2 =
    unc3 (fun s r j => if s.val = 0 then dgate (Ideal.ofBits .f32 0x3F000000#32 * ∑ k : Fin 1024, x0 (ix2 r k) * x1 (ix2 j k)) (x2 (ix3 0 r j)) (x2 (ix3 1 r j))
      else dup (Ideal.ofBits .f32 0x3F000000#32 * ∑ k : Fin 1024, x0 (ix2 r k) * x1 (ix2 j k)) (x2 (ix3 0 r j))) := by
  unfold out0_3
  rw [View.ld_unit_zero hz, View.ld_unit_zero hz]
  refine (canon_pair inb_S2x512x1408_S1x512x1408_0_0_0 inb_S2x512x1408_S1x512x1408_1_0_0 (k0_pay4 x0 x1 (View.ld x2 r0_2) (View.ld x2 r0_3)) (k0_pay5 x0 x1 (View.ld x2 r0_2)) (cover0_3 _ _)).trans ?_
  refine congrArg unc3 (funext fun s => funext fun r => funext fun j => ?_)
  rw [pay4_apply, pay5_apply, ld0, ld1]

variable (m : (ℓ : Loc nD τ sig) → Buf (Elt Ideal) ℓ) (c : Dev nD)

theorem index_0 : ∀ t : Fin cfg0.N, win0_0.index t = ![t.val / 2, 0] := by decide +kernel
theorem index_1 : ∀ t : Fin cfg0.N, win0_1.index t = ![t.val % 2, 0] := by decide +kernel
theorem index_2 : ∀ t : Fin cfg0.N, win0_2.index t = ![0, t.val / 2, t.val % 2] := by decide +kernel
theorem index_3 : ∀ t : Fin cfg0.N, win0_3.index t = ![0, t.val / 2, t.val % 2] := by decide +kernel

/-- The blocks of a point. -/
def b0 (t : Fin cfg0.N) : Vec Ideal S512x1024 .f32 := iblk m c 0 t
def b1 (t : Fin cfg0.N) : Vec Ideal S1408x1024 .bf16 := iblk m c 1 t
def b2 (t : Fin cfg0.N) : Vec Ideal S2x512x1408 .bf16 := iblk m c 2 t

theorem b0_apply (t : Fin cfg0.N) (r : Fin 512) (k : Fin 1024) (i : Fin 2048) (hi : i.val = t.val / 2 * 512 + r.val) :
    b0 m c t (ix2 r k) = cur (m ((c.tc : Thread nD τ).loc main_arg0)) i k := by
  have e := index_0 t
  unfold cur b0
  blk_simp [iblk]
  refine congrArg (m ((c.tc : Thread nD τ).loc main_arg0)) ?_
  blk_ext [e, hi]

theorem b1_apply (t : Fin cfg0.N) (j : Fin 1408) (k : Fin 1024) (q : Fin 2816) (hq : q.val = t.val % 2 * 1408 + j.val) :
    b1 m c t (ix2 j k) = cur (m ((c.tc : Thread nD τ).loc main_arg1)) q k := by
  have e := index_1 t
  unfold cur b1
  blk_simp [iblk]
  refine congrArg (m ((c.tc : Thread nD τ).loc main_arg1)) ?_
  blk_ext [e, hq]

theorem b2_apply (t : Fin cfg0.N) (s : Fin 2) (r : Fin 512) (j : Fin 1408) (i : Fin 2048) (q : Fin 2816) (hi : i.val = t.val / 2 * 512 + r.val) (hq : q.val = t.val % 2 * 1408 + j.val) :
    b2 m c t (ix3 s r j) = cur3 (m ((c.tc : Thread nD τ).loc main_arg2)) s i q := by
  have e := index_2 t
  unfold cur3 b2
  blk_simp [iblk]
  refine congrArg (m ((c.tc : Thread nD τ).loc main_arg2)) ?_
  blk_ext [e, hi, hq]

theorem da_eq (t : Fin cfg0.N) (r : Fin 512) (j : Fin 1408) (i : Fin 2048) (q : Fin 2816) (hi : i.val = t.val / 2 * 512 + r.val) (hq : q.val = t.val % 2 * 1408 + j.val) :
    Ideal.ofBits .f32 0x3F000000#32 * ∑ k : Fin 1024, b0 m c t (ix2 r k) * b1 m c t (ix2 j k) = da (cur (m ((c.tc : Thread nD τ).loc main_arg0))) (cur (m ((c.tc : Thread nD τ).loc main_arg1))) i q := by
  unfold da
  exact congrArg (Ideal.ofBits .f32 0x3F000000#32 * ·) (Finset.sum_congr rfl fun k _ => congrArg₂ (· * ·) (b0_apply m c t r k _ hi) (b1_apply m c t j k _ hq))

/-- A point's block of the array, by element. -/
theorem point (t : Fin cfg0.N) (s : Fin 2) (r : Fin 512) (j : Fin 1408) (s' : Fin 2) (i : Fin 2048) (q : Fin 2816) (hs : s'.val = s.val) (hi : i.val = t.val / 2 * 512 + r.val)
    (hq : q.val = t.val % 2 * 1408 + j.val) : out0_3 (b0 m c t) (b1 m c t) (b2 m c t) (ix3 s r j) =
    val (cur (m ((c.tc : Thread nD τ).loc main_arg0))) (cur (m ((c.tc : Thread nD τ).loc main_arg1))) (cur3 (m ((c.tc : Thread nD τ).loc main_arg2))) s' i q := by
  refine (congrFun (out_eq (b0 m c t) (b1 m c t) (b2 m c t)) (ix3 s r j)).trans ?_
  have e0 := b2_apply m c t 0 r j i q hi hq
  have e1 := b2_apply m c t 1 r j i q hi hq
  have ea := da_eq m c t r j i q hi hq
  unfold val
  rw [hs, ← e0, ← e1, ← ea]
  rfl

/-- The array after the launch. -/
theorem arr : (dats m 0 c).arrAt 3 cfg0.N = unc3 (val (cur (m ((c.tc : Thread nD τ).loc main_arg0))) (cur (m ((c.tc : Thread nD τ).loc main_arg1))) (cur3 (m ((c.tc : Thread nD τ).loc main_arg2)))) := by
  have e := index_3
  refine (dats m 0 c).arrAt_eq_of_covers 3 _ (by decide +kernel) fun t hf y => ?_
  blk_simp [iblk]
  rw [after0_3]
  refine (congrArg (out0_3 (b0 m c t) (b1 m c t) (b2 m c t)) (ix3_eta y).symm).trans ((point m c t (y 0) (y 1) (y 2) ((win0_3.blk t).view.emb y 0) ((win0_3.blk t).view.emb y 1) ((win0_3.blk t).view.emb y 2) ?_ ?_ ?_).trans rfl)
  all_goals blk_simp [e]

end kernel

section reference
open ReferenceDguIdeal ReferenceDguIdeal.Gen
variable (A0 : FVec Ideal S2048x1024 .f32) (A1 : FVec Ideal S2816x1024 .bf16) (A2 : FVec Ideal S2x2048x2816 .bf16)

def ra : FVec Ideal S2048x2816 .f32 := (Host.dotGeneral dot_S2048x1024_S2816x1024_S2048x2816_1_1_0_0_n_n none (mulf (broadcastInDim S2048x1024 ![] bcast_S_S2048x1024 (constant S_ .f32 0x3F000000#32)) A0) (extf .f32 A1 bitsLt_bf16_f32))
def rg : FVec Ideal S2048x2816 .f32 := (extf .f32 (shapeCast _ (extractStridedSlice S1x2048x2816 ![0, 0, 0] A2 slices_S2x2048x2816_S1x2048x2816_0_0_0) shapeCasts_S1x2048x2816_S2048x2816) bitsLt_bf16_f32)
def ru : FVec Ideal S2048x2816 .f32 := (extf .f32 (shapeCast _ (extractStridedSlice S1x2048x2816 ![1, 0, 0] A2 slices_S2x2048x2816_S1x2048x2816_1_0_0) shapeCasts_S1x2048x2816_S2048x2816) bitsLt_bf16_f32)
def rs : FVec Ideal S2048x2816 .f32 := (Host.divf (broadcastInDim S2048x2816 ![] bcast_S_S2048x2816 (constant S_ .f32 0x3F800000#32)) (addf (broadcastInDim S2048x2816 ![] bcast_S_S2048x2816 (constant S_ .f32 0x3F800000#32)) (Host.exp (Host.negf (rg A2)))))

def res : FVec Ideal S2x2048x2816 .bf16 :=
  truncf .bf16 (concatenate S2x2048x2816 0 [⟨S1x2048x2816, (broadcastInDim S1x2048x2816 ![1, 2] bcast_S2048x2816_S1x2048x2816_1_2 (addf (mulf (mulf (ra A0 A1) (ru A2)) (rs A2)) (mulf (mulf (rg A2) (mulf (ra A0 A1) (ru A2))) (mulf (rs A2) (subf (broadcastInDim S2048x2816 ![] bcast_S_S2048x2816 (constant S_ .f32 0x3F800000#32)) (rs A2))))))⟩, ⟨S1x2048x2816, (broadcastInDim S1x2048x2816 ![1, 2] bcast_S2048x2816_S1x2048x2816_1_2 (mulf (mulf (rg A2) (rs A2)) (ra A0 A1)))⟩] concatenates_S1x2048x2816_S1x2048x2816_S2x2048x2816_d0) bitsLt_bf16_f32

theorem ra_apply (i : Fin 2048) (j : Fin 2816) : ra A0 A1 (ix2 i j) = da (cur A0) (cur A1) i j := by
  pointwise [ra]
  unfold da cur
  rw [half_mul_sum]
  exact Finset.sum_congr rfl fun k _ => mul_assoc _ _ _

theorem rg_apply (i : Fin 2048) (j : Fin 2816) : rg A2 (ix2 i j) = cur3 A2 0 i j := by
  pointwise [rg]
  rfl

theorem ru_apply (i : Fin 2048) (j : Fin 2816) : ru A2 (ix2 i j) = cur3 A2 1 i j := by
  pointwise [ru]
  rfl

theorem rs_apply (i : Fin 2048) (j : Fin 2816) : rs A2 (ix2 i j) = Ideal.logistic (cur3 A2 0 i j) := by
  pointwise [rs]
  rw [rg_apply]
  rfl

theorem res_apply (s : Fin 2) (i : Fin 2048) (j : Fin 2816) : res A0 A1 A2 (ix3 s i j) = val (cur A0) (cur A1) (cur3 A2) s i j := by
  pointwise [res]
  rw [ra_apply, rg_apply, ru_apply, rs_apply]
  fin_cases s
  · rfl
  · rfl

end reference

/-! ## The claims -/

open KernelDguIdeal in
theorem values : algebraic_KernelDguIdeal_ReferenceDguIdeal (hKernelDguIdeal := KernelDguIdeal.Gen.facts)
    (hReferenceDguIdeal := ReferenceDguIdeal.Gen.facts) := by
  intro m g m' g' _ hagree
  refine ⟨fun c => unc3 (val (cur (m ((c.tc : Thread nD τ).loc main_arg0))) (cur (m ((c.tc : Thread nD τ).loc main_arg1))) (cur3 (m ((c.tc : Thread nD τ).loc main_arg2)))), ?_, ?_⟩
  · refine (θ_run _ _ _).mono (fun r h c => ?_) (KernelDguIdeal.Value.run_blocks (F := Ideal) m g)
    obtain ⟨h0, rest⟩ := h c
    exact ⟨h0.trans (arr m c), rest⟩
  · refine (θ_run _ _ _).mono (fun r h c => ?_) (ReferenceDguIdeal.Value.run (F := Ideal) m' g')
    obtain ⟨a0, a1, a2⟩ := hagree c
    obtain ⟨h0, rest⟩ := h c
    refine ⟨h0.trans ?_, rest⟩
    · rw [a0, a1, a2]
      exact eq_unc3 _ _ (res_apply _ _ _)

theorem reference_frame : quiescent_ReferenceDguIdeal (hReferenceDguIdeal := ReferenceDguIdeal.Gen.facts) := fun m g _ =>
  (θ_run _ _ _).mono (fun r h => ⟨fun c => (h c).2, sem_eq_zero_of_no_sems rfl r.2⟩) (ReferenceDguIdeal.Value.run (F := Ideal) m g)

theorem kernel_frame : quiescent_KernelDgu (hKernelDgu := KernelDgu.Gen.facts) := fun m g _ => KernelDgu.Gen.frame m g

theorem ideal_frame : quiescent_KernelDguIdeal (hKernelDguIdeal := KernelDguIdeal.Gen.facts) := fun m g _ => KernelDguIdeal.Gen.frame m g

end Cert.Ffn.Dgu

end
-- ==== Proof.Dx.lean ====
/- The backward of the SwiGLU's first product and of its norm: the arrays after the launch and the reference, by element. -/
module

public import proofs.«01_k».proof.Proof.Gen.KernelDxIdeal.Value
public import proofs.«01_k».proof.Proof.Gen.KernelDx
public import proofs.«01_k».proof.Proof.Gen.KernelDx.Frame
public import proofs.«01_k».proof.Proof.Gen.ReferenceDxIdeal.Run
public import proofs.«01_k».proof.Proof.Common
public import Idealize.ShloMosaic.Lib.Pipeline.ReadBack
public import proofs.«01_k».proof.Defs

@[expose] public section

set_option maxRecDepth 16384

noncomputable section

namespace Cert.Ffn.Dx

open Cert.Attn
open Idealize.ShloMosaic Idealize.ShloMosaic.TcCoe Idealize.ShloMosaic.Tactic Idealize.SL.Sem

/-- A row's mean square with the epsilon, and its inverse root. -/
def ms (x : Fin 1024 → EReal) : EReal := Ideal.div (∑ k, x k * x k) (Ideal.ofBits .f32 0x44800000#32) + Ideal.ofBits .f32 0x358637BD#32
def rs (x : Fin 1024 → EReal) : EReal := Ideal.rsqrt (ms x)

/-- The gradient of the normed row: the gradients of gates and ups against w1. -/
def dh (d : Fin 2 → Fin 2048 → Fin 2816 → EReal) (w : Fin 4 → Fin 1024 → Fin 1408 → EReal) (i : Fin 2048) (j : Fin 1024) : EReal :=
  ∑ q, flat d i q * cols w j q

/-- What the mean square's gradient gives each entry of the row. -/
def sc (x g a : Fin 1024 → EReal) : EReal :=
  Ideal.div ((∑ k, x k * (a k * g k)) * (Ideal.ofBits .f32 0xBF000000#32 * Ideal.div (rs x) (ms x))) (Ideal.ofBits .f32 0x44800000#32)

/-- The gradient of the row from the normed row's, with the residual's. -/
def drow (x g a r : Fin 1024 → EReal) (j : Fin 1024) : EReal :=
  a j * g j * rs x + x j * sc x g a + sc x g a * x j + r j

def dx (d : Fin 2 → Fin 2048 → Fin 2816 → EReal) (w : Fin 4 → Fin 1024 → Fin 1408 → EReal) (x : Fin 2048 → Fin 1024 → EReal) (g : Fin 1 → Fin 1024 → EReal)
    (r : Fin 2048 → Fin 1024 → EReal) (i : Fin 2048) (j : Fin 1024) : EReal :=
  drow (x i) (g 0) (dh d w i) (r i) j

/-- The gradient of the norm's weight. -/
def dg (d : Fin 2 → Fin 2048 → Fin 2816 → EReal) (w : Fin 4 → Fin 1024 → Fin 1408 → EReal) (x : Fin 2048 → Fin 1024 → EReal) (_ : Fin 1) (j : Fin 1024) : EReal :=
  ∑ i, x i j * rs (x i) * dh d w i j

section kernel

open KernelDxIdeal KernelDxIdeal.Gen
open Idealize.ShloMosaic.Pipeline (Dat Cfg Window BodyObligation cellOf)

/-- A point's part of the product. -/
def part (x0 : Vec Ideal S1x512x1408 .bf16) (x1 : Vec Ideal S1x1024x1408 .bf16) (y : S512x1024.Idx) : EReal :=
  ∑ k : Fin 1408, x0 (ix3 0 (y 0) k) * x1 (ix3 0 (y 1) k)

theorem pay2_eq (x0 : Vec Ideal S1x512x1408 .bf16) (x1 : Vec Ideal S1x1024x1408 .bf16) : k0_pay2 x0 x1 = part x0 x1 := by
  refine (eq_unc (k0_pay2 x0 x1) (fun r j => part x0 x1 (ix2 r j)) fun r j => ?_).trans (eq_unc (part x0 x1) _ fun _ _ => rfl).symm
  pointwise [k0_pay2, k0_pay1]
  rfl

theorem pay3_eq (x0 : Vec Ideal S1x512x1408 .bf16) (x1 : Vec Ideal S1x1024x1408 .bf16) (a : Vec Ideal S512x1024 .f32) : k0_pay3 x0 x1 a = fun y => a y + part x0 x1 y := by
  refine (eq_unc (k0_pay3 x0 x1 a) (fun r j => a (ix2 r j) + part x0 x1 (ix2 r j)) fun r j => ?_).trans (eq_unc (fun y => a y + part x0 x1 y) _ fun _ _ => rfl).symm
  pointwise [k0_pay3, k0_pay1]
  rfl

theorem pay5_apply (x : Vec Ideal S512x1024 .f32) (r : Fin 512) (z : Fin 1) : k0_pay5 x (ix2 r z) = ms (fun k => x (ix2 r k)) := by
  pointwise [k0_pay5]
  rfl

theorem pay6_apply (x : Vec Ideal S512x1024 .f32) (r : Fin 512) (z : Fin 1) : k0_pay6 x (ix2 r z) = rs (fun k => x (ix2 r k)) := by
  pointwise [k0_pay6]
  rw [pay5_apply]
  rfl

theorem pay7_apply (a x : Vec Ideal S512x1024 .f32) (z : Fin 1) (j : Fin 1024) : k0_pay7 a x (ix2 z j) = ∑ r : Fin 512, x (ix2 r j) * rs (fun k => x (ix2 r k)) * a (ix2 r j) := by
  pointwise [k0_pay7]
  simp only [pay6_apply]

theorem pay4_apply (v o : Vec Ideal S1x1024 .f32) (z : Fin 1) (j : Fin 1024) : k0_pay4 v o (ix2 z j) = o (ix2 z j) + v (ix2 z j) := by
  pointwise [k0_pay4]

theorem pay8_apply (a x : Vec Ideal S512x1024 .f32) (g : Vec Ideal S1x1024 .f32) (d : Vec Ideal S512x1024 .f32) (r : Fin 512) (j : Fin 1024) :
    k0_pay8 a x g d (ix2 r j) = drow (fun k => x (ix2 r k)) (fun k => g (ix2 0 k)) (fun k => a (ix2 r k)) (fun k => d (ix2 r k)) j := by
  pointwise [k0_pay8]
  simp only [pay6_apply, pay5_apply]
  simp only [Finset.univ_unique, Finset.sum_singleton]
  rfl

variable (m : (ℓ : Loc nD τ sig) → Buf (Elt Ideal) ℓ) (c : Dev nD)

theorem index_0 : ∀ t : Fin cfg0.N, win0_0.index t = ![t.val % 4 / 2, t.val / 4, t.val % 4 % 2] := by decide +kernel
theorem index_1 : ∀ t : Fin cfg0.N, win0_1.index t = ![t.val % 4, 0, 0] := by decide +kernel
theorem index_2 : ∀ t : Fin cfg0.N, win0_2.index t = ![t.val / 4, 0] := by decide +kernel
theorem index_3 : ∀ t : Fin cfg0.N, win0_3.index t = ![0, 0] := by decide +kernel
theorem index_4 : ∀ t : Fin cfg0.N, win0_4.index t = ![t.val / 4, 0] := by decide +kernel
theorem index_5 : ∀ t : Fin cfg0.N, win0_5.index t = ![t.val / 4, 0] := by decide +kernel
theorem index_6 : ∀ t : Fin cfg0.N, win0_6.index t = ![0, 0] := by decide +kernel

/-- The blocks of a point. -/
def b0 (t : Fin cfg0.N) : Vec Ideal S1x512x1408 .bf16 := iblk m c 0 t
def b1 (t : Fin cfg0.N) : Vec Ideal S1x1024x1408 .bf16 := iblk m c 1 t
def b2 (t : Fin cfg0.N) : Vec Ideal S512x1024 .f32 := iblk m c 2 t
def b3 (t : Fin cfg0.N) : Vec Ideal S1x1024 .f32 := iblk m c 3 t
def b4 (t : Fin cfg0.N) : Vec Ideal S512x1024 .f32 := iblk m c 4 t

theorem b0_apply (t : Fin cfg0.N) (r : Fin 512) (k : Fin 1408) (i : Fin 2048) (q : Fin 5632) (hi : i.val = t.val / 4 * 512 + r.val) (hq : q.val = t.val % 4 * 1408 + k.val) :
    b0 m c t (ix3 0 r k) = flat (cur3 (m ((c.tc : Thread nD τ).loc main_arg0))) i q := by
  have e := index_0 t
  have hk := k.isLt
  unfold flat cur3 b0
  blk_simp [iblk]
  refine congrArg (m ((c.tc : Thread nD τ).loc main_arg0)) ?_
  blk_ext [e, hi]
  all_goals (rw [hq]; omega)

theorem b1_apply (t : Fin cfg0.N) (j : Fin 1024) (k : Fin 1408) (q : Fin 5632) (hq : q.val = t.val % 4 * 1408 + k.val) :
    b1 m c t (ix3 0 j k) = cols (cur3 (m ((c.tc : Thread nD τ).loc main_arg1))) j q := by
  have e := index_1 t
  have hk := k.isLt
  unfold cols cur3 b1
  blk_simp [iblk]
  refine congrArg (m ((c.tc : Thread nD τ).loc main_arg1)) ?_
  blk_ext [e]
  all_goals (rw [hq]; omega)

theorem b2_apply (t : Fin cfg0.N) (r : Fin 512) (j : Fin 1024) (i : Fin 2048) (hi : i.val = t.val / 4 * 512 + r.val) :
    b2 m c t (ix2 r j) = cur (m ((c.tc : Thread nD τ).loc main_arg2)) i j := by
  have e := index_2 t
  unfold cur b2
  blk_simp [iblk]
  refine congrArg (m ((c.tc : Thread nD τ).loc main_arg2)) ?_
  blk_ext [e, hi]

theorem b3_apply (t : Fin cfg0.N) (j : Fin 1024) : b3 m c t (ix2 0 j) = cur (m ((c.tc : Thread nD τ).loc main_arg3)) 0 j := by
  have e := index_3 t
  unfold cur b3
  blk_simp [iblk]
  refine congrArg (m ((c.tc : Thread nD τ).loc main_arg3)) ?_
  blk_ext [e]

theorem b4_apply (t : Fin cfg0.N) (r : Fin 512) (j : Fin 1024) (i : Fin 2048) (hi : i.val = t.val / 4 * 512 + r.val) :
    b4 m c t (ix2 r j) = cur (m ((c.tc : Thread nD τ).loc main_arg4)) i j := by
  have e := index_4 t
  unfold cur b4
  blk_simp [iblk]
  refine congrArg (m ((c.tc : Thread nD τ).loc main_arg4)) ?_
  blk_ext [e, hi]

/-- What a point leaves in the scratch: the sum of the parts so far. -/
theorem scratch_first (t : Fin cfg0.N) (h : t.val % 4 = 0) : (outsAt0 m c t.val t.isLt).2.2 = part (b0 m c t) (b1 m c t) := by
  rw [outsAt0_A m c t h (by omega) (by omega)]
  frame_out
  exact pay2_eq _ _

theorem scratch_next (t : Fin cfg0.N) (h : ¬t.val % 4 = 0) : (outsAt0 m c t.val t.isLt).2.2 =
    fun y => (outsAt0 m c (t.val - 1) (Nat.lt_of_le_of_lt (Nat.sub_le _ _) t.isLt)).2.2 y + part (b0 m c t) (b1 m c t) y := by
  by_cases h3 : t.val % 4 = 3
  · by_cases h4 : t.val < 4
    · rw [outsAt0_C m c t h (by omega) h3 h4 (by omega)]
      frame_out
      rw [read_unread_whole]
      exact pay3_eq _ _ _
    · rw [outsAt0_D m c t h (by omega) h3 h4 (by omega)]
      frame_out
      rw [read_unread_whole]
      exact pay3_eq _ _ _
  · rw [outsAt0_B m c t h (by omega) h3]
    frame_out
    rw [read_unread_whole]
    exact pay3_eq _ _ _

/-- At the last of a row block's points the scratch holds the product. -/
theorem scratch_last (t : Fin cfg0.N) (h : t.val % 4 = 3) (r : Fin 512) (j : Fin 1024) (i : Fin 2048) (hi : i.val = t.val / 4 * 512 + r.val) :
    (outsAt0 m c t.val t.isLt).2.2 (ix2 r j) = dh (cur3 (m ((c.tc : Thread nD τ).loc main_arg0))) (cur3 (m ((c.tc : Thread nD τ).loc main_arg1))) i j := by
  refine (Pipeline.eq_sum_fin_of_reset_step_apply_of_flush (fun n h => (outsAt0 m c n h).2.2) 4 (fun _ => (0 : EReal)) (fun t => part (b0 m c t) (b1 m c t))
    (fun t h y => (congrFun (scratch_first m c t h) y).trans (zero_add _).symm) (fun t h y => congrFun (scratch_next m c t h) y) t h (ix2 r j)).trans ?_
  rw [zero_add]
  unfold dh part
  refine Fin.sum_mul_add_congr fun s k hl => ?_
  have hs := s.isLt
  exact congrArg₂ (· * ·) (b0_apply m c _ _ k i _ (by simp [hi]; omega) (by simp; omega)) (b1_apply m c _ _ k _ (by simp; omega))

/-- What the last of a row block's points leaves in the first result. -/
theorem out5 (t : Fin cfg0.N) (h : t.val % 4 = 3) : (outsAt0 m c t.val t.isLt).1 = k0_pay8 (outsAt0 m c t.val t.isLt).2.2 (b2 m c t) (b3 m c t) (b4 m c t) := by
  by_cases h4 : t.val < 4
  · rw [outsAt0_C m c t (by omega) (by omega) h h4 (by omega)]
    frame_out
    rfl
  · rw [outsAt0_D m c t (by omega) (by omega) h h4 (by omega)]
    frame_out
    rfl

/-- A row block's part of the second result. -/
def rows (t : Fin cfg0.N) : Vec Ideal S1x1024 .f32 := k0_pay7 (outsAt0 m c t.val t.isLt).2.2 (b2 m c t)

theorem out6_first (t : Fin cfg0.N) (h : t.val % 4 = 3) (h4 : t.val < 4) : (outsAt0 m c t.val t.isLt).2.1 = rows m c t := by
  unfold rows
  rw [outsAt0_C m c t (by omega) (by omega) h h4 (by omega)]
  frame_out
  rfl

theorem out6_next (t : Fin cfg0.N) (h : t.val % 4 = 3) (h4 : ¬t.val < 4) : (outsAt0 m c t.val t.isLt).2.1 =
    k0_pay4 (rows m c t) (outsAt0 m c (t.val - 1) (Nat.lt_of_le_of_lt (Nat.sub_le _ _) t.isLt)).2.1 := by
  unfold rows
  rw [outsAt0_D m c t (by omega) (by omega) h h4 (by omega)]
  frame_out
  rfl

theorem out6_kept (n : ℕ) (hn : n + 1 < cfg0.N) (h : ¬(n + 1) % 4 = 3) : (outsAt0 m c (n + 1) hn).2.1 = (outsAt0 m c n (Nat.lt_of_succ_lt hn)).2.1 := by
  by_cases h0 : (n + 1) % 4 = 0
  · rw [outsAt0_A m c ⟨n + 1, hn⟩ h0 (by dsimp only; omega) h]
    rfl
  · rw [outsAt0_B m c ⟨n + 1, hn⟩ h0 (by dsimp only; omega) h]
    rfl

/-- From a row block's last point to the next's. -/
theorem out6_step (n k : ℕ) (hn : k < cfg0.N) (hk : n < cfg0.N) (e : k = n + 4) (h : n % 4 = 3) (z : Fin 1) (j : Fin 1024) : (outsAt0 m c k hn).2.1 (ix2 z j) =
    (outsAt0 m c n hk).2.1 (ix2 z j) + rows m c ⟨k, hn⟩ (ix2 z j) := by
  subst e
  refine (congrFun (out6_next m c ⟨n + 4, hn⟩ (by dsimp only; omega) (by dsimp only; omega)) (ix2 z j)).trans ((pay4_apply _ _ z j).trans ?_)
  refine congrArg (· + rows m c ⟨n + 4, hn⟩ (ix2 z j)) ?_
  have e3 := out6_kept m c (n + 2) (by omega) (by omega)
  have e2 := out6_kept m c (n + 1) (by omega) (by omega)
  have e1 := out6_kept m c n (by omega) (by omega)
  exact congrFun (e3.trans (e2.trans e1)) (ix2 z j)

/-- The terms of the second result. -/
def term (j : Fin 1024) (i : Fin 2048) : EReal :=
  cur (m ((c.tc : Thread nD τ).loc main_arg2)) i j * rs (cur (m ((c.tc : Thread nD τ).loc main_arg2)) i)
    * dh (cur3 (m ((c.tc : Thread nD τ).loc main_arg0))) (cur3 (m ((c.tc : Thread nD τ).loc main_arg1))) i j

theorem rows_apply (t : Fin cfg0.N) (h : t.val % 4 = 3) (z : Fin 1) (j : Fin 1024) (f : Fin 512 → Fin 2048) (hf : ∀ r, (f r).val = t.val / 4 * 512 + r.val) :
    rows m c t (ix2 z j) = ∑ r : Fin 512, term m c j (f r) := by
  unfold rows
  refine (pay7_apply _ _ z j).trans (Finset.sum_congr rfl fun r _ => ?_)
  rw [scratch_last m c t h r j (f r) (hf r), b2_apply m c t r j (f r) (hf r), show (fun k => b2 m c t (ix2 r k)) = cur (m ((c.tc : Thread nD τ).loc main_arg2)) (f r) from
    funext fun k => b2_apply m c t r k (f r) (hf r)]
  rfl

theorem rows_at (k : Fin 4) (t : Fin cfg0.N) (hk : t.val = 4 * k.val + 3) (z : Fin 1) (j : Fin 1024) :
    rows m c t (ix2 z j) = ∑ r : Fin 512, term m c j ⟨k.val * 512 + r.val, by omega⟩ :=
  rows_apply m c t (by omega) z j _ fun r => by dsimp only; omega

theorem chain {a b d e p q r s : EReal} {T : Fin 4 → EReal} (e1 : a = b + s) (e2 : b = d + r) (e3 : d = e + q) (e4 : e = p) (h0 : p = T 0) (h1 : q = T 1)
    (h2 : r = T 2) (h3 : s = T 3) : a = ∑ i, T i := by
  rw [Fin.sum_univ_four, e1, e2, e3, e4, h0, h1, h2, h3]

theorem out6 (t : Fin cfg0.N) (ht : t.val = 15) (z : Fin 1) (j : Fin 1024) : (outsAt0 m c t.val t.isLt).2.1 (ix2 z j) = ∑ i, term m c j i := by
  have hN : t.val < cfg0.N := t.isLt
  rw [ht] at hN
  have e1 := out6_step m c 11 t.val t.isLt (by omega) (by omega) (by omega) z j
  have e2 := out6_step m c 7 11 (by omega) (by omega) (by omega) (by omega) z j
  have e3 := out6_step m c 3 7 (by omega) (by omega) (by omega) (by omega) z j
  have e4 := congrFun (out6_first m c ⟨3, by omega⟩ (by dsimp only) (by dsimp only; omega)) (ix2 z j)
  rw [← Fin.sum_mul_add_fin 4 512 (term m c j)]
  refine chain e1 e2 e3 e4 ?_ ?_ ?_ ?_
  · exact rows_at m c 0 ⟨3, by omega⟩ (by dsimp) z j
  · exact rows_at m c 1 ⟨7, by omega⟩ (by dsimp) z j
  · exact rows_at m c 2 ⟨11, by omega⟩ (by dsimp) z j
  · exact rows_at m c 3 t (by dsimp; omega) z j

theorem arr5 : (dats m 0 c).arrAt 5 cfg0.N = unc (dx (cur3 (m ((c.tc : Thread nD τ).loc main_arg0))) (cur3 (m ((c.tc : Thread nD τ).loc main_arg1))) (cur (m ((c.tc : Thread nD τ).loc main_arg2)))
    (cur (m ((c.tc : Thread nD τ).loc main_arg3))) (cur (m ((c.tc : Thread nD τ).loc main_arg4)))) := by
  have e := index_5
  refine (dats m 0 c).arrAt_eq_of_covers 5 _ (by decide +kernel) fun t hf y => ?_
  have h3 : t.val % 4 = 3 := (flush0_5 t).mp hf
  blk_simp [iblk]
  rw [after0_5, out5 m c t h3]
  refine (congrFun (eq_unc _ _ (pay8_apply _ _ _ _)) _).trans ?_
  unfold unc dx
  have hi : ((win0_5.blk t).view.emb y 0).val = t.val / 4 * 512 + (y 0).val := by blk_simp [e]
  have hj : y 1 = (win0_5.blk t).view.emb y 1 := Fin.ext (by blk_simp [e])
  rw [← hj]
  have e1 : (fun k => b2 m c t (ix2 (y 0) k)) = _ := funext fun k => b2_apply m c t (y 0) k _ hi
  have e2 : (fun k => b3 m c t (ix2 0 k)) = _ := funext fun k => b3_apply m c t k
  have e3 : (fun k => (outsAt0 m c t.val t.isLt).2.2 (ix2 (y 0) k)) = _ := funext fun k => scratch_last m c t h3 (y 0) k _ hi
  have e4 : (fun k => b4 m c t (ix2 (y 0) k)) = _ := funext fun k => b4_apply m c t (y 0) k _ hi
  exact congrFun (congr (congr (congr (congrArg drow e1) e2) e3) e4) (y 1)

theorem arr6 : (dats m 0 c).arrAt 6 cfg0.N = unc (dg (cur3 (m ((c.tc : Thread nD τ).loc main_arg0))) (cur3 (m ((c.tc : Thread nD τ).loc main_arg1))) (cur (m ((c.tc : Thread nD τ).loc main_arg2)))) := by
  have e := index_6
  refine (dats m 0 c).arrAt_eq_of_covers 6 _ (by decide +kernel) fun t hf y => ?_
  have h15 : t.val % 16 = 15 := (flush0_6 t).mp hf
  have ht : t.val = 15 := by
    have hN : t.val < 16 := lt_of_lt_of_eq t.isLt N_0
    omega
  blk_simp [iblk]
  rw [after0_6]
  refine (congrFun (eq_unc _ _ (out6 m c t ht)) _).trans ?_
  unfold unc dg
  have hj : y 1 = (win0_6.blk t).view.emb y 1 := Fin.ext (by blk_simp [e])
  rw [← hj]
  rfl

end kernel

section reference
open ReferenceDxIdeal ReferenceDxIdeal.Gen
variable (A0 : FVec Ideal S2x2048x2816 .bf16) (A1 : FVec Ideal S4x1024x1408 .bf16) (A2 : FVec Ideal S2048x1024 .f32) (A3 : FVec Ideal S1x1024 .f32) (A4 : FVec Ideal S2048x1024 .f32)

def both : FVec Ideal S2048x5632 .bf16 :=
  concatenate S2048x5632 1 [⟨S2048x2816, (shapeCast _ (extractStridedSlice S1x2048x2816 ![0, 0, 0] A0 slices_S2x2048x2816_S1x2048x2816_0_0_0) shapeCasts_S1x2048x2816_S2048x2816)⟩, ⟨S2048x2816, (shapeCast _ (extractStridedSlice S1x2048x2816 ![1, 0, 0] A0 slices_S2x2048x2816_S1x2048x2816_1_0_0) shapeCasts_S1x2048x2816_S2048x2816)⟩] concatenates_S2048x2816_S2048x2816_S2048x5632_d1

def wide : FVec Ideal S1024x5632 .f32 :=
  shapeCast _ (transpose S1024x4x1408 [1, 0, 2] (extf .f32 A1 bitsLt_bf16_f32) transposes_S4x1024x1408_S1024x4x1408_1_0_2) shapeCasts_S1024x4x1408_S1024x5632

def msq : FVec Ideal S2048x1 .f32 :=
  addf (Host.divf (broadcastInDim S2048x1 ![0] bcast_S2048_S2048x1_0 (Host.reduceAdd (mulf A2 A2) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

def dhr : FVec Ideal S2048x1024 .f32 :=
  Host.dotGeneral dot_S2048x5632_S1024x5632_S2048x1024_1_1_0_0_n_n none (extf .f32 (both A0) bitsLt_bf16_f32) (wide A1)

def scr : FVec Ideal S2048 .f32 :=
  Host.reduceAdd (Host.divf (mulf (shapeCast _ (Host.reduceAdd (mulf A2 (mulf (dhr A0 A1) (broadcastInDim S2048x1024 ![0, 1] bcast_S1x1024_S2048x1024_0_1 A3))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (msq A2)) (msq A2)))) (broadcastInDim S2048x1 ![] bcast_S_S2048x1 (constant S_ .f32 0x44800000#32))) (constant S_ .f32 0x00000000#32) reducesTo_S2048x1_S2048_d1 h_S_

def res5 : FVec Ideal S2048x1024 .f32 :=
  addf (addf (addf A4 (mulf (mulf (dhr A0 A1) (broadcastInDim S2048x1024 ![0, 1] bcast_S1x1024_S2048x1024_0_1 A3)) (broadcastInDim S2048x1024 ![0, 1] bcast_S2048x1_S2048x1024_0_1 (Host.rsqrt (msq A2))))) (mulf A2 (broadcastInDim S2048x1024 ![0] bcast_S2048_S2048x1024_0 (scr A0 A1 A2 A3)))) (mulf (broadcastInDim S2048x1024 ![0] bcast_S2048_S2048x1024_0 (scr A0 A1 A2 A3)) A2)

def res6 : FVec Ideal S1x1024 .f32 :=
  shapeCast _ (Host.reduceAdd (mulf (mulf A2 (broadcastInDim S2048x1024 ![0, 1] bcast_S2048x1_S2048x1024_0_1 (Host.rsqrt (msq A2)))) (dhr A0 A1)) (constant S_ .f32 0x00000000#32) reducesTo_S2048x1024_S1024_d0 h_S_) shapeCasts_S1024_S1x1024

theorem both_apply (k : Fin 2048) (q : Fin 5632) : both A0 (ix2 k q) = flat (cur3 A0) k q := by
  pointwise [both]
  unfold flat cur3
  have hq := q.isLt
  split_ifs with h
  all_goals
    refine congrArg A0 ?_
    blk_ext []
    all_goals omega

theorem wide_apply (j : Fin 1024) (q : Fin 5632) : wide A1 (ix2 j q) = cols (cur3 A1) j q := by
  pointwise [wide]
  rfl

theorem dhr_apply (i : Fin 2048) (j : Fin 1024) : dhr A0 A1 (ix2 i j) = dh (cur3 A0) (cur3 A1) i j := by
  pointwise [dhr]
  unfold dh
  exact Finset.sum_congr rfl fun q _ => by rw [both_apply, wide_apply]

theorem msq_apply (i : Fin 2048) (z : Fin 1) : msq A2 (ix2 i z) = ms (cur A2 i) := by
  pointwise [msq]
  rfl

theorem scr_apply (i : Fin 2048) : scr A0 A1 A2 A3 (ix1 i) = sc (cur A2 i) (cur A3 0) (dh (cur3 A0) (cur3 A1) i) := by
  pointwise [scr]
  simp only [msq_apply, dhr_apply]
  simp only [Finset.univ_unique, Finset.sum_singleton]
  rfl

theorem res5_apply (i : Fin 2048) (j : Fin 1024) : res5 A0 A1 A2 A3 A4 (ix2 i j) = dx (cur3 A0) (cur3 A1) (cur A2) (cur A3) (cur A4) i j := by
  pointwise [res5]
  simp only [msq_apply, dhr_apply, scr_apply]
  show A4 (ix2 i j) + _ + _ + _ = _ + _ + _ + A4 (ix2 i j)
  rw [add_comm (A4 (ix2 i j)), add_right_comm _ (A4 (ix2 i j)), add_right_comm _ (A4 (ix2 i j))]
  rfl

theorem res6_apply (z : Fin 1) (j : Fin 1024) : res6 A0 A1 A2 (ix2 z j) = dg (cur3 A0) (cur3 A1) (cur A2) z j := by
  pointwise [res6]
  simp only [msq_apply, dhr_apply]
  rfl

end reference

/-! ## The claims -/

open KernelDxIdeal in
theorem values : algebraic_KernelDxIdeal_ReferenceDxIdeal (hKernelDxIdeal := KernelDxIdeal.Gen.facts)
    (hReferenceDxIdeal := ReferenceDxIdeal.Gen.facts) := by
  intro m g m' g' _ hagree
  refine ⟨fun c => unc (dx (cur3 (m ((c.tc : Thread nD τ).loc main_arg0))) (cur3 (m ((c.tc : Thread nD τ).loc main_arg1))) (cur (m ((c.tc : Thread nD τ).loc main_arg2))) (cur (m ((c.tc : Thread nD τ).loc main_arg3))) (cur (m ((c.tc : Thread nD τ).loc main_arg4)))), fun c => unc (dg (cur3 (m ((c.tc : Thread nD τ).loc main_arg0))) (cur3 (m ((c.tc : Thread nD τ).loc main_arg1))) (cur (m ((c.tc : Thread nD τ).loc main_arg2)))), ?_, ?_⟩
  · refine (θ_run _ _ _).mono (fun r h c => ?_) (KernelDxIdeal.Value.run_blocks (F := Ideal) m g)
    obtain ⟨h0, h1, rest⟩ := h c
    exact ⟨h0.trans (arr5 m c), h1.trans (arr6 m c), rest⟩
  · refine (θ_run _ _ _).mono (fun r h c => ?_) (ReferenceDxIdeal.Value.run (F := Ideal) m' g')
    obtain ⟨a0, a1, a2, a3, a4⟩ := hagree c
    obtain ⟨h0, h1, rest⟩ := h c
    refine ⟨h0.trans ?_, h1.trans ?_, rest⟩
    · unfold ReferenceDxIdeal.Value.res_main_v45
      rw [a0, a1, a2, a3, a4]
      exact eq_unc _ _ (res5_apply _ _ _ _ _)
    · rw [a0, a1, a2]
      exact eq_unc _ _ (res6_apply _ _ _)

theorem reference_frame : quiescent_ReferenceDxIdeal (hReferenceDxIdeal := ReferenceDxIdeal.Gen.facts) := fun m g _ =>
  (θ_run _ _ _).mono (fun r h => ⟨fun c => (h c).2.2, sem_eq_zero_of_no_sems rfl r.2⟩) (ReferenceDxIdeal.Value.run (F := Ideal) m g)

theorem kernel_frame : quiescent_KernelDx (hKernelDx := KernelDx.Gen.facts) := fun m g _ => KernelDx.Gen.frame m g

theorem ideal_frame : quiescent_KernelDxIdeal (hKernelDxIdeal := KernelDxIdeal.Gen.facts) := fun m g _ => KernelDxIdeal.Gen.frame m g

end Cert.Ffn.Dx

end
-- ==== Proof.Dw1.lean ====
/- The gradient of the SwiGLU's first matrix: the array after the launch and the reference, by element. -/
module

public import proofs.«01_k».proof.Proof.Gen.KernelDw1Ideal.Value
public import proofs.«01_k».proof.Proof.Gen.KernelDw1
public import proofs.«01_k».proof.Proof.Gen.KernelDw1.Frame
public import proofs.«01_k».proof.Proof.Gen.ReferenceDw1Ideal.Run
public import proofs.«01_k».proof.Proof.Common
public import proofs.«01_k».proof.Defs

@[expose] public section

set_option maxRecDepth 16384

noncomputable section

namespace Cert.Ffn.Dw1

open Cert.Attn
open Idealize.ShloMosaic Idealize.ShloMosaic.TcCoe Idealize.ShloMosaic.Tactic Idealize.SL.Sem

/-- The product of h transposed with the gradients, in four blocks of columns. -/
def val (h : Fin 2048 → Fin 1024 → EReal) (d : Fin 2 → Fin 2048 → Fin 2816 → EReal) (p : Fin 4) (r : Fin 1024) (j : Fin 1408) : EReal :=
  ∑ k, h k r * flat d k ⟨p.val * 1408 + j.val, by have := p.isLt; have := j.isLt; omega⟩

section kernel

open KernelDw1Ideal KernelDw1Ideal.Gen
open Idealize.ShloMosaic.Pipeline (Dat Cfg Window BodyObligation cellOf)

theorem out_eq (x0 : Vec Ideal S2048x512 .bf16) (x1 : Vec Ideal S1x2048x1408 .bf16) : out0_2 x0 x1 =
    unc3 (fun p r j => ∑ k : Fin 2048, x0 (ix2 k r) * x1 (ix3 0 k j)) := by
  unfold out0_2
  rw [View.canon_unit_zero hz3, View.ld_unit_zero hz, View.ld_unit_zero hz3]
  refine eq_unc3 _ _ fun p r j => ?_
  pointwise [k0_pay1]

variable (m : (ℓ : Loc nD τ sig) → Buf (Elt Ideal) ℓ) (c : Dev nD)

theorem index_0 : ∀ t : Fin cfg0.N, win0_0.index t = ![0, t.val / 4] := by decide +kernel
theorem index_1 : ∀ t : Fin cfg0.N, win0_1.index t = ![t.val % 4 / 2, 0, t.val % 4 % 2] := by decide +kernel
theorem index_2 : ∀ t : Fin cfg0.N, win0_2.index t = ![t.val % 4, t.val / 4, 0] := by decide +kernel

/-- The blocks of a point. -/
def b0 (t : Fin cfg0.N) : Vec Ideal S2048x512 .bf16 := iblk m c 0 t
def b1 (t : Fin cfg0.N) : Vec Ideal S1x2048x1408 .bf16 := iblk m c 1 t

theorem b0_apply (t : Fin cfg0.N) (k : Fin 2048) (r : Fin 512) (i : Fin 1024) (hi : i.val = t.val / 4 * 512 + r.val) :
    b0 m c t (ix2 k r) = cur (m ((c.tc : Thread nD τ).loc main_arg0)) k i := by
  have e := index_0 t
  unfold cur b0
  blk_simp [iblk]
  refine congrArg (m ((c.tc : Thread nD τ).loc main_arg0)) ?_
  blk_ext [e, hi]

theorem b1_apply (t : Fin cfg0.N) (k : Fin 2048) (j : Fin 1408) (q : Fin 5632) (hq : q.val = t.val % 4 * 1408 + j.val) :
    b1 m c t (ix3 0 k j) = flat (cur3 (m ((c.tc : Thread nD τ).loc main_arg1))) k q := by
  have e := index_1 t
  have hj := j.isLt
  unfold flat cur3 b1
  blk_simp [iblk]
  refine congrArg (m ((c.tc : Thread nD τ).loc main_arg1)) ?_
  blk_ext [e]
  all_goals (rw [hq]; omega)

/-- The array after the launch. -/
theorem arr : (dats m 0 c).arrAt 2 cfg0.N = unc3 (val (cur (m ((c.tc : Thread nD τ).loc main_arg0))) (cur3 (m ((c.tc : Thread nD τ).loc main_arg1)))) := by
  have e := index_2
  refine (dats m 0 c).arrAt_eq_of_covers 2 _ (by decide +kernel) fun t hf y => ?_
  blk_simp [iblk]
  rw [after0_2]
  refine (congrFun (out_eq (b0 m c t) (b1 m c t)) _).trans ?_
  unfold unc3 val
  refine Finset.sum_congr rfl fun k _ =>
    congrArg₂ (· * ·) (b0_apply m c t k (y 1) _ ?_) (b1_apply m c t k (y 2) _ ?_)
  all_goals blk_simp [e]

end kernel

section reference
open ReferenceDw1Ideal ReferenceDw1Ideal.Gen
variable (A0 : FVec Ideal S2048x1024 .bf16) (A1 : FVec Ideal S2x2048x2816 .bf16)

def both : FVec Ideal S2048x5632 .bf16 :=
  concatenate S2048x5632 1 [⟨S2048x2816, (shapeCast _ (extractStridedSlice S1x2048x2816 ![0, 0, 0] A1 slices_S2x2048x2816_S1x2048x2816_0_0_0) shapeCasts_S1x2048x2816_S2048x2816)⟩, ⟨S2048x2816, (shapeCast _ (extractStridedSlice S1x2048x2816 ![1, 0, 0] A1 slices_S2x2048x2816_S1x2048x2816_1_0_0) shapeCasts_S1x2048x2816_S2048x2816)⟩] concatenates_S2048x2816_S2048x2816_S2048x5632_d1

def res : FVec Ideal S4x1024x1408 .bf16 :=
  truncf .bf16 (transpose S4x1024x1408 [1, 0, 2] (shapeCast _ (transpose S1024x5632 [1, 0] (Host.dotGeneral dot_S2048x5632_S2048x1024_S5632x1024_0_0_1_1_n_n none (extf .f32 (both A1) bitsLt_bf16_f32) (extf .f32 A0 bitsLt_bf16_f32)) transposes_S5632x1024_S1024x5632_1_0) shapeCasts_S1024x5632_S1024x4x1408) transposes_S1024x4x1408_S4x1024x1408_1_0_2) bitsLt_bf16_f32

theorem both_apply (k : Fin 2048) (q : Fin 5632) : both A1 (ix2 k q) = flat (cur3 A1) k q := by
  pointwise [both]
  unfold flat cur3
  have hq := q.isLt
  split_ifs with h
  all_goals
    refine congrArg A1 ?_
    blk_ext []
    all_goals omega

theorem res_apply (p : Fin 4) (r : Fin 1024) (j : Fin 1408) : res A0 A1 (ix3 p r j) = val (cur A0) (cur3 A1) p r j := by
  pointwise [res]
  unfold val cur
  exact Finset.sum_congr rfl fun k _ => by rw [both_apply, mul_comm]

end reference

/-! ## The claims -/

open KernelDw1Ideal in
theorem values : algebraic_KernelDw1Ideal_ReferenceDw1Ideal (hKernelDw1Ideal := KernelDw1Ideal.Gen.facts)
    (hReferenceDw1Ideal := ReferenceDw1Ideal.Gen.facts) := by
  intro m g m' g' _ hagree
  refine ⟨fun c => unc3 (val (cur (m ((c.tc : Thread nD τ).loc main_arg0))) (cur3 (m ((c.tc : Thread nD τ).loc main_arg1)))), ?_, ?_⟩
  · refine (θ_run _ _ _).mono (fun r h c => ?_) (KernelDw1Ideal.Value.run_blocks (F := Ideal) m g)
    obtain ⟨h0, rest⟩ := h c
    exact ⟨h0.trans (arr m c), rest⟩
  · refine (θ_run _ _ _).mono (fun r h c => ?_) (ReferenceDw1Ideal.Value.run (F := Ideal) m' g')
    obtain ⟨a0, a1⟩ := hagree c
    obtain ⟨h0, rest⟩ := h c
    refine ⟨h0.trans ?_, rest⟩
    · rw [a0, a1]
      exact eq_unc3 _ _ (res_apply _ _)

theorem reference_frame : quiescent_ReferenceDw1Ideal (hReferenceDw1Ideal := ReferenceDw1Ideal.Gen.facts) := fun m g _ =>
  (θ_run _ _ _).mono (fun r h => ⟨fun c => (h c).2, sem_eq_zero_of_no_sems rfl r.2⟩) (ReferenceDw1Ideal.Value.run (F := Ideal) m g)

theorem kernel_frame : quiescent_KernelDw1 (hKernelDw1 := KernelDw1.Gen.facts) := fun m g _ => KernelDw1.Gen.frame m g

theorem ideal_frame : quiescent_KernelDw1Ideal (hKernelDw1Ideal := KernelDw1Ideal.Gen.facts) := fun m g _ => KernelDw1Ideal.Gen.frame m g

end Cert.Ffn.Dw1

end
-- ==== Proof.Dw2.lean ====
/- The gradient of the SwiGLU's second matrix: the array after the launch and the reference, by element. -/
module

public import proofs.«01_k».proof.Proof.Gen.KernelDw2Ideal.Value
public import proofs.«01_k».proof.Proof.Gen.KernelDw2
public import proofs.«01_k».proof.Proof.Gen.KernelDw2.Frame
public import proofs.«01_k».proof.Proof.Gen.ReferenceDw2Ideal.Run
public import proofs.«01_k».proof.Proof.Common
public import proofs.«01_k».proof.Defs

@[expose] public section

set_option maxRecDepth 16384

noncomputable section

namespace Cert.Ffn.Dw2

open Cert.Attn
open Idealize.ShloMosaic Idealize.ShloMosaic.TcCoe Idealize.ShloMosaic.Tactic Idealize.SL.Sem

/-- Half the product of a transposed with dy. -/
def val (a : Fin 2048 → Fin 2816 → EReal) (dy : Fin 2048 → Fin 1024 → EReal) (i : Fin 2816) (j : Fin 1024) : EReal :=
  (∑ k, a k i * dy k j) * Ideal.ofBits .f32 0x3F000000#32

section kernel

open KernelDw2Ideal KernelDw2Ideal.Gen
open Idealize.ShloMosaic.Pipeline (Dat Cfg Window BodyObligation cellOf)

theorem out_eq (x0 : Vec Ideal S2048x256 .bf16) (x1 : Vec Ideal S2048x1024 .f32) : out0_2 x0 x1 =
    unc (fun r j => (∑ k : Fin 2048, x0 (ix2 k r) * x1 (ix2 k j)) * Ideal.ofBits .f32 0x3F000000#32) := by
  unfold out0_2
  rw [View.canon_unit_zero hz, View.ld_unit_zero hz, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![0, t.val] := by decide +kernel
theorem index_1 : ∀ t : Fin cfg0.N, win0_1.index t = ![0, 0] := by decide +kernel
theorem index_2 : ∀ t : Fin cfg0.N, win0_2.index t = ![t.val, 0] := by decide +kernel

/-- The blocks of a point. -/
def b0 (t : Fin cfg0.N) : Vec Ideal S2048x256 .bf16 := iblk m c 0 t
def b1 (t : Fin cfg0.N) : Vec Ideal S2048x1024 .f32 := iblk m c 1 t

theorem pt_lt (t : Fin cfg0.N) : t.val < 11 := t.isLt.trans_eq (by decide +kernel)

theorem b0_apply (t : Fin cfg0.N) (k : Fin 2048) (r : Fin 256) (i : Fin 2816) (hi : i.val = t.val * 256 + r.val) :
    b0 m c t (ix2 k r) = cur (m ((c.tc : Thread nD τ).loc main_arg0)) k i := by
  have e := index_0 t
  unfold cur b0
  blk_simp [iblk]
  refine congrArg (m ((c.tc : Thread nD τ).loc main_arg0)) ?_
  blk_ext [e, hi]

theorem b1_apply (t : Fin cfg0.N) (k : Fin 2048) (j : Fin 1024) :
    b1 m c t (ix2 k j) = cur (m ((c.tc : Thread nD τ).loc main_arg1)) k j := by
  have e := index_1 t
  unfold cur b1
  blk_simp [iblk]
  refine congrArg (m ((c.tc : Thread nD τ).loc main_arg1)) ?_
  blk_ext [e]

/-- The array after the launch. -/
theorem arr : (dats m 0 c).arrAt 2 cfg0.N = unc (val (cur (m ((c.tc : Thread nD τ).loc main_arg0))) (cur (m ((c.tc : Thread nD τ).loc main_arg1)))) := by
  have e := index_2
  refine (dats m 0 c).arrAt_eq_of_covers 2 _ (by decide +kernel) fun t hf y => ?_
  blk_simp [iblk]
  rw [after0_2]
  refine (congrFun (out_eq (b0 m c t) (b1 m c t)) _).trans ?_
  unfold unc val
  refine congrArg (· * Ideal.ofBits .f32 0x3F000000#32) (Finset.sum_congr rfl fun k _ => ?_)
  refine congrArg₂ (· * ·) (b0_apply m c t k (y 0) _ ?_) ((b1_apply m c t k (y 1)).trans (congrArg _ (Fin.ext ?_)))
  · blk_simp [e]
  · blk_simp [e]
end kernel

section reference
open ReferenceDw2Ideal ReferenceDw2Ideal.Gen
variable (A0 : FVec Ideal S2048x2816 .bf16) (A1 : FVec Ideal S2048x1024 .f32)

def res : FVec Ideal S2816x1024 .bf16 :=
  truncf .bf16 (transpose S2816x1024 [1, 0] (Host.dotGeneral dot_S2048x1024_S2048x2816_S1024x2816_0_0_1_1_n_n none (mulf (broadcastInDim S2048x1024 ![] bcast_S_S2048x1024 (constant S_ .f32 0x3F000000#32)) A1) (extf .f32 A0 bitsLt_bf16_f32)) transposes_S1024x2816_S2816x1024_1_0) bitsLt_bf16_f32

theorem res_apply (i : Fin 2816) (j : Fin 1024) : res A0 A1 (ix2 i j) = val (cur A0) (cur A1) i j := by
  pointwise [res]
  unfold val
  rw [mul_comm, half_mul_sum]
  exact Finset.sum_congr rfl fun k _ => by unfold cur; rw [mul_assoc, mul_comm (A1 (ix2 k j))]
end reference

/-! ## The claims -/

open KernelDw2Ideal in
theorem values : algebraic_KernelDw2Ideal_ReferenceDw2Ideal (hKernelDw2Ideal := KernelDw2Ideal.Gen.facts)
    (hReferenceDw2Ideal := ReferenceDw2Ideal.Gen.facts) := by
  intro m g m' g' _ hagree
  refine ⟨fun c => unc (val (cur (m ((c.tc : Thread nD τ).loc main_arg0))) (cur (m ((c.tc : Thread nD τ).loc main_arg1)))), ?_, ?_⟩
  · exact (θ_run _ _ _).mono (fun r h c => ⟨(h c).1.trans (arr m c), (h c).2⟩) (KernelDw2Ideal.Value.run_blocks (F := Ideal) m g)
  · refine (θ_run _ _ _).mono (fun r h c => ⟨(h c).1.trans ?_, (h c).2⟩) (ReferenceDw2Ideal.Value.run (F := Ideal) m' g')
    obtain ⟨a0, a1⟩ := hagree c
    rw [a0, a1]
    exact eq_unc _ _ (res_apply _ _)

theorem reference_frame : quiescent_ReferenceDw2Ideal (hReferenceDw2Ideal := ReferenceDw2Ideal.Gen.facts) := fun m g _ =>
  (θ_run _ _ _).mono (fun r h => ⟨fun c => (h c).2, sem_eq_zero_of_no_sems rfl r.2⟩) (ReferenceDw2Ideal.Value.run (F := Ideal) m g)

theorem kernel_frame : quiescent_KernelDw2 (hKernelDw2 := KernelDw2.Gen.facts) := fun m g _ => KernelDw2.Gen.frame m g

theorem ideal_frame : quiescent_KernelDw2Ideal (hKernelDw2Ideal := KernelDw2Ideal.Gen.facts) := fun m g _ => KernelDw2Ideal.Gen.frame m g

end Cert.Ffn.Dw2
end
-- ==== Proof.Up.lean ====
/- The SwiGLU's first products: the arrays after the launch and the reference, by element. -/
module

public import proofs.«01_k».proof.Proof.Gen.KernelUpIdeal.Value
public import proofs.«01_k».proof.Proof.Gen.KernelUp
public import proofs.«01_k».proof.Proof.Gen.KernelUp.Frame
public import proofs.«01_k».proof.Proof.Gen.ReferenceUpIdeal.Run
public import proofs.«01_k».proof.Proof.Common
public import proofs.«01_k».proof.Defs

@[expose] public section

set_option maxRecDepth 16384

noncomputable section

namespace Cert.Ffn.Up

open Cert.Attn
open Idealize.ShloMosaic Idealize.ShloMosaic.TcCoe Idealize.ShloMosaic.Tactic Idealize.SL.Sem

/-- The product of h with w1: its first half of columns the gates, its second the ups. -/
def gates (h : Fin 2048 → Fin 1024 → EReal) (w : Fin 4 → Fin 1024 → Fin 1408 → EReal) (s : Fin 2) (i : Fin 2048) (j : Fin 2816) : EReal :=
  ∑ k, h i k * cols w k ⟨s.val * 2816 + j.val, by have := s.isLt; have := j.isLt; omega⟩

/-- silu of the gates times the ups. -/
def act (h : Fin 2048 → Fin 1024 → EReal) (w : Fin 4 → Fin 1024 → Fin 1408 → EReal) (i : Fin 2048) (j : Fin 2816) : EReal :=
  gates h w 0 i j * Ideal.logistic (gates h w 0 i j) * gates h w 1 i j

section kernel

open KernelUpIdeal KernelUpIdeal.Gen
open Idealize.ShloMosaic.Pipeline (Dat Cfg Window BodyObligation cellOf)

theorem pay3_apply (x0 : Vec Ideal S512x1024 .bf16) (x1 : Vec Ideal S1x1024x1408 .bf16) (p : Fin 1) (r : Fin 512) (j : Fin 1408) :
    k0_pay3 x0 x1 (ix3 p r j) = ∑ k : Fin 1024, x0 (ix2 r k) * x1 (ix3 0 k j) := by
  pointwise [k0_pay3, k0_pay1]

theorem pay4_apply (x0 : Vec Ideal S512x1024 .bf16) (x1 : Vec Ideal S1x1024x1408 .bf16) (p : Fin 1) (r : Fin 512) (j : Fin 1408) :
    k0_pay4 x0 x1 (ix3 p r j) = ∑ k : Fin 1024, x0 (ix2 r k) * x1 (ix3 0 k j) := by
  pointwise [k0_pay4, k0_pay2]

theorem pay5_apply (x0 : Vec Ideal S512x1024 .bf16) (x1 x2 : Vec Ideal S1x1024x1408 .bf16) (r : Fin 512) (j : Fin 1408) :
    k0_pay5 x0 x1 x2 (ix2 r j) = (∑ k : Fin 1024, x0 (ix2 r k) * x1 (ix3 0 k j)) * Ideal.logistic (∑ k : Fin 1024, x0 (ix2 r k) * x1 (ix3 0 k j))
      * ∑ k : Fin 1024, x0 (ix2 r k) * x2 (ix3 0 k j) := by
  pointwise [k0_pay5, k0_pay1, k0_pay2]

theorem out3_eq (x0 : Vec Ideal S512x1024 .bf16) (x1 x2 : Vec Ideal S1x1024x1408 .bf16) : out0_3 x0 x1 x2 =
    unc3 (fun s r j => if s.val = 0 then ∑ k : Fin 1024, x0 (ix2 r k) * x1 (ix3 0 k j) else ∑ k : Fin 1024, x0 (ix2 r k) * x2 (ix3 0 k j)) := by
  unfold out0_3
  rw [View.ld_unit_zero hz, View.ld_unit_zero hz3, View.ld_unit_zero hz3]
  refine (canon_pair inb_S2x512x1408_S1x512x1408_0_0_0 inb_S2x512x1408_S1x512x1408_1_0_0 (k0_pay3 x0 x1) (k0_pay4 x0 x2) (cover0_3 _ _)).trans ?_
  refine congrArg unc3 (funext fun s => funext fun r => funext fun j => ?_)
  rw [pay3_apply, pay4_apply]

theorem out4_eq (x0 : Vec Ideal S512x1024 .bf16) (x1 x2 : Vec Ideal S1x1024x1408 .bf16) : out0_4 x0 x1 x2 =
    unc (fun r j => (∑ k : Fin 1024, x0 (ix2 r k) * x1 (ix3 0 k j)) * Ideal.logistic (∑ k : Fin 1024, x0 (ix2 r k) * x1 (ix3 0 k j))
      * ∑ k : Fin 1024, x0 (ix2 r k) * x2 (ix3 0 k j)) := by
  unfold out0_4
  rw [View.canon_unit_zero hz, View.ld_unit_zero hz, View.ld_unit_zero hz3, View.ld_unit_zero hz3]
  exact eq_unc _ _ (pay5_apply x0 x1 x2)

variable (m : (ℓ : Loc nD τ sig) → Buf (Elt Ideal) ℓ) (c : Dev nD)

theorem index_0 : ∀ t : Fin cfg0.N, win0_0.index t = ![t.val / 2, 0] := by decide +kernel
theorem index_1 : ∀ t : Fin cfg0.N, win0_1.index t = ![t.val % 2, 0, 0] := by decide +kernel
theorem index_2 : ∀ t : Fin cfg0.N, win0_2.index t = ![2 + t.val % 2, 0, 0] := by decide +kernel
theorem index_3 : ∀ t : Fin cfg0.N, win0_3.index t = ![0, t.val / 2, t.val % 2] := by decide +kernel
theorem index_4 : ∀ t : Fin cfg0.N, win0_4.index t = ![t.val / 2, t.val % 2] := by decide +kernel

/-- The blocks of a point. -/
def b0 (t : Fin cfg0.N) : Vec Ideal S512x1024 .bf16 := iblk m c 0 t
def b1 (t : Fin cfg0.N) : Vec Ideal S1x1024x1408 .bf16 := iblk m c 1 t
def b2 (t : Fin cfg0.N) : Vec Ideal S1x1024x1408 .bf16 := iblk m c 2 t

theorem b0_apply (t : Fin cfg0.N) (r : Fin 512) (k : Fin 1024) (i : Fin 2048) (hi : i.val = t.val / 2 * 512 + r.val) :
    b0 m c t (ix2 r k) = cur (m ((c.tc : Thread nD τ).loc main_arg0)) i k := by
  have e := index_0 t
  unfold cur b0
  blk_simp [iblk]
  refine congrArg (m ((c.tc : Thread nD τ).loc main_arg0)) ?_
  blk_ext [e, hi]

theorem b1_apply (t : Fin cfg0.N) (k : Fin 1024) (j : Fin 1408) (q : Fin 5632) (hq : q.val = t.val % 2 * 1408 + j.val) :
    b1 m c t (ix3 0 k j) = cols (cur3 (m ((c.tc : Thread nD τ).loc main_arg1))) k q := by
  have e := index_1 t
  have hj := j.isLt
  unfold cols cur3 b1
  blk_simp [iblk]
  refine congrArg (m ((c.tc : Thread nD τ).loc main_arg1)) ?_
  blk_ext [e]
  all_goals (rw [hq]; omega)

theorem b2_apply (t : Fin cfg0.N) (k : Fin 1024) (j : Fin 1408) (q : Fin 5632) (hq : q.val = (2 + t.val % 2) * 1408 + j.val) :
    b2 m c t (ix3 0 k j) = cols (cur3 (m ((c.tc : Thread nD τ).loc main_arg1))) k q := by
  have e := index_2 t
  have hj := j.isLt
  unfold cols cur3 b2
  blk_simp [iblk]
  refine congrArg (m ((c.tc : Thread nD τ).loc main_arg1)) ?_
  blk_ext [e]
  all_goals (rw [hq]; omega)

theorem gate_eq (t : Fin cfg0.N) (r : Fin 512) (j : Fin 1408) (i : Fin 2048) (q : Fin 2816) (hi : i.val = t.val / 2 * 512 + r.val) (hq : q.val = t.val % 2 * 1408 + j.val) :
    ∑ k : Fin 1024, b0 m c t (ix2 r k) * b1 m c t (ix3 0 k j) = gates (cur (m ((c.tc : Thread nD τ).loc main_arg0))) (cur3 (m ((c.tc : Thread nD τ).loc main_arg1))) 0 i q := by
  unfold gates
  exact Finset.sum_congr rfl fun k _ => congrArg₂ (· * ·) (b0_apply m c t r k _ hi) (b1_apply m c t k j _ (by simp [hq]))

theorem up_eq (t : Fin cfg0.N) (r : Fin 512) (j : Fin 1408) (i : Fin 2048) (q : Fin 2816) (hi : i.val = t.val / 2 * 512 + r.val) (hq : q.val = t.val % 2 * 1408 + j.val) :
    ∑ k : Fin 1024, b0 m c t (ix2 r k) * b2 m c t (ix3 0 k j) = gates (cur (m ((c.tc : Thread nD τ).loc main_arg0))) (cur3 (m ((c.tc : Thread nD τ).loc main_arg1))) 1 i q := by
  unfold gates
  exact Finset.sum_congr rfl fun k _ => congrArg₂ (· * ·) (b0_apply m c t r k _ hi) (b2_apply m c t k j _ (by simp [hq]; omega))

/-- The arrays after the launch. -/
theorem arr3 : (dats m 0 c).arrAt 3 cfg0.N = unc3 (gates (cur (m ((c.tc : Thread nD τ).loc main_arg0))) (cur3 (m ((c.tc : Thread nD τ).loc main_arg1)))) := by
  have e := index_3
  refine (dats m 0 c).arrAt_eq_of_covers 3 _ (by decide +kernel) fun t hf y => ?_
  blk_simp [iblk]
  rw [after0_3]
  refine (congrFun (out3_eq (b0 m c t) (b1 m c t) (b2 m c t)) _).trans ?_
  unfold unc3
  by_cases hs : (y 0).val = 0
  · refine (if_pos hs).trans ((gate_eq m c t (y 1) (y 2) ((win0_3.blk t).view.emb y 1) ((win0_3.blk t).view.emb y 2) ?_ ?_).trans
      (congrArg (fun s => gates _ _ s ((win0_3.blk t).view.emb y 1) ((win0_3.blk t).view.emb y 2)) (Fin.ext ?_)))
    all_goals blk_simp [e, hs]
    rfl
  · have h0 : (y 0).val < 2 := (y 0).isLt
    refine (if_neg hs).trans ((up_eq m c t (y 1) (y 2) ((win0_3.blk t).view.emb y 1) ((win0_3.blk t).view.emb y 2) ?_ ?_).trans
      (congrArg (fun s => gates _ _ s ((win0_3.blk t).view.emb y 1) ((win0_3.blk t).view.emb y 2)) (Fin.ext ?_)))
    all_goals blk_simp [e]
    omega

theorem arr4 : (dats m 0 c).arrAt 4 cfg0.N = unc (act (cur (m ((c.tc : Thread nD τ).loc main_arg0))) (cur3 (m ((c.tc : Thread nD τ).loc main_arg1)))) := by
  have e := index_4
  refine (dats m 0 c).arrAt_eq_of_covers 4 _ (by decide +kernel) fun t hf y => ?_
  blk_simp [iblk]
  rw [after0_4]
  refine (congrFun (out4_eq (b0 m c t) (b1 m c t) (b2 m c t)) _).trans ?_
  unfold unc act
  refine congrArg₂ (· * ·) (congrArg₂ (· * ·) (gate_eq m c t (y 0) (y 1) _ _ ?_ ?_) (congrArg Ideal.logistic (gate_eq m c t (y 0) (y 1) _ _ ?_ ?_))) (up_eq m c t (y 0) (y 1) _ _ ?_ ?_)
  all_goals blk_simp [e]

end kernel

section reference
open ReferenceUpIdeal ReferenceUpIdeal.Gen
variable (A0 : FVec Ideal S2048x1024 .bf16) (A1 : FVec Ideal S4x1024x1408 .bf16)

def prod : FVec Ideal S2048x5632 .bf16 :=
  (truncf .bf16 (Host.dotGeneral dot_S2048x1024_S1024x5632_S2048x5632_1_0_0_1_n_n none (extf .f32 A0 bitsLt_bf16_f32) (shapeCast _ (transpose S1024x4x1408 [1, 0, 2] (extf .f32 A1 bitsLt_bf16_f32) transposes_S4x1024x1408_S1024x4x1408_1_0_2) shapeCasts_S1024x4x1408_S1024x5632)) bitsLt_bf16_f32)
def gate : FVec Ideal S2048x2816 .f32 := (extf .f32 (extractStridedSlice S2048x2816 ![0, 0] (prod A0 A1) slices_S2048x5632_S2048x2816_0_0) bitsLt_bf16_f32)
def up : FVec Ideal S2048x2816 .f32 := (extf .f32 (extractStridedSlice S2048x2816 ![0, 2816] (prod A0 A1) slices_S2048x5632_S2048x2816_0_2816) bitsLt_bf16_f32)

def res3 : FVec Ideal S2x2048x2816 .bf16 :=
  truncf .bf16 (concatenate S2x2048x2816 0 [⟨S1x2048x2816, (broadcastInDim S1x2048x2816 ![1, 2] bcast_S2048x2816_S1x2048x2816_1_2 (gate A0 A1))⟩, ⟨S1x2048x2816, (broadcastInDim S1x2048x2816 ![1, 2] bcast_S2048x2816_S1x2048x2816_1_2 (up A0 A1))⟩] concatenates_S1x2048x2816_S1x2048x2816_S2x2048x2816_d0) bitsLt_bf16_f32

def res4 : FVec Ideal S2048x2816 .bf16 :=
  truncf .bf16 (mulf (mulf (gate A0 A1) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (gate A0 A1)))))) (up A0 A1)) bitsLt_bf16_f32

theorem prod_apply (i : Fin 2048) (q : Fin 5632) : prod A0 A1 (ix2 i q) = ∑ k, cur A0 i k * cols (cur3 A1) k q := by
  pointwise [prod]
  rfl

theorem gate_apply (i : Fin 2048) (j : Fin 2816) : gate A0 A1 (ix2 i j) = gates (cur A0) (cur3 A1) 0 i j := by
  pointwise [gate]
  refine (prod_apply A0 A1 _ _).trans ?_
  unfold gates
  refine Finset.sum_congr rfl fun k _ => congrArg (fun q => cur A0 i k * cols (cur3 A1) k q) (Fin.ext ?_)
  simp

theorem up_apply (i : Fin 2048) (j : Fin 2816) : up A0 A1 (ix2 i j) = gates (cur A0) (cur3 A1) 1 i j := by
  pointwise [up]
  refine (prod_apply A0 A1 _ _).trans ?_
  unfold gates
  refine Finset.sum_congr rfl fun k _ => congrArg (fun q => cur A0 i k * cols (cur3 A1) k q) (Fin.ext ?_)
  simp

theorem res3_apply (s : Fin 2) (i : Fin 2048) (j : Fin 2816) : res3 A0 A1 (ix3 s i j) = gates (cur A0) (cur3 A1) s i j := by
  pointwise [res3]
  fin_cases s
  · exact gate_apply A0 A1 i j
  · exact up_apply A0 A1 i j

theorem res4_apply (i : Fin 2048) (j : Fin 2816) : res4 A0 A1 (ix2 i j) = act (cur A0) (cur3 A1) i j := by
  pointwise [res4]
  rw [gate_apply, up_apply]
  unfold act Ideal.logistic
  rfl

end reference

/-! ## The claims -/

open KernelUpIdeal in
theorem values : algebraic_KernelUpIdeal_ReferenceUpIdeal (hKernelUpIdeal := KernelUpIdeal.Gen.facts)
    (hReferenceUpIdeal := ReferenceUpIdeal.Gen.facts) := by
  intro m g m' g' _ hagree
  refine ⟨fun c => unc3 (gates (cur (m ((c.tc : Thread nD τ).loc main_arg0))) (cur3 (m ((c.tc : Thread nD τ).loc main_arg1)))), fun c => unc (act (cur (m ((c.tc : Thread nD τ).loc main_arg0))) (cur3 (m ((c.tc : Thread nD τ).loc main_arg1)))), ?_, ?_⟩
  · refine (θ_run _ _ _).mono (fun r h c => ?_) (KernelUpIdeal.Value.run_blocks (F := Ideal) m g)
    obtain ⟨h0, h1, rest⟩ := h c
    exact ⟨h0.trans (arr3 m c), h1.trans (arr4 m c), rest⟩
  · refine (θ_run _ _ _).mono (fun r h c => ?_) (ReferenceUpIdeal.Value.run (F := Ideal) m' g')
    obtain ⟨a0, a1⟩ := hagree c
    obtain ⟨h0, h1, rest⟩ := h c
    refine ⟨h0.trans ?_, h1.trans ?_, rest⟩
    · rw [a0, a1]
      exact eq_unc3 _ _ (res3_apply _ _)
    · rw [a0, a1]
      exact eq_unc _ _ (res4_apply _ _)

theorem reference_frame : quiescent_ReferenceUpIdeal (hReferenceUpIdeal := ReferenceUpIdeal.Gen.facts) := fun m g _ =>
  (θ_run _ _ _).mono (fun r h => ⟨fun c => (h c).2.2, sem_eq_zero_of_no_sems rfl r.2⟩) (ReferenceUpIdeal.Value.run (F := Ideal) m g)

theorem kernel_frame : quiescent_KernelUp (hKernelUp := KernelUp.Gen.facts) := fun m g _ => KernelUp.Gen.frame m g

theorem ideal_frame : quiescent_KernelUpIdeal (hKernelUpIdeal := KernelUpIdeal.Gen.facts) := fun m g _ => KernelUpIdeal.Gen.frame m g

end Cert.Ffn.Up

end
-- ==== Proof.Down.lean ====
/- The SwiGLU's second product with the residual: the array after the launch and the reference, by element. -/
module

public import proofs.«01_k».proof.Proof.Gen.KernelDownIdeal.Value
public import proofs.«01_k».proof.Proof.Gen.KernelDown
public import proofs.«01_k».proof.Proof.Gen.KernelDown.Frame
public import proofs.«01_k».proof.Proof.Gen.ReferenceDownIdeal.Run
public import proofs.«01_k».proof.Proof.Common
public import proofs.«01_k».proof.Defs

@[expose] public section

set_option maxRecDepth 16384

noncomputable section

namespace Cert.Ffn.Down

open Cert.Attn
open Idealize.ShloMosaic Idealize.ShloMosaic.TcCoe Idealize.ShloMosaic.Tactic Idealize.SL.Sem

/-- x and half the product of a with w2. -/
def val (a : Fin 2048 → Fin 2816 → EReal) (w : Fin 2816 → Fin 1024 → EReal) (x : Fin 2048 → Fin 1024 → EReal) (i : Fin 2048) (j : Fin 1024) : EReal :=
  x i j + Ideal.ofBits .f32 0x3F000000#32 * ∑ k, a i k * w k j

section kernel

open KernelDownIdeal KernelDownIdeal.Gen
open Idealize.ShloMosaic.Pipeline (Dat Cfg Window BodyObligation cellOf)

theorem pay_apply (x0 : Vec Ideal S512x2816 .bf16) (x1 : Vec Ideal S2816x1024 .bf16) (x2 : Vec Ideal S512x1024 .f32) (r : Fin 512) (j : Fin 1024) :
    k0_pay1 x0 x1 x2 (ix2 r j) = x2 (ix2 r j) + Ideal.ofBits .f32 0x3F000000#32 * ∑ k : Fin 2816, x0 (ix2 r k) * x1 (ix2 k j) := by
  pointwise [k0_pay1]
  rw [add_comm, mul_comm]

theorem out_eq (x0 : Vec Ideal S512x2816 .bf16) (x1 : Vec Ideal S2816x1024 .bf16) (x2 : Vec Ideal S512x1024 .f32) : out0_3 x0 x1 x2 =
    unc (fun r j => x2 (ix2 r j) + Ideal.ofBits .f32 0x3F000000#32 * ∑ k : Fin 2816, x0 (ix2 r k) * x1 (ix2 k j)) := by
  unfold out0_3
  rw [View.canon_unit_zero hz, View.ld_unit_zero hz, View.ld_unit_zero hz, View.ld_unit_zero hz]
  exact eq_unc _ _ (pay_apply x0 x1 x2)

variable (m : (ℓ : Loc nD τ sig) → Buf (Elt Ideal) ℓ) (c : Dev nD)

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel
theorem index_3 : ∀ t : Fin cfg0.N, win0_3.index t = ![t.val, 0] := by decide +kernel

/-- The blocks of a point. -/
def b0 (t : Fin cfg0.N) : Vec Ideal S512x2816 .bf16 := iblk m c 0 t
def b1 (t : Fin cfg0.N) : Vec Ideal S2816x1024 .bf16 := iblk m c 1 t
def b2 (t : Fin cfg0.N) : Vec Ideal S512x1024 .f32 := iblk m c 2 t

theorem b0_apply (t : Fin cfg0.N) (r : Fin 512) (k : Fin 2816) (i : Fin 2048) (hi : i.val = t.val * 512 + r.val) :
    b0 m c t (ix2 r k) = cur (m ((c.tc : Thread nD τ).loc main_arg0)) i k := by
  have e := index_0 t
  unfold cur b0
  blk_simp [iblk]
  refine congrArg (m ((c.tc : Thread nD τ).loc main_arg0)) ?_
  blk_ext [e, hi]

theorem b1_apply (t : Fin cfg0.N) (k : Fin 2816) (j j' : Fin 1024) (hj : j'.val = j.val) :
    b1 m c t (ix2 k j) = cur (m ((c.tc : Thread nD τ).loc main_arg1)) k j' := by
  have e := index_1 t
  unfold cur b1
  blk_simp [iblk]
  refine congrArg (m ((c.tc : Thread nD τ).loc main_arg1)) ?_
  blk_ext [e, hj]

theorem b2_apply (t : Fin cfg0.N) (r : Fin 512) (j j' : Fin 1024) (i : Fin 2048) (hi : i.val = t.val * 512 + r.val) (hj : j'.val = j.val) :
    b2 m c t (ix2 r j) = cur (m ((c.tc : Thread nD τ).loc main_arg2)) i j' := by
  have e := index_2 t
  unfold cur b2
  blk_simp [iblk]
  refine congrArg (m ((c.tc : Thread nD τ).loc main_arg2)) ?_
  blk_ext [e, hi, hj]

/-- The array after the launch. -/
theorem arr : (dats m 0 c).arrAt 3 cfg0.N = unc (val (cur (m ((c.tc : Thread nD τ).loc main_arg0))) (cur (m ((c.tc : Thread nD τ).loc main_arg1))) (cur (m ((c.tc : Thread nD τ).loc main_arg2)))) := by
  have e := index_3
  refine (dats m 0 c).arrAt_eq_of_covers 3 _ (by decide +kernel) fun t hf y => ?_
  blk_simp [iblk]
  rw [after0_3]
  refine (congrFun (out_eq (b0 m c t) (b1 m c t) (b2 m c t)) _).trans ?_
  unfold unc val
  refine congrArg₂ (· + ·) (b2_apply m c t (y 0) (y 1) _ _ ?_ ?_) (congrArg (Ideal.ofBits .f32 0x3F000000#32 * ·) (Finset.sum_congr rfl fun k _ =>
    congrArg₂ (· * ·) (b0_apply m c t (y 0) k _ ?_) (b1_apply m c t k (y 1) _ ?_)))
  all_goals blk_simp [e]

end kernel

section reference
open ReferenceDownIdeal ReferenceDownIdeal.Gen
variable (A0 : FVec Ideal S2048x2816 .bf16) (A1 : FVec Ideal S2816x1024 .bf16) (A2 : FVec Ideal S2048x1024 .f32)

def res : FVec Ideal S2048x1024 .f32 :=
  addf A2 (mulf (broadcastInDim S2048x1024 ![] bcast_S_S2048x1024 (constant S_ .f32 0x3F000000#32)) (Host.dotGeneral dot_S2048x2816_S2816x1024_S2048x1024_1_0_0_1_n_n none (extf .f32 A0 bitsLt_bf16_f32) (extf .f32 A1 bitsLt_bf16_f32)))

theorem res_apply (i : Fin 2048) (j : Fin 1024) : res A0 A1 A2 (ix2 i j) = val (cur A0) (cur A1) (cur A2) i j := by
  pointwise [res]
  rfl

end reference

/-! ## The claims -/

open KernelDownIdeal in
theorem values : algebraic_KernelDownIdeal_ReferenceDownIdeal (hKernelDownIdeal := KernelDownIdeal.Gen.facts)
    (hReferenceDownIdeal := ReferenceDownIdeal.Gen.facts) := by
  intro m g m' g' _ hagree
  refine ⟨fun c => unc (val (cur (m ((c.tc : Thread nD τ).loc main_arg0))) (cur (m ((c.tc : Thread nD τ).loc main_arg1))) (cur (m ((c.tc : Thread nD τ).loc main_arg2)))), ?_, ?_⟩
  · refine (θ_run _ _ _).mono (fun r h c => ?_) (KernelDownIdeal.Value.run_blocks (F := Ideal) m g)
    obtain ⟨h0, rest⟩ := h c
    exact ⟨h0.trans (arr m c), rest⟩
  · refine (θ_run _ _ _).mono (fun r h c => ?_) (ReferenceDownIdeal.Value.run (F := Ideal) m' g')
    obtain ⟨a0, a1, a2⟩ := hagree c
    obtain ⟨h0, rest⟩ := h c
    refine ⟨h0.trans ?_, rest⟩
    · rw [a0, a1, a2]
      exact eq_unc _ _ (res_apply _ _ _)

theorem reference_frame : quiescent_ReferenceDownIdeal (hReferenceDownIdeal := ReferenceDownIdeal.Gen.facts) := fun m g _ =>
  (θ_run _ _ _).mono (fun r h => ⟨fun c => (h c).2, sem_eq_zero_of_no_sems rfl r.2⟩) (ReferenceDownIdeal.Value.run (F := Ideal) m g)

theorem kernel_frame : quiescent_KernelDown (hKernelDown := KernelDown.Gen.facts) := fun m g _ => KernelDown.Gen.frame m g

theorem ideal_frame : quiescent_KernelDownIdeal (hKernelDownIdeal := KernelDownIdeal.Gen.facts) := fun m g _ => KernelDownIdeal.Gen.frame m g

end Cert.Ffn.Down

end
-- ==== Proof.DguRow.lean ====
/- The backward of the SwiGLU's second product and of its activation, with an added row: the array after the launch and the reference, by element. -/
module

public import proofs.«01_k».proof.Proof.Gen.KernelDguRowIdeal.Value
public import proofs.«01_k».proof.Proof.Gen.KernelDguRow
public import proofs.«01_k».proof.Proof.Gen.KernelDguRow.Frame
public import proofs.«01_k».proof.Proof.Gen.ReferenceDguRowIdeal.Run
public import proofs.«01_k».proof.Proof.Common
public import proofs.«01_k».proof.Proof.Dgu
public import proofs.«01_k».proof.Defs

@[expose] public section

set_option maxRecDepth 16384

noncomputable section

namespace Cert.Ffn.DguRow

open Cert.Attn
open Idealize.ShloMosaic Idealize.ShloMosaic.TcCoe Idealize.ShloMosaic.Tactic Idealize.SL.Sem

open Cert.Ffn.Dgu (da dgate dup)

/-- The gradient of the SwiGLU's product: half of dy against w2, and the added row. -/
def dar (dy : Fin 2048 → Fin 1024 → EReal) (w : Fin 2816 → Fin 1024 → EReal) (b : Fin 1 → Fin 2816 → EReal) (i : Fin 2048) (j : Fin 2816) : EReal :=
  da dy w i j + b 0 j

/-- The gradients of gates and ups. -/
def val (dy : Fin 2048 → Fin 1024 → EReal) (w : Fin 2816 → Fin 1024 → EReal) (gu : Fin 2 → Fin 2048 → Fin 2816 → EReal) (b : Fin 1 → Fin 2816 → EReal)
    (s : Fin 2) (i : Fin 2048) (j : Fin 2816) : EReal :=
  if s.val = 0 then dgate (dar dy w b i j) (gu 0 i j) (gu 1 i j) else dup (dar dy w b i j) (gu 0 i j)

section kernel

open KernelDguRowIdeal KernelDguRowIdeal.Gen
open Idealize.ShloMosaic.Pipeline (Dat Cfg Window BodyObligation cellOf)

theorem pay4_apply (x0 : Vec Ideal S512x1024 .f32) (x1 : Vec Ideal S1408x1024 .bf16) (x3 : Vec Ideal S1x1408 .f32) (g u : Vec Ideal S1x512x1408 .bf16) (p : Fin 1) (r : Fin 512) (j : Fin 1408) :
    k0_pay4 x0 x1 x3 g u (ix3 p r j) = dgate (Ideal.ofBits .f32 0x3F000000#32 * ∑ k : Fin 1024, x0 (ix2 r k) * x1 (ix2 j k) + x3 (ix2 0 j)) (g (ix3 0 r j)) (u (ix3 0 r j)) := by
  pointwise [k0_pay4, k0_pay3, k0_pay2, k0_pay1]
  rfl

theorem pay5_apply (x0 : Vec Ideal S512x1024 .f32) (x1 : Vec Ideal S1408x1024 .bf16) (x3 : Vec Ideal S1x1408 .f32) (g : Vec Ideal S1x512x1408 .bf16) (p : Fin 1) (r : Fin 512) (j : Fin 1408) :
    k0_pay5 x0 x1 x3 g (ix3 p r j) = dup (Ideal.ofBits .f32 0x3F000000#32 * ∑ k : Fin 1024, x0 (ix2 r k) * x1 (ix2 j k) + x3 (ix2 0 j)) (g (ix3 0 r j)) := by
  pointwise [k0_pay5, k0_pay3, k0_pay2, k0_pay1]
  rfl

theorem ld0 (x2 : Vec Ideal S2x512x1408 .bf16) (r : Fin 512) (j : Fin 1408) : View.ld x2 r0_3 (ix3 0 r j) = x2 (ix3 0 r j) :=
  View.ld_unit_apply_of x2 ![0, 0, 0] S1x512x1408.size inb_S2x512x1408_S1x512x1408_0_0_0 (ix3 0 r j) (ix3 0 r j) fun a => by fin_cases a <;> simp [ix3]

theorem ld1 (x2 : Vec Ideal S2x512x1408 .bf16) (r : Fin 512) (j : Fin 1408) : View.ld x2 r0_4 (ix3 0 r j) = x2 (ix3 1 r j) :=
  View.ld_unit_apply_of x2 ![1, 0, 0] S1x512x1408.size inb_S2x512x1408_S1x512x1408_1_0_0 (ix3 0 r j) (ix3 1 r j) fun a => by fin_cases a <;> simp [ix3]

theorem out_eq (x0 : Vec Ideal S512x1024 .f32) (x1 : Vec Ideal S1408x1024 .bf16) (x2 : Vec Ideal S2x512x1408 .bf16) (x3 : Vec Ideal S1x1408 .f32) : out0_4 x0 x1 x2 x3 =
    unc3 (fun s r j => if s.val = 0 then dgate (Ideal.ofBits .f32 0x3F000000#32 * ∑ k : Fin 1024, x0 (ix2 r k) * x1 (ix2 j k) + x3 (ix2 0 j)) (x2 (ix3 0 r j)) (x2 (ix3 1 r j))
      else dup (Ideal.ofBits .f32 0x3F000000#32 * ∑ k : Fin 1024, x0 (ix2 r k) * x1 (ix2 j k) + x3 (ix2 0 j)) (x2 (ix3 0 r j))) := by
  unfold out0_4
  rw [View.ld_unit_zero hz, View.ld_unit_zero hz, View.ld_unit_zero hz]
  refine (canon_pair inb_S2x512x1408_S1x512x1408_0_0_0 inb_S2x512x1408_S1x512x1408_1_0_0 (k0_pay4 x0 x1 x3 (View.ld x2 r0_3) (View.ld x2 r0_4)) (k0_pay5 x0 x1 x3 (View.ld x2 r0_3)) (cover0_4 _ _)).trans ?_
  refine congrArg unc3 (funext fun s => funext fun r => funext fun j => ?_)
  rw [pay4_apply, pay5_apply, ld0, ld1]

variable (m : (ℓ : Loc nD τ sig) → Buf (Elt Ideal) ℓ) (c : Dev nD)

theorem index_0 : ∀ t : Fin cfg0.N, win0_0.index t = ![t.val / 2, 0] := by decide +kernel
theorem index_1 : ∀ t : Fin cfg0.N, win0_1.index t = ![t.val % 2, 0] := by decide +kernel
theorem index_2 : ∀ t : Fin cfg0.N, win0_2.index t = ![0, t.val / 2, t.val % 2] := by decide +kernel
theorem index_3 : ∀ t : Fin cfg0.N, win0_3.index t = ![0, t.val % 2] := by decide +kernel
theorem index_4 : ∀ t : Fin cfg0.N, win0_4.index t = ![0, t.val / 2, t.val % 2] := by decide +kernel

/-- The blocks of a point. -/
def b0 (t : Fin cfg0.N) : Vec Ideal S512x1024 .f32 := iblk m c 0 t
def b1 (t : Fin cfg0.N) : Vec Ideal S1408x1024 .bf16 := iblk m c 1 t
def b2 (t : Fin cfg0.N) : Vec Ideal S2x512x1408 .bf16 := iblk m c 2 t
def b3 (t : Fin cfg0.N) : Vec Ideal S1x1408 .f32 := iblk m c 3 t

theorem b0_apply (t : Fin cfg0.N) (r : Fin 512) (k : Fin 1024) (i : Fin 2048) (hi : i.val = t.val / 2 * 512 + r.val) :
    b0 m c t (ix2 r k) = cur (m ((c.tc : Thread nD τ).loc main_arg0)) i k := by
  have e := index_0 t
  unfold cur b0
  blk_simp [iblk]
  refine congrArg (m ((c.tc : Thread nD τ).loc main_arg0)) ?_
  blk_ext [e, hi]

theorem b1_apply (t : Fin cfg0.N) (j : Fin 1408) (k : Fin 1024) (q : Fin 2816) (hq : q.val = t.val % 2 * 1408 + j.val) :
    b1 m c t (ix2 j k) = cur (m ((c.tc : Thread nD τ).loc main_arg1)) q k := by
  have e := index_1 t
  unfold cur b1
  blk_simp [iblk]
  refine congrArg (m ((c.tc : Thread nD τ).loc main_arg1)) ?_
  blk_ext [e, hq]

theorem b2_apply (t : Fin cfg0.N) (s : Fin 2) (r : Fin 512) (j : Fin 1408) (i : Fin 2048) (q : Fin 2816) (hi : i.val = t.val / 2 * 512 + r.val) (hq : q.val = t.val % 2 * 1408 + j.val) :
    b2 m c t (ix3 s r j) = cur3 (m ((c.tc : Thread nD τ).loc main_arg2)) s i q := by
  have e := index_2 t
  unfold cur3 b2
  blk_simp [iblk]
  refine congrArg (m ((c.tc : Thread nD τ).loc main_arg2)) ?_
  blk_ext [e, hi, hq]

theorem b3_apply (t : Fin cfg0.N) (j : Fin 1408) (q : Fin 2816) (hq : q.val = t.val % 2 * 1408 + j.val) :
    b3 m c t (ix2 0 j) = cur (m ((c.tc : Thread nD τ).loc main_arg3)) 0 q := by
  have e := index_3 t
  unfold cur b3
  blk_simp [iblk]
  refine congrArg (m ((c.tc : Thread nD τ).loc main_arg3)) ?_
  blk_ext [e, hq]

theorem dar_eq (t : Fin cfg0.N) (r : Fin 512) (j : Fin 1408) (i : Fin 2048) (q : Fin 2816) (hi : i.val = t.val / 2 * 512 + r.val) (hq : q.val = t.val % 2 * 1408 + j.val) :
    Ideal.ofBits .f32 0x3F000000#32 * (∑ k : Fin 1024, b0 m c t (ix2 r k) * b1 m c t (ix2 j k)) + b3 m c t (ix2 0 j) = dar (cur (m ((c.tc : Thread nD τ).loc main_arg0))) (cur (m ((c.tc : Thread nD τ).loc main_arg1))) (cur (m ((c.tc : Thread nD τ).loc main_arg3))) i q := by
  unfold dar da
  exact congrArg₂ (· + ·) (congrArg (Ideal.ofBits .f32 0x3F000000#32 * ·) (Finset.sum_congr rfl fun k _ => congrArg₂ (· * ·) (b0_apply m c t r k _ hi) (b1_apply m c t j k _ hq)))
    (b3_apply m c t j q hq)

/-- A point's block of the array, by element. -/
theorem point (t : Fin cfg0.N) (s : Fin 2) (r : Fin 512) (j : Fin 1408) (s' : Fin 2) (i : Fin 2048) (q : Fin 2816) (hs : s'.val = s.val) (hi : i.val = t.val / 2 * 512 + r.val)
    (hq : q.val = t.val % 2 * 1408 + j.val) : out0_4 (b0 m c t) (b1 m c t) (b2 m c t) (b3 m c t) (ix3 s r j) =
    val (cur (m ((c.tc : Thread nD τ).loc main_arg0))) (cur (m ((c.tc : Thread nD τ).loc main_arg1))) (cur3 (m ((c.tc : Thread nD τ).loc main_arg2))) (cur (m ((c.tc : Thread nD τ).loc main_arg3))) s' i q := by
  refine (congrFun (out_eq (b0 m c t) (b1 m c t) (b2 m c t) (b3 m c t)) (ix3 s r j)).trans ?_
  have e0 := b2_apply m c t 0 r j i q hi hq
  have e1 := b2_apply m c t 1 r j i q hi hq
  have ea := dar_eq m c t r j i q hi hq
  unfold val
  rw [hs, ← e0, ← e1, ← ea]
  rfl

/-- The array after the launch. -/
theorem arr : (dats m 0 c).arrAt 4 cfg0.N = unc3 (val (cur (m ((c.tc : Thread nD τ).loc main_arg0))) (cur (m ((c.tc : Thread nD τ).loc main_arg1))) (cur3 (m ((c.tc : Thread nD τ).loc main_arg2))) (cur (m ((c.tc : Thread nD τ).loc main_arg3)))) := by
  have e := index_4
  refine (dats m 0 c).arrAt_eq_of_covers 4 _ (by decide +kernel) fun t hf y => ?_
  blk_simp [iblk]
  rw [after0_4]
  refine (congrArg (out0_4 (b0 m c t) (b1 m c t) (b2 m c t) (b3 m c t)) (ix3_eta y).symm).trans ((point m c t (y 0) (y 1) (y 2) ((win0_4.blk t).view.emb y 0) ((win0_4.blk t).view.emb y 1) ((win0_4.blk t).view.emb y 2) ?_ ?_ ?_).trans rfl)
  all_goals blk_simp [e]

end kernel

section reference
open ReferenceDguRowIdeal ReferenceDguRowIdeal.Gen
variable (A0 : FVec Ideal S2048x1024 .f32) (A1 : FVec Ideal S2816x1024 .bf16) (A2 : FVec Ideal S2x2048x2816 .bf16) (A3 : FVec Ideal S1x2816 .f32)

def ra : FVec Ideal S2048x2816 .f32 :=
  addf (broadcastInDim S2048x2816 ![0, 1] bcast_S1x2816_S2048x2816_0_1 A3) (Host.dotGeneral dot_S2048x1024_S2816x1024_S2048x2816_1_1_0_0_n_n none (mulf (broadcastInDim S2048x1024 ![] bcast_S_S2048x1024 (constant S_ .f32 0x3F000000#32)) A0) (extf .f32 A1 bitsLt_bf16_f32))
def rg : FVec Ideal S2048x2816 .f32 := (extf .f32 (shapeCast _ (extractStridedSlice S1x2048x2816 ![0, 0, 0] A2 slices_S2x2048x2816_S1x2048x2816_0_0_0) shapeCasts_S1x2048x2816_S2048x2816) bitsLt_bf16_f32)
def ru : FVec Ideal S2048x2816 .f32 := (extf .f32 (shapeCast _ (extractStridedSlice S1x2048x2816 ![1, 0, 0] A2 slices_S2x2048x2816_S1x2048x2816_1_0_0) shapeCasts_S1x2048x2816_S2048x2816) bitsLt_bf16_f32)
def rs : FVec Ideal S2048x2816 .f32 := (Host.divf (broadcastInDim S2048x2816 ![] bcast_S_S2048x2816 (constant S_ .f32 0x3F800000#32)) (addf (broadcastInDim S2048x2816 ![] bcast_S_S2048x2816 (constant S_ .f32 0x3F800000#32)) (Host.exp (Host.negf (rg A2)))))

def res : FVec Ideal S2x2048x2816 .bf16 :=
  truncf .bf16 (concatenate S2x2048x2816 0 [⟨S1x2048x2816, (broadcastInDim S1x2048x2816 ![1, 2] bcast_S2048x2816_S1x2048x2816_1_2 (addf (mulf (mulf (ra A0 A1 A3) (ru A2)) (rs A2)) (mulf (mulf (rg A2) (mulf (ra A0 A1 A3) (ru A2))) (mulf (rs A2) (subf (broadcastInDim S2048x2816 ![] bcast_S_S2048x2816 (constant S_ .f32 0x3F800000#32)) (rs A2))))))⟩, ⟨S1x2048x2816, (broadcastInDim S1x2048x2816 ![1, 2] bcast_S2048x2816_S1x2048x2816_1_2 (mulf (mulf (rg A2) (rs A2)) (ra A0 A1 A3)))⟩] concatenates_S1x2048x2816_S1x2048x2816_S2x2048x2816_d0) bitsLt_bf16_f32

theorem ra_apply (i : Fin 2048) (j : Fin 2816) : ra A0 A1 A3 (ix2 i j) = dar (cur A0) (cur A1) (cur A3) i j := by
  pointwise [ra]
  unfold dar da cur
  rw [half_mul_sum, add_comm]
  exact congrArg (· + A3 (ix2 0 j)) (Finset.sum_congr rfl fun k _ => mul_assoc _ _ _)

theorem rg_apply (i : Fin 2048) (j : Fin 2816) : rg A2 (ix2 i j) = cur3 A2 0 i j := by
  pointwise [rg]
  rfl

theorem ru_apply (i : Fin 2048) (j : Fin 2816) : ru A2 (ix2 i j) = cur3 A2 1 i j := by
  pointwise [ru]
  rfl

theorem rs_apply (i : Fin 2048) (j : Fin 2816) : rs A2 (ix2 i j) = Ideal.logistic (cur3 A2 0 i j) := by
  pointwise [rs]
  rw [rg_apply]
  rfl

theorem res_apply (s : Fin 2) (i : Fin 2048) (j : Fin 2816) : res A0 A1 A2 A3 (ix3 s i j) = val (cur A0) (cur A1) (cur3 A2) (cur A3) s i j := by
  pointwise [res]
  rw [ra_apply, rg_apply, ru_apply, rs_apply]
  fin_cases s
  · rfl
  · rfl

end reference

/-! ## The claims -/

open KernelDguRowIdeal in
theorem values : algebraic_KernelDguRowIdeal_ReferenceDguRowIdeal (hKernelDguRowIdeal := KernelDguRowIdeal.Gen.facts)
    (hReferenceDguRowIdeal := ReferenceDguRowIdeal.Gen.facts) := by
  intro m g m' g' _ hagree
  refine ⟨fun c => unc3 (val (cur (m ((c.tc : Thread nD τ).loc main_arg0))) (cur (m ((c.tc : Thread nD τ).loc main_arg1))) (cur3 (m ((c.tc : Thread nD τ).loc main_arg2))) (cur (m ((c.tc : Thread nD τ).loc main_arg3)))), ?_, ?_⟩
  · refine (θ_run _ _ _).mono (fun r h c => ?_) (KernelDguRowIdeal.Value.run_blocks (F := Ideal) m g)
    obtain ⟨h0, rest⟩ := h c
    exact ⟨h0.trans (arr m c), rest⟩
  · refine (θ_run _ _ _).mono (fun r h c => ?_) (ReferenceDguRowIdeal.Value.run (F := Ideal) m' g')
    obtain ⟨a0, a1, a2, a3⟩ := hagree c
    obtain ⟨h0, rest⟩ := h c
    refine ⟨h0.trans ?_, rest⟩
    · unfold ReferenceDguRowIdeal.Value.res_main_v23
      rw [a0, a1, a2, a3]
      exact eq_unc3 _ _ (res_apply _ _ _ _)

theorem reference_frame : quiescent_ReferenceDguRowIdeal (hReferenceDguRowIdeal := ReferenceDguRowIdeal.Gen.facts) := fun m g _ =>
  (θ_run _ _ _).mono (fun r h => ⟨fun c => (h c).2, sem_eq_zero_of_no_sems rfl r.2⟩) (ReferenceDguRowIdeal.Value.run (F := Ideal) m g)

theorem kernel_frame : quiescent_KernelDguRow (hKernelDguRow := KernelDguRow.Gen.facts) := fun m g _ => KernelDguRow.Gen.frame m g

theorem ideal_frame : quiescent_KernelDguRowIdeal (hKernelDguRowIdeal := KernelDguRowIdeal.Gen.facts) := fun m g _ => KernelDguRowIdeal.Gen.frame m g

end Cert.Ffn.DguRow

end
-- ==== Proof.DxRow.lean ====
/- The backward of the SwiGLU's first product and of its norm, with an added row: the arrays after the launch and the reference, by element. -/
module

public import proofs.«01_k».proof.Proof.Gen.KernelDxRowIdeal.Value
public import proofs.«01_k».proof.Proof.Gen.KernelDxRow
public import proofs.«01_k».proof.Proof.Gen.KernelDxRow.Frame
public import proofs.«01_k».proof.Proof.Gen.ReferenceDxRowIdeal.Run
public import proofs.«01_k».proof.Proof.Common
public import proofs.«01_k».proof.Proof.Dx
public import Idealize.ShloMosaic.Lib.Pipeline.ReadBack
public import proofs.«01_k».proof.Defs

@[expose] public section

set_option maxRecDepth 16384

noncomputable section

namespace Cert.Ffn.DxRow

open Cert.Attn
open Idealize.ShloMosaic Idealize.ShloMosaic.TcCoe Idealize.ShloMosaic.Tactic Idealize.SL.Sem

open Cert.Ffn.Dx (ms rs dh sc drow chain)

/-- The gradient of the normed row: the gradients of gates and ups against w1, and the added row. -/
def dhr (d : Fin 2 → Fin 2048 → Fin 2816 → EReal) (w : Fin 4 → Fin 1024 → Fin 1408 → EReal) (b : Fin 1 → Fin 1024 → EReal) (i : Fin 2048) (j : Fin 1024) : EReal :=
  dh d w i j + b 0 j

/-- The gradient of the row from the normed row's, with the residual's. -/
def dx (d : Fin 2 → Fin 2048 → Fin 2816 → EReal) (w : Fin 4 → Fin 1024 → Fin 1408 → EReal) (x : Fin 2048 → Fin 1024 → EReal) (g : Fin 1 → Fin 1024 → EReal)
    (r : Fin 2048 → Fin 1024 → EReal) (b : Fin 1 → Fin 1024 → EReal) (i : Fin 2048) (j : Fin 1024) : EReal :=
  drow (x i) (g 0) (dhr d w b i) (r i) j

/-- The gradient of the norm's weight. -/
def dg (d : Fin 2 → Fin 2048 → Fin 2816 → EReal) (w : Fin 4 → Fin 1024 → Fin 1408 → EReal) (x : Fin 2048 → Fin 1024 → EReal) (b : Fin 1 → Fin 1024 → EReal) (_ : Fin 1) (j : Fin 1024) : EReal :=
  ∑ i, x i j * rs (x i) * dhr d w b i j

section kernel

open KernelDxRowIdeal KernelDxRowIdeal.Gen
open Idealize.ShloMosaic.Pipeline (Dat Cfg Window BodyObligation cellOf)

/-- A point's part of the product. -/
def part (x0 : Vec Ideal S1x512x1408 .bf16) (x1 : Vec Ideal S1x1024x1408 .bf16) (y : S512x1024.Idx) : EReal :=
  ∑ k : Fin 1408, x0 (ix3 0 (y 0) k) * x1 (ix3 0 (y 1) k)

theorem pay2_eq (x0 : Vec Ideal S1x512x1408 .bf16) (x1 : Vec Ideal S1x1024x1408 .bf16) : k0_pay2 x0 x1 = part x0 x1 := by
  refine (eq_unc (k0_pay2 x0 x1) (fun r j => part x0 x1 (ix2 r j)) fun r j => ?_).trans (eq_unc (part x0 x1) _ fun _ _ => rfl).symm
  pointwise [k0_pay2, k0_pay1]
  rfl

theorem pay3_eq (x0 : Vec Ideal S1x512x1408 .bf16) (x1 : Vec Ideal S1x1024x1408 .bf16) (a : Vec Ideal S512x1024 .f32) : k0_pay3 x0 x1 a = fun y => a y + part x0 x1 y := by
  refine (eq_unc (k0_pay3 x0 x1 a) (fun r j => a (ix2 r j) + part x0 x1 (ix2 r j)) fun r j => ?_).trans (eq_unc (fun y => a y + part x0 x1 y) _ fun _ _ => rfl).symm
  pointwise [k0_pay3, k0_pay1]
  rfl

theorem pay6_apply (x : Vec Ideal S512x1024 .f32) (r : Fin 512) (z : Fin 1) : k0_pay6 x (ix2 r z) = ms (fun k => x (ix2 r k)) := by
  pointwise [k0_pay6]
  rfl

theorem pay7_apply (x : Vec Ideal S512x1024 .f32) (r : Fin 512) (z : Fin 1) : k0_pay7 x (ix2 r z) = rs (fun k => x (ix2 r k)) := by
  pointwise [k0_pay7]
  rw [pay6_apply]
  rfl

theorem pay8_apply (a : Vec Ideal S512x1024 .f32) (w : Vec Ideal S1x1024 .f32) (x : Vec Ideal S512x1024 .f32) (z : Fin 1) (j : Fin 1024) : k0_pay8 a w x (ix2 z j) = ∑ r : Fin 512, x (ix2 r j) * rs (fun k => x (ix2 r k)) * (a (ix2 r j) + w (ix2 0 j)) := by
  pointwise [k0_pay8, k0_pay5]
  simp only [pay7_apply]

theorem pay4_apply (v o : Vec Ideal S1x1024 .f32) (z : Fin 1) (j : Fin 1024) : k0_pay4 v o (ix2 z j) = o (ix2 z j) + v (ix2 z j) := by
  pointwise [k0_pay4]

theorem pay9_apply (a : Vec Ideal S512x1024 .f32) (w : Vec Ideal S1x1024 .f32) (x : Vec Ideal S512x1024 .f32) (g : Vec Ideal S1x1024 .f32) (d : Vec Ideal S512x1024 .f32) (r : Fin 512) (j : Fin 1024) :
    k0_pay9 a w x g d (ix2 r j) = drow (fun k => x (ix2 r k)) (fun k => g (ix2 0 k)) (fun k => a (ix2 r k) + w (ix2 0 k)) (fun k => d (ix2 r k)) j := by
  pointwise [k0_pay9, k0_pay5]
  simp only [pay7_apply, pay6_apply]
  simp only [Finset.univ_unique, Finset.sum_singleton]
  rfl

variable (m : (ℓ : Loc nD τ sig) → Buf (Elt Ideal) ℓ) (c : Dev nD)

theorem index_0 : ∀ t : Fin cfg0.N, win0_0.index t = ![t.val % 4 / 2, t.val / 4, t.val % 4 % 2] := by decide +kernel
theorem index_1 : ∀ t : Fin cfg0.N, win0_1.index t = ![t.val % 4, 0, 0] := by decide +kernel
theorem index_2 : ∀ t : Fin cfg0.N, win0_2.index t = ![t.val / 4, 0] := by decide +kernel
theorem index_3 : ∀ t : Fin cfg0.N, win0_3.index t = ![0, 0] := by decide +kernel
theorem index_4 : ∀ t : Fin cfg0.N, win0_4.index t = ![t.val / 4, 0] := by decide +kernel
theorem index_5 : ∀ t : Fin cfg0.N, win0_5.index t = ![0, 0] := by decide +kernel
theorem index_6 : ∀ t : Fin cfg0.N, win0_6.index t = ![t.val / 4, 0] := by decide +kernel
theorem index_7 : ∀ t : Fin cfg0.N, win0_7.index t = ![0, 0] := by decide +kernel

/-- The blocks of a point. -/
def b0 (t : Fin cfg0.N) : Vec Ideal S1x512x1408 .bf16 := iblk m c 0 t
def b1 (t : Fin cfg0.N) : Vec Ideal S1x1024x1408 .bf16 := iblk m c 1 t
def b2 (t : Fin cfg0.N) : Vec Ideal S512x1024 .f32 := iblk m c 2 t
def b3 (t : Fin cfg0.N) : Vec Ideal S1x1024 .f32 := iblk m c 3 t
def b4 (t : Fin cfg0.N) : Vec Ideal S512x1024 .f32 := iblk m c 4 t
def b5 (t : Fin cfg0.N) : Vec Ideal S1x1024 .f32 := iblk m c 5 t

theorem b0_apply (t : Fin cfg0.N) (r : Fin 512) (k : Fin 1408) (i : Fin 2048) (q : Fin 5632) (hi : i.val = t.val / 4 * 512 + r.val) (hq : q.val = t.val % 4 * 1408 + k.val) :
    b0 m c t (ix3 0 r k) = flat (cur3 (m ((c.tc : Thread nD τ).loc main_arg0))) i q := by
  have e := index_0 t
  have hk := k.isLt
  unfold flat cur3 b0
  blk_simp [iblk]
  refine congrArg (m ((c.tc : Thread nD τ).loc main_arg0)) ?_
  blk_ext [e, hi]
  all_goals (rw [hq]; omega)

theorem b1_apply (t : Fin cfg0.N) (j : Fin 1024) (k : Fin 1408) (q : Fin 5632) (hq : q.val = t.val % 4 * 1408 + k.val) :
    b1 m c t (ix3 0 j k) = cols (cur3 (m ((c.tc : Thread nD τ).loc main_arg1))) j q := by
  have e := index_1 t
  have hk := k.isLt
  unfold cols cur3 b1
  blk_simp [iblk]
  refine congrArg (m ((c.tc : Thread nD τ).loc main_arg1)) ?_
  blk_ext [e]
  all_goals (rw [hq]; omega)

theorem b2_apply (t : Fin cfg0.N) (r : Fin 512) (j : Fin 1024) (i : Fin 2048) (hi : i.val = t.val / 4 * 512 + r.val) :
    b2 m c t (ix2 r j) = cur (m ((c.tc : Thread nD τ).loc main_arg2)) i j := by
  have e := index_2 t
  unfold cur b2
  blk_simp [iblk]
  refine congrArg (m ((c.tc : Thread nD τ).loc main_arg2)) ?_
  blk_ext [e, hi]

theorem b3_apply (t : Fin cfg0.N) (j : Fin 1024) : b3 m c t (ix2 0 j) = cur (m ((c.tc : Thread nD τ).loc main_arg3)) 0 j := by
  have e := index_3 t
  unfold cur b3
  blk_simp [iblk]
  refine congrArg (m ((c.tc : Thread nD τ).loc main_arg3)) ?_
  blk_ext [e]

theorem b4_apply (t : Fin cfg0.N) (r : Fin 512) (j : Fin 1024) (i : Fin 2048) (hi : i.val = t.val / 4 * 512 + r.val) :
    b4 m c t (ix2 r j) = cur (m ((c.tc : Thread nD τ).loc main_arg4)) i j := by
  have e := index_4 t
  unfold cur b4
  blk_simp [iblk]
  refine congrArg (m ((c.tc : Thread nD τ).loc main_arg4)) ?_
  blk_ext [e, hi]

theorem b5_apply (t : Fin cfg0.N) (j : Fin 1024) : b5 m c t (ix2 0 j) = cur (m ((c.tc : Thread nD τ).loc main_arg5)) 0 j := by
  have e := index_5 t
  unfold cur b5
  blk_simp [iblk]
  refine congrArg (m ((c.tc : Thread nD τ).loc main_arg5)) ?_
  blk_ext [e]

/-- What a point leaves in the scratch: the sum of the parts so far. -/
theorem scratch_first (t : Fin cfg0.N) (h : t.val % 4 = 0) : (outsAt0 m c t.val t.isLt).2.2 = part (b0 m c t) (b1 m c t) := by
  rw [outsAt0_A m c t h (by omega) (by omega)]
  frame_out
  exact pay2_eq _ _

theorem scratch_next (t : Fin cfg0.N) (h : ¬t.val % 4 = 0) : (outsAt0 m c t.val t.isLt).2.2 =
    fun y => (outsAt0 m c (t.val - 1) (Nat.lt_of_le_of_lt (Nat.sub_le _ _) t.isLt)).2.2 y + part (b0 m c t) (b1 m c t) y := by
  by_cases h3 : t.val % 4 = 3
  · by_cases h4 : t.val < 4
    · rw [outsAt0_C m c t h (by omega) h3 h4 (by omega)]
      frame_out
      rw [read_unread_whole]
      exact pay3_eq _ _ _
    · rw [outsAt0_D m c t h (by omega) h3 h4 (by omega)]
      frame_out
      rw [read_unread_whole]
      exact pay3_eq _ _ _
  · rw [outsAt0_B m c t h (by omega) h3]
    frame_out
    rw [read_unread_whole]
    exact pay3_eq _ _ _

/-- At the last of a row block's points the scratch holds the product. -/
theorem scratch_last (t : Fin cfg0.N) (h : t.val % 4 = 3) (r : Fin 512) (j : Fin 1024) (i : Fin 2048) (hi : i.val = t.val / 4 * 512 + r.val) :
    (outsAt0 m c t.val t.isLt).2.2 (ix2 r j) = dh (cur3 (m ((c.tc : Thread nD τ).loc main_arg0))) (cur3 (m ((c.tc : Thread nD τ).loc main_arg1))) i j := by
  refine (Pipeline.eq_sum_fin_of_reset_step_apply_of_flush (fun n h => (outsAt0 m c n h).2.2) 4 (fun _ => (0 : EReal)) (fun t => part (b0 m c t) (b1 m c t))
    (fun t h y => (congrFun (scratch_first m c t h) y).trans (zero_add _).symm) (fun t h y => congrFun (scratch_next m c t h) y) t h (ix2 r j)).trans ?_
  rw [zero_add]
  unfold dh part
  refine Fin.sum_mul_add_congr fun s k hl => ?_
  have hs := s.isLt
  exact congrArg₂ (· * ·) (b0_apply m c _ _ k i _ (by simp [hi]; omega) (by simp; omega)) (b1_apply m c _ _ k _ (by simp; omega))

/-- What the last of a row block's points leaves in the first result. -/
theorem out6 (t : Fin cfg0.N) (h : t.val % 4 = 3) : (outsAt0 m c t.val t.isLt).1 = k0_pay9 (outsAt0 m c t.val t.isLt).2.2 (b5 m c t) (b2 m c t) (b3 m c t) (b4 m c t) := by
  by_cases h4 : t.val < 4
  · rw [outsAt0_C m c t (by omega) (by omega) h h4 (by omega)]
    frame_out
    rfl
  · rw [outsAt0_D m c t (by omega) (by omega) h h4 (by omega)]
    frame_out
    rfl

/-- A row block's part of the second result. -/
def rows (t : Fin cfg0.N) : Vec Ideal S1x1024 .f32 := k0_pay8 (outsAt0 m c t.val t.isLt).2.2 (b5 m c t) (b2 m c t)

theorem out7_first (t : Fin cfg0.N) (h : t.val % 4 = 3) (h4 : t.val < 4) : (outsAt0 m c t.val t.isLt).2.1 = rows m c t := by
  unfold rows
  rw [outsAt0_C m c t (by omega) (by omega) h h4 (by omega)]
  frame_out
  rfl

theorem out7_next (t : Fin cfg0.N) (h : t.val % 4 = 3) (h4 : ¬t.val < 4) : (outsAt0 m c t.val t.isLt).2.1 =
    k0_pay4 (rows m c t) (outsAt0 m c (t.val - 1) (Nat.lt_of_le_of_lt (Nat.sub_le _ _) t.isLt)).2.1 := by
  unfold rows
  rw [outsAt0_D m c t (by omega) (by omega) h h4 (by omega)]
  frame_out
  rfl

theorem out7_kept (n : ℕ) (hn : n + 1 < cfg0.N) (h : ¬(n + 1) % 4 = 3) : (outsAt0 m c (n + 1) hn).2.1 = (outsAt0 m c n (Nat.lt_of_succ_lt hn)).2.1 := by
  by_cases h0 : (n + 1) % 4 = 0
  · rw [outsAt0_A m c ⟨n + 1, hn⟩ h0 (by dsimp only; omega) h]
    rfl
  · rw [outsAt0_B m c ⟨n + 1, hn⟩ h0 (by dsimp only; omega) h]
    rfl

/-- From a row block's last point to the next's. -/
theorem out7_step (n k : ℕ) (hn : k < cfg0.N) (hk : n < cfg0.N) (e : k = n + 4) (h : n % 4 = 3) (z : Fin 1) (j : Fin 1024) : (outsAt0 m c k hn).2.1 (ix2 z j) =
    (outsAt0 m c n hk).2.1 (ix2 z j) + rows m c ⟨k, hn⟩ (ix2 z j) := by
  subst e
  refine (congrFun (out7_next m c ⟨n + 4, hn⟩ (by dsimp only; omega) (by dsimp only; omega)) (ix2 z j)).trans ((pay4_apply _ _ z j).trans ?_)
  refine congrArg (· + rows m c ⟨n + 4, hn⟩ (ix2 z j)) ?_
  have e3 := out7_kept m c (n + 2) (by omega) (by omega)
  have e2 := out7_kept m c (n + 1) (by omega) (by omega)
  have e1 := out7_kept m c n (by omega) (by omega)
  exact congrFun (e3.trans (e2.trans e1)) (ix2 z j)

/-- The terms of the second result. -/
def term (j : Fin 1024) (i : Fin 2048) : EReal :=
  cur (m ((c.tc : Thread nD τ).loc main_arg2)) i j * rs (cur (m ((c.tc : Thread nD τ).loc main_arg2)) i)
    * dhr (cur3 (m ((c.tc : Thread nD τ).loc main_arg0))) (cur3 (m ((c.tc : Thread nD τ).loc main_arg1))) (cur (m ((c.tc : Thread nD τ).loc main_arg5))) i j

theorem rows_apply (t : Fin cfg0.N) (h : t.val % 4 = 3) (z : Fin 1) (j : Fin 1024) (f : Fin 512 → Fin 2048) (hf : ∀ r, (f r).val = t.val / 4 * 512 + r.val) :
    rows m c t (ix2 z j) = ∑ r : Fin 512, term m c j (f r) := by
  unfold rows
  refine (pay8_apply _ _ _ z j).trans (Finset.sum_congr rfl fun r _ => ?_)
  rw [scratch_last m c t h r j (f r) (hf r), b5_apply m c t j, b2_apply m c t r j (f r) (hf r), show (fun k => b2 m c t (ix2 r k)) = cur (m ((c.tc : Thread nD τ).loc main_arg2)) (f r) from
    funext fun k => b2_apply m c t r k (f r) (hf r)]
  rfl

theorem rows_at (k : Fin 4) (t : Fin cfg0.N) (hk : t.val = 4 * k.val + 3) (z : Fin 1) (j : Fin 1024) :
    rows m c t (ix2 z j) = ∑ r : Fin 512, term m c j ⟨k.val * 512 + r.val, by omega⟩ :=
  rows_apply m c t (by omega) z j _ fun r => by dsimp only; omega

theorem out7 (t : Fin cfg0.N) (ht : t.val = 15) (z : Fin 1) (j : Fin 1024) : (outsAt0 m c t.val t.isLt).2.1 (ix2 z j) = ∑ i, term m c j i := by
  have hN : t.val < cfg0.N := t.isLt
  rw [ht] at hN
  have e1 := out7_step m c 11 t.val t.isLt (by omega) (by omega) (by omega) z j
  have e2 := out7_step m c 7 11 (by omega) (by omega) (by omega) (by omega) z j
  have e3 := out7_step m c 3 7 (by omega) (by omega) (by omega) (by omega) z j
  have e4 := congrFun (out7_first m c ⟨3, by omega⟩ (by dsimp only) (by dsimp only; omega)) (ix2 z j)
  rw [← Fin.sum_mul_add_fin 4 512 (term m c j)]
  refine chain e1 e2 e3 e4 ?_ ?_ ?_ ?_
  · exact rows_at m c 0 ⟨3, by omega⟩ (by dsimp) z j
  · exact rows_at m c 1 ⟨7, by omega⟩ (by dsimp) z j
  · exact rows_at m c 2 ⟨11, by omega⟩ (by dsimp) z j
  · exact rows_at m c 3 t (by dsimp; omega) z j

theorem arr6 : (dats m 0 c).arrAt 6 cfg0.N = unc (dx (cur3 (m ((c.tc : Thread nD τ).loc main_arg0))) (cur3 (m ((c.tc : Thread nD τ).loc main_arg1))) (cur (m ((c.tc : Thread nD τ).loc main_arg2)))
    (cur (m ((c.tc : Thread nD τ).loc main_arg3))) (cur (m ((c.tc : Thread nD τ).loc main_arg4))) (cur (m ((c.tc : Thread nD τ).loc main_arg5)))) := by
  have e := index_6
  refine (dats m 0 c).arrAt_eq_of_covers 6 _ (by decide +kernel) fun t hf y => ?_
  have h3 : t.val % 4 = 3 := (flush0_6 t).mp hf
  blk_simp [iblk]
  rw [after0_6, out6 m c t h3]
  refine (congrFun (eq_unc _ _ (pay9_apply _ _ _ _ _)) _).trans ?_
  unfold unc dx
  have hi : ((win0_6.blk t).view.emb y 0).val = t.val / 4 * 512 + (y 0).val := by blk_simp [e]
  have hj : y 1 = (win0_6.blk t).view.emb y 1 := Fin.ext (by blk_simp [e])
  rw [← hj]
  have e1 : (fun k => b2 m c t (ix2 (y 0) k)) = _ := funext fun k => b2_apply m c t (y 0) k _ hi
  have e2 : (fun k => b3 m c t (ix2 0 k)) = _ := funext fun k => b3_apply m c t k
  have e3 : (fun k => (outsAt0 m c t.val t.isLt).2.2 (ix2 (y 0) k) + b5 m c t (ix2 0 k)) = _ := funext fun k => congrArg₂ (· + ·) (scratch_last m c t h3 (y 0) k _ hi) (b5_apply m c t k)
  have e4 : (fun k => b4 m c t (ix2 (y 0) k)) = _ := funext fun k => b4_apply m c t (y 0) k _ hi
  exact congrFun (congr (congr (congr (congrArg drow e1) e2) e3) e4) (y 1)

theorem arr7 : (dats m 0 c).arrAt 7 cfg0.N = unc (dg (cur3 (m ((c.tc : Thread nD τ).loc main_arg0))) (cur3 (m ((c.tc : Thread nD τ).loc main_arg1))) (cur (m ((c.tc : Thread nD τ).loc main_arg2))) (cur (m ((c.tc : Thread nD τ).loc main_arg5)))) := by
  have e := index_7
  refine (dats m 0 c).arrAt_eq_of_covers 7 _ (by decide +kernel) fun t hf y => ?_
  have h15 : t.val % 16 = 15 := (flush0_7 t).mp hf
  have ht : t.val = 15 := by
    have hN : t.val < 16 := lt_of_lt_of_eq t.isLt N_0
    omega
  blk_simp [iblk]
  rw [after0_7]
  refine (congrFun (eq_unc _ _ (out7 m c t ht)) _).trans ?_
  unfold unc dg
  have hj : y 1 = (win0_7.blk t).view.emb y 1 := Fin.ext (by blk_simp [e])
  rw [← hj]
  rfl

end kernel

section reference
open ReferenceDxRowIdeal ReferenceDxRowIdeal.Gen
variable (A0 : FVec Ideal S2x2048x2816 .bf16) (A1 : FVec Ideal S4x1024x1408 .bf16) (A2 : FVec Ideal S2048x1024 .f32) (A3 : FVec Ideal S1x1024 .f32) (A4 : FVec Ideal S2048x1024 .f32) (A5 : FVec Ideal S1x1024 .f32)

def both : FVec Ideal S2048x5632 .bf16 :=
  concatenate S2048x5632 1 [⟨S2048x2816, (shapeCast _ (extractStridedSlice S1x2048x2816 ![0, 0, 0] A0 slices_S2x2048x2816_S1x2048x2816_0_0_0) shapeCasts_S1x2048x2816_S2048x2816)⟩, ⟨S2048x2816, (shapeCast _ (extractStridedSlice S1x2048x2816 ![1, 0, 0] A0 slices_S2x2048x2816_S1x2048x2816_1_0_0) shapeCasts_S1x2048x2816_S2048x2816)⟩] concatenates_S2048x2816_S2048x2816_S2048x5632_d1

def wide : FVec Ideal S1024x5632 .f32 :=
  shapeCast _ (transpose S1024x4x1408 [1, 0, 2] (extf .f32 A1 bitsLt_bf16_f32) transposes_S4x1024x1408_S1024x4x1408_1_0_2) shapeCasts_S1024x4x1408_S1024x5632

def msq : FVec Ideal S2048x1 .f32 :=
  addf (Host.divf (broadcastInDim S2048x1 ![0] bcast_S2048_S2048x1_0 (Host.reduceAdd (mulf A2 A2) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

def dha : FVec Ideal S2048x1024 .f32 :=
  addf (broadcastInDim S2048x1024 ![0, 1] bcast_S1x1024_S2048x1024_0_1 A5) (Host.dotGeneral dot_S2048x5632_S1024x5632_S2048x1024_1_1_0_0_n_n none (extf .f32 (both A0) bitsLt_bf16_f32) (wide A1))

def scr : FVec Ideal S2048 .f32 :=
  Host.reduceAdd (Host.divf (mulf (shapeCast _ (Host.reduceAdd (mulf A2 (mulf (dha A0 A1 A5) (broadcastInDim S2048x1024 ![0, 1] bcast_S1x1024_S2048x1024_0_1 A3))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (msq A2)) (msq A2)))) (broadcastInDim S2048x1 ![] bcast_S_S2048x1 (constant S_ .f32 0x44800000#32))) (constant S_ .f32 0x00000000#32) reducesTo_S2048x1_S2048_d1 h_S_

def res6 : FVec Ideal S2048x1024 .f32 :=
  addf (addf (addf A4 (mulf (mulf (dha A0 A1 A5) (broadcastInDim S2048x1024 ![0, 1] bcast_S1x1024_S2048x1024_0_1 A3)) (broadcastInDim S2048x1024 ![0, 1] bcast_S2048x1_S2048x1024_0_1 (Host.rsqrt (msq A2))))) (mulf A2 (broadcastInDim S2048x1024 ![0] bcast_S2048_S2048x1024_0 (scr A0 A1 A2 A3 A5)))) (mulf (broadcastInDim S2048x1024 ![0] bcast_S2048_S2048x1024_0 (scr A0 A1 A2 A3 A5)) A2)

def res7 : FVec Ideal S1x1024 .f32 :=
  shapeCast _ (Host.reduceAdd (mulf (mulf A2 (broadcastInDim S2048x1024 ![0, 1] bcast_S2048x1_S2048x1024_0_1 (Host.rsqrt (msq A2)))) (dha A0 A1 A5)) (constant S_ .f32 0x00000000#32) reducesTo_S2048x1024_S1024_d0 h_S_) shapeCasts_S1024_S1x1024

theorem both_apply (k : Fin 2048) (q : Fin 5632) : both A0 (ix2 k q) = flat (cur3 A0) k q := by
  pointwise [both]
  unfold flat cur3
  have hq := q.isLt
  split_ifs with h
  all_goals
    refine congrArg A0 ?_
    blk_ext []
    all_goals omega

theorem wide_apply (j : Fin 1024) (q : Fin 5632) : wide A1 (ix2 j q) = cols (cur3 A1) j q := by
  pointwise [wide]
  rfl

theorem dhr_apply (i : Fin 2048) (j : Fin 1024) : dha A0 A1 A5 (ix2 i j) = dhr (cur3 A0) (cur3 A1) (cur A5) i j := by
  pointwise [dha]
  unfold dhr dh
  refine (add_comm _ _).trans (congrArg₂ (· + ·) ?_ rfl)
  exact Finset.sum_congr rfl fun q _ => by rw [both_apply, wide_apply]

theorem msq_apply (i : Fin 2048) (z : Fin 1) : msq A2 (ix2 i z) = ms (cur A2 i) := by
  pointwise [msq]
  rfl

theorem scr_apply (i : Fin 2048) : scr A0 A1 A2 A3 A5 (ix1 i) = sc (cur A2 i) (cur A3 0) (dhr (cur3 A0) (cur3 A1) (cur A5) i) := by
  pointwise [scr]
  simp only [msq_apply, dhr_apply]
  simp only [Finset.univ_unique, Finset.sum_singleton]
  rfl

theorem res6_apply (i : Fin 2048) (j : Fin 1024) : res6 A0 A1 A2 A3 A4 A5 (ix2 i j) = dx (cur3 A0) (cur3 A1) (cur A2) (cur A3) (cur A4) (cur A5) i j := by
  pointwise [res6]
  simp only [msq_apply, dhr_apply, scr_apply]
  show A4 (ix2 i j) + _ + _ + _ = _ + _ + _ + A4 (ix2 i j)
  rw [add_comm (A4 (ix2 i j)), add_right_comm _ (A4 (ix2 i j)), add_right_comm _ (A4 (ix2 i j))]
  rfl

theorem res7_apply (z : Fin 1) (j : Fin 1024) : res7 A0 A1 A2 A5 (ix2 z j) = dg (cur3 A0) (cur3 A1) (cur A2) (cur A5) z j := by
  pointwise [res7]
  simp only [msq_apply, dhr_apply]
  rfl

end reference

/-! ## The claims -/

open KernelDxRowIdeal in
theorem values : algebraic_KernelDxRowIdeal_ReferenceDxRowIdeal (hKernelDxRowIdeal := KernelDxRowIdeal.Gen.facts)
    (hReferenceDxRowIdeal := ReferenceDxRowIdeal.Gen.facts) := by
  intro m g m' g' _ hagree
  refine ⟨fun c => unc (dx (cur3 (m ((c.tc : Thread nD τ).loc main_arg0))) (cur3 (m ((c.tc : Thread nD τ).loc main_arg1))) (cur (m ((c.tc : Thread nD τ).loc main_arg2))) (cur (m ((c.tc : Thread nD τ).loc main_arg3))) (cur (m ((c.tc : Thread nD τ).loc main_arg4))) (cur (m ((c.tc : Thread nD τ).loc main_arg5)))), fun c => unc (dg (cur3 (m ((c.tc : Thread nD τ).loc main_arg0))) (cur3 (m ((c.tc : Thread nD τ).loc main_arg1))) (cur (m ((c.tc : Thread nD τ).loc main_arg2))) (cur (m ((c.tc : Thread nD τ).loc main_arg5)))), ?_, ?_⟩
  · refine (θ_run _ _ _).mono (fun r h c => ?_) (KernelDxRowIdeal.Value.run_blocks (F := Ideal) m g)
    obtain ⟨h0, h1, rest⟩ := h c
    exact ⟨h0.trans (arr6 m c), h1.trans (arr7 m c), rest⟩
  · refine (θ_run _ _ _).mono (fun r h c => ?_) (ReferenceDxRowIdeal.Value.run (F := Ideal) m' g')
    obtain ⟨a0, a1, a2, a3, a4, a5⟩ := hagree c
    obtain ⟨h0, h1, rest⟩ := h c
    refine ⟨h0.trans ?_, h1.trans ?_, rest⟩
    · unfold ReferenceDxRowIdeal.Value.res_main_v47
      rw [a0, a1, a2, a3, a4, a5]
      exact eq_unc _ _ (res6_apply _ _ _ _ _ _)
    · rw [a0, a1, a2, a5]
      exact eq_unc _ _ (res7_apply _ _ _ _)

theorem reference_frame : quiescent_ReferenceDxRowIdeal (hReferenceDxRowIdeal := ReferenceDxRowIdeal.Gen.facts) := fun m g _ =>
  (θ_run _ _ _).mono (fun r h => ⟨fun c => (h c).2.2, sem_eq_zero_of_no_sems rfl r.2⟩) (ReferenceDxRowIdeal.Value.run (F := Ideal) m g)

theorem kernel_frame : quiescent_KernelDxRow (hKernelDxRow := KernelDxRow.Gen.facts) := fun m g _ => KernelDxRow.Gen.frame m g

theorem ideal_frame : quiescent_KernelDxRowIdeal (hKernelDxRowIdeal := KernelDxRowIdeal.Gen.facts) := fun m g _ => KernelDxRowIdeal.Gen.frame m g

end Cert.Ffn.DxRow

end
-- ==== Proof.Dw1Row.lean ====
/- The gradient of the SwiGLU's first matrix with an added row: the array after the launch and the reference, by element. -/
module

public import proofs.«01_k».proof.Proof.Gen.KernelDw1RowIdeal.Value
public import proofs.«01_k».proof.Proof.Gen.KernelDw1Row
public import proofs.«01_k».proof.Proof.Gen.KernelDw1Row.Frame
public import proofs.«01_k».proof.Proof.Gen.ReferenceDw1RowIdeal.Run
public import proofs.«01_k».proof.Proof.Common
public import proofs.«01_k».proof.Defs

@[expose] public section

set_option maxRecDepth 16384

noncomputable section

namespace Cert.Ffn.Dw1Row

open Cert.Attn
open Idealize.ShloMosaic Idealize.ShloMosaic.TcCoe Idealize.ShloMosaic.Tactic Idealize.SL.Sem

/-- The product of h transposed with the gradients, and the added row, in four blocks of columns. -/
def val (h : Fin 2048 → Fin 1024 → EReal) (d : Fin 2 → Fin 2048 → Fin 2816 → EReal) (b : Fin 1 → Fin 5632 → EReal) (p : Fin 4) (r : Fin 1024) (j : Fin 1408) : EReal :=
  (∑ k, h k r * flat d k ⟨p.val * 1408 + j.val, by have := p.isLt; have := j.isLt; omega⟩) + b 0 ⟨p.val * 1408 + j.val, by have := p.isLt; have := j.isLt; omega⟩

section kernel

open KernelDw1RowIdeal KernelDw1RowIdeal.Gen
open Idealize.ShloMosaic.Pipeline (Dat Cfg Window BodyObligation cellOf)

theorem out_eq (x0 : Vec Ideal S2048x512 .bf16) (x1 : Vec Ideal S1x2048x1408 .bf16) (x2 : Vec Ideal S1x1408 .f32) : out0_3 x0 x1 x2 =
    unc3 (fun p r j => (∑ k : Fin 2048, x0 (ix2 k r) * x1 (ix3 0 k j)) + x2 (ix2 0 j)) := by
  unfold out0_3
  rw [View.canon_unit_zero hz3, View.ld_unit_zero hz, View.ld_unit_zero hz3, View.ld_unit_zero hz]
  refine eq_unc3 _ _ fun p r j => ?_
  pointwise [k0_pay1]

variable (m : (ℓ : Loc nD τ sig) → Buf (Elt Ideal) ℓ) (c : Dev nD)

theorem index_0 : ∀ t : Fin cfg0.N, win0_0.index t = ![0, t.val / 4] := by decide +kernel
theorem index_1 : ∀ t : Fin cfg0.N, win0_1.index t = ![t.val % 4 / 2, 0, t.val % 4 % 2] := by decide +kernel
theorem index_2 : ∀ t : Fin cfg0.N, win0_2.index t = ![0, t.val % 4] := by decide +kernel
theorem index_3 : ∀ t : Fin cfg0.N, win0_3.index t = ![t.val % 4, t.val / 4, 0] := by decide +kernel

/-- The blocks of a point. -/
def b0 (t : Fin cfg0.N) : Vec Ideal S2048x512 .bf16 := iblk m c 0 t
def b1 (t : Fin cfg0.N) : Vec Ideal S1x2048x1408 .bf16 := iblk m c 1 t
def b2 (t : Fin cfg0.N) : Vec Ideal S1x1408 .f32 := iblk m c 2 t

theorem b0_apply (t : Fin cfg0.N) (k : Fin 2048) (r : Fin 512) (i : Fin 1024) (hi : i.val = t.val / 4 * 512 + r.val) :
    b0 m c t (ix2 k r) = cur (m ((c.tc : Thread nD τ).loc main_arg0)) k i := by
  have e := index_0 t
  unfold cur b0
  blk_simp [iblk]
  refine congrArg (m ((c.tc : Thread nD τ).loc main_arg0)) ?_
  blk_ext [e, hi]

theorem b1_apply (t : Fin cfg0.N) (k : Fin 2048) (j : Fin 1408) (q : Fin 5632) (hq : q.val = t.val % 4 * 1408 + j.val) :
    b1 m c t (ix3 0 k j) = flat (cur3 (m ((c.tc : Thread nD τ).loc main_arg1))) k q := by
  have e := index_1 t
  have hj := j.isLt
  unfold flat cur3 b1
  blk_simp [iblk]
  refine congrArg (m ((c.tc : Thread nD τ).loc main_arg1)) ?_
  blk_ext [e]
  all_goals (rw [hq]; omega)

theorem b2_apply (t : Fin cfg0.N) (j : Fin 1408) (q : Fin 5632) (hq : q.val = t.val % 4 * 1408 + j.val) :
    b2 m c t (ix2 0 j) = cur (m ((c.tc : Thread nD τ).loc main_arg2)) 0 q := by
  have e := index_2 t
  unfold cur b2
  blk_simp [iblk]
  refine congrArg (m ((c.tc : Thread nD τ).loc main_arg2)) ?_
  blk_ext [e, hq]

/-- The array after the launch. -/
theorem arr : (dats m 0 c).arrAt 3 cfg0.N = unc3 (val (cur (m ((c.tc : Thread nD τ).loc main_arg0))) (cur3 (m ((c.tc : Thread nD τ).loc main_arg1))) (cur (m ((c.tc : Thread nD τ).loc main_arg2)))) := by
  have e := index_3
  refine (dats m 0 c).arrAt_eq_of_covers 3 _ (by decide +kernel) fun t hf y => ?_
  blk_simp [iblk]
  rw [after0_3]
  refine (congrFun (out_eq (b0 m c t) (b1 m c t) (b2 m c t)) _).trans ?_
  unfold unc3 val
  refine congrArg₂ (· + ·) (Finset.sum_congr rfl fun k _ =>
    congrArg₂ (· * ·) (b0_apply m c t k (y 1) _ ?_) (b1_apply m c t k (y 2) _ ?_)) (b2_apply m c t (y 2) _ ?_)
  all_goals blk_simp [e]

end kernel

section reference
open ReferenceDw1RowIdeal ReferenceDw1RowIdeal.Gen
variable (A0 : FVec Ideal S2048x1024 .bf16) (A1 : FVec Ideal S2x2048x2816 .bf16) (A2 : FVec Ideal S1x5632 .f32)

def both : FVec Ideal S2048x5632 .bf16 :=
  concatenate S2048x5632 1 [⟨S2048x2816, (shapeCast _ (extractStridedSlice S1x2048x2816 ![0, 0, 0] A1 slices_S2x2048x2816_S1x2048x2816_0_0_0) shapeCasts_S1x2048x2816_S2048x2816)⟩, ⟨S2048x2816, (shapeCast _ (extractStridedSlice S1x2048x2816 ![1, 0, 0] A1 slices_S2x2048x2816_S1x2048x2816_1_0_0) shapeCasts_S1x2048x2816_S2048x2816)⟩] concatenates_S2048x2816_S2048x2816_S2048x5632_d1

def res : FVec Ideal S4x1024x1408 .bf16 :=
  truncf .bf16 (transpose S4x1024x1408 [1, 0, 2] (shapeCast _ (addf (broadcastInDim S1024x5632 ![0, 1] bcast_S1x5632_S1024x5632_0_1 A2) (transpose S1024x5632 [1, 0] (Host.dotGeneral dot_S2048x5632_S2048x1024_S5632x1024_0_0_1_1_n_n none (extf .f32 (both A1) bitsLt_bf16_f32) (extf .f32 A0 bitsLt_bf16_f32)) transposes_S5632x1024_S1024x5632_1_0)) shapeCasts_S1024x5632_S1024x4x1408) transposes_S1024x4x1408_S4x1024x1408_1_0_2) bitsLt_bf16_f32

theorem both_apply (k : Fin 2048) (q : Fin 5632) : both A1 (ix2 k q) = flat (cur3 A1) k q := by
  pointwise [both]
  unfold flat cur3
  have hq := q.isLt
  split_ifs with h
  all_goals
    refine congrArg A1 ?_
    blk_ext []
    all_goals omega

theorem res_apply (p : Fin 4) (r : Fin 1024) (j : Fin 1408) : res A0 A1 A2 (ix3 p r j) = val (cur A0) (cur3 A1) (cur A2) p r j := by
  pointwise [res]
  unfold val cur
  refine (add_comm _ _).trans (congrArg₂ (· + ·) ?_ rfl)
  exact Finset.sum_congr rfl fun k _ => by rw [both_apply, mul_comm]

end reference

/-! ## The claims -/

open KernelDw1RowIdeal in
theorem values : algebraic_KernelDw1RowIdeal_ReferenceDw1RowIdeal (hKernelDw1RowIdeal := KernelDw1RowIdeal.Gen.facts)
    (hReferenceDw1RowIdeal := ReferenceDw1RowIdeal.Gen.facts) := by
  intro m g m' g' _ hagree
  refine ⟨fun c => unc3 (val (cur (m ((c.tc : Thread nD τ).loc main_arg0))) (cur3 (m ((c.tc : Thread nD τ).loc main_arg1))) (cur (m ((c.tc : Thread nD τ).loc main_arg2)))), ?_, ?_⟩
  · refine (θ_run _ _ _).mono (fun r h c => ?_) (KernelDw1RowIdeal.Value.run_blocks (F := Ideal) m g)
    obtain ⟨h0, rest⟩ := h c
    exact ⟨h0.trans (arr m c), rest⟩
  · refine (θ_run _ _ _).mono (fun r h c => ?_) (ReferenceDw1RowIdeal.Value.run (F := Ideal) m' g')
    obtain ⟨a0, a1, a2⟩ := hagree c
    obtain ⟨h0, rest⟩ := h c
    refine ⟨h0.trans ?_, rest⟩
    · rw [a0, a1, a2]
      exact eq_unc3 _ _ (res_apply _ _ _)

theorem reference_frame : quiescent_ReferenceDw1RowIdeal (hReferenceDw1RowIdeal := ReferenceDw1RowIdeal.Gen.facts) := fun m g _ =>
  (θ_run _ _ _).mono (fun r h => ⟨fun c => (h c).2, sem_eq_zero_of_no_sems rfl r.2⟩) (ReferenceDw1RowIdeal.Value.run (F := Ideal) m g)

theorem kernel_frame : quiescent_KernelDw1Row (hKernelDw1Row := KernelDw1Row.Gen.facts) := fun m g _ => KernelDw1Row.Gen.frame m g

theorem ideal_frame : quiescent_KernelDw1RowIdeal (hKernelDw1RowIdeal := KernelDw1RowIdeal.Gen.facts) := fun m g _ => KernelDw1RowIdeal.Gen.frame m g

end Cert.Ffn.Dw1Row

end
-- ==== Proof.Dw2Row.lean ====
/- The gradient of the SwiGLU's second matrix with an added row: the array after the launch and the reference, by element. -/
module

public import proofs.«01_k».proof.Proof.Gen.KernelDw2RowIdeal.Value
public import proofs.«01_k».proof.Proof.Gen.KernelDw2Row
public import proofs.«01_k».proof.Proof.Gen.KernelDw2Row.Frame
public import proofs.«01_k».proof.Proof.Gen.ReferenceDw2RowIdeal.Run
public import proofs.«01_k».proof.Proof.Common
public import proofs.«01_k».proof.Defs

@[expose] public section

set_option maxRecDepth 16384

noncomputable section

namespace Cert.Ffn.Dw2Row

open Cert.Attn
open Idealize.ShloMosaic Idealize.ShloMosaic.TcCoe Idealize.ShloMosaic.Tactic Idealize.SL.Sem

/-- Half the product of a transposed with dy, and the added row. -/
def val (a : Fin 2048 → Fin 2816 → EReal) (dy : Fin 2048 → Fin 1024 → EReal) (b : Fin 1 → Fin 1024 → EReal) (i : Fin 2816) (j : Fin 1024) : EReal :=
  (∑ k, a k i * dy k j) * Ideal.ofBits .f32 0x3F000000#32 + b 0 j

section kernel

open KernelDw2RowIdeal KernelDw2RowIdeal.Gen
open Idealize.ShloMosaic.Pipeline (Dat Cfg Window BodyObligation cellOf)

theorem out_eq (x0 : Vec Ideal S2048x256 .bf16) (x1 : Vec Ideal S2048x1024 .f32) (x2 : Vec Ideal S1x1024 .f32) : out0_3 x0 x1 x2 =
    unc (fun r j => (∑ k : Fin 2048, x0 (ix2 k r) * x1 (ix2 k j)) * Ideal.ofBits .f32 0x3F000000#32 + x2 (ix2 0 j)) := by
  unfold out0_3
  rw [View.canon_unit_zero hz, View.ld_unit_zero hz, View.ld_unit_zero hz, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![0, t.val] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![t.val, 0] := by decide +kernel

/-- The blocks of a point. -/
def b0 (t : Fin cfg0.N) : Vec Ideal S2048x256 .bf16 := iblk m c 0 t
def b1 (t : Fin cfg0.N) : Vec Ideal S2048x1024 .f32 := iblk m c 1 t
def b2 (t : Fin cfg0.N) : Vec Ideal S1x1024 .f32 := iblk m c 2 t

theorem pt_lt (t : Fin cfg0.N) : t.val < 11 := t.isLt.trans_eq (by decide +kernel)

theorem b0_apply (t : Fin cfg0.N) (k : Fin 2048) (r : Fin 256) (i : Fin 2816) (hi : i.val = t.val * 256 + r.val) :
    b0 m c t (ix2 k r) = cur (m ((c.tc : Thread nD τ).loc main_arg0)) k i := by
  have e := index_0 t
  unfold cur b0
  blk_simp [iblk]
  refine congrArg (m ((c.tc : Thread nD τ).loc main_arg0)) ?_
  blk_ext [e, hi]

theorem b1_apply (t : Fin cfg0.N) (k : Fin 2048) (j : Fin 1024) :
    b1 m c t (ix2 k j) = cur (m ((c.tc : Thread nD τ).loc main_arg1)) k j := by
  have e := index_1 t
  unfold cur b1
  blk_simp [iblk]
  refine congrArg (m ((c.tc : Thread nD τ).loc main_arg1)) ?_
  blk_ext [e]

theorem b2_apply (t : Fin cfg0.N) (j : Fin 1024) : b2 m c t (ix2 0 j) = cur (m ((c.tc : Thread nD τ).loc main_arg2)) 0 j := by
  have e := index_2 t
  unfold cur b2
  blk_simp [iblk]
  refine congrArg (m ((c.tc : Thread nD τ).loc main_arg2)) ?_
  blk_ext [e]

/-- The array after the launch. -/
theorem arr : (dats m 0 c).arrAt 3 cfg0.N = unc (val (cur (m ((c.tc : Thread nD τ).loc main_arg0))) (cur (m ((c.tc : Thread nD τ).loc main_arg1))) (cur (m ((c.tc : Thread nD τ).loc main_arg2)))) := by
  have e := index_3
  refine (dats m 0 c).arrAt_eq_of_covers 3 _ (by decide +kernel) fun t hf y => ?_
  blk_simp [iblk]
  rw [after0_3]
  refine (congrFun (out_eq (b0 m c t) (b1 m c t) (b2 m c t)) _).trans ?_
  unfold unc val
  refine congrArg₂ (· + ·) (congrArg (· * Ideal.ofBits .f32 0x3F000000#32) (Finset.sum_congr rfl fun k _ => ?_)) ((b2_apply m c t (y 1)).trans (congrArg _ (Fin.ext ?_)))
  refine congrArg₂ (· * ·) (b0_apply m c t k (y 0) _ ?_) ((b1_apply m c t k (y 1)).trans (congrArg _ (Fin.ext ?_)))
  all_goals blk_simp [e]

end kernel

section reference
open ReferenceDw2RowIdeal ReferenceDw2RowIdeal.Gen
variable (A0 : FVec Ideal S2048x2816 .bf16) (A1 : FVec Ideal S2048x1024 .f32) (A2 : FVec Ideal S1x1024 .f32)

def res : FVec Ideal S2816x1024 .bf16 :=
  truncf .bf16 (addf (broadcastInDim S2816x1024 ![0, 1] bcast_S1x1024_S2816x1024_0_1 A2) (transpose S2816x1024 [1, 0] (Host.dotGeneral dot_S2048x1024_S2048x2816_S1024x2816_0_0_1_1_n_n none (mulf (broadcastInDim S2048x1024 ![] bcast_S_S2048x1024 (constant S_ .f32 0x3F000000#32)) A1) (extf .f32 A0 bitsLt_bf16_f32)) transposes_S1024x2816_S2816x1024_1_0)) bitsLt_bf16_f32

theorem res_apply (i : Fin 2816) (j : Fin 1024) : res A0 A1 A2 (ix2 i j) = val (cur A0) (cur A1) (cur A2) i j := by
  pointwise [res]
  unfold val
  rw [mul_comm, half_mul_sum, add_comm]
  refine congrArg₂ (· + ·) ?_ rfl
  exact Finset.sum_congr rfl fun k _ => by unfold cur; rw [mul_assoc, mul_comm (A1 (ix2 k j))]
end reference

/-! ## The claims -/

open KernelDw2RowIdeal in
theorem values : algebraic_KernelDw2RowIdeal_ReferenceDw2RowIdeal (hKernelDw2RowIdeal := KernelDw2RowIdeal.Gen.facts)
    (hReferenceDw2RowIdeal := ReferenceDw2RowIdeal.Gen.facts) := by
  intro m g m' g' _ hagree
  refine ⟨fun c => unc (val (cur (m ((c.tc : Thread nD τ).loc main_arg0))) (cur (m ((c.tc : Thread nD τ).loc main_arg1))) (cur (m ((c.tc : Thread nD τ).loc main_arg2)))), ?_, ?_⟩
  · refine (θ_run _ _ _).mono (fun r h c => ?_) (KernelDw2RowIdeal.Value.run_blocks (F := Ideal) m g)
    obtain ⟨h0, rest⟩ := h c
    exact ⟨h0.trans (arr m c), rest⟩
  · refine (θ_run _ _ _).mono (fun r h c => ?_) (ReferenceDw2RowIdeal.Value.run (F := Ideal) m' g')
    obtain ⟨a0, a1, a2⟩ := hagree c
    obtain ⟨h0, rest⟩ := h c
    refine ⟨h0.trans ?_, rest⟩
    · rw [a0, a1, a2]
      exact eq_unc _ _ (res_apply _ _ _)

theorem reference_frame : quiescent_ReferenceDw2RowIdeal (hReferenceDw2RowIdeal := ReferenceDw2RowIdeal.Gen.facts) := fun m g _ =>
  (θ_run _ _ _).mono (fun r h => ⟨fun c => (h c).2, sem_eq_zero_of_no_sems rfl r.2⟩) (ReferenceDw2RowIdeal.Value.run (F := Ideal) m g)

theorem kernel_frame : quiescent_KernelDw2Row (hKernelDw2Row := KernelDw2Row.Gen.facts) := fun m g _ => KernelDw2Row.Gen.frame m g

theorem ideal_frame : quiescent_KernelDw2RowIdeal (hKernelDw2RowIdeal := KernelDw2RowIdeal.Gen.facts) := fun m g _ => KernelDw2RowIdeal.Gen.frame m g

end Cert.Ffn.Dw2Row

end
-- ==== Proof.ProjA.lean ====
/- The product with the recurrence's part of w_in: the array after the launch and the reference, by element. -/
module

public import proofs.«01_k».proof.Proof.Gen.KernelProjAIdeal.Value
public import proofs.«01_k».proof.Proof.Gen.KernelProjA
public import proofs.«01_k».proof.Proof.Gen.KernelProjA.Frame
public import proofs.«01_k».proof.Proof.Gen.ReferenceProjAIdeal.Run
public import proofs.«01_k».proof.Proof.Common
public import proofs.«01_k».proof.Defs

@[expose] public section

set_option maxRecDepth 16384

noncomputable section

namespace Cert.Ffn.ProjA

open Cert.Attn
open Idealize.ShloMosaic Idealize.ShloMosaic.TcCoe Idealize.ShloMosaic.Tactic Idealize.SL.Sem

/-- The product with the row of biases. -/
def val (a : Fin 2048 → Fin 1024 → EReal) (b : Fin 1024 → Fin 1024 → EReal) (r : Fin 1 → Fin 1024 → EReal) (i : Fin 2048) (j : Fin 1024) : EReal :=
  (∑ k, a i k * b k j) + r 0 j

section kernel

open KernelProjAIdeal KernelProjAIdeal.Gen
open Idealize.ShloMosaic.Pipeline (Dat Cfg Window BodyObligation cellOf)

theorem out_eq (x0 : Vec Ideal S512x1024 .bf16) (x1 : Vec Ideal S1024x1024 .bf16) (x2 : Vec Ideal S1x1024 .f32) : out0_3 x0 x1 x2 =
    unc (fun i j => (∑ k : Fin 1024, x0 (ix2 i k) * x1 (ix2 k j)) + x2 (ix2 0 j)) := by
  unfold out0_3
  rw [View.canon_unit_zero hz, View.ld_unit_zero hz, View.ld_unit_zero hz, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![t.val, 0] := by decide +kernel

/-- The blocks of a point, and their elements in the arrays. -/
def b0 (t : Fin cfg0.N) : Vec Ideal S512x1024 .bf16 := iblk m c 0 t
def b1 (t : Fin cfg0.N) : Vec Ideal S1024x1024 .bf16 := iblk m c 1 t
def b2 (t : Fin cfg0.N) : Vec Ideal S1x1024 .f32 := iblk m c 2 t

theorem b0_apply (t : Fin cfg0.N) (i : Fin 512) (k : Fin 1024) (I : Fin 2048) (hi : I.val = t.val * 512 + i.val) :
    b0 m c t (ix2 i k) = cur (m ((c.tc : Thread nD τ).loc main_arg0)) I k := by
  have e := index_0 t
  unfold cur b0
  blk_simp [iblk]
  refine congrArg (m ((c.tc : Thread nD τ).loc main_arg0)) ?_
  blk_ext [e, hi]

theorem b1_apply (t : Fin cfg0.N) (k : Fin 1024) (j : Fin 1024) (J : Fin 1024) (hj : J.val = j.val) :
    b1 m c t (ix2 k j) = cur (m ((c.tc : Thread nD τ).loc main_arg1)) k J := by
  have e := index_1 t
  unfold cur b1
  blk_simp [iblk]
  refine congrArg (m ((c.tc : Thread nD τ).loc main_arg1)) ?_
  blk_ext [e, hj]

theorem b2_apply (t : Fin cfg0.N) (j : Fin 1024) (J : Fin 1024) (hj : J.val = j.val) :
    b2 m c t (ix2 0 j) = cur (m ((c.tc : Thread nD τ).loc main_arg2)) 0 J := by
  have e := index_2 t
  unfold cur b2
  blk_simp [iblk]
  refine congrArg (m ((c.tc : Thread nD τ).loc main_arg2)) ?_
  blk_ext [e, hj]

/-- The array after the launch. -/
theorem arr : (dats m 0 c).arrAt 3 cfg0.N = unc (val (cur (m ((c.tc : Thread nD τ).loc main_arg0))) (cur (m ((c.tc : Thread nD τ).loc main_arg1))) (cur (m ((c.tc : Thread nD τ).loc main_arg2)))) := by
  have e := index_3
  refine (dats m 0 c).arrAt_eq_of_covers 3 _ (by decide +kernel) fun t hf y => ?_
  blk_simp [iblk]
  rw [after0_3]
  refine (congrFun (out_eq (b0 m c t) (b1 m c t) (b2 m c t)) _).trans ?_
  unfold unc val
  refine congrArg₂ (· + ·) (Finset.sum_congr rfl fun k _ => congrArg₂ (· * ·) (b0_apply m c t (y 0) k _ ?_) (b1_apply m c t k (y 1) _ ?_)) (b2_apply m c t (y 1) _ ?_)
  all_goals blk_simp [e]

end kernel

section reference
open ReferenceProjAIdeal ReferenceProjAIdeal.Gen
variable (A0 : FVec Ideal S2048x1024 .bf16) (A1 : FVec Ideal S1024x1024 .bf16) (A2 : FVec Ideal S1x1024 .f32)

def res : FVec Ideal S2048x1024 .f32 :=
  addf (Host.dotGeneral dot_S2048x1024_S1024x1024_S2048x1024_1_0_0_1_n_n none (extf .f32 A0 bitsLt_bf16_f32) (extf .f32 A1 bitsLt_bf16_f32)) (broadcastInDim S2048x1024 ![0, 1] bcast_S1x1024_S2048x1024_0_1 A2)

theorem res_apply (i : Fin 2048) (j : Fin 1024) : res A0 A1 A2 (ix2 i j) = val (cur A0) (cur A1) (cur A2) i j := by
  pointwise [res]
  rfl

end reference

/-! ## The claims -/

open KernelProjAIdeal in
theorem values : algebraic_KernelProjAIdeal_ReferenceProjAIdeal (hKernelProjAIdeal := KernelProjAIdeal.Gen.facts)
    (hReferenceProjAIdeal := ReferenceProjAIdeal.Gen.facts) := by
  intro m g m' g' _ hagree
  refine ⟨fun c => unc (val (cur (m ((c.tc : Thread nD τ).loc main_arg0))) (cur (m ((c.tc : Thread nD τ).loc main_arg1))) (cur (m ((c.tc : Thread nD τ).loc main_arg2)))), ?_, ?_⟩
  · refine (θ_run _ _ _).mono (fun r h c => ?_) (KernelProjAIdeal.Value.run_blocks (F := Ideal) m g)
    obtain ⟨h0, rest⟩ := h c
    exact ⟨h0.trans (arr m c), rest⟩
  · refine (θ_run _ _ _).mono (fun r h c => ?_) (ReferenceProjAIdeal.Value.run (F := Ideal) m' g')
    obtain ⟨a0, a1, a2⟩ := hagree c
    obtain ⟨h0, rest⟩ := h c
    refine ⟨h0.trans ?_, rest⟩
    · rw [a0, a1, a2]
      exact eq_unc _ _ (res_apply _ _ _)

theorem reference_frame : quiescent_ReferenceProjAIdeal (hReferenceProjAIdeal := ReferenceProjAIdeal.Gen.facts) := fun m g _ =>
  (θ_run _ _ _).mono (fun r h => ⟨fun c => (h c).2, sem_eq_zero_of_no_sems rfl r.2⟩) (ReferenceProjAIdeal.Value.run (F := Ideal) m g)

theorem kernel_frame : quiescent_KernelProjA (hKernelProjA := KernelProjA.Gen.facts) := fun m g _ => KernelProjA.Gen.frame m g

theorem ideal_frame : quiescent_KernelProjAIdeal (hKernelProjAIdeal := KernelProjAIdeal.Gen.facts) := fun m g _ => KernelProjAIdeal.Gen.frame m g

end Cert.Ffn.ProjA

end
-- ==== Proof.ProjB.lean ====
/- The product with the attention's part of w_in: the array after the launch and the reference, by element. -/
module

public import proofs.«01_k».proof.Proof.Gen.KernelProjBIdeal.Value
public import proofs.«01_k».proof.Proof.Gen.KernelProjB
public import proofs.«01_k».proof.Proof.Gen.KernelProjB.Frame
public import proofs.«01_k».proof.Proof.Gen.ReferenceProjBIdeal.Run
public import proofs.«01_k».proof.Proof.Common
public import proofs.«01_k».proof.Defs

@[expose] public section

set_option maxRecDepth 16384

noncomputable section

namespace Cert.Ffn.ProjB

open Cert.Attn
open Idealize.ShloMosaic Idealize.ShloMosaic.TcCoe Idealize.ShloMosaic.Tactic Idealize.SL.Sem

/-- The product with the row of biases. -/
def val (a : Fin 2048 → Fin 1024 → EReal) (b : Fin 1024 → Fin 768 → EReal) (r : Fin 1 → Fin 768 → EReal) (i : Fin 2048) (j : Fin 768) : EReal :=
  (∑ k, a i k * b k j) + r 0 j

section kernel

open KernelProjBIdeal KernelProjBIdeal.Gen
open Idealize.ShloMosaic.Pipeline (Dat Cfg Window BodyObligation cellOf)

theorem out_eq (x0 : Vec Ideal S512x1024 .bf16) (x1 : Vec Ideal S1024x768 .bf16) (x2 : Vec Ideal S1x768 .f32) : out0_3 x0 x1 x2 =
    unc (fun i j => (∑ k : Fin 1024, x0 (ix2 i k) * x1 (ix2 k j)) + x2 (ix2 0 j)) := by
  unfold out0_3
  rw [View.canon_unit_zero hz, View.ld_unit_zero hz, View.ld_unit_zero hz, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![t.val, 0] := by decide +kernel

/-- The blocks of a point, and their elements in the arrays. -/
def b0 (t : Fin cfg0.N) : Vec Ideal S512x1024 .bf16 := iblk m c 0 t
def b1 (t : Fin cfg0.N) : Vec Ideal S1024x768 .bf16 := iblk m c 1 t
def b2 (t : Fin cfg0.N) : Vec Ideal S1x768 .f32 := iblk m c 2 t

theorem b0_apply (t : Fin cfg0.N) (i : Fin 512) (k : Fin 1024) (I : Fin 2048) (hi : I.val = t.val * 512 + i.val) :
    b0 m c t (ix2 i k) = cur (m ((c.tc : Thread nD τ).loc main_arg0)) I k := by
  have e := index_0 t
  unfold cur b0
  blk_simp [iblk]
  refine congrArg (m ((c.tc : Thread nD τ).loc main_arg0)) ?_
  blk_ext [e, hi]

theorem b1_apply (t : Fin cfg0.N) (k : Fin 1024) (j : Fin 768) (J : Fin 768) (hj : J.val = j.val) :
    b1 m c t (ix2 k j) = cur (m ((c.tc : Thread nD τ).loc main_arg1)) k J := by
  have e := index_1 t
  unfold cur b1
  blk_simp [iblk]
  refine congrArg (m ((c.tc : Thread nD τ).loc main_arg1)) ?_
  blk_ext [e, hj]

theorem b2_apply (t : Fin cfg0.N) (j : Fin 768) (J : Fin 768) (hj : J.val = j.val) :
    b2 m c t (ix2 0 j) = cur (m ((c.tc : Thread nD τ).loc main_arg2)) 0 J := by
  have e := index_2 t
  unfold cur b2
  blk_simp [iblk]
  refine congrArg (m ((c.tc : Thread nD τ).loc main_arg2)) ?_
  blk_ext [e, hj]

/-- The array after the launch. -/
theorem arr : (dats m 0 c).arrAt 3 cfg0.N = unc (val (cur (m ((c.tc : Thread nD τ).loc main_arg0))) (cur (m ((c.tc : Thread nD τ).loc main_arg1))) (cur (m ((c.tc : Thread nD τ).loc main_arg2)))) := by
  have e := index_3
  refine (dats m 0 c).arrAt_eq_of_covers 3 _ (by decide +kernel) fun t hf y => ?_
  blk_simp [iblk]
  rw [after0_3]
  refine (congrFun (out_eq (b0 m c t) (b1 m c t) (b2 m c t)) _).trans ?_
  unfold unc val
  refine congrArg₂ (· + ·) (Finset.sum_congr rfl fun k _ => congrArg₂ (· * ·) (b0_apply m c t (y 0) k _ ?_) (b1_apply m c t k (y 1) _ ?_)) (b2_apply m c t (y 1) _ ?_)
  all_goals blk_simp [e]

end kernel

section reference
open ReferenceProjBIdeal ReferenceProjBIdeal.Gen
variable (A0 : FVec Ideal S2048x1024 .bf16) (A1 : FVec Ideal S1024x768 .bf16) (A2 : FVec Ideal S1x768 .f32)

def res : FVec Ideal S2048x768 .f32 :=
  addf (Host.dotGeneral dot_S2048x1024_S1024x768_S2048x768_1_0_0_1_n_n none (extf .f32 A0 bitsLt_bf16_f32) (extf .f32 A1 bitsLt_bf16_f32)) (broadcastInDim S2048x768 ![0, 1] bcast_S1x768_S2048x768_0_1 A2)

theorem res_apply (i : Fin 2048) (j : Fin 768) : res A0 A1 A2 (ix2 i j) = val (cur A0) (cur A1) (cur A2) i j := by
  pointwise [res]
  rfl

end reference

/-! ## The claims -/

open KernelProjBIdeal in
theorem values : algebraic_KernelProjBIdeal_ReferenceProjBIdeal (hKernelProjBIdeal := KernelProjBIdeal.Gen.facts)
    (hReferenceProjBIdeal := ReferenceProjBIdeal.Gen.facts) := by
  intro m g m' g' _ hagree
  refine ⟨fun c => unc (val (cur (m ((c.tc : Thread nD τ).loc main_arg0))) (cur (m ((c.tc : Thread nD τ).loc main_arg1))) (cur (m ((c.tc : Thread nD τ).loc main_arg2)))), ?_, ?_⟩
  · refine (θ_run _ _ _).mono (fun r h c => ?_) (KernelProjBIdeal.Value.run_blocks (F := Ideal) m g)
    obtain ⟨h0, rest⟩ := h c
    exact ⟨h0.trans (arr m c), rest⟩
  · refine (θ_run _ _ _).mono (fun r h c => ?_) (ReferenceProjBIdeal.Value.run (F := Ideal) m' g')
    obtain ⟨a0, a1, a2⟩ := hagree c
    obtain ⟨h0, rest⟩ := h c
    refine ⟨h0.trans ?_, rest⟩
    · rw [a0, a1, a2]
      exact eq_unc _ _ (res_apply _ _ _)

theorem reference_frame : quiescent_ReferenceProjBIdeal (hReferenceProjBIdeal := ReferenceProjBIdeal.Gen.facts) := fun m g _ =>
  (θ_run _ _ _).mono (fun r h => ⟨fun c => (h c).2, sem_eq_zero_of_no_sems rfl r.2⟩) (ReferenceProjBIdeal.Value.run (F := Ideal) m g)

theorem kernel_frame : quiescent_KernelProjB (hKernelProjB := KernelProjB.Gen.facts) := fun m g _ => KernelProjB.Gen.frame m g

theorem ideal_frame : quiescent_KernelProjBIdeal (hKernelProjBIdeal := KernelProjBIdeal.Gen.facts) := fun m g _ => KernelProjBIdeal.Gen.frame m g

end Cert.Ffn.ProjB

end
-- ==== Proof.ProjG.lean ====
/- The product with the gates' part of w_in: the array after the launch and the reference, by element. -/
module

public import proofs.«01_k».proof.Proof.Gen.KernelProjGIdeal.Value
public import proofs.«01_k».proof.Proof.Gen.KernelProjG
public import proofs.«01_k».proof.Proof.Gen.KernelProjG.Frame
public import proofs.«01_k».proof.Proof.Gen.ReferenceProjGIdeal.Run
public import proofs.«01_k».proof.Proof.Common
public import proofs.«01_k».proof.Defs

@[expose] public section

set_option maxRecDepth 16384

noncomputable section

namespace Cert.Ffn.ProjG

open Cert.Attn
open Idealize.ShloMosaic Idealize.ShloMosaic.TcCoe Idealize.ShloMosaic.Tactic Idealize.SL.Sem

/-- The product with the row of biases. -/
def val (a : Fin 2048 → Fin 1024 → EReal) (b : Fin 1024 → Fin 3072 → EReal) (r : Fin 1 → Fin 3072 → EReal) (i : Fin 2048) (j : Fin 3072) : EReal :=
  (∑ k, a i k * b k j) + r 0 j

section kernel

open KernelProjGIdeal KernelProjGIdeal.Gen
open Idealize.ShloMosaic.Pipeline (Dat Cfg Window BodyObligation cellOf)

theorem out_eq (x0 : Vec Ideal S512x1024 .bf16) (x1 : Vec Ideal S1024x1536 .bf16) (x2 : Vec Ideal S1x1536 .f32) : out0_3 x0 x1 x2 =
    unc (fun i j => (∑ k : Fin 1024, x0 (ix2 i k) * x1 (ix2 k j)) + x2 (ix2 0 j)) := by
  unfold out0_3
  rw [View.canon_unit_zero hz, View.ld_unit_zero hz, View.ld_unit_zero hz, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![t.val / 2, 0] := by decide +kernel
theorem index_1 : ∀ t : Fin cfg0.N, win0_1.index t = ![0, t.val % 2] := by decide +kernel
theorem index_2 : ∀ t : Fin cfg0.N, win0_2.index t = ![0, t.val % 2] := by decide +kernel
theorem index_3 : ∀ t : Fin cfg0.N, win0_3.index t = ![t.val / 2, t.val % 2] := by decide +kernel

/-- The blocks of a point, and their elements in the arrays. -/
def b0 (t : Fin cfg0.N) : Vec Ideal S512x1024 .bf16 := iblk m c 0 t
def b1 (t : Fin cfg0.N) : Vec Ideal S1024x1536 .bf16 := iblk m c 1 t
def b2 (t : Fin cfg0.N) : Vec Ideal S1x1536 .f32 := iblk m c 2 t

theorem b0_apply (t : Fin cfg0.N) (i : Fin 512) (k : Fin 1024) (I : Fin 2048) (hi : I.val = t.val / 2 * 512 + i.val) :
    b0 m c t (ix2 i k) = cur (m ((c.tc : Thread nD τ).loc main_arg0)) I k := by
  have e := index_0 t
  unfold cur b0
  blk_simp [iblk]
  refine congrArg (m ((c.tc : Thread nD τ).loc main_arg0)) ?_
  blk_ext [e, hi]

theorem b1_apply (t : Fin cfg0.N) (k : Fin 1024) (j : Fin 1536) (J : Fin 3072) (hj : J.val = t.val % 2 * 1536 + j.val) :
    b1 m c t (ix2 k j) = cur (m ((c.tc : Thread nD τ).loc main_arg1)) k J := by
  have e := index_1 t
  unfold cur b1
  blk_simp [iblk]
  refine congrArg (m ((c.tc : Thread nD τ).loc main_arg1)) ?_
  blk_ext [e, hj]

theorem b2_apply (t : Fin cfg0.N) (j : Fin 1536) (J : Fin 3072) (hj : J.val = t.val % 2 * 1536 + j.val) :
    b2 m c t (ix2 0 j) = cur (m ((c.tc : Thread nD τ).loc main_arg2)) 0 J := by
  have e := index_2 t
  unfold cur b2
  blk_simp [iblk]
  refine congrArg (m ((c.tc : Thread nD τ).loc main_arg2)) ?_
  blk_ext [e, hj]

/-- The array after the launch. -/
theorem arr : (dats m 0 c).arrAt 3 cfg0.N = unc (val (cur (m ((c.tc : Thread nD τ).loc main_arg0))) (cur (m ((c.tc : Thread nD τ).loc main_arg1))) (cur (m ((c.tc : Thread nD τ).loc main_arg2)))) := by
  have e := index_3
  refine (dats m 0 c).arrAt_eq_of_covers 3 _ (by decide +kernel) fun t hf y => ?_
  blk_simp [iblk]
  rw [after0_3]
  refine (congrFun (out_eq (b0 m c t) (b1 m c t) (b2 m c t)) _).trans ?_
  unfold unc val
  refine congrArg₂ (· + ·) (Finset.sum_congr rfl fun k _ => congrArg₂ (· * ·) (b0_apply m c t (y 0) k _ ?_) (b1_apply m c t k (y 1) _ ?_)) (b2_apply m c t (y 1) _ ?_)
  all_goals blk_simp [e]

end kernel

section reference
open ReferenceProjGIdeal ReferenceProjGIdeal.Gen
variable (A0 : FVec Ideal S2048x1024 .bf16) (A1 : FVec Ideal S1024x3072 .bf16) (A2 : FVec Ideal S1x3072 .f32)

def res : FVec Ideal S2048x3072 .f32 :=
  addf (Host.dotGeneral dot_S2048x1024_S1024x3072_S2048x3072_1_0_0_1_n_n none (extf .f32 A0 bitsLt_bf16_f32) (extf .f32 A1 bitsLt_bf16_f32)) (broadcastInDim S2048x3072 ![0, 1] bcast_S1x3072_S2048x3072_0_1 A2)

theorem res_apply (i : Fin 2048) (j : Fin 3072) : res A0 A1 A2 (ix2 i j) = val (cur A0) (cur A1) (cur A2) i j := by
  pointwise [res]
  rfl

end reference

/-! ## The claims -/

open KernelProjGIdeal in
theorem values : algebraic_KernelProjGIdeal_ReferenceProjGIdeal (hKernelProjGIdeal := KernelProjGIdeal.Gen.facts)
    (hReferenceProjGIdeal := ReferenceProjGIdeal.Gen.facts) := by
  intro m g m' g' _ hagree
  refine ⟨fun c => unc (val (cur (m ((c.tc : Thread nD τ).loc main_arg0))) (cur (m ((c.tc : Thread nD τ).loc main_arg1))) (cur (m ((c.tc : Thread nD τ).loc main_arg2)))), ?_, ?_⟩
  · refine (θ_run _ _ _).mono (fun r h c => ?_) (KernelProjGIdeal.Value.run_blocks (F := Ideal) m g)
    obtain ⟨h0, rest⟩ := h c
    exact ⟨h0.trans (arr m c), rest⟩
  · refine (θ_run _ _ _).mono (fun r h c => ?_) (ReferenceProjGIdeal.Value.run (F := Ideal) m' g')
    obtain ⟨a0, a1, a2⟩ := hagree c
    obtain ⟨h0, rest⟩ := h c
    refine ⟨h0.trans ?_, rest⟩
    · rw [a0, a1, a2]
      exact eq_unc _ _ (res_apply _ _ _)

theorem reference_frame : quiescent_ReferenceProjGIdeal (hReferenceProjGIdeal := ReferenceProjGIdeal.Gen.facts) := fun m g _ =>
  (θ_run _ _ _).mono (fun r h => ⟨fun c => (h c).2, sem_eq_zero_of_no_sems rfl r.2⟩) (ReferenceProjGIdeal.Value.run (F := Ideal) m g)

theorem kernel_frame : quiescent_KernelProjG (hKernelProjG := KernelProjG.Gen.facts) := fun m g _ => KernelProjG.Gen.frame m g

theorem ideal_frame : quiescent_KernelProjGIdeal (hKernelProjGIdeal := KernelProjGIdeal.Gen.facts) := fun m g _ => KernelProjGIdeal.Gen.frame m g

end Cert.Ffn.ProjG

end
-- ==== Proof.DwA.lean ====
/- The gradient of a part of w_in, of 1024 columns: the array after the launch and the reference, by element. -/
module

public import proofs.«01_k».proof.Proof.Gen.KernelDwAIdeal.Value
public import proofs.«01_k».proof.Proof.Gen.KernelDwA
public import proofs.«01_k».proof.Proof.Gen.KernelDwA.Frame
public import proofs.«01_k».proof.Proof.Gen.ReferenceDwAIdeal.Run
public import proofs.«01_k».proof.Proof.Common
public import proofs.«01_k».proof.Defs

@[expose] public section

set_option maxRecDepth 16384

noncomputable section

namespace Cert.Ffn.DwA

open Cert.Attn
open Idealize.ShloMosaic Idealize.ShloMosaic.TcCoe Idealize.ShloMosaic.Tactic Idealize.SL.Sem

/-- The product of the first, transposed, with the second. -/
def val (a : Fin 2048 → Fin 1024 → EReal) (b : Fin 2048 → Fin 1024 → EReal) (i : Fin 1024) (j : Fin 1024) : EReal :=
  ∑ k, a k i * b k j

section kernel

open KernelDwAIdeal KernelDwAIdeal.Gen
open Idealize.ShloMosaic.Pipeline (Dat Cfg Window BodyObligation cellOf)

theorem out_eq (x0 : Vec Ideal S2048x512 .bf16) (x1 : Vec Ideal S2048x1024 .bf16) : out0_2 x0 x1 =
    unc (fun i j => ∑ k : Fin 2048, x0 (ix2 k i) * x1 (ix2 k j)) := by
  unfold out0_2
  rw [View.canon_unit_zero hz, View.ld_unit_zero hz, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![0, t.val] := by decide +kernel
theorem index_1 : ∀ t : Fin cfg0.N, win0_1.index t = ![0, 0] := by decide +kernel
theorem index_2 : ∀ t : Fin cfg0.N, win0_2.index t = ![t.val, 0] := by decide +kernel

/-- The blocks of a point, and their elements in the arrays. -/
def b0 (t : Fin cfg0.N) : Vec Ideal S2048x512 .bf16 := iblk m c 0 t
def b1 (t : Fin cfg0.N) : Vec Ideal S2048x1024 .bf16 := iblk m c 1 t

theorem b0_apply (t : Fin cfg0.N) (k : Fin 2048) (i : Fin 512) (I : Fin 1024) (hi : I.val = t.val * 512 + i.val) :
    b0 m c t (ix2 k i) = cur (m ((c.tc : Thread nD τ).loc main_arg0)) k I := by
  have e := index_0 t
  unfold cur b0
  blk_simp [iblk]
  refine congrArg (m ((c.tc : Thread nD τ).loc main_arg0)) ?_
  blk_ext [e, hi]

theorem b1_apply (t : Fin cfg0.N) (k : Fin 2048) (j : Fin 1024) (J : Fin 1024) (hj : J.val = j.val) :
    b1 m c t (ix2 k j) = cur (m ((c.tc : Thread nD τ).loc main_arg1)) k J := by
  have e := index_1 t
  unfold cur b1
  blk_simp [iblk]
  refine congrArg (m ((c.tc : Thread nD τ).loc main_arg1)) ?_
  blk_ext [e, hj]

/-- The array after the launch. -/
theorem arr : (dats m 0 c).arrAt 2 cfg0.N = unc (val (cur (m ((c.tc : Thread nD τ).loc main_arg0))) (cur (m ((c.tc : Thread nD τ).loc main_arg1)))) := by
  have e := index_2
  refine (dats m 0 c).arrAt_eq_of_covers 2 _ (by decide +kernel) fun t hf y => ?_
  blk_simp [iblk]
  rw [after0_2]
  refine (congrFun (out_eq (b0 m c t) (b1 m c t)) _).trans ?_
  unfold unc val
  refine Finset.sum_congr rfl fun k _ => congrArg₂ (· * ·) (b0_apply m c t k (y 0) _ ?_) (b1_apply m c t k (y 1) _ ?_)
  all_goals blk_simp [e]

end kernel

section reference
open ReferenceDwAIdeal ReferenceDwAIdeal.Gen
variable (A0 : FVec Ideal S2048x1024 .bf16) (A1 : FVec Ideal S2048x1024 .bf16)

def res : FVec Ideal S1024x1024 .bf16 :=
  truncf .bf16 (transpose S1024x1024 [1, 0] (Host.dotGeneral dot_S2048x1024_S2048x1024_S1024x1024_0_0_1_1_n_n none (extf .f32 A1 bitsLt_bf16_f32) (extf .f32 A0 bitsLt_bf16_f32)) transposes_S1024x1024_S1024x1024_1_0) bitsLt_bf16_f32

theorem res_apply (i : Fin 1024) (j : Fin 1024) : res A0 A1 (ix2 i j) = val (cur A0) (cur A1) i j := by
  pointwise [res]
  unfold val cur
  exact Finset.sum_congr rfl fun k _ => mul_comm _ _

end reference

/-! ## The claims -/

open KernelDwAIdeal in
theorem values : algebraic_KernelDwAIdeal_ReferenceDwAIdeal (hKernelDwAIdeal := KernelDwAIdeal.Gen.facts)
    (hReferenceDwAIdeal := ReferenceDwAIdeal.Gen.facts) := by
  intro m g m' g' _ hagree
  refine ⟨fun c => unc (val (cur (m ((c.tc : Thread nD τ).loc main_arg0))) (cur (m ((c.tc : Thread nD τ).loc main_arg1)))), ?_, ?_⟩
  · refine (θ_run _ _ _).mono (fun r h c => ?_) (KernelDwAIdeal.Value.run_blocks (F := Ideal) m g)
    obtain ⟨h0, rest⟩ := h c
    exact ⟨h0.trans (arr m c), rest⟩
  · refine (θ_run _ _ _).mono (fun r h c => ?_) (ReferenceDwAIdeal.Value.run (F := Ideal) m' g')
    obtain ⟨a0, a1⟩ := hagree c
    obtain ⟨h0, rest⟩ := h c
    refine ⟨h0.trans ?_, rest⟩
    · rw [a0, a1]
      exact eq_unc _ _ (res_apply _ _)

theorem reference_frame : quiescent_ReferenceDwAIdeal (hReferenceDwAIdeal := ReferenceDwAIdeal.Gen.facts) := fun m g _ =>
  (θ_run _ _ _).mono (fun r h => ⟨fun c => (h c).2, sem_eq_zero_of_no_sems rfl r.2⟩) (ReferenceDwAIdeal.Value.run (F := Ideal) m g)

theorem kernel_frame : quiescent_KernelDwA (hKernelDwA := KernelDwA.Gen.facts) := fun m g _ => KernelDwA.Gen.frame m g

theorem ideal_frame : quiescent_KernelDwAIdeal (hKernelDwAIdeal := KernelDwAIdeal.Gen.facts) := fun m g _ => KernelDwAIdeal.Gen.frame m g

end Cert.Ffn.DwA

end
-- ==== Proof.DwB.lean ====
/- The gradient of a part of w_in, of 768 columns: the array after the launch and the reference, by element. -/
module

public import proofs.«01_k».proof.Proof.Gen.KernelDwBIdeal.Value
public import proofs.«01_k».proof.Proof.Gen.KernelDwB
public import proofs.«01_k».proof.Proof.Gen.KernelDwB.Frame
public import proofs.«01_k».proof.Proof.Gen.ReferenceDwBIdeal.Run
public import proofs.«01_k».proof.Proof.Common
public import proofs.«01_k».proof.Defs

@[expose] public section

set_option maxRecDepth 16384

noncomputable section

namespace Cert.Ffn.DwB

open Cert.Attn
open Idealize.ShloMosaic Idealize.ShloMosaic.TcCoe Idealize.ShloMosaic.Tactic Idealize.SL.Sem

/-- The product of the first, transposed, with the second. -/
def val (a : Fin 2048 → Fin 1024 → EReal) (b : Fin 2048 → Fin 768 → EReal) (i : Fin 1024) (j : Fin 768) : EReal :=
  ∑ k, a k i * b k j

section kernel

open KernelDwBIdeal KernelDwBIdeal.Gen
open Idealize.ShloMosaic.Pipeline (Dat Cfg Window BodyObligation cellOf)

theorem out_eq (x0 : Vec Ideal S2048x512 .bf16) (x1 : Vec Ideal S2048x768 .bf16) : out0_2 x0 x1 =
    unc (fun i j => ∑ k : Fin 2048, x0 (ix2 k i) * x1 (ix2 k j)) := by
  unfold out0_2
  rw [View.canon_unit_zero hz, View.ld_unit_zero hz, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![0, t.val] := by decide +kernel
theorem index_1 : ∀ t : Fin cfg0.N, win0_1.index t = ![0, 0] := by decide +kernel
theorem index_2 : ∀ t : Fin cfg0.N, win0_2.index t = ![t.val, 0] := by decide +kernel

/-- The blocks of a point, and their elements in the arrays. -/
def b0 (t : Fin cfg0.N) : Vec Ideal S2048x512 .bf16 := iblk m c 0 t
def b1 (t : Fin cfg0.N) : Vec Ideal S2048x768 .bf16 := iblk m c 1 t

theorem b0_apply (t : Fin cfg0.N) (k : Fin 2048) (i : Fin 512) (I : Fin 1024) (hi : I.val = t.val * 512 + i.val) :
    b0 m c t (ix2 k i) = cur (m ((c.tc : Thread nD τ).loc main_arg0)) k I := by
  have e := index_0 t
  unfold cur b0
  blk_simp [iblk]
  refine congrArg (m ((c.tc : Thread nD τ).loc main_arg0)) ?_
  blk_ext [e, hi]

theorem b1_apply (t : Fin cfg0.N) (k : Fin 2048) (j : Fin 768) (J : Fin 768) (hj : J.val = j.val) :
    b1 m c t (ix2 k j) = cur (m ((c.tc : Thread nD τ).loc main_arg1)) k J := by
  have e := index_1 t
  unfold cur b1
  blk_simp [iblk]
  refine congrArg (m ((c.tc : Thread nD τ).loc main_arg1)) ?_
  blk_ext [e, hj]

/-- The array after the launch. -/
theorem arr : (dats m 0 c).arrAt 2 cfg0.N = unc (val (cur (m ((c.tc : Thread nD τ).loc main_arg0))) (cur (m ((c.tc : Thread nD τ).loc main_arg1)))) := by
  have e := index_2
  refine (dats m 0 c).arrAt_eq_of_covers 2 _ (by decide +kernel) fun t hf y => ?_
  blk_simp [iblk]
  rw [after0_2]
  refine (congrFun (out_eq (b0 m c t) (b1 m c t)) _).trans ?_
  unfold unc val
  refine Finset.sum_congr rfl fun k _ => congrArg₂ (· * ·) (b0_apply m c t k (y 0) _ ?_) (b1_apply m c t k (y 1) _ ?_)
  all_goals blk_simp [e]

end kernel

section reference
open ReferenceDwBIdeal ReferenceDwBIdeal.Gen
variable (A0 : FVec Ideal S2048x1024 .bf16) (A1 : FVec Ideal S2048x768 .bf16)

def res : FVec Ideal S1024x768 .bf16 :=
  truncf .bf16 (transpose S1024x768 [1, 0] (Host.dotGeneral dot_S2048x768_S2048x1024_S768x1024_0_0_1_1_n_n none (extf .f32 A1 bitsLt_bf16_f32) (extf .f32 A0 bitsLt_bf16_f32)) transposes_S768x1024_S1024x768_1_0) bitsLt_bf16_f32

theorem res_apply (i : Fin 1024) (j : Fin 768) : res A0 A1 (ix2 i j) = val (cur A0) (cur A1) i j := by
  pointwise [res]
  unfold val cur
  exact Finset.sum_congr rfl fun k _ => mul_comm _ _

end reference

/-! ## The claims -/

open KernelDwBIdeal in
theorem values : algebraic_KernelDwBIdeal_ReferenceDwBIdeal (hKernelDwBIdeal := KernelDwBIdeal.Gen.facts)
    (hReferenceDwBIdeal := ReferenceDwBIdeal.Gen.facts) := by
  intro m g m' g' _ hagree
  refine ⟨fun c => unc (val (cur (m ((c.tc : Thread nD τ).loc main_arg0))) (cur (m ((c.tc : Thread nD τ).loc main_arg1)))), ?_, ?_⟩
  · refine (θ_run _ _ _).mono (fun r h c => ?_) (KernelDwBIdeal.Value.run_blocks (F := Ideal) m g)
    obtain ⟨h0, rest⟩ := h c
    exact ⟨h0.trans (arr m c), rest⟩
  · refine (θ_run _ _ _).mono (fun r h c => ?_) (ReferenceDwBIdeal.Value.run (F := Ideal) m' g')
    obtain ⟨a0, a1⟩ := hagree c
    obtain ⟨h0, rest⟩ := h c
    refine ⟨h0.trans ?_, rest⟩
    · rw [a0, a1]
      exact eq_unc _ _ (res_apply _ _)

theorem reference_frame : quiescent_ReferenceDwBIdeal (hReferenceDwBIdeal := ReferenceDwBIdeal.Gen.facts) := fun m g _ =>
  (θ_run _ _ _).mono (fun r h => ⟨fun c => (h c).2, sem_eq_zero_of_no_sems rfl r.2⟩) (ReferenceDwBIdeal.Value.run (F := Ideal) m g)

theorem kernel_frame : quiescent_KernelDwB (hKernelDwB := KernelDwB.Gen.facts) := fun m g _ => KernelDwB.Gen.frame m g

theorem ideal_frame : quiescent_KernelDwBIdeal (hKernelDwBIdeal := KernelDwBIdeal.Gen.facts) := fun m g _ => KernelDwBIdeal.Gen.frame m g

end Cert.Ffn.DwB

end
-- ==== Proof.DwG.lean ====
/- The gradient of a part of w_in, of 3072 columns: the array after the launch and the reference, by element. -/
module

public import proofs.«01_k».proof.Proof.Gen.KernelDwGIdeal.Value
public import proofs.«01_k».proof.Proof.Gen.KernelDwG
public import proofs.«01_k».proof.Proof.Gen.KernelDwG.Frame
public import proofs.«01_k».proof.Proof.Gen.ReferenceDwGIdeal.Run
public import proofs.«01_k».proof.Proof.Common
public import proofs.«01_k».proof.Defs

@[expose] public section

set_option maxRecDepth 16384

noncomputable section

namespace Cert.Ffn.DwG

open Cert.Attn
open Idealize.ShloMosaic Idealize.ShloMosaic.TcCoe Idealize.ShloMosaic.Tactic Idealize.SL.Sem

/-- The product of the first, transposed, with the second. -/
def val (a : Fin 2048 → Fin 1024 → EReal) (b : Fin 2048 → Fin 3072 → EReal) (i : Fin 1024) (j : Fin 3072) : EReal :=
  ∑ k, a k i * b k j

section kernel

open KernelDwGIdeal KernelDwGIdeal.Gen
open Idealize.ShloMosaic.Pipeline (Dat Cfg Window BodyObligation cellOf)

theorem out_eq (x0 : Vec Ideal S2048x512 .bf16) (x1 : Vec Ideal S2048x1536 .bf16) : out0_2 x0 x1 =
    unc (fun i j => ∑ k : Fin 2048, x0 (ix2 k i) * x1 (ix2 k j)) := by
  unfold out0_2
  rw [View.canon_unit_zero hz, View.ld_unit_zero hz, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![0, t.val / 2] := by decide +kernel
theorem index_1 : ∀ t : Fin cfg0.N, win0_1.index t = ![0, t.val % 2] := by decide +kernel
theorem index_2 : ∀ t : Fin cfg0.N, win0_2.index t = ![t.val / 2, t.val % 2] := by decide +kernel

/-- The blocks of a point, and their elements in the arrays. -/
def b0 (t : Fin cfg0.N) : Vec Ideal S2048x512 .bf16 := iblk m c 0 t
def b1 (t : Fin cfg0.N) : Vec Ideal S2048x1536 .bf16 := iblk m c 1 t

theorem b0_apply (t : Fin cfg0.N) (k : Fin 2048) (i : Fin 512) (I : Fin 1024) (hi : I.val = t.val / 2 * 512 + i.val) :
    b0 m c t (ix2 k i) = cur (m ((c.tc : Thread nD τ).loc main_arg0)) k I := by
  have e := index_0 t
  unfold cur b0
  blk_simp [iblk]
  refine congrArg (m ((c.tc : Thread nD τ).loc main_arg0)) ?_
  blk_ext [e, hi]

theorem b1_apply (t : Fin cfg0.N) (k : Fin 2048) (j : Fin 1536) (J : Fin 3072) (hj : J.val = t.val % 2 * 1536 + j.val) :
    b1 m c t (ix2 k j) = cur (m ((c.tc : Thread nD τ).loc main_arg1)) k J := by
  have e := index_1 t
  unfold cur b1
  blk_simp [iblk]
  refine congrArg (m ((c.tc : Thread nD τ).loc main_arg1)) ?_
  blk_ext [e, hj]

/-- The array after the launch. -/
theorem arr : (dats m 0 c).arrAt 2 cfg0.N = unc (val (cur (m ((c.tc : Thread nD τ).loc main_arg0))) (cur (m ((c.tc : Thread nD τ).loc main_arg1)))) := by
  have e := index_2
  refine (dats m 0 c).arrAt_eq_of_covers 2 _ (by decide +kernel) fun t hf y => ?_
  blk_simp [iblk]
  rw [after0_2]
  refine (congrFun (out_eq (b0 m c t) (b1 m c t)) _).trans ?_
  unfold unc val
  refine Finset.sum_congr rfl fun k _ => congrArg₂ (· * ·) (b0_apply m c t k (y 0) _ ?_) (b1_apply m c t k (y 1) _ ?_)
  all_goals blk_simp [e]

end kernel

section reference
open ReferenceDwGIdeal ReferenceDwGIdeal.Gen
variable (A0 : FVec Ideal S2048x1024 .bf16) (A1 : FVec Ideal S2048x3072 .bf16)

def res : FVec Ideal S1024x3072 .bf16 :=
  truncf .bf16 (transpose S1024x3072 [1, 0] (Host.dotGeneral dot_S2048x3072_S2048x1024_S3072x1024_0_0_1_1_n_n none (extf .f32 A1 bitsLt_bf16_f32) (extf .f32 A0 bitsLt_bf16_f32)) transposes_S3072x1024_S1024x3072_1_0) bitsLt_bf16_f32

theorem res_apply (i : Fin 1024) (j : Fin 3072) : res A0 A1 (ix2 i j) = val (cur A0) (cur A1) i j := by
  pointwise [res]
  unfold val cur
  exact Finset.sum_congr rfl fun k _ => mul_comm _ _

end reference

/-! ## The claims -/

open KernelDwGIdeal in
theorem values : algebraic_KernelDwGIdeal_ReferenceDwGIdeal (hKernelDwGIdeal := KernelDwGIdeal.Gen.facts)
    (hReferenceDwGIdeal := ReferenceDwGIdeal.Gen.facts) := by
  intro m g m' g' _ hagree
  refine ⟨fun c => unc (val (cur (m ((c.tc : Thread nD τ).loc main_arg0))) (cur (m ((c.tc : Thread nD τ).loc main_arg1)))), ?_, ?_⟩
  · refine (θ_run _ _ _).mono (fun r h c => ?_) (KernelDwGIdeal.Value.run_blocks (F := Ideal) m g)
    obtain ⟨h0, rest⟩ := h c
    exact ⟨h0.trans (arr m c), rest⟩
  · refine (θ_run _ _ _).mono (fun r h c => ?_) (ReferenceDwGIdeal.Value.run (F := Ideal) m' g')
    obtain ⟨a0, a1⟩ := hagree c
    obtain ⟨h0, rest⟩ := h c
    refine ⟨h0.trans ?_, rest⟩
    · rw [a0, a1]
      exact eq_unc _ _ (res_apply _ _)

theorem reference_frame : quiescent_ReferenceDwGIdeal (hReferenceDwGIdeal := ReferenceDwGIdeal.Gen.facts) := fun m g _ =>
  (θ_run _ _ _).mono (fun r h => ⟨fun c => (h c).2, sem_eq_zero_of_no_sems rfl r.2⟩) (ReferenceDwGIdeal.Value.run (F := Ideal) m g)

theorem kernel_frame : quiescent_KernelDwG (hKernelDwG := KernelDwG.Gen.facts) := fun m g _ => KernelDwG.Gen.frame m g

theorem ideal_frame : quiescent_KernelDwGIdeal (hKernelDwGIdeal := KernelDwGIdeal.Gen.facts) := fun m g _ => KernelDwGIdeal.Gen.frame m g

end Cert.Ffn.DwG

end
-- ==== Proof.DhA.lean ====
/- The gradient of the normed rows from the recurrence's part: the array after the launch and the reference, by element. -/
module

public import proofs.«01_k».proof.Proof.Gen.KernelDhAIdeal.Value
public import proofs.«01_k».proof.Proof.Gen.KernelDhA
public import proofs.«01_k».proof.Proof.Gen.KernelDhA.Frame
public import proofs.«01_k».proof.Proof.Gen.ReferenceDhAIdeal.Run
public import proofs.«01_k».proof.Proof.Common
public import proofs.«01_k».proof.Defs

@[expose] public section

set_option maxRecDepth 16384

noncomputable section

namespace Cert.Ffn.DhA

open Cert.Attn
open Idealize.ShloMosaic Idealize.ShloMosaic.TcCoe Idealize.ShloMosaic.Tactic Idealize.SL.Sem

/-- The product of the first with the second, transposed. -/
def val (a : Fin 2048 → Fin 1024 → EReal) (b : Fin 1024 → Fin 1024 → EReal) (i : Fin 2048) (j : Fin 1024) : EReal :=
  ∑ k, a i k * b j k

section kernel

open KernelDhAIdeal KernelDhAIdeal.Gen
open Idealize.ShloMosaic.Pipeline (Dat Cfg Window BodyObligation cellOf)

theorem out_eq (x0 : Vec Ideal S512x1024 .bf16) (x1 : Vec Ideal S1024x1024 .bf16) : out0_2 x0 x1 =
    unc (fun i j => ∑ k : Fin 1024, x0 (ix2 i k) * x1 (ix2 j k)) := by
  unfold out0_2
  rw [View.canon_unit_zero hz, View.ld_unit_zero hz, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel

/-- The blocks of a point, and their elements in the arrays. -/
def b0 (t : Fin cfg0.N) : Vec Ideal S512x1024 .bf16 := iblk m c 0 t
def b1 (t : Fin cfg0.N) : Vec Ideal S1024x1024 .bf16 := iblk m c 1 t

theorem b0_apply (t : Fin cfg0.N) (i : Fin 512) (k : Fin 1024) (I : Fin 2048) (hi : I.val = t.val * 512 + i.val) :
    b0 m c t (ix2 i k) = cur (m ((c.tc : Thread nD τ).loc main_arg0)) I k := by
  have e := index_0 t
  unfold cur b0
  blk_simp [iblk]
  refine congrArg (m ((c.tc : Thread nD τ).loc main_arg0)) ?_
  blk_ext [e, hi]

theorem b1_apply (t : Fin cfg0.N) (j : Fin 1024) (k : Fin 1024) (J : Fin 1024) (hj : J.val = j.val) :
    b1 m c t (ix2 j k) = cur (m ((c.tc : Thread nD τ).loc main_arg1)) J k := by
  have e := index_1 t
  unfold cur b1
  blk_simp [iblk]
  refine congrArg (m ((c.tc : Thread nD τ).loc main_arg1)) ?_
  blk_ext [e, hj]

/-- The array after the launch. -/
theorem arr : (dats m 0 c).arrAt 2 cfg0.N = unc (val (cur (m ((c.tc : Thread nD τ).loc main_arg0))) (cur (m ((c.tc : Thread nD τ).loc main_arg1)))) := by
  have e := index_2
  refine (dats m 0 c).arrAt_eq_of_covers 2 _ (by decide +kernel) fun t hf y => ?_
  blk_simp [iblk]
  rw [after0_2]
  refine (congrFun (out_eq (b0 m c t) (b1 m c t)) _).trans ?_
  unfold unc val
  refine Finset.sum_congr rfl fun k _ => congrArg₂ (· * ·) (b0_apply m c t (y 0) k _ ?_) (b1_apply m c t (y 1) k _ ?_)
  all_goals blk_simp [e]

end kernel

section reference
open ReferenceDhAIdeal ReferenceDhAIdeal.Gen
variable (A0 : FVec Ideal S2048x1024 .bf16) (A1 : FVec Ideal S1024x1024 .bf16)

def res : FVec Ideal S2048x1024 .f32 :=
  Host.dotGeneral dot_S2048x1024_S1024x1024_S2048x1024_1_1_0_0_n_n none (extf .f32 A0 bitsLt_bf16_f32) (extf .f32 A1 bitsLt_bf16_f32)

theorem res_apply (i : Fin 2048) (j : Fin 1024) : res A0 A1 (ix2 i j) = val (cur A0) (cur A1) i j := by
  pointwise [res]
  rfl

end reference

/-! ## The claims -/

open KernelDhAIdeal in
theorem values : algebraic_KernelDhAIdeal_ReferenceDhAIdeal (hKernelDhAIdeal := KernelDhAIdeal.Gen.facts)
    (hReferenceDhAIdeal := ReferenceDhAIdeal.Gen.facts) := by
  intro m g m' g' _ hagree
  refine ⟨fun c => unc (val (cur (m ((c.tc : Thread nD τ).loc main_arg0))) (cur (m ((c.tc : Thread nD τ).loc main_arg1)))), ?_, ?_⟩
  · refine (θ_run _ _ _).mono (fun r h c => ?_) (KernelDhAIdeal.Value.run_blocks (F := Ideal) m g)
    obtain ⟨h0, rest⟩ := h c
    exact ⟨h0.trans (arr m c), rest⟩
  · refine (θ_run _ _ _).mono (fun r h c => ?_) (ReferenceDhAIdeal.Value.run (F := Ideal) m' g')
    obtain ⟨a0, a1⟩ := hagree c
    obtain ⟨h0, rest⟩ := h c
    refine ⟨h0.trans ?_, rest⟩
    · rw [a0, a1]
      exact eq_unc _ _ (res_apply _ _)

theorem reference_frame : quiescent_ReferenceDhAIdeal (hReferenceDhAIdeal := ReferenceDhAIdeal.Gen.facts) := fun m g _ =>
  (θ_run _ _ _).mono (fun r h => ⟨fun c => (h c).2, sem_eq_zero_of_no_sems rfl r.2⟩) (ReferenceDhAIdeal.Value.run (F := Ideal) m g)

theorem kernel_frame : quiescent_KernelDhA (hKernelDhA := KernelDhA.Gen.facts) := fun m g _ => KernelDhA.Gen.frame m g

theorem ideal_frame : quiescent_KernelDhAIdeal (hKernelDhAIdeal := KernelDhAIdeal.Gen.facts) := fun m g _ => KernelDhAIdeal.Gen.frame m g

end Cert.Ffn.DhA

end
-- ==== Proof.DhB.lean ====
/- The gradient of the normed rows through a part of w_in, of 768 columns: the array after the launch and the reference, by element. -/
module

public import proofs.«01_k».proof.Proof.Gen.KernelDhBIdeal.Value
public import proofs.«01_k».proof.Proof.Gen.KernelDhB
public import proofs.«01_k».proof.Proof.Gen.KernelDhB.Frame
public import proofs.«01_k».proof.Proof.Gen.ReferenceDhBIdeal.Run
public import proofs.«01_k».proof.Proof.Common
public import proofs.«01_k».proof.Defs

@[expose] public section

set_option maxRecDepth 16384

noncomputable section

namespace Cert.Ffn.DhB

open Cert.Attn
open Idealize.ShloMosaic Idealize.ShloMosaic.TcCoe Idealize.ShloMosaic.Tactic Idealize.SL.Sem

/-- The product of the first with the second, transposed, and the gradient so far. -/
def val (a : Fin 2048 → Fin 768 → EReal) (b : Fin 1024 → Fin 768 → EReal) (r : Fin 2048 → Fin 1024 → EReal) (i : Fin 2048) (j : Fin 1024) : EReal :=
  (∑ k, a i k * b j k) + r i j

section kernel

open KernelDhBIdeal KernelDhBIdeal.Gen
open Idealize.ShloMosaic.Pipeline (Dat Cfg Window BodyObligation cellOf)

theorem out_eq (x0 : Vec Ideal S512x768 .bf16) (x1 : Vec Ideal S1024x768 .bf16) (x2 : Vec Ideal S512x1024 .f32) : out0_3 x0 x1 x2 =
    unc (fun i j => (∑ k : Fin 768, x0 (ix2 i k) * x1 (ix2 j k)) + x2 (ix2 i j)) := by
  unfold out0_3
  rw [View.canon_unit_zero hz, View.ld_unit_zero hz, View.ld_unit_zero hz, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel
theorem index_3 : ∀ t : Fin cfg0.N, win0_3.index t = ![t.val, 0] := by decide +kernel

/-- The blocks of a point, and their elements in the arrays. -/
def b0 (t : Fin cfg0.N) : Vec Ideal S512x768 .bf16 := iblk m c 0 t
def b1 (t : Fin cfg0.N) : Vec Ideal S1024x768 .bf16 := iblk m c 1 t
def b2 (t : Fin cfg0.N) : Vec Ideal S512x1024 .f32 := iblk m c 2 t

theorem b0_apply (t : Fin cfg0.N) (i : Fin 512) (k : Fin 768) (I : Fin 2048) (hi : I.val = t.val * 512 + i.val) :
    b0 m c t (ix2 i k) = cur (m ((c.tc : Thread nD τ).loc main_arg0)) I k := by
  have e := index_0 t
  unfold cur b0
  blk_simp [iblk]
  refine congrArg (m ((c.tc : Thread nD τ).loc main_arg0)) ?_
  blk_ext [e, hi]

theorem b1_apply (t : Fin cfg0.N) (j : Fin 1024) (k : Fin 768) (J : Fin 1024) (hj : J.val = j.val) :
    b1 m c t (ix2 j k) = cur (m ((c.tc : Thread nD τ).loc main_arg1)) J k := by
  have e := index_1 t
  unfold cur b1
  blk_simp [iblk]
  refine congrArg (m ((c.tc : Thread nD τ).loc main_arg1)) ?_
  blk_ext [e, hj]

theorem b2_apply (t : Fin cfg0.N) (i : Fin 512) (j : Fin 1024) (I : Fin 2048) (J : Fin 1024) (hi : I.val = t.val * 512 + i.val) (hj : J.val = j.val) :
    b2 m c t (ix2 i j) = cur (m ((c.tc : Thread nD τ).loc main_arg2)) I J := by
  have e := index_2 t
  unfold cur b2
  blk_simp [iblk]
  refine congrArg (m ((c.tc : Thread nD τ).loc main_arg2)) ?_
  blk_ext [e, hi, hj]

/-- The array after the launch. -/
theorem arr : (dats m 0 c).arrAt 3 cfg0.N = unc (val (cur (m ((c.tc : Thread nD τ).loc main_arg0))) (cur (m ((c.tc : Thread nD τ).loc main_arg1))) (cur (m ((c.tc : Thread nD τ).loc main_arg2)))) := by
  have e := index_3
  refine (dats m 0 c).arrAt_eq_of_covers 3 _ (by decide +kernel) fun t hf y => ?_
  blk_simp [iblk]
  rw [after0_3]
  refine (congrFun (out_eq (b0 m c t) (b1 m c t) (b2 m c t)) _).trans ?_
  unfold unc val
  refine congrArg₂ (· + ·) (Finset.sum_congr rfl fun k _ => congrArg₂ (· * ·) (b0_apply m c t (y 0) k _ ?_) (b1_apply m c t (y 1) k _ ?_)) (b2_apply m c t (y 0) (y 1) _ _ ?_ ?_)
  all_goals blk_simp [e]

end kernel

section reference
open ReferenceDhBIdeal ReferenceDhBIdeal.Gen
variable (A0 : FVec Ideal S2048x768 .bf16) (A1 : FVec Ideal S1024x768 .bf16) (A2 : FVec Ideal S2048x1024 .f32)

def res : FVec Ideal S2048x1024 .f32 :=
  addf A2 (Host.dotGeneral dot_S2048x768_S1024x768_S2048x1024_1_1_0_0_n_n none (extf .f32 A0 bitsLt_bf16_f32) (extf .f32 A1 bitsLt_bf16_f32))

theorem res_apply (i : Fin 2048) (j : Fin 1024) : res A0 A1 A2 (ix2 i j) = val (cur A0) (cur A1) (cur A2) i j := by
  pointwise [res]
  exact add_comm _ _

end reference

/-! ## The claims -/

open KernelDhBIdeal in
theorem values : algebraic_KernelDhBIdeal_ReferenceDhBIdeal (hKernelDhBIdeal := KernelDhBIdeal.Gen.facts)
    (hReferenceDhBIdeal := ReferenceDhBIdeal.Gen.facts) := by
  intro m g m' g' _ hagree
  refine ⟨fun c => unc (val (cur (m ((c.tc : Thread nD τ).loc main_arg0))) (cur (m ((c.tc : Thread nD τ).loc main_arg1))) (cur (m ((c.tc : Thread nD τ).loc main_arg2)))), ?_, ?_⟩
  · refine (θ_run _ _ _).mono (fun r h c => ?_) (KernelDhBIdeal.Value.run_blocks (F := Ideal) m g)
    obtain ⟨h0, rest⟩ := h c
    exact ⟨h0.trans (arr m c), rest⟩
  · refine (θ_run _ _ _).mono (fun r h c => ?_) (ReferenceDhBIdeal.Value.run (F := Ideal) m' g')
    obtain ⟨a0, a1, a2⟩ := hagree c
    obtain ⟨h0, rest⟩ := h c
    refine ⟨h0.trans ?_, rest⟩
    · rw [a0, a1, a2]
      exact eq_unc _ _ (res_apply _ _ _)

theorem reference_frame : quiescent_ReferenceDhBIdeal (hReferenceDhBIdeal := ReferenceDhBIdeal.Gen.facts) := fun m g _ =>
  (θ_run _ _ _).mono (fun r h => ⟨fun c => (h c).2, sem_eq_zero_of_no_sems rfl r.2⟩) (ReferenceDhBIdeal.Value.run (F := Ideal) m g)

theorem kernel_frame : quiescent_KernelDhB (hKernelDhB := KernelDhB.Gen.facts) := fun m g _ => KernelDhB.Gen.frame m g

theorem ideal_frame : quiescent_KernelDhBIdeal (hKernelDhBIdeal := KernelDhBIdeal.Gen.facts) := fun m g _ => KernelDhBIdeal.Gen.frame m g

end Cert.Ffn.DhB

end
-- ==== Proof.DhC.lean ====
/- The gradient of the normed rows through a part of w_in, of 1024 columns: the array after the launch and the reference, by element. -/
module

public import proofs.«01_k».proof.Proof.Gen.KernelDhCIdeal.Value
public import proofs.«01_k».proof.Proof.Gen.KernelDhC
public import proofs.«01_k».proof.Proof.Gen.KernelDhC.Frame
public import proofs.«01_k».proof.Proof.Gen.ReferenceDhCIdeal.Run
public import proofs.«01_k».proof.Proof.Common
public import proofs.«01_k».proof.Defs

@[expose] public section

set_option maxRecDepth 16384

noncomputable section

namespace Cert.Ffn.DhC

open Cert.Attn
open Idealize.ShloMosaic Idealize.ShloMosaic.TcCoe Idealize.ShloMosaic.Tactic Idealize.SL.Sem

/-- The product of the first with the second, transposed, and the gradient so far. -/
def val (a : Fin 2048 → Fin 1024 → EReal) (b : Fin 1024 → Fin 1024 → EReal) (r : Fin 2048 → Fin 1024 → EReal) (i : Fin 2048) (j : Fin 1024) : EReal :=
  (∑ k, a i k * b j k) + r i j

section kernel

open KernelDhCIdeal KernelDhCIdeal.Gen
open Idealize.ShloMosaic.Pipeline (Dat Cfg Window BodyObligation cellOf)

theorem out_eq (x0 : Vec Ideal S512x1024 .bf16) (x1 : Vec Ideal S1024x1024 .bf16) (x2 : Vec Ideal S512x1024 .f32) : out0_3 x0 x1 x2 =
    unc (fun i j => (∑ k : Fin 1024, x0 (ix2 i k) * x1 (ix2 j k)) + x2 (ix2 i j)) := by
  unfold out0_3
  rw [View.canon_unit_zero hz, View.ld_unit_zero hz, View.ld_unit_zero hz, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel
theorem index_3 : ∀ t : Fin cfg0.N, win0_3.index t = ![t.val, 0] := by decide +kernel

/-- The blocks of a point, and their elements in the arrays. -/
def b0 (t : Fin cfg0.N) : Vec Ideal S512x1024 .bf16 := iblk m c 0 t
def b1 (t : Fin cfg0.N) : Vec Ideal S1024x1024 .bf16 := iblk m c 1 t
def b2 (t : Fin cfg0.N) : Vec Ideal S512x1024 .f32 := iblk m c 2 t

theorem b0_apply (t : Fin cfg0.N) (i : Fin 512) (k : Fin 1024) (I : Fin 2048) (hi : I.val = t.val * 512 + i.val) :
    b0 m c t (ix2 i k) = cur (m ((c.tc : Thread nD τ).loc main_arg0)) I k := by
  have e := index_0 t
  unfold cur b0
  blk_simp [iblk]
  refine congrArg (m ((c.tc : Thread nD τ).loc main_arg0)) ?_
  blk_ext [e, hi]

theorem b1_apply (t : Fin cfg0.N) (j : Fin 1024) (k : Fin 1024) (J : Fin 1024) (hj : J.val = j.val) :
    b1 m c t (ix2 j k) = cur (m ((c.tc : Thread nD τ).loc main_arg1)) J k := by
  have e := index_1 t
  unfold cur b1
  blk_simp [iblk]
  refine congrArg (m ((c.tc : Thread nD τ).loc main_arg1)) ?_
  blk_ext [e, hj]

theorem b2_apply (t : Fin cfg0.N) (i : Fin 512) (j : Fin 1024) (I : Fin 2048) (J : Fin 1024) (hi : I.val = t.val * 512 + i.val) (hj : J.val = j.val) :
    b2 m c t (ix2 i j) = cur (m ((c.tc : Thread nD τ).loc main_arg2)) I J := by
  have e := index_2 t
  unfold cur b2
  blk_simp [iblk]
  refine congrArg (m ((c.tc : Thread nD τ).loc main_arg2)) ?_
  blk_ext [e, hi, hj]

/-- The array after the launch. -/
theorem arr : (dats m 0 c).arrAt 3 cfg0.N = unc (val (cur (m ((c.tc : Thread nD τ).loc main_arg0))) (cur (m ((c.tc : Thread nD τ).loc main_arg1))) (cur (m ((c.tc : Thread nD τ).loc main_arg2)))) := by
  have e := index_3
  refine (dats m 0 c).arrAt_eq_of_covers 3 _ (by decide +kernel) fun t hf y => ?_
  blk_simp [iblk]
  rw [after0_3]
  refine (congrFun (out_eq (b0 m c t) (b1 m c t) (b2 m c t)) _).trans ?_
  unfold unc val
  refine congrArg₂ (· + ·) (Finset.sum_congr rfl fun k _ => congrArg₂ (· * ·) (b0_apply m c t (y 0) k _ ?_) (b1_apply m c t (y 1) k _ ?_)) (b2_apply m c t (y 0) (y 1) _ _ ?_ ?_)
  all_goals blk_simp [e]

end kernel

section reference
open ReferenceDhCIdeal ReferenceDhCIdeal.Gen
variable (A0 : FVec Ideal S2048x1024 .bf16) (A1 : FVec Ideal S1024x1024 .bf16) (A2 : FVec Ideal S2048x1024 .f32)

def res : FVec Ideal S2048x1024 .f32 :=
  addf A2 (Host.dotGeneral dot_S2048x1024_S1024x1024_S2048x1024_1_1_0_0_n_n none (extf .f32 A0 bitsLt_bf16_f32) (extf .f32 A1 bitsLt_bf16_f32))

theorem res_apply (i : Fin 2048) (j : Fin 1024) : res A0 A1 A2 (ix2 i j) = val (cur A0) (cur A1) (cur A2) i j := by
  pointwise [res]
  exact add_comm _ _

end reference

/-! ## The claims -/

open KernelDhCIdeal in
theorem values : algebraic_KernelDhCIdeal_ReferenceDhCIdeal (hKernelDhCIdeal := KernelDhCIdeal.Gen.facts)
    (hReferenceDhCIdeal := ReferenceDhCIdeal.Gen.facts) := by
  intro m g m' g' _ hagree
  refine ⟨fun c => unc (val (cur (m ((c.tc : Thread nD τ).loc main_arg0))) (cur (m ((c.tc : Thread nD τ).loc main_arg1))) (cur (m ((c.tc : Thread nD τ).loc main_arg2)))), ?_, ?_⟩
  · refine (θ_run _ _ _).mono (fun r h c => ?_) (KernelDhCIdeal.Value.run_blocks (F := Ideal) m g)
    obtain ⟨h0, rest⟩ := h c
    exact ⟨h0.trans (arr m c), rest⟩
  · refine (θ_run _ _ _).mono (fun r h c => ?_) (ReferenceDhCIdeal.Value.run (F := Ideal) m' g')
    obtain ⟨a0, a1, a2⟩ := hagree c
    obtain ⟨h0, rest⟩ := h c
    refine ⟨h0.trans ?_, rest⟩
    · rw [a0, a1, a2]
      exact eq_unc _ _ (res_apply _ _ _)

theorem reference_frame : quiescent_ReferenceDhCIdeal (hReferenceDhCIdeal := ReferenceDhCIdeal.Gen.facts) := fun m g _ =>
  (θ_run _ _ _).mono (fun r h => ⟨fun c => (h c).2, sem_eq_zero_of_no_sems rfl r.2⟩) (ReferenceDhCIdeal.Value.run (F := Ideal) m g)

theorem kernel_frame : quiescent_KernelDhC (hKernelDhC := KernelDhC.Gen.facts) := fun m g _ => KernelDhC.Gen.frame m g

theorem ideal_frame : quiescent_KernelDhCIdeal (hKernelDhCIdeal := KernelDhCIdeal.Gen.facts) := fun m g _ => KernelDhCIdeal.Gen.frame m g

end Cert.Ffn.DhC

end
-- ==== Proof.DhG.lean ====
/- The gradient of the normed rows through a part of w_in, of 3072 columns: the array after the launch and the reference, by element. -/
module

public import proofs.«01_k».proof.Proof.Gen.KernelDhGIdeal.Value
public import proofs.«01_k».proof.Proof.Gen.KernelDhG
public import proofs.«01_k».proof.Proof.Gen.KernelDhG.Frame
public import proofs.«01_k».proof.Proof.Gen.ReferenceDhGIdeal.Run
public import proofs.«01_k».proof.Proof.Common
public import proofs.«01_k».proof.Defs

@[expose] public section

set_option maxRecDepth 16384

noncomputable section

namespace Cert.Ffn.DhG

open Cert.Attn
open Idealize.ShloMosaic Idealize.ShloMosaic.TcCoe Idealize.ShloMosaic.Tactic Idealize.SL.Sem

/-- The product of the first with the second, transposed, and the gradient so far. -/
def val (a : Fin 2048 → Fin 3072 → EReal) (b : Fin 1024 → Fin 3072 → EReal) (r : Fin 2048 → Fin 1024 → EReal) (i : Fin 2048) (j : Fin 1024) : EReal :=
  (∑ k, a i k * b j k) + r i j

section kernel

open KernelDhGIdeal KernelDhGIdeal.Gen
open Idealize.ShloMosaic.Pipeline (Dat Cfg Window BodyObligation cellOf)

theorem out_eq (x0 : Vec Ideal S512x3072 .bf16) (x1 : Vec Ideal S1024x3072 .bf16) (x2 : Vec Ideal S512x1024 .f32) : out0_3 x0 x1 x2 =
    unc (fun i j => (∑ k : Fin 3072, x0 (ix2 i k) * x1 (ix2 j k)) + x2 (ix2 i j)) := by
  unfold out0_3
  rw [View.canon_unit_zero hz, View.ld_unit_zero hz, View.ld_unit_zero hz, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel
theorem index_3 : ∀ t : Fin cfg0.N, win0_3.index t = ![t.val, 0] := by decide +kernel

/-- The blocks of a point, and their elements in the arrays. -/
def b0 (t : Fin cfg0.N) : Vec Ideal S512x3072 .bf16 := iblk m c 0 t
def b1 (t : Fin cfg0.N) : Vec Ideal S1024x3072 .bf16 := iblk m c 1 t
def b2 (t : Fin cfg0.N) : Vec Ideal S512x1024 .f32 := iblk m c 2 t

theorem b0_apply (t : Fin cfg0.N) (i : Fin 512) (k : Fin 3072) (I : Fin 2048) (hi : I.val = t.val * 512 + i.val) :
    b0 m c t (ix2 i k) = cur (m ((c.tc : Thread nD τ).loc main_arg0)) I k := by
  have e := index_0 t
  unfold cur b0
  blk_simp [iblk]
  refine congrArg (m ((c.tc : Thread nD τ).loc main_arg0)) ?_
  blk_ext [e, hi]

theorem b1_apply (t : Fin cfg0.N) (j : Fin 1024) (k : Fin 3072) (J : Fin 1024) (hj : J.val = j.val) :
    b1 m c t (ix2 j k) = cur (m ((c.tc : Thread nD τ).loc main_arg1)) J k := by
  have e := index_1 t
  unfold cur b1
  blk_simp [iblk]
  refine congrArg (m ((c.tc : Thread nD τ).loc main_arg1)) ?_
  blk_ext [e, hj]

theorem b2_apply (t : Fin cfg0.N) (i : Fin 512) (j : Fin 1024) (I : Fin 2048) (J : Fin 1024) (hi : I.val = t.val * 512 + i.val) (hj : J.val = j.val) :
    b2 m c t (ix2 i j) = cur (m ((c.tc : Thread nD τ).loc main_arg2)) I J := by
  have e := index_2 t
  unfold cur b2
  blk_simp [iblk]
  refine congrArg (m ((c.tc : Thread nD τ).loc main_arg2)) ?_
  blk_ext [e, hi, hj]

/-- The array after the launch. -/
theorem arr : (dats m 0 c).arrAt 3 cfg0.N = unc (val (cur (m ((c.tc : Thread nD τ).loc main_arg0))) (cur (m ((c.tc : Thread nD τ).loc main_arg1))) (cur (m ((c.tc : Thread nD τ).loc main_arg2)))) := by
  have e := index_3
  refine (dats m 0 c).arrAt_eq_of_covers 3 _ (by decide +kernel) fun t hf y => ?_
  blk_simp [iblk]
  rw [after0_3]
  refine (congrFun (out_eq (b0 m c t) (b1 m c t) (b2 m c t)) _).trans ?_
  unfold unc val
  refine congrArg₂ (· + ·) (Finset.sum_congr rfl fun k _ => congrArg₂ (· * ·) (b0_apply m c t (y 0) k _ ?_) (b1_apply m c t (y 1) k _ ?_)) (b2_apply m c t (y 0) (y 1) _ _ ?_ ?_)
  all_goals blk_simp [e]

end kernel

section reference
open ReferenceDhGIdeal ReferenceDhGIdeal.Gen
variable (A0 : FVec Ideal S2048x3072 .bf16) (A1 : FVec Ideal S1024x3072 .bf16) (A2 : FVec Ideal S2048x1024 .f32)

def res : FVec Ideal S2048x1024 .f32 :=
  addf A2 (Host.dotGeneral dot_S2048x3072_S1024x3072_S2048x1024_1_1_0_0_n_n none (extf .f32 A0 bitsLt_bf16_f32) (extf .f32 A1 bitsLt_bf16_f32))

theorem res_apply (i : Fin 2048) (j : Fin 1024) : res A0 A1 A2 (ix2 i j) = val (cur A0) (cur A1) (cur A2) i j := by
  pointwise [res]
  exact add_comm _ _

end reference

/-! ## The claims -/

open KernelDhGIdeal in
theorem values : algebraic_KernelDhGIdeal_ReferenceDhGIdeal (hKernelDhGIdeal := KernelDhGIdeal.Gen.facts)
    (hReferenceDhGIdeal := ReferenceDhGIdeal.Gen.facts) := by
  intro m g m' g' _ hagree
  refine ⟨fun c => unc (val (cur (m ((c.tc : Thread nD τ).loc main_arg0))) (cur (m ((c.tc : Thread nD τ).loc main_arg1))) (cur (m ((c.tc : Thread nD τ).loc main_arg2)))), ?_, ?_⟩
  · refine (θ_run _ _ _).mono (fun r h c => ?_) (KernelDhGIdeal.Value.run_blocks (F := Ideal) m g)
    obtain ⟨h0, rest⟩ := h c
    exact ⟨h0.trans (arr m c), rest⟩
  · refine (θ_run _ _ _).mono (fun r h c => ?_) (ReferenceDhGIdeal.Value.run (F := Ideal) m' g')
    obtain ⟨a0, a1, a2⟩ := hagree c
    obtain ⟨h0, rest⟩ := h c
    refine ⟨h0.trans ?_, rest⟩
    · rw [a0, a1, a2]
      exact eq_unc _ _ (res_apply _ _ _)

theorem reference_frame : quiescent_ReferenceDhGIdeal (hReferenceDhGIdeal := ReferenceDhGIdeal.Gen.facts) := fun m g _ =>
  (θ_run _ _ _).mono (fun r h => ⟨fun c => (h c).2, sem_eq_zero_of_no_sems rfl r.2⟩) (ReferenceDhGIdeal.Value.run (F := Ideal) m g)

theorem kernel_frame : quiescent_KernelDhG (hKernelDhG := KernelDhG.Gen.facts) := fun m g _ => KernelDhG.Gen.frame m g

theorem ideal_frame : quiescent_KernelDhGIdeal (hKernelDhGIdeal := KernelDhGIdeal.Gen.facts) := fun m g _ => KernelDhGIdeal.Gen.frame m g

end Cert.Ffn.DhG

end
-- ==== Proof.MixOut.lean ====
/- The product with w_out and the residual: the array after the launch and the reference, by element. -/
module

public import proofs.«01_k».proof.Proof.Gen.KernelMixOutIdeal.Value
public import proofs.«01_k».proof.Proof.Gen.KernelMixOut
public import proofs.«01_k».proof.Proof.Gen.KernelMixOut.Frame
public import proofs.«01_k».proof.Proof.Gen.ReferenceMixOutIdeal.Run
public import proofs.«01_k».proof.Proof.Common
public import proofs.«01_k».proof.Defs

@[expose] public section

set_option maxRecDepth 16384

noncomputable section

namespace Cert.Ffn.MixOut

open Cert.Attn
open Idealize.ShloMosaic Idealize.ShloMosaic.TcCoe Idealize.ShloMosaic.Tactic Idealize.SL.Sem

/-- The product and the residual. -/
def val (a : Fin 2048 → Fin 1024 → EReal) (b : Fin 1024 → Fin 1024 → EReal) (r : Fin 2048 → Fin 1024 → EReal) (i : Fin 2048) (j : Fin 1024) : EReal :=
  (∑ k, a i k * b k j) + r i j

section kernel

open KernelMixOutIdeal KernelMixOutIdeal.Gen
open Idealize.ShloMosaic.Pipeline (Dat Cfg Window BodyObligation cellOf)

theorem out_eq (x0 : Vec Ideal S512x1024 .bf16) (x1 : Vec Ideal S1024x1024 .bf16) (x2 : Vec Ideal S512x1024 .f32) : out0_3 x0 x1 x2 =
    unc (fun i j => (∑ k : Fin 1024, x0 (ix2 i k) * x1 (ix2 k j)) + x2 (ix2 i j)) := by
  unfold out0_3
  rw [View.canon_unit_zero hz, View.ld_unit_zero hz, View.ld_unit_zero hz, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel
theorem index_3 : ∀ t : Fin cfg0.N, win0_3.index t = ![t.val, 0] := by decide +kernel

/-- The blocks of a point, and their elements in the arrays. -/
def b0 (t : Fin cfg0.N) : Vec Ideal S512x1024 .bf16 := iblk m c 0 t
def b1 (t : Fin cfg0.N) : Vec Ideal S1024x1024 .bf16 := iblk m c 1 t
def b2 (t : Fin cfg0.N) : Vec Ideal S512x1024 .f32 := iblk m c 2 t

theorem b0_apply (t : Fin cfg0.N) (i : Fin 512) (k : Fin 1024) (I : Fin 2048) (hi : I.val = t.val * 512 + i.val) :
    b0 m c t (ix2 i k) = cur (m ((c.tc : Thread nD τ).loc main_arg0)) I k := by
  have e := index_0 t
  unfold cur b0
  blk_simp [iblk]
  refine congrArg (m ((c.tc : Thread nD τ).loc main_arg0)) ?_
  blk_ext [e, hi]

theorem b1_apply (t : Fin cfg0.N) (k : Fin 1024) (j : Fin 1024) (J : Fin 1024) (hj : J.val = j.val) :
    b1 m c t (ix2 k j) = cur (m ((c.tc : Thread nD τ).loc main_arg1)) k J := by
  have e := index_1 t
  unfold cur b1
  blk_simp [iblk]
  refine congrArg (m ((c.tc : Thread nD τ).loc main_arg1)) ?_
  blk_ext [e, hj]

theorem b2_apply (t : Fin cfg0.N) (i : Fin 512) (j : Fin 1024) (I : Fin 2048) (J : Fin 1024) (hi : I.val = t.val * 512 + i.val) (hj : J.val = j.val) :
    b2 m c t (ix2 i j) = cur (m ((c.tc : Thread nD τ).loc main_arg2)) I J := by
  have e := index_2 t
  unfold cur b2
  blk_simp [iblk]
  refine congrArg (m ((c.tc : Thread nD τ).loc main_arg2)) ?_
  blk_ext [e, hi, hj]

/-- The array after the launch. -/
theorem arr : (dats m 0 c).arrAt 3 cfg0.N = unc (val (cur (m ((c.tc : Thread nD τ).loc main_arg0))) (cur (m ((c.tc : Thread nD τ).loc main_arg1))) (cur (m ((c.tc : Thread nD τ).loc main_arg2)))) := by
  have e := index_3
  refine (dats m 0 c).arrAt_eq_of_covers 3 _ (by decide +kernel) fun t hf y => ?_
  blk_simp [iblk]
  rw [after0_3]
  refine (congrFun (out_eq (b0 m c t) (b1 m c t) (b2 m c t)) _).trans ?_
  unfold unc val
  refine congrArg₂ (· + ·) (Finset.sum_congr rfl fun k _ => congrArg₂ (· * ·) (b0_apply m c t (y 0) k _ ?_) (b1_apply m c t k (y 1) _ ?_)) (b2_apply m c t (y 0) (y 1) _ _ ?_ ?_)
  all_goals blk_simp [e]

end kernel

section reference
open ReferenceMixOutIdeal ReferenceMixOutIdeal.Gen
variable (A0 : FVec Ideal S2048x1024 .bf16) (A1 : FVec Ideal S1024x1024 .bf16) (A2 : FVec Ideal S2048x1024 .f32)

def res : FVec Ideal S2048x1024 .f32 :=
  addf A2 (Host.dotGeneral dot_S2048x1024_S1024x1024_S2048x1024_1_0_0_1_n_n none (extf .f32 A0 bitsLt_bf16_f32) (extf .f32 A1 bitsLt_bf16_f32))

theorem res_apply (i : Fin 2048) (j : Fin 1024) : res A0 A1 A2 (ix2 i j) = val (cur A0) (cur A1) (cur A2) i j := by
  pointwise [res]
  exact add_comm _ _

end reference

/-! ## The claims -/

open KernelMixOutIdeal in
theorem values : algebraic_KernelMixOutIdeal_ReferenceMixOutIdeal (hKernelMixOutIdeal := KernelMixOutIdeal.Gen.facts)
    (hReferenceMixOutIdeal := ReferenceMixOutIdeal.Gen.facts) := by
  intro m g m' g' _ hagree
  refine ⟨fun c => unc (val (cur (m ((c.tc : Thread nD τ).loc main_arg0))) (cur (m ((c.tc : Thread nD τ).loc main_arg1))) (cur (m ((c.tc : Thread nD τ).loc main_arg2)))), ?_, ?_⟩
  · refine (θ_run _ _ _).mono (fun r h c => ?_) (KernelMixOutIdeal.Value.run_blocks (F := Ideal) m g)
    obtain ⟨h0, rest⟩ := h c
    exact ⟨h0.trans (arr m c), rest⟩
  · refine (θ_run _ _ _).mono (fun r h c => ?_) (ReferenceMixOutIdeal.Value.run (F := Ideal) m' g')
    obtain ⟨a0, a1, a2⟩ := hagree c
    obtain ⟨h0, rest⟩ := h c
    refine ⟨h0.trans ?_, rest⟩
    · rw [a0, a1, a2]
      exact eq_unc _ _ (res_apply _ _ _)

theorem reference_frame : quiescent_ReferenceMixOutIdeal (hReferenceMixOutIdeal := ReferenceMixOutIdeal.Gen.facts) := fun m g _ =>
  (θ_run _ _ _).mono (fun r h => ⟨fun c => (h c).2, sem_eq_zero_of_no_sems rfl r.2⟩) (ReferenceMixOutIdeal.Value.run (F := Ideal) m g)

theorem kernel_frame : quiescent_KernelMixOut (hKernelMixOut := KernelMixOut.Gen.facts) := fun m g _ => KernelMixOut.Gen.frame m g

theorem ideal_frame : quiescent_KernelMixOutIdeal (hKernelMixOutIdeal := KernelMixOutIdeal.Gen.facts) := fun m g _ => KernelMixOutIdeal.Gen.frame m g

end Cert.Ffn.MixOut

end
-- ==== Proof.Dmerged.lean ====
/- The gradient of the merged rows: the array after the launch and the reference, by element. -/
module

public import proofs.«01_k».proof.Proof.Gen.KernelDmergedIdeal.Value
public import proofs.«01_k».proof.Proof.Gen.KernelDmerged
public import proofs.«01_k».proof.Proof.Gen.KernelDmerged.Frame
public import proofs.«01_k».proof.Proof.Gen.ReferenceDmergedIdeal.Run
public import proofs.«01_k».proof.Proof.Common
public import proofs.«01_k».proof.Defs

@[expose] public section

set_option maxRecDepth 16384

noncomputable section

namespace Cert.Ffn.Dmerged

open Cert.Attn
open Idealize.ShloMosaic Idealize.ShloMosaic.TcCoe Idealize.ShloMosaic.Tactic Idealize.SL.Sem

/-- The product of the first with the second, transposed, and the added row. -/
def val (a : Fin 2048 → Fin 1024 → EReal) (b : Fin 1024 → Fin 1024 → EReal) (r : Fin 1 → Fin 1024 → EReal) (i : Fin 2048) (j : Fin 1024) : EReal :=
  (∑ k, a i k * b j k) + r 0 j

section kernel

open KernelDmergedIdeal KernelDmergedIdeal.Gen
open Idealize.ShloMosaic.Pipeline (Dat Cfg Window BodyObligation cellOf)

theorem out_eq (x0 : Vec Ideal S512x1024 .f32) (x1 : Vec Ideal S1024x1024 .bf16) (x2 : Vec Ideal S1x1024 .f32) : out0_3 x0 x1 x2 =
    unc (fun i j => (∑ k : Fin 1024, x0 (ix2 i k) * x1 (ix2 j k)) + x2 (ix2 0 j)) := by
  unfold out0_3
  rw [View.canon_unit_zero hz, View.ld_unit_zero hz, View.ld_unit_zero hz, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![t.val, 0] := by decide +kernel

/-- The blocks of a point, and their elements in the arrays. -/
def b0 (t : Fin cfg0.N) : Vec Ideal S512x1024 .f32 := iblk m c 0 t
def b1 (t : Fin cfg0.N) : Vec Ideal S1024x1024 .bf16 := iblk m c 1 t
def b2 (t : Fin cfg0.N) : Vec Ideal S1x1024 .f32 := iblk m c 2 t

theorem b0_apply (t : Fin cfg0.N) (i : Fin 512) (k : Fin 1024) (I : Fin 2048) (hi : I.val = t.val * 512 + i.val) :
    b0 m c t (ix2 i k) = cur (m ((c.tc : Thread nD τ).loc main_arg0)) I k := by
  have e := index_0 t
  unfold cur b0
  blk_simp [iblk]
  refine congrArg (m ((c.tc : Thread nD τ).loc main_arg0)) ?_
  blk_ext [e, hi]

theorem b1_apply (t : Fin cfg0.N) (j : Fin 1024) (k : Fin 1024) (J : Fin 1024) (hj : J.val = j.val) :
    b1 m c t (ix2 j k) = cur (m ((c.tc : Thread nD τ).loc main_arg1)) J k := by
  have e := index_1 t
  unfold cur b1
  blk_simp [iblk]
  refine congrArg (m ((c.tc : Thread nD τ).loc main_arg1)) ?_
  blk_ext [e, hj]

theorem b2_apply (t : Fin cfg0.N) (j : Fin 1024) (J : Fin 1024) (hj : J.val = j.val) :
    b2 m c t (ix2 0 j) = cur (m ((c.tc : Thread nD τ).loc main_arg2)) 0 J := by
  have e := index_2 t
  unfold cur b2
  blk_simp [iblk]
  refine congrArg (m ((c.tc : Thread nD τ).loc main_arg2)) ?_
  blk_ext [e, hj]

/-- The array after the launch. -/
theorem arr : (dats m 0 c).arrAt 3 cfg0.N = unc (val (cur (m ((c.tc : Thread nD τ).loc main_arg0))) (cur (m ((c.tc : Thread nD τ).loc main_arg1))) (cur (m ((c.tc : Thread nD τ).loc main_arg2)))) := by
  have e := index_3
  refine (dats m 0 c).arrAt_eq_of_covers 3 _ (by decide +kernel) fun t hf y => ?_
  blk_simp [iblk]
  rw [after0_3]
  refine (congrFun (out_eq (b0 m c t) (b1 m c t) (b2 m c t)) _).trans ?_
  unfold unc val
  refine congrArg₂ (· + ·) (Finset.sum_congr rfl fun k _ => congrArg₂ (· * ·) (b0_apply m c t (y 0) k _ ?_) (b1_apply m c t (y 1) k _ ?_)) (b2_apply m c t (y 1) _ ?_)
  all_goals blk_simp [e]

end kernel

section reference
open ReferenceDmergedIdeal ReferenceDmergedIdeal.Gen
variable (A0 : FVec Ideal S2048x1024 .f32) (A1 : FVec Ideal S1024x1024 .bf16) (A2 : FVec Ideal S1x1024 .f32)

def res : FVec Ideal S2048x1024 .f32 :=
  addf (broadcastInDim S2048x1024 ![0, 1] bcast_S1x1024_S2048x1024_0_1 A2) (Host.dotGeneral dot_S2048x1024_S1024x1024_S2048x1024_1_1_0_0_n_n none A0 (extf .f32 A1 bitsLt_bf16_f32))

theorem res_apply (i : Fin 2048) (j : Fin 1024) : res A0 A1 A2 (ix2 i j) = val (cur A0) (cur A1) (cur A2) i j := by
  pointwise [res]
  exact add_comm _ _

end reference

/-! ## The claims -/

open KernelDmergedIdeal in
theorem values : algebraic_KernelDmergedIdeal_ReferenceDmergedIdeal (hKernelDmergedIdeal := KernelDmergedIdeal.Gen.facts)
    (hReferenceDmergedIdeal := ReferenceDmergedIdeal.Gen.facts) := by
  intro m g m' g' _ hagree
  refine ⟨fun c => unc (val (cur (m ((c.tc : Thread nD τ).loc main_arg0))) (cur (m ((c.tc : Thread nD τ).loc main_arg1))) (cur (m ((c.tc : Thread nD τ).loc main_arg2)))), ?_, ?_⟩
  · refine (θ_run _ _ _).mono (fun r h c => ?_) (KernelDmergedIdeal.Value.run_blocks (F := Ideal) m g)
    obtain ⟨h0, rest⟩ := h c
    exact ⟨h0.trans (arr m c), rest⟩
  · refine (θ_run _ _ _).mono (fun r h c => ?_) (ReferenceDmergedIdeal.Value.run (F := Ideal) m' g')
    obtain ⟨a0, a1, a2⟩ := hagree c
    obtain ⟨h0, rest⟩ := h c
    refine ⟨h0.trans ?_, rest⟩
    · rw [a0, a1, a2]
      exact eq_unc _ _ (res_apply _ _ _)

theorem reference_frame : quiescent_ReferenceDmergedIdeal (hReferenceDmergedIdeal := ReferenceDmergedIdeal.Gen.facts) := fun m g _ =>
  (θ_run _ _ _).mono (fun r h => ⟨fun c => (h c).2, sem_eq_zero_of_no_sems rfl r.2⟩) (ReferenceDmergedIdeal.Value.run (F := Ideal) m g)

theorem kernel_frame : quiescent_KernelDmerged (hKernelDmerged := KernelDmerged.Gen.facts) := fun m g _ => KernelDmerged.Gen.frame m g

theorem ideal_frame : quiescent_KernelDmergedIdeal (hKernelDmergedIdeal := KernelDmergedIdeal.Gen.facts) := fun m g _ => KernelDmergedIdeal.Gen.frame m g

end Cert.Ffn.Dmerged

end
-- ==== Proof.DwOut.lean ====
/- The gradient of w_out: the array after the launch and the reference, by element. -/
module

public import proofs.«01_k».proof.Proof.Gen.KernelDwOutIdeal.Value
public import proofs.«01_k».proof.Proof.Gen.KernelDwOut
public import proofs.«01_k».proof.Proof.Gen.KernelDwOut.Frame
public import proofs.«01_k».proof.Proof.Gen.ReferenceDwOutIdeal.Run
public import proofs.«01_k».proof.Proof.Common
public import proofs.«01_k».proof.Defs

@[expose] public section

set_option maxRecDepth 16384

noncomputable section

namespace Cert.Ffn.DwOut

open Cert.Attn
open Idealize.ShloMosaic Idealize.ShloMosaic.TcCoe Idealize.ShloMosaic.Tactic Idealize.SL.Sem

/-- The product of the first, transposed, with the second. -/
def val (a : Fin 2048 → Fin 1024 → EReal) (b : Fin 2048 → Fin 1024 → EReal) (i : Fin 1024) (j : Fin 1024) : EReal :=
  ∑ k, a k i * b k j

section kernel

open KernelDwOutIdeal KernelDwOutIdeal.Gen
open Idealize.ShloMosaic.Pipeline (Dat Cfg Window BodyObligation cellOf)

theorem out_eq (x0 : Vec Ideal S2048x512 .bf16) (x1 : Vec Ideal S2048x1024 .f32) : out0_2 x0 x1 =
    unc (fun i j => ∑ k : Fin 2048, x0 (ix2 k i) * x1 (ix2 k j)) := by
  unfold out0_2
  rw [View.canon_unit_zero hz, View.ld_unit_zero hz, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![0, t.val] := by decide +kernel
theorem index_1 : ∀ t : Fin cfg0.N, win0_1.index t = ![0, 0] := by decide +kernel
theorem index_2 : ∀ t : Fin cfg0.N, win0_2.index t = ![t.val, 0] := by decide +kernel

/-- The blocks of a point, and their elements in the arrays. -/
def b0 (t : Fin cfg0.N) : Vec Ideal S2048x512 .bf16 := iblk m c 0 t
def b1 (t : Fin cfg0.N) : Vec Ideal S2048x1024 .f32 := iblk m c 1 t

theorem b0_apply (t : Fin cfg0.N) (k : Fin 2048) (i : Fin 512) (I : Fin 1024) (hi : I.val = t.val * 512 + i.val) :
    b0 m c t (ix2 k i) = cur (m ((c.tc : Thread nD τ).loc main_arg0)) k I := by
  have e := index_0 t
  unfold cur b0
  blk_simp [iblk]
  refine congrArg (m ((c.tc : Thread nD τ).loc main_arg0)) ?_
  blk_ext [e, hi]

theorem b1_apply (t : Fin cfg0.N) (k : Fin 2048) (j : Fin 1024) (J : Fin 1024) (hj : J.val = j.val) :
    b1 m c t (ix2 k j) = cur (m ((c.tc : Thread nD τ).loc main_arg1)) k J := by
  have e := index_1 t
  unfold cur b1
  blk_simp [iblk]
  refine congrArg (m ((c.tc : Thread nD τ).loc main_arg1)) ?_
  blk_ext [e, hj]

/-- The array after the launch. -/
theorem arr : (dats m 0 c).arrAt 2 cfg0.N = unc (val (cur (m ((c.tc : Thread nD τ).loc main_arg0))) (cur (m ((c.tc : Thread nD τ).loc main_arg1)))) := by
  have e := index_2
  refine (dats m 0 c).arrAt_eq_of_covers 2 _ (by decide +kernel) fun t hf y => ?_
  blk_simp [iblk]
  rw [after0_2]
  refine (congrFun (out_eq (b0 m c t) (b1 m c t)) _).trans ?_
  unfold unc val
  refine Finset.sum_congr rfl fun k _ => congrArg₂ (· * ·) (b0_apply m c t k (y 0) _ ?_) (b1_apply m c t k (y 1) _ ?_)
  all_goals blk_simp [e]

end kernel

section reference
open ReferenceDwOutIdeal ReferenceDwOutIdeal.Gen
variable (A0 : FVec Ideal S2048x1024 .bf16) (A1 : FVec Ideal S2048x1024 .f32)

def res : FVec Ideal S1024x1024 .bf16 :=
  truncf .bf16 (transpose S1024x1024 [1, 0] (Host.dotGeneral dot_S2048x1024_S2048x1024_S1024x1024_0_0_1_1_n_n none A1 (extf .f32 A0 bitsLt_bf16_f32)) transposes_S1024x1024_S1024x1024_1_0) bitsLt_bf16_f32

theorem res_apply (i : Fin 1024) (j : Fin 1024) : res A0 A1 (ix2 i j) = val (cur A0) (cur A1) i j := by
  pointwise [res]
  unfold val cur
  exact Finset.sum_congr rfl fun k _ => mul_comm _ _

end reference

/-! ## The claims -/

open KernelDwOutIdeal in
theorem values : algebraic_KernelDwOutIdeal_ReferenceDwOutIdeal (hKernelDwOutIdeal := KernelDwOutIdeal.Gen.facts)
    (hReferenceDwOutIdeal := ReferenceDwOutIdeal.Gen.facts) := by
  intro m g m' g' _ hagree
  refine ⟨fun c => unc (val (cur (m ((c.tc : Thread nD τ).loc main_arg0))) (cur (m ((c.tc : Thread nD τ).loc main_arg1)))), ?_, ?_⟩
  · refine (θ_run _ _ _).mono (fun r h c => ?_) (KernelDwOutIdeal.Value.run_blocks (F := Ideal) m g)
    obtain ⟨h0, rest⟩ := h c
    exact ⟨h0.trans (arr m c), rest⟩
  · refine (θ_run _ _ _).mono (fun r h c => ?_) (ReferenceDwOutIdeal.Value.run (F := Ideal) m' g')
    obtain ⟨a0, a1⟩ := hagree c
    obtain ⟨h0, rest⟩ := h c
    refine ⟨h0.trans ?_, rest⟩
    · rw [a0, a1]
      exact eq_unc _ _ (res_apply _ _)

theorem reference_frame : quiescent_ReferenceDwOutIdeal (hReferenceDwOutIdeal := ReferenceDwOutIdeal.Gen.facts) := fun m g _ =>
  (θ_run _ _ _).mono (fun r h => ⟨fun c => (h c).2, sem_eq_zero_of_no_sems rfl r.2⟩) (ReferenceDwOutIdeal.Value.run (F := Ideal) m g)

theorem kernel_frame : quiescent_KernelDwOut (hKernelDwOut := KernelDwOut.Gen.facts) := fun m g _ => KernelDwOut.Gen.frame m g

theorem ideal_frame : quiescent_KernelDwOutIdeal (hKernelDwOutIdeal := KernelDwOutIdeal.Gen.facts) := fun m g _ => KernelDwOutIdeal.Gen.frame m g

end Cert.Ffn.DwOut

end
-- ==== Proof.AdamStep.lean ====
/- One step of AdamW, by element. -/
module

public import proofs.«01_k».proof.Proof.Common

@[expose] public section

noncomputable section

namespace Cert.Ffn.Adam

open Cert.Attn
open Idealize.ShloMosaic Idealize.ShloMosaic.TcCoe

/-- The new moments of an element: nine tenths of the old and a tenth of the gradient, and the same of the squares with 0.999. -/
def nm (m g : EReal) : EReal := Ideal.ofBits .f32 0x3F666666#32 * m + Ideal.ofBits .f32 0x3DCCCCCD#32 * g
def nv (v g : EReal) : EReal := Ideal.ofBits .f32 0x3F7FBE77#32 * v + Ideal.ofBits .f32 0x3A83126F#32 * (g * g)

/-- The change of an element: the first moment over the root of the second, both corrected for the step's number, and the weight's decay. -/
def nd (w m v g : EReal) : EReal :=
  Ideal.ofBits .f32 0xBA83126F#32 * (Ideal.div (Ideal.div (nm m g) (Ideal.ofBits .f32 0x3F26BD02#32))
    (Ideal.sqrt (Ideal.div (nv v g) (Ideal.ofBits .f32 0x3C231ACC#32)) + Ideal.ofBits .f32 0x322BCC77#32) + Ideal.ofBits .f32 0x3C23D70A#32 * w)

/-- The two layers' gradients. -/
def gr {a b : ℕ} (g0 g1 : Fin a → Fin b → EReal) (l : Fin 2) (i : Fin a) (j : Fin b) : EReal := if l.val = 0 then g0 i j else g1 i j

/-- The results of a step over an array of layers. -/
def rm {k a b : ℕ} (m g : Fin k → Fin a → Fin b → EReal) (l : Fin k) (i : Fin a) (j : Fin b) : EReal := nm (m l i j) (g l i j)
def rv {k a b : ℕ} (v g : Fin k → Fin a → Fin b → EReal) (l : Fin k) (i : Fin a) (j : Fin b) : EReal := nv (v l i j) (g l i j)
def rd {k a b : ℕ} (w m v g : Fin k → Fin a → Fin b → EReal) (l : Fin k) (i : Fin a) (j : Fin b) : EReal := nd (w l i j) (m l i j) (v l i j) (g l i j)

end Cert.Ffn.Adam

end
-- ==== Proof.AdamUp.lean ====
/- AdamW over the SwiGLU's first weight: the arrays after the launch and the reference, by element. -/
module

public import proofs.«01_k».proof.Proof.Gen.KernelAdamUpIdeal.Value
public import proofs.«01_k».proof.Proof.Gen.KernelAdamUp
public import proofs.«01_k».proof.Proof.Gen.KernelAdamUp.Frame
public import proofs.«01_k».proof.Proof.Gen.ReferenceAdamUpIdeal.Run
public import proofs.«01_k».proof.Proof.Common
public import proofs.«01_k».proof.Proof.AdamStep
public import Idealize.ShloMosaic.Lib.Pipeline.ReadBack
public import proofs.«01_k».proof.Defs

@[expose] public section

set_option maxRecDepth 16384

noncomputable section

namespace Cert.Ffn.AdamUp

open Cert.Attn Cert.Ffn.Adam
open Idealize.ShloMosaic Idealize.ShloMosaic.TcCoe Idealize.ShloMosaic.Tactic Idealize.SL.Sem

section kernel

open KernelAdamUpIdeal KernelAdamUpIdeal.Gen
open Idealize.ShloMosaic.Pipeline (Dat Cfg Window BodyObligation cellOf)

variable (g : Vec Ideal S256x1408 .f32) (w m v : Vec Ideal S1x256x1408 .f32)

theorem pay_g (p : Fin 1) (r : Fin 256) (j : Fin 1408) : k0_pay1 g (ix3 p r j) = g (ix2 r j) := by
  pointwise [k0_pay1]

theorem pay_m (p : Fin 1) (r : Fin 256) (j : Fin 1408) : k0_pay2 (k0_pay7 g m) (ix3 p r j) = nm (m (ix3 0 r j)) (g (ix2 r j)) := by
  pointwise [k0_pay2, k0_pay7]
  rfl

theorem pay_v (p : Fin 1) (r : Fin 256) (j : Fin 1408) : k0_pay3 (k0_pay8 g v) (ix3 p r j) = nv (v (ix3 0 r j)) (g (ix2 r j)) := by
  pointwise [k0_pay3, k0_pay8]
  rfl

theorem pay_d (p : Fin 1) (r : Fin 256) (j : Fin 1408) : k0_pay9 g m v w (ix3 p r j) = nd (w (ix3 0 r j)) (m (ix3 0 r j)) (v (ix3 0 r j)) (g (ix2 r j)) := by
  pointwise [k0_pay9, k0_pay7, k0_pay8]
  rfl

variable (m : (ℓ : Loc nD τ sig) → Buf (Elt Ideal) ℓ) (c : Dev nD)

theorem index_0 : ∀ t : Fin cfg0.N, win0_0.index t = ![t.val / 4, t.val % 4, 0] := by decide +kernel
theorem index_1 : ∀ t : Fin cfg0.N, win0_1.index t = ![t.val / 4, t.val % 4, 0] := by decide +kernel
theorem index_2 : ∀ t : Fin cfg0.N, win0_2.index t = ![t.val / 4, t.val % 4, 0] := by decide +kernel
theorem index_3 : ∀ t : Fin cfg0.N, win0_3.index t = ![t.val % 4, 0] := by decide +kernel
theorem index_4 : ∀ t : Fin cfg0.N, win0_4.index t = ![t.val % 4, 0] := by decide +kernel
theorem index_5 : ∀ t : Fin cfg0.N, win0_5.index t = ![t.val / 4, t.val % 4, 0] := by decide +kernel
theorem index_6 : ∀ t : Fin cfg0.N, win0_6.index t = ![t.val / 4, t.val % 4, 0] := by decide +kernel
theorem index_7 : ∀ t : Fin cfg0.N, win0_7.index t = ![t.val / 4, t.val % 4, 0] := by decide +kernel
theorem index_8 : ∀ t : Fin cfg0.N, win0_8.index t = ![t.val / 4, t.val % 4, 0] := by decide +kernel

/-- The arguments, and the blocks of a point. -/
abbrev w0 := cur3 (m ((c.tc : Thread nD τ).loc main_arg0))
abbrev w1 := cur3 (m ((c.tc : Thread nD τ).loc main_arg1))
abbrev w2 := cur3 (m ((c.tc : Thread nD τ).loc main_arg2))
abbrev w3 := cur (m ((c.tc : Thread nD τ).loc main_arg3))
abbrev w4 := cur (m ((c.tc : Thread nD τ).loc main_arg4))

def b0 (t : Fin cfg0.N) : Vec Ideal S1x256x1408 .f32 := iblk m c 0 t
def b1 (t : Fin cfg0.N) : Vec Ideal S1x256x1408 .f32 := iblk m c 1 t
def b2 (t : Fin cfg0.N) : Vec Ideal S1x256x1408 .f32 := iblk m c 2 t
def b3 (t : Fin cfg0.N) : Vec Ideal S256x1408 .f32 := iblk m c 3 t
def b4 (t : Fin cfg0.N) : Vec Ideal S256x1408 .f32 := iblk m c 4 t

section blocks

variable (t : Fin cfg0.N) (r : Fin 256) (j : Fin 1408) (l : Fin 2) (i : Fin 1024) (q : Fin 1408) (hl : l.val = t.val / 4) (hi : i.val = t.val % 4 * 256 + r.val) (hq : q.val = j.val)
include hl hi hq

theorem b0_apply : b0 m c t (ix3 0 r j) = w0 m c l i q := by
  have e := index_0 t
  unfold w0 cur3 b0
  blk_simp [iblk]
  refine congrArg (m ((c.tc : Thread nD τ).loc main_arg0)) ?_
  blk_ext [e, hl, hi, hq]

theorem b1_apply : b1 m c t (ix3 0 r j) = w1 m c l i q := by
  have e := index_1 t
  unfold w1 cur3 b1
  blk_simp [iblk]
  refine congrArg (m ((c.tc : Thread nD τ).loc main_arg1)) ?_
  blk_ext [e, hl, hi, hq]

theorem b2_apply : b2 m c t (ix3 0 r j) = w2 m c l i q := by
  have e := index_2 t
  unfold w2 cur3 b2
  blk_simp [iblk]
  refine congrArg (m ((c.tc : Thread nD τ).loc main_arg2)) ?_
  blk_ext [e, hl, hi, hq]

theorem b3_apply : b3 m c t (ix2 r j) = w3 m c i q := by
  have e := index_3 t
  unfold w3 cur b3
  blk_simp [iblk]
  refine congrArg (m ((c.tc : Thread nD τ).loc main_arg3)) ?_
  blk_ext [e, hi, hq]

theorem b4_apply : b4 m c t (ix2 r j) = w4 m c i q := by
  have e := index_4 t
  unfold w4 cur b4
  blk_simp [iblk]
  refine congrArg (m ((c.tc : Thread nD τ).loc main_arg4)) ?_
  blk_ext [e, hi, hq]

/-- The gradient's block of a point: the first layer's, then the second's. -/
def gb (t : Fin cfg0.N) : Vec Ideal S256x1408 .f32 := if t.val < 4 then b3 m c t else b4 m c t

theorem gb_apply : gb m c t (ix2 r j) = gr (w3 m c) (w4 m c) l i q := by
  have hN : t.val < 8 := lt_of_lt_of_eq t.isLt N_0
  unfold gb gr
  by_cases h : t.val < 4
  · rw [if_pos h, if_pos (by omega)]
    exact b3_apply m c t r j l i q hl hi hq
  · rw [if_neg h, if_neg (by omega)]
    exact b4_apply m c t r j l i q hl hi hq

end blocks

/-- What a point leaves in the results' blocks. -/
theorem outs (t : Fin cfg0.N) : outsAt0 m c t.val t.isLt = (k0_pay1 (gb m c t), k0_pay9 (gb m c t) (b1 m c t) (b2 m c t) (b0 m c t), k0_pay2 (k0_pay7 (gb m c t) (b1 m c t)), k0_pay3 (k0_pay8 (gb m c t) (b2 m c t))) := by
  unfold gb
  by_cases h : t.val < 4
  · rw [if_pos h, outsAt0_A m c t h (by omega)]
    refine Prod.ext ?_ (Prod.ext ?_ (Prod.ext ?_ ?_))
    all_goals
      frame_out
      rfl
  · rw [if_neg h, outsAt0_B m c t h (by omega)]
    refine Prod.ext ?_ (Prod.ext ?_ (Prod.ext ?_ ?_))
    all_goals
      frame_out
      rfl

/-- The arrays after the launch. -/
theorem arr5 : (dats m 0 c).arrAt 5 cfg0.N = unc3 (gr (w3 m c) (w4 m c)) := by
  have e := index_5
  refine (dats m 0 c).arrAt_eq_of_covers 5 _ (by decide +kernel) fun t hf y => ?_
  have h0 : (y 0).val < 1 := (y 0).isLt
  have hN : t.val < 8 := lt_of_lt_of_eq t.isLt N_0
  have hl : ((win0_5.blk t).view.emb y 0).val = t.val / 4 := by
    blk_simp [e]
  have hi : ((win0_5.blk t).view.emb y 1).val = t.val % 4 * 256 + (y 1).val := by blk_simp [e]
  have hq : ((win0_5.blk t).view.emb y 2).val = (y 2).val := by blk_simp [e]
  blk_simp [iblk]
  rw [after0_5, outs]
  refine (congrFun (eq_unc3 _ _ (pay_g (gb m c t))) _).trans ?_
  unfold unc3
  exact gb_apply m c t (y 1) (y 2) _ _ _ hl hi hq

theorem arr6 : (dats m 0 c).arrAt 6 cfg0.N = unc3 (rd (w0 m c) (w1 m c) (w2 m c) (gr (w3 m c) (w4 m c))) := by
  have e := index_6
  refine (dats m 0 c).arrAt_eq_of_covers 6 _ (by decide +kernel) fun t hf y => ?_
  have h0 : (y 0).val < 1 := (y 0).isLt
  have hN : t.val < 8 := lt_of_lt_of_eq t.isLt N_0
  have hl : ((win0_6.blk t).view.emb y 0).val = t.val / 4 := by
    blk_simp [e]
  have hi : ((win0_6.blk t).view.emb y 1).val = t.val % 4 * 256 + (y 1).val := by blk_simp [e]
  have hq : ((win0_6.blk t).view.emb y 2).val = (y 2).val := by blk_simp [e]
  blk_simp [iblk]
  rw [after0_6, outs]
  refine (congrFun (eq_unc3 _ _ (pay_d (gb m c t) (b0 m c t) (b1 m c t) (b2 m c t))) _).trans ?_
  unfold unc3 rd
  exact congr (congr (congr (congrArg nd (b0_apply m c t (y 1) (y 2) _ _ _ hl hi hq)) (b1_apply m c t (y 1) (y 2) _ _ _ hl hi hq)) (b2_apply m c t (y 1) (y 2) _ _ _ hl hi hq)) (gb_apply m c t (y 1) (y 2) _ _ _ hl hi hq)

theorem arr7 : (dats m 0 c).arrAt 7 cfg0.N = unc3 (rm (w1 m c) (gr (w3 m c) (w4 m c))) := by
  have e := index_7
  refine (dats m 0 c).arrAt_eq_of_covers 7 _ (by decide +kernel) fun t hf y => ?_
  have h0 : (y 0).val < 1 := (y 0).isLt
  have hN : t.val < 8 := lt_of_lt_of_eq t.isLt N_0
  have hl : ((win0_7.blk t).view.emb y 0).val = t.val / 4 := by
    blk_simp [e]
  have hi : ((win0_7.blk t).view.emb y 1).val = t.val % 4 * 256 + (y 1).val := by blk_simp [e]
  have hq : ((win0_7.blk t).view.emb y 2).val = (y 2).val := by blk_simp [e]
  blk_simp [iblk]
  rw [after0_7, outs]
  refine (congrFun (eq_unc3 _ _ (pay_m (gb m c t) (b1 m c t))) _).trans ?_
  unfold unc3 rm
  exact congrArg₂ nm (b1_apply m c t (y 1) (y 2) _ _ _ hl hi hq) (gb_apply m c t (y 1) (y 2) _ _ _ hl hi hq)

theorem arr8 : (dats m 0 c).arrAt 8 cfg0.N = unc3 (rv (w2 m c) (gr (w3 m c) (w4 m c))) := by
  have e := index_8
  refine (dats m 0 c).arrAt_eq_of_covers 8 _ (by decide +kernel) fun t hf y => ?_
  have h0 : (y 0).val < 1 := (y 0).isLt
  have hN : t.val < 8 := lt_of_lt_of_eq t.isLt N_0
  have hl : ((win0_8.blk t).view.emb y 0).val = t.val / 4 := by
    blk_simp [e]
  have hi : ((win0_8.blk t).view.emb y 1).val = t.val % 4 * 256 + (y 1).val := by blk_simp [e]
  have hq : ((win0_8.blk t).view.emb y 2).val = (y 2).val := by blk_simp [e]
  blk_simp [iblk]
  rw [after0_8, outs]
  refine (congrFun (eq_unc3 _ _ (pay_v (gb m c t) (b2 m c t))) _).trans ?_
  unfold unc3 rv
  exact congrArg₂ nv (b2_apply m c t (y 1) (y 2) _ _ _ hl hi hq) (gb_apply m c t (y 1) (y 2) _ _ _ hl hi hq)

end kernel

section reference
open ReferenceAdamUpIdeal ReferenceAdamUpIdeal.Gen
variable (W M V : FVec Ideal S2x1024x1408 .f32) (G0 G1 : FVec Ideal S1024x1408 .f32)

def resg : FVec Ideal S2x1024x1408 .f32 :=
  concatenate S2x1024x1408 0 [⟨S1x1024x1408, (broadcastInDim S1x1024x1408 ![1, 2] bcast_S1024x1408_S1x1024x1408_1_2 G0)⟩, ⟨S1x1024x1408, (broadcastInDim S1x1024x1408 ![1, 2] bcast_S1024x1408_S1x1024x1408_1_2 G1)⟩] concatenates_S1x1024x1408_S1x1024x1408_S2x1024x1408_d0

theorem resg_apply (l : Fin 2) (i : Fin 1024) (j : Fin 1408) : resg G0 G1 (ix3 l i j) = gr (cur G0) (cur G1) l i j := by
  pointwise [resg]
  fin_cases l <;> rfl

def resm : FVec Ideal S2x1024x1408 .f32 := addf (mulf (broadcastInDim S2x1024x1408 ![] bcast_S_S2x1024x1408 (constant S_ .f32 0x3F666666#32)) M) (mulf (broadcastInDim S2x1024x1408 ![] bcast_S_S2x1024x1408 (constant S_ .f32 0x3DCCCCCD#32)) (resg G0 G1))

def resv : FVec Ideal S2x1024x1408 .f32 := addf (mulf (broadcastInDim S2x1024x1408 ![] bcast_S_S2x1024x1408 (constant S_ .f32 0x3F7FBE77#32)) V) (mulf (broadcastInDim S2x1024x1408 ![] bcast_S_S2x1024x1408 (constant S_ .f32 0x3A83126F#32)) (mulf (resg G0 G1) (resg G0 G1)))

def resd : FVec Ideal S2x1024x1408 .f32 :=
  mulf (broadcastInDim S2x1024x1408 ![] bcast_S_S2x1024x1408 (constant S_ .f32 0xBA83126F#32)) (addf (Host.divf (Host.divf (resm M G0 G1) (broadcastInDim S2x1024x1408 ![] bcast_S_S2x1024x1408 (constant S_ .f32 0x3F26BD02#32)))
    (addf (Host.sqrt (Host.divf (resv V G0 G1) (broadcastInDim S2x1024x1408 ![] bcast_S_S2x1024x1408 (constant S_ .f32 0x3C231ACC#32)))) (broadcastInDim S2x1024x1408 ![] bcast_S_S2x1024x1408 (constant S_ .f32 0x322BCC77#32)))) (mulf (broadcastInDim S2x1024x1408 ![] bcast_S_S2x1024x1408 (constant S_ .f32 0x3C23D70A#32)) W))

theorem resm_apply (l : Fin 2) (i : Fin 1024) (j : Fin 1408) : resm M G0 G1 (ix3 l i j) = rm (cur3 M) (gr (cur G0) (cur G1)) l i j := by
  pointwise [resm]
  rw [resg_apply]
  rfl

theorem resv_apply (l : Fin 2) (i : Fin 1024) (j : Fin 1408) : resv V G0 G1 (ix3 l i j) = rv (cur3 V) (gr (cur G0) (cur G1)) l i j := by
  pointwise [resv]
  rw [resg_apply]
  rfl

theorem resd_apply (l : Fin 2) (i : Fin 1024) (j : Fin 1408) : resd W M V G0 G1 (ix3 l i j) = rd (cur3 W) (cur3 M) (cur3 V) (gr (cur G0) (cur G1)) l i j := by
  pointwise [resd]
  rw [resm_apply, resv_apply]
  rfl

end reference

/-! ## The claims -/

theorem values : algebraic_KernelAdamUpIdeal_ReferenceAdamUpIdeal (hKernelAdamUpIdeal := KernelAdamUpIdeal.Gen.facts)
    (hReferenceAdamUpIdeal := ReferenceAdamUpIdeal.Gen.facts) := by
  intro m g m' g' _ hagree
  refine ⟨fun c => (KernelAdamUpIdeal.Gen.dats m 0 c).arrAt 5 KernelAdamUpIdeal.cfg0.N, fun c => (KernelAdamUpIdeal.Gen.dats m 0 c).arrAt 6 KernelAdamUpIdeal.cfg0.N, fun c => (KernelAdamUpIdeal.Gen.dats m 0 c).arrAt 7 KernelAdamUpIdeal.cfg0.N, fun c => (KernelAdamUpIdeal.Gen.dats m 0 c).arrAt 8 KernelAdamUpIdeal.cfg0.N, ?_, ?_⟩
  · exact KernelAdamUpIdeal.Value.run_blocks (F := Ideal) m g
  · refine (θ_run _ _ _).mono (fun r h c => ?_) (ReferenceAdamUpIdeal.Value.run (F := Ideal) m' g')
    obtain ⟨a0, a1, a2, a3, a4⟩ := hagree c
    obtain ⟨h0, h1, h2, h3, rest⟩ := h c
    refine ⟨h0.trans ?_, h1.trans ?_, h2.trans ?_, h3.trans ?_, rest⟩
    · rw [a3, a4]
      exact (eq_unc3 _ _ (resg_apply _ _)).trans (arr5 m c).symm
    · rw [a0, a1, a2, a3, a4]
      exact (eq_unc3 _ _ (resd_apply _ _ _ _ _)).trans (arr6 m c).symm
    · rw [a1, a3, a4]
      exact (eq_unc3 _ _ (resm_apply _ _ _)).trans (arr7 m c).symm
    · rw [a2, a3, a4]
      exact (eq_unc3 _ _ (resv_apply _ _ _)).trans (arr8 m c).symm

theorem reference_frame : quiescent_ReferenceAdamUpIdeal (hReferenceAdamUpIdeal := ReferenceAdamUpIdeal.Gen.facts) := fun m g _ =>
  (θ_run _ _ _).mono (fun r h => ⟨fun c => (h c).2.2.2.2, sem_eq_zero_of_no_sems rfl r.2⟩) (ReferenceAdamUpIdeal.Value.run (F := Ideal) m g)

theorem kernel_frame : quiescent_KernelAdamUp (hKernelAdamUp := KernelAdamUp.Gen.facts) := fun m g _ => KernelAdamUp.Gen.frame m g

theorem ideal_frame : quiescent_KernelAdamUpIdeal (hKernelAdamUpIdeal := KernelAdamUpIdeal.Gen.facts) := fun m g _ => KernelAdamUpIdeal.Gen.frame m g

end Cert.Ffn.AdamUp

end
-- ==== Proof.AdamUpB.lean ====
/- AdamW over the SwiGLU's first weight, with an operand that is not read: the arrays after the launch and the reference, by element. -/
module

public import proofs.«01_k».proof.Proof.Gen.KernelAdamUpBIdeal.Value
public import proofs.«01_k».proof.Proof.Gen.KernelAdamUpB
public import proofs.«01_k».proof.Proof.Gen.KernelAdamUpB.Frame
public import proofs.«01_k».proof.Proof.Gen.ReferenceAdamUpBIdeal.Run
public import proofs.«01_k».proof.Proof.Common
public import proofs.«01_k».proof.Proof.AdamStep
public import Idealize.ShloMosaic.Lib.Pipeline.ReadBack
public import proofs.«01_k».proof.Defs

@[expose] public section

set_option maxRecDepth 16384

noncomputable section

namespace Cert.Ffn.AdamUpB

open Cert.Attn Cert.Ffn.Adam
open Idealize.ShloMosaic Idealize.ShloMosaic.TcCoe Idealize.ShloMosaic.Tactic Idealize.SL.Sem

section kernel

open KernelAdamUpBIdeal KernelAdamUpBIdeal.Gen
open Idealize.ShloMosaic.Pipeline (Dat Cfg Window BodyObligation cellOf)

variable (g : Vec Ideal S256x1408 .f32) (w m v : Vec Ideal S1x256x1408 .f32)

theorem pay_g (p : Fin 1) (r : Fin 256) (j : Fin 1408) : k0_pay1 g (ix3 p r j) = g (ix2 r j) := by
  pointwise [k0_pay1]

theorem pay_m (p : Fin 1) (r : Fin 256) (j : Fin 1408) : k0_pay2 (k0_pay7 g m) (ix3 p r j) = nm (m (ix3 0 r j)) (g (ix2 r j)) := by
  pointwise [k0_pay2, k0_pay7]
  rfl

theorem pay_v (p : Fin 1) (r : Fin 256) (j : Fin 1408) : k0_pay3 (k0_pay8 g v) (ix3 p r j) = nv (v (ix3 0 r j)) (g (ix2 r j)) := by
  pointwise [k0_pay3, k0_pay8]
  rfl

theorem pay_d (p : Fin 1) (r : Fin 256) (j : Fin 1408) : k0_pay9 g m v w (ix3 p r j) = nd (w (ix3 0 r j)) (m (ix3 0 r j)) (v (ix3 0 r j)) (g (ix2 r j)) := by
  pointwise [k0_pay9, k0_pay7, k0_pay8]
  rfl

variable (m : (ℓ : Loc nD τ sig) → Buf (Elt Ideal) ℓ) (c : Dev nD)

theorem index_0 : ∀ t : Fin cfg0.N, win0_0.index t = ![t.val / 4, t.val % 4, 0] := by decide +kernel
theorem index_1 : ∀ t : Fin cfg0.N, win0_1.index t = ![t.val / 4, t.val % 4, 0] := by decide +kernel
theorem index_2 : ∀ t : Fin cfg0.N, win0_2.index t = ![t.val / 4, t.val % 4, 0] := by decide +kernel
theorem index_3 : ∀ t : Fin cfg0.N, win0_3.index t = ![t.val % 4, 0] := by decide +kernel
theorem index_4 : ∀ t : Fin cfg0.N, win0_4.index t = ![t.val % 4, 0] := by decide +kernel
theorem index_6 : ∀ t : Fin cfg0.N, win0_6.index t = ![t.val / 4, t.val % 4, 0] := by decide +kernel
theorem index_7 : ∀ t : Fin cfg0.N, win0_7.index t = ![t.val / 4, t.val % 4, 0] := by decide +kernel
theorem index_8 : ∀ t : Fin cfg0.N, win0_8.index t = ![t.val / 4, t.val % 4, 0] := by decide +kernel
theorem index_9 : ∀ t : Fin cfg0.N, win0_9.index t = ![t.val / 4, t.val % 4, 0] := by decide +kernel

/-- The arguments, and the blocks of a point. -/
abbrev w0 := cur3 (m ((c.tc : Thread nD τ).loc main_arg0))
abbrev w1 := cur3 (m ((c.tc : Thread nD τ).loc main_arg1))
abbrev w2 := cur3 (m ((c.tc : Thread nD τ).loc main_arg2))
abbrev w3 := cur (m ((c.tc : Thread nD τ).loc main_arg3))
abbrev w4 := cur (m ((c.tc : Thread nD τ).loc main_arg4))

def b0 (t : Fin cfg0.N) : Vec Ideal S1x256x1408 .f32 := iblk m c 0 t
def b1 (t : Fin cfg0.N) : Vec Ideal S1x256x1408 .f32 := iblk m c 1 t
def b2 (t : Fin cfg0.N) : Vec Ideal S1x256x1408 .f32 := iblk m c 2 t
def b3 (t : Fin cfg0.N) : Vec Ideal S256x1408 .f32 := iblk m c 3 t
def b4 (t : Fin cfg0.N) : Vec Ideal S256x1408 .f32 := iblk m c 4 t

section blocks

variable (t : Fin cfg0.N) (r : Fin 256) (j : Fin 1408) (l : Fin 2) (i : Fin 1024) (q : Fin 1408) (hl : l.val = t.val / 4) (hi : i.val = t.val % 4 * 256 + r.val) (hq : q.val = j.val)
include hl hi hq

theorem b0_apply : b0 m c t (ix3 0 r j) = w0 m c l i q := by
  have e := index_0 t
  unfold w0 cur3 b0
  blk_simp [iblk]
  refine congrArg (m ((c.tc : Thread nD τ).loc main_arg0)) ?_
  blk_ext [e, hl, hi, hq]

theorem b1_apply : b1 m c t (ix3 0 r j) = w1 m c l i q := by
  have e := index_1 t
  unfold w1 cur3 b1
  blk_simp [iblk]
  refine congrArg (m ((c.tc : Thread nD τ).loc main_arg1)) ?_
  blk_ext [e, hl, hi, hq]

theorem b2_apply : b2 m c t (ix3 0 r j) = w2 m c l i q := by
  have e := index_2 t
  unfold w2 cur3 b2
  blk_simp [iblk]
  refine congrArg (m ((c.tc : Thread nD τ).loc main_arg2)) ?_
  blk_ext [e, hl, hi, hq]

theorem b3_apply : b3 m c t (ix2 r j) = w3 m c i q := by
  have e := index_3 t
  unfold w3 cur b3
  blk_simp [iblk]
  refine congrArg (m ((c.tc : Thread nD τ).loc main_arg3)) ?_
  blk_ext [e, hi, hq]

theorem b4_apply : b4 m c t (ix2 r j) = w4 m c i q := by
  have e := index_4 t
  unfold w4 cur b4
  blk_simp [iblk]
  refine congrArg (m ((c.tc : Thread nD τ).loc main_arg4)) ?_
  blk_ext [e, hi, hq]

/-- The gradient's block of a point: the first layer's, then the second's. -/
def gb (t : Fin cfg0.N) : Vec Ideal S256x1408 .f32 := if t.val < 4 then b3 m c t else b4 m c t

theorem gb_apply : gb m c t (ix2 r j) = gr (w3 m c) (w4 m c) l i q := by
  have hN : t.val < 8 := lt_of_lt_of_eq t.isLt N_0
  unfold gb gr
  by_cases h : t.val < 4
  · rw [if_pos h, if_pos (by omega)]
    exact b3_apply m c t r j l i q hl hi hq
  · rw [if_neg h, if_neg (by omega)]
    exact b4_apply m c t r j l i q hl hi hq

end blocks

/-- What a point leaves in the results' blocks. -/
theorem outs (t : Fin cfg0.N) : outsAt0 m c t.val t.isLt = (k0_pay1 (gb m c t), k0_pay9 (gb m c t) (b1 m c t) (b2 m c t) (b0 m c t), k0_pay2 (k0_pay7 (gb m c t) (b1 m c t)), k0_pay3 (k0_pay8 (gb m c t) (b2 m c t))) := by
  unfold gb
  by_cases h : t.val < 4
  · rw [if_pos h, outsAt0_A m c t h (by omega)]
    refine Prod.ext ?_ (Prod.ext ?_ (Prod.ext ?_ ?_))
    all_goals
      frame_out
      rfl
  · rw [if_neg h, outsAt0_B m c t h (by omega)]
    refine Prod.ext ?_ (Prod.ext ?_ (Prod.ext ?_ ?_))
    all_goals
      frame_out
      rfl

/-- The arrays after the launch. -/
theorem arr6 : (dats m 0 c).arrAt 6 cfg0.N = unc3 (gr (w3 m c) (w4 m c)) := by
  have e := index_6
  refine (dats m 0 c).arrAt_eq_of_covers 6 _ (by decide +kernel) fun t hf y => ?_
  have h0 : (y 0).val < 1 := (y 0).isLt
  have hN : t.val < 8 := lt_of_lt_of_eq t.isLt N_0
  have hl : ((win0_6.blk t).view.emb y 0).val = t.val / 4 := by
    blk_simp [e]
  have hi : ((win0_6.blk t).view.emb y 1).val = t.val % 4 * 256 + (y 1).val := by blk_simp [e]
  have hq : ((win0_6.blk t).view.emb y 2).val = (y 2).val := by blk_simp [e]
  blk_simp [iblk]
  rw [after0_6, outs]
  refine (congrFun (eq_unc3 _ _ (pay_g (gb m c t))) _).trans ?_
  unfold unc3
  exact gb_apply m c t (y 1) (y 2) _ _ _ hl hi hq

theorem arr7 : (dats m 0 c).arrAt 7 cfg0.N = unc3 (rd (w0 m c) (w1 m c) (w2 m c) (gr (w3 m c) (w4 m c))) := by
  have e := index_7
  refine (dats m 0 c).arrAt_eq_of_covers 7 _ (by decide +kernel) fun t hf y => ?_
  have h0 : (y 0).val < 1 := (y 0).isLt
  have hN : t.val < 8 := lt_of_lt_of_eq t.isLt N_0
  have hl : ((win0_7.blk t).view.emb y 0).val = t.val / 4 := by
    blk_simp [e]
  have hi : ((win0_7.blk t).view.emb y 1).val = t.val % 4 * 256 + (y 1).val := by blk_simp [e]
  have hq : ((win0_7.blk t).view.emb y 2).val = (y 2).val := by blk_simp [e]
  blk_simp [iblk]
  rw [after0_7, outs]
  refine (congrFun (eq_unc3 _ _ (pay_d (gb m c t) (b0 m c t) (b1 m c t) (b2 m c t))) _).trans ?_
  unfold unc3 rd
  exact congr (congr (congr (congrArg nd (b0_apply m c t (y 1) (y 2) _ _ _ hl hi hq)) (b1_apply m c t (y 1) (y 2) _ _ _ hl hi hq)) (b2_apply m c t (y 1) (y 2) _ _ _ hl hi hq)) (gb_apply m c t (y 1) (y 2) _ _ _ hl hi hq)

theorem arr8 : (dats m 0 c).arrAt 8 cfg0.N = unc3 (rm (w1 m c) (gr (w3 m c) (w4 m c))) := by
  have e := index_8
  refine (dats m 0 c).arrAt_eq_of_covers 8 _ (by decide +kernel) fun t hf y => ?_
  have h0 : (y 0).val < 1 := (y 0).isLt
  have hN : t.val < 8 := lt_of_lt_of_eq t.isLt N_0
  have hl : ((win0_8.blk t).view.emb y 0).val = t.val / 4 := by
    blk_simp [e]
  have hi : ((win0_8.blk t).view.emb y 1).val = t.val % 4 * 256 + (y 1).val := by blk_simp [e]
  have hq : ((win0_8.blk t).view.emb y 2).val = (y 2).val := by blk_simp [e]
  blk_simp [iblk]
  rw [after0_8, outs]
  refine (congrFun (eq_unc3 _ _ (pay_m (gb m c t) (b1 m c t))) _).trans ?_
  unfold unc3 rm
  exact congrArg₂ nm (b1_apply m c t (y 1) (y 2) _ _ _ hl hi hq) (gb_apply m c t (y 1) (y 2) _ _ _ hl hi hq)

theorem arr9 : (dats m 0 c).arrAt 9 cfg0.N = unc3 (rv (w2 m c) (gr (w3 m c) (w4 m c))) := by
  have e := index_9
  refine (dats m 0 c).arrAt_eq_of_covers 9 _ (by decide +kernel) fun t hf y => ?_
  have h0 : (y 0).val < 1 := (y 0).isLt
  have hN : t.val < 8 := lt_of_lt_of_eq t.isLt N_0
  have hl : ((win0_9.blk t).view.emb y 0).val = t.val / 4 := by
    blk_simp [e]
  have hi : ((win0_9.blk t).view.emb y 1).val = t.val % 4 * 256 + (y 1).val := by blk_simp [e]
  have hq : ((win0_9.blk t).view.emb y 2).val = (y 2).val := by blk_simp [e]
  blk_simp [iblk]
  rw [after0_9, outs]
  refine (congrFun (eq_unc3 _ _ (pay_v (gb m c t) (b2 m c t))) _).trans ?_
  unfold unc3 rv
  exact congrArg₂ nv (b2_apply m c t (y 1) (y 2) _ _ _ hl hi hq) (gb_apply m c t (y 1) (y 2) _ _ _ hl hi hq)

end kernel

section reference
open ReferenceAdamUpBIdeal ReferenceAdamUpBIdeal.Gen
variable (W M V : FVec Ideal S2x1024x1408 .f32) (G0 G1 : FVec Ideal S1024x1408 .f32)

def resg : FVec Ideal S2x1024x1408 .f32 :=
  concatenate S2x1024x1408 0 [⟨S1x1024x1408, (broadcastInDim S1x1024x1408 ![1, 2] bcast_S1024x1408_S1x1024x1408_1_2 G0)⟩, ⟨S1x1024x1408, (broadcastInDim S1x1024x1408 ![1, 2] bcast_S1024x1408_S1x1024x1408_1_2 G1)⟩] concatenates_S1x1024x1408_S1x1024x1408_S2x1024x1408_d0

theorem resg_apply (l : Fin 2) (i : Fin 1024) (j : Fin 1408) : resg G0 G1 (ix3 l i j) = gr (cur G0) (cur G1) l i j := by
  pointwise [resg]
  fin_cases l <;> rfl

def resm : FVec Ideal S2x1024x1408 .f32 := addf (mulf (broadcastInDim S2x1024x1408 ![] bcast_S_S2x1024x1408 (constant S_ .f32 0x3F666666#32)) M) (mulf (broadcastInDim S2x1024x1408 ![] bcast_S_S2x1024x1408 (constant S_ .f32 0x3DCCCCCD#32)) (resg G0 G1))

def resv : FVec Ideal S2x1024x1408 .f32 := addf (mulf (broadcastInDim S2x1024x1408 ![] bcast_S_S2x1024x1408 (constant S_ .f32 0x3F7FBE77#32)) V) (mulf (broadcastInDim S2x1024x1408 ![] bcast_S_S2x1024x1408 (constant S_ .f32 0x3A83126F#32)) (mulf (resg G0 G1) (resg G0 G1)))

def resd : FVec Ideal S2x1024x1408 .f32 :=
  mulf (broadcastInDim S2x1024x1408 ![] bcast_S_S2x1024x1408 (constant S_ .f32 0xBA83126F#32)) (addf (Host.divf (Host.divf (resm M G0 G1) (broadcastInDim S2x1024x1408 ![] bcast_S_S2x1024x1408 (constant S_ .f32 0x3F26BD02#32)))
    (addf (Host.sqrt (Host.divf (resv V G0 G1) (broadcastInDim S2x1024x1408 ![] bcast_S_S2x1024x1408 (constant S_ .f32 0x3C231ACC#32)))) (broadcastInDim S2x1024x1408 ![] bcast_S_S2x1024x1408 (constant S_ .f32 0x322BCC77#32)))) (mulf (broadcastInDim S2x1024x1408 ![] bcast_S_S2x1024x1408 (constant S_ .f32 0x3C23D70A#32)) W))

theorem resm_apply (l : Fin 2) (i : Fin 1024) (j : Fin 1408) : resm M G0 G1 (ix3 l i j) = rm (cur3 M) (gr (cur G0) (cur G1)) l i j := by
  pointwise [resm]
  rw [resg_apply]
  rfl

theorem resv_apply (l : Fin 2) (i : Fin 1024) (j : Fin 1408) : resv V G0 G1 (ix3 l i j) = rv (cur3 V) (gr (cur G0) (cur G1)) l i j := by
  pointwise [resv]
  rw [resg_apply]
  rfl

theorem resd_apply (l : Fin 2) (i : Fin 1024) (j : Fin 1408) : resd W M V G0 G1 (ix3 l i j) = rd (cur3 W) (cur3 M) (cur3 V) (gr (cur G0) (cur G1)) l i j := by
  pointwise [resd]
  rw [resm_apply, resv_apply]
  rfl

end reference

/-! ## The claims -/

theorem values : algebraic_KernelAdamUpBIdeal_ReferenceAdamUpBIdeal (hKernelAdamUpBIdeal := KernelAdamUpBIdeal.Gen.facts)
    (hReferenceAdamUpBIdeal := ReferenceAdamUpBIdeal.Gen.facts) := by
  intro m g m' g' _ hagree
  refine ⟨fun c => (KernelAdamUpBIdeal.Gen.dats m 0 c).arrAt 6 KernelAdamUpBIdeal.cfg0.N, fun c => (KernelAdamUpBIdeal.Gen.dats m 0 c).arrAt 7 KernelAdamUpBIdeal.cfg0.N, fun c => (KernelAdamUpBIdeal.Gen.dats m 0 c).arrAt 8 KernelAdamUpBIdeal.cfg0.N, fun c => (KernelAdamUpBIdeal.Gen.dats m 0 c).arrAt 9 KernelAdamUpBIdeal.cfg0.N, ?_, ?_⟩
  · exact KernelAdamUpBIdeal.Value.run_blocks (F := Ideal) m g
  · refine (θ_run _ _ _).mono (fun r h c => ?_) (ReferenceAdamUpBIdeal.Value.run (F := Ideal) m' g')
    obtain ⟨a0, a1, a2, a3, a4, a5⟩ := hagree c
    obtain ⟨h0, h1, h2, h3, rest⟩ := h c
    refine ⟨h0.trans ?_, h1.trans ?_, h2.trans ?_, h3.trans ?_, rest⟩
    · rw [a3, a4]
      exact (eq_unc3 _ _ (resg_apply _ _)).trans (arr6 m c).symm
    · rw [a0, a1, a2, a3, a4]
      exact (eq_unc3 _ _ (resd_apply _ _ _ _ _)).trans (arr7 m c).symm
    · rw [a1, a3, a4]
      exact (eq_unc3 _ _ (resm_apply _ _ _)).trans (arr8 m c).symm
    · rw [a2, a3, a4]
      exact (eq_unc3 _ _ (resv_apply _ _ _)).trans (arr9 m c).symm

theorem reference_frame : quiescent_ReferenceAdamUpBIdeal (hReferenceAdamUpBIdeal := ReferenceAdamUpBIdeal.Gen.facts) := fun m g _ =>
  (θ_run _ _ _).mono (fun r h => ⟨fun c => (h c).2.2.2.2, sem_eq_zero_of_no_sems rfl r.2⟩) (ReferenceAdamUpBIdeal.Value.run (F := Ideal) m g)

theorem kernel_frame : quiescent_KernelAdamUpB (hKernelAdamUpB := KernelAdamUpB.Gen.facts) := fun m g _ => KernelAdamUpB.Gen.frame m g

theorem ideal_frame : quiescent_KernelAdamUpBIdeal (hKernelAdamUpBIdeal := KernelAdamUpBIdeal.Gen.facts) := fun m g _ => KernelAdamUpBIdeal.Gen.frame m g

end Cert.Ffn.AdamUpB

end
-- ==== Proof.AdamDown.lean ====
/- AdamW over the SwiGLU's second weight: the arrays after the launch and the reference, by element. -/
module

public import proofs.«01_k».proof.Proof.Gen.KernelAdamDownIdeal.Value
public import proofs.«01_k».proof.Proof.Gen.KernelAdamDown
public import proofs.«01_k».proof.Proof.Gen.KernelAdamDown.Frame
public import proofs.«01_k».proof.Proof.Gen.ReferenceAdamDownIdeal.Run
public import proofs.«01_k».proof.Proof.Common
public import proofs.«01_k».proof.Proof.AdamStep
public import Idealize.ShloMosaic.Lib.Pipeline.ReadBack
public import proofs.«01_k».proof.Defs

@[expose] public section

set_option maxRecDepth 16384

noncomputable section

namespace Cert.Ffn.AdamDown

open Cert.Attn Cert.Ffn.Adam
open Idealize.ShloMosaic Idealize.ShloMosaic.TcCoe Idealize.ShloMosaic.Tactic Idealize.SL.Sem

section kernel

open KernelAdamDownIdeal KernelAdamDownIdeal.Gen
open Idealize.ShloMosaic.Pipeline (Dat Cfg Window BodyObligation cellOf)

variable (g : Vec Ideal S176x1024 .f32) (w m v : Vec Ideal S1x176x1024 .f32)

theorem pay_g (p : Fin 1) (r : Fin 176) (j : Fin 1024) : k0_pay1 g (ix3 p r j) = g (ix2 r j) := by
  pointwise [k0_pay1]

theorem pay_m (p : Fin 1) (r : Fin 176) (j : Fin 1024) : k0_pay2 (k0_pay7 g m) (ix3 p r j) = nm (m (ix3 0 r j)) (g (ix2 r j)) := by
  pointwise [k0_pay2, k0_pay7]
  rfl

theorem pay_v (p : Fin 1) (r : Fin 176) (j : Fin 1024) : k0_pay3 (k0_pay8 g v) (ix3 p r j) = nv (v (ix3 0 r j)) (g (ix2 r j)) := by
  pointwise [k0_pay3, k0_pay8]
  rfl

theorem pay_d (p : Fin 1) (r : Fin 176) (j : Fin 1024) : k0_pay9 g m v w (ix3 p r j) = nd (w (ix3 0 r j)) (m (ix3 0 r j)) (v (ix3 0 r j)) (g (ix2 r j)) := by
  pointwise [k0_pay9, k0_pay7, k0_pay8]
  rfl

variable (m : (ℓ : Loc nD τ sig) → Buf (Elt Ideal) ℓ) (c : Dev nD)

theorem index_0 : ∀ t : Fin cfg0.N, win0_0.index t = ![t.val / 4, t.val % 4, 0] := by decide +kernel
theorem index_1 : ∀ t : Fin cfg0.N, win0_1.index t = ![t.val / 4, t.val % 4, 0] := by decide +kernel
theorem index_2 : ∀ t : Fin cfg0.N, win0_2.index t = ![t.val / 4, t.val % 4, 0] := by decide +kernel
theorem index_3 : ∀ t : Fin cfg0.N, win0_3.index t = ![t.val % 4, 0] := by decide +kernel
theorem index_4 : ∀ t : Fin cfg0.N, win0_4.index t = ![t.val % 4, 0] := by decide +kernel
theorem index_5 : ∀ t : Fin cfg0.N, win0_5.index t = ![t.val / 4, t.val % 4, 0] := by decide +kernel
theorem index_6 : ∀ t : Fin cfg0.N, win0_6.index t = ![t.val / 4, t.val % 4, 0] := by decide +kernel
theorem index_7 : ∀ t : Fin cfg0.N, win0_7.index t = ![t.val / 4, t.val % 4, 0] := by decide +kernel
theorem index_8 : ∀ t : Fin cfg0.N, win0_8.index t = ![t.val / 4, t.val % 4, 0] := by decide +kernel

/-- The arguments, and the blocks of a point. -/
abbrev w0 := cur3 (m ((c.tc : Thread nD τ).loc main_arg0))
abbrev w1 := cur3 (m ((c.tc : Thread nD τ).loc main_arg1))
abbrev w2 := cur3 (m ((c.tc : Thread nD τ).loc main_arg2))
abbrev w3 := cur (m ((c.tc : Thread nD τ).loc main_arg3))
abbrev w4 := cur (m ((c.tc : Thread nD τ).loc main_arg4))

def b0 (t : Fin cfg0.N) : Vec Ideal S1x176x1024 .f32 := iblk m c 0 t
def b1 (t : Fin cfg0.N) : Vec Ideal S1x176x1024 .f32 := iblk m c 1 t
def b2 (t : Fin cfg0.N) : Vec Ideal S1x176x1024 .f32 := iblk m c 2 t
def b3 (t : Fin cfg0.N) : Vec Ideal S176x1024 .f32 := iblk m c 3 t
def b4 (t : Fin cfg0.N) : Vec Ideal S176x1024 .f32 := iblk m c 4 t

section blocks

variable (t : Fin cfg0.N) (r : Fin 176) (j : Fin 1024) (l : Fin 2) (i : Fin 704) (q : Fin 1024) (hl : l.val = t.val / 4) (hi : i.val = t.val % 4 * 176 + r.val) (hq : q.val = j.val)
include hl hi hq

theorem b0_apply : b0 m c t (ix3 0 r j) = w0 m c l i q := by
  have e := index_0 t
  unfold w0 cur3 b0
  blk_simp [iblk]
  refine congrArg (m ((c.tc : Thread nD τ).loc main_arg0)) ?_
  blk_ext [e, hl, hi, hq]

theorem b1_apply : b1 m c t (ix3 0 r j) = w1 m c l i q := by
  have e := index_1 t
  unfold w1 cur3 b1
  blk_simp [iblk]
  refine congrArg (m ((c.tc : Thread nD τ).loc main_arg1)) ?_
  blk_ext [e, hl, hi, hq]

theorem b2_apply : b2 m c t (ix3 0 r j) = w2 m c l i q := by
  have e := index_2 t
  unfold w2 cur3 b2
  blk_simp [iblk]
  refine congrArg (m ((c.tc : Thread nD τ).loc main_arg2)) ?_
  blk_ext [e, hl, hi, hq]

theorem b3_apply : b3 m c t (ix2 r j) = w3 m c i q := by
  have e := index_3 t
  unfold w3 cur b3
  blk_simp [iblk]
  refine congrArg (m ((c.tc : Thread nD τ).loc main_arg3)) ?_
  blk_ext [e, hi, hq]

theorem b4_apply : b4 m c t (ix2 r j) = w4 m c i q := by
  have e := index_4 t
  unfold w4 cur b4
  blk_simp [iblk]
  refine congrArg (m ((c.tc : Thread nD τ).loc main_arg4)) ?_
  blk_ext [e, hi, hq]

/-- The gradient's block of a point: the first layer's, then the second's. -/
def gb (t : Fin cfg0.N) : Vec Ideal S176x1024 .f32 := if t.val < 4 then b3 m c t else b4 m c t

theorem gb_apply : gb m c t (ix2 r j) = gr (w3 m c) (w4 m c) l i q := by
  have hN : t.val < 8 := lt_of_lt_of_eq t.isLt N_0
  unfold gb gr
  by_cases h : t.val < 4
  · rw [if_pos h, if_pos (by omega)]
    exact b3_apply m c t r j l i q hl hi hq
  · rw [if_neg h, if_neg (by omega)]
    exact b4_apply m c t r j l i q hl hi hq

end blocks

/-- What a point leaves in the results' blocks. -/
theorem outs (t : Fin cfg0.N) : outsAt0 m c t.val t.isLt = (k0_pay1 (gb m c t), k0_pay9 (gb m c t) (b1 m c t) (b2 m c t) (b0 m c t), k0_pay2 (k0_pay7 (gb m c t) (b1 m c t)), k0_pay3 (k0_pay8 (gb m c t) (b2 m c t))) := by
  unfold gb
  by_cases h : t.val < 4
  · rw [if_pos h, outsAt0_A m c t h (by omega)]
    refine Prod.ext ?_ (Prod.ext ?_ (Prod.ext ?_ ?_))
    all_goals
      frame_out
      rfl
  · rw [if_neg h, outsAt0_B m c t h (by omega)]
    refine Prod.ext ?_ (Prod.ext ?_ (Prod.ext ?_ ?_))
    all_goals
      frame_out
      rfl

/-- The arrays after the launch. -/
theorem arr5 : (dats m 0 c).arrAt 5 cfg0.N = unc3 (gr (w3 m c) (w4 m c)) := by
  have e := index_5
  refine (dats m 0 c).arrAt_eq_of_covers 5 _ (by decide +kernel) fun t hf y => ?_
  have h0 : (y 0).val < 1 := (y 0).isLt
  have hN : t.val < 8 := lt_of_lt_of_eq t.isLt N_0
  have hl : ((win0_5.blk t).view.emb y 0).val = t.val / 4 := by
    blk_simp [e]
  have hi : ((win0_5.blk t).view.emb y 1).val = t.val % 4 * 176 + (y 1).val := by blk_simp [e]
  have hq : ((win0_5.blk t).view.emb y 2).val = (y 2).val := by blk_simp [e]
  blk_simp [iblk]
  rw [after0_5, outs]
  refine (congrFun (eq_unc3 _ _ (pay_g (gb m c t))) _).trans ?_
  unfold unc3
  exact gb_apply m c t (y 1) (y 2) _ _ _ hl hi hq

theorem arr6 : (dats m 0 c).arrAt 6 cfg0.N = unc3 (rd (w0 m c) (w1 m c) (w2 m c) (gr (w3 m c) (w4 m c))) := by
  have e := index_6
  refine (dats m 0 c).arrAt_eq_of_covers 6 _ (by decide +kernel) fun t hf y => ?_
  have h0 : (y 0).val < 1 := (y 0).isLt
  have hN : t.val < 8 := lt_of_lt_of_eq t.isLt N_0
  have hl : ((win0_6.blk t).view.emb y 0).val = t.val / 4 := by
    blk_simp [e]
  have hi : ((win0_6.blk t).view.emb y 1).val = t.val % 4 * 176 + (y 1).val := by blk_simp [e]
  have hq : ((win0_6.blk t).view.emb y 2).val = (y 2).val := by blk_simp [e]
  blk_simp [iblk]
  rw [after0_6, outs]
  refine (congrFun (eq_unc3 _ _ (pay_d (gb m c t) (b0 m c t) (b1 m c t) (b2 m c t))) _).trans ?_
  unfold unc3 rd
  exact congr (congr (congr (congrArg nd (b0_apply m c t (y 1) (y 2) _ _ _ hl hi hq)) (b1_apply m c t (y 1) (y 2) _ _ _ hl hi hq)) (b2_apply m c t (y 1) (y 2) _ _ _ hl hi hq)) (gb_apply m c t (y 1) (y 2) _ _ _ hl hi hq)

theorem arr7 : (dats m 0 c).arrAt 7 cfg0.N = unc3 (rm (w1 m c) (gr (w3 m c) (w4 m c))) := by
  have e := index_7
  refine (dats m 0 c).arrAt_eq_of_covers 7 _ (by decide +kernel) fun t hf y => ?_
  have h0 : (y 0).val < 1 := (y 0).isLt
  have hN : t.val < 8 := lt_of_lt_of_eq t.isLt N_0
  have hl : ((win0_7.blk t).view.emb y 0).val = t.val / 4 := by
    blk_simp [e]
  have hi : ((win0_7.blk t).view.emb y 1).val = t.val % 4 * 176 + (y 1).val := by blk_simp [e]
  have hq : ((win0_7.blk t).view.emb y 2).val = (y 2).val := by blk_simp [e]
  blk_simp [iblk]
  rw [after0_7, outs]
  refine (congrFun (eq_unc3 _ _ (pay_m (gb m c t) (b1 m c t))) _).trans ?_
  unfold unc3 rm
  exact congrArg₂ nm (b1_apply m c t (y 1) (y 2) _ _ _ hl hi hq) (gb_apply m c t (y 1) (y 2) _ _ _ hl hi hq)

theorem arr8 : (dats m 0 c).arrAt 8 cfg0.N = unc3 (rv (w2 m c) (gr (w3 m c) (w4 m c))) := by
  have e := index_8
  refine (dats m 0 c).arrAt_eq_of_covers 8 _ (by decide +kernel) fun t hf y => ?_
  have h0 : (y 0).val < 1 := (y 0).isLt
  have hN : t.val < 8 := lt_of_lt_of_eq t.isLt N_0
  have hl : ((win0_8.blk t).view.emb y 0).val = t.val / 4 := by
    blk_simp [e]
  have hi : ((win0_8.blk t).view.emb y 1).val = t.val % 4 * 176 + (y 1).val := by blk_simp [e]
  have hq : ((win0_8.blk t).view.emb y 2).val = (y 2).val := by blk_simp [e]
  blk_simp [iblk]
  rw [after0_8, outs]
  refine (congrFun (eq_unc3 _ _ (pay_v (gb m c t) (b2 m c t))) _).trans ?_
  unfold unc3 rv
  exact congrArg₂ nv (b2_apply m c t (y 1) (y 2) _ _ _ hl hi hq) (gb_apply m c t (y 1) (y 2) _ _ _ hl hi hq)

end kernel

section reference
open ReferenceAdamDownIdeal ReferenceAdamDownIdeal.Gen
variable (W M V : FVec Ideal S2x704x1024 .f32) (G0 G1 : FVec Ideal S704x1024 .f32)

def resg : FVec Ideal S2x704x1024 .f32 :=
  concatenate S2x704x1024 0 [⟨S1x704x1024, (broadcastInDim S1x704x1024 ![1, 2] bcast_S704x1024_S1x704x1024_1_2 G0)⟩, ⟨S1x704x1024, (broadcastInDim S1x704x1024 ![1, 2] bcast_S704x1024_S1x704x1024_1_2 G1)⟩] concatenates_S1x704x1024_S1x704x1024_S2x704x1024_d0

theorem resg_apply (l : Fin 2) (i : Fin 704) (j : Fin 1024) : resg G0 G1 (ix3 l i j) = gr (cur G0) (cur G1) l i j := by
  pointwise [resg]
  fin_cases l <;> rfl

def resm : FVec Ideal S2x704x1024 .f32 := addf (mulf (broadcastInDim S2x704x1024 ![] bcast_S_S2x704x1024 (constant S_ .f32 0x3F666666#32)) M) (mulf (broadcastInDim S2x704x1024 ![] bcast_S_S2x704x1024 (constant S_ .f32 0x3DCCCCCD#32)) (resg G0 G1))

def resv : FVec Ideal S2x704x1024 .f32 := addf (mulf (broadcastInDim S2x704x1024 ![] bcast_S_S2x704x1024 (constant S_ .f32 0x3F7FBE77#32)) V) (mulf (broadcastInDim S2x704x1024 ![] bcast_S_S2x704x1024 (constant S_ .f32 0x3A83126F#32)) (mulf (resg G0 G1) (resg G0 G1)))

def resd : FVec Ideal S2x704x1024 .f32 :=
  mulf (broadcastInDim S2x704x1024 ![] bcast_S_S2x704x1024 (constant S_ .f32 0xBA83126F#32)) (addf (Host.divf (Host.divf (resm M G0 G1) (broadcastInDim S2x704x1024 ![] bcast_S_S2x704x1024 (constant S_ .f32 0x3F26BD02#32)))
    (addf (Host.sqrt (Host.divf (resv V G0 G1) (broadcastInDim S2x704x1024 ![] bcast_S_S2x704x1024 (constant S_ .f32 0x3C231ACC#32)))) (broadcastInDim S2x704x1024 ![] bcast_S_S2x704x1024 (constant S_ .f32 0x322BCC77#32)))) (mulf (broadcastInDim S2x704x1024 ![] bcast_S_S2x704x1024 (constant S_ .f32 0x3C23D70A#32)) W))

theorem resm_apply (l : Fin 2) (i : Fin 704) (j : Fin 1024) : resm M G0 G1 (ix3 l i j) = rm (cur3 M) (gr (cur G0) (cur G1)) l i j := by
  pointwise [resm]
  rw [resg_apply]
  rfl

theorem resv_apply (l : Fin 2) (i : Fin 704) (j : Fin 1024) : resv V G0 G1 (ix3 l i j) = rv (cur3 V) (gr (cur G0) (cur G1)) l i j := by
  pointwise [resv]
  rw [resg_apply]
  rfl

theorem resd_apply (l : Fin 2) (i : Fin 704) (j : Fin 1024) : resd W M V G0 G1 (ix3 l i j) = rd (cur3 W) (cur3 M) (cur3 V) (gr (cur G0) (cur G1)) l i j := by
  pointwise [resd]
  rw [resm_apply, resv_apply]
  rfl

end reference

/-! ## The claims -/

theorem values : algebraic_KernelAdamDownIdeal_ReferenceAdamDownIdeal (hKernelAdamDownIdeal := KernelAdamDownIdeal.Gen.facts)
    (hReferenceAdamDownIdeal := ReferenceAdamDownIdeal.Gen.facts) := by
  intro m g m' g' _ hagree
  refine ⟨fun c => (KernelAdamDownIdeal.Gen.dats m 0 c).arrAt 5 KernelAdamDownIdeal.cfg0.N, fun c => (KernelAdamDownIdeal.Gen.dats m 0 c).arrAt 6 KernelAdamDownIdeal.cfg0.N, fun c => (KernelAdamDownIdeal.Gen.dats m 0 c).arrAt 7 KernelAdamDownIdeal.cfg0.N, fun c => (KernelAdamDownIdeal.Gen.dats m 0 c).arrAt 8 KernelAdamDownIdeal.cfg0.N, ?_, ?_⟩
  · exact KernelAdamDownIdeal.Value.run_blocks (F := Ideal) m g
  · refine (θ_run _ _ _).mono (fun r h c => ?_) (ReferenceAdamDownIdeal.Value.run (F := Ideal) m' g')
    obtain ⟨a0, a1, a2, a3, a4⟩ := hagree c
    obtain ⟨h0, h1, h2, h3, rest⟩ := h c
    refine ⟨h0.trans ?_, h1.trans ?_, h2.trans ?_, h3.trans ?_, rest⟩
    · rw [a3, a4]
      exact (eq_unc3 _ _ (resg_apply _ _)).trans (arr5 m c).symm
    · rw [a0, a1, a2, a3, a4]
      exact (eq_unc3 _ _ (resd_apply _ _ _ _ _)).trans (arr6 m c).symm
    · rw [a1, a3, a4]
      exact (eq_unc3 _ _ (resm_apply _ _ _)).trans (arr7 m c).symm
    · rw [a2, a3, a4]
      exact (eq_unc3 _ _ (resv_apply _ _ _)).trans (arr8 m c).symm

theorem reference_frame : quiescent_ReferenceAdamDownIdeal (hReferenceAdamDownIdeal := ReferenceAdamDownIdeal.Gen.facts) := fun m g _ =>
  (θ_run _ _ _).mono (fun r h => ⟨fun c => (h c).2.2.2.2, sem_eq_zero_of_no_sems rfl r.2⟩) (ReferenceAdamDownIdeal.Value.run (F := Ideal) m g)

theorem kernel_frame : quiescent_KernelAdamDown (hKernelAdamDown := KernelAdamDown.Gen.facts) := fun m g _ => KernelAdamDown.Gen.frame m g

theorem ideal_frame : quiescent_KernelAdamDownIdeal (hKernelAdamDownIdeal := KernelAdamDownIdeal.Gen.facts) := fun m g _ => KernelAdamDownIdeal.Gen.frame m g

end Cert.Ffn.AdamDown

end
-- ==== Proof.AdamDownB.lean ====
/- AdamW over the SwiGLU's second weight, with an operand that is not read: the arrays after the launch and the reference, by element. -/
module

public import proofs.«01_k».proof.Proof.Gen.KernelAdamDownBIdeal.Value
public import proofs.«01_k».proof.Proof.Gen.KernelAdamDownB
public import proofs.«01_k».proof.Proof.Gen.KernelAdamDownB.Frame
public import proofs.«01_k».proof.Proof.Gen.ReferenceAdamDownBIdeal.Run
public import proofs.«01_k».proof.Proof.Common
public import proofs.«01_k».proof.Proof.AdamStep
public import Idealize.ShloMosaic.Lib.Pipeline.ReadBack
public import proofs.«01_k».proof.Defs

@[expose] public section

set_option maxRecDepth 16384

noncomputable section

namespace Cert.Ffn.AdamDownB

open Cert.Attn Cert.Ffn.Adam
open Idealize.ShloMosaic Idealize.ShloMosaic.TcCoe Idealize.ShloMosaic.Tactic Idealize.SL.Sem

section kernel

open KernelAdamDownBIdeal KernelAdamDownBIdeal.Gen
open Idealize.ShloMosaic.Pipeline (Dat Cfg Window BodyObligation cellOf)

variable (g : Vec Ideal S176x1024 .f32) (w m v : Vec Ideal S1x176x1024 .f32)

theorem pay_g (p : Fin 1) (r : Fin 176) (j : Fin 1024) : k0_pay1 g (ix3 p r j) = g (ix2 r j) := by
  pointwise [k0_pay1]

theorem pay_m (p : Fin 1) (r : Fin 176) (j : Fin 1024) : k0_pay2 (k0_pay7 g m) (ix3 p r j) = nm (m (ix3 0 r j)) (g (ix2 r j)) := by
  pointwise [k0_pay2, k0_pay7]
  rfl

theorem pay_v (p : Fin 1) (r : Fin 176) (j : Fin 1024) : k0_pay3 (k0_pay8 g v) (ix3 p r j) = nv (v (ix3 0 r j)) (g (ix2 r j)) := by
  pointwise [k0_pay3, k0_pay8]
  rfl

theorem pay_d (p : Fin 1) (r : Fin 176) (j : Fin 1024) : k0_pay9 g m v w (ix3 p r j) = nd (w (ix3 0 r j)) (m (ix3 0 r j)) (v (ix3 0 r j)) (g (ix2 r j)) := by
  pointwise [k0_pay9, k0_pay7, k0_pay8]
  rfl

variable (m : (ℓ : Loc nD τ sig) → Buf (Elt Ideal) ℓ) (c : Dev nD)

theorem index_0 : ∀ t : Fin cfg0.N, win0_0.index t = ![t.val / 4, t.val % 4, 0] := by decide +kernel
theorem index_1 : ∀ t : Fin cfg0.N, win0_1.index t = ![t.val / 4, t.val % 4, 0] := by decide +kernel
theorem index_2 : ∀ t : Fin cfg0.N, win0_2.index t = ![t.val / 4, t.val % 4, 0] := by decide +kernel
theorem index_3 : ∀ t : Fin cfg0.N, win0_3.index t = ![t.val % 4, 0] := by decide +kernel
theorem index_4 : ∀ t : Fin cfg0.N, win0_4.index t = ![t.val % 4, 0] := by decide +kernel
theorem index_6 : ∀ t : Fin cfg0.N, win0_6.index t = ![t.val / 4, t.val % 4, 0] := by decide +kernel
theorem index_7 : ∀ t : Fin cfg0.N, win0_7.index t = ![t.val / 4, t.val % 4, 0] := by decide +kernel
theorem index_8 : ∀ t : Fin cfg0.N, win0_8.index t = ![t.val / 4, t.val % 4, 0] := by decide +kernel
theorem index_9 : ∀ t : Fin cfg0.N, win0_9.index t = ![t.val / 4, t.val % 4, 0] := by decide +kernel

/-- The arguments, and the blocks of a point. -/
abbrev w0 := cur3 (m ((c.tc : Thread nD τ).loc main_arg0))
abbrev w1 := cur3 (m ((c.tc : Thread nD τ).loc main_arg1))
abbrev w2 := cur3 (m ((c.tc : Thread nD τ).loc main_arg2))
abbrev w3 := cur (m ((c.tc : Thread nD τ).loc main_arg3))
abbrev w4 := cur (m ((c.tc : Thread nD τ).loc main_arg4))

def b0 (t : Fin cfg0.N) : Vec Ideal S1x176x1024 .f32 := iblk m c 0 t
def b1 (t : Fin cfg0.N) : Vec Ideal S1x176x1024 .f32 := iblk m c 1 t
def b2 (t : Fin cfg0.N) : Vec Ideal S1x176x1024 .f32 := iblk m c 2 t
def b3 (t : Fin cfg0.N) : Vec Ideal S176x1024 .f32 := iblk m c 3 t
def b4 (t : Fin cfg0.N) : Vec Ideal S176x1024 .f32 := iblk m c 4 t

section blocks

variable (t : Fin cfg0.N) (r : Fin 176) (j : Fin 1024) (l : Fin 2) (i : Fin 704) (q : Fin 1024) (hl : l.val = t.val / 4) (hi : i.val = t.val % 4 * 176 + r.val) (hq : q.val = j.val)
include hl hi hq

theorem b0_apply : b0 m c t (ix3 0 r j) = w0 m c l i q := by
  have e := index_0 t
  unfold w0 cur3 b0
  blk_simp [iblk]
  refine congrArg (m ((c.tc : Thread nD τ).loc main_arg0)) ?_
  blk_ext [e, hl, hi, hq]

theorem b1_apply : b1 m c t (ix3 0 r j) = w1 m c l i q := by
  have e := index_1 t
  unfold w1 cur3 b1
  blk_simp [iblk]
  refine congrArg (m ((c.tc : Thread nD τ).loc main_arg1)) ?_
  blk_ext [e, hl, hi, hq]

theorem b2_apply : b2 m c t (ix3 0 r j) = w2 m c l i q := by
  have e := index_2 t
  unfold w2 cur3 b2
  blk_simp [iblk]
  refine congrArg (m ((c.tc : Thread nD τ).loc main_arg2)) ?_
  blk_ext [e, hl, hi, hq]

theorem b3_apply : b3 m c t (ix2 r j) = w3 m c i q := by
  have e := index_3 t
  unfold w3 cur b3
  blk_simp [iblk]
  refine congrArg (m ((c.tc : Thread nD τ).loc main_arg3)) ?_
  blk_ext [e, hi, hq]

theorem b4_apply : b4 m c t (ix2 r j) = w4 m c i q := by
  have e := index_4 t
  unfold w4 cur b4
  blk_simp [iblk]
  refine congrArg (m ((c.tc : Thread nD τ).loc main_arg4)) ?_
  blk_ext [e, hi, hq]

/-- The gradient's block of a point: the first layer's, then the second's. -/
def gb (t : Fin cfg0.N) : Vec Ideal S176x1024 .f32 := if t.val < 4 then b3 m c t else b4 m c t

theorem gb_apply : gb m c t (ix2 r j) = gr (w3 m c) (w4 m c) l i q := by
  have hN : t.val < 8 := lt_of_lt_of_eq t.isLt N_0
  unfold gb gr
  by_cases h : t.val < 4
  · rw [if_pos h, if_pos (by omega)]
    exact b3_apply m c t r j l i q hl hi hq
  · rw [if_neg h, if_neg (by omega)]
    exact b4_apply m c t r j l i q hl hi hq

end blocks

/-- What a point leaves in the results' blocks. -/
theorem outs (t : Fin cfg0.N) : outsAt0 m c t.val t.isLt = (k0_pay1 (gb m c t), k0_pay9 (gb m c t) (b1 m c t) (b2 m c t) (b0 m c t), k0_pay2 (k0_pay7 (gb m c t) (b1 m c t)), k0_pay3 (k0_pay8 (gb m c t) (b2 m c t))) := by
  unfold gb
  by_cases h : t.val < 4
  · rw [if_pos h, outsAt0_A m c t h (by omega)]
    refine Prod.ext ?_ (Prod.ext ?_ (Prod.ext ?_ ?_))
    all_goals
      frame_out
      rfl
  · rw [if_neg h, outsAt0_B m c t h (by omega)]
    refine Prod.ext ?_ (Prod.ext ?_ (Prod.ext ?_ ?_))
    all_goals
      frame_out
      rfl

/-- The arrays after the launch. -/
theorem arr6 : (dats m 0 c).arrAt 6 cfg0.N = unc3 (gr (w3 m c) (w4 m c)) := by
  have e := index_6
  refine (dats m 0 c).arrAt_eq_of_covers 6 _ (by decide +kernel) fun t hf y => ?_
  have h0 : (y 0).val < 1 := (y 0).isLt
  have hN : t.val < 8 := lt_of_lt_of_eq t.isLt N_0
  have hl : ((win0_6.blk t).view.emb y 0).val = t.val / 4 := by
    blk_simp [e]
  have hi : ((win0_6.blk t).view.emb y 1).val = t.val % 4 * 176 + (y 1).val := by blk_simp [e]
  have hq : ((win0_6.blk t).view.emb y 2).val = (y 2).val := by blk_simp [e]
  blk_simp [iblk]
  rw [after0_6, outs]
  refine (congrFun (eq_unc3 _ _ (pay_g (gb m c t))) _).trans ?_
  unfold unc3
  exact gb_apply m c t (y 1) (y 2) _ _ _ hl hi hq

theorem arr7 : (dats m 0 c).arrAt 7 cfg0.N = unc3 (rd (w0 m c) (w1 m c) (w2 m c) (gr (w3 m c) (w4 m c))) := by
  have e := index_7
  refine (dats m 0 c).arrAt_eq_of_covers 7 _ (by decide +kernel) fun t hf y => ?_
  have h0 : (y 0).val < 1 := (y 0).isLt
  have hN : t.val < 8 := lt_of_lt_of_eq t.isLt N_0
  have hl : ((win0_7.blk t).view.emb y 0).val = t.val / 4 := by
    blk_simp [e]
  have hi : ((win0_7.blk t).view.emb y 1).val = t.val % 4 * 176 + (y 1).val := by blk_simp [e]
  have hq : ((win0_7.blk t).view.emb y 2).val = (y 2).val := by blk_simp [e]
  blk_simp [iblk]
  rw [after0_7, outs]
  refine (congrFun (eq_unc3 _ _ (pay_d (gb m c t) (b0 m c t) (b1 m c t) (b2 m c t))) _).trans ?_
  unfold unc3 rd
  exact congr (congr (congr (congrArg nd (b0_apply m c t (y 1) (y 2) _ _ _ hl hi hq)) (b1_apply m c t (y 1) (y 2) _ _ _ hl hi hq)) (b2_apply m c t (y 1) (y 2) _ _ _ hl hi hq)) (gb_apply m c t (y 1) (y 2) _ _ _ hl hi hq)

theorem arr8 : (dats m 0 c).arrAt 8 cfg0.N = unc3 (rm (w1 m c) (gr (w3 m c) (w4 m c))) := by
  have e := index_8
  refine (dats m 0 c).arrAt_eq_of_covers 8 _ (by decide +kernel) fun t hf y => ?_
  have h0 : (y 0).val < 1 := (y 0).isLt
  have hN : t.val < 8 := lt_of_lt_of_eq t.isLt N_0
  have hl : ((win0_8.blk t).view.emb y 0).val = t.val / 4 := by
    blk_simp [e]
  have hi : ((win0_8.blk t).view.emb y 1).val = t.val % 4 * 176 + (y 1).val := by blk_simp [e]
  have hq : ((win0_8.blk t).view.emb y 2).val = (y 2).val := by blk_simp [e]
  blk_simp [iblk]
  rw [after0_8, outs]
  refine (congrFun (eq_unc3 _ _ (pay_m (gb m c t) (b1 m c t))) _).trans ?_
  unfold unc3 rm
  exact congrArg₂ nm (b1_apply m c t (y 1) (y 2) _ _ _ hl hi hq) (gb_apply m c t (y 1) (y 2) _ _ _ hl hi hq)

theorem arr9 : (dats m 0 c).arrAt 9 cfg0.N = unc3 (rv (w2 m c) (gr (w3 m c) (w4 m c))) := by
  have e := index_9
  refine (dats m 0 c).arrAt_eq_of_covers 9 _ (by decide +kernel) fun t hf y => ?_
  have h0 : (y 0).val < 1 := (y 0).isLt
  have hN : t.val < 8 := lt_of_lt_of_eq t.isLt N_0
  have hl : ((win0_9.blk t).view.emb y 0).val = t.val / 4 := by
    blk_simp [e]
  have hi : ((win0_9.blk t).view.emb y 1).val = t.val % 4 * 176 + (y 1).val := by blk_simp [e]
  have hq : ((win0_9.blk t).view.emb y 2).val = (y 2).val := by blk_simp [e]
  blk_simp [iblk]
  rw [after0_9, outs]
  refine (congrFun (eq_unc3 _ _ (pay_v (gb m c t) (b2 m c t))) _).trans ?_
  unfold unc3 rv
  exact congrArg₂ nv (b2_apply m c t (y 1) (y 2) _ _ _ hl hi hq) (gb_apply m c t (y 1) (y 2) _ _ _ hl hi hq)

end kernel

section reference
open ReferenceAdamDownBIdeal ReferenceAdamDownBIdeal.Gen
variable (W M V : FVec Ideal S2x704x1024 .f32) (G0 G1 : FVec Ideal S704x1024 .f32)

def resg : FVec Ideal S2x704x1024 .f32 :=
  concatenate S2x704x1024 0 [⟨S1x704x1024, (broadcastInDim S1x704x1024 ![1, 2] bcast_S704x1024_S1x704x1024_1_2 G0)⟩, ⟨S1x704x1024, (broadcastInDim S1x704x1024 ![1, 2] bcast_S704x1024_S1x704x1024_1_2 G1)⟩] concatenates_S1x704x1024_S1x704x1024_S2x704x1024_d0

theorem resg_apply (l : Fin 2) (i : Fin 704) (j : Fin 1024) : resg G0 G1 (ix3 l i j) = gr (cur G0) (cur G1) l i j := by
  pointwise [resg]
  fin_cases l <;> rfl

def resm : FVec Ideal S2x704x1024 .f32 := addf (mulf (broadcastInDim S2x704x1024 ![] bcast_S_S2x704x1024 (constant S_ .f32 0x3F666666#32)) M) (mulf (broadcastInDim S2x704x1024 ![] bcast_S_S2x704x1024 (constant S_ .f32 0x3DCCCCCD#32)) (resg G0 G1))

def resv : FVec Ideal S2x704x1024 .f32 := addf (mulf (broadcastInDim S2x704x1024 ![] bcast_S_S2x704x1024 (constant S_ .f32 0x3F7FBE77#32)) V) (mulf (broadcastInDim S2x704x1024 ![] bcast_S_S2x704x1024 (constant S_ .f32 0x3A83126F#32)) (mulf (resg G0 G1) (resg G0 G1)))

def resd : FVec Ideal S2x704x1024 .f32 :=
  mulf (broadcastInDim S2x704x1024 ![] bcast_S_S2x704x1024 (constant S_ .f32 0xBA83126F#32)) (addf (Host.divf (Host.divf (resm M G0 G1) (broadcastInDim S2x704x1024 ![] bcast_S_S2x704x1024 (constant S_ .f32 0x3F26BD02#32)))
    (addf (Host.sqrt (Host.divf (resv V G0 G1) (broadcastInDim S2x704x1024 ![] bcast_S_S2x704x1024 (constant S_ .f32 0x3C231ACC#32)))) (broadcastInDim S2x704x1024 ![] bcast_S_S2x704x1024 (constant S_ .f32 0x322BCC77#32)))) (mulf (broadcastInDim S2x704x1024 ![] bcast_S_S2x704x1024 (constant S_ .f32 0x3C23D70A#32)) W))

theorem resm_apply (l : Fin 2) (i : Fin 704) (j : Fin 1024) : resm M G0 G1 (ix3 l i j) = rm (cur3 M) (gr (cur G0) (cur G1)) l i j := by
  pointwise [resm]
  rw [resg_apply]
  rfl

theorem resv_apply (l : Fin 2) (i : Fin 704) (j : Fin 1024) : resv V G0 G1 (ix3 l i j) = rv (cur3 V) (gr (cur G0) (cur G1)) l i j := by
  pointwise [resv]
  rw [resg_apply]
  rfl

theorem resd_apply (l : Fin 2) (i : Fin 704) (j : Fin 1024) : resd W M V G0 G1 (ix3 l i j) = rd (cur3 W) (cur3 M) (cur3 V) (gr (cur G0) (cur G1)) l i j := by
  pointwise [resd]
  rw [resm_apply, resv_apply]
  rfl

end reference

/-! ## The claims -/

theorem values : algebraic_KernelAdamDownBIdeal_ReferenceAdamDownBIdeal (hKernelAdamDownBIdeal := KernelAdamDownBIdeal.Gen.facts)
    (hReferenceAdamDownBIdeal := ReferenceAdamDownBIdeal.Gen.facts) := by
  intro m g m' g' _ hagree
  refine ⟨fun c => (KernelAdamDownBIdeal.Gen.dats m 0 c).arrAt 6 KernelAdamDownBIdeal.cfg0.N, fun c => (KernelAdamDownBIdeal.Gen.dats m 0 c).arrAt 7 KernelAdamDownBIdeal.cfg0.N, fun c => (KernelAdamDownBIdeal.Gen.dats m 0 c).arrAt 8 KernelAdamDownBIdeal.cfg0.N, fun c => (KernelAdamDownBIdeal.Gen.dats m 0 c).arrAt 9 KernelAdamDownBIdeal.cfg0.N, ?_, ?_⟩
  · exact KernelAdamDownBIdeal.Value.run_blocks (F := Ideal) m g
  · refine (θ_run _ _ _).mono (fun r h c => ?_) (ReferenceAdamDownBIdeal.Value.run (F := Ideal) m' g')
    obtain ⟨a0, a1, a2, a3, a4, a5⟩ := hagree c
    obtain ⟨h0, h1, h2, h3, rest⟩ := h c
    refine ⟨h0.trans ?_, h1.trans ?_, h2.trans ?_, h3.trans ?_, rest⟩
    · rw [a3, a4]
      exact (eq_unc3 _ _ (resg_apply _ _)).trans (arr6 m c).symm
    · rw [a0, a1, a2, a3, a4]
      exact (eq_unc3 _ _ (resd_apply _ _ _ _ _)).trans (arr7 m c).symm
    · rw [a1, a3, a4]
      exact (eq_unc3 _ _ (resm_apply _ _ _)).trans (arr8 m c).symm
    · rw [a2, a3, a4]
      exact (eq_unc3 _ _ (resv_apply _ _ _)).trans (arr9 m c).symm

theorem reference_frame : quiescent_ReferenceAdamDownBIdeal (hReferenceAdamDownBIdeal := ReferenceAdamDownBIdeal.Gen.facts) := fun m g _ =>
  (θ_run _ _ _).mono (fun r h => ⟨fun c => (h c).2.2.2.2, sem_eq_zero_of_no_sems rfl r.2⟩) (ReferenceAdamDownBIdeal.Value.run (F := Ideal) m g)

theorem kernel_frame : quiescent_KernelAdamDownB (hKernelAdamDownB := KernelAdamDownB.Gen.facts) := fun m g _ => KernelAdamDownB.Gen.frame m g

theorem ideal_frame : quiescent_KernelAdamDownBIdeal (hKernelAdamDownBIdeal := KernelAdamDownBIdeal.Gen.facts) := fun m g _ => KernelAdamDownBIdeal.Gen.frame m g

end Cert.Ffn.AdamDownB

end
-- ==== Proof.AdamIn.lean ====
/- AdamW over the transposed w_in: the arrays after the launch and the reference, by element. -/
module

public import proofs.«01_k».proof.Proof.Gen.KernelAdamInIdeal.Value
public import proofs.«01_k».proof.Proof.Gen.KernelAdamIn
public import proofs.«01_k».proof.Proof.Gen.KernelAdamIn.Frame
public import proofs.«01_k».proof.Proof.Gen.ReferenceAdamInIdeal.Run
public import proofs.«01_k».proof.Proof.Common
public import proofs.«01_k».proof.Proof.AdamStep
public import Idealize.ShloMosaic.Lib.Pipeline.ReadBack
public import proofs.«01_k».proof.Defs

@[expose] public section

set_option maxRecDepth 16384

noncomputable section

namespace Cert.Ffn.AdamIn

open Cert.Attn Cert.Ffn.Adam
open Idealize.ShloMosaic Idealize.ShloMosaic.TcCoe Idealize.ShloMosaic.Tactic Idealize.SL.Sem

section kernel

open KernelAdamInIdeal KernelAdamInIdeal.Gen
open Idealize.ShloMosaic.Pipeline (Dat Cfg Window BodyObligation cellOf)

variable (g : Vec Ideal S1448x256 .f32) (w m v : Vec Ideal S1x1448x256 .f32)

theorem pay_g (p : Fin 1) (r : Fin 1448) (j : Fin 256) : k0_pay1 g (ix3 p r j) = g (ix2 r j) := by
  pointwise [k0_pay1]

theorem pay_m (p : Fin 1) (r : Fin 1448) (j : Fin 256) : k0_pay2 (k0_pay7 g m) (ix3 p r j) = nm (m (ix3 0 r j)) (g (ix2 r j)) := by
  pointwise [k0_pay2, k0_pay7]
  rfl

theorem pay_v (p : Fin 1) (r : Fin 1448) (j : Fin 256) : k0_pay3 (k0_pay8 g v) (ix3 p r j) = nv (v (ix3 0 r j)) (g (ix2 r j)) := by
  pointwise [k0_pay3, k0_pay8]
  rfl

theorem pay_d (p : Fin 1) (r : Fin 1448) (j : Fin 256) : k0_pay9 g m v w (ix3 p r j) = nd (w (ix3 0 r j)) (m (ix3 0 r j)) (v (ix3 0 r j)) (g (ix2 r j)) := by
  pointwise [k0_pay9, k0_pay7, k0_pay8]
  rfl

variable (m : (ℓ : Loc nD τ sig) → Buf (Elt Ideal) ℓ) (c : Dev nD)

theorem index_0 : ∀ t : Fin cfg0.N, win0_0.index t = ![t.val / 4, 0, t.val % 4] := by decide +kernel
theorem index_1 : ∀ t : Fin cfg0.N, win0_1.index t = ![t.val / 4, 0, t.val % 4] := by decide +kernel
theorem index_2 : ∀ t : Fin cfg0.N, win0_2.index t = ![t.val / 4, 0, t.val % 4] := by decide +kernel
theorem index_3 : ∀ t : Fin cfg0.N, win0_3.index t = ![0, t.val % 4] := by decide +kernel
theorem index_4 : ∀ t : Fin cfg0.N, win0_4.index t = ![0, t.val % 4] := by decide +kernel
theorem index_6 : ∀ t : Fin cfg0.N, win0_6.index t = ![t.val / 4, 0, t.val % 4] := by decide +kernel
theorem index_7 : ∀ t : Fin cfg0.N, win0_7.index t = ![t.val / 4, 0, t.val % 4] := by decide +kernel
theorem index_8 : ∀ t : Fin cfg0.N, win0_8.index t = ![t.val / 4, 0, t.val % 4] := by decide +kernel
theorem index_9 : ∀ t : Fin cfg0.N, win0_9.index t = ![t.val / 4, 0, t.val % 4] := by decide +kernel

/-- The arguments, and the blocks of a point. -/
abbrev w0 := cur3 (m ((c.tc : Thread nD τ).loc main_arg0))
abbrev w1 := cur3 (m ((c.tc : Thread nD τ).loc main_arg1))
abbrev w2 := cur3 (m ((c.tc : Thread nD τ).loc main_arg2))
abbrev w3 := cur (m ((c.tc : Thread nD τ).loc main_arg3))
abbrev w4 := cur (m ((c.tc : Thread nD τ).loc main_arg4))

def b0 (t : Fin cfg0.N) : Vec Ideal S1x1448x256 .f32 := iblk m c 0 t
def b1 (t : Fin cfg0.N) : Vec Ideal S1x1448x256 .f32 := iblk m c 1 t
def b2 (t : Fin cfg0.N) : Vec Ideal S1x1448x256 .f32 := iblk m c 2 t
def b3 (t : Fin cfg0.N) : Vec Ideal S1448x256 .f32 := iblk m c 3 t
def b4 (t : Fin cfg0.N) : Vec Ideal S1448x256 .f32 := iblk m c 4 t

section blocks

variable (t : Fin cfg0.N) (r : Fin 1448) (j : Fin 256) (l : Fin 2) (i : Fin 1448) (q : Fin 1024) (hl : l.val = t.val / 4) (hi : i.val = r.val) (hq : q.val = t.val % 4 * 256 + j.val)
include hl hi hq

theorem b0_apply : b0 m c t (ix3 0 r j) = w0 m c l i q := by
  have e := index_0 t
  unfold w0 cur3 b0
  blk_simp [iblk]
  refine congrArg (m ((c.tc : Thread nD τ).loc main_arg0)) ?_
  blk_ext [e, hl, hi, hq]

theorem b1_apply : b1 m c t (ix3 0 r j) = w1 m c l i q := by
  have e := index_1 t
  unfold w1 cur3 b1
  blk_simp [iblk]
  refine congrArg (m ((c.tc : Thread nD τ).loc main_arg1)) ?_
  blk_ext [e, hl, hi, hq]

theorem b2_apply : b2 m c t (ix3 0 r j) = w2 m c l i q := by
  have e := index_2 t
  unfold w2 cur3 b2
  blk_simp [iblk]
  refine congrArg (m ((c.tc : Thread nD τ).loc main_arg2)) ?_
  blk_ext [e, hl, hi, hq]

theorem b3_apply : b3 m c t (ix2 r j) = w3 m c i q := by
  have e := index_3 t
  unfold w3 cur b3
  blk_simp [iblk]
  refine congrArg (m ((c.tc : Thread nD τ).loc main_arg3)) ?_
  blk_ext [e, hi, hq]

theorem b4_apply : b4 m c t (ix2 r j) = w4 m c i q := by
  have e := index_4 t
  unfold w4 cur b4
  blk_simp [iblk]
  refine congrArg (m ((c.tc : Thread nD τ).loc main_arg4)) ?_
  blk_ext [e, hi, hq]

/-- The gradient's block of a point: the first layer's, then the second's. -/
def gb (t : Fin cfg0.N) : Vec Ideal S1448x256 .f32 := if t.val < 4 then b3 m c t else b4 m c t

theorem gb_apply : gb m c t (ix2 r j) = gr (w3 m c) (w4 m c) l i q := by
  have hN : t.val < 8 := lt_of_lt_of_eq t.isLt N_0
  unfold gb gr
  by_cases h : t.val < 4
  · rw [if_pos h, if_pos (by omega)]
    exact b3_apply m c t r j l i q hl hi hq
  · rw [if_neg h, if_neg (by omega)]
    exact b4_apply m c t r j l i q hl hi hq

end blocks

/-- What a point leaves in the results' blocks. -/
theorem outs (t : Fin cfg0.N) : outsAt0 m c t.val t.isLt = (k0_pay1 (gb m c t), k0_pay9 (gb m c t) (b1 m c t) (b2 m c t) (b0 m c t), k0_pay2 (k0_pay7 (gb m c t) (b1 m c t)), k0_pay3 (k0_pay8 (gb m c t) (b2 m c t))) := by
  unfold gb
  by_cases h : t.val < 4
  · rw [if_pos h, outsAt0_A m c t h (by omega)]
    refine Prod.ext ?_ (Prod.ext ?_ (Prod.ext ?_ ?_))
    all_goals
      frame_out
      rfl
  · rw [if_neg h, outsAt0_B m c t h (by omega)]
    refine Prod.ext ?_ (Prod.ext ?_ (Prod.ext ?_ ?_))
    all_goals
      frame_out
      rfl

/-- The arrays after the launch. -/
theorem arr6 : (dats m 0 c).arrAt 6 cfg0.N = unc3 (gr (w3 m c) (w4 m c)) := by
  have e := index_6
  refine (dats m 0 c).arrAt_eq_of_covers 6 _ (by decide +kernel) fun t hf y => ?_
  have h0 : (y 0).val < 1 := (y 0).isLt
  have hN : t.val < 8 := lt_of_lt_of_eq t.isLt N_0
  have hl : ((win0_6.blk t).view.emb y 0).val = t.val / 4 := by
    blk_simp [e]
  have hi : ((win0_6.blk t).view.emb y 1).val = (y 1).val := by blk_simp [e]
  have hq : ((win0_6.blk t).view.emb y 2).val = t.val % 4 * 256 + (y 2).val := by blk_simp [e]
  blk_simp [iblk]
  rw [after0_6, outs]
  refine (congrFun (eq_unc3 _ _ (pay_g (gb m c t))) _).trans ?_
  unfold unc3
  exact gb_apply m c t (y 1) (y 2) _ _ _ hl hi hq

theorem arr7 : (dats m 0 c).arrAt 7 cfg0.N = unc3 (rd (w0 m c) (w1 m c) (w2 m c) (gr (w3 m c) (w4 m c))) := by
  have e := index_7
  refine (dats m 0 c).arrAt_eq_of_covers 7 _ (by decide +kernel) fun t hf y => ?_
  have h0 : (y 0).val < 1 := (y 0).isLt
  have hN : t.val < 8 := lt_of_lt_of_eq t.isLt N_0
  have hl : ((win0_7.blk t).view.emb y 0).val = t.val / 4 := by
    blk_simp [e]
  have hi : ((win0_7.blk t).view.emb y 1).val = (y 1).val := by blk_simp [e]
  have hq : ((win0_7.blk t).view.emb y 2).val = t.val % 4 * 256 + (y 2).val := by blk_simp [e]
  blk_simp [iblk]
  rw [after0_7, outs]
  refine (congrFun (eq_unc3 _ _ (pay_d (gb m c t) (b0 m c t) (b1 m c t) (b2 m c t))) _).trans ?_
  unfold unc3 rd
  exact congr (congr (congr (congrArg nd (b0_apply m c t (y 1) (y 2) _ _ _ hl hi hq)) (b1_apply m c t (y 1) (y 2) _ _ _ hl hi hq)) (b2_apply m c t (y 1) (y 2) _ _ _ hl hi hq)) (gb_apply m c t (y 1) (y 2) _ _ _ hl hi hq)

theorem arr8 : (dats m 0 c).arrAt 8 cfg0.N = unc3 (rm (w1 m c) (gr (w3 m c) (w4 m c))) := by
  have e := index_8
  refine (dats m 0 c).arrAt_eq_of_covers 8 _ (by decide +kernel) fun t hf y => ?_
  have h0 : (y 0).val < 1 := (y 0).isLt
  have hN : t.val < 8 := lt_of_lt_of_eq t.isLt N_0
  have hl : ((win0_8.blk t).view.emb y 0).val = t.val / 4 := by
    blk_simp [e]
  have hi : ((win0_8.blk t).view.emb y 1).val = (y 1).val := by blk_simp [e]
  have hq : ((win0_8.blk t).view.emb y 2).val = t.val % 4 * 256 + (y 2).val := by blk_simp [e]
  blk_simp [iblk]
  rw [after0_8, outs]
  refine (congrFun (eq_unc3 _ _ (pay_m (gb m c t) (b1 m c t))) _).trans ?_
  unfold unc3 rm
  exact congrArg₂ nm (b1_apply m c t (y 1) (y 2) _ _ _ hl hi hq) (gb_apply m c t (y 1) (y 2) _ _ _ hl hi hq)

theorem arr9 : (dats m 0 c).arrAt 9 cfg0.N = unc3 (rv (w2 m c) (gr (w3 m c) (w4 m c))) := by
  have e := index_9
  refine (dats m 0 c).arrAt_eq_of_covers 9 _ (by decide +kernel) fun t hf y => ?_
  have h0 : (y 0).val < 1 := (y 0).isLt
  have hN : t.val < 8 := lt_of_lt_of_eq t.isLt N_0
  have hl : ((win0_9.blk t).view.emb y 0).val = t.val / 4 := by
    blk_simp [e]
  have hi : ((win0_9.blk t).view.emb y 1).val = (y 1).val := by blk_simp [e]
  have hq : ((win0_9.blk t).view.emb y 2).val = t.val % 4 * 256 + (y 2).val := by blk_simp [e]
  blk_simp [iblk]
  rw [after0_9, outs]
  refine (congrFun (eq_unc3 _ _ (pay_v (gb m c t) (b2 m c t))) _).trans ?_
  unfold unc3 rv
  exact congrArg₂ nv (b2_apply m c t (y 1) (y 2) _ _ _ hl hi hq) (gb_apply m c t (y 1) (y 2) _ _ _ hl hi hq)

end kernel

section reference
open ReferenceAdamInIdeal ReferenceAdamInIdeal.Gen
variable (W M V : FVec Ideal S2x1448x1024 .f32) (G0 G1 : FVec Ideal S1448x1024 .f32)

def resg : FVec Ideal S2x1448x1024 .f32 :=
  concatenate S2x1448x1024 0 [⟨S1x1448x1024, (broadcastInDim S1x1448x1024 ![1, 2] bcast_S1448x1024_S1x1448x1024_1_2 G0)⟩, ⟨S1x1448x1024, (broadcastInDim S1x1448x1024 ![1, 2] bcast_S1448x1024_S1x1448x1024_1_2 G1)⟩] concatenates_S1x1448x1024_S1x1448x1024_S2x1448x1024_d0

theorem resg_apply (l : Fin 2) (i : Fin 1448) (j : Fin 1024) : resg G0 G1 (ix3 l i j) = gr (cur G0) (cur G1) l i j := by
  pointwise [resg]
  fin_cases l <;> rfl

def resm : FVec Ideal S2x1448x1024 .f32 := addf (mulf (broadcastInDim S2x1448x1024 ![] bcast_S_S2x1448x1024 (constant S_ .f32 0x3F666666#32)) M) (mulf (broadcastInDim S2x1448x1024 ![] bcast_S_S2x1448x1024 (constant S_ .f32 0x3DCCCCCD#32)) (resg G0 G1))

def resv : FVec Ideal S2x1448x1024 .f32 := addf (mulf (broadcastInDim S2x1448x1024 ![] bcast_S_S2x1448x1024 (constant S_ .f32 0x3F7FBE77#32)) V) (mulf (broadcastInDim S2x1448x1024 ![] bcast_S_S2x1448x1024 (constant S_ .f32 0x3A83126F#32)) (mulf (resg G0 G1) (resg G0 G1)))

def resd : FVec Ideal S2x1448x1024 .f32 :=
  mulf (broadcastInDim S2x1448x1024 ![] bcast_S_S2x1448x1024 (constant S_ .f32 0xBA83126F#32)) (addf (Host.divf (Host.divf (resm M G0 G1) (broadcastInDim S2x1448x1024 ![] bcast_S_S2x1448x1024 (constant S_ .f32 0x3F26BD02#32)))
    (addf (Host.sqrt (Host.divf (resv V G0 G1) (broadcastInDim S2x1448x1024 ![] bcast_S_S2x1448x1024 (constant S_ .f32 0x3C231ACC#32)))) (broadcastInDim S2x1448x1024 ![] bcast_S_S2x1448x1024 (constant S_ .f32 0x322BCC77#32)))) (mulf (broadcastInDim S2x1448x1024 ![] bcast_S_S2x1448x1024 (constant S_ .f32 0x3C23D70A#32)) W))

theorem resm_apply (l : Fin 2) (i : Fin 1448) (j : Fin 1024) : resm M G0 G1 (ix3 l i j) = rm (cur3 M) (gr (cur G0) (cur G1)) l i j := by
  pointwise [resm]
  rw [resg_apply]
  rfl

theorem resv_apply (l : Fin 2) (i : Fin 1448) (j : Fin 1024) : resv V G0 G1 (ix3 l i j) = rv (cur3 V) (gr (cur G0) (cur G1)) l i j := by
  pointwise [resv]
  rw [resg_apply]
  rfl

theorem resd_apply (l : Fin 2) (i : Fin 1448) (j : Fin 1024) : resd W M V G0 G1 (ix3 l i j) = rd (cur3 W) (cur3 M) (cur3 V) (gr (cur G0) (cur G1)) l i j := by
  pointwise [resd]
  rw [resm_apply, resv_apply]
  rfl

end reference

/-! ## The claims -/

theorem values : algebraic_KernelAdamInIdeal_ReferenceAdamInIdeal (hKernelAdamInIdeal := KernelAdamInIdeal.Gen.facts)
    (hReferenceAdamInIdeal := ReferenceAdamInIdeal.Gen.facts) := by
  intro m g m' g' _ hagree
  refine ⟨fun c => (KernelAdamInIdeal.Gen.dats m 0 c).arrAt 6 KernelAdamInIdeal.cfg0.N, fun c => (KernelAdamInIdeal.Gen.dats m 0 c).arrAt 7 KernelAdamInIdeal.cfg0.N, fun c => (KernelAdamInIdeal.Gen.dats m 0 c).arrAt 8 KernelAdamInIdeal.cfg0.N, fun c => (KernelAdamInIdeal.Gen.dats m 0 c).arrAt 9 KernelAdamInIdeal.cfg0.N, ?_, ?_⟩
  · exact KernelAdamInIdeal.Value.run_blocks (F := Ideal) m g
  · refine (θ_run _ _ _).mono (fun r h c => ?_) (ReferenceAdamInIdeal.Value.run (F := Ideal) m' g')
    obtain ⟨a0, a1, a2, a3, a4, a5⟩ := hagree c
    obtain ⟨h0, h1, h2, h3, rest⟩ := h c
    refine ⟨h0.trans ?_, h1.trans ?_, h2.trans ?_, h3.trans ?_, rest⟩
    · rw [a3, a4]
      exact (eq_unc3 _ _ (resg_apply _ _)).trans (arr6 m c).symm
    · rw [a0, a1, a2, a3, a4]
      exact (eq_unc3 _ _ (resd_apply _ _ _ _ _)).trans (arr7 m c).symm
    · rw [a1, a3, a4]
      exact (eq_unc3 _ _ (resm_apply _ _ _)).trans (arr8 m c).symm
    · rw [a2, a3, a4]
      exact (eq_unc3 _ _ (resv_apply _ _ _)).trans (arr9 m c).symm

theorem reference_frame : quiescent_ReferenceAdamInIdeal (hReferenceAdamInIdeal := ReferenceAdamInIdeal.Gen.facts) := fun m g _ =>
  (θ_run _ _ _).mono (fun r h => ⟨fun c => (h c).2.2.2.2, sem_eq_zero_of_no_sems rfl r.2⟩) (ReferenceAdamInIdeal.Value.run (F := Ideal) m g)

theorem kernel_frame : quiescent_KernelAdamIn (hKernelAdamIn := KernelAdamIn.Gen.facts) := fun m g _ => KernelAdamIn.Gen.frame m g

theorem ideal_frame : quiescent_KernelAdamInIdeal (hKernelAdamInIdeal := KernelAdamInIdeal.Gen.facts) := fun m g _ => KernelAdamInIdeal.Gen.frame m g

end Cert.Ffn.AdamIn

end
-- ==== Proof.AdamO.lean ====
/- AdamW over the weights after the three mixers: the arrays after the launch and the reference, by element. -/
module

public import proofs.«01_k».proof.Proof.Gen.KernelAdamOIdeal.Value
public import proofs.«01_k».proof.Proof.Gen.KernelAdamO
public import proofs.«01_k».proof.Proof.Gen.KernelAdamO.Frame
public import proofs.«01_k».proof.Proof.Gen.ReferenceAdamOIdeal.Run
public import proofs.«01_k».proof.Proof.Common
public import proofs.«01_k».proof.Proof.AdamStep
public import Idealize.ShloMosaic.Lib.Pipeline.ReadBack
public import proofs.«01_k».proof.Defs

@[expose] public section

set_option maxRecDepth 16384

noncomputable section

namespace Cert.Ffn.AdamO

open Cert.Attn Cert.Ffn.Adam
open Idealize.ShloMosaic Idealize.ShloMosaic.TcCoe Idealize.ShloMosaic.Tactic Idealize.SL.Sem

section kernel

open KernelAdamOIdeal KernelAdamOIdeal.Gen
open Idealize.ShloMosaic.Pipeline (Dat Cfg Window BodyObligation cellOf)

variable (g : Vec Ideal S256x256 .f32) (w m v : Vec Ideal S1x256x256 .f32)

theorem pay_g (p : Fin 1) (r : Fin 256) (j : Fin 256) : k0_pay1 g (ix3 p r j) = g (ix2 r j) := by
  pointwise [k0_pay1]

theorem pay_m (p : Fin 1) (r : Fin 256) (j : Fin 256) : k0_pay2 (k0_pay7 g m) (ix3 p r j) = nm (m (ix3 0 r j)) (g (ix2 r j)) := by
  pointwise [k0_pay2, k0_pay7]
  rfl

theorem pay_v (p : Fin 1) (r : Fin 256) (j : Fin 256) : k0_pay3 (k0_pay8 g v) (ix3 p r j) = nv (v (ix3 0 r j)) (g (ix2 r j)) := by
  pointwise [k0_pay3, k0_pay8]
  rfl

theorem pay_d (p : Fin 1) (r : Fin 256) (j : Fin 256) : k0_pay9 g m v w (ix3 p r j) = nd (w (ix3 0 r j)) (m (ix3 0 r j)) (v (ix3 0 r j)) (g (ix2 r j)) := by
  pointwise [k0_pay9, k0_pay7, k0_pay8]
  rfl

variable (m : (ℓ : Loc nD τ sig) → Buf (Elt Ideal) ℓ) (c : Dev nD)

theorem index_0 : ∀ t : Fin cfg0.N, win0_0.index t = ![t.val / 2, t.val % 2, 0] := by decide +kernel
theorem index_1 : ∀ t : Fin cfg0.N, win0_1.index t = ![t.val / 2, t.val % 2, 0] := by decide +kernel
theorem index_2 : ∀ t : Fin cfg0.N, win0_2.index t = ![t.val / 2, t.val % 2, 0] := by decide +kernel
theorem index_3 : ∀ t : Fin cfg0.N, win0_3.index t = ![t.val % 2, 0] := by decide +kernel
theorem index_4 : ∀ t : Fin cfg0.N, win0_4.index t = ![t.val % 2, 0] := by decide +kernel
theorem index_6 : ∀ t : Fin cfg0.N, win0_6.index t = ![t.val / 2, t.val % 2, 0] := by decide +kernel
theorem index_7 : ∀ t : Fin cfg0.N, win0_7.index t = ![t.val / 2, t.val % 2, 0] := by decide +kernel
theorem index_8 : ∀ t : Fin cfg0.N, win0_8.index t = ![t.val / 2, t.val % 2, 0] := by decide +kernel
theorem index_9 : ∀ t : Fin cfg0.N, win0_9.index t = ![t.val / 2, t.val % 2, 0] := by decide +kernel

/-- The arguments, and the blocks of a point. -/
abbrev w0 := cur3 (m ((c.tc : Thread nD τ).loc main_arg0))
abbrev w1 := cur3 (m ((c.tc : Thread nD τ).loc main_arg1))
abbrev w2 := cur3 (m ((c.tc : Thread nD τ).loc main_arg2))
abbrev w3 := cur (m ((c.tc : Thread nD τ).loc main_arg3))
abbrev w4 := cur (m ((c.tc : Thread nD τ).loc main_arg4))

def b0 (t : Fin cfg0.N) : Vec Ideal S1x256x256 .f32 := iblk m c 0 t
def b1 (t : Fin cfg0.N) : Vec Ideal S1x256x256 .f32 := iblk m c 1 t
def b2 (t : Fin cfg0.N) : Vec Ideal S1x256x256 .f32 := iblk m c 2 t
def b3 (t : Fin cfg0.N) : Vec Ideal S256x256 .f32 := iblk m c 3 t
def b4 (t : Fin cfg0.N) : Vec Ideal S256x256 .f32 := iblk m c 4 t

section blocks

variable (t : Fin cfg0.N) (r : Fin 256) (j : Fin 256) (l : Fin 2) (i : Fin 512) (q : Fin 256) (hl : l.val = t.val / 2) (hi : i.val = t.val % 2 * 256 + r.val) (hq : q.val = j.val)
include hl hi hq

theorem b0_apply : b0 m c t (ix3 0 r j) = w0 m c l i q := by
  have e := index_0 t
  unfold w0 cur3 b0
  blk_simp [iblk]
  refine congrArg (m ((c.tc : Thread nD τ).loc main_arg0)) ?_
  blk_ext [e, hl, hi, hq]

theorem b1_apply : b1 m c t (ix3 0 r j) = w1 m c l i q := by
  have e := index_1 t
  unfold w1 cur3 b1
  blk_simp [iblk]
  refine congrArg (m ((c.tc : Thread nD τ).loc main_arg1)) ?_
  blk_ext [e, hl, hi, hq]

theorem b2_apply : b2 m c t (ix3 0 r j) = w2 m c l i q := by
  have e := index_2 t
  unfold w2 cur3 b2
  blk_simp [iblk]
  refine congrArg (m ((c.tc : Thread nD τ).loc main_arg2)) ?_
  blk_ext [e, hl, hi, hq]

theorem b3_apply : b3 m c t (ix2 r j) = w3 m c i q := by
  have e := index_3 t
  unfold w3 cur b3
  blk_simp [iblk]
  refine congrArg (m ((c.tc : Thread nD τ).loc main_arg3)) ?_
  blk_ext [e, hi, hq]

theorem b4_apply : b4 m c t (ix2 r j) = w4 m c i q := by
  have e := index_4 t
  unfold w4 cur b4
  blk_simp [iblk]
  refine congrArg (m ((c.tc : Thread nD τ).loc main_arg4)) ?_
  blk_ext [e, hi, hq]

/-- The gradient's block of a point: the first layer's, then the second's. -/
def gb (t : Fin cfg0.N) : Vec Ideal S256x256 .f32 := if t.val < 2 then b3 m c t else b4 m c t

theorem gb_apply : gb m c t (ix2 r j) = gr (w3 m c) (w4 m c) l i q := by
  have hN : t.val < 4 := lt_of_lt_of_eq t.isLt N_0
  unfold gb gr
  by_cases h : t.val < 2
  · rw [if_pos h, if_pos (by omega)]
    exact b3_apply m c t r j l i q hl hi hq
  · rw [if_neg h, if_neg (by omega)]
    exact b4_apply m c t r j l i q hl hi hq

end blocks

/-- What a point leaves in the results' blocks. -/
theorem outs (t : Fin cfg0.N) : outsAt0 m c t.val t.isLt = (k0_pay1 (gb m c t), k0_pay9 (gb m c t) (b1 m c t) (b2 m c t) (b0 m c t), k0_pay2 (k0_pay7 (gb m c t) (b1 m c t)), k0_pay3 (k0_pay8 (gb m c t) (b2 m c t))) := by
  unfold gb
  by_cases h : t.val < 2
  · rw [if_pos h, outsAt0_A m c t h (by omega)]
    refine Prod.ext ?_ (Prod.ext ?_ (Prod.ext ?_ ?_))
    all_goals
      frame_out
      rfl
  · rw [if_neg h, outsAt0_B m c t h (by omega)]
    refine Prod.ext ?_ (Prod.ext ?_ (Prod.ext ?_ ?_))
    all_goals
      frame_out
      rfl

/-- The arrays after the launch. -/
theorem arr6 : (dats m 0 c).arrAt 6 cfg0.N = unc3 (gr (w3 m c) (w4 m c)) := by
  have e := index_6
  refine (dats m 0 c).arrAt_eq_of_covers 6 _ (by decide +kernel) fun t hf y => ?_
  have h0 : (y 0).val < 1 := (y 0).isLt
  have hN : t.val < 4 := lt_of_lt_of_eq t.isLt N_0
  have hl : ((win0_6.blk t).view.emb y 0).val = t.val / 2 := by
    blk_simp [e]
  have hi : ((win0_6.blk t).view.emb y 1).val = t.val % 2 * 256 + (y 1).val := by blk_simp [e]
  have hq : ((win0_6.blk t).view.emb y 2).val = (y 2).val := by blk_simp [e]
  blk_simp [iblk]
  rw [after0_6, outs]
  refine (congrFun (eq_unc3 _ _ (pay_g (gb m c t))) _).trans ?_
  unfold unc3
  exact gb_apply m c t (y 1) (y 2) _ _ _ hl hi hq

theorem arr7 : (dats m 0 c).arrAt 7 cfg0.N = unc3 (rd (w0 m c) (w1 m c) (w2 m c) (gr (w3 m c) (w4 m c))) := by
  have e := index_7
  refine (dats m 0 c).arrAt_eq_of_covers 7 _ (by decide +kernel) fun t hf y => ?_
  have h0 : (y 0).val < 1 := (y 0).isLt
  have hN : t.val < 4 := lt_of_lt_of_eq t.isLt N_0
  have hl : ((win0_7.blk t).view.emb y 0).val = t.val / 2 := by
    blk_simp [e]
  have hi : ((win0_7.blk t).view.emb y 1).val = t.val % 2 * 256 + (y 1).val := by blk_simp [e]
  have hq : ((win0_7.blk t).view.emb y 2).val = (y 2).val := by blk_simp [e]
  blk_simp [iblk]
  rw [after0_7, outs]
  refine (congrFun (eq_unc3 _ _ (pay_d (gb m c t) (b0 m c t) (b1 m c t) (b2 m c t))) _).trans ?_
  unfold unc3 rd
  exact congr (congr (congr (congrArg nd (b0_apply m c t (y 1) (y 2) _ _ _ hl hi hq)) (b1_apply m c t (y 1) (y 2) _ _ _ hl hi hq)) (b2_apply m c t (y 1) (y 2) _ _ _ hl hi hq)) (gb_apply m c t (y 1) (y 2) _ _ _ hl hi hq)

theorem arr8 : (dats m 0 c).arrAt 8 cfg0.N = unc3 (rm (w1 m c) (gr (w3 m c) (w4 m c))) := by
  have e := index_8
  refine (dats m 0 c).arrAt_eq_of_covers 8 _ (by decide +kernel) fun t hf y => ?_
  have h0 : (y 0).val < 1 := (y 0).isLt
  have hN : t.val < 4 := lt_of_lt_of_eq t.isLt N_0
  have hl : ((win0_8.blk t).view.emb y 0).val = t.val / 2 := by
    blk_simp [e]
  have hi : ((win0_8.blk t).view.emb y 1).val = t.val % 2 * 256 + (y 1).val := by blk_simp [e]
  have hq : ((win0_8.blk t).view.emb y 2).val = (y 2).val := by blk_simp [e]
  blk_simp [iblk]
  rw [after0_8, outs]
  refine (congrFun (eq_unc3 _ _ (pay_m (gb m c t) (b1 m c t))) _).trans ?_
  unfold unc3 rm
  exact congrArg₂ nm (b1_apply m c t (y 1) (y 2) _ _ _ hl hi hq) (gb_apply m c t (y 1) (y 2) _ _ _ hl hi hq)

theorem arr9 : (dats m 0 c).arrAt 9 cfg0.N = unc3 (rv (w2 m c) (gr (w3 m c) (w4 m c))) := by
  have e := index_9
  refine (dats m 0 c).arrAt_eq_of_covers 9 _ (by decide +kernel) fun t hf y => ?_
  have h0 : (y 0).val < 1 := (y 0).isLt
  have hN : t.val < 4 := lt_of_lt_of_eq t.isLt N_0
  have hl : ((win0_9.blk t).view.emb y 0).val = t.val / 2 := by
    blk_simp [e]
  have hi : ((win0_9.blk t).view.emb y 1).val = t.val % 2 * 256 + (y 1).val := by blk_simp [e]
  have hq : ((win0_9.blk t).view.emb y 2).val = (y 2).val := by blk_simp [e]
  blk_simp [iblk]
  rw [after0_9, outs]
  refine (congrFun (eq_unc3 _ _ (pay_v (gb m c t) (b2 m c t))) _).trans ?_
  unfold unc3 rv
  exact congrArg₂ nv (b2_apply m c t (y 1) (y 2) _ _ _ hl hi hq) (gb_apply m c t (y 1) (y 2) _ _ _ hl hi hq)

end kernel

section reference
open ReferenceAdamOIdeal ReferenceAdamOIdeal.Gen
variable (W M V : FVec Ideal S2x512x256 .f32) (G0 G1 : FVec Ideal S512x256 .f32)

def resg : FVec Ideal S2x512x256 .f32 :=
  concatenate S2x512x256 0 [⟨S1x512x256, (broadcastInDim S1x512x256 ![1, 2] bcast_S512x256_S1x512x256_1_2 G0)⟩, ⟨S1x512x256, (broadcastInDim S1x512x256 ![1, 2] bcast_S512x256_S1x512x256_1_2 G1)⟩] concatenates_S1x512x256_S1x512x256_S2x512x256_d0

theorem resg_apply (l : Fin 2) (i : Fin 512) (j : Fin 256) : resg G0 G1 (ix3 l i j) = gr (cur G0) (cur G1) l i j := by
  pointwise [resg]
  fin_cases l <;> rfl

def resm : FVec Ideal S2x512x256 .f32 := addf (mulf (broadcastInDim S2x512x256 ![] bcast_S_S2x512x256 (constant S_ .f32 0x3F666666#32)) M) (mulf (broadcastInDim S2x512x256 ![] bcast_S_S2x512x256 (constant S_ .f32 0x3DCCCCCD#32)) (resg G0 G1))

def resv : FVec Ideal S2x512x256 .f32 := addf (mulf (broadcastInDim S2x512x256 ![] bcast_S_S2x512x256 (constant S_ .f32 0x3F7FBE77#32)) V) (mulf (broadcastInDim S2x512x256 ![] bcast_S_S2x512x256 (constant S_ .f32 0x3A83126F#32)) (mulf (resg G0 G1) (resg G0 G1)))

def resd : FVec Ideal S2x512x256 .f32 :=
  mulf (broadcastInDim S2x512x256 ![] bcast_S_S2x512x256 (constant S_ .f32 0xBA83126F#32)) (addf (Host.divf (Host.divf (resm M G0 G1) (broadcastInDim S2x512x256 ![] bcast_S_S2x512x256 (constant S_ .f32 0x3F26BD02#32)))
    (addf (Host.sqrt (Host.divf (resv V G0 G1) (broadcastInDim S2x512x256 ![] bcast_S_S2x512x256 (constant S_ .f32 0x3C231ACC#32)))) (broadcastInDim S2x512x256 ![] bcast_S_S2x512x256 (constant S_ .f32 0x322BCC77#32)))) (mulf (broadcastInDim S2x512x256 ![] bcast_S_S2x512x256 (constant S_ .f32 0x3C23D70A#32)) W))

theorem resm_apply (l : Fin 2) (i : Fin 512) (j : Fin 256) : resm M G0 G1 (ix3 l i j) = rm (cur3 M) (gr (cur G0) (cur G1)) l i j := by
  pointwise [resm]
  rw [resg_apply]
  rfl

theorem resv_apply (l : Fin 2) (i : Fin 512) (j : Fin 256) : resv V G0 G1 (ix3 l i j) = rv (cur3 V) (gr (cur G0) (cur G1)) l i j := by
  pointwise [resv]
  rw [resg_apply]
  rfl

theorem resd_apply (l : Fin 2) (i : Fin 512) (j : Fin 256) : resd W M V G0 G1 (ix3 l i j) = rd (cur3 W) (cur3 M) (cur3 V) (gr (cur G0) (cur G1)) l i j := by
  pointwise [resd]
  rw [resm_apply, resv_apply]
  rfl

end reference

/-! ## The claims -/

theorem values : algebraic_KernelAdamOIdeal_ReferenceAdamOIdeal (hKernelAdamOIdeal := KernelAdamOIdeal.Gen.facts)
    (hReferenceAdamOIdeal := ReferenceAdamOIdeal.Gen.facts) := by
  intro m g m' g' _ hagree
  refine ⟨fun c => (KernelAdamOIdeal.Gen.dats m 0 c).arrAt 6 KernelAdamOIdeal.cfg0.N, fun c => (KernelAdamOIdeal.Gen.dats m 0 c).arrAt 7 KernelAdamOIdeal.cfg0.N, fun c => (KernelAdamOIdeal.Gen.dats m 0 c).arrAt 8 KernelAdamOIdeal.cfg0.N, fun c => (KernelAdamOIdeal.Gen.dats m 0 c).arrAt 9 KernelAdamOIdeal.cfg0.N, ?_, ?_⟩
  · exact KernelAdamOIdeal.Value.run_blocks (F := Ideal) m g
  · refine (θ_run _ _ _).mono (fun r h c => ?_) (ReferenceAdamOIdeal.Value.run (F := Ideal) m' g')
    obtain ⟨a0, a1, a2, a3, a4, a5⟩ := hagree c
    obtain ⟨h0, h1, h2, h3, rest⟩ := h c
    refine ⟨h0.trans ?_, h1.trans ?_, h2.trans ?_, h3.trans ?_, rest⟩
    · rw [a3, a4]
      exact (eq_unc3 _ _ (resg_apply _ _)).trans (arr6 m c).symm
    · rw [a0, a1, a2, a3, a4]
      exact (eq_unc3 _ _ (resd_apply _ _ _ _ _)).trans (arr7 m c).symm
    · rw [a1, a3, a4]
      exact (eq_unc3 _ _ (resm_apply _ _ _)).trans (arr8 m c).symm
    · rw [a2, a3, a4]
      exact (eq_unc3 _ _ (resv_apply _ _ _)).trans (arr9 m c).symm

theorem reference_frame : quiescent_ReferenceAdamOIdeal (hReferenceAdamOIdeal := ReferenceAdamOIdeal.Gen.facts) := fun m g _ =>
  (θ_run _ _ _).mono (fun r h => ⟨fun c => (h c).2.2.2.2, sem_eq_zero_of_no_sems rfl r.2⟩) (ReferenceAdamOIdeal.Value.run (F := Ideal) m g)

theorem kernel_frame : quiescent_KernelAdamO (hKernelAdamO := KernelAdamO.Gen.facts) := fun m g _ => KernelAdamO.Gen.frame m g

theorem ideal_frame : quiescent_KernelAdamOIdeal (hKernelAdamOIdeal := KernelAdamOIdeal.Gen.facts) := fun m g _ => KernelAdamOIdeal.Gen.frame m g

end Cert.Ffn.AdamO

end
-- ==== Proof.AdamUq.lean ====
/- AdamW over the transposed query weight: the arrays after the launch and the reference, by element. -/
module

public import proofs.«01_k».proof.Proof.Gen.KernelAdamUqIdeal.Value
public import proofs.«01_k».proof.Proof.Gen.KernelAdamUq
public import proofs.«01_k».proof.Proof.Gen.KernelAdamUq.Frame
public import proofs.«01_k».proof.Proof.Gen.ReferenceAdamUqIdeal.Run
public import proofs.«01_k».proof.Proof.Common
public import proofs.«01_k».proof.Proof.AdamStep
public import Idealize.ShloMosaic.Lib.Pipeline.ReadBack
public import proofs.«01_k».proof.Defs

@[expose] public section

set_option maxRecDepth 16384

noncomputable section

namespace Cert.Ffn.AdamUq

open Cert.Attn Cert.Ffn.Adam
open Idealize.ShloMosaic Idealize.ShloMosaic.TcCoe Idealize.ShloMosaic.Tactic Idealize.SL.Sem

section kernel

open KernelAdamUqIdeal KernelAdamUqIdeal.Gen
open Idealize.ShloMosaic.Pipeline (Dat Cfg Window BodyObligation cellOf)

variable (g : Vec Ideal S192x384 .f32) (w m v : Vec Ideal S1x192x384 .f32)

theorem pay_g (p : Fin 1) (r : Fin 192) (j : Fin 384) : k0_pay1 g (ix3 p r j) = g (ix2 r j) := by
  pointwise [k0_pay1]

theorem pay_m (p : Fin 1) (r : Fin 192) (j : Fin 384) : k0_pay2 (k0_pay7 g m) (ix3 p r j) = nm (m (ix3 0 r j)) (g (ix2 r j)) := by
  pointwise [k0_pay2, k0_pay7]
  rfl

theorem pay_v (p : Fin 1) (r : Fin 192) (j : Fin 384) : k0_pay3 (k0_pay8 g v) (ix3 p r j) = nv (v (ix3 0 r j)) (g (ix2 r j)) := by
  pointwise [k0_pay3, k0_pay8]
  rfl

theorem pay_d (p : Fin 1) (r : Fin 192) (j : Fin 384) : k0_pay9 g m v w (ix3 p r j) = nd (w (ix3 0 r j)) (m (ix3 0 r j)) (v (ix3 0 r j)) (g (ix2 r j)) := by
  pointwise [k0_pay9, k0_pay7, k0_pay8]
  rfl

variable (m : (ℓ : Loc nD τ sig) → Buf (Elt Ideal) ℓ) (c : Dev nD)

theorem index_0 : ∀ t : Fin cfg0.N, win0_0.index t = ![t.val, 0, 0] := by decide +kernel
theorem index_1 : ∀ t : Fin cfg0.N, win0_1.index t = ![t.val, 0, 0] := by decide +kernel
theorem index_2 : ∀ t : Fin cfg0.N, win0_2.index t = ![t.val, 0, 0] := by decide +kernel
theorem index_3 : ∀ t : Fin cfg0.N, win0_3.index t = ![0, 0] := by decide +kernel
theorem index_4 : ∀ t : Fin cfg0.N, win0_4.index t = ![0, 0] := by decide +kernel
theorem index_6 : ∀ t : Fin cfg0.N, win0_6.index t = ![t.val, 0, 0] := by decide +kernel
theorem index_7 : ∀ t : Fin cfg0.N, win0_7.index t = ![t.val, 0, 0] := by decide +kernel
theorem index_8 : ∀ t : Fin cfg0.N, win0_8.index t = ![t.val, 0, 0] := by decide +kernel
theorem index_9 : ∀ t : Fin cfg0.N, win0_9.index t = ![t.val, 0, 0] := by decide +kernel

/-- The arguments, and the blocks of a point. -/
abbrev w0 := cur3 (m ((c.tc : Thread nD τ).loc main_arg0))
abbrev w1 := cur3 (m ((c.tc : Thread nD τ).loc main_arg1))
abbrev w2 := cur3 (m ((c.tc : Thread nD τ).loc main_arg2))
abbrev w3 := cur (m ((c.tc : Thread nD τ).loc main_arg3))
abbrev w4 := cur (m ((c.tc : Thread nD τ).loc main_arg4))

def b0 (t : Fin cfg0.N) : Vec Ideal S1x192x384 .f32 := iblk m c 0 t
def b1 (t : Fin cfg0.N) : Vec Ideal S1x192x384 .f32 := iblk m c 1 t
def b2 (t : Fin cfg0.N) : Vec Ideal S1x192x384 .f32 := iblk m c 2 t
def b3 (t : Fin cfg0.N) : Vec Ideal S192x384 .f32 := iblk m c 3 t
def b4 (t : Fin cfg0.N) : Vec Ideal S192x384 .f32 := iblk m c 4 t

section blocks

variable (t : Fin cfg0.N) (r : Fin 192) (j : Fin 384) (l : Fin 2) (i : Fin 192) (q : Fin 384) (hl : l.val = t.val) (hi : i.val = r.val) (hq : q.val = j.val)
include hl hi hq

theorem b0_apply : b0 m c t (ix3 0 r j) = w0 m c l i q := by
  have e := index_0 t
  unfold w0 cur3 b0
  blk_simp [iblk]
  refine congrArg (m ((c.tc : Thread nD τ).loc main_arg0)) ?_
  blk_ext [e, hl, hi, hq]

theorem b1_apply : b1 m c t (ix3 0 r j) = w1 m c l i q := by
  have e := index_1 t
  unfold w1 cur3 b1
  blk_simp [iblk]
  refine congrArg (m ((c.tc : Thread nD τ).loc main_arg1)) ?_
  blk_ext [e, hl, hi, hq]

theorem b2_apply : b2 m c t (ix3 0 r j) = w2 m c l i q := by
  have e := index_2 t
  unfold w2 cur3 b2
  blk_simp [iblk]
  refine congrArg (m ((c.tc : Thread nD τ).loc main_arg2)) ?_
  blk_ext [e, hl, hi, hq]

theorem b3_apply : b3 m c t (ix2 r j) = w3 m c i q := by
  have e := index_3 t
  unfold w3 cur b3
  blk_simp [iblk]
  refine congrArg (m ((c.tc : Thread nD τ).loc main_arg3)) ?_
  blk_ext [e, hi, hq]

theorem b4_apply : b4 m c t (ix2 r j) = w4 m c i q := by
  have e := index_4 t
  unfold w4 cur b4
  blk_simp [iblk]
  refine congrArg (m ((c.tc : Thread nD τ).loc main_arg4)) ?_
  blk_ext [e, hi, hq]

/-- The gradient's block of a point: the first layer's, then the second's. -/
def gb (t : Fin cfg0.N) : Vec Ideal S192x384 .f32 := if t.val % 2 = 0 then b3 m c t else b4 m c t

theorem gb_apply : gb m c t (ix2 r j) = gr (w3 m c) (w4 m c) l i q := by
  have hN : t.val < 2 := lt_of_lt_of_eq t.isLt N_0
  unfold gb gr
  by_cases h : t.val % 2 = 0
  · rw [if_pos h, if_pos (by omega)]
    exact b3_apply m c t r j l i q hl hi hq
  · rw [if_neg h, if_neg (by omega)]
    exact b4_apply m c t r j l i q hl hi hq

end blocks

/-- What a point leaves in the results' blocks. -/
theorem outs (t : Fin cfg0.N) : outsAt0 m c t.val t.isLt = (k0_pay1 (gb m c t), k0_pay9 (gb m c t) (b1 m c t) (b2 m c t) (b0 m c t), k0_pay2 (k0_pay7 (gb m c t) (b1 m c t)), k0_pay3 (k0_pay8 (gb m c t) (b2 m c t))) := by
  unfold gb
  by_cases h : t.val % 2 = 0
  · rw [if_pos h, outsAt0_A m c t h (by omega)]
    refine Prod.ext ?_ (Prod.ext ?_ (Prod.ext ?_ ?_))
    all_goals
      frame_out
      rfl
  · rw [if_neg h, outsAt0_B m c t h (by omega)]
    refine Prod.ext ?_ (Prod.ext ?_ (Prod.ext ?_ ?_))
    all_goals
      frame_out
      rfl

/-- The arrays after the launch. -/
theorem arr6 : (dats m 0 c).arrAt 6 cfg0.N = unc3 (gr (w3 m c) (w4 m c)) := by
  have e := index_6
  refine (dats m 0 c).arrAt_eq_of_covers 6 _ (by decide +kernel) fun t hf y => ?_
  have h0 : (y 0).val < 1 := (y 0).isLt
  have hN : t.val < 2 := lt_of_lt_of_eq t.isLt N_0
  have hl : ((win0_6.blk t).view.emb y 0).val = t.val := by
    blk_simp [e]
  have hi : ((win0_6.blk t).view.emb y 1).val = (y 1).val := by blk_simp [e]
  have hq : ((win0_6.blk t).view.emb y 2).val = (y 2).val := by blk_simp [e]
  blk_simp [iblk]
  rw [after0_6, outs]
  refine (congrFun (eq_unc3 _ _ (pay_g (gb m c t))) _).trans ?_
  unfold unc3
  exact gb_apply m c t (y 1) (y 2) _ _ _ hl hi hq

theorem arr7 : (dats m 0 c).arrAt 7 cfg0.N = unc3 (rd (w0 m c) (w1 m c) (w2 m c) (gr (w3 m c) (w4 m c))) := by
  have e := index_7
  refine (dats m 0 c).arrAt_eq_of_covers 7 _ (by decide +kernel) fun t hf y => ?_
  have h0 : (y 0).val < 1 := (y 0).isLt
  have hN : t.val < 2 := lt_of_lt_of_eq t.isLt N_0
  have hl : ((win0_7.blk t).view.emb y 0).val = t.val := by
    blk_simp [e]
  have hi : ((win0_7.blk t).view.emb y 1).val = (y 1).val := by blk_simp [e]
  have hq : ((win0_7.blk t).view.emb y 2).val = (y 2).val := by blk_simp [e]
  blk_simp [iblk]
  rw [after0_7, outs]
  refine (congrFun (eq_unc3 _ _ (pay_d (gb m c t) (b0 m c t) (b1 m c t) (b2 m c t))) _).trans ?_
  unfold unc3 rd
  exact congr (congr (congr (congrArg nd (b0_apply m c t (y 1) (y 2) _ _ _ hl hi hq)) (b1_apply m c t (y 1) (y 2) _ _ _ hl hi hq)) (b2_apply m c t (y 1) (y 2) _ _ _ hl hi hq)) (gb_apply m c t (y 1) (y 2) _ _ _ hl hi hq)

theorem arr8 : (dats m 0 c).arrAt 8 cfg0.N = unc3 (rm (w1 m c) (gr (w3 m c) (w4 m c))) := by
  have e := index_8
  refine (dats m 0 c).arrAt_eq_of_covers 8 _ (by decide +kernel) fun t hf y => ?_
  have h0 : (y 0).val < 1 := (y 0).isLt
  have hN : t.val < 2 := lt_of_lt_of_eq t.isLt N_0
  have hl : ((win0_8.blk t).view.emb y 0).val = t.val := by
    blk_simp [e]
  have hi : ((win0_8.blk t).view.emb y 1).val = (y 1).val := by blk_simp [e]
  have hq : ((win0_8.blk t).view.emb y 2).val = (y 2).val := by blk_simp [e]
  blk_simp [iblk]
  rw [after0_8, outs]
  refine (congrFun (eq_unc3 _ _ (pay_m (gb m c t) (b1 m c t))) _).trans ?_
  unfold unc3 rm
  exact congrArg₂ nm (b1_apply m c t (y 1) (y 2) _ _ _ hl hi hq) (gb_apply m c t (y 1) (y 2) _ _ _ hl hi hq)

theorem arr9 : (dats m 0 c).arrAt 9 cfg0.N = unc3 (rv (w2 m c) (gr (w3 m c) (w4 m c))) := by
  have e := index_9
  refine (dats m 0 c).arrAt_eq_of_covers 9 _ (by decide +kernel) fun t hf y => ?_
  have h0 : (y 0).val < 1 := (y 0).isLt
  have hN : t.val < 2 := lt_of_lt_of_eq t.isLt N_0
  have hl : ((win0_9.blk t).view.emb y 0).val = t.val := by
    blk_simp [e]
  have hi : ((win0_9.blk t).view.emb y 1).val = (y 1).val := by blk_simp [e]
  have hq : ((win0_9.blk t).view.emb y 2).val = (y 2).val := by blk_simp [e]
  blk_simp [iblk]
  rw [after0_9, outs]
  refine (congrFun (eq_unc3 _ _ (pay_v (gb m c t) (b2 m c t))) _).trans ?_
  unfold unc3 rv
  exact congrArg₂ nv (b2_apply m c t (y 1) (y 2) _ _ _ hl hi hq) (gb_apply m c t (y 1) (y 2) _ _ _ hl hi hq)

end kernel

section reference
open ReferenceAdamUqIdeal ReferenceAdamUqIdeal.Gen
variable (W M V : FVec Ideal S2x192x384 .f32) (G0 G1 : FVec Ideal S192x384 .f32)

def resg : FVec Ideal S2x192x384 .f32 :=
  concatenate S2x192x384 0 [⟨S1x192x384, (broadcastInDim S1x192x384 ![1, 2] bcast_S192x384_S1x192x384_1_2 G0)⟩, ⟨S1x192x384, (broadcastInDim S1x192x384 ![1, 2] bcast_S192x384_S1x192x384_1_2 G1)⟩] concatenates_S1x192x384_S1x192x384_S2x192x384_d0

theorem resg_apply (l : Fin 2) (i : Fin 192) (j : Fin 384) : resg G0 G1 (ix3 l i j) = gr (cur G0) (cur G1) l i j := by
  pointwise [resg]
  fin_cases l <;> rfl

def resm : FVec Ideal S2x192x384 .f32 := addf (mulf (broadcastInDim S2x192x384 ![] bcast_S_S2x192x384 (constant S_ .f32 0x3F666666#32)) M) (mulf (broadcastInDim S2x192x384 ![] bcast_S_S2x192x384 (constant S_ .f32 0x3DCCCCCD#32)) (resg G0 G1))

def resv : FVec Ideal S2x192x384 .f32 := addf (mulf (broadcastInDim S2x192x384 ![] bcast_S_S2x192x384 (constant S_ .f32 0x3F7FBE77#32)) V) (mulf (broadcastInDim S2x192x384 ![] bcast_S_S2x192x384 (constant S_ .f32 0x3A83126F#32)) (mulf (resg G0 G1) (resg G0 G1)))

def resd : FVec Ideal S2x192x384 .f32 :=
  mulf (broadcastInDim S2x192x384 ![] bcast_S_S2x192x384 (constant S_ .f32 0xBA83126F#32)) (addf (Host.divf (Host.divf (resm M G0 G1) (broadcastInDim S2x192x384 ![] bcast_S_S2x192x384 (constant S_ .f32 0x3F26BD02#32)))
    (addf (Host.sqrt (Host.divf (resv V G0 G1) (broadcastInDim S2x192x384 ![] bcast_S_S2x192x384 (constant S_ .f32 0x3C231ACC#32)))) (broadcastInDim S2x192x384 ![] bcast_S_S2x192x384 (constant S_ .f32 0x322BCC77#32)))) (mulf (broadcastInDim S2x192x384 ![] bcast_S_S2x192x384 (constant S_ .f32 0x3C23D70A#32)) W))

theorem resm_apply (l : Fin 2) (i : Fin 192) (j : Fin 384) : resm M G0 G1 (ix3 l i j) = rm (cur3 M) (gr (cur G0) (cur G1)) l i j := by
  pointwise [resm]
  rw [resg_apply]
  rfl

theorem resv_apply (l : Fin 2) (i : Fin 192) (j : Fin 384) : resv V G0 G1 (ix3 l i j) = rv (cur3 V) (gr (cur G0) (cur G1)) l i j := by
  pointwise [resv]
  rw [resg_apply]
  rfl

theorem resd_apply (l : Fin 2) (i : Fin 192) (j : Fin 384) : resd W M V G0 G1 (ix3 l i j) = rd (cur3 W) (cur3 M) (cur3 V) (gr (cur G0) (cur G1)) l i j := by
  pointwise [resd]
  rw [resm_apply, resv_apply]
  rfl

end reference

/-! ## The claims -/

theorem values : algebraic_KernelAdamUqIdeal_ReferenceAdamUqIdeal (hKernelAdamUqIdeal := KernelAdamUqIdeal.Gen.facts)
    (hReferenceAdamUqIdeal := ReferenceAdamUqIdeal.Gen.facts) := by
  intro m g m' g' _ hagree
  refine ⟨fun c => (KernelAdamUqIdeal.Gen.dats m 0 c).arrAt 6 KernelAdamUqIdeal.cfg0.N, fun c => (KernelAdamUqIdeal.Gen.dats m 0 c).arrAt 7 KernelAdamUqIdeal.cfg0.N, fun c => (KernelAdamUqIdeal.Gen.dats m 0 c).arrAt 8 KernelAdamUqIdeal.cfg0.N, fun c => (KernelAdamUqIdeal.Gen.dats m 0 c).arrAt 9 KernelAdamUqIdeal.cfg0.N, ?_, ?_⟩
  · exact KernelAdamUqIdeal.Value.run_blocks (F := Ideal) m g
  · refine (θ_run _ _ _).mono (fun r h c => ?_) (ReferenceAdamUqIdeal.Value.run (F := Ideal) m' g')
    obtain ⟨a0, a1, a2, a3, a4, a5⟩ := hagree c
    obtain ⟨h0, h1, h2, h3, rest⟩ := h c
    refine ⟨h0.trans ?_, h1.trans ?_, h2.trans ?_, h3.trans ?_, rest⟩
    · rw [a3, a4]
      exact (eq_unc3 _ _ (resg_apply _ _)).trans (arr6 m c).symm
    · rw [a0, a1, a2, a3, a4]
      exact (eq_unc3 _ _ (resd_apply _ _ _ _ _)).trans (arr7 m c).symm
    · rw [a1, a3, a4]
      exact (eq_unc3 _ _ (resm_apply _ _ _)).trans (arr8 m c).symm
    · rw [a2, a3, a4]
      exact (eq_unc3 _ _ (resv_apply _ _ _)).trans (arr9 m c).symm

theorem reference_frame : quiescent_ReferenceAdamUqIdeal (hReferenceAdamUqIdeal := ReferenceAdamUqIdeal.Gen.facts) := fun m g _ =>
  (θ_run _ _ _).mono (fun r h => ⟨fun c => (h c).2.2.2.2, sem_eq_zero_of_no_sems rfl r.2⟩) (ReferenceAdamUqIdeal.Value.run (F := Ideal) m g)

theorem kernel_frame : quiescent_KernelAdamUq (hKernelAdamUq := KernelAdamUq.Gen.facts) := fun m g _ => KernelAdamUq.Gen.frame m g

theorem ideal_frame : quiescent_KernelAdamUqIdeal (hKernelAdamUqIdeal := KernelAdamUqIdeal.Gen.facts) := fun m g _ => KernelAdamUqIdeal.Gen.frame m g

end Cert.Ffn.AdamUq

end
-- ==== Proof.AdamUkv.lean ====
/- AdamW over the key and value weight: the arrays after the launch and the reference, by element. -/
module

public import proofs.«01_k».proof.Proof.Gen.KernelAdamUkvIdeal.Value
public import proofs.«01_k».proof.Proof.Gen.KernelAdamUkv
public import proofs.«01_k».proof.Proof.Gen.KernelAdamUkv.Frame
public import proofs.«01_k».proof.Proof.Gen.ReferenceAdamUkvIdeal.Run
public import proofs.«01_k».proof.Proof.Common
public import proofs.«01_k».proof.Proof.AdamStep
public import Idealize.ShloMosaic.Lib.Pipeline.ReadBack
public import proofs.«01_k».proof.Defs

@[expose] public section

set_option maxRecDepth 16384

noncomputable section

namespace Cert.Ffn.AdamUkv

open Cert.Attn Cert.Ffn.Adam
open Idealize.ShloMosaic Idealize.ShloMosaic.TcCoe Idealize.ShloMosaic.Tactic Idealize.SL.Sem

section kernel

open KernelAdamUkvIdeal KernelAdamUkvIdeal.Gen
open Idealize.ShloMosaic.Pipeline (Dat Cfg Window BodyObligation cellOf)

variable (g : Vec Ideal S256x256 .f32) (w m v : Vec Ideal S1x256x256 .f32)

theorem pay_g (p : Fin 1) (r : Fin 256) (j : Fin 256) : k0_pay1 g (ix3 p r j) = g (ix2 r j) := by
  pointwise [k0_pay1]

theorem pay_m (p : Fin 1) (r : Fin 256) (j : Fin 256) : k0_pay2 (k0_pay7 g m) (ix3 p r j) = nm (m (ix3 0 r j)) (g (ix2 r j)) := by
  pointwise [k0_pay2, k0_pay7]
  rfl

theorem pay_v (p : Fin 1) (r : Fin 256) (j : Fin 256) : k0_pay3 (k0_pay8 g v) (ix3 p r j) = nv (v (ix3 0 r j)) (g (ix2 r j)) := by
  pointwise [k0_pay3, k0_pay8]
  rfl

theorem pay_d (p : Fin 1) (r : Fin 256) (j : Fin 256) : k0_pay9 g m v w (ix3 p r j) = nd (w (ix3 0 r j)) (m (ix3 0 r j)) (v (ix3 0 r j)) (g (ix2 r j)) := by
  pointwise [k0_pay9, k0_pay7, k0_pay8]
  rfl

variable (m : (ℓ : Loc nD τ sig) → Buf (Elt Ideal) ℓ) (c : Dev nD)

theorem index_0 : ∀ t : Fin cfg0.N, win0_0.index t = ![t.val, 0, 0] := by decide +kernel
theorem index_1 : ∀ t : Fin cfg0.N, win0_1.index t = ![t.val, 0, 0] := by decide +kernel
theorem index_2 : ∀ t : Fin cfg0.N, win0_2.index t = ![t.val, 0, 0] := by decide +kernel
theorem index_3 : ∀ t : Fin cfg0.N, win0_3.index t = ![0, 0] := by decide +kernel
theorem index_4 : ∀ t : Fin cfg0.N, win0_4.index t = ![0, 0] := by decide +kernel
theorem index_6 : ∀ t : Fin cfg0.N, win0_6.index t = ![t.val, 0, 0] := by decide +kernel
theorem index_7 : ∀ t : Fin cfg0.N, win0_7.index t = ![t.val, 0, 0] := by decide +kernel
theorem index_8 : ∀ t : Fin cfg0.N, win0_8.index t = ![t.val, 0, 0] := by decide +kernel
theorem index_9 : ∀ t : Fin cfg0.N, win0_9.index t = ![t.val, 0, 0] := by decide +kernel

/-- The arguments, and the blocks of a point. -/
abbrev w0 := cur3 (m ((c.tc : Thread nD τ).loc main_arg0))
abbrev w1 := cur3 (m ((c.tc : Thread nD τ).loc main_arg1))
abbrev w2 := cur3 (m ((c.tc : Thread nD τ).loc main_arg2))
abbrev w3 := cur (m ((c.tc : Thread nD τ).loc main_arg3))
abbrev w4 := cur (m ((c.tc : Thread nD τ).loc main_arg4))

def b0 (t : Fin cfg0.N) : Vec Ideal S1x256x256 .f32 := iblk m c 0 t
def b1 (t : Fin cfg0.N) : Vec Ideal S1x256x256 .f32 := iblk m c 1 t
def b2 (t : Fin cfg0.N) : Vec Ideal S1x256x256 .f32 := iblk m c 2 t
def b3 (t : Fin cfg0.N) : Vec Ideal S256x256 .f32 := iblk m c 3 t
def b4 (t : Fin cfg0.N) : Vec Ideal S256x256 .f32 := iblk m c 4 t

section blocks

variable (t : Fin cfg0.N) (r : Fin 256) (j : Fin 256) (l : Fin 2) (i : Fin 256) (q : Fin 256) (hl : l.val = t.val) (hi : i.val = r.val) (hq : q.val = j.val)
include hl hi hq

theorem b0_apply : b0 m c t (ix3 0 r j) = w0 m c l i q := by
  have e := index_0 t
  unfold w0 cur3 b0
  blk_simp [iblk]
  refine congrArg (m ((c.tc : Thread nD τ).loc main_arg0)) ?_
  blk_ext [e, hl, hi, hq]

theorem b1_apply : b1 m c t (ix3 0 r j) = w1 m c l i q := by
  have e := index_1 t
  unfold w1 cur3 b1
  blk_simp [iblk]
  refine congrArg (m ((c.tc : Thread nD τ).loc main_arg1)) ?_
  blk_ext [e, hl, hi, hq]

theorem b2_apply : b2 m c t (ix3 0 r j) = w2 m c l i q := by
  have e := index_2 t
  unfold w2 cur3 b2
  blk_simp [iblk]
  refine congrArg (m ((c.tc : Thread nD τ).loc main_arg2)) ?_
  blk_ext [e, hl, hi, hq]

theorem b3_apply : b3 m c t (ix2 r j) = w3 m c i q := by
  have e := index_3 t
  unfold w3 cur b3
  blk_simp [iblk]
  refine congrArg (m ((c.tc : Thread nD τ).loc main_arg3)) ?_
  blk_ext [e, hi, hq]

theorem b4_apply : b4 m c t (ix2 r j) = w4 m c i q := by
  have e := index_4 t
  unfold w4 cur b4
  blk_simp [iblk]
  refine congrArg (m ((c.tc : Thread nD τ).loc main_arg4)) ?_
  blk_ext [e, hi, hq]

/-- The gradient's block of a point: the first layer's, then the second's. -/
def gb (t : Fin cfg0.N) : Vec Ideal S256x256 .f32 := if t.val % 2 = 0 then b3 m c t else b4 m c t

theorem gb_apply : gb m c t (ix2 r j) = gr (w3 m c) (w4 m c) l i q := by
  have hN : t.val < 2 := lt_of_lt_of_eq t.isLt N_0
  unfold gb gr
  by_cases h : t.val % 2 = 0
  · rw [if_pos h, if_pos (by omega)]
    exact b3_apply m c t r j l i q hl hi hq
  · rw [if_neg h, if_neg (by omega)]
    exact b4_apply m c t r j l i q hl hi hq

end blocks

/-- What a point leaves in the results' blocks. -/
theorem outs (t : Fin cfg0.N) : outsAt0 m c t.val t.isLt = (k0_pay1 (gb m c t), k0_pay9 (gb m c t) (b1 m c t) (b2 m c t) (b0 m c t), k0_pay2 (k0_pay7 (gb m c t) (b1 m c t)), k0_pay3 (k0_pay8 (gb m c t) (b2 m c t))) := by
  unfold gb
  by_cases h : t.val % 2 = 0
  · rw [if_pos h, outsAt0_A m c t h (by omega)]
    refine Prod.ext ?_ (Prod.ext ?_ (Prod.ext ?_ ?_))
    all_goals
      frame_out
      rfl
  · rw [if_neg h, outsAt0_B m c t h (by omega)]
    refine Prod.ext ?_ (Prod.ext ?_ (Prod.ext ?_ ?_))
    all_goals
      frame_out
      rfl

/-- The arrays after the launch. -/
theorem arr6 : (dats m 0 c).arrAt 6 cfg0.N = unc3 (gr (w3 m c) (w4 m c)) := by
  have e := index_6
  refine (dats m 0 c).arrAt_eq_of_covers 6 _ (by decide +kernel) fun t hf y => ?_
  have h0 : (y 0).val < 1 := (y 0).isLt
  have hN : t.val < 2 := lt_of_lt_of_eq t.isLt N_0
  have hl : ((win0_6.blk t).view.emb y 0).val = t.val := by
    blk_simp [e]
  have hi : ((win0_6.blk t).view.emb y 1).val = (y 1).val := by blk_simp [e]
  have hq : ((win0_6.blk t).view.emb y 2).val = (y 2).val := by blk_simp [e]
  blk_simp [iblk]
  rw [after0_6, outs]
  refine (congrFun (eq_unc3 _ _ (pay_g (gb m c t))) _).trans ?_
  unfold unc3
  exact gb_apply m c t (y 1) (y 2) _ _ _ hl hi hq

theorem arr7 : (dats m 0 c).arrAt 7 cfg0.N = unc3 (rd (w0 m c) (w1 m c) (w2 m c) (gr (w3 m c) (w4 m c))) := by
  have e := index_7
  refine (dats m 0 c).arrAt_eq_of_covers 7 _ (by decide +kernel) fun t hf y => ?_
  have h0 : (y 0).val < 1 := (y 0).isLt
  have hN : t.val < 2 := lt_of_lt_of_eq t.isLt N_0
  have hl : ((win0_7.blk t).view.emb y 0).val = t.val := by
    blk_simp [e]
  have hi : ((win0_7.blk t).view.emb y 1).val = (y 1).val := by blk_simp [e]
  have hq : ((win0_7.blk t).view.emb y 2).val = (y 2).val := by blk_simp [e]
  blk_simp [iblk]
  rw [after0_7, outs]
  refine (congrFun (eq_unc3 _ _ (pay_d (gb m c t) (b0 m c t) (b1 m c t) (b2 m c t))) _).trans ?_
  unfold unc3 rd
  exact congr (congr (congr (congrArg nd (b0_apply m c t (y 1) (y 2) _ _ _ hl hi hq)) (b1_apply m c t (y 1) (y 2) _ _ _ hl hi hq)) (b2_apply m c t (y 1) (y 2) _ _ _ hl hi hq)) (gb_apply m c t (y 1) (y 2) _ _ _ hl hi hq)

theorem arr8 : (dats m 0 c).arrAt 8 cfg0.N = unc3 (rm (w1 m c) (gr (w3 m c) (w4 m c))) := by
  have e := index_8
  refine (dats m 0 c).arrAt_eq_of_covers 8 _ (by decide +kernel) fun t hf y => ?_
  have h0 : (y 0).val < 1 := (y 0).isLt
  have hN : t.val < 2 := lt_of_lt_of_eq t.isLt N_0
  have hl : ((win0_8.blk t).view.emb y 0).val = t.val := by
    blk_simp [e]
  have hi : ((win0_8.blk t).view.emb y 1).val = (y 1).val := by blk_simp [e]
  have hq : ((win0_8.blk t).view.emb y 2).val = (y 2).val := by blk_simp [e]
  blk_simp [iblk]
  rw [after0_8, outs]
  refine (congrFun (eq_unc3 _ _ (pay_m (gb m c t) (b1 m c t))) _).trans ?_
  unfold unc3 rm
  exact congrArg₂ nm (b1_apply m c t (y 1) (y 2) _ _ _ hl hi hq) (gb_apply m c t (y 1) (y 2) _ _ _ hl hi hq)

theorem arr9 : (dats m 0 c).arrAt 9 cfg0.N = unc3 (rv (w2 m c) (gr (w3 m c) (w4 m c))) := by
  have e := index_9
  refine (dats m 0 c).arrAt_eq_of_covers 9 _ (by decide +kernel) fun t hf y => ?_
  have h0 : (y 0).val < 1 := (y 0).isLt
  have hN : t.val < 2 := lt_of_lt_of_eq t.isLt N_0
  have hl : ((win0_9.blk t).view.emb y 0).val = t.val := by
    blk_simp [e]
  have hi : ((win0_9.blk t).view.emb y 1).val = (y 1).val := by blk_simp [e]
  have hq : ((win0_9.blk t).view.emb y 2).val = (y 2).val := by blk_simp [e]
  blk_simp [iblk]
  rw [after0_9, outs]
  refine (congrFun (eq_unc3 _ _ (pay_v (gb m c t) (b2 m c t))) _).trans ?_
  unfold unc3 rv
  exact congrArg₂ nv (b2_apply m c t (y 1) (y 2) _ _ _ hl hi hq) (gb_apply m c t (y 1) (y 2) _ _ _ hl hi hq)

end kernel

section reference
open ReferenceAdamUkvIdeal ReferenceAdamUkvIdeal.Gen
variable (W M V : FVec Ideal S2x256x256 .f32) (G0 G1 : FVec Ideal S256x256 .f32)

def resg : FVec Ideal S2x256x256 .f32 :=
  concatenate S2x256x256 0 [⟨S1x256x256, (broadcastInDim S1x256x256 ![1, 2] bcast_S256x256_S1x256x256_1_2 G0)⟩, ⟨S1x256x256, (broadcastInDim S1x256x256 ![1, 2] bcast_S256x256_S1x256x256_1_2 G1)⟩] concatenates_S1x256x256_S1x256x256_S2x256x256_d0

theorem resg_apply (l : Fin 2) (i : Fin 256) (j : Fin 256) : resg G0 G1 (ix3 l i j) = gr (cur G0) (cur G1) l i j := by
  pointwise [resg]
  fin_cases l <;> rfl

def resm : FVec Ideal S2x256x256 .f32 := addf (mulf (broadcastInDim S2x256x256 ![] bcast_S_S2x256x256 (constant S_ .f32 0x3F666666#32)) M) (mulf (broadcastInDim S2x256x256 ![] bcast_S_S2x256x256 (constant S_ .f32 0x3DCCCCCD#32)) (resg G0 G1))

def resv : FVec Ideal S2x256x256 .f32 := addf (mulf (broadcastInDim S2x256x256 ![] bcast_S_S2x256x256 (constant S_ .f32 0x3F7FBE77#32)) V) (mulf (broadcastInDim S2x256x256 ![] bcast_S_S2x256x256 (constant S_ .f32 0x3A83126F#32)) (mulf (resg G0 G1) (resg G0 G1)))

def resd : FVec Ideal S2x256x256 .f32 :=
  mulf (broadcastInDim S2x256x256 ![] bcast_S_S2x256x256 (constant S_ .f32 0xBA83126F#32)) (addf (Host.divf (Host.divf (resm M G0 G1) (broadcastInDim S2x256x256 ![] bcast_S_S2x256x256 (constant S_ .f32 0x3F26BD02#32)))
    (addf (Host.sqrt (Host.divf (resv V G0 G1) (broadcastInDim S2x256x256 ![] bcast_S_S2x256x256 (constant S_ .f32 0x3C231ACC#32)))) (broadcastInDim S2x256x256 ![] bcast_S_S2x256x256 (constant S_ .f32 0x322BCC77#32)))) (mulf (broadcastInDim S2x256x256 ![] bcast_S_S2x256x256 (constant S_ .f32 0x3C23D70A#32)) W))

theorem resm_apply (l : Fin 2) (i : Fin 256) (j : Fin 256) : resm M G0 G1 (ix3 l i j) = rm (cur3 M) (gr (cur G0) (cur G1)) l i j := by
  pointwise [resm]
  rw [resg_apply]
  rfl

theorem resv_apply (l : Fin 2) (i : Fin 256) (j : Fin 256) : resv V G0 G1 (ix3 l i j) = rv (cur3 V) (gr (cur G0) (cur G1)) l i j := by
  pointwise [resv]
  rw [resg_apply]
  rfl

theorem resd_apply (l : Fin 2) (i : Fin 256) (j : Fin 256) : resd W M V G0 G1 (ix3 l i j) = rd (cur3 W) (cur3 M) (cur3 V) (gr (cur G0) (cur G1)) l i j := by
  pointwise [resd]
  rw [resm_apply, resv_apply]
  rfl

end reference

/-! ## The claims -/

theorem values : algebraic_KernelAdamUkvIdeal_ReferenceAdamUkvIdeal (hKernelAdamUkvIdeal := KernelAdamUkvIdeal.Gen.facts)
    (hReferenceAdamUkvIdeal := ReferenceAdamUkvIdeal.Gen.facts) := by
  intro m g m' g' _ hagree
  refine ⟨fun c => (KernelAdamUkvIdeal.Gen.dats m 0 c).arrAt 6 KernelAdamUkvIdeal.cfg0.N, fun c => (KernelAdamUkvIdeal.Gen.dats m 0 c).arrAt 7 KernelAdamUkvIdeal.cfg0.N, fun c => (KernelAdamUkvIdeal.Gen.dats m 0 c).arrAt 8 KernelAdamUkvIdeal.cfg0.N, fun c => (KernelAdamUkvIdeal.Gen.dats m 0 c).arrAt 9 KernelAdamUkvIdeal.cfg0.N, ?_, ?_⟩
  · exact KernelAdamUkvIdeal.Value.run_blocks (F := Ideal) m g
  · refine (θ_run _ _ _).mono (fun r h c => ?_) (ReferenceAdamUkvIdeal.Value.run (F := Ideal) m' g')
    obtain ⟨a0, a1, a2, a3, a4, a5⟩ := hagree c
    obtain ⟨h0, h1, h2, h3, rest⟩ := h c
    refine ⟨h0.trans ?_, h1.trans ?_, h2.trans ?_, h3.trans ?_, rest⟩
    · rw [a3, a4]
      exact (eq_unc3 _ _ (resg_apply _ _)).trans (arr6 m c).symm
    · rw [a0, a1, a2, a3, a4]
      exact (eq_unc3 _ _ (resd_apply _ _ _ _ _)).trans (arr7 m c).symm
    · rw [a1, a3, a4]
      exact (eq_unc3 _ _ (resm_apply _ _ _)).trans (arr8 m c).symm
    · rw [a2, a3, a4]
      exact (eq_unc3 _ _ (resv_apply _ _ _)).trans (arr9 m c).symm

theorem reference_frame : quiescent_ReferenceAdamUkvIdeal (hReferenceAdamUkvIdeal := ReferenceAdamUkvIdeal.Gen.facts) := fun m g _ =>
  (θ_run _ _ _).mono (fun r h => ⟨fun c => (h c).2.2.2.2, sem_eq_zero_of_no_sems rfl r.2⟩) (ReferenceAdamUkvIdeal.Value.run (F := Ideal) m g)

theorem kernel_frame : quiescent_KernelAdamUkv (hKernelAdamUkv := KernelAdamUkv.Gen.facts) := fun m g _ => KernelAdamUkv.Gen.frame m g

theorem ideal_frame : quiescent_KernelAdamUkvIdeal (hKernelAdamUkvIdeal := KernelAdamUkvIdeal.Gen.facts) := fun m g _ => KernelAdamUkvIdeal.Gen.frame m g

end Cert.Ffn.AdamUkv

end
-- ==== Proof.AdamOut.lean ====
/- AdamW over w_out: the arrays after the launch and the reference, by element. -/
module

public import proofs.«01_k».proof.Proof.Gen.KernelAdamOutIdeal.Value
public import proofs.«01_k».proof.Proof.Gen.KernelAdamOut
public import proofs.«01_k».proof.Proof.Gen.KernelAdamOut.Frame
public import proofs.«01_k».proof.Proof.Gen.ReferenceAdamOutIdeal.Run
public import proofs.«01_k».proof.Proof.Common
public import proofs.«01_k».proof.Proof.AdamStep
public import Idealize.ShloMosaic.Lib.Pipeline.ReadBack
public import proofs.«01_k».proof.Defs

@[expose] public section

set_option maxRecDepth 16384

noncomputable section

namespace Cert.Ffn.AdamOut

open Cert.Attn Cert.Ffn.Adam
open Idealize.ShloMosaic Idealize.ShloMosaic.TcCoe Idealize.ShloMosaic.Tactic Idealize.SL.Sem

section kernel

open KernelAdamOutIdeal KernelAdamOutIdeal.Gen
open Idealize.ShloMosaic.Pipeline (Dat Cfg Window BodyObligation cellOf)

variable (g : Vec Ideal S256x1024 .f32) (w m v : Vec Ideal S1x256x1024 .f32)

theorem pay_g (p : Fin 1) (r : Fin 256) (j : Fin 1024) : k0_pay1 g (ix3 p r j) = g (ix2 r j) := by
  pointwise [k0_pay1]

theorem pay_m (p : Fin 1) (r : Fin 256) (j : Fin 1024) : k0_pay2 (k0_pay7 g m) (ix3 p r j) = nm (m (ix3 0 r j)) (g (ix2 r j)) := by
  pointwise [k0_pay2, k0_pay7]
  rfl

theorem pay_v (p : Fin 1) (r : Fin 256) (j : Fin 1024) : k0_pay3 (k0_pay8 g v) (ix3 p r j) = nv (v (ix3 0 r j)) (g (ix2 r j)) := by
  pointwise [k0_pay3, k0_pay8]
  rfl

theorem pay_d (p : Fin 1) (r : Fin 256) (j : Fin 1024) : k0_pay9 g m v w (ix3 p r j) = nd (w (ix3 0 r j)) (m (ix3 0 r j)) (v (ix3 0 r j)) (g (ix2 r j)) := by
  pointwise [k0_pay9, k0_pay7, k0_pay8]
  rfl

variable (m : (ℓ : Loc nD τ sig) → Buf (Elt Ideal) ℓ) (c : Dev nD)

theorem index_0 : ∀ t : Fin cfg0.N, win0_0.index t = ![t.val, 0, 0] := by decide +kernel
theorem index_1 : ∀ t : Fin cfg0.N, win0_1.index t = ![t.val, 0, 0] := by decide +kernel
theorem index_2 : ∀ t : Fin cfg0.N, win0_2.index t = ![t.val, 0, 0] := by decide +kernel
theorem index_3 : ∀ t : Fin cfg0.N, win0_3.index t = ![0, 0] := by decide +kernel
theorem index_4 : ∀ t : Fin cfg0.N, win0_4.index t = ![0, 0] := by decide +kernel
theorem index_6 : ∀ t : Fin cfg0.N, win0_6.index t = ![t.val, 0, 0] := by decide +kernel
theorem index_7 : ∀ t : Fin cfg0.N, win0_7.index t = ![t.val, 0, 0] := by decide +kernel
theorem index_8 : ∀ t : Fin cfg0.N, win0_8.index t = ![t.val, 0, 0] := by decide +kernel
theorem index_9 : ∀ t : Fin cfg0.N, win0_9.index t = ![t.val, 0, 0] := by decide +kernel

/-- The arguments, and the blocks of a point. -/
abbrev w0 := cur3 (m ((c.tc : Thread nD τ).loc main_arg0))
abbrev w1 := cur3 (m ((c.tc : Thread nD τ).loc main_arg1))
abbrev w2 := cur3 (m ((c.tc : Thread nD τ).loc main_arg2))
abbrev w3 := cur (m ((c.tc : Thread nD τ).loc main_arg3))
abbrev w4 := cur (m ((c.tc : Thread nD τ).loc main_arg4))

def b0 (t : Fin cfg0.N) : Vec Ideal S1x256x1024 .f32 := iblk m c 0 t
def b1 (t : Fin cfg0.N) : Vec Ideal S1x256x1024 .f32 := iblk m c 1 t
def b2 (t : Fin cfg0.N) : Vec Ideal S1x256x1024 .f32 := iblk m c 2 t
def b3 (t : Fin cfg0.N) : Vec Ideal S256x1024 .f32 := iblk m c 3 t
def b4 (t : Fin cfg0.N) : Vec Ideal S256x1024 .f32 := iblk m c 4 t

section blocks

variable (t : Fin cfg0.N) (r : Fin 256) (j : Fin 1024) (l : Fin 2) (i : Fin 256) (q : Fin 1024) (hl : l.val = t.val) (hi : i.val = r.val) (hq : q.val = j.val)
include hl hi hq

theorem b0_apply : b0 m c t (ix3 0 r j) = w0 m c l i q := by
  have e := index_0 t
  unfold w0 cur3 b0
  blk_simp [iblk]
  refine congrArg (m ((c.tc : Thread nD τ).loc main_arg0)) ?_
  blk_ext [e, hl, hi, hq]

theorem b1_apply : b1 m c t (ix3 0 r j) = w1 m c l i q := by
  have e := index_1 t
  unfold w1 cur3 b1
  blk_simp [iblk]
  refine congrArg (m ((c.tc : Thread nD τ).loc main_arg1)) ?_
  blk_ext [e, hl, hi, hq]

theorem b2_apply : b2 m c t (ix3 0 r j) = w2 m c l i q := by
  have e := index_2 t
  unfold w2 cur3 b2
  blk_simp [iblk]
  refine congrArg (m ((c.tc : Thread nD τ).loc main_arg2)) ?_
  blk_ext [e, hl, hi, hq]

theorem b3_apply : b3 m c t (ix2 r j) = w3 m c i q := by
  have e := index_3 t
  unfold w3 cur b3
  blk_simp [iblk]
  refine congrArg (m ((c.tc : Thread nD τ).loc main_arg3)) ?_
  blk_ext [e, hi, hq]

theorem b4_apply : b4 m c t (ix2 r j) = w4 m c i q := by
  have e := index_4 t
  unfold w4 cur b4
  blk_simp [iblk]
  refine congrArg (m ((c.tc : Thread nD τ).loc main_arg4)) ?_
  blk_ext [e, hi, hq]

/-- The gradient's block of a point: the first layer's, then the second's. -/
def gb (t : Fin cfg0.N) : Vec Ideal S256x1024 .f32 := if t.val % 2 = 0 then b3 m c t else b4 m c t

theorem gb_apply : gb m c t (ix2 r j) = gr (w3 m c) (w4 m c) l i q := by
  have hN : t.val < 2 := lt_of_lt_of_eq t.isLt N_0
  unfold gb gr
  by_cases h : t.val % 2 = 0
  · rw [if_pos h, if_pos (by omega)]
    exact b3_apply m c t r j l i q hl hi hq
  · rw [if_neg h, if_neg (by omega)]
    exact b4_apply m c t r j l i q hl hi hq

end blocks

/-- What a point leaves in the results' blocks. -/
theorem outs (t : Fin cfg0.N) : outsAt0 m c t.val t.isLt = (k0_pay1 (gb m c t), k0_pay9 (gb m c t) (b1 m c t) (b2 m c t) (b0 m c t), k0_pay2 (k0_pay7 (gb m c t) (b1 m c t)), k0_pay3 (k0_pay8 (gb m c t) (b2 m c t))) := by
  unfold gb
  by_cases h : t.val % 2 = 0
  · rw [if_pos h, outsAt0_A m c t h (by omega)]
    refine Prod.ext ?_ (Prod.ext ?_ (Prod.ext ?_ ?_))
    all_goals
      frame_out
      rfl
  · rw [if_neg h, outsAt0_B m c t h (by omega)]
    refine Prod.ext ?_ (Prod.ext ?_ (Prod.ext ?_ ?_))
    all_goals
      frame_out
      rfl

/-- The arrays after the launch. -/
theorem arr6 : (dats m 0 c).arrAt 6 cfg0.N = unc3 (gr (w3 m c) (w4 m c)) := by
  have e := index_6
  refine (dats m 0 c).arrAt_eq_of_covers 6 _ (by decide +kernel) fun t hf y => ?_
  have h0 : (y 0).val < 1 := (y 0).isLt
  have hN : t.val < 2 := lt_of_lt_of_eq t.isLt N_0
  have hl : ((win0_6.blk t).view.emb y 0).val = t.val := by
    blk_simp [e]
  have hi : ((win0_6.blk t).view.emb y 1).val = (y 1).val := by blk_simp [e]
  have hq : ((win0_6.blk t).view.emb y 2).val = (y 2).val := by blk_simp [e]
  blk_simp [iblk]
  rw [after0_6, outs]
  refine (congrFun (eq_unc3 _ _ (pay_g (gb m c t))) _).trans ?_
  unfold unc3
  exact gb_apply m c t (y 1) (y 2) _ _ _ hl hi hq

theorem arr7 : (dats m 0 c).arrAt 7 cfg0.N = unc3 (rd (w0 m c) (w1 m c) (w2 m c) (gr (w3 m c) (w4 m c))) := by
  have e := index_7
  refine (dats m 0 c).arrAt_eq_of_covers 7 _ (by decide +kernel) fun t hf y => ?_
  have h0 : (y 0).val < 1 := (y 0).isLt
  have hN : t.val < 2 := lt_of_lt_of_eq t.isLt N_0
  have hl : ((win0_7.blk t).view.emb y 0).val = t.val := by
    blk_simp [e]
  have hi : ((win0_7.blk t).view.emb y 1).val = (y 1).val := by blk_simp [e]
  have hq : ((win0_7.blk t).view.emb y 2).val = (y 2).val := by blk_simp [e]
  blk_simp [iblk]
  rw [after0_7, outs]
  refine (congrFun (eq_unc3 _ _ (pay_d (gb m c t) (b0 m c t) (b1 m c t) (b2 m c t))) _).trans ?_
  unfold unc3 rd
  exact congr (congr (congr (congrArg nd (b0_apply m c t (y 1) (y 2) _ _ _ hl hi hq)) (b1_apply m c t (y 1) (y 2) _ _ _ hl hi hq)) (b2_apply m c t (y 1) (y 2) _ _ _ hl hi hq)) (gb_apply m c t (y 1) (y 2) _ _ _ hl hi hq)

theorem arr8 : (dats m 0 c).arrAt 8 cfg0.N = unc3 (rm (w1 m c) (gr (w3 m c) (w4 m c))) := by
  have e := index_8
  refine (dats m 0 c).arrAt_eq_of_covers 8 _ (by decide +kernel) fun t hf y => ?_
  have h0 : (y 0).val < 1 := (y 0).isLt
  have hN : t.val < 2 := lt_of_lt_of_eq t.isLt N_0
  have hl : ((win0_8.blk t).view.emb y 0).val = t.val := by
    blk_simp [e]
  have hi : ((win0_8.blk t).view.emb y 1).val = (y 1).val := by blk_simp [e]
  have hq : ((win0_8.blk t).view.emb y 2).val = (y 2).val := by blk_simp [e]
  blk_simp [iblk]
  rw [after0_8, outs]
  refine (congrFun (eq_unc3 _ _ (pay_m (gb m c t) (b1 m c t))) _).trans ?_
  unfold unc3 rm
  exact congrArg₂ nm (b1_apply m c t (y 1) (y 2) _ _ _ hl hi hq) (gb_apply m c t (y 1) (y 2) _ _ _ hl hi hq)

theorem arr9 : (dats m 0 c).arrAt 9 cfg0.N = unc3 (rv (w2 m c) (gr (w3 m c) (w4 m c))) := by
  have e := index_9
  refine (dats m 0 c).arrAt_eq_of_covers 9 _ (by decide +kernel) fun t hf y => ?_
  have h0 : (y 0).val < 1 := (y 0).isLt
  have hN : t.val < 2 := lt_of_lt_of_eq t.isLt N_0
  have hl : ((win0_9.blk t).view.emb y 0).val = t.val := by
    blk_simp [e]
  have hi : ((win0_9.blk t).view.emb y 1).val = (y 1).val := by blk_simp [e]
  have hq : ((win0_9.blk t).view.emb y 2).val = (y 2).val := by blk_simp [e]
  blk_simp [iblk]
  rw [after0_9, outs]
  refine (congrFun (eq_unc3 _ _ (pay_v (gb m c t) (b2 m c t))) _).trans ?_
  unfold unc3 rv
  exact congrArg₂ nv (b2_apply m c t (y 1) (y 2) _ _ _ hl hi hq) (gb_apply m c t (y 1) (y 2) _ _ _ hl hi hq)

end kernel

section reference
open ReferenceAdamOutIdeal ReferenceAdamOutIdeal.Gen
variable (W M V : FVec Ideal S2x256x1024 .f32) (G0 G1 : FVec Ideal S256x1024 .f32)

def resg : FVec Ideal S2x256x1024 .f32 :=
  concatenate S2x256x1024 0 [⟨S1x256x1024, (broadcastInDim S1x256x1024 ![1, 2] bcast_S256x1024_S1x256x1024_1_2 G0)⟩, ⟨S1x256x1024, (broadcastInDim S1x256x1024 ![1, 2] bcast_S256x1024_S1x256x1024_1_2 G1)⟩] concatenates_S1x256x1024_S1x256x1024_S2x256x1024_d0

theorem resg_apply (l : Fin 2) (i : Fin 256) (j : Fin 1024) : resg G0 G1 (ix3 l i j) = gr (cur G0) (cur G1) l i j := by
  pointwise [resg]
  fin_cases l <;> rfl

def resm : FVec Ideal S2x256x1024 .f32 := addf (mulf (broadcastInDim S2x256x1024 ![] bcast_S_S2x256x1024 (constant S_ .f32 0x3F666666#32)) M) (mulf (broadcastInDim S2x256x1024 ![] bcast_S_S2x256x1024 (constant S_ .f32 0x3DCCCCCD#32)) (resg G0 G1))

def resv : FVec Ideal S2x256x1024 .f32 := addf (mulf (broadcastInDim S2x256x1024 ![] bcast_S_S2x256x1024 (constant S_ .f32 0x3F7FBE77#32)) V) (mulf (broadcastInDim S2x256x1024 ![] bcast_S_S2x256x1024 (constant S_ .f32 0x3A83126F#32)) (mulf (resg G0 G1) (resg G0 G1)))

def resd : FVec Ideal S2x256x1024 .f32 :=
  mulf (broadcastInDim S2x256x1024 ![] bcast_S_S2x256x1024 (constant S_ .f32 0xBA83126F#32)) (addf (Host.divf (Host.divf (resm M G0 G1) (broadcastInDim S2x256x1024 ![] bcast_S_S2x256x1024 (constant S_ .f32 0x3F26BD02#32)))
    (addf (Host.sqrt (Host.divf (resv V G0 G1) (broadcastInDim S2x256x1024 ![] bcast_S_S2x256x1024 (constant S_ .f32 0x3C231ACC#32)))) (broadcastInDim S2x256x1024 ![] bcast_S_S2x256x1024 (constant S_ .f32 0x322BCC77#32)))) (mulf (broadcastInDim S2x256x1024 ![] bcast_S_S2x256x1024 (constant S_ .f32 0x3C23D70A#32)) W))

theorem resm_apply (l : Fin 2) (i : Fin 256) (j : Fin 1024) : resm M G0 G1 (ix3 l i j) = rm (cur3 M) (gr (cur G0) (cur G1)) l i j := by
  pointwise [resm]
  rw [resg_apply]
  rfl

theorem resv_apply (l : Fin 2) (i : Fin 256) (j : Fin 1024) : resv V G0 G1 (ix3 l i j) = rv (cur3 V) (gr (cur G0) (cur G1)) l i j := by
  pointwise [resv]
  rw [resg_apply]
  rfl

theorem resd_apply (l : Fin 2) (i : Fin 256) (j : Fin 1024) : resd W M V G0 G1 (ix3 l i j) = rd (cur3 W) (cur3 M) (cur3 V) (gr (cur G0) (cur G1)) l i j := by
  pointwise [resd]
  rw [resm_apply, resv_apply]
  rfl

end reference

/-! ## The claims -/

theorem values : algebraic_KernelAdamOutIdeal_ReferenceAdamOutIdeal (hKernelAdamOutIdeal := KernelAdamOutIdeal.Gen.facts)
    (hReferenceAdamOutIdeal := ReferenceAdamOutIdeal.Gen.facts) := by
  intro m g m' g' _ hagree
  refine ⟨fun c => (KernelAdamOutIdeal.Gen.dats m 0 c).arrAt 6 KernelAdamOutIdeal.cfg0.N, fun c => (KernelAdamOutIdeal.Gen.dats m 0 c).arrAt 7 KernelAdamOutIdeal.cfg0.N, fun c => (KernelAdamOutIdeal.Gen.dats m 0 c).arrAt 8 KernelAdamOutIdeal.cfg0.N, fun c => (KernelAdamOutIdeal.Gen.dats m 0 c).arrAt 9 KernelAdamOutIdeal.cfg0.N, ?_, ?_⟩
  · exact KernelAdamOutIdeal.Value.run_blocks (F := Ideal) m g
  · refine (θ_run _ _ _).mono (fun r h c => ?_) (ReferenceAdamOutIdeal.Value.run (F := Ideal) m' g')
    obtain ⟨a0, a1, a2, a3, a4, a5⟩ := hagree c
    obtain ⟨h0, h1, h2, h3, rest⟩ := h c
    refine ⟨h0.trans ?_, h1.trans ?_, h2.trans ?_, h3.trans ?_, rest⟩
    · rw [a3, a4]
      exact (eq_unc3 _ _ (resg_apply _ _)).trans (arr6 m c).symm
    · rw [a0, a1, a2, a3, a4]
      exact (eq_unc3 _ _ (resd_apply _ _ _ _ _)).trans (arr7 m c).symm
    · rw [a1, a3, a4]
      exact (eq_unc3 _ _ (resm_apply _ _ _)).trans (arr8 m c).symm
    · rw [a2, a3, a4]
      exact (eq_unc3 _ _ (resv_apply _ _ _)).trans (arr9 m c).symm

theorem reference_frame : quiescent_ReferenceAdamOutIdeal (hReferenceAdamOutIdeal := ReferenceAdamOutIdeal.Gen.facts) := fun m g _ =>
  (θ_run _ _ _).mono (fun r h => ⟨fun c => (h c).2.2.2.2, sem_eq_zero_of_no_sems rfl r.2⟩) (ReferenceAdamOutIdeal.Value.run (F := Ideal) m g)

theorem kernel_frame : quiescent_KernelAdamOut (hKernelAdamOut := KernelAdamOut.Gen.facts) := fun m g _ => KernelAdamOut.Gen.frame m g

theorem ideal_frame : quiescent_KernelAdamOutIdeal (hKernelAdamOutIdeal := KernelAdamOutIdeal.Gen.facts) := fun m g _ => KernelAdamOutIdeal.Gen.frame m g

end Cert.Ffn.AdamOut

end
-- ==== Proof.AdamSmall.lean ====
/- AdamW over the packed small weights: the arrays after the launch and the reference, by element. -/
module

public import proofs.«01_k».proof.Proof.Gen.KernelAdamSmallIdeal.Value
public import proofs.«01_k».proof.Proof.Gen.KernelAdamSmall
public import proofs.«01_k».proof.Proof.Gen.KernelAdamSmall.Frame
public import proofs.«01_k».proof.Proof.Gen.ReferenceAdamSmallIdeal.Run
public import proofs.«01_k».proof.Proof.Common
public import proofs.«01_k».proof.Proof.AdamStep
public import Idealize.ShloMosaic.Lib.Pipeline.ReadBack
public import proofs.«01_k».proof.Defs

@[expose] public section

set_option maxRecDepth 16384

noncomputable section

namespace Cert.Ffn.AdamSmall

open Cert.Attn Cert.Ffn.Adam
open Idealize.ShloMosaic Idealize.ShloMosaic.TcCoe Idealize.ShloMosaic.Tactic Idealize.SL.Sem

section kernel

open KernelAdamSmallIdeal KernelAdamSmallIdeal.Gen
open Idealize.ShloMosaic.Pipeline (Dat Cfg Window BodyObligation cellOf)

variable (g : Vec Ideal S256x128 .f32) (w m v : Vec Ideal S1x256x128 .f32)

theorem pay_g (p : Fin 1) (r : Fin 256) (j : Fin 128) : k0_pay1 g (ix3 p r j) = g (ix2 r j) := by
  pointwise [k0_pay1]

theorem pay_m (p : Fin 1) (r : Fin 256) (j : Fin 128) : k0_pay2 (k0_pay4 g m) (ix3 p r j) = nm (m (ix3 0 r j)) (g (ix2 r j)) := by
  pointwise [k0_pay2, k0_pay4]
  rfl

theorem pay_v (p : Fin 1) (r : Fin 256) (j : Fin 128) : k0_pay3 (k0_pay5 g v) (ix3 p r j) = nv (v (ix3 0 r j)) (g (ix2 r j)) := by
  pointwise [k0_pay3, k0_pay5]
  rfl

theorem pay_d (p : Fin 1) (r : Fin 256) (j : Fin 128) : k0_pay6 g m v w (ix3 p r j) = nd (w (ix3 0 r j)) (m (ix3 0 r j)) (v (ix3 0 r j)) (g (ix2 r j)) := by
  pointwise [k0_pay6, k0_pay4, k0_pay5]
  rfl

variable (m : (ℓ : Loc nD τ sig) → Buf (Elt Ideal) ℓ) (c : Dev nD)

theorem index_0 : ∀ t : Fin cfg0.N, win0_0.index t = ![0, t.val, 0] := by decide +kernel
theorem index_1 : ∀ t : Fin cfg0.N, win0_1.index t = ![0, t.val, 0] := by decide +kernel
theorem index_2 : ∀ t : Fin cfg0.N, win0_2.index t = ![0, t.val, 0] := by decide +kernel
theorem index_3 : ∀ t : Fin cfg0.N, win0_3.index t = ![t.val, 0] := by decide +kernel
theorem index_4 : ∀ t : Fin cfg0.N, win0_4.index t = ![0, t.val, 0] := by decide +kernel
theorem index_5 : ∀ t : Fin cfg0.N, win0_5.index t = ![0, t.val, 0] := by decide +kernel
theorem index_6 : ∀ t : Fin cfg0.N, win0_6.index t = ![0, t.val, 0] := by decide +kernel
theorem index_7 : ∀ t : Fin cfg0.N, win0_7.index t = ![0, t.val, 0] := by decide +kernel

/-- The arguments, and the blocks of a point. -/
abbrev w0 := cur3 (m ((c.tc : Thread nD τ).loc main_arg0))
abbrev w1 := cur3 (m ((c.tc : Thread nD τ).loc main_arg1))
abbrev w2 := cur3 (m ((c.tc : Thread nD τ).loc main_arg2))
abbrev w3 := cur (m ((c.tc : Thread nD τ).loc main_arg3))

def b0 (t : Fin cfg0.N) : Vec Ideal S1x256x128 .f32 := iblk m c 0 t
def b1 (t : Fin cfg0.N) : Vec Ideal S1x256x128 .f32 := iblk m c 1 t
def b2 (t : Fin cfg0.N) : Vec Ideal S1x256x128 .f32 := iblk m c 2 t
def b3 (t : Fin cfg0.N) : Vec Ideal S256x128 .f32 := iblk m c 3 t

section blocks

variable (t : Fin cfg0.N) (r : Fin 256) (j : Fin 128) (l : Fin 1) (i : Fin 1536) (q : Fin 128) (hl : l.val = 0) (hi : i.val = t.val * 256 + r.val) (hq : q.val = j.val)
include hl hi hq

theorem b0_apply : b0 m c t (ix3 0 r j) = w0 m c l i q := by
  have e := index_0 t
  unfold w0 cur3 b0
  blk_simp [iblk]
  refine congrArg (m ((c.tc : Thread nD τ).loc main_arg0)) ?_
  blk_ext [e, hl, hi, hq]

theorem b1_apply : b1 m c t (ix3 0 r j) = w1 m c l i q := by
  have e := index_1 t
  unfold w1 cur3 b1
  blk_simp [iblk]
  refine congrArg (m ((c.tc : Thread nD τ).loc main_arg1)) ?_
  blk_ext [e, hl, hi, hq]

theorem b2_apply : b2 m c t (ix3 0 r j) = w2 m c l i q := by
  have e := index_2 t
  unfold w2 cur3 b2
  blk_simp [iblk]
  refine congrArg (m ((c.tc : Thread nD τ).loc main_arg2)) ?_
  blk_ext [e, hl, hi, hq]

theorem b3_apply : b3 m c t (ix2 r j) = w3 m c i q := by
  have e := index_3 t
  unfold w3 cur b3
  blk_simp [iblk]
  refine congrArg (m ((c.tc : Thread nD τ).loc main_arg3)) ?_
  blk_ext [e, hi, hq]

end blocks

/-- What a point leaves in the results' blocks. -/
theorem outs (t : Fin cfg0.N) : outsAt0 m c t = (k0_pay1 (b3 m c t), k0_pay6 (b3 m c t) (b1 m c t) (b2 m c t) (b0 m c t), k0_pay2 (k0_pay4 (b3 m c t) (b1 m c t)), k0_pay3 (k0_pay5 (b3 m c t) (b2 m c t))) := by
  unfold outsAt0
  refine Prod.ext ?_ (Prod.ext ?_ (Prod.ext ?_ ?_))
  all_goals
    frame_out
    rfl

/-- The arrays after the launch. -/
theorem arr4 : (dats m 0 c).arrAt 4 cfg0.N = unc3 (fun _ => w3 m c) := by
  have e := index_4
  refine (dats m 0 c).arrAt_eq_of_covers 4 _ (by decide +kernel) fun t hf y => ?_
  have h0 : (y 0).val < 1 := (y 0).isLt
  have hN : t.val < 6 := lt_of_lt_of_eq t.isLt N_0
  have hl : ((win0_4.blk t).view.emb y 0).val = 0 := by
    blk_simp [e]
  have hi : ((win0_4.blk t).view.emb y 1).val = t.val * 256 + (y 1).val := by blk_simp [e]
  have hq : ((win0_4.blk t).view.emb y 2).val = (y 2).val := by blk_simp [e]
  blk_simp [iblk]
  rw [after0_4, outs]
  refine (congrFun (eq_unc3 _ _ (pay_g (b3 m c t))) _).trans ?_
  unfold unc3
  exact b3_apply m c t (y 1) (y 2) _ _ _ hl hi hq

theorem arr5 : (dats m 0 c).arrAt 5 cfg0.N = unc3 (rd (w0 m c) (w1 m c) (w2 m c) (fun _ => w3 m c)) := by
  have e := index_5
  refine (dats m 0 c).arrAt_eq_of_covers 5 _ (by decide +kernel) fun t hf y => ?_
  have h0 : (y 0).val < 1 := (y 0).isLt
  have hN : t.val < 6 := lt_of_lt_of_eq t.isLt N_0
  have hl : ((win0_5.blk t).view.emb y 0).val = 0 := by
    blk_simp [e]
  have hi : ((win0_5.blk t).view.emb y 1).val = t.val * 256 + (y 1).val := by blk_simp [e]
  have hq : ((win0_5.blk t).view.emb y 2).val = (y 2).val := by blk_simp [e]
  blk_simp [iblk]
  rw [after0_5, outs]
  refine (congrFun (eq_unc3 _ _ (pay_d (b3 m c t) (b0 m c t) (b1 m c t) (b2 m c t))) _).trans ?_
  unfold unc3 rd
  exact congr (congr (congr (congrArg nd (b0_apply m c t (y 1) (y 2) _ _ _ hl hi hq)) (b1_apply m c t (y 1) (y 2) _ _ _ hl hi hq)) (b2_apply m c t (y 1) (y 2) _ _ _ hl hi hq)) (b3_apply m c t (y 1) (y 2) _ _ _ hl hi hq)

theorem arr6 : (dats m 0 c).arrAt 6 cfg0.N = unc3 (rm (w1 m c) (fun _ => w3 m c)) := by
  have e := index_6
  refine (dats m 0 c).arrAt_eq_of_covers 6 _ (by decide +kernel) fun t hf y => ?_
  have h0 : (y 0).val < 1 := (y 0).isLt
  have hN : t.val < 6 := lt_of_lt_of_eq t.isLt N_0
  have hl : ((win0_6.blk t).view.emb y 0).val = 0 := by
    blk_simp [e]
  have hi : ((win0_6.blk t).view.emb y 1).val = t.val * 256 + (y 1).val := by blk_simp [e]
  have hq : ((win0_6.blk t).view.emb y 2).val = (y 2).val := by blk_simp [e]
  blk_simp [iblk]
  rw [after0_6, outs]
  refine (congrFun (eq_unc3 _ _ (pay_m (b3 m c t) (b1 m c t))) _).trans ?_
  unfold unc3 rm
  exact congrArg₂ nm (b1_apply m c t (y 1) (y 2) _ _ _ hl hi hq) (b3_apply m c t (y 1) (y 2) _ _ _ hl hi hq)

theorem arr7 : (dats m 0 c).arrAt 7 cfg0.N = unc3 (rv (w2 m c) (fun _ => w3 m c)) := by
  have e := index_7
  refine (dats m 0 c).arrAt_eq_of_covers 7 _ (by decide +kernel) fun t hf y => ?_
  have h0 : (y 0).val < 1 := (y 0).isLt
  have hN : t.val < 6 := lt_of_lt_of_eq t.isLt N_0
  have hl : ((win0_7.blk t).view.emb y 0).val = 0 := by
    blk_simp [e]
  have hi : ((win0_7.blk t).view.emb y 1).val = t.val * 256 + (y 1).val := by blk_simp [e]
  have hq : ((win0_7.blk t).view.emb y 2).val = (y 2).val := by blk_simp [e]
  blk_simp [iblk]
  rw [after0_7, outs]
  refine (congrFun (eq_unc3 _ _ (pay_v (b3 m c t) (b2 m c t))) _).trans ?_
  unfold unc3 rv
  exact congrArg₂ nv (b2_apply m c t (y 1) (y 2) _ _ _ hl hi hq) (b3_apply m c t (y 1) (y 2) _ _ _ hl hi hq)

end kernel

section reference
open ReferenceAdamSmallIdeal ReferenceAdamSmallIdeal.Gen
variable (W M V : FVec Ideal S1x1536x128 .f32) (G0 : FVec Ideal S1536x128 .f32)

def resg : FVec Ideal S1x1536x128 .f32 := broadcastInDim S1x1536x128 ![1, 2] bcast_S1536x128_S1x1536x128_1_2 G0

theorem resg_apply (l : Fin 1) (i : Fin 1536) (j : Fin 128) : resg G0 (ix3 l i j) = cur G0 i j := by
  pointwise [resg]
  rfl

def resm : FVec Ideal S1x1536x128 .f32 := addf (mulf (broadcastInDim S1x1536x128 ![] bcast_S_S1x1536x128 (constant S_ .f32 0x3F666666#32)) M) (mulf (broadcastInDim S1x1536x128 ![] bcast_S_S1x1536x128 (constant S_ .f32 0x3DCCCCCD#32)) (resg G0))

def resv : FVec Ideal S1x1536x128 .f32 := addf (mulf (broadcastInDim S1x1536x128 ![] bcast_S_S1x1536x128 (constant S_ .f32 0x3F7FBE77#32)) V) (mulf (broadcastInDim S1x1536x128 ![] bcast_S_S1x1536x128 (constant S_ .f32 0x3A83126F#32)) (mulf (resg G0) (resg G0)))

def resd : FVec Ideal S1x1536x128 .f32 :=
  mulf (broadcastInDim S1x1536x128 ![] bcast_S_S1x1536x128 (constant S_ .f32 0xBA83126F#32)) (addf (Host.divf (Host.divf (resm M G0) (broadcastInDim S1x1536x128 ![] bcast_S_S1x1536x128 (constant S_ .f32 0x3F26BD02#32)))
    (addf (Host.sqrt (Host.divf (resv V G0) (broadcastInDim S1x1536x128 ![] bcast_S_S1x1536x128 (constant S_ .f32 0x3C231ACC#32)))) (broadcastInDim S1x1536x128 ![] bcast_S_S1x1536x128 (constant S_ .f32 0x322BCC77#32)))) (mulf (broadcastInDim S1x1536x128 ![] bcast_S_S1x1536x128 (constant S_ .f32 0x3C23D70A#32)) W))

theorem resm_apply (l : Fin 1) (i : Fin 1536) (j : Fin 128) : resm M G0 (ix3 l i j) = rm (cur3 M) (fun _ => cur G0) l i j := by
  pointwise [resm]
  rw [resg_apply]
  rfl

theorem resv_apply (l : Fin 1) (i : Fin 1536) (j : Fin 128) : resv V G0 (ix3 l i j) = rv (cur3 V) (fun _ => cur G0) l i j := by
  pointwise [resv]
  rw [resg_apply]
  rfl

theorem resd_apply (l : Fin 1) (i : Fin 1536) (j : Fin 128) : resd W M V G0 (ix3 l i j) = rd (cur3 W) (cur3 M) (cur3 V) (fun _ => cur G0) l i j := by
  pointwise [resd]
  rw [resm_apply, resv_apply]
  rfl

end reference

/-! ## The claims -/

theorem values : algebraic_KernelAdamSmallIdeal_ReferenceAdamSmallIdeal (hKernelAdamSmallIdeal := KernelAdamSmallIdeal.Gen.facts)
    (hReferenceAdamSmallIdeal := ReferenceAdamSmallIdeal.Gen.facts) := by
  intro m g m' g' _ hagree
  refine ⟨fun c => (KernelAdamSmallIdeal.Gen.dats m 0 c).arrAt 4 KernelAdamSmallIdeal.cfg0.N, fun c => (KernelAdamSmallIdeal.Gen.dats m 0 c).arrAt 5 KernelAdamSmallIdeal.cfg0.N, fun c => (KernelAdamSmallIdeal.Gen.dats m 0 c).arrAt 6 KernelAdamSmallIdeal.cfg0.N, fun c => (KernelAdamSmallIdeal.Gen.dats m 0 c).arrAt 7 KernelAdamSmallIdeal.cfg0.N, ?_, ?_⟩
  · exact KernelAdamSmallIdeal.Value.run_blocks (F := Ideal) m g
  · refine (θ_run _ _ _).mono (fun r h c => ?_) (ReferenceAdamSmallIdeal.Value.run (F := Ideal) m' g')
    obtain ⟨a0, a1, a2, a3⟩ := hagree c
    obtain ⟨h0, h1, h2, h3, rest⟩ := h c
    refine ⟨h0.trans ?_, h1.trans ?_, h2.trans ?_, h3.trans ?_, rest⟩
    · rw [a3]
      exact (eq_unc3 _ _ (resg_apply _)).trans (arr4 m c).symm
    · rw [a0, a1, a2, a3]
      exact (eq_unc3 _ _ (resd_apply _ _ _ _)).trans (arr5 m c).symm
    · rw [a1, a3]
      exact (eq_unc3 _ _ (resm_apply _ _)).trans (arr6 m c).symm
    · rw [a2, a3]
      exact (eq_unc3 _ _ (resv_apply _ _)).trans (arr7 m c).symm

theorem reference_frame : quiescent_ReferenceAdamSmallIdeal (hReferenceAdamSmallIdeal := ReferenceAdamSmallIdeal.Gen.facts) := fun m g _ =>
  (θ_run _ _ _).mono (fun r h => ⟨fun c => (h c).2.2.2.2, sem_eq_zero_of_no_sems rfl r.2⟩) (ReferenceAdamSmallIdeal.Value.run (F := Ideal) m g)

theorem kernel_frame : quiescent_KernelAdamSmall (hKernelAdamSmall := KernelAdamSmall.Gen.facts) := fun m g _ => KernelAdamSmall.Gen.frame m g

theorem ideal_frame : quiescent_KernelAdamSmallIdeal (hKernelAdamSmallIdeal := KernelAdamSmallIdeal.Gen.facts) := fun m g _ => KernelAdamSmallIdeal.Gen.frame m g

end Cert.Ffn.AdamSmall

end
-- ==== Proof.Loss.lean ====
/- The loss head: the loss and its gradients after the launch and in the reference, by element. -/
module

public import proofs.«01_k».proof.Proof.Gen.KernelLossIdeal.Value
public import proofs.«01_k».proof.Proof.Gen.KernelLoss
public import proofs.«01_k».proof.Proof.Gen.KernelLoss.Frame
public import proofs.«01_k».proof.Proof.Gen.ReferenceLossIdeal.Run
public import proofs.«01_k».proof.Proof.Common
public import proofs.«01_k».proof.Proof.Dx
public import Idealize.ShloMosaic.Lib.Pipeline.ReadBack
public import proofs.«01_k».proof.Defs

@[expose] public section

set_option maxRecDepth 16384

noncomputable section

namespace Cert.Ffn.Loss

open Cert.Attn
open Cert.Ffn.Dx (ms rs sc)
open Idealize.ShloMosaic Idealize.ShloMosaic.TcCoe Idealize.ShloMosaic.Tactic Idealize.SL.Sem

/-- The normed row less the target. -/
def err (x t g : Fin 1024 → EReal) (j : Fin 1024) : EReal := x j * rs x * g j - t j

/-- The gradient of the normed row. -/
def ec (x t g : Fin 1024 → EReal) (j : Fin 1024) : EReal := err x t g j * Ideal.ofBits .f32 0x3A800000#32

/-- A row's mean of squares. -/
def rowl (x t g : Fin 1024 → EReal) : EReal := Ideal.div (∑ j, err x t g j * err x t g j) (Ideal.ofBits .f32 0x44800000#32)

/-- The gradient of the row. -/
def drow (x t g : Fin 1024 → EReal) (j : Fin 1024) : EReal :=
  ec x t g j * g j * rs x + x j * sc x g (ec x t g) + sc x g (ec x t g) * x j

def dx (x t : Fin 2048 → Fin 1024 → EReal) (g : Fin 1 → Fin 1024 → EReal) (i : Fin 2048) (j : Fin 1024) : EReal := drow (x i) (t i) (g 0) j

/-- A row's part of the gradient of the norm's weight. -/
def drg (x t g : Fin 1024 → EReal) (j : Fin 1024) : EReal := x j * rs x * ec x t g j

def dg (x t : Fin 2048 → Fin 1024 → EReal) (g : Fin 1 → Fin 1024 → EReal) (_ : Fin 1) (j : Fin 1024) : EReal := ∑ i, drg (x i) (t i) (g 0) j

def loss (x t : Fin 2048 → Fin 1024 → EReal) (g : Fin 1 → Fin 1024 → EReal) (_ : Fin 1) (_ : Fin 128) : EReal :=
  Ideal.ofBits .f32 0x3F000000#32 * ∑ i, rowl (x i) (t i) (g 0)

/-- One half of twice a number over 1024 is the number times the inverse. -/
theorem mean_grad (e : EReal) : Ideal.div (Ideal.ofBits .f32 0x3F000000#32) (Ideal.ofBits .f32 0x44800000#32)
    * (Ideal.ofBits .f32 0x40000000#32 * e) = e * Ideal.ofBits .f32 0x3A800000#32 := by
  have h2 : Ideal.ofBits .f32 0x40000000#32 = ((2 : ℝ) : EReal) := by
    simp [Ideal.ofBits, Ideal.ieee, -EReal.coe_mul]
    norm_num
  have h3 : Ideal.ofBits .f32 0x44800000#32 = ((1024 : ℝ) : EReal) := by
    simp [Ideal.ofBits, Ideal.ieee, -EReal.coe_mul]
    norm_num
  have h4 : Ideal.ofBits .f32 0x3A800000#32 = ((1 / 1024 : ℝ) : EReal) := by
    simp [Ideal.ofBits, Ideal.ieee, -EReal.coe_mul]
    norm_num
  rw [half_real, h2, h3, h4, Ideal.div_coe (by norm_num), ← mul_assoc, ← EReal.coe_mul, ← EReal.coe_mul, mul_comm e]
  norm_num

section kernel

open KernelLossIdeal KernelLossIdeal.Gen
open Idealize.ShloMosaic.Pipeline (Dat Cfg Window BodyObligation cellOf)

variable (x t : Vec Ideal S256x1024 .f32) (g : Vec Ideal S1x1024 .f32)

theorem pay4_apply (r : Fin 256) (z : Fin 1) : k0_pay4 x (ix2 r z) = ms (fun k => x (ix2 r k)) := by
  pointwise [k0_pay4]
  rfl

theorem pay5_apply (r : Fin 256) (z : Fin 1) : k0_pay5 x (ix2 r z) = rs (fun k => x (ix2 r k)) := by
  pointwise [k0_pay5]
  rw [pay4_apply]
  rfl

theorem pay6_apply (r : Fin 256) (j : Fin 1024) : k0_pay6 x (ix2 r j) = x (ix2 r j) * rs (fun k => x (ix2 r k)) := by
  pointwise [k0_pay6]
  rw [pay5_apply]

theorem pay7_apply (r : Fin 256) (j : Fin 1024) : k0_pay7 x t g (ix2 r j) = err (fun k => x (ix2 r k)) (fun k => t (ix2 r k)) (fun k => g (ix2 0 k)) j := by
  pointwise [k0_pay7]
  rw [pay6_apply]
  rfl

theorem pay8_apply (r : Fin 256) (j : Fin 1024) : k0_pay8 x t g (ix2 r j) = ec (fun k => x (ix2 r k)) (fun k => t (ix2 r k)) (fun k => g (ix2 0 k)) j := by
  pointwise [k0_pay8]
  rw [pay7_apply]
  rfl

theorem pay9_apply (z : Fin 1) (j : Fin 1024) : k0_pay9 x t g (ix2 z j) = ∑ r : Fin 256, drg (fun k => x (ix2 r k)) (fun k => t (ix2 r k)) (fun k => g (ix2 0 k)) j := by
  pointwise [k0_pay9]
  simp only [pay6_apply, pay8_apply]
  rfl

theorem pay10_apply (r : Fin 256) (j : Fin 1024) : k0_pay10 x t g (ix2 r j) = drow (fun k => x (ix2 r k)) (fun k => t (ix2 r k)) (fun k => g (ix2 0 k)) j := by
  pointwise [k0_pay10]
  simp only [pay4_apply, pay5_apply, pay8_apply]
  simp only [Finset.univ_unique, Finset.sum_singleton]
  rfl

/-- A row block's part of the loss. -/
theorem pay1_apply (z : Fin 1) (l : Fin 128) : k0_pay1 (k0_pay11 x t g) (ix2 z l) =
    Ideal.ofBits .f32 0x3F000000#32 * ∑ r : Fin 256, rowl (fun k => x (ix2 r k)) (fun k => t (ix2 r k)) (fun k => g (ix2 0 k)) := by
  pointwise [k0_pay1, k0_pay11]
  simp only [pay7_apply]
  rfl

theorem pay2_eq (v o : Vec Ideal S1x1024 .f32) : k0_pay2 v o = fun y => o y + v y := by
  refine (eq_unc (k0_pay2 v o) (fun r j => o (ix2 r j) + v (ix2 r j)) fun r j => ?_).trans (eq_unc (fun y => o y + v y) _ fun _ _ => rfl).symm
  pointwise [k0_pay2]

theorem pay3_eq (v : Vec Ideal S256 .f32) (o : Vec Ideal S1x128 .f32) : k0_pay3 v o = fun y => o y + k0_pay1 (F := Ideal) v y := by
  refine (eq_unc (k0_pay3 v o) (fun r j => o (ix2 r j) + k0_pay1 (F := Ideal) v (ix2 r j)) fun r j => ?_).trans (eq_unc (fun y => o y + k0_pay1 (F := Ideal) v y) _ fun _ _ => rfl).symm
  pointwise [k0_pay3]

variable (m : (ℓ : Loc nD τ sig) → Buf (Elt Ideal) ℓ) (c : Dev nD)

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![0, 0] := by decide +kernel
theorem index_3 : ∀ t : Fin cfg0.N, win0_3.index t = ![t.val, 0] := by decide +kernel
theorem index_4 : ∀ t : Fin cfg0.N, win0_4.index t = ![0, 0] := by decide +kernel
theorem index_5 : ∀ t : Fin cfg0.N, win0_5.index t = ![0, 0] := by decide +kernel

/-- The blocks of a point. -/
def b0 (t : Fin cfg0.N) : Vec Ideal S256x1024 .f32 := iblk m c 0 t
def b1 (t : Fin cfg0.N) : Vec Ideal S256x1024 .f32 := iblk m c 1 t
def b2 (t : Fin cfg0.N) : Vec Ideal S1x1024 .f32 := iblk m c 2 t

theorem b0_apply (t : Fin cfg0.N) (r : Fin 256) (j : Fin 1024) (i : Fin 2048) (hi : i.val = t.val * 256 + r.val) :
    b0 m c t (ix2 r j) = cur (m ((c.tc : Thread nD τ).loc main_arg0)) i j := by
  have e := index_0 t
  unfold cur b0
  blk_simp [iblk]
  refine congrArg (m ((c.tc : Thread nD τ).loc main_arg0)) ?_
  blk_ext [e, hi]

theorem b1_apply (t : Fin cfg0.N) (r : Fin 256) (j : Fin 1024) (i : Fin 2048) (hi : i.val = t.val * 256 + r.val) :
    b1 m c t (ix2 r j) = cur (m ((c.tc : Thread nD τ).loc main_arg1)) i j := by
  have e := index_1 t
  unfold cur b1
  blk_simp [iblk]
  refine congrArg (m ((c.tc : Thread nD τ).loc main_arg1)) ?_
  blk_ext [e, hi]

theorem b2_apply (t : Fin cfg0.N) (j : Fin 1024) : b2 m c t (ix2 0 j) = cur (m ((c.tc : Thread nD τ).loc main_arg2)) 0 j := by
  have e := index_2 t
  unfold cur b2
  blk_simp [iblk]
  refine congrArg (m ((c.tc : Thread nD τ).loc main_arg2)) ?_
  blk_ext [e]

/-- The arguments. -/
abbrev rX := (cur (m ((c.tc : Thread nD τ).loc main_arg0)))
abbrev rT := (cur (m ((c.tc : Thread nD τ).loc main_arg1)))
abbrev rG := (cur (m ((c.tc : Thread nD τ).loc main_arg2)))

/-- A fact about a row of a point's blocks is one about a row of the arrays. -/
theorem row_eq {α : Type} (f : (Fin 1024 → EReal) → (Fin 1024 → EReal) → (Fin 1024 → EReal) → α) (t : Fin cfg0.N) (r : Fin 256) (i : Fin 2048) (hi : i.val = t.val * 256 + r.val) :
    f (fun k => b0 m c t (ix2 r k)) (fun k => b1 m c t (ix2 r k)) (fun k => b2 m c t (ix2 0 k)) = f (rX m c i) ((rT m c) i) ((rG m c) 0) :=
  congr (congr (congrArg f (funext fun k => b0_apply m c t r k i hi)) (funext fun k => b1_apply m c t r k i hi)) (funext fun k => b2_apply m c t k)

/-- A point's parts of the two sums. -/
def partg (t : Fin cfg0.N) : S1x1024.Idx → EReal := k0_pay9 (b0 m c t) (b1 m c t) (b2 m c t)
def partl (t : Fin cfg0.N) : S1x128.Idx → EReal := k0_pay1 (k0_pay11 (b0 m c t) (b1 m c t) (b2 m c t))

theorem outs_first (t : Fin cfg0.N) (h : t.val % 8 = 0) :
    outsAt0 m c t.val t.isLt = (k0_pay10 (b0 m c t) (b1 m c t) (b2 m c t), partg m c t, partl m c t) := by
  have hN : t.val < 8 := lt_of_lt_of_eq t.isLt N_0
  rw [outsAt0_A m c t h (by omega) h (by omega)]
  refine Prod.ext ?_ (Prod.ext ?_ ?_)
  all_goals
    frame_out
    rfl

theorem outs_next (t : Fin cfg0.N) (h : ¬t.val % 8 = 0) :
    outsAt0 m c t.val t.isLt = (k0_pay10 (b0 m c t) (b1 m c t) (b2 m c t),
      fun y => (outsAt0 m c (t.val - 1) (Nat.lt_of_le_of_lt (Nat.sub_le _ _) t.isLt)).2.1 y + partg m c t y,
      fun y => (outsAt0 m c (t.val - 1) (Nat.lt_of_le_of_lt (Nat.sub_le _ _) t.isLt)).2.2 y + partl m c t y) := by
  rw [outsAt0_B m c t h (by omega) h (by omega)]
  refine Prod.ext ?_ (Prod.ext ?_ ?_)
  · frame_out
    rfl
  · frame_out
    exact pay2_eq _ _
  · frame_out
    exact pay3_eq _ _

theorem out3 (t : Fin cfg0.N) : (outsAt0 m c t.val t.isLt).1 = k0_pay10 (b0 m c t) (b1 m c t) (b2 m c t) := by
  by_cases h : t.val % 8 = 0
  · rw [outs_first m c t h]
  · rw [outs_next m c t h]

/-- At the last point the two sums are over all rows. -/
theorem out4 (t : Fin cfg0.N) (h : t.val % 8 = 7) (z : Fin 1) (j : Fin 1024) : (outsAt0 m c t.val t.isLt).2.1 (ix2 z j) = dg (rX m c) (rT m c) (rG m c) z j := by
  have hN : t.val < 8 := lt_of_lt_of_eq t.isLt N_0
  refine (Pipeline.eq_sum_fin_of_reset_step_apply_of_flush (fun n h => (outsAt0 m c n h).2.1) 8 (fun _ => (0 : EReal)) (partg m c)
    (fun t h y => (congrFun (congrArg (fun p => p.2.1) (outs_first m c t h)) y).trans (zero_add _).symm)
    (fun t h y => congrFun (congrArg (fun p => p.2.1) (outs_next m c t h)) y) t h (ix2 z j)).trans ?_
  rw [zero_add]
  simp only [partg, pay9_apply]
  unfold dg
  refine Fin.sum_mul_add_congr fun s k hl => ?_
  have hs := s.isLt
  exact row_eq m c (fun x t g => drg x t g j) _ k _ (by simp; omega)

theorem out5 (t : Fin cfg0.N) (h : t.val % 8 = 7) (z : Fin 1) (l : Fin 128) : (outsAt0 m c t.val t.isLt).2.2 (ix2 z l) = loss (rX m c) (rT m c) (rG m c) z l := by
  have hN : t.val < 8 := lt_of_lt_of_eq t.isLt N_0
  refine (Pipeline.eq_sum_fin_of_reset_step_apply_of_flush (fun n h => (outsAt0 m c n h).2.2) 8 (fun _ => (0 : EReal)) (partl m c)
    (fun t h y => (congrFun (congrArg (fun p => p.2.2) (outs_first m c t h)) y).trans (zero_add _).symm)
    (fun t h y => congrFun (congrArg (fun p => p.2.2) (outs_next m c t h)) y) t h (ix2 z l)).trans ?_
  rw [zero_add]
  simp only [partl, pay1_apply]
  rw [← half_mul_sum]
  unfold loss
  refine congrArg (Ideal.ofBits .f32 0x3F000000#32 * ·) (Fin.sum_mul_add_congr fun s k hl => ?_)
  have hs := s.isLt
  exact row_eq m c rowl _ k _ (by simp; omega)

/-- The arrays after the launch. -/
theorem arr3 : (dats m 0 c).arrAt 3 cfg0.N = unc (dx (rX m c) (rT m c) (rG m c)) := by
  have e := index_3
  refine (dats m 0 c).arrAt_eq_of_covers 3 _ (by decide +kernel) fun t hf y => ?_
  have hi : ((win0_3.blk t).view.emb y 0).val = t.val * 256 + (y 0).val := by blk_simp [e]
  have hj : y 1 = (win0_3.blk t).view.emb y 1 := Fin.ext (by blk_simp [e])
  blk_simp [iblk]
  rw [after0_3, out3]
  refine (congrFun (eq_unc _ _ (pay10_apply _ _ _)) _).trans ?_
  unfold unc dx
  rw [← hj]
  exact row_eq m c (fun x t g => drow x t g (y 1)) t (y 0) _ hi

theorem arr4 : (dats m 0 c).arrAt 4 cfg0.N = unc (dg (rX m c) (rT m c) (rG m c)) := by
  have e := index_4
  refine (dats m 0 c).arrAt_eq_of_covers 4 _ (by decide +kernel) fun t hf y => ?_
  have hj : y 1 = (win0_4.blk t).view.emb y 1 := Fin.ext (by blk_simp [e])
  blk_simp [iblk]
  rw [after0_4]
  refine (congrFun (eq_unc _ _ (out4 m c t ((flush0_4 t).mp hf))) _).trans ?_
  unfold unc dg
  rw [← hj]

theorem arr5 : (dats m 0 c).arrAt 5 cfg0.N = unc (loss (rX m c) (rT m c) (rG m c)) := by
  refine (dats m 0 c).arrAt_eq_of_covers 5 _ (by decide +kernel) fun t hf y => ?_
  blk_simp [iblk]
  rw [after0_5]
  exact congrFun (eq_unc _ _ (out5 m c t ((flush0_5 t).mp hf))) _

end kernel

section reference
open ReferenceLossIdeal ReferenceLossIdeal.Gen
variable (X T : FVec Ideal S2048x1024 .f32) (G : FVec Ideal S1x1024 .f32)

def msq : FVec Ideal S2048x1 .f32 :=
  addf (Host.divf (broadcastInDim S2048x1 ![0] bcast_S2048_S2048x1_0 (Host.reduceAdd (mulf X X) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

def nrm : FVec Ideal S2048x1024 .f32 := mulf X (broadcastInDim S2048x1024 ![0, 1] bcast_S2048x1_S2048x1024_0_1 (Host.rsqrt (msq X)))

def dif : FVec Ideal S2048x1024 .f32 := subf (mulf (nrm X) (broadcastInDim S2048x1024 ![0, 1] bcast_S1x1024_S2048x1024_0_1 G)) T

def cot : FVec Ideal S2048x1024 .f32 :=
  mulf (broadcastInDim S2048x1024 ![0] bcast_S2048_S2048x1024_0 (Host.divf (broadcastInDim S2048 ![] bcast_S_S2048 (mulf (constant S_ .f32 0x3F000000#32) (constant S_ .f32 0x3F800000#32))) (broadcastInDim S2048 ![] bcast_S_S2048 (constant S_ .f32 0x44800000#32)))) (mulf (broadcastInDim S2048x1024 ![] bcast_S_S2048x1024 (constant S_ .f32 0x40000000#32)) (dif X T G))

def scr : FVec Ideal S2048 .f32 :=
  Host.reduceAdd (Host.divf (mulf (shapeCast _ (Host.reduceAdd (mulf X (mulf (cot X T G) (broadcastInDim S2048x1024 ![0, 1] bcast_S1x1024_S2048x1024_0_1 G))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (msq X)) (msq X)))) (broadcastInDim S2048x1 ![] bcast_S_S2048x1 (constant S_ .f32 0x44800000#32))) (constant S_ .f32 0x00000000#32) reducesTo_S2048x1_S2048_d1 h_S_

def resx : FVec Ideal S2048x1024 .f32 :=
  addf (addf (mulf (mulf (cot X T G) (broadcastInDim S2048x1024 ![0, 1] bcast_S1x1024_S2048x1024_0_1 G)) (broadcastInDim S2048x1024 ![0, 1] bcast_S2048x1_S2048x1024_0_1 (Host.rsqrt (msq X)))) (mulf X (broadcastInDim S2048x1024 ![0] bcast_S2048_S2048x1024_0 (scr X T G)))) (mulf (broadcastInDim S2048x1024 ![0] bcast_S2048_S2048x1024_0 (scr X T G)) X)

def resg : FVec Ideal S1x1024 .f32 :=
  shapeCast _ (Host.reduceAdd (mulf (nrm X) (cot X T G)) (constant S_ .f32 0x00000000#32) reducesTo_S2048x1024_S1024_d0 h_S_) shapeCasts_S1024_S1x1024

def resl : FVec Ideal S1x128 .f32 :=
  broadcastInDim S1x128 ![] bcast_S_S1x128 (mulf (constant S_ .f32 0x3F000000#32) (Host.reduceAdd (Host.divf (Host.reduceAdd (mulf (dif X T G) (dif X T G)) (constant S_ .f32 0x00000000#32) reducesTo_S2048x1024_S2048_d1 h_S_) (broadcastInDim S2048 ![] bcast_S_S2048 (constant S_ .f32 0x44800000#32))) (constant S_ .f32 0x00000000#32) reducesTo_S2048_S_d0 h_S_))

theorem msq_apply (i : Fin 2048) (z : Fin 1) : msq X (ix2 i z) = ms (cur X i) := by
  pointwise [msq]
  rfl

theorem nrm_apply (i : Fin 2048) (j : Fin 1024) : nrm X (ix2 i j) = cur X i j * rs (cur X i) := by
  pointwise [nrm]
  rw [msq_apply]
  rfl

theorem dif_apply (i : Fin 2048) (j : Fin 1024) : dif X T G (ix2 i j) = err (cur X i) (cur T i) (cur G 0) j := by
  pointwise [dif]
  rw [nrm_apply]
  rfl

theorem cot_apply (i : Fin 2048) (j : Fin 1024) : cot X T G (ix2 i j) = ec (cur X i) (cur T i) (cur G 0) j := by
  pointwise [cot]
  rw [dif_apply]
  exact mean_grad _

theorem scr_apply (i : Fin 2048) : scr X T G (ix1 i) = sc (cur X i) (cur G 0) (ec (cur X i) (cur T i) (cur G 0)) := by
  pointwise [scr]
  simp only [msq_apply, cot_apply]
  simp only [Finset.univ_unique, Finset.sum_singleton]
  rfl

theorem resx_apply (i : Fin 2048) (j : Fin 1024) : resx X T G (ix2 i j) = dx (cur X) (cur T) (cur G) i j := by
  pointwise [resx]
  simp only [msq_apply, cot_apply, scr_apply]
  rfl

theorem resg_apply (z : Fin 1) (j : Fin 1024) : resg X T G (ix2 z j) = dg (cur X) (cur T) (cur G) z j := by
  pointwise [resg]
  simp only [nrm_apply, cot_apply]
  rfl

theorem resl_apply (z : Fin 1) (l : Fin 128) : resl X T G (ix2 z l) = loss (cur X) (cur T) (cur G) z l := by
  pointwise [resl]
  simp only [dif_apply]
  rfl

end reference

/-! ## The claims -/

theorem values : algebraic_KernelLossIdeal_ReferenceLossIdeal (hKernelLossIdeal := KernelLossIdeal.Gen.facts)
    (hReferenceLossIdeal := ReferenceLossIdeal.Gen.facts) := by
  intro m g m' g' _ hagree
  refine ⟨fun c => unc (loss (rX m c) (rT m c) (rG m c)), fun c => unc (dx (rX m c) (rT m c) (rG m c)), fun c => unc (dg (rX m c) (rT m c) (rG m c)), ?_, ?_⟩
  · refine (θ_run _ _ _).mono (fun r h c => ?_) (KernelLossIdeal.Value.run_blocks (F := Ideal) m g)
    obtain ⟨h0, h1, h2, rest⟩ := h c
    exact ⟨h2.trans (arr5 m c), h0.trans (arr3 m c), h1.trans (arr4 m c), rest⟩
  · refine (θ_run _ _ _).mono (fun r h c => ?_) (ReferenceLossIdeal.Value.run (F := Ideal) m' g')
    obtain ⟨a0, a1, a2⟩ := hagree c
    obtain ⟨h0, h1, h2, rest⟩ := h c
    refine ⟨h0.trans ?_, h1.trans ?_, h2.trans ?_, rest⟩
    · rw [a0, a1, a2]
      exact eq_unc _ _ (resl_apply _ _ _)
    · unfold ReferenceLossIdeal.Value.res_main_v48
      rw [a0, a1, a2]
      exact eq_unc _ _ (resx_apply _ _ _)
    · rw [a0, a1, a2]
      exact eq_unc _ _ (resg_apply _ _ _)

theorem reference_frame : quiescent_ReferenceLossIdeal (hReferenceLossIdeal := ReferenceLossIdeal.Gen.facts) := fun m g _ =>
  (θ_run _ _ _).mono (fun r h => ⟨fun c => (h c).2.2.2, sem_eq_zero_of_no_sems rfl r.2⟩) (ReferenceLossIdeal.Value.run (F := Ideal) m g)

theorem kernel_frame : quiescent_KernelLoss (hKernelLoss := KernelLoss.Gen.facts) := fun m g _ => KernelLoss.Gen.frame m g

theorem ideal_frame : quiescent_KernelLossIdeal (hKernelLossIdeal := KernelLossIdeal.Gen.facts) := fun m g _ => KernelLossIdeal.Gen.frame m g

end Cert.Ffn.Loss

end
-- ==== Proof.Norm.lean ====
/- The norm of the rows: the array after the launch and the reference, by element. -/
module

public import proofs.«01_k».proof.Proof.Gen.KernelNormIdeal.Value
public import proofs.«01_k».proof.Proof.Gen.KernelNorm
public import proofs.«01_k».proof.Proof.Gen.KernelNorm.Frame
public import proofs.«01_k».proof.Proof.Gen.ReferenceNormIdeal.Run
public import proofs.«01_k».proof.Proof.Common
public import proofs.«01_k».proof.Proof.Dx
public import proofs.«01_k».proof.Defs

@[expose] public section

set_option maxRecDepth 16384

noncomputable section

namespace Cert.Ffn.Norm

open Cert.Attn
open Cert.Ffn.Dx (rs)
open Idealize.ShloMosaic Idealize.ShloMosaic.TcCoe Idealize.ShloMosaic.Tactic Idealize.SL.Sem

/-- The normed rows. -/
def row (x g : Fin 1024 → EReal) (j : Fin 1024) : EReal := x j * rs x * g j
def val (x : Fin 2048 → Fin 1024 → EReal) (g : Fin 1 → Fin 1024 → EReal) (i : Fin 2048) (j : Fin 1024) : EReal := row (x i) (g 0) j

section kernel

open KernelNormIdeal KernelNormIdeal.Gen

theorem out_eq (x : Vec Ideal S256x1024 .f32) (g : Vec Ideal S1x1024 .f32) : out0_2 x g = unc (fun i j => row (fun k => x (ix2 i k)) (fun k => g (ix2 0 k)) j) := by
  unfold out0_2
  rw [View.canon_unit_zero hz, View.ld_unit_zero hz, View.ld_unit_zero hz]
  refine eq_unc _ _ fun i j => ?_
  pointwise [k0_pay1]
  rfl

variable (m : (ℓ : Loc nD τ sig) → Buf (Elt Ideal) ℓ) (c : Dev nD)

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel

/-- The blocks of a point, and their elements in the arrays. -/
def b0 (t : Fin cfg0.N) : Vec Ideal S256x1024 .f32 := iblk m c 0 t
def b1 (t : Fin cfg0.N) : Vec Ideal S1x1024 .f32 := iblk m c 1 t

theorem b0_apply (t : Fin cfg0.N) (r : Fin 256) (j : Fin 1024) (i : Fin 2048) (hi : i.val = t.val * 256 + r.val) : b0 m c t (ix2 r j) = cur (m ((c.tc : Thread nD τ).loc main_arg0)) i j := by
  have e := index_0 t
  unfold cur b0
  blk_simp [iblk]
  refine congrArg (m ((c.tc : Thread nD τ).loc main_arg0)) ?_
  blk_ext [e, hi]

theorem b1_apply (t : Fin cfg0.N) (j : Fin 1024) : b1 m c t (ix2 0 j) = cur (m ((c.tc : Thread nD τ).loc main_arg1)) 0 j := by
  have e := index_1 t
  unfold cur b1
  blk_simp [iblk]
  refine congrArg (m ((c.tc : Thread nD τ).loc main_arg1)) ?_
  blk_ext [e]

/-- The array after the launch. -/
theorem arr : (dats m 0 c).arrAt 2 cfg0.N = unc (val (cur (m ((c.tc : Thread nD τ).loc main_arg0))) (cur (m ((c.tc : Thread nD τ).loc main_arg1)))) := by
  have e := index_2
  refine (dats m 0 c).arrAt_eq_of_covers 2 _ (by decide +kernel) fun t hf y => ?_
  have hi : ((win0_2.blk t).view.emb y 0).val = t.val * 256 + (y 0).val := by blk_simp [e]
  have hj : y 1 = (win0_2.blk t).view.emb y 1 := Fin.ext (by blk_simp [e])
  blk_simp [iblk]
  rw [after0_2]
  refine (congrFun (out_eq (b0 m c t) (b1 m c t)) _).trans ?_
  unfold unc val
  rw [← hj]
  exact congrFun (congr (congrArg row (funext fun k => b0_apply m c t (y 0) k _ hi)) (funext fun k => b1_apply m c t k)) (y 1)

end kernel

section reference
open ReferenceNormIdeal ReferenceNormIdeal.Gen
variable (X : FVec Ideal S2048x1024 .f32) (G : FVec Ideal S1x1024 .f32)

def res : FVec Ideal S2048x1024 .bf16 :=
  truncf .bf16 (mulf (mulf X (broadcastInDim S2048x1024 ![0, 1] bcast_S2048x1_S2048x1024_0_1 (Host.rsqrt (addf (Host.divf (broadcastInDim S2048x1 ![0] bcast_S2048_S2048x1_0 (Host.reduceAdd (mulf X X) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 G)) bitsLt_bf16_f32

theorem res_apply (i : Fin 2048) (j : Fin 1024) : res X G (ix2 i j) = val (cur X) (cur G) i j := by
  pointwise [res]
  rfl

end reference

/-! ## The claims -/

open KernelNormIdeal in
theorem values : algebraic_KernelNormIdeal_ReferenceNormIdeal (hKernelNormIdeal := KernelNormIdeal.Gen.facts)
    (hReferenceNormIdeal := ReferenceNormIdeal.Gen.facts) := by
  intro m g m' g' _ hagree
  refine ⟨fun c => unc (val (cur (m ((c.tc : Thread nD τ).loc main_arg0))) (cur (m ((c.tc : Thread nD τ).loc main_arg1)))), ?_, ?_⟩
  · refine (θ_run _ _ _).mono (fun r h c => ?_) (KernelNormIdeal.Value.run_blocks (F := Ideal) m g)
    obtain ⟨h0, rest⟩ := h c
    exact ⟨h0.trans (arr m c), rest⟩
  · refine (θ_run _ _ _).mono (fun r h c => ?_) (ReferenceNormIdeal.Value.run (F := Ideal) m' g')
    obtain ⟨a0, a1⟩ := hagree c
    obtain ⟨h0, rest⟩ := h c
    refine ⟨h0.trans ?_, rest⟩
    · rw [a0, a1]
      exact eq_unc _ _ (res_apply _ _)

theorem reference_frame : quiescent_ReferenceNormIdeal (hReferenceNormIdeal := ReferenceNormIdeal.Gen.facts) := fun m g _ =>
  (θ_run _ _ _).mono (fun r h => ⟨fun c => (h c).2, sem_eq_zero_of_no_sems rfl r.2⟩) (ReferenceNormIdeal.Value.run (F := Ideal) m g)

theorem kernel_frame : quiescent_KernelNorm (hKernelNorm := KernelNorm.Gen.facts) := fun m g _ => KernelNorm.Gen.frame m g

theorem ideal_frame : quiescent_KernelNormIdeal (hKernelNormIdeal := KernelNormIdeal.Gen.facts) := fun m g _ => KernelNormIdeal.Gen.frame m g

end Cert.Ffn.Norm

end
-- ==== Proof.Dnorm.lean ====
/- The norm's backward in the mixer: the arrays after the launch and the reference, by element. -/
module

public import proofs.«01_k».proof.Proof.Gen.KernelDnormIdeal.Value
public import proofs.«01_k».proof.Proof.Gen.KernelDnorm
public import proofs.«01_k».proof.Proof.Gen.KernelDnorm.Frame
public import proofs.«01_k».proof.Proof.Gen.ReferenceDnormIdeal.Run
public import proofs.«01_k».proof.Proof.Common
public import proofs.«01_k».proof.Proof.Dx
public import Idealize.ShloMosaic.Lib.Pipeline.ReadBack
public import proofs.«01_k».proof.Defs

@[expose] public section

set_option maxRecDepth 16384

noncomputable section

namespace Cert.Ffn.Dnorm

open Cert.Attn
open Cert.Ffn.Dx (ms rs sc drow)
open Idealize.ShloMosaic Idealize.ShloMosaic.TcCoe Idealize.ShloMosaic.Tactic Idealize.SL.Sem

/-- The gradient of the rows, with the residual's. -/
def dx (x d r : Fin 2048 → Fin 1024 → EReal) (g : Fin 1 → Fin 1024 → EReal) (i : Fin 2048) (j : Fin 1024) : EReal := drow (x i) (g 0) (d i) (r i) j

/-- A row's part of the gradient of the norm's weight, and the gradient. -/
def drg (x d : Fin 1024 → EReal) (j : Fin 1024) : EReal := x j * rs x * d j
def dg (x d : Fin 2048 → Fin 1024 → EReal) (_ : Fin 1) (j : Fin 1024) : EReal := ∑ i, drg (x i) (d i) j

section kernel

open KernelDnormIdeal KernelDnormIdeal.Gen

variable (x d r : Vec Ideal S256x1024 .f32) (g : Vec Ideal S1x1024 .f32)

theorem pay2_apply (i : Fin 256) (z : Fin 1) : k0_pay2 x (ix2 i z) = ms (fun k => x (ix2 i k)) := by
  pointwise [k0_pay2]
  rfl

theorem pay3_apply (i : Fin 256) (z : Fin 1) : k0_pay3 x (ix2 i z) = rs (fun k => x (ix2 i k)) := by
  pointwise [k0_pay3]
  rw [pay2_apply]
  rfl

theorem pay4_apply (z : Fin 1) (j : Fin 1024) : k0_pay4 x d (ix2 z j) = ∑ i : Fin 256, drg (fun k => x (ix2 i k)) (fun k => d (ix2 i k)) j := by
  pointwise [k0_pay4]
  simp only [pay3_apply]
  rfl

theorem pay5_apply (i : Fin 256) (j : Fin 1024) : k0_pay5 x d r g (ix2 i j) =
    drow (fun k => x (ix2 i k)) (fun k => g (ix2 0 k)) (fun k => d (ix2 i k)) (fun k => r (ix2 i k)) j := by
  pointwise [k0_pay5]
  simp only [pay2_apply, pay3_apply]
  simp only [Finset.univ_unique, Finset.sum_singleton]
  rfl

theorem pay1_eq (v o : Vec Ideal S1x1024 .f32) : k0_pay1 v o = fun y => o y + v y := by
  refine (eq_unc (k0_pay1 v o) (fun r j => o (ix2 r j) + v (ix2 r j)) fun r j => ?_).trans (eq_unc (fun y => o y + v y) _ fun _ _ => rfl).symm
  pointwise [k0_pay1]

variable (m : (ℓ : Loc nD τ sig) → Buf (Elt Ideal) ℓ) (c : Dev nD)

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 0] := by decide +kernel
theorem index_3 : ∀ t : Fin cfg0.N, win0_3.index t = ![0, 0] := by decide +kernel
theorem index_4 : ∀ t : Fin cfg0.N, win0_4.index t = ![t.val, 0] := by decide +kernel
theorem index_5 : ∀ t : Fin cfg0.N, win0_5.index t = ![0, 0] := by decide +kernel

/-- The blocks of a point, and their elements in the arrays. -/
def b0 (t : Fin cfg0.N) : Vec Ideal S256x1024 .f32 := iblk m c 0 t
def b1 (t : Fin cfg0.N) : Vec Ideal S256x1024 .f32 := iblk m c 1 t
def b2 (t : Fin cfg0.N) : Vec Ideal S256x1024 .f32 := iblk m c 2 t
def b3 (t : Fin cfg0.N) : Vec Ideal S1x1024 .f32 := iblk m c 3 t

theorem b0_apply (t : Fin cfg0.N) (r : Fin 256) (j : Fin 1024) (i : Fin 2048) (hi : i.val = t.val * 256 + r.val) : b0 m c t (ix2 r j) = cur (m ((c.tc : Thread nD τ).loc main_arg0)) i j := by
  have e := index_0 t
  unfold cur b0
  blk_simp [iblk]
  refine congrArg (m ((c.tc : Thread nD τ).loc main_arg0)) ?_
  blk_ext [e, hi]

theorem b1_apply (t : Fin cfg0.N) (r : Fin 256) (j : Fin 1024) (i : Fin 2048) (hi : i.val = t.val * 256 + r.val) : b1 m c t (ix2 r j) = cur (m ((c.tc : Thread nD τ).loc main_arg1)) i j := by
  have e := index_1 t
  unfold cur b1
  blk_simp [iblk]
  refine congrArg (m ((c.tc : Thread nD τ).loc main_arg1)) ?_
  blk_ext [e, hi]

theorem b2_apply (t : Fin cfg0.N) (r : Fin 256) (j : Fin 1024) (i : Fin 2048) (hi : i.val = t.val * 256 + r.val) : b2 m c t (ix2 r j) = cur (m ((c.tc : Thread nD τ).loc main_arg2)) i j := by
  have e := index_2 t
  unfold cur b2
  blk_simp [iblk]
  refine congrArg (m ((c.tc : Thread nD τ).loc main_arg2)) ?_
  blk_ext [e, hi]

theorem b3_apply (t : Fin cfg0.N) (j : Fin 1024) : b3 m c t (ix2 0 j) = cur (m ((c.tc : Thread nD τ).loc main_arg3)) 0 j := by
  have e := index_3 t
  unfold cur b3
  blk_simp [iblk]
  refine congrArg (m ((c.tc : Thread nD τ).loc main_arg3)) ?_
  blk_ext [e]

/-- The arguments. -/
abbrev rX := (cur (m ((c.tc : Thread nD τ).loc main_arg0)))
abbrev rD := (cur (m ((c.tc : Thread nD τ).loc main_arg1)))
abbrev rR := (cur (m ((c.tc : Thread nD τ).loc main_arg2)))
abbrev rG := (cur (m ((c.tc : Thread nD τ).loc main_arg3)))

/-- A point's part of the sum. -/
def partg (t : Fin cfg0.N) : S1x1024.Idx → EReal := k0_pay4 (b0 m c t) (b1 m c t)

theorem outs_first (t : Fin cfg0.N) (h : t.val % 8 = 0) :
    outsAt0 m c t.val t.isLt = (k0_pay5 (b0 m c t) (b1 m c t) (b2 m c t) (b3 m c t), partg m c t) := by
  have hN : t.val < 8 := lt_of_lt_of_eq t.isLt N_0
  rw [outsAt0_A m c t h (by omega)]
  refine Prod.ext ?_ ?_
  all_goals
    frame_out
    rfl

theorem outs_next (t : Fin cfg0.N) (h : ¬t.val % 8 = 0) :
    outsAt0 m c t.val t.isLt = (k0_pay5 (b0 m c t) (b1 m c t) (b2 m c t) (b3 m c t),
      fun y => (outsAt0 m c (t.val - 1) (Nat.lt_of_le_of_lt (Nat.sub_le _ _) t.isLt)).2 y + partg m c t y) := by
  rw [outsAt0_B m c t h (by omega)]
  refine Prod.ext ?_ ?_
  · frame_out
    rfl
  · frame_out
    exact pay1_eq _ _

theorem out4 (t : Fin cfg0.N) : (outsAt0 m c t.val t.isLt).1 = k0_pay5 (b0 m c t) (b1 m c t) (b2 m c t) (b3 m c t) := by
  by_cases h : t.val % 8 = 0
  · rw [outs_first m c t h]
  · rw [outs_next m c t h]

/-- At the last point the sum is over all rows. -/
theorem out5 (t : Fin cfg0.N) (h : t.val % 8 = 7) (z : Fin 1) (j : Fin 1024) : (outsAt0 m c t.val t.isLt).2 (ix2 z j) = dg (rX m c) (rD m c) z j := by
  have hN : t.val < 8 := lt_of_lt_of_eq t.isLt N_0
  refine (Pipeline.eq_sum_fin_of_reset_step_apply_of_flush (fun n h => (outsAt0 m c n h).2) 8 (fun _ => (0 : EReal)) (partg m c)
    (fun t h y => (congrFun (congrArg Prod.snd (outs_first m c t h)) y).trans (zero_add _).symm)
    (fun t h y => congrFun (congrArg Prod.snd (outs_next m c t h)) y) t h (ix2 z j)).trans ?_
  rw [zero_add]
  simp only [partg, pay4_apply]
  unfold dg
  refine Fin.sum_mul_add_congr fun s k hl => ?_
  have hs := s.isLt
  exact congrFun (congr (congrArg drg (funext fun q => b0_apply m c _ k q _ (by simp; omega))) (funext fun q => b1_apply m c _ k q _ (by simp; omega))) j

/-- The arrays after the launch. -/
theorem arr4 : (dats m 0 c).arrAt 4 cfg0.N = unc (dx (rX m c) (rD m c) (rR m c) (rG m c)) := by
  have e := index_4
  refine (dats m 0 c).arrAt_eq_of_covers 4 _ (by decide +kernel) fun t hf y => ?_
  have hi : ((win0_4.blk t).view.emb y 0).val = t.val * 256 + (y 0).val := by blk_simp [e]
  have hj : y 1 = (win0_4.blk t).view.emb y 1 := Fin.ext (by blk_simp [e])
  blk_simp [iblk]
  rw [after0_4, out4]
  refine (congrFun (eq_unc _ _ (pay5_apply _ _ _ _)) _).trans ?_
  unfold unc dx
  rw [← hj]
  exact congrFun (congr (congr (congr (congrArg drow (funext fun k => b0_apply m c t (y 0) k _ hi)) (funext fun k => b3_apply m c t k))
    (funext fun k => b1_apply m c t (y 0) k _ hi)) (funext fun k => b2_apply m c t (y 0) k _ hi)) (y 1)

theorem arr5 : (dats m 0 c).arrAt 5 cfg0.N = unc (dg (rX m c) (rD m c)) := by
  have e := index_5
  refine (dats m 0 c).arrAt_eq_of_covers 5 _ (by decide +kernel) fun t hf y => ?_
  have hj : y 1 = (win0_5.blk t).view.emb y 1 := Fin.ext (by blk_simp [e])
  blk_simp [iblk]
  rw [after0_5]
  refine (congrFun (eq_unc _ _ (out5 m c t ((flush0_5 t).mp hf))) _).trans ?_
  unfold unc dg
  rw [← hj]

end kernel

section reference
open ReferenceDnormIdeal ReferenceDnormIdeal.Gen
variable (X D R : FVec Ideal S2048x1024 .f32) (G : FVec Ideal S1x1024 .f32)

def msq : FVec Ideal S2048x1 .f32 :=
  addf (Host.divf (broadcastInDim S2048x1 ![0] bcast_S2048_S2048x1_0 (Host.reduceAdd (mulf X X) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

def scr : FVec Ideal S2048 .f32 :=
  Host.reduceAdd (Host.divf (mulf (shapeCast _ (Host.reduceAdd (mulf X (mulf D (broadcastInDim S2048x1024 ![0, 1] bcast_S1x1024_S2048x1024_0_1 G))) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (msq X)) (msq X)))) (broadcastInDim S2048x1 ![] bcast_S_S2048x1 (constant S_ .f32 0x44800000#32))) (constant S_ .f32 0x00000000#32) reducesTo_S2048x1_S2048_d1 h_S_

def resx : FVec Ideal S2048x1024 .f32 :=
  addf (addf (addf R (mulf (mulf D (broadcastInDim S2048x1024 ![0, 1] bcast_S1x1024_S2048x1024_0_1 G)) (broadcastInDim S2048x1024 ![0, 1] bcast_S2048x1_S2048x1024_0_1 (Host.rsqrt (msq X))))) (mulf X (broadcastInDim S2048x1024 ![0] bcast_S2048_S2048x1024_0 (scr X D G)))) (mulf (broadcastInDim S2048x1024 ![0] bcast_S2048_S2048x1024_0 (scr X D G)) X)

def resg : FVec Ideal S1x1024 .f32 :=
  shapeCast _ (Host.reduceAdd (mulf (mulf X (broadcastInDim S2048x1024 ![0, 1] bcast_S2048x1_S2048x1024_0_1 (Host.rsqrt (msq X)))) D) (constant S_ .f32 0x00000000#32) reducesTo_S2048x1024_S1024_d0 h_S_) shapeCasts_S1024_S1x1024

theorem msq_apply (i : Fin 2048) (z : Fin 1) : msq X (ix2 i z) = ms (cur X i) := by
  pointwise [msq]
  rfl

theorem scr_apply (i : Fin 2048) : scr X D G (ix1 i) = sc (cur X i) (cur G 0) (cur D i) := by
  pointwise [scr]
  simp only [msq_apply]
  simp only [Finset.univ_unique, Finset.sum_singleton]
  rfl

theorem resx_apply (i : Fin 2048) (j : Fin 1024) : resx X D R G (ix2 i j) = dx (cur X) (cur D) (cur R) (cur G) i j := by
  pointwise [resx]
  simp only [msq_apply, scr_apply]
  show R (ix2 i j) + _ + _ + _ = _ + _ + _ + R (ix2 i j)
  rw [add_comm (R (ix2 i j)), add_right_comm _ (R (ix2 i j)), add_right_comm _ (R (ix2 i j))]
  rfl

theorem resg_apply (z : Fin 1) (j : Fin 1024) : resg X D (ix2 z j) = dg (cur X) (cur D) z j := by
  pointwise [resg]
  simp only [msq_apply]
  rfl

end reference

/-! ## The claims -/

theorem values : algebraic_KernelDnormIdeal_ReferenceDnormIdeal (hKernelDnormIdeal := KernelDnormIdeal.Gen.facts)
    (hReferenceDnormIdeal := ReferenceDnormIdeal.Gen.facts) := by
  intro m g m' g' _ hagree
  refine ⟨fun c => unc (dx (rX m c) (rD m c) (rR m c) (rG m c)), fun c => unc (dg (rX m c) (rD m c)), ?_, ?_⟩
  · refine (θ_run _ _ _).mono (fun r h c => ?_) (KernelDnormIdeal.Value.run_blocks (F := Ideal) m g)
    obtain ⟨h0, h1, rest⟩ := h c
    exact ⟨h0.trans (arr4 m c), h1.trans (arr5 m c), rest⟩
  · refine (θ_run _ _ _).mono (fun r h c => ?_) (ReferenceDnormIdeal.Value.run (F := Ideal) m' g')
    obtain ⟨a0, a1, a2, a3⟩ := hagree c
    obtain ⟨h0, h1, rest⟩ := h c
    refine ⟨h0.trans ?_, h1.trans ?_, rest⟩
    · rw [a0, a1, a2, a3]
      exact eq_unc _ _ (resx_apply _ _ _ _)
    · rw [a0, a1]
      exact eq_unc _ _ (resg_apply _ _)

theorem reference_frame : quiescent_ReferenceDnormIdeal (hReferenceDnormIdeal := ReferenceDnormIdeal.Gen.facts) := fun m g _ =>
  (θ_run _ _ _).mono (fun r h => ⟨fun c => (h c).2.2, sem_eq_zero_of_no_sems rfl r.2⟩) (ReferenceDnormIdeal.Value.run (F := Ideal) m g)

theorem kernel_frame : quiescent_KernelDnorm (hKernelDnorm := KernelDnorm.Gen.facts) := fun m g _ => KernelDnorm.Gen.frame m g

theorem ideal_frame : quiescent_KernelDnormIdeal (hKernelDnormIdeal := KernelDnormIdeal.Gen.facts) := fun m g _ => KernelDnormIdeal.Gen.frame m g

end Cert.Ffn.Dnorm

end
-- ==== Proof.Branch.lean ====
/- The products with lru_w_out and mla_w_o: the array after the launch and the reference, by element. -/
module

public import proofs.«01_k».proof.Proof.Gen.KernelBranchIdeal.Value
public import proofs.«01_k».proof.Proof.Gen.KernelBranch
public import proofs.«01_k».proof.Proof.Gen.KernelBranch.Frame
public import proofs.«01_k».proof.Proof.Gen.ReferenceBranchIdeal.Run
public import proofs.«01_k».proof.Proof.Common
public import proofs.«01_k».proof.Defs

@[expose] public section

set_option maxRecDepth 16384

noncomputable section

namespace Cert.Ffn.Branch

open Cert.Attn
open Idealize.ShloMosaic Idealize.ShloMosaic.TcCoe Idealize.ShloMosaic.Tactic Idealize.SL.Sem

/-- The matrix whose columns lie in four blocks, one a chip. -/
def cols4 (w : Fin 4 → Fin 512 → Fin 256 → EReal) (k : Fin 512) (q : Fin 1024) : EReal :=
  w ⟨q.val / 256, by have := q.isLt; omega⟩ k ⟨q.val % 256, Nat.mod_lt _ (by decide)⟩

/-- The product with that matrix. -/
def val (a : Fin 2048 → Fin 512 → EReal) (w : Fin 4 → Fin 512 → Fin 256 → EReal) (i : Fin 2048) (q : Fin 1024) : EReal := ∑ k, a i k * cols4 w k q

section kernel

open KernelBranchIdeal KernelBranchIdeal.Gen

theorem out_eq (x0 : Vec Ideal S512x512 .bf16) (x1 : Vec Ideal S1x512x256 .bf16) : out0_2 x0 x1 = unc (fun i j => (∑ k : Fin 512, x0 (ix2 i k) * x1 (ix3 0 k j))) := by
  unfold out0_2
  rw [View.canon_unit_zero hz, View.ld_unit_zero hz, View.ld_unit_zero hz3]
  refine eq_unc _ _ fun i j => ?_
  pointwise [k0_pay1]

variable (m : (ℓ : Loc nD τ sig) → Buf (Elt Ideal) ℓ) (c : Dev nD)

theorem index_0 : ∀ t : Fin cfg0.N, win0_0.index t = ![t.val / 4, 0] := by decide +kernel
theorem index_1 : ∀ t : Fin cfg0.N, win0_1.index t = ![t.val % 4, 0, 0] := by decide +kernel
theorem index_2 : ∀ t : Fin cfg0.N, win0_2.index t = ![t.val / 4, t.val % 4] := by decide +kernel

/-- The blocks of a point, and their elements in the arrays. -/
def b0 (t : Fin cfg0.N) : Vec Ideal S512x512 .bf16 := iblk m c 0 t
def b1 (t : Fin cfg0.N) : Vec Ideal S1x512x256 .bf16 := iblk m c 1 t

theorem b0_apply (t : Fin cfg0.N) (r k : Fin 512) (i : Fin 2048) (hi : i.val = t.val / 4 * 512 + r.val) : b0 m c t (ix2 r k) = cur (m ((c.tc : Thread nD τ).loc main_arg0)) i k := by
  have e := index_0 t
  unfold cur b0
  blk_simp [iblk]
  refine congrArg (m ((c.tc : Thread nD τ).loc main_arg0)) ?_
  blk_ext [e, hi]

theorem b1_apply (t : Fin cfg0.N) (k : Fin 512) (j : Fin 256) (q : Fin 1024) (hq : q.val = t.val % 4 * 256 + j.val) :
    b1 m c t (ix3 0 k j) = cols4 (cur3 (m ((c.tc : Thread nD τ).loc main_arg1))) k q := by
  have hj := j.isLt
  have e := index_1 t
  unfold cols4 cur3 b1
  blk_simp [iblk]
  refine congrArg (m ((c.tc : Thread nD τ).loc main_arg1)) ?_
  blk_ext [e]
  all_goals (rw [hq]; omega)

/-- The array after the launch. -/
theorem arr : (dats m 0 c).arrAt 2 cfg0.N = unc (val (cur (m ((c.tc : Thread nD τ).loc main_arg0))) (cur3 (m ((c.tc : Thread nD τ).loc main_arg1)))) := by
  have e := index_2
  refine (dats m 0 c).arrAt_eq_of_covers 2 _ (by decide +kernel) fun t hf y => ?_
  blk_simp [iblk]
  rw [after0_2]
  refine (congrFun (out_eq (b0 m c t) (b1 m c t)) _).trans ?_
  unfold unc val
  refine Finset.sum_congr rfl fun k _ => congrArg₂ (· * ·) (b0_apply m c t (y 0) k _ ?_) (b1_apply m c t k (y 1) _ ?_)
  all_goals blk_simp [e]

end kernel

section reference
open ReferenceBranchIdeal ReferenceBranchIdeal.Gen
variable (A0 : FVec Ideal S2048x512 .bf16) (A1 : FVec Ideal S4x512x256 .bf16)

def res : FVec Ideal S2048x1024 .f32 :=
  Host.dotGeneral dot_S2048x512_S512x1024_S2048x1024_1_0_0_1_n_n none (extf .f32 A0 bitsLt_bf16_f32) (shapeCast _ (transpose S512x4x256 [1, 0, 2] (extf .f32 A1 bitsLt_bf16_f32) transposes_S4x512x256_S512x4x256_1_0_2) shapeCasts_S512x4x256_S512x1024)

theorem res_apply (i : Fin 2048) (q : Fin 1024) : res A0 A1 (ix2 i q) = val (cur A0) (cur3 A1) i q := by
  pointwise [res]
  rfl

end reference

/-! ## The claims -/

open KernelBranchIdeal in
theorem values : algebraic_KernelBranchIdeal_ReferenceBranchIdeal (hKernelBranchIdeal := KernelBranchIdeal.Gen.facts)
    (hReferenceBranchIdeal := ReferenceBranchIdeal.Gen.facts) := by
  intro m g m' g' _ hagree
  refine ⟨fun c => unc (val (cur (m ((c.tc : Thread nD τ).loc main_arg0))) (cur3 (m ((c.tc : Thread nD τ).loc main_arg1)))), ?_, ?_⟩
  · refine (θ_run _ _ _).mono (fun r h c => ?_) (KernelBranchIdeal.Value.run_blocks (F := Ideal) m g)
    obtain ⟨h0, rest⟩ := h c
    exact ⟨h0.trans (arr m c), rest⟩
  · refine (θ_run _ _ _).mono (fun r h c => ?_) (ReferenceBranchIdeal.Value.run (F := Ideal) m' g')
    obtain ⟨a0, a1⟩ := hagree c
    obtain ⟨h0, rest⟩ := h c
    refine ⟨h0.trans ?_, rest⟩
    · rw [a0, a1]
      exact eq_unc _ _ (res_apply _ _)

theorem reference_frame : quiescent_ReferenceBranchIdeal (hReferenceBranchIdeal := ReferenceBranchIdeal.Gen.facts) := fun m g _ =>
  (θ_run _ _ _).mono (fun r h => ⟨fun c => (h c).2, sem_eq_zero_of_no_sems rfl r.2⟩) (ReferenceBranchIdeal.Value.run (F := Ideal) m g)

theorem kernel_frame : quiescent_KernelBranch (hKernelBranch := KernelBranch.Gen.facts) := fun m g _ => KernelBranch.Gen.frame m g

theorem ideal_frame : quiescent_KernelBranchIdeal (hKernelBranchIdeal := KernelBranchIdeal.Gen.facts) := fun m g _ => KernelBranchIdeal.Gen.frame m g

end Cert.Ffn.Branch

end
-- ==== Proof.BranchBias.lean ====
/- The product with conv_w_out and its bias: the array after the launch and the reference, by element. -/
module

public import proofs.«01_k».proof.Proof.Gen.KernelBranchBiasIdeal.Value
public import proofs.«01_k».proof.Proof.Gen.KernelBranchBias
public import proofs.«01_k».proof.Proof.Gen.KernelBranchBias.Frame
public import proofs.«01_k».proof.Proof.Gen.ReferenceBranchBiasIdeal.Run
public import proofs.«01_k».proof.Proof.Branch
public import proofs.«01_k».proof.Defs

@[expose] public section

set_option maxRecDepth 16384

noncomputable section

namespace Cert.Ffn.BranchBias

open Cert.Attn
open Cert.Ffn.Branch (cols4)
open Idealize.ShloMosaic Idealize.ShloMosaic.TcCoe Idealize.ShloMosaic.Tactic Idealize.SL.Sem

/-- The product with the matrix, and the row of biases. -/
def val (a : Fin 2048 → Fin 512 → EReal) (w : Fin 4 → Fin 512 → Fin 256 → EReal) (b : Fin 1 → Fin 1024 → EReal) (i : Fin 2048) (q : Fin 1024) : EReal :=
  (∑ k, a i k * cols4 w k q) + b 0 q

section kernel

open KernelBranchBiasIdeal KernelBranchBiasIdeal.Gen

theorem out_eq (x0 : Vec Ideal S512x512 .bf16) (x1 : Vec Ideal S1x512x256 .bf16) (x2 : Vec Ideal S1x256 .f32) : out0_3 x0 x1 x2 = unc (fun i j => (∑ k : Fin 512, x0 (ix2 i k) * x1 (ix3 0 k j)) + x2 (ix2 0 j)) := by
  unfold out0_3
  rw [View.canon_unit_zero hz, View.ld_unit_zero hz, View.ld_unit_zero hz3, View.ld_unit_zero hz]
  refine eq_unc _ _ fun i j => ?_
  pointwise [k0_pay1]

variable (m : (ℓ : Loc nD τ sig) → Buf (Elt Ideal) ℓ) (c : Dev nD)

theorem index_0 : ∀ t : Fin cfg0.N, win0_0.index t = ![t.val / 4, 0] := by decide +kernel
theorem index_1 : ∀ t : Fin cfg0.N, win0_1.index t = ![t.val % 4, 0, 0] := by decide +kernel
theorem index_2 : ∀ t : Fin cfg0.N, win0_2.index t = ![0, t.val % 4] := by decide +kernel
theorem index_3 : ∀ t : Fin cfg0.N, win0_3.index t = ![t.val / 4, t.val % 4] := by decide +kernel

/-- The blocks of a point, and their elements in the arrays. -/
def b0 (t : Fin cfg0.N) : Vec Ideal S512x512 .bf16 := iblk m c 0 t
def b1 (t : Fin cfg0.N) : Vec Ideal S1x512x256 .bf16 := iblk m c 1 t
def b2 (t : Fin cfg0.N) : Vec Ideal S1x256 .f32 := iblk m c 2 t

theorem b0_apply (t : Fin cfg0.N) (r k : Fin 512) (i : Fin 2048) (hi : i.val = t.val / 4 * 512 + r.val) : b0 m c t (ix2 r k) = cur (m ((c.tc : Thread nD τ).loc main_arg0)) i k := by
  have e := index_0 t
  unfold cur b0
  blk_simp [iblk]
  refine congrArg (m ((c.tc : Thread nD τ).loc main_arg0)) ?_
  blk_ext [e, hi]

theorem b1_apply (t : Fin cfg0.N) (k : Fin 512) (j : Fin 256) (q : Fin 1024) (hq : q.val = t.val % 4 * 256 + j.val) :
    b1 m c t (ix3 0 k j) = cols4 (cur3 (m ((c.tc : Thread nD τ).loc main_arg1))) k q := by
  have hj := j.isLt
  have e := index_1 t
  unfold cols4 cur3 b1
  blk_simp [iblk]
  refine congrArg (m ((c.tc : Thread nD τ).loc main_arg1)) ?_
  blk_ext [e]
  all_goals (rw [hq]; omega)

theorem b2_apply (t : Fin cfg0.N) (j : Fin 256) (q : Fin 1024) (hq : q.val = t.val % 4 * 256 + j.val) : b2 m c t (ix2 0 j) = cur (m ((c.tc : Thread nD τ).loc main_arg2)) 0 q := by
  have e := index_2 t
  unfold cur b2
  blk_simp [iblk]
  refine congrArg (m ((c.tc : Thread nD τ).loc main_arg2)) ?_
  blk_ext [e, hq]

/-- The array after the launch. -/
theorem arr : (dats m 0 c).arrAt 3 cfg0.N = unc (val (cur (m ((c.tc : Thread nD τ).loc main_arg0))) (cur3 (m ((c.tc : Thread nD τ).loc main_arg1))) (cur (m ((c.tc : Thread nD τ).loc main_arg2)))) := by
  have e := index_3
  refine (dats m 0 c).arrAt_eq_of_covers 3 _ (by decide +kernel) fun t hf y => ?_
  blk_simp [iblk]
  rw [after0_3]
  refine (congrFun (out_eq (b0 m c t) (b1 m c t) (b2 m c t)) _).trans ?_
  unfold unc val
  refine congrArg₂ (· + ·) (Finset.sum_congr rfl fun k _ => congrArg₂ (· * ·) (b0_apply m c t (y 0) k _ ?_) (b1_apply m c t k (y 1) _ ?_)) (b2_apply m c t (y 1) _ ?_)
  all_goals blk_simp [e]

end kernel

section reference
open ReferenceBranchBiasIdeal ReferenceBranchBiasIdeal.Gen
variable (A0 : FVec Ideal S2048x512 .bf16) (A1 : FVec Ideal S4x512x256 .bf16) (A2 : FVec Ideal S1x1024 .f32)

def res : FVec Ideal S2048x1024 .f32 :=
  addf (Host.dotGeneral dot_S2048x512_S512x1024_S2048x1024_1_0_0_1_n_n none (extf .f32 A0 bitsLt_bf16_f32) (shapeCast _ (transpose S512x4x256 [1, 0, 2] (extf .f32 A1 bitsLt_bf16_f32) transposes_S4x512x256_S512x4x256_1_0_2) shapeCasts_S512x4x256_S512x1024)) (broadcastInDim S2048x1024 ![0, 1] bcast_S1x1024_S2048x1024_0_1 A2)

theorem res_apply (i : Fin 2048) (q : Fin 1024) : res A0 A1 A2 (ix2 i q) = val (cur A0) (cur3 A1) (cur A2) i q := by
  pointwise [res]
  rfl

end reference

/-! ## The claims -/

open KernelBranchBiasIdeal in
theorem values : algebraic_KernelBranchBiasIdeal_ReferenceBranchBiasIdeal (hKernelBranchBiasIdeal := KernelBranchBiasIdeal.Gen.facts)
    (hReferenceBranchBiasIdeal := ReferenceBranchBiasIdeal.Gen.facts) := by
  intro m g m' g' _ hagree
  refine ⟨fun c => unc (val (cur (m ((c.tc : Thread nD τ).loc main_arg0))) (cur3 (m ((c.tc : Thread nD τ).loc main_arg1))) (cur (m ((c.tc : Thread nD τ).loc main_arg2)))), ?_, ?_⟩
  · refine (θ_run _ _ _).mono (fun r h c => ?_) (KernelBranchBiasIdeal.Value.run_blocks (F := Ideal) m g)
    obtain ⟨h0, rest⟩ := h c
    exact ⟨h0.trans (arr m c), rest⟩
  · refine (θ_run _ _ _).mono (fun r h c => ?_) (ReferenceBranchBiasIdeal.Value.run (F := Ideal) m' g')
    obtain ⟨a0, a1, a2⟩ := hagree c
    obtain ⟨h0, rest⟩ := h c
    refine ⟨h0.trans ?_, rest⟩
    · rw [a0, a1, a2]
      exact eq_unc _ _ (res_apply _ _ _)

theorem reference_frame : quiescent_ReferenceBranchBiasIdeal (hReferenceBranchBiasIdeal := ReferenceBranchBiasIdeal.Gen.facts) := fun m g _ =>
  (θ_run _ _ _).mono (fun r h => ⟨fun c => (h c).2, sem_eq_zero_of_no_sems rfl r.2⟩) (ReferenceBranchBiasIdeal.Value.run (F := Ideal) m g)

theorem kernel_frame : quiescent_KernelBranchBias (hKernelBranchBias := KernelBranchBias.Gen.facts) := fun m g _ => KernelBranchBias.Gen.frame m g

theorem ideal_frame : quiescent_KernelBranchBiasIdeal (hKernelBranchBiasIdeal := KernelBranchBiasIdeal.Gen.facts) := fun m g _ => KernelBranchBiasIdeal.Gen.frame m g

end Cert.Ffn.BranchBias

end
-- ==== Proof.DbranchW.lean ====
/- The gradients of lru_w_out, mla_w_o and conv_w_out: the array after the launch and the reference, by element. -/
module

public import proofs.«01_k».proof.Proof.Gen.KernelDbranchWIdeal.Value
public import proofs.«01_k».proof.Proof.Gen.KernelDbranchW
public import proofs.«01_k».proof.Proof.Gen.KernelDbranchW.Frame
public import proofs.«01_k».proof.Proof.Gen.ReferenceDbranchWIdeal.Run
public import proofs.«01_k».proof.Proof.Common
public import proofs.«01_k».proof.Defs

@[expose] public section

set_option maxRecDepth 16384

noncomputable section

namespace Cert.Ffn.DbranchW

open Cert.Attn
open Idealize.ShloMosaic Idealize.ShloMosaic.TcCoe Idealize.ShloMosaic.Tactic Idealize.SL.Sem

/-- The product of the first, transposed, with the gradients, and the added row, in four blocks of columns. -/
def val (a : Fin 2048 → Fin 512 → EReal) (d : Fin 2048 → Fin 1024 → EReal) (b : Fin 1 → Fin 1024 → EReal) (p : Fin 4) (r : Fin 512) (j : Fin 256) : EReal :=
  (∑ k, a k r * d k ⟨p.val * 256 + j.val, by omega⟩) + b 0 ⟨p.val * 256 + j.val, by omega⟩

section kernel

open KernelDbranchWIdeal KernelDbranchWIdeal.Gen

theorem out_eq (x0 : Vec Ideal S2048x512 .bf16) (x1 : Vec Ideal S2048x256 .bf16) (x2 : Vec Ideal S1x256 .f32) : out0_3 x0 x1 x2 =
    unc3 (fun _ r j => (∑ k : Fin 2048, x0 (ix2 k r) * x1 (ix2 k j)) + x2 (ix2 0 j)) := by
  unfold out0_3
  rw [View.canon_unit_zero hz3, View.ld_unit_zero hz, View.ld_unit_zero hz, View.ld_unit_zero hz]
  refine eq_unc3 _ _ fun p r j => ?_
  pointwise [k0_pay1]

variable (m : (ℓ : Loc nD τ sig) → Buf (Elt Ideal) ℓ) (c : Dev nD)

theorem index_0 : ∀ t : Fin cfg0.N, win0_0.index t = ![0, 0] := by decide +kernel
theorem index_1 : ∀ t : Fin cfg0.N, win0_1.index t = ![0, t.val] := by decide +kernel
theorem index_2 : ∀ t : Fin cfg0.N, win0_2.index t = ![0, t.val] := by decide +kernel
theorem index_3 : ∀ t : Fin cfg0.N, win0_3.index t = ![t.val, 0, 0] := by decide +kernel

/-- The blocks of a point, and their elements in the arrays. -/
def b0 (t : Fin cfg0.N) : Vec Ideal S2048x512 .bf16 := iblk m c 0 t
def b1 (t : Fin cfg0.N) : Vec Ideal S2048x256 .bf16 := iblk m c 1 t
def b2 (t : Fin cfg0.N) : Vec Ideal S1x256 .f32 := iblk m c 2 t

theorem b0_apply (t : Fin cfg0.N) (k : Fin 2048) (r i : Fin 512) (hi : i.val = r.val) : b0 m c t (ix2 k r) = cur (m ((c.tc : Thread nD τ).loc main_arg0)) k i := by
  have e := index_0 t
  unfold cur b0
  blk_simp [iblk]
  refine congrArg (m ((c.tc : Thread nD τ).loc main_arg0)) ?_
  blk_ext [e, hi]

theorem b1_apply (t : Fin cfg0.N) (k : Fin 2048) (j : Fin 256) (q : Fin 1024) (hq : q.val = t.val * 256 + j.val) : b1 m c t (ix2 k j) = cur (m ((c.tc : Thread nD τ).loc main_arg1)) k q := by
  have e := index_1 t
  unfold cur b1
  blk_simp [iblk]
  refine congrArg (m ((c.tc : Thread nD τ).loc main_arg1)) ?_
  blk_ext [e, hq]

theorem b2_apply (t : Fin cfg0.N) (j : Fin 256) (q : Fin 1024) (hq : q.val = t.val * 256 + j.val) : b2 m c t (ix2 0 j) = cur (m ((c.tc : Thread nD τ).loc main_arg2)) 0 q := by
  have e := index_2 t
  unfold cur b2
  blk_simp [iblk]
  refine congrArg (m ((c.tc : Thread nD τ).loc main_arg2)) ?_
  blk_ext [e, hq]

/-- The array after the launch. -/
theorem arr : (dats m 0 c).arrAt 3 cfg0.N = unc3 (val (cur (m ((c.tc : Thread nD τ).loc main_arg0))) (cur (m ((c.tc : Thread nD τ).loc main_arg1))) (cur (m ((c.tc : Thread nD τ).loc main_arg2)))) := by
  have e := index_3
  refine (dats m 0 c).arrAt_eq_of_covers 3 _ (by decide +kernel) fun t hf y => ?_
  blk_simp [iblk]
  rw [after0_3]
  refine (congrFun (out_eq (b0 m c t) (b1 m c t) (b2 m c t)) _).trans ?_
  unfold unc3 val
  refine congrArg₂ (· + ·) (Finset.sum_congr rfl fun k _ => congrArg₂ (· * ·) (b0_apply m c t k (y 1) _ ?_) (b1_apply m c t k (y 2) _ ?_)) (b2_apply m c t (y 2) _ ?_)
  all_goals blk_simp [e]

end kernel

section reference
open ReferenceDbranchWIdeal ReferenceDbranchWIdeal.Gen
variable (A0 : FVec Ideal S2048x512 .bf16) (A1 : FVec Ideal S2048x1024 .bf16) (A2 : FVec Ideal S1x1024 .f32)

def res : FVec Ideal S4x512x256 .bf16 :=
  truncf .bf16 (transpose S4x512x256 [1, 0, 2] (shapeCast _ (addf (broadcastInDim S512x1024 ![0, 1] bcast_S1x1024_S512x1024_0_1 A2) (transpose S512x1024 [1, 0] (Host.dotGeneral dot_S2048x1024_S2048x512_S1024x512_0_0_1_1_n_n none (extf .f32 A1 bitsLt_bf16_f32) (extf .f32 A0 bitsLt_bf16_f32)) transposes_S1024x512_S512x1024_1_0)) shapeCasts_S512x1024_S512x4x256) transposes_S512x4x256_S4x512x256_1_0_2) bitsLt_bf16_f32

theorem res_apply (p : Fin 4) (r : Fin 512) (j : Fin 256) : res A0 A1 A2 (ix3 p r j) = val (cur A0) (cur A1) (cur A2) p r j := by
  pointwise [res]
  unfold val cur
  refine (add_comm _ _).trans (congrArg₂ (· + ·) ?_ rfl)
  exact Finset.sum_congr rfl fun k _ => mul_comm _ _

end reference

/-! ## The claims -/

open KernelDbranchWIdeal in
theorem values : algebraic_KernelDbranchWIdeal_ReferenceDbranchWIdeal (hKernelDbranchWIdeal := KernelDbranchWIdeal.Gen.facts)
    (hReferenceDbranchWIdeal := ReferenceDbranchWIdeal.Gen.facts) := by
  intro m g m' g' _ hagree
  refine ⟨fun c => unc3 (val (cur (m ((c.tc : Thread nD τ).loc main_arg0))) (cur (m ((c.tc : Thread nD τ).loc main_arg1))) (cur (m ((c.tc : Thread nD τ).loc main_arg2)))), ?_, ?_⟩
  · refine (θ_run _ _ _).mono (fun r h c => ?_) (KernelDbranchWIdeal.Value.run_blocks (F := Ideal) m g)
    obtain ⟨h0, rest⟩ := h c
    exact ⟨h0.trans (arr m c), rest⟩
  · refine (θ_run _ _ _).mono (fun r h c => ?_) (ReferenceDbranchWIdeal.Value.run (F := Ideal) m' g')
    obtain ⟨a0, a1, a2⟩ := hagree c
    obtain ⟨h0, rest⟩ := h c
    refine ⟨h0.trans ?_, rest⟩
    · rw [a0, a1, a2]
      exact eq_unc3 _ _ (res_apply _ _ _)

theorem reference_frame : quiescent_ReferenceDbranchWIdeal (hReferenceDbranchWIdeal := ReferenceDbranchWIdeal.Gen.facts) := fun m g _ =>
  (θ_run _ _ _).mono (fun r h => ⟨fun c => (h c).2, sem_eq_zero_of_no_sems rfl r.2⟩) (ReferenceDbranchWIdeal.Value.run (F := Ideal) m g)

theorem kernel_frame : quiescent_KernelDbranchW (hKernelDbranchW := KernelDbranchW.Gen.facts) := fun m g _ => KernelDbranchW.Gen.frame m g

theorem ideal_frame : quiescent_KernelDbranchWIdeal (hKernelDbranchWIdeal := KernelDbranchWIdeal.Gen.facts) := fun m g _ => KernelDbranchWIdeal.Gen.frame m g

end Cert.Ffn.DbranchW

end
-- ==== Proof.Dbranch.lean ====
/- The products of the gradients with lru_w_out and conv_w_out, transposed: the array after the launch and the reference, by element. -/
module

public import proofs.«01_k».proof.Proof.Gen.KernelDbranchIdeal.Value
public import proofs.«01_k».proof.Proof.Gen.KernelDbranch
public import proofs.«01_k».proof.Proof.Gen.KernelDbranch.Frame
public import proofs.«01_k».proof.Proof.Gen.ReferenceDbranchIdeal.Run
public import proofs.«01_k».proof.Proof.Branch
public import Idealize.ShloMosaic.Lib.Pipeline.ReadBack
public import proofs.«01_k».proof.Defs

@[expose] public section

set_option maxRecDepth 16384

noncomputable section

namespace Cert.Ffn.Dbranch

open Cert.Attn
open Cert.Ffn.Branch (cols4)
open Idealize.ShloMosaic Idealize.ShloMosaic.TcCoe Idealize.ShloMosaic.Tactic Idealize.SL.Sem

/-- The product with the matrix, transposed, and the added row. -/
def val (d : Fin 2048 → Fin 1024 → EReal) (w : Fin 4 → Fin 512 → Fin 256 → EReal) (b : Fin 1 → Fin 512 → EReal) (i : Fin 2048) (j : Fin 512) : EReal :=
  (∑ q, d i q * cols4 w j q) + b 0 j

section kernel

open KernelDbranchIdeal KernelDbranchIdeal.Gen

/-- A point's part of the product. -/
def part (x0 : Vec Ideal S512x256 .bf16) (x1 : Vec Ideal S1x512x256 .bf16) (y : S512x512.Idx) : EReal :=
  ∑ k : Fin 256, x0 (ix2 (y 0) k) * x1 (ix3 0 (y 1) k)

theorem pay2_eq (x0 : Vec Ideal S512x256 .bf16) (x1 : Vec Ideal S1x512x256 .bf16) : k0_pay2 x0 x1 = part x0 x1 := by
  refine (eq_unc (k0_pay2 x0 x1) (fun r j => part x0 x1 (ix2 r j)) fun r j => ?_).trans (eq_unc (part x0 x1) _ fun _ _ => rfl).symm
  pointwise [k0_pay2, k0_pay1]
  rfl

theorem pay3_eq (x0 : Vec Ideal S512x256 .bf16) (x1 : Vec Ideal S1x512x256 .bf16) (a : Vec Ideal S512x512 .f32) : k0_pay3 x0 x1 a = fun y => a y + part x0 x1 y := by
  refine (eq_unc (k0_pay3 x0 x1 a) (fun r j => a (ix2 r j) + part x0 x1 (ix2 r j)) fun r j => ?_).trans (eq_unc (fun y => a y + part x0 x1 y) _ fun _ _ => rfl).symm
  pointwise [k0_pay3, k0_pay1]
  rfl

theorem pay4_apply (a : Vec Ideal S512x512 .f32) (x2 : Vec Ideal S1x512 .f32) (r j : Fin 512) : k0_pay4 a x2 (ix2 r j) = a (ix2 r j) + x2 (ix2 0 j) := by
  pointwise [k0_pay4]

variable (m : (ℓ : Loc nD τ sig) → Buf (Elt Ideal) ℓ) (c : Dev nD)

theorem index_0 : ∀ t : Fin cfg0.N, win0_0.index t = ![t.val / 4, t.val % 4] := by decide +kernel
theorem index_1 : ∀ t : Fin cfg0.N, win0_1.index t = ![t.val % 4, 0, 0] := by decide +kernel
theorem index_2 : ∀ t : Fin cfg0.N, win0_2.index t = ![0, 0] := by decide +kernel
theorem index_3 : ∀ t : Fin cfg0.N, win0_3.index t = ![t.val / 4, 0] := by decide +kernel

/-- The blocks of a point, and their elements in the arrays. -/
def b0 (t : Fin cfg0.N) : Vec Ideal S512x256 .bf16 := iblk m c 0 t
def b1 (t : Fin cfg0.N) : Vec Ideal S1x512x256 .bf16 := iblk m c 1 t
def b2 (t : Fin cfg0.N) : Vec Ideal S1x512 .f32 := iblk m c 2 t

theorem b0_apply (t : Fin cfg0.N) (r : Fin 512) (k : Fin 256) (i : Fin 2048) (q : Fin 1024) (hi : i.val = t.val / 4 * 512 + r.val) (hq : q.val = t.val % 4 * 256 + k.val) :
    b0 m c t (ix2 r k) = cur (m ((c.tc : Thread nD τ).loc main_arg0)) i q := by
  have e := index_0 t
  unfold cur b0
  blk_simp [iblk]
  refine congrArg (m ((c.tc : Thread nD τ).loc main_arg0)) ?_
  blk_ext [e, hi, hq]

theorem b1_apply (t : Fin cfg0.N) (j : Fin 512) (k : Fin 256) (q : Fin 1024) (hq : q.val = t.val % 4 * 256 + k.val) :
    b1 m c t (ix3 0 j k) = cols4 (cur3 (m ((c.tc : Thread nD τ).loc main_arg1))) j q := by
  have hk := k.isLt
  have e := index_1 t
  unfold cols4 cur3 b1
  blk_simp [iblk]
  refine congrArg (m ((c.tc : Thread nD τ).loc main_arg1)) ?_
  blk_ext [e]
  all_goals (rw [hq]; omega)

theorem b2_apply (t : Fin cfg0.N) (r j : Fin 512) (hj : j.val = r.val) : b2 m c t (ix2 0 r) = cur (m ((c.tc : Thread nD τ).loc main_arg2)) 0 j := by
  have e := index_2 t
  unfold cur b2
  blk_simp [iblk]
  refine congrArg (m ((c.tc : Thread nD τ).loc main_arg2)) ?_
  blk_ext [e, hj]

/-- What a point leaves in the scratch: the sum of the parts so far. -/
theorem scratch_first (t : Fin cfg0.N) (h : t.val % 4 = 0) : (outsAt0 m c t.val t.isLt).2 = part (b0 m c t) (b1 m c t) := by
  rw [outsAt0_A m c t h (by omega) (by omega)]
  frame_out
  exact pay2_eq _ _

theorem scratch_next (t : Fin cfg0.N) (h : ¬t.val % 4 = 0) : (outsAt0 m c t.val t.isLt).2 =
    fun y => (outsAt0 m c (t.val - 1) (Nat.lt_of_le_of_lt (Nat.sub_le _ _) t.isLt)).2 y + part (b0 m c t) (b1 m c t) y := by
  by_cases h3 : t.val % 4 = 3
  · rw [outsAt0_C m c t h (by omega) h3]
    frame_out
    rw [read_unread_whole]
    exact pay3_eq _ _ _
  · rw [outsAt0_B m c t h (by omega) h3]
    frame_out
    rw [read_unread_whole]
    exact pay3_eq _ _ _

/-- At the last of a row block's points the scratch holds the product. -/
theorem scratch_last (t : Fin cfg0.N) (h : t.val % 4 = 3) (r j J : Fin 512) (i : Fin 2048) (hi : i.val = t.val / 4 * 512 + r.val) (hj : J = j) :
    (outsAt0 m c t.val t.isLt).2 (ix2 r j) = ∑ q, cur (m ((c.tc : Thread nD τ).loc main_arg0)) i q * cols4 (cur3 (m ((c.tc : Thread nD τ).loc main_arg1))) J q := by
  subst hj
  refine (Pipeline.eq_sum_fin_of_reset_step_apply_of_flush (fun n h => (outsAt0 m c n h).2) 4 (fun _ => (0 : EReal)) (fun t => part (b0 m c t) (b1 m c t))
    (fun t h y => (congrFun (scratch_first m c t h) y).trans (zero_add _).symm) (fun t h y => congrFun (scratch_next m c t h) y) t h (ix2 r J)).trans ?_
  rw [zero_add]
  unfold part
  refine Fin.sum_mul_add_congr fun s k hl => ?_
  have hs := s.isLt
  exact congrArg₂ (· * ·) (b0_apply m c _ _ k i _ (by simp [hi]; omega) (by simp; omega)) (b1_apply m c _ _ k _ (by simp; omega))

/-- What the last of a row block's points leaves in the result. -/
theorem out3 (t : Fin cfg0.N) (h : t.val % 4 = 3) : (outsAt0 m c t.val t.isLt).1 = k0_pay4 (outsAt0 m c t.val t.isLt).2 (b2 m c t) := by
  rw [outsAt0_C m c t (by omega) (by omega) h]
  frame_out
  rfl

theorem arr : (dats m 0 c).arrAt 3 cfg0.N = unc (val (cur (m ((c.tc : Thread nD τ).loc main_arg0))) (cur3 (m ((c.tc : Thread nD τ).loc main_arg1))) (cur (m ((c.tc : Thread nD τ).loc main_arg2)))) := by
  have e := index_3
  refine (dats m 0 c).arrAt_eq_of_covers 3 _ (by decide +kernel) fun t hf y => ?_
  have h3 : t.val % 4 = 3 := (flush0_3 t).mp hf
  have hi : ((win0_3.blk t).view.emb y 0).val = t.val / 4 * 512 + (y 0).val := by blk_simp [e]
  have hj : ((win0_3.blk t).view.emb y 1).val = (y 1).val := by blk_simp [e]
  blk_simp [iblk]
  rw [after0_3, out3 m c t h3]
  refine (congrFun (eq_unc _ _ (pay4_apply _ _)) _).trans ?_
  unfold unc val
  exact congrArg₂ (· + ·) (scratch_last m c t h3 (y 0) (y 1) _ _ hi (Fin.ext hj)) (b2_apply m c t (y 1) _ hj)

end kernel

section reference
open ReferenceDbranchIdeal ReferenceDbranchIdeal.Gen
variable (A0 : FVec Ideal S2048x1024 .bf16) (A1 : FVec Ideal S4x512x256 .bf16) (A2 : FVec Ideal S1x512 .f32)

def res : FVec Ideal S2048x512 .f32 :=
  addf (broadcastInDim S2048x512 ![0, 1] bcast_S1x512_S2048x512_0_1 A2) (Host.dotGeneral dot_S2048x1024_S512x1024_S2048x512_1_1_0_0_n_n none (extf .f32 A0 bitsLt_bf16_f32) (shapeCast _ (transpose S512x4x256 [1, 0, 2] (extf .f32 A1 bitsLt_bf16_f32) transposes_S4x512x256_S512x4x256_1_0_2) shapeCasts_S512x4x256_S512x1024))

theorem res_apply (i : Fin 2048) (j : Fin 512) : res A0 A1 A2 (ix2 i j) = val (cur A0) (cur3 A1) (cur A2) i j := by
  pointwise [res]
  exact add_comm _ _

end reference

/-! ## The claims -/

open KernelDbranchIdeal in
theorem values : algebraic_KernelDbranchIdeal_ReferenceDbranchIdeal (hKernelDbranchIdeal := KernelDbranchIdeal.Gen.facts)
    (hReferenceDbranchIdeal := ReferenceDbranchIdeal.Gen.facts) := by
  intro m g m' g' _ hagree
  refine ⟨fun c => unc (val (cur (m ((c.tc : Thread nD τ).loc main_arg0))) (cur3 (m ((c.tc : Thread nD τ).loc main_arg1))) (cur (m ((c.tc : Thread nD τ).loc main_arg2)))), ?_, ?_⟩
  · refine (θ_run _ _ _).mono (fun r h c => ?_) (KernelDbranchIdeal.Value.run_blocks (F := Ideal) m g)
    obtain ⟨h0, rest⟩ := h c
    exact ⟨h0.trans (arr m c), rest⟩
  · refine (θ_run _ _ _).mono (fun r h c => ?_) (ReferenceDbranchIdeal.Value.run (F := Ideal) m' g')
    obtain ⟨a0, a1, a2⟩ := hagree c
    obtain ⟨h0, rest⟩ := h c
    refine ⟨h0.trans ?_, rest⟩
    · rw [a0, a1, a2]
      exact eq_unc _ _ (res_apply _ _ _)

theorem reference_frame : quiescent_ReferenceDbranchIdeal (hReferenceDbranchIdeal := ReferenceDbranchIdeal.Gen.facts) := fun m g _ =>
  (θ_run _ _ _).mono (fun r h => ⟨fun c => (h c).2, sem_eq_zero_of_no_sems rfl r.2⟩) (ReferenceDbranchIdeal.Value.run (F := Ideal) m g)

theorem kernel_frame : quiescent_KernelDbranch (hKernelDbranch := KernelDbranch.Gen.facts) := fun m g _ => KernelDbranch.Gen.frame m g

theorem ideal_frame : quiescent_KernelDbranchIdeal (hKernelDbranchIdeal := KernelDbranchIdeal.Gen.facts) := fun m g _ => KernelDbranchIdeal.Gen.frame m g

end Cert.Ffn.Dbranch

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.KernelDgu
public import proofs.«01_k».proof.Proof.Gen.KernelDguIdeal
public import proofs.«01_k».proof.Proof.Gen.KernelDguIdeal.Value
public import proofs.«01_k».proof.Proof.Gen.KernelDgu.Frame
public import proofs.«01_k».proof.Proof.Gen.ReferenceDguIdeal
public import proofs.«01_k».proof.Proof.Gen.ReferenceDguIdeal.Run
public import proofs.«01_k».proof.Proof.Gen.KernelDx
public import proofs.«01_k».proof.Proof.Gen.KernelDxIdeal
public import proofs.«01_k».proof.Proof.Gen.KernelDxIdeal.Value
public import proofs.«01_k».proof.Proof.Gen.KernelDx.Frame
public import proofs.«01_k».proof.Proof.Gen.ReferenceDxIdeal
public import proofs.«01_k».proof.Proof.Gen.ReferenceDxIdeal.Run
public import proofs.«01_k».proof.Proof.Gen.KernelDw1
public import proofs.«01_k».proof.Proof.Gen.KernelDw1Ideal
public import proofs.«01_k».proof.Proof.Gen.KernelDw1Ideal.Value
public import proofs.«01_k».proof.Proof.Gen.KernelDw1.Frame
public import proofs.«01_k».proof.Proof.Gen.ReferenceDw1Ideal
public import proofs.«01_k».proof.Proof.Gen.ReferenceDw1Ideal.Run
public import proofs.«01_k».proof.Proof.Gen.KernelDw2
public import proofs.«01_k».proof.Proof.Gen.KernelDw2Ideal
public import proofs.«01_k».proof.Proof.Gen.KernelDw2Ideal.Value
public import proofs.«01_k».proof.Proof.Gen.KernelDw2.Frame
public import proofs.«01_k».proof.Proof.Gen.ReferenceDw2Ideal
public import proofs.«01_k».proof.Proof.Gen.ReferenceDw2Ideal.Run
public import proofs.«01_k».proof.Proof.Gen.KernelUp
public import proofs.«01_k».proof.Proof.Gen.KernelUpIdeal
public import proofs.«01_k».proof.Proof.Gen.KernelUpIdeal.Value
public import proofs.«01_k».proof.Proof.Gen.KernelUp.Frame
public import proofs.«01_k».proof.Proof.Gen.ReferenceUpIdeal
public import proofs.«01_k».proof.Proof.Gen.ReferenceUpIdeal.Run
public import proofs.«01_k».proof.Proof.Gen.KernelDown
public import proofs.«01_k».proof.Proof.Gen.KernelDownIdeal
public import proofs.«01_k».proof.Proof.Gen.KernelDownIdeal.Value
public import proofs.«01_k».proof.Proof.Gen.KernelDown.Frame
public import proofs.«01_k».proof.Proof.Gen.ReferenceDownIdeal
public import proofs.«01_k».proof.Proof.Gen.ReferenceDownIdeal.Run
public import proofs.«01_k».proof.Proof.Safe
public import proofs.«01_k».proof.Proof.Same
public import proofs.«01_k».proof.Proof.Arr
public import proofs.«01_k».proof.Proof.Ref
public import proofs.«01_k».proof.Proof.Pre
public import proofs.«01_k».proof.Proof.Dgu
public import proofs.«01_k».proof.Proof.Dx
public import proofs.«01_k».proof.Proof.Dw1
public import proofs.«01_k».proof.Proof.Dw2
public import proofs.«01_k».proof.Proof.Up
public import proofs.«01_k».proof.Proof.Down
public import proofs.«01_k».proof.Proof.DguRow
public import proofs.«01_k».proof.Proof.DxRow
public import proofs.«01_k».proof.Proof.Dw1Row
public import proofs.«01_k».proof.Proof.Dw2Row
public import proofs.«01_k».proof.Proof.ProjA
public import proofs.«01_k».proof.Proof.ProjB
public import proofs.«01_k».proof.Proof.ProjG
public import proofs.«01_k».proof.Proof.DwA
public import proofs.«01_k».proof.Proof.DwB
public import proofs.«01_k».proof.Proof.DwG
public import proofs.«01_k».proof.Proof.DhA
public import proofs.«01_k».proof.Proof.DhB
public import proofs.«01_k».proof.Proof.DhC
public import proofs.«01_k».proof.Proof.DhG
public import proofs.«01_k».proof.Proof.MixOut
public import proofs.«01_k».proof.Proof.Dmerged
public import proofs.«01_k».proof.Proof.DwOut
public import proofs.«01_k».proof.Proof.AdamUp
public import proofs.«01_k».proof.Proof.AdamUpB
public import proofs.«01_k».proof.Proof.AdamDown
public import proofs.«01_k».proof.Proof.AdamDownB
public import proofs.«01_k».proof.Proof.AdamIn
public import proofs.«01_k».proof.Proof.AdamO
public import proofs.«01_k».proof.Proof.AdamUq
public import proofs.«01_k».proof.Proof.AdamUkv
public import proofs.«01_k».proof.Proof.AdamOut
public import proofs.«01_k».proof.Proof.AdamSmall
public import proofs.«01_k».proof.Proof.Loss
public import proofs.«01_k».proof.Proof.Norm
public import proofs.«01_k».proof.Proof.Dnorm
public import proofs.«01_k».proof.Proof.Branch
public import proofs.«01_k».proof.Proof.BranchBias
public import proofs.«01_k».proof.Proof.DbranchW
public import proofs.«01_k».proof.Proof.Dbranch
public import Idealize.ShloMosaic.Lib.Quiescent

@[expose] public section

noncomputable section

namespace Cert.Proof

open Idealize.ShloMosaic Idealize.ShloMosaic.TcCoe Idealize.SL.Sem Cert.Attn

theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2, sem_eq_zero_of_no_sems rfl r.2⟩) (Cert.ReferenceIdeal.Value.run (F := Ideal) m g)

/-- An array is its function of coordinates. -/
theorem eq_unc {a b : ℕ} (x : (⟨2, ![a, b]⟩ : Shape).Idx → EReal) (f : Fin a → Fin b → EReal) (h : ∀ r c, x (ix2 r c) = f r c) : x = unc f :=
  funext fun j => (congrArg x (ix2_eta j).symm).trans (h (j 0) (j 1))

theorem values : Cert.algebraic_KernelIdeal_ReferenceIdeal_pre_finite_scores (hKernelIdeal := Cert.KernelIdeal.Gen.facts)
    (hReferenceIdeal := Cert.ReferenceIdeal.Gen.facts) (hPre_finite_scores := pre_facts) := by
  intro m g m' g' hpre hagree
  have hr : ∀ c h q k, k.val ≤ q.val → ∃ x : ℝ, fs (aq m c) (ak m c) h q k = x := fun c h q k hk => by
    haveI := pre_facts
    obtain ⟨h0, h1⟩ := real_of_pre _ _ _ _ (hpre c)
    exact fs_real (fun r j => h0 (ix2 r j)) (fun r j => h1 (ix2 r j)) h q k hk
  refine ⟨fun c => unc (fdq (aq m c) (ak m c) (av m c) (ao m c)), fun c => unc (fdk (aq m c) (ak m c) (av m c) (ao m c)),
    fun c => unc (fdv (aq m c) (ak m c) (ao m c)), ?_, ?_⟩
  · refine (θ_run _ _ _).mono (fun r h c => ?_) (θ_run_and (Cert.Attn.launch m g) (safe_frame m g))
    exact ⟨(h.1.1.out_eq c 4).trans (arr_dq m c (hr c)), (h.1.1.out_eq c 5).trans (arr_dk m c (hr c)),
      (h.1.1.out_eq c 6).trans (arr_dv m c (hr c)), h.2.1 c⟩
  · refine (θ_run _ _ _).mono (fun r h c => ?_) (Cert.ReferenceIdeal.Value.run (F := Ideal) m' g')
    obtain ⟨a0, a1, a2, a3⟩ := hagree c
    obtain ⟨r0, r1, r2, rest⟩ := h c
    refine ⟨r0.trans ?_, r1.trans ?_, r2.trans ?_, rest⟩
    · rw [Ref.res_dq, a0, a1, a2, a3]
      exact eq_unc _ _ fun r j => Ref.dq_apply _ _ _ _ (hr c) r j
    · rw [Ref.res_dk, a0, a1, a2, a3]
      exact eq_unc _ _ fun r j => Ref.dk_apply _ _ _ _ (hr c) r j
    · rw [Ref.res_dv, a0, a1, a3]
      exact eq_unc _ _ fun r j => Ref.dv_apply _ _ _ r j

theorem claim : Cert.Claim := ⟨Cert.Kernel.Gen.facts, Cert.KernelIdeal.Gen.facts, Cert.ReferenceIdeal.Gen.facts,
  Cert.KernelDgu.Gen.facts, Cert.KernelDguIdeal.Gen.facts, Cert.ReferenceDguIdeal.Gen.facts, Cert.KernelDx.Gen.facts, Cert.KernelDxIdeal.Gen.facts, Cert.ReferenceDxIdeal.Gen.facts, Cert.KernelDw1.Gen.facts, Cert.KernelDw1Ideal.Gen.facts, Cert.ReferenceDw1Ideal.Gen.facts, Cert.KernelDw2.Gen.facts, Cert.KernelDw2Ideal.Gen.facts, Cert.ReferenceDw2Ideal.Gen.facts, Cert.KernelUp.Gen.facts, Cert.KernelUpIdeal.Gen.facts, Cert.ReferenceUpIdeal.Gen.facts, Cert.KernelDown.Gen.facts, Cert.KernelDownIdeal.Gen.facts, Cert.ReferenceDownIdeal.Gen.facts, Cert.KernelDguRow.Gen.facts, Cert.KernelDguRowIdeal.Gen.facts, Cert.ReferenceDguRowIdeal.Gen.facts, Cert.KernelDxRow.Gen.facts, Cert.KernelDxRowIdeal.Gen.facts, Cert.ReferenceDxRowIdeal.Gen.facts, Cert.KernelDw1Row.Gen.facts, Cert.KernelDw1RowIdeal.Gen.facts, Cert.ReferenceDw1RowIdeal.Gen.facts, Cert.KernelDw2Row.Gen.facts, Cert.KernelDw2RowIdeal.Gen.facts, Cert.ReferenceDw2RowIdeal.Gen.facts, Cert.KernelProjA.Gen.facts, Cert.KernelProjAIdeal.Gen.facts, Cert.ReferenceProjAIdeal.Gen.facts, Cert.KernelProjB.Gen.facts, Cert.KernelProjBIdeal.Gen.facts, Cert.ReferenceProjBIdeal.Gen.facts, Cert.KernelProjG.Gen.facts, Cert.KernelProjGIdeal.Gen.facts, Cert.ReferenceProjGIdeal.Gen.facts, Cert.KernelDwA.Gen.facts, Cert.KernelDwAIdeal.Gen.facts, Cert.ReferenceDwAIdeal.Gen.facts, Cert.KernelDwB.Gen.facts, Cert.KernelDwBIdeal.Gen.facts, Cert.ReferenceDwBIdeal.Gen.facts, Cert.KernelDwG.Gen.facts, Cert.KernelDwGIdeal.Gen.facts, Cert.ReferenceDwGIdeal.Gen.facts, Cert.KernelDhA.Gen.facts, Cert.KernelDhAIdeal.Gen.facts, Cert.ReferenceDhAIdeal.Gen.facts, Cert.KernelDhB.Gen.facts, Cert.KernelDhBIdeal.Gen.facts, Cert.ReferenceDhBIdeal.Gen.facts, Cert.KernelDhC.Gen.facts, Cert.KernelDhCIdeal.Gen.facts, Cert.ReferenceDhCIdeal.Gen.facts, Cert.KernelDhG.Gen.facts, Cert.KernelDhGIdeal.Gen.facts, Cert.ReferenceDhGIdeal.Gen.facts, Cert.KernelMixOut.Gen.facts, Cert.KernelMixOutIdeal.Gen.facts, Cert.ReferenceMixOutIdeal.Gen.facts, Cert.KernelDmerged.Gen.facts, Cert.KernelDmergedIdeal.Gen.facts, Cert.ReferenceDmergedIdeal.Gen.facts, Cert.KernelDwOut.Gen.facts, Cert.KernelDwOutIdeal.Gen.facts, Cert.ReferenceDwOutIdeal.Gen.facts, Cert.KernelAdamUp.Gen.facts, Cert.KernelAdamUpIdeal.Gen.facts, Cert.ReferenceAdamUpIdeal.Gen.facts, Cert.KernelAdamUpB.Gen.facts, Cert.KernelAdamUpBIdeal.Gen.facts, Cert.ReferenceAdamUpBIdeal.Gen.facts, Cert.KernelAdamDown.Gen.facts, Cert.KernelAdamDownIdeal.Gen.facts, Cert.ReferenceAdamDownIdeal.Gen.facts, Cert.KernelAdamDownB.Gen.facts, Cert.KernelAdamDownBIdeal.Gen.facts, Cert.ReferenceAdamDownBIdeal.Gen.facts, Cert.KernelAdamIn.Gen.facts, Cert.KernelAdamInIdeal.Gen.facts, Cert.ReferenceAdamInIdeal.Gen.facts, Cert.KernelAdamO.Gen.facts, Cert.KernelAdamOIdeal.Gen.facts, Cert.ReferenceAdamOIdeal.Gen.facts, Cert.KernelAdamUq.Gen.facts, Cert.KernelAdamUqIdeal.Gen.facts, Cert.ReferenceAdamUqIdeal.Gen.facts, Cert.KernelAdamUkv.Gen.facts, Cert.KernelAdamUkvIdeal.Gen.facts, Cert.ReferenceAdamUkvIdeal.Gen.facts, Cert.KernelAdamOut.Gen.facts, Cert.KernelAdamOutIdeal.Gen.facts, Cert.ReferenceAdamOutIdeal.Gen.facts, Cert.KernelAdamSmall.Gen.facts, Cert.KernelAdamSmallIdeal.Gen.facts, Cert.ReferenceAdamSmallIdeal.Gen.facts, Cert.KernelLoss.Gen.facts, Cert.KernelLossIdeal.Gen.facts, Cert.ReferenceLossIdeal.Gen.facts, Cert.KernelNorm.Gen.facts, Cert.KernelNormIdeal.Gen.facts, Cert.ReferenceNormIdeal.Gen.facts, Cert.KernelDnorm.Gen.facts, Cert.KernelDnormIdeal.Gen.facts, Cert.ReferenceDnormIdeal.Gen.facts, Cert.KernelBranch.Gen.facts, Cert.KernelBranchIdeal.Gen.facts, Cert.ReferenceBranchIdeal.Gen.facts, Cert.KernelBranchBias.Gen.facts, Cert.KernelBranchBiasIdeal.Gen.facts, Cert.ReferenceBranchBiasIdeal.Gen.facts, Cert.KernelDbranchW.Gen.facts, Cert.KernelDbranchWIdeal.Gen.facts, Cert.ReferenceDbranchWIdeal.Gen.facts, Cert.KernelDbranch.Gen.facts, Cert.KernelDbranchIdeal.Gen.facts, Cert.ReferenceDbranchIdeal.Gen.facts, pre_facts,
  kernel_frame, fun m g _ => safe_frame m g, fun m g _ => safe_frame m g,
  fun m g _ => reference_frame m g, fun m g _ => reference_frame m g,
  Cert.Ffn.Dgu.kernel_frame, Cert.Ffn.Dgu.ideal_frame, Cert.Ffn.Dgu.reference_frame,
  Cert.Ffn.Dx.kernel_frame, Cert.Ffn.Dx.ideal_frame, Cert.Ffn.Dx.reference_frame,
  Cert.Ffn.Dw1.kernel_frame, Cert.Ffn.Dw1.ideal_frame, Cert.Ffn.Dw1.reference_frame,
  Cert.Ffn.Dw2.kernel_frame, Cert.Ffn.Dw2.ideal_frame, Cert.Ffn.Dw2.reference_frame,
  Cert.Ffn.Up.kernel_frame, Cert.Ffn.Up.ideal_frame, Cert.Ffn.Up.reference_frame,
  Cert.Ffn.Down.kernel_frame, Cert.Ffn.Down.ideal_frame, Cert.Ffn.Down.reference_frame,
  Cert.Ffn.DguRow.kernel_frame, Cert.Ffn.DguRow.ideal_frame, Cert.Ffn.DguRow.reference_frame,
  Cert.Ffn.DxRow.kernel_frame, Cert.Ffn.DxRow.ideal_frame, Cert.Ffn.DxRow.reference_frame,
  Cert.Ffn.Dw1Row.kernel_frame, Cert.Ffn.Dw1Row.ideal_frame, Cert.Ffn.Dw1Row.reference_frame,
  Cert.Ffn.Dw2Row.kernel_frame, Cert.Ffn.Dw2Row.ideal_frame, Cert.Ffn.Dw2Row.reference_frame,
  Cert.Ffn.ProjA.kernel_frame, Cert.Ffn.ProjA.ideal_frame, Cert.Ffn.ProjA.reference_frame,
  Cert.Ffn.ProjB.kernel_frame, Cert.Ffn.ProjB.ideal_frame, Cert.Ffn.ProjB.reference_frame,
  Cert.Ffn.ProjG.kernel_frame, Cert.Ffn.ProjG.ideal_frame, Cert.Ffn.ProjG.reference_frame,
  Cert.Ffn.DwA.kernel_frame, Cert.Ffn.DwA.ideal_frame, Cert.Ffn.DwA.reference_frame,
  Cert.Ffn.DwB.kernel_frame, Cert.Ffn.DwB.ideal_frame, Cert.Ffn.DwB.reference_frame,
  Cert.Ffn.DwG.kernel_frame, Cert.Ffn.DwG.ideal_frame, Cert.Ffn.DwG.reference_frame,
  Cert.Ffn.DhA.kernel_frame, Cert.Ffn.DhA.ideal_frame, Cert.Ffn.DhA.reference_frame,
  Cert.Ffn.DhB.kernel_frame, Cert.Ffn.DhB.ideal_frame, Cert.Ffn.DhB.reference_frame,
  Cert.Ffn.DhC.kernel_frame, Cert.Ffn.DhC.ideal_frame, Cert.Ffn.DhC.reference_frame,
  Cert.Ffn.DhG.kernel_frame, Cert.Ffn.DhG.ideal_frame, Cert.Ffn.DhG.reference_frame,
  Cert.Ffn.MixOut.kernel_frame, Cert.Ffn.MixOut.ideal_frame, Cert.Ffn.MixOut.reference_frame,
  Cert.Ffn.Dmerged.kernel_frame, Cert.Ffn.Dmerged.ideal_frame, Cert.Ffn.Dmerged.reference_frame,
  Cert.Ffn.DwOut.kernel_frame, Cert.Ffn.DwOut.ideal_frame, Cert.Ffn.DwOut.reference_frame,
  Cert.Ffn.AdamUp.kernel_frame, Cert.Ffn.AdamUp.ideal_frame, Cert.Ffn.AdamUp.reference_frame,
  Cert.Ffn.AdamUpB.kernel_frame, Cert.Ffn.AdamUpB.ideal_frame, Cert.Ffn.AdamUpB.reference_frame,
  Cert.Ffn.AdamDown.kernel_frame, Cert.Ffn.AdamDown.ideal_frame, Cert.Ffn.AdamDown.reference_frame,
  Cert.Ffn.AdamDownB.kernel_frame, Cert.Ffn.AdamDownB.ideal_frame, Cert.Ffn.AdamDownB.reference_frame,
  Cert.Ffn.AdamIn.kernel_frame, Cert.Ffn.AdamIn.ideal_frame, Cert.Ffn.AdamIn.reference_frame,
  Cert.Ffn.AdamO.kernel_frame, Cert.Ffn.AdamO.ideal_frame, Cert.Ffn.AdamO.reference_frame,
  Cert.Ffn.AdamUq.kernel_frame, Cert.Ffn.AdamUq.ideal_frame, Cert.Ffn.AdamUq.reference_frame,
  Cert.Ffn.AdamUkv.kernel_frame, Cert.Ffn.AdamUkv.ideal_frame, Cert.Ffn.AdamUkv.reference_frame,
  Cert.Ffn.AdamOut.kernel_frame, Cert.Ffn.AdamOut.ideal_frame, Cert.Ffn.AdamOut.reference_frame,
  Cert.Ffn.AdamSmall.kernel_frame, Cert.Ffn.AdamSmall.ideal_frame, Cert.Ffn.AdamSmall.reference_frame,
  Cert.Ffn.Loss.kernel_frame, Cert.Ffn.Loss.ideal_frame, Cert.Ffn.Loss.reference_frame,
  Cert.Ffn.Norm.kernel_frame, Cert.Ffn.Norm.ideal_frame, Cert.Ffn.Norm.reference_frame,
  Cert.Ffn.Dnorm.kernel_frame, Cert.Ffn.Dnorm.ideal_frame, Cert.Ffn.Dnorm.reference_frame,
  Cert.Ffn.Branch.kernel_frame, Cert.Ffn.Branch.ideal_frame, Cert.Ffn.Branch.reference_frame,
  Cert.Ffn.BranchBias.kernel_frame, Cert.Ffn.BranchBias.ideal_frame, Cert.Ffn.BranchBias.reference_frame,
  Cert.Ffn.DbranchW.kernel_frame, Cert.Ffn.DbranchW.ideal_frame, Cert.Ffn.DbranchW.reference_frame,
  Cert.Ffn.Dbranch.kernel_frame, Cert.Ffn.Dbranch.ideal_frame, Cert.Ffn.Dbranch.reference_frame,
  trivial, values, trivial, Cert.Ffn.Dgu.values, trivial, Cert.Ffn.Dx.values, trivial, Cert.Ffn.Dw1.values, trivial, Cert.Ffn.Dw2.values, trivial, Cert.Ffn.Up.values, trivial, Cert.Ffn.Down.values, trivial, Cert.Ffn.DguRow.values, trivial, Cert.Ffn.DxRow.values, trivial, Cert.Ffn.Dw1Row.values, trivial, Cert.Ffn.Dw2Row.values, trivial, Cert.Ffn.ProjA.values, trivial, Cert.Ffn.ProjB.values, trivial, Cert.Ffn.ProjG.values, trivial, Cert.Ffn.DwA.values, trivial, Cert.Ffn.DwB.values, trivial, Cert.Ffn.DwG.values, trivial, Cert.Ffn.DhA.values, trivial, Cert.Ffn.DhB.values, trivial, Cert.Ffn.DhC.values, trivial, Cert.Ffn.DhG.values, trivial, Cert.Ffn.MixOut.values, trivial, Cert.Ffn.Dmerged.values, trivial, Cert.Ffn.DwOut.values, trivial, Cert.Ffn.AdamUp.values, trivial, Cert.Ffn.AdamUpB.values, trivial, Cert.Ffn.AdamDown.values, trivial, Cert.Ffn.AdamDownB.values, trivial, Cert.Ffn.AdamIn.values, trivial, Cert.Ffn.AdamO.values, trivial, Cert.Ffn.AdamUq.values, trivial, Cert.Ffn.AdamUkv.values, trivial, Cert.Ffn.AdamOut.values, trivial, Cert.Ffn.AdamSmall.values, trivial, Cert.Ffn.Loss.values, trivial, Cert.Ffn.Norm.values, trivial, Cert.Ffn.Dnorm.values, trivial, Cert.Ffn.Branch.values, trivial, Cert.Ffn.BranchBias.values, trivial, Cert.Ffn.DbranchW.values, trivial, Cert.Ffn.Dbranch.values⟩

end Cert.Proof

end
